-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_queries_and_keys_finite [hPre_queries_and_keys_finite : Cert.Pre_queries_and_keys_finite.Facts] (m : (ℓ : Loc Cert.AttnIdeal.nD Cert.AttnIdeal.τ Cert.AttnIdeal.sig) → Buf (Elt Ideal) ℓ) : Prop :=
  ∀ c : Dev Cert.AttnIdeal.nD,
    (Cert.Pre_queries_and_keys_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).1 = (fun _ => 1#1)
    ∧ (Cert.Pre_queries_and_keys_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_queries_and_keys_finite [hPre_queries_and_keys_finite : Cert.Pre_queries_and_keys_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_queries_and_keys_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_queries_and_keys_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2 = (fun _ => 1#1)

def Pre_Fdn (m : (ℓ : Loc Cert.Fdn.nD Cert.Fdn.τ Cert.Fdn.sig) → Buf (Elt Bits) ℓ) : Prop :=
  True

def Pre_FdnIdeal (m : (ℓ : Loc Cert.FdnIdeal.nD Cert.FdnIdeal.τ Cert.FdnIdeal.sig) → Buf (Elt Ideal) ℓ) : Prop :=
  True

def Pre_FdnRefIdeal (m : (ℓ : Loc Cert.FdnRefIdeal.nD Cert.FdnRefIdeal.τ Cert.FdnRefIdeal.sig) → Buf (Elt Ideal) ℓ) : Prop :=
  True

def Pre_Fdwup (m : (ℓ : Loc Cert.Fdwup.nD Cert.Fdwup.τ Cert.Fdwup.sig) → Buf (Elt Bits) ℓ) : Prop :=
  True

def Pre_FdwupIdeal (m : (ℓ : Loc Cert.FdwupIdeal.nD Cert.FdwupIdeal.τ Cert.FdwupIdeal.sig) → Buf (Elt Ideal) ℓ) : Prop :=
  True

def Pre_FdwupRefIdeal (m : (ℓ : Loc Cert.FdwupRefIdeal.nD Cert.FdwupRefIdeal.τ Cert.FdwupRefIdeal.sig) → Buf (Elt Ideal) ℓ) : Prop :=
  True

def Pre_Fdact (m : (ℓ : Loc Cert.Fdact.nD Cert.Fdact.τ Cert.Fdact.sig) → Buf (Elt Bits) ℓ) : Prop :=
  True

def Pre_FdactIdeal (m : (ℓ : Loc Cert.FdactIdeal.nD Cert.FdactIdeal.τ Cert.FdactIdeal.sig) → Buf (Elt Ideal) ℓ) : Prop :=
  True

def Pre_FdactRefIdeal (m : (ℓ : Loc Cert.FdactRefIdeal.nD Cert.FdactRefIdeal.τ Cert.FdactRefIdeal.sig) → Buf (Elt Ideal) ℓ) : Prop :=
  True

def Pre_Fdwdown (m : (ℓ : Loc Cert.Fdwdown.nD Cert.Fdwdown.τ Cert.Fdwdown.sig) → Buf (Elt Bits) ℓ) : Prop :=
  True

def Pre_FdwdownIdeal (m : (ℓ : Loc Cert.FdwdownIdeal.nD Cert.FdwdownIdeal.τ Cert.FdwdownIdeal.sig) → Buf (Elt Ideal) ℓ) : Prop :=
  True

def Pre_FdwdownRefIdeal (m : (ℓ : Loc Cert.FdwdownRefIdeal.nD Cert.FdwdownRefIdeal.τ Cert.FdwdownRefIdeal.sig) → Buf (Elt Ideal) ℓ) : Prop :=
  True

def Pre_Fup (m : (ℓ : Loc Cert.Fup.nD Cert.Fup.τ Cert.Fup.sig) → Buf (Elt Bits) ℓ) : Prop :=
  True

def Pre_FupIdeal (m : (ℓ : Loc Cert.FupIdeal.nD Cert.FupIdeal.τ Cert.FupIdeal.sig) → Buf (Elt Ideal) ℓ) : Prop :=
  True

def Pre_FupRefIdeal (m : (ℓ : Loc Cert.FupRefIdeal.nD Cert.FupRefIdeal.τ Cert.FupRefIdeal.sig) → Buf (Elt Ideal) ℓ) : Prop :=
  True

def Pre_Fdown (m : (ℓ : Loc Cert.Fdown.nD Cert.Fdown.τ Cert.Fdown.sig) → Buf (Elt Bits) ℓ) : Prop :=
  True

def Pre_FdownIdeal (m : (ℓ : Loc Cert.FdownIdeal.nD Cert.FdownIdeal.τ Cert.FdownIdeal.sig) → Buf (Elt Ideal) ℓ) : Prop :=
  True

def Pre_FdownRefIdeal (m : (ℓ : Loc Cert.FdownRefIdeal.nD Cert.FdownRefIdeal.τ Cert.FdownRefIdeal.sig) → Buf (Elt Ideal) ℓ) : Prop :=
  True

def Pre_Flast (m : (ℓ : Loc Cert.Flast.nD Cert.Flast.τ Cert.Flast.sig) → Buf (Elt Bits) ℓ) : Prop :=
  True

def Pre_FlastIdeal (m : (ℓ : Loc Cert.FlastIdeal.nD Cert.FlastIdeal.τ Cert.FlastIdeal.sig) → Buf (Elt Ideal) ℓ) : Prop :=
  True

def Pre_FlastRefIdeal (m : (ℓ : Loc Cert.FlastRefIdeal.nD Cert.FlastRefIdeal.τ Cert.FlastRefIdeal.sig) → Buf (Elt Ideal) ℓ) : Prop :=
  True

def Pre_Sdy (m : (ℓ : Loc Cert.Sdy.nD Cert.Sdy.τ Cert.Sdy.sig) → Buf (Elt Bits) ℓ) : Prop :=
  True

def Pre_SdyIdeal (m : (ℓ : Loc Cert.SdyIdeal.nD Cert.SdyIdeal.τ Cert.SdyIdeal.sig) → Buf (Elt Ideal) ℓ) : Prop :=
  True

def Pre_SdyRefIdeal (m : (ℓ : Loc Cert.SdyRefIdeal.nD Cert.SdyRefIdeal.τ Cert.SdyRefIdeal.sig) → Buf (Elt Ideal) ℓ) : Prop :=
  True

def Pre_Sdw (m : (ℓ : Loc Cert.Sdw.nD Cert.Sdw.τ Cert.Sdw.sig) → Buf (Elt Bits) ℓ) : Prop :=
  True

def Pre_SdwIdeal (m : (ℓ : Loc Cert.SdwIdeal.nD Cert.SdwIdeal.τ Cert.SdwIdeal.sig) → Buf (Elt Ideal) ℓ) : Prop :=
  True

def Pre_SdwRefIdeal (m : (ℓ : Loc Cert.SdwRefIdeal.nD Cert.SdwRefIdeal.τ Cert.SdwRefIdeal.sig) → Buf (Elt Ideal) ℓ) : Prop :=
  True

def Pre_Sq (m : (ℓ : Loc Cert.Sq.nD Cert.Sq.τ Cert.Sq.sig) → Buf (Elt Bits) ℓ) : Prop :=
  True

def Pre_SqIdeal (m : (ℓ : Loc Cert.SqIdeal.nD Cert.SqIdeal.τ Cert.SqIdeal.sig) → Buf (Elt Ideal) ℓ) : Prop :=
  True

def Pre_SqRefIdeal (m : (ℓ : Loc Cert.SqRefIdeal.nD Cert.SqRefIdeal.τ Cert.SqRefIdeal.sig) → Buf (Elt Ideal) ℓ) : Prop :=
  True

def Pre_So (m : (ℓ : Loc Cert.So.nD Cert.So.τ Cert.So.sig) → Buf (Elt Bits) ℓ) : Prop :=
  True

def Pre_SoIdeal (m : (ℓ : Loc Cert.SoIdeal.nD Cert.SoIdeal.τ Cert.SoIdeal.sig) → Buf (Elt Ideal) ℓ) : Prop :=
  True

def Pre_SoRefIdeal (m : (ℓ : Loc Cert.SoRefIdeal.nD Cert.SoRefIdeal.τ Cert.SoRefIdeal.sig) → Buf (Elt Ideal) ℓ) : Prop :=
  True

def Pre_Tdy (m : (ℓ : Loc Cert.Tdy.nD Cert.Tdy.τ Cert.Tdy.sig) → Buf (Elt Bits) ℓ) : Prop :=
  True

def Pre_TdyIdeal (m : (ℓ : Loc Cert.TdyIdeal.nD Cert.TdyIdeal.τ Cert.TdyIdeal.sig) → Buf (Elt Ideal) ℓ) : Prop :=
  True

def Pre_TdyRefIdeal (m : (ℓ : Loc Cert.TdyRefIdeal.nD Cert.TdyRefIdeal.τ Cert.TdyRefIdeal.sig) → Buf (Elt Ideal) ℓ) : Prop :=
  True

def Pre_Tdw (m : (ℓ : Loc Cert.Tdw.nD Cert.Tdw.τ Cert.Tdw.sig) → Buf (Elt Bits) ℓ) : Prop :=
  True

def Pre_TdwIdeal (m : (ℓ : Loc Cert.TdwIdeal.nD Cert.TdwIdeal.τ Cert.TdwIdeal.sig) → Buf (Elt Ideal) ℓ) : Prop :=
  True

def Pre_TdwRefIdeal (m : (ℓ : Loc Cert.TdwRefIdeal.nD Cert.TdwRefIdeal.τ Cert.TdwRefIdeal.sig) → Buf (Elt Ideal) ℓ) : Prop :=
  True

def Pre_To (m : (ℓ : Loc Cert.To.nD Cert.To.τ Cert.To.sig) → Buf (Elt Bits) ℓ) : Prop :=
  True

def Pre_ToIdeal (m : (ℓ : Loc Cert.ToIdeal.nD Cert.ToIdeal.τ Cert.ToIdeal.sig) → Buf (Elt Ideal) ℓ) : Prop :=
  True

def Pre_ToRefIdeal (m : (ℓ : Loc Cert.ToRefIdeal.nD Cert.ToRefIdeal.τ Cert.ToRefIdeal.sig) → Buf (Elt Ideal) ℓ) : Prop :=
  True

def Pre_Tin (m : (ℓ : Loc Cert.Tin.nD Cert.Tin.τ Cert.Tin.sig) → Buf (Elt Bits) ℓ) : Prop :=
  True

def Pre_TinIdeal (m : (ℓ : Loc Cert.TinIdeal.nD Cert.TinIdeal.τ Cert.TinIdeal.sig) → Buf (Elt Ideal) ℓ) : Prop :=
  True

def Pre_TinRefIdeal (m : (ℓ : Loc Cert.TinRefIdeal.nD Cert.TinRefIdeal.τ Cert.TinRefIdeal.sig) → Buf (Elt Ideal) ℓ) : Prop :=
  True

def Pre_Cup (m : (ℓ : Loc Cert.Cup.nD Cert.Cup.τ Cert.Cup.sig) → Buf (Elt Bits) ℓ) : Prop :=
  True

def Pre_CupIdeal (m : (ℓ : Loc Cert.CupIdeal.nD Cert.CupIdeal.τ Cert.CupIdeal.sig) → Buf (Elt Ideal) ℓ) : Prop :=
  True

def Pre_CupRefIdeal (m : (ℓ : Loc Cert.CupRefIdeal.nD Cert.CupRefIdeal.τ Cert.CupRefIdeal.sig) → Buf (Elt Ideal) ℓ) : Prop :=
  True

def Pre_Cdw (m : (ℓ : Loc Cert.Cdw.nD Cert.Cdw.τ Cert.Cdw.sig) → Buf (Elt Bits) ℓ) : Prop :=
  True

def Pre_CdwIdeal (m : (ℓ : Loc Cert.CdwIdeal.nD Cert.CdwIdeal.τ Cert.CdwIdeal.sig) → Buf (Elt Ideal) ℓ) : Prop :=
  True

def Pre_CdwRefIdeal (m : (ℓ : Loc Cert.CdwRefIdeal.nD Cert.CdwRefIdeal.τ Cert.CdwRefIdeal.sig) → Buf (Elt Ideal) ℓ) : Prop :=
  True

def Pre_Cout (m : (ℓ : Loc Cert.Cout.nD Cert.Cout.τ Cert.Cout.sig) → Buf (Elt Bits) ℓ) : Prop :=
  True

def Pre_CoutIdeal (m : (ℓ : Loc Cert.CoutIdeal.nD Cert.CoutIdeal.τ Cert.CoutIdeal.sig) → Buf (Elt Ideal) ℓ) : Prop :=
  True

def Pre_CoutRefIdeal (m : (ℓ : Loc Cert.CoutRefIdeal.nD Cert.CoutRefIdeal.τ Cert.CoutRefIdeal.sig) → Buf (Elt Ideal) ℓ) : Prop :=
  True

def Pre_Sdn (m : (ℓ : Loc Cert.Sdn.nD Cert.Sdn.τ Cert.Sdn.sig) → Buf (Elt Bits) ℓ) : Prop :=
  True

def Pre_SdnIdeal (m : (ℓ : Loc Cert.SdnIdeal.nD Cert.SdnIdeal.τ Cert.SdnIdeal.sig) → Buf (Elt Ideal) ℓ) : Prop :=
  True

def Pre_SdnRefIdeal (m : (ℓ : Loc Cert.SdnRefIdeal.nD Cert.SdnRefIdeal.τ Cert.SdnRefIdeal.sig) → Buf (Elt Ideal) ℓ) : Prop :=
  True

def Pre_Cdn (m : (ℓ : Loc Cert.Cdn.nD Cert.Cdn.τ Cert.Cdn.sig) → Buf (Elt Bits) ℓ) : Prop :=
  True

def Pre_CdnIdeal (m : (ℓ : Loc Cert.CdnIdeal.nD Cert.CdnIdeal.τ Cert.CdnIdeal.sig) → Buf (Elt Ideal) ℓ) : Prop :=
  True

def Pre_CdnRefIdeal (m : (ℓ : Loc Cert.CdnRefIdeal.nD Cert.CdnRefIdeal.τ Cert.CdnRefIdeal.sig) → Buf (Elt Ideal) ℓ) : Prop :=
  True

def Pre_Tdn (m : (ℓ : Loc Cert.Tdn.nD Cert.Tdn.τ Cert.Tdn.sig) → Buf (Elt Bits) ℓ) : Prop :=
  True

def Pre_TdnIdeal (m : (ℓ : Loc Cert.TdnIdeal.nD Cert.TdnIdeal.τ Cert.TdnIdeal.sig) → Buf (Elt Ideal) ℓ) : Prop :=
  True

def Pre_TdnRefIdeal (m : (ℓ : Loc Cert.TdnRefIdeal.nD Cert.TdnRefIdeal.τ Cert.TdnRefIdeal.sig) → Buf (Elt Ideal) ℓ) : Prop :=
  True

def Pre_Afw (m : (ℓ : Loc Cert.Afw.nD Cert.Afw.τ Cert.Afw.sig) → Buf (Elt Bits) ℓ) : Prop :=
  True

def Pre_AfwIdeal (m : (ℓ : Loc Cert.AfwIdeal.nD Cert.AfwIdeal.τ Cert.AfwIdeal.sig) → Buf (Elt Ideal) ℓ) : Prop :=
  True

def Pre_AfwRefIdeal (m : (ℓ : Loc Cert.AfwRefIdeal.nD Cert.AfwRefIdeal.τ Cert.AfwRefIdeal.sig) → Buf (Elt Ideal) ℓ) : Prop :=
  True

def Pre_Tdp (m : (ℓ : Loc Cert.Tdp.nD Cert.Tdp.τ Cert.Tdp.sig) → Buf (Elt Bits) ℓ) : Prop :=
  True

def Pre_TdpIdeal (m : (ℓ : Loc Cert.TdpIdeal.nD Cert.TdpIdeal.τ Cert.TdpIdeal.sig) → Buf (Elt Ideal) ℓ) : Prop :=
  True

def Pre_TdpRefIdeal (m : (ℓ : Loc Cert.TdpRefIdeal.nD Cert.TdpRefIdeal.τ Cert.TdpRefIdeal.sig) → Buf (Elt Ideal) ℓ) : Prop :=
  True

def Pre_Mk (m : (ℓ : Loc Cert.Mk.nD Cert.Mk.τ Cert.Mk.sig) → Buf (Elt Bits) ℓ) : Prop :=
  True

def Pre_MkIdeal (m : (ℓ : Loc Cert.MkIdeal.nD Cert.MkIdeal.τ Cert.MkIdeal.sig) → Buf (Elt Ideal) ℓ) : Prop :=
  True

def Pre_MkRefIdeal (m : (ℓ : Loc Cert.MkRefIdeal.nD Cert.MkRefIdeal.τ Cert.MkRefIdeal.sig) → Buf (Elt Ideal) ℓ) : Prop :=
  True

def Pre_Mdw (m : (ℓ : Loc Cert.Mdw.nD Cert.Mdw.τ Cert.Mdw.sig) → Buf (Elt Bits) ℓ) : Prop :=
  True

def Pre_MdwIdeal (m : (ℓ : Loc Cert.MdwIdeal.nD Cert.MdwIdeal.τ Cert.MdwIdeal.sig) → Buf (Elt Ideal) ℓ) : Prop :=
  True

def Pre_MdwRefIdeal (m : (ℓ : Loc Cert.MdwRefIdeal.nD Cert.MdwRefIdeal.τ Cert.MdwRefIdeal.sig) → Buf (Elt Ideal) ℓ) : Prop :=
  True

def Pre_Mdk (m : (ℓ : Loc Cert.Mdk.nD Cert.Mdk.τ Cert.Mdk.sig) → Buf (Elt Bits) ℓ) : Prop :=
  True

def Pre_MdkIdeal (m : (ℓ : Loc Cert.MdkIdeal.nD Cert.MdkIdeal.τ Cert.MdkIdeal.sig) → Buf (Elt Ideal) ℓ) : Prop :=
  True

def Pre_MdkRefIdeal (m : (ℓ : Loc Cert.MdkRefIdeal.nD Cert.MdkRefIdeal.τ Cert.MdkRefIdeal.sig) → Buf (Elt Ideal) ℓ) : Prop :=
  True

def Pre_Mdv (m : (ℓ : Loc Cert.Mdv.nD Cert.Mdv.τ Cert.Mdv.sig) → Buf (Elt Bits) ℓ) : Prop :=
  True

def Pre_MdvIdeal (m : (ℓ : Loc Cert.MdvIdeal.nD Cert.MdvIdeal.τ Cert.MdvIdeal.sig) → Buf (Elt Ideal) ℓ) : Prop :=
  True

def Pre_MdvRefIdeal (m : (ℓ : Loc Cert.MdvRefIdeal.nD Cert.MdvRefIdeal.τ Cert.MdvRefIdeal.sig) → Buf (Elt Ideal) ℓ) : Prop :=
  True

def Pre_Nx (m : (ℓ : Loc Cert.Nx.nD Cert.Nx.τ Cert.Nx.sig) → Buf (Elt Bits) ℓ) : Prop :=
  True

def Pre_NxIdeal (m : (ℓ : Loc Cert.NxIdeal.nD Cert.NxIdeal.τ Cert.NxIdeal.sig) → Buf (Elt Ideal) ℓ) : Prop :=
  True

def Pre_NxRefIdeal (m : (ℓ : Loc Cert.NxRefIdeal.nD Cert.NxRefIdeal.τ Cert.NxRefIdeal.sig) → Buf (Elt Ideal) ℓ) : Prop :=
  True

def Pre_Nm (m : (ℓ : Loc Cert.Nm.nD Cert.Nm.τ Cert.Nm.sig) → Buf (Elt Bits) ℓ) : Prop :=
  True

def Pre_NmIdeal (m : (ℓ : Loc Cert.NmIdeal.nD Cert.NmIdeal.τ Cert.NmIdeal.sig) → Buf (Elt Ideal) ℓ) : Prop :=
  True

def Pre_NmRefIdeal (m : (ℓ : Loc Cert.NmRefIdeal.nD Cert.NmRefIdeal.τ Cert.NmRefIdeal.sig) → Buf (Elt Ideal) ℓ) : Prop :=
  True

def Pre_Nb (m : (ℓ : Loc Cert.Nb.nD Cert.Nb.τ Cert.Nb.sig) → Buf (Elt Bits) ℓ) : Prop :=
  True

def Pre_NbIdeal (m : (ℓ : Loc Cert.NbIdeal.nD Cert.NbIdeal.τ Cert.NbIdeal.sig) → Buf (Elt Ideal) ℓ) : Prop :=
  True

def Pre_NbRefIdeal (m : (ℓ : Loc Cert.NbRefIdeal.nD Cert.NbRefIdeal.τ Cert.NbRefIdeal.sig) → Buf (Elt Ideal) ℓ) : Prop :=
  True

def Pre_Ls (m : (ℓ : Loc Cert.Ls.nD Cert.Ls.τ Cert.Ls.sig) → Buf (Elt Bits) ℓ) : Prop :=
  True

def Pre_LsIdeal (m : (ℓ : Loc Cert.LsIdeal.nD Cert.LsIdeal.τ Cert.LsIdeal.sig) → Buf (Elt Ideal) ℓ) : Prop :=
  True

def Pre_LsRefIdeal (m : (ℓ : Loc Cert.LsRefIdeal.nD Cert.LsRefIdeal.τ Cert.LsRefIdeal.sig) → Buf (Elt Ideal) ℓ) : Prop :=
  True

def Pre_Lh (m : (ℓ : Loc Cert.Lh.nD Cert.Lh.τ Cert.Lh.sig) → Buf (Elt Bits) ℓ) : Prop :=
  True

def Pre_LhIdeal (m : (ℓ : Loc Cert.LhIdeal.nD Cert.LhIdeal.τ Cert.LhIdeal.sig) → Buf (Elt Ideal) ℓ) : Prop :=
  True

def Pre_LhRefIdeal (m : (ℓ : Loc Cert.LhRefIdeal.nD Cert.LhRefIdeal.τ Cert.LhRefIdeal.sig) → Buf (Elt Ideal) ℓ) : Prop :=
  True

def Pre_Lb (m : (ℓ : Loc Cert.Lb.nD Cert.Lb.τ Cert.Lb.sig) → Buf (Elt Bits) ℓ) : Prop :=
  True

def Pre_LbIdeal (m : (ℓ : Loc Cert.LbIdeal.nD Cert.LbIdeal.τ Cert.LbIdeal.sig) → Buf (Elt Ideal) ℓ) : Prop :=
  True

def Pre_LbIdeal_gradient_and_gain_finite [hPre_gradient_and_gain_finite : Cert.Pre_gradient_and_gain_finite.Facts] (m : (ℓ : Loc Cert.LbIdeal.nD Cert.LbIdeal.τ Cert.LbIdeal.sig) → Buf (Elt Ideal) ℓ) : Prop :=
  ∀ c : Dev Cert.LbIdeal.nD,
    (Cert.Pre_gradient_and_gain_finite.fn (F := Ideal) (m ((c.tc : Thread Cert.LbIdeal.nD Cert.LbIdeal.τ).loc Cert.LbIdeal.main_arg0)) (m ((c.tc : Thread Cert.LbIdeal.nD Cert.LbIdeal.τ).loc Cert.LbIdeal.main_arg1)) (m ((c.tc : Thread Cert.LbIdeal.nD Cert.LbIdeal.τ).loc Cert.LbIdeal.main_arg2)) (m ((c.tc : Thread Cert.LbIdeal.nD Cert.LbIdeal.τ).loc Cert.LbIdeal.main_arg3)) (m ((c.tc : Thread Cert.LbIdeal.nD Cert.LbIdeal.τ).loc Cert.LbIdeal.main_arg4))).1 = (fun _ => 1#1)
    ∧ (Cert.Pre_gradient_and_gain_finite.fn (F := Ideal) (m ((c.tc : Thread Cert.LbIdeal.nD Cert.LbIdeal.τ).loc Cert.LbIdeal.main_arg0)) (m ((c.tc : Thread Cert.LbIdeal.nD Cert.LbIdeal.τ).loc Cert.LbIdeal.main_arg1)) (m ((c.tc : Thread Cert.LbIdeal.nD Cert.LbIdeal.τ).loc Cert.LbIdeal.main_arg2)) (m ((c.tc : Thread Cert.LbIdeal.nD Cert.LbIdeal.τ).loc Cert.LbIdeal.main_arg3)) (m ((c.tc : Thread Cert.LbIdeal.nD Cert.LbIdeal.τ).loc Cert.LbIdeal.main_arg4))).2 = (fun _ => 1#1)

def Pre_LbRefIdeal (m : (ℓ : Loc Cert.LbRefIdeal.nD Cert.LbRefIdeal.τ Cert.LbRefIdeal.sig) → Buf (Elt Ideal) ℓ) : Prop :=
  True

def Pre_LbRefIdeal_gradient_and_gain_finite [hPre_gradient_and_gain_finite : Cert.Pre_gradient_and_gain_finite.Facts] (m : (ℓ : Loc Cert.LbRefIdeal.nD Cert.LbRefIdeal.τ Cert.LbRefIdeal.sig) → Buf (Elt Ideal) ℓ) : Prop :=
  ∀ c : Dev Cert.LbRefIdeal.nD,
    (Cert.Pre_gradient_and_gain_finite.fn (F := Ideal) (m ((c.tc : Thread Cert.LbRefIdeal.nD Cert.LbRefIdeal.τ).loc Cert.LbRefIdeal.main_arg0)) (m ((c.tc : Thread Cert.LbRefIdeal.nD Cert.LbRefIdeal.τ).loc Cert.LbRefIdeal.main_arg1)) (m ((c.tc : Thread Cert.LbRefIdeal.nD Cert.LbRefIdeal.τ).loc Cert.LbRefIdeal.main_arg2)) (m ((c.tc : Thread Cert.LbRefIdeal.nD Cert.LbRefIdeal.τ).loc Cert.LbRefIdeal.main_arg3)) (m ((c.tc : Thread Cert.LbRefIdeal.nD Cert.LbRefIdeal.τ).loc Cert.LbRefIdeal.main_arg4))).1 = (fun _ => 1#1)
    ∧ (Cert.Pre_gradient_and_gain_finite.fn (F := Ideal) (m ((c.tc : Thread Cert.LbRefIdeal.nD Cert.LbRefIdeal.τ).loc Cert.LbRefIdeal.main_arg0)) (m ((c.tc : Thread Cert.LbRefIdeal.nD Cert.LbRefIdeal.τ).loc Cert.LbRefIdeal.main_arg1)) (m ((c.tc : Thread Cert.LbRefIdeal.nD Cert.LbRefIdeal.τ).loc Cert.LbRefIdeal.main_arg2)) (m ((c.tc : Thread Cert.LbRefIdeal.nD Cert.LbRefIdeal.τ).loc Cert.LbRefIdeal.main_arg3)) (m ((c.tc : Thread Cert.LbRefIdeal.nD Cert.LbRefIdeal.τ).loc Cert.LbRefIdeal.main_arg4))).2 = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_queries_and_keys_finite [hAttnIdeal : Cert.AttnIdeal.Facts] [hPre_queries_and_keys_finite : Cert.Pre_queries_and_keys_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_queries_and_keys_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_queries_and_keys_finite [hAttnRefIdeal : Cert.AttnRefIdeal.Facts] [hPre_queries_and_keys_finite : Cert.Pre_queries_and_keys_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_queries_and_keys_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Fdn [hFdn : Cert.Fdn.Facts] : Prop :=
  ∀ (m : (ℓ : Loc Cert.Fdn.nD Cert.Fdn.τ Cert.Fdn.sig) → Buf (Elt Bits) ℓ) (g : Dev Cert.Fdn.nD → PrngReg), Pre_Fdn m →
    θ_run (Cert.Fdn.defs (F := Bits)) (onTc (τ := Cert.Fdn.τ) (Cert.Fdn.main (F := Bits))) ⟨m, fun _ => 0, g⟩ (fun r => (∀ c : Dev Cert.Fdn.nD,
      r.2.mem ((c.tc : Thread Cert.Fdn.nD Cert.Fdn.τ).loc Cert.Fdn.main_arg0) = m ((c.tc : Thread Cert.Fdn.nD Cert.Fdn.τ).loc Cert.Fdn.main_arg0)
      ∧ r.2.mem ((c.tc : Thread Cert.Fdn.nD Cert.Fdn.τ).loc Cert.Fdn.main_arg1) = m ((c.tc : Thread Cert.Fdn.nD Cert.Fdn.τ).loc Cert.Fdn.main_arg1)
      ∧ r.2.mem ((c.tc : Thread Cert.Fdn.nD Cert.Fdn.τ).loc Cert.Fdn.main_arg2) = m ((c.tc : Thread Cert.Fdn.nD Cert.Fdn.τ).loc Cert.Fdn.main_arg2)
      ∧ r.2.mem ((c.tc : Thread Cert.Fdn.nD Cert.Fdn.τ).loc Cert.Fdn.main_arg3) = m ((c.tc : Thread Cert.Fdn.nD Cert.Fdn.τ).loc Cert.Fdn.main_arg3)
      ∧ r.2.mem ((c.tc : Thread Cert.Fdn.nD Cert.Fdn.τ).loc Cert.Fdn.main_arg4) = m ((c.tc : Thread Cert.Fdn.nD Cert.Fdn.τ).loc Cert.Fdn.main_arg4))
      ∧ r.2.sem = fun _ => 0)

def quiescent_FdnIdeal [hFdnIdeal : Cert.FdnIdeal.Facts] : Prop :=
  ∀ (m : (ℓ : Loc Cert.FdnIdeal.nD Cert.FdnIdeal.τ Cert.FdnIdeal.sig) → Buf (Elt Ideal) ℓ) (g : Dev Cert.FdnIdeal.nD → PrngReg), Pre_FdnIdeal m →
    θ_run (Cert.FdnIdeal.defs (F := Ideal)) (onTc (τ := Cert.FdnIdeal.τ) (Cert.FdnIdeal.main (F := Ideal))) ⟨m, fun _ => 0, g⟩ (fun r => (∀ c : Dev Cert.FdnIdeal.nD,
      r.2.mem ((c.tc : Thread Cert.FdnIdeal.nD Cert.FdnIdeal.τ).loc Cert.FdnIdeal.main_arg0) = m ((c.tc : Thread Cert.FdnIdeal.nD Cert.FdnIdeal.τ).loc Cert.FdnIdeal.main_arg0)
      ∧ r.2.mem ((c.tc : Thread Cert.FdnIdeal.nD Cert.FdnIdeal.τ).loc Cert.FdnIdeal.main_arg1) = m ((c.tc : Thread Cert.FdnIdeal.nD Cert.FdnIdeal.τ).loc Cert.FdnIdeal.main_arg1)
      ∧ r.2.mem ((c.tc : Thread Cert.FdnIdeal.nD Cert.FdnIdeal.τ).loc Cert.FdnIdeal.main_arg2) = m ((c.tc : Thread Cert.FdnIdeal.nD Cert.FdnIdeal.τ).loc Cert.FdnIdeal.main_arg2)
      ∧ r.2.mem ((c.tc : Thread Cert.FdnIdeal.nD Cert.FdnIdeal.τ).loc Cert.FdnIdeal.main_arg3) = m ((c.tc : Thread Cert.FdnIdeal.nD Cert.FdnIdeal.τ).loc Cert.FdnIdeal.main_arg3)
      ∧ r.2.mem ((c.tc : Thread Cert.FdnIdeal.nD Cert.FdnIdeal.τ).loc Cert.FdnIdeal.main_arg4) = m ((c.tc : Thread Cert.FdnIdeal.nD Cert.FdnIdeal.τ).loc Cert.FdnIdeal.main_arg4))
      ∧ r.2.sem = fun _ => 0)

def quiescent_FdnRefIdeal [hFdnRefIdeal : Cert.FdnRefIdeal.Facts] : Prop :=
  ∀ (m : (ℓ : Loc Cert.FdnRefIdeal.nD Cert.FdnRefIdeal.τ Cert.FdnRefIdeal.sig) → Buf (Elt Ideal) ℓ) (g : Dev Cert.FdnRefIdeal.nD → PrngReg), Pre_FdnRefIdeal m →
    θ_run (Cert.FdnRefIdeal.defs (F := Ideal)) (onTc (τ := Cert.FdnRefIdeal.τ) (Cert.FdnRefIdeal.main (F := Ideal))) ⟨m, fun _ => 0, g⟩ (fun r => (∀ c : Dev Cert.FdnRefIdeal.nD,
      r.2.mem ((c.tc : Thread Cert.FdnRefIdeal.nD Cert.FdnRefIdeal.τ).loc Cert.FdnRefIdeal.main_arg0) = m ((c.tc : Thread Cert.FdnRefIdeal.nD Cert.FdnRefIdeal.τ).loc Cert.FdnRefIdeal.main_arg0)
      ∧ r.2.mem ((c.tc : Thread Cert.FdnRefIdeal.nD Cert.FdnRefIdeal.τ).loc Cert.FdnRefIdeal.main_arg1) = m ((c.tc : Thread Cert.FdnRefIdeal.nD Cert.FdnRefIdeal.τ).loc Cert.FdnRefIdeal.main_arg1)
      ∧ r.2.mem ((c.tc : Thread Cert.FdnRefIdeal.nD Cert.FdnRefIdeal.τ).loc Cert.FdnRefIdeal.main_arg2) = m ((c.tc : Thread Cert.FdnRefIdeal.nD Cert.FdnRefIdeal.τ).loc Cert.FdnRefIdeal.main_arg2)
      ∧ r.2.mem ((c.tc : Thread Cert.FdnRefIdeal.nD Cert.FdnRefIdeal.τ).loc Cert.FdnRefIdeal.main_arg3) = m ((c.tc : Thread Cert.FdnRefIdeal.nD Cert.FdnRefIdeal.τ).loc Cert.FdnRefIdeal.main_arg3)
      ∧ r.2.mem ((c.tc : Thread Cert.FdnRefIdeal.nD Cert.FdnRefIdeal.τ).loc Cert.FdnRefIdeal.main_arg4) = m ((c.tc : Thread Cert.FdnRefIdeal.nD Cert.FdnRefIdeal.τ).loc Cert.FdnRefIdeal.main_arg4))
      ∧ r.2.sem = fun _ => 0)

def quiescent_Fdwup [hFdwup : Cert.Fdwup.Facts] : Prop :=
  ∀ (m : (ℓ : Loc Cert.Fdwup.nD Cert.Fdwup.τ Cert.Fdwup.sig) → Buf (Elt Bits) ℓ) (g : Dev Cert.Fdwup.nD → PrngReg), Pre_Fdwup m →
    θ_run (Cert.Fdwup.defs (F := Bits)) (onTc (τ := Cert.Fdwup.τ) (Cert.Fdwup.main (F := Bits))) ⟨m, fun _ => 0, g⟩ (fun r => (∀ c : Dev Cert.Fdwup.nD,
      r.2.mem ((c.tc : Thread Cert.Fdwup.nD Cert.Fdwup.τ).loc Cert.Fdwup.main_arg0) = m ((c.tc : Thread Cert.Fdwup.nD Cert.Fdwup.τ).loc Cert.Fdwup.main_arg0)
      ∧ r.2.mem ((c.tc : Thread Cert.Fdwup.nD Cert.Fdwup.τ).loc Cert.Fdwup.main_arg1) = m ((c.tc : Thread Cert.Fdwup.nD Cert.Fdwup.τ).loc Cert.Fdwup.main_arg1))
      ∧ r.2.sem = fun _ => 0)

def quiescent_FdwupIdeal [hFdwupIdeal : Cert.FdwupIdeal.Facts] : Prop :=
  ∀ (m : (ℓ : Loc Cert.FdwupIdeal.nD Cert.FdwupIdeal.τ Cert.FdwupIdeal.sig) → Buf (Elt Ideal) ℓ) (g : Dev Cert.FdwupIdeal.nD → PrngReg), Pre_FdwupIdeal m →
    θ_run (Cert.FdwupIdeal.defs (F := Ideal)) (onTc (τ := Cert.FdwupIdeal.τ) (Cert.FdwupIdeal.main (F := Ideal))) ⟨m, fun _ => 0, g⟩ (fun r => (∀ c : Dev Cert.FdwupIdeal.nD,
      r.2.mem ((c.tc : Thread Cert.FdwupIdeal.nD Cert.FdwupIdeal.τ).loc Cert.FdwupIdeal.main_arg0) = m ((c.tc : Thread Cert.FdwupIdeal.nD Cert.FdwupIdeal.τ).loc Cert.FdwupIdeal.main_arg0)
      ∧ r.2.mem ((c.tc : Thread Cert.FdwupIdeal.nD Cert.FdwupIdeal.τ).loc Cert.FdwupIdeal.main_arg1) = m ((c.tc : Thread Cert.FdwupIdeal.nD Cert.FdwupIdeal.τ).loc Cert.FdwupIdeal.main_arg1))
      ∧ r.2.sem = fun _ => 0)

def quiescent_FdwupRefIdeal [hFdwupRefIdeal : Cert.FdwupRefIdeal.Facts] : Prop :=
  ∀ (m : (ℓ : Loc Cert.FdwupRefIdeal.nD Cert.FdwupRefIdeal.τ Cert.FdwupRefIdeal.sig) → Buf (Elt Ideal) ℓ) (g : Dev Cert.FdwupRefIdeal.nD → PrngReg), Pre_FdwupRefIdeal m →
    θ_run (Cert.FdwupRefIdeal.defs (F := Ideal)) (onTc (τ := Cert.FdwupRefIdeal.τ) (Cert.FdwupRefIdeal.main (F := Ideal))) ⟨m, fun _ => 0, g⟩ (fun r => (∀ c : Dev Cert.FdwupRefIdeal.nD,
      r.2.mem ((c.tc : Thread Cert.FdwupRefIdeal.nD Cert.FdwupRefIdeal.τ).loc Cert.FdwupRefIdeal.main_arg0) = m ((c.tc : Thread Cert.FdwupRefIdeal.nD Cert.FdwupRefIdeal.τ).loc Cert.FdwupRefIdeal.main_arg0)
      ∧ r.2.mem ((c.tc : Thread Cert.FdwupRefIdeal.nD Cert.FdwupRefIdeal.τ).loc Cert.FdwupRefIdeal.main_arg1) = m ((c.tc : Thread Cert.FdwupRefIdeal.nD Cert.FdwupRefIdeal.τ).loc Cert.FdwupRefIdeal.main_arg1))
      ∧ r.2.sem = fun _ => 0)

def quiescent_Fdact [hFdact : Cert.Fdact.Facts] : Prop :=
  ∀ (m : (ℓ : Loc Cert.Fdact.nD Cert.Fdact.τ Cert.Fdact.sig) → Buf (Elt Bits) ℓ) (g : Dev Cert.Fdact.nD → PrngReg), Pre_Fdact m →
    θ_run (Cert.Fdact.defs (F := Bits)) (onTc (τ := Cert.Fdact.τ) (Cert.Fdact.main (F := Bits))) ⟨m, fun _ => 0, g⟩ (fun r => (∀ c : Dev Cert.Fdact.nD,
      r.2.mem ((c.tc : Thread Cert.Fdact.nD Cert.Fdact.τ).loc Cert.Fdact.main_arg0) = m ((c.tc : Thread Cert.Fdact.nD Cert.Fdact.τ).loc Cert.Fdact.main_arg0)
      ∧ r.2.mem ((c.tc : Thread Cert.Fdact.nD Cert.Fdact.τ).loc Cert.Fdact.main_arg1) = m ((c.tc : Thread Cert.Fdact.nD Cert.Fdact.τ).loc Cert.Fdact.main_arg1))
      ∧ r.2.sem = fun _ => 0)

def quiescent_FdactIdeal [hFdactIdeal : Cert.FdactIdeal.Facts] : Prop :=
  ∀ (m : (ℓ : Loc Cert.FdactIdeal.nD Cert.FdactIdeal.τ Cert.FdactIdeal.sig) → Buf (Elt Ideal) ℓ) (g : Dev Cert.FdactIdeal.nD → PrngReg), Pre_FdactIdeal m →
    θ_run (Cert.FdactIdeal.defs (F := Ideal)) (onTc (τ := Cert.FdactIdeal.τ) (Cert.FdactIdeal.main (F := Ideal))) ⟨m, fun _ => 0, g⟩ (fun r => (∀ c : Dev Cert.FdactIdeal.nD,
      r.2.mem ((c.tc : Thread Cert.FdactIdeal.nD Cert.FdactIdeal.τ).loc Cert.FdactIdeal.main_arg0) = m ((c.tc : Thread Cert.FdactIdeal.nD Cert.FdactIdeal.τ).loc Cert.FdactIdeal.main_arg0)
      ∧ r.2.mem ((c.tc : Thread Cert.FdactIdeal.nD Cert.FdactIdeal.τ).loc Cert.FdactIdeal.main_arg1) = m ((c.tc : Thread Cert.FdactIdeal.nD Cert.FdactIdeal.τ).loc Cert.FdactIdeal.main_arg1))
      ∧ r.2.sem = fun _ => 0)

def quiescent_FdactRefIdeal [hFdactRefIdeal : Cert.FdactRefIdeal.Facts] : Prop :=
  ∀ (m : (ℓ : Loc Cert.FdactRefIdeal.nD Cert.FdactRefIdeal.τ Cert.FdactRefIdeal.sig) → Buf (Elt Ideal) ℓ) (g : Dev Cert.FdactRefIdeal.nD → PrngReg), Pre_FdactRefIdeal m →
    θ_run (Cert.FdactRefIdeal.defs (F := Ideal)) (onTc (τ := Cert.FdactRefIdeal.τ) (Cert.FdactRefIdeal.main (F := Ideal))) ⟨m, fun _ => 0, g⟩ (fun r => (∀ c : Dev Cert.FdactRefIdeal.nD,
      r.2.mem ((c.tc : Thread Cert.FdactRefIdeal.nD Cert.FdactRefIdeal.τ).loc Cert.FdactRefIdeal.main_arg0) = m ((c.tc : Thread Cert.FdactRefIdeal.nD Cert.FdactRefIdeal.τ).loc Cert.FdactRefIdeal.main_arg0)
      ∧ r.2.mem ((c.tc : Thread Cert.FdactRefIdeal.nD Cert.FdactRefIdeal.τ).loc Cert.FdactRefIdeal.main_arg1) = m ((c.tc : Thread Cert.FdactRefIdeal.nD Cert.FdactRefIdeal.τ).loc Cert.FdactRefIdeal.main_arg1))
      ∧ r.2.sem = fun _ => 0)

def quiescent_Fdwdown [hFdwdown : Cert.Fdwdown.Facts] : Prop :=
  ∀ (m : (ℓ : Loc Cert.Fdwdown.nD Cert.Fdwdown.τ Cert.Fdwdown.sig) → Buf (Elt Bits) ℓ) (g : Dev Cert.Fdwdown.nD → PrngReg), Pre_Fdwdown m →
    θ_run (Cert.Fdwdown.defs (F := Bits)) (onTc (τ := Cert.Fdwdown.τ) (Cert.Fdwdown.main (F := Bits))) ⟨m, fun _ => 0, g⟩ (fun r => (∀ c : Dev Cert.Fdwdown.nD,
      r.2.mem ((c.tc : Thread Cert.Fdwdown.nD Cert.Fdwdown.τ).loc Cert.Fdwdown.main_arg0) = m ((c.tc : Thread Cert.Fdwdown.nD Cert.Fdwdown.τ).loc Cert.Fdwdown.main_arg0)
      ∧ r.2.mem ((c.tc : Thread Cert.Fdwdown.nD Cert.Fdwdown.τ).loc Cert.Fdwdown.main_arg1) = m ((c.tc : Thread Cert.Fdwdown.nD Cert.Fdwdown.τ).loc Cert.Fdwdown.main_arg1))
      ∧ r.2.sem = fun _ => 0)

def quiescent_FdwdownIdeal [hFdwdownIdeal : Cert.FdwdownIdeal.Facts] : Prop :=
  ∀ (m : (ℓ : Loc Cert.FdwdownIdeal.nD Cert.FdwdownIdeal.τ Cert.FdwdownIdeal.sig) → Buf (Elt Ideal) ℓ) (g : Dev Cert.FdwdownIdeal.nD → PrngReg), Pre_FdwdownIdeal m →
    θ_run (Cert.FdwdownIdeal.defs (F := Ideal)) (onTc (τ := Cert.FdwdownIdeal.τ) (Cert.FdwdownIdeal.main (F := Ideal))) ⟨m, fun _ => 0, g⟩ (fun r => (∀ c : Dev Cert.FdwdownIdeal.nD,
      r.2.mem ((c.tc : Thread Cert.FdwdownIdeal.nD Cert.FdwdownIdeal.τ).loc Cert.FdwdownIdeal.main_arg0) = m ((c.tc : Thread Cert.FdwdownIdeal.nD Cert.FdwdownIdeal.τ).loc Cert.FdwdownIdeal.main_arg0)
      ∧ r.2.mem ((c.tc : Thread Cert.FdwdownIdeal.nD Cert.FdwdownIdeal.τ).loc Cert.FdwdownIdeal.main_arg1) = m ((c.tc : Thread Cert.FdwdownIdeal.nD Cert.FdwdownIdeal.τ).loc Cert.FdwdownIdeal.main_arg1))
      ∧ r.2.sem = fun _ => 0)

def quiescent_FdwdownRefIdeal [hFdwdownRefIdeal : Cert.FdwdownRefIdeal.Facts] : Prop :=
  ∀ (m : (ℓ : Loc Cert.FdwdownRefIdeal.nD Cert.FdwdownRefIdeal.τ Cert.FdwdownRefIdeal.sig) → Buf (Elt Ideal) ℓ) (g : Dev Cert.FdwdownRefIdeal.nD → PrngReg), Pre_FdwdownRefIdeal m →
    θ_run (Cert.FdwdownRefIdeal.defs (F := Ideal)) (onTc (τ := Cert.FdwdownRefIdeal.τ) (Cert.FdwdownRefIdeal.main (F := Ideal))) ⟨m, fun _ => 0, g⟩ (fun r => (∀ c : Dev Cert.FdwdownRefIdeal.nD,
      r.2.mem ((c.tc : Thread Cert.FdwdownRefIdeal.nD Cert.FdwdownRefIdeal.τ).loc Cert.FdwdownRefIdeal.main_arg0) = m ((c.tc : Thread Cert.FdwdownRefIdeal.nD Cert.FdwdownRefIdeal.τ).loc Cert.FdwdownRefIdeal.main_arg0)
      ∧ r.2.mem ((c.tc : Thread Cert.FdwdownRefIdeal.nD Cert.FdwdownRefIdeal.τ).loc Cert.FdwdownRefIdeal.main_arg1) = m ((c.tc : Thread Cert.FdwdownRefIdeal.nD Cert.FdwdownRefIdeal.τ).loc Cert.FdwdownRefIdeal.main_arg1))
      ∧ r.2.sem = fun _ => 0)

def quiescent_Fup [hFup : Cert.Fup.Facts] : Prop :=
  ∀ (m : (ℓ : Loc Cert.Fup.nD Cert.Fup.τ Cert.Fup.sig) → Buf (Elt Bits) ℓ) (g : Dev Cert.Fup.nD → PrngReg), Pre_Fup m →
    θ_run (Cert.Fup.defs (F := Bits)) (onTc (τ := Cert.Fup.τ) (Cert.Fup.main (F := Bits))) ⟨m, fun _ => 0, g⟩ (fun r => (∀ c : Dev Cert.Fup.nD,
      r.2.mem ((c.tc : Thread Cert.Fup.nD Cert.Fup.τ).loc Cert.Fup.main_arg0) = m ((c.tc : Thread Cert.Fup.nD Cert.Fup.τ).loc Cert.Fup.main_arg0)
      ∧ r.2.mem ((c.tc : Thread Cert.Fup.nD Cert.Fup.τ).loc Cert.Fup.main_arg1) = m ((c.tc : Thread Cert.Fup.nD Cert.Fup.τ).loc Cert.Fup.main_arg1))
      ∧ r.2.sem = fun _ => 0)

def quiescent_FupIdeal [hFupIdeal : Cert.FupIdeal.Facts] : Prop :=
  ∀ (m : (ℓ : Loc Cert.FupIdeal.nD Cert.FupIdeal.τ Cert.FupIdeal.sig) → Buf (Elt Ideal) ℓ) (g : Dev Cert.FupIdeal.nD → PrngReg), Pre_FupIdeal m →
    θ_run (Cert.FupIdeal.defs (F := Ideal)) (onTc (τ := Cert.FupIdeal.τ) (Cert.FupIdeal.main (F := Ideal))) ⟨m, fun _ => 0, g⟩ (fun r => (∀ c : Dev Cert.FupIdeal.nD,
      r.2.mem ((c.tc : Thread Cert.FupIdeal.nD Cert.FupIdeal.τ).loc Cert.FupIdeal.main_arg0) = m ((c.tc : Thread Cert.FupIdeal.nD Cert.FupIdeal.τ).loc Cert.FupIdeal.main_arg0)
      ∧ r.2.mem ((c.tc : Thread Cert.FupIdeal.nD Cert.FupIdeal.τ).loc Cert.FupIdeal.main_arg1) = m ((c.tc : Thread Cert.FupIdeal.nD Cert.FupIdeal.τ).loc Cert.FupIdeal.main_arg1))
      ∧ r.2.sem = fun _ => 0)

def quiescent_FupRefIdeal [hFupRefIdeal : Cert.FupRefIdeal.Facts] : Prop :=
  ∀ (m : (ℓ : Loc Cert.FupRefIdeal.nD Cert.FupRefIdeal.τ Cert.FupRefIdeal.sig) → Buf (Elt Ideal) ℓ) (g : Dev Cert.FupRefIdeal.nD → PrngReg), Pre_FupRefIdeal m →
    θ_run (Cert.FupRefIdeal.defs (F := Ideal)) (onTc (τ := Cert.FupRefIdeal.τ) (Cert.FupRefIdeal.main (F := Ideal))) ⟨m, fun _ => 0, g⟩ (fun r => (∀ c : Dev Cert.FupRefIdeal.nD,
      r.2.mem ((c.tc : Thread Cert.FupRefIdeal.nD Cert.FupRefIdeal.τ).loc Cert.FupRefIdeal.main_arg0) = m ((c.tc : Thread Cert.FupRefIdeal.nD Cert.FupRefIdeal.τ).loc Cert.FupRefIdeal.main_arg0)
      ∧ r.2.mem ((c.tc : Thread Cert.FupRefIdeal.nD Cert.FupRefIdeal.τ).loc Cert.FupRefIdeal.main_arg1) = m ((c.tc : Thread Cert.FupRefIdeal.nD Cert.FupRefIdeal.τ).loc Cert.FupRefIdeal.main_arg1))
      ∧ r.2.sem = fun _ => 0)

def quiescent_Fdown [hFdown : Cert.Fdown.Facts] : Prop :=
  ∀ (m : (ℓ : Loc Cert.Fdown.nD Cert.Fdown.τ Cert.Fdown.sig) → Buf (Elt Bits) ℓ) (g : Dev Cert.Fdown.nD → PrngReg), Pre_Fdown m →
    θ_run (Cert.Fdown.defs (F := Bits)) (onTc (τ := Cert.Fdown.τ) (Cert.Fdown.main (F := Bits))) ⟨m, fun _ => 0, g⟩ (fun r => (∀ c : Dev Cert.Fdown.nD,
      r.2.mem ((c.tc : Thread Cert.Fdown.nD Cert.Fdown.τ).loc Cert.Fdown.main_arg0) = m ((c.tc : Thread Cert.Fdown.nD Cert.Fdown.τ).loc Cert.Fdown.main_arg0)
      ∧ r.2.mem ((c.tc : Thread Cert.Fdown.nD Cert.Fdown.τ).loc Cert.Fdown.main_arg1) = m ((c.tc : Thread Cert.Fdown.nD Cert.Fdown.τ).loc Cert.Fdown.main_arg1)
      ∧ r.2.mem ((c.tc : Thread Cert.Fdown.nD Cert.Fdown.τ).loc Cert.Fdown.main_arg2) = m ((c.tc : Thread Cert.Fdown.nD Cert.Fdown.τ).loc Cert.Fdown.main_arg2)
      ∧ r.2.mem ((c.tc : Thread Cert.Fdown.nD Cert.Fdown.τ).loc Cert.Fdown.main_arg3) = m ((c.tc : Thread Cert.Fdown.nD Cert.Fdown.τ).loc Cert.Fdown.main_arg3))
      ∧ r.2.sem = fun _ => 0)

def quiescent_FdownIdeal [hFdownIdeal : Cert.FdownIdeal.Facts] : Prop :=
  ∀ (m : (ℓ : Loc Cert.FdownIdeal.nD Cert.FdownIdeal.τ Cert.FdownIdeal.sig) → Buf (Elt Ideal) ℓ) (g : Dev Cert.FdownIdeal.nD → PrngReg), Pre_FdownIdeal m →
    θ_run (Cert.FdownIdeal.defs (F := Ideal)) (onTc (τ := Cert.FdownIdeal.τ) (Cert.FdownIdeal.main (F := Ideal))) ⟨m, fun _ => 0, g⟩ (fun r => (∀ c : Dev Cert.FdownIdeal.nD,
      r.2.mem ((c.tc : Thread Cert.FdownIdeal.nD Cert.FdownIdeal.τ).loc Cert.FdownIdeal.main_arg0) = m ((c.tc : Thread Cert.FdownIdeal.nD Cert.FdownIdeal.τ).loc Cert.FdownIdeal.main_arg0)
      ∧ r.2.mem ((c.tc : Thread Cert.FdownIdeal.nD Cert.FdownIdeal.τ).loc Cert.FdownIdeal.main_arg1) = m ((c.tc : Thread Cert.FdownIdeal.nD Cert.FdownIdeal.τ).loc Cert.FdownIdeal.main_arg1)
      ∧ r.2.mem ((c.tc : Thread Cert.FdownIdeal.nD Cert.FdownIdeal.τ).loc Cert.FdownIdeal.main_arg2) = m ((c.tc : Thread Cert.FdownIdeal.nD Cert.FdownIdeal.τ).loc Cert.FdownIdeal.main_arg2)
      ∧ r.2.mem ((c.tc : Thread Cert.FdownIdeal.nD Cert.FdownIdeal.τ).loc Cert.FdownIdeal.main_arg3) = m ((c.tc : Thread Cert.FdownIdeal.nD Cert.FdownIdeal.τ).loc Cert.FdownIdeal.main_arg3))
      ∧ r.2.sem = fun _ => 0)

def quiescent_FdownRefIdeal [hFdownRefIdeal : Cert.FdownRefIdeal.Facts] : Prop :=
  ∀ (m : (ℓ : Loc Cert.FdownRefIdeal.nD Cert.FdownRefIdeal.τ Cert.FdownRefIdeal.sig) → Buf (Elt Ideal) ℓ) (g : Dev Cert.FdownRefIdeal.nD → PrngReg), Pre_FdownRefIdeal m →
    θ_run (Cert.FdownRefIdeal.defs (F := Ideal)) (onTc (τ := Cert.FdownRefIdeal.τ) (Cert.FdownRefIdeal.main (F := Ideal))) ⟨m, fun _ => 0, g⟩ (fun r => (∀ c : Dev Cert.FdownRefIdeal.nD,
      r.2.mem ((c.tc : Thread Cert.FdownRefIdeal.nD Cert.FdownRefIdeal.τ).loc Cert.FdownRefIdeal.main_arg0) = m ((c.tc : Thread Cert.FdownRefIdeal.nD Cert.FdownRefIdeal.τ).loc Cert.FdownRefIdeal.main_arg0)
      ∧ r.2.mem ((c.tc : Thread Cert.FdownRefIdeal.nD Cert.FdownRefIdeal.τ).loc Cert.FdownRefIdeal.main_arg1) = m ((c.tc : Thread Cert.FdownRefIdeal.nD Cert.FdownRefIdeal.τ).loc Cert.FdownRefIdeal.main_arg1)
      ∧ r.2.mem ((c.tc : Thread Cert.FdownRefIdeal.nD Cert.FdownRefIdeal.τ).loc Cert.FdownRefIdeal.main_arg2) = m ((c.tc : Thread Cert.FdownRefIdeal.nD Cert.FdownRefIdeal.τ).loc Cert.FdownRefIdeal.main_arg2)
      ∧ r.2.mem ((c.tc : Thread Cert.FdownRefIdeal.nD Cert.FdownRefIdeal.τ).loc Cert.FdownRefIdeal.main_arg3) = m ((c.tc : Thread Cert.FdownRefIdeal.nD Cert.FdownRefIdeal.τ).loc Cert.FdownRefIdeal.main_arg3))
      ∧ r.2.sem = fun _ => 0)

def quiescent_Flast [hFlast : Cert.Flast.Facts] : Prop :=
  ∀ (m : (ℓ : Loc Cert.Flast.nD Cert.Flast.τ Cert.Flast.sig) → Buf (Elt Bits) ℓ) (g : Dev Cert.Flast.nD → PrngReg), Pre_Flast m →
    θ_run (Cert.Flast.defs (F := Bits)) (onTc (τ := Cert.Flast.τ) (Cert.Flast.main (F := Bits))) ⟨m, fun _ => 0, g⟩ (fun r => (∀ c : Dev Cert.Flast.nD,
      r.2.mem ((c.tc : Thread Cert.Flast.nD Cert.Flast.τ).loc Cert.Flast.main_arg0) = m ((c.tc : Thread Cert.Flast.nD Cert.Flast.τ).loc Cert.Flast.main_arg0)
      ∧ r.2.mem ((c.tc : Thread Cert.Flast.nD Cert.Flast.τ).loc Cert.Flast.main_arg1) = m ((c.tc : Thread Cert.Flast.nD Cert.Flast.τ).loc Cert.Flast.main_arg1)
      ∧ r.2.mem ((c.tc : Thread Cert.Flast.nD Cert.Flast.τ).loc Cert.Flast.main_arg2) = m ((c.tc : Thread Cert.Flast.nD Cert.Flast.τ).loc Cert.Flast.main_arg2))
      ∧ r.2.sem = fun _ => 0)

def quiescent_FlastIdeal [hFlastIdeal : Cert.FlastIdeal.Facts] : Prop :=
  ∀ (m : (ℓ : Loc Cert.FlastIdeal.nD Cert.FlastIdeal.τ Cert.FlastIdeal.sig) → Buf (Elt Ideal) ℓ) (g : Dev Cert.FlastIdeal.nD → PrngReg), Pre_FlastIdeal m →
    θ_run (Cert.FlastIdeal.defs (F := Ideal)) (onTc (τ := Cert.FlastIdeal.τ) (Cert.FlastIdeal.main (F := Ideal))) ⟨m, fun _ => 0, g⟩ (fun r => (∀ c : Dev Cert.FlastIdeal.nD,
      r.2.mem ((c.tc : Thread Cert.FlastIdeal.nD Cert.FlastIdeal.τ).loc Cert.FlastIdeal.main_arg0) = m ((c.tc : Thread Cert.FlastIdeal.nD Cert.FlastIdeal.τ).loc Cert.FlastIdeal.main_arg0)
      ∧ r.2.mem ((c.tc : Thread Cert.FlastIdeal.nD Cert.FlastIdeal.τ).loc Cert.FlastIdeal.main_arg1) = m ((c.tc : Thread Cert.FlastIdeal.nD Cert.FlastIdeal.τ).loc Cert.FlastIdeal.main_arg1)
      ∧ r.2.mem ((c.tc : Thread Cert.FlastIdeal.nD Cert.FlastIdeal.τ).loc Cert.FlastIdeal.main_arg2) = m ((c.tc : Thread Cert.FlastIdeal.nD Cert.FlastIdeal.τ).loc Cert.FlastIdeal.main_arg2))
      ∧ r.2.sem = fun _ => 0)

def quiescent_FlastRefIdeal [hFlastRefIdeal : Cert.FlastRefIdeal.Facts] : Prop :=
  ∀ (m : (ℓ : Loc Cert.FlastRefIdeal.nD Cert.FlastRefIdeal.τ Cert.FlastRefIdeal.sig) → Buf (Elt Ideal) ℓ) (g : Dev Cert.FlastRefIdeal.nD → PrngReg), Pre_FlastRefIdeal m →
    θ_run (Cert.FlastRefIdeal.defs (F := Ideal)) (onTc (τ := Cert.FlastRefIdeal.τ) (Cert.FlastRefIdeal.main (F := Ideal))) ⟨m, fun _ => 0, g⟩ (fun r => (∀ c : Dev Cert.FlastRefIdeal.nD,
      r.2.mem ((c.tc : Thread Cert.FlastRefIdeal.nD Cert.FlastRefIdeal.τ).loc Cert.FlastRefIdeal.main_arg0) = m ((c.tc : Thread Cert.FlastRefIdeal.nD Cert.FlastRefIdeal.τ).loc Cert.FlastRefIdeal.main_arg0)
      ∧ r.2.mem ((c.tc : Thread Cert.FlastRefIdeal.nD Cert.FlastRefIdeal.τ).loc Cert.FlastRefIdeal.main_arg1) = m ((c.tc : Thread Cert.FlastRefIdeal.nD Cert.FlastRefIdeal.τ).loc Cert.FlastRefIdeal.main_arg1)
      ∧ r.2.mem ((c.tc : Thread Cert.FlastRefIdeal.nD Cert.FlastRefIdeal.τ).loc Cert.FlastRefIdeal.main_arg2) = m ((c.tc : Thread Cert.FlastRefIdeal.nD Cert.FlastRefIdeal.τ).loc Cert.FlastRefIdeal.main_arg2))
      ∧ r.2.sem = fun _ => 0)

def quiescent_Sdy [hSdy : Cert.Sdy.Facts] : Prop :=
  ∀ (m : (ℓ : Loc Cert.Sdy.nD Cert.Sdy.τ Cert.Sdy.sig) → Buf (Elt Bits) ℓ) (g : Dev Cert.Sdy.nD → PrngReg), Pre_Sdy m →
    θ_run (Cert.Sdy.defs (F := Bits)) (onTc (τ := Cert.Sdy.τ) (Cert.Sdy.main (F := Bits))) ⟨m, fun _ => 0, g⟩ (fun r => (∀ c : Dev Cert.Sdy.nD,
      r.2.mem ((c.tc : Thread Cert.Sdy.nD Cert.Sdy.τ).loc Cert.Sdy.main_arg0) = m ((c.tc : Thread Cert.Sdy.nD Cert.Sdy.τ).loc Cert.Sdy.main_arg0)
      ∧ r.2.mem ((c.tc : Thread Cert.Sdy.nD Cert.Sdy.τ).loc Cert.Sdy.main_arg1) = m ((c.tc : Thread Cert.Sdy.nD Cert.Sdy.τ).loc Cert.Sdy.main_arg1))
      ∧ r.2.sem = fun _ => 0)

def quiescent_SdyIdeal [hSdyIdeal : Cert.SdyIdeal.Facts] : Prop :=
  ∀ (m : (ℓ : Loc Cert.SdyIdeal.nD Cert.SdyIdeal.τ Cert.SdyIdeal.sig) → Buf (Elt Ideal) ℓ) (g : Dev Cert.SdyIdeal.nD → PrngReg), Pre_SdyIdeal m →
    θ_run (Cert.SdyIdeal.defs (F := Ideal)) (onTc (τ := Cert.SdyIdeal.τ) (Cert.SdyIdeal.main (F := Ideal))) ⟨m, fun _ => 0, g⟩ (fun r => (∀ c : Dev Cert.SdyIdeal.nD,
      r.2.mem ((c.tc : Thread Cert.SdyIdeal.nD Cert.SdyIdeal.τ).loc Cert.SdyIdeal.main_arg0) = m ((c.tc : Thread Cert.SdyIdeal.nD Cert.SdyIdeal.τ).loc Cert.SdyIdeal.main_arg0)
      ∧ r.2.mem ((c.tc : Thread Cert.SdyIdeal.nD Cert.SdyIdeal.τ).loc Cert.SdyIdeal.main_arg1) = m ((c.tc : Thread Cert.SdyIdeal.nD Cert.SdyIdeal.τ).loc Cert.SdyIdeal.main_arg1))
      ∧ r.2.sem = fun _ => 0)

def quiescent_SdyRefIdeal [hSdyRefIdeal : Cert.SdyRefIdeal.Facts] : Prop :=
  ∀ (m : (ℓ : Loc Cert.SdyRefIdeal.nD Cert.SdyRefIdeal.τ Cert.SdyRefIdeal.sig) → Buf (Elt Ideal) ℓ) (g : Dev Cert.SdyRefIdeal.nD → PrngReg), Pre_SdyRefIdeal m →
    θ_run (Cert.SdyRefIdeal.defs (F := Ideal)) (onTc (τ := Cert.SdyRefIdeal.τ) (Cert.SdyRefIdeal.main (F := Ideal))) ⟨m, fun _ => 0, g⟩ (fun r => (∀ c : Dev Cert.SdyRefIdeal.nD,
      r.2.mem ((c.tc : Thread Cert.SdyRefIdeal.nD Cert.SdyRefIdeal.τ).loc Cert.SdyRefIdeal.main_arg0) = m ((c.tc : Thread Cert.SdyRefIdeal.nD Cert.SdyRefIdeal.τ).loc Cert.SdyRefIdeal.main_arg0)
      ∧ r.2.mem ((c.tc : Thread Cert.SdyRefIdeal.nD Cert.SdyRefIdeal.τ).loc Cert.SdyRefIdeal.main_arg1) = m ((c.tc : Thread Cert.SdyRefIdeal.nD Cert.SdyRefIdeal.τ).loc Cert.SdyRefIdeal.main_arg1))
      ∧ r.2.sem = fun _ => 0)

def quiescent_Sdw [hSdw : Cert.Sdw.Facts] : Prop :=
  ∀ (m : (ℓ : Loc Cert.Sdw.nD Cert.Sdw.τ Cert.Sdw.sig) → Buf (Elt Bits) ℓ) (g : Dev Cert.Sdw.nD → PrngReg), Pre_Sdw m →
    θ_run (Cert.Sdw.defs (F := Bits)) (onTc (τ := Cert.Sdw.τ) (Cert.Sdw.main (F := Bits))) ⟨m, fun _ => 0, g⟩ (fun r => (∀ c : Dev Cert.Sdw.nD,
      r.2.mem ((c.tc : Thread Cert.Sdw.nD Cert.Sdw.τ).loc Cert.Sdw.main_arg0) = m ((c.tc : Thread Cert.Sdw.nD Cert.Sdw.τ).loc Cert.Sdw.main_arg0)
      ∧ r.2.mem ((c.tc : Thread Cert.Sdw.nD Cert.Sdw.τ).loc Cert.Sdw.main_arg1) = m ((c.tc : Thread Cert.Sdw.nD Cert.Sdw.τ).loc Cert.Sdw.main_arg1))
      ∧ r.2.sem = fun _ => 0)

def quiescent_SdwIdeal [hSdwIdeal : Cert.SdwIdeal.Facts] : Prop :=
  ∀ (m : (ℓ : Loc Cert.SdwIdeal.nD Cert.SdwIdeal.τ Cert.SdwIdeal.sig) → Buf (Elt Ideal) ℓ) (g : Dev Cert.SdwIdeal.nD → PrngReg), Pre_SdwIdeal m →
    θ_run (Cert.SdwIdeal.defs (F := Ideal)) (onTc (τ := Cert.SdwIdeal.τ) (Cert.SdwIdeal.main (F := Ideal))) ⟨m, fun _ => 0, g⟩ (fun r => (∀ c : Dev Cert.SdwIdeal.nD,
      r.2.mem ((c.tc : Thread Cert.SdwIdeal.nD Cert.SdwIdeal.τ).loc Cert.SdwIdeal.main_arg0) = m ((c.tc : Thread Cert.SdwIdeal.nD Cert.SdwIdeal.τ).loc Cert.SdwIdeal.main_arg0)
      ∧ r.2.mem ((c.tc : Thread Cert.SdwIdeal.nD Cert.SdwIdeal.τ).loc Cert.SdwIdeal.main_arg1) = m ((c.tc : Thread Cert.SdwIdeal.nD Cert.SdwIdeal.τ).loc Cert.SdwIdeal.main_arg1))
      ∧ r.2.sem = fun _ => 0)

def quiescent_SdwRefIdeal [hSdwRefIdeal : Cert.SdwRefIdeal.Facts] : Prop :=
  ∀ (m : (ℓ : Loc Cert.SdwRefIdeal.nD Cert.SdwRefIdeal.τ Cert.SdwRefIdeal.sig) → Buf (Elt Ideal) ℓ) (g : Dev Cert.SdwRefIdeal.nD → PrngReg), Pre_SdwRefIdeal m →
    θ_run (Cert.SdwRefIdeal.defs (F := Ideal)) (onTc (τ := Cert.SdwRefIdeal.τ) (Cert.SdwRefIdeal.main (F := Ideal))) ⟨m, fun _ => 0, g⟩ (fun r => (∀ c : Dev Cert.SdwRefIdeal.nD,
      r.2.mem ((c.tc : Thread Cert.SdwRefIdeal.nD Cert.SdwRefIdeal.τ).loc Cert.SdwRefIdeal.main_arg0) = m ((c.tc : Thread Cert.SdwRefIdeal.nD Cert.SdwRefIdeal.τ).loc Cert.SdwRefIdeal.main_arg0)
      ∧ r.2.mem ((c.tc : Thread Cert.SdwRefIdeal.nD Cert.SdwRefIdeal.τ).loc Cert.SdwRefIdeal.main_arg1) = m ((c.tc : Thread Cert.SdwRefIdeal.nD Cert.SdwRefIdeal.τ).loc Cert.SdwRefIdeal.main_arg1))
      ∧ r.2.sem = fun _ => 0)

def quiescent_Sq [hSq : Cert.Sq.Facts] : Prop :=
  ∀ (m : (ℓ : Loc Cert.Sq.nD Cert.Sq.τ Cert.Sq.sig) → Buf (Elt Bits) ℓ) (g : Dev Cert.Sq.nD → PrngReg), Pre_Sq m →
    θ_run (Cert.Sq.defs (F := Bits)) (onTc (τ := Cert.Sq.τ) (Cert.Sq.main (F := Bits))) ⟨m, fun _ => 0, g⟩ (fun r => (∀ c : Dev Cert.Sq.nD,
      r.2.mem ((c.tc : Thread Cert.Sq.nD Cert.Sq.τ).loc Cert.Sq.main_arg0) = m ((c.tc : Thread Cert.Sq.nD Cert.Sq.τ).loc Cert.Sq.main_arg0)
      ∧ r.2.mem ((c.tc : Thread Cert.Sq.nD Cert.Sq.τ).loc Cert.Sq.main_arg1) = m ((c.tc : Thread Cert.Sq.nD Cert.Sq.τ).loc Cert.Sq.main_arg1))
      ∧ r.2.sem = fun _ => 0)

def quiescent_SqIdeal [hSqIdeal : Cert.SqIdeal.Facts] : Prop :=
  ∀ (m : (ℓ : Loc Cert.SqIdeal.nD Cert.SqIdeal.τ Cert.SqIdeal.sig) → Buf (Elt Ideal) ℓ) (g : Dev Cert.SqIdeal.nD → PrngReg), Pre_SqIdeal m →
    θ_run (Cert.SqIdeal.defs (F := Ideal)) (onTc (τ := Cert.SqIdeal.τ) (Cert.SqIdeal.main (F := Ideal))) ⟨m, fun _ => 0, g⟩ (fun r => (∀ c : Dev Cert.SqIdeal.nD,
      r.2.mem ((c.tc : Thread Cert.SqIdeal.nD Cert.SqIdeal.τ).loc Cert.SqIdeal.main_arg0) = m ((c.tc : Thread Cert.SqIdeal.nD Cert.SqIdeal.τ).loc Cert.SqIdeal.main_arg0)
      ∧ r.2.mem ((c.tc : Thread Cert.SqIdeal.nD Cert.SqIdeal.τ).loc Cert.SqIdeal.main_arg1) = m ((c.tc : Thread Cert.SqIdeal.nD Cert.SqIdeal.τ).loc Cert.SqIdeal.main_arg1))
      ∧ r.2.sem = fun _ => 0)

def quiescent_SqRefIdeal [hSqRefIdeal : Cert.SqRefIdeal.Facts] : Prop :=
  ∀ (m : (ℓ : Loc Cert.SqRefIdeal.nD Cert.SqRefIdeal.τ Cert.SqRefIdeal.sig) → Buf (Elt Ideal) ℓ) (g : Dev Cert.SqRefIdeal.nD → PrngReg), Pre_SqRefIdeal m →
    θ_run (Cert.SqRefIdeal.defs (F := Ideal)) (onTc (τ := Cert.SqRefIdeal.τ) (Cert.SqRefIdeal.main (F := Ideal))) ⟨m, fun _ => 0, g⟩ (fun r => (∀ c : Dev Cert.SqRefIdeal.nD,
      r.2.mem ((c.tc : Thread Cert.SqRefIdeal.nD Cert.SqRefIdeal.τ).loc Cert.SqRefIdeal.main_arg0) = m ((c.tc : Thread Cert.SqRefIdeal.nD Cert.SqRefIdeal.τ).loc Cert.SqRefIdeal.main_arg0)
      ∧ r.2.mem ((c.tc : Thread Cert.SqRefIdeal.nD Cert.SqRefIdeal.τ).loc Cert.SqRefIdeal.main_arg1) = m ((c.tc : Thread Cert.SqRefIdeal.nD Cert.SqRefIdeal.τ).loc Cert.SqRefIdeal.main_arg1))
      ∧ r.2.sem = fun _ => 0)

def quiescent_So [hSo : Cert.So.Facts] : Prop :=
  ∀ (m : (ℓ : Loc Cert.So.nD Cert.So.τ Cert.So.sig) → Buf (Elt Bits) ℓ) (g : Dev Cert.So.nD → PrngReg), Pre_So m →
    θ_run (Cert.So.defs (F := Bits)) (onTc (τ := Cert.So.τ) (Cert.So.main (F := Bits))) ⟨m, fun _ => 0, g⟩ (fun r => (∀ c : Dev Cert.So.nD,
      r.2.mem ((c.tc : Thread Cert.So.nD Cert.So.τ).loc Cert.So.main_arg0) = m ((c.tc : Thread Cert.So.nD Cert.So.τ).loc Cert.So.main_arg0)
      ∧ r.2.mem ((c.tc : Thread Cert.So.nD Cert.So.τ).loc Cert.So.main_arg1) = m ((c.tc : Thread Cert.So.nD Cert.So.τ).loc Cert.So.main_arg1)
      ∧ r.2.mem ((c.tc : Thread Cert.So.nD Cert.So.τ).loc Cert.So.main_arg2) = m ((c.tc : Thread Cert.So.nD Cert.So.τ).loc Cert.So.main_arg2)
      ∧ r.2.mem ((c.tc : Thread Cert.So.nD Cert.So.τ).loc Cert.So.main_arg3) = m ((c.tc : Thread Cert.So.nD Cert.So.τ).loc Cert.So.main_arg3))
      ∧ r.2.sem = fun _ => 0)

def quiescent_SoIdeal [hSoIdeal : Cert.SoIdeal.Facts] : Prop :=
  ∀ (m : (ℓ : Loc Cert.SoIdeal.nD Cert.SoIdeal.τ Cert.SoIdeal.sig) → Buf (Elt Ideal) ℓ) (g : Dev Cert.SoIdeal.nD → PrngReg), Pre_SoIdeal m →
    θ_run (Cert.SoIdeal.defs (F := Ideal)) (onTc (τ := Cert.SoIdeal.τ) (Cert.SoIdeal.main (F := Ideal))) ⟨m, fun _ => 0, g⟩ (fun r => (∀ c : Dev Cert.SoIdeal.nD,
      r.2.mem ((c.tc : Thread Cert.SoIdeal.nD Cert.SoIdeal.τ).loc Cert.SoIdeal.main_arg0) = m ((c.tc : Thread Cert.SoIdeal.nD Cert.SoIdeal.τ).loc Cert.SoIdeal.main_arg0)
      ∧ r.2.mem ((c.tc : Thread Cert.SoIdeal.nD Cert.SoIdeal.τ).loc Cert.SoIdeal.main_arg1) = m ((c.tc : Thread Cert.SoIdeal.nD Cert.SoIdeal.τ).loc Cert.SoIdeal.main_arg1)
      ∧ r.2.mem ((c.tc : Thread Cert.SoIdeal.nD Cert.SoIdeal.τ).loc Cert.SoIdeal.main_arg2) = m ((c.tc : Thread Cert.SoIdeal.nD Cert.SoIdeal.τ).loc Cert.SoIdeal.main_arg2)
      ∧ r.2.mem ((c.tc : Thread Cert.SoIdeal.nD Cert.SoIdeal.τ).loc Cert.SoIdeal.main_arg3) = m ((c.tc : Thread Cert.SoIdeal.nD Cert.SoIdeal.τ).loc Cert.SoIdeal.main_arg3))
      ∧ r.2.sem = fun _ => 0)

def quiescent_SoRefIdeal [hSoRefIdeal : Cert.SoRefIdeal.Facts] : Prop :=
  ∀ (m : (ℓ : Loc Cert.SoRefIdeal.nD Cert.SoRefIdeal.τ Cert.SoRefIdeal.sig) → Buf (Elt Ideal) ℓ) (g : Dev Cert.SoRefIdeal.nD → PrngReg), Pre_SoRefIdeal m →
    θ_run (Cert.SoRefIdeal.defs (F := Ideal)) (onTc (τ := Cert.SoRefIdeal.τ) (Cert.SoRefIdeal.main (F := Ideal))) ⟨m, fun _ => 0, g⟩ (fun r => (∀ c : Dev Cert.SoRefIdeal.nD,
      r.2.mem ((c.tc : Thread Cert.SoRefIdeal.nD Cert.SoRefIdeal.τ).loc Cert.SoRefIdeal.main_arg0) = m ((c.tc : Thread Cert.SoRefIdeal.nD Cert.SoRefIdeal.τ).loc Cert.SoRefIdeal.main_arg0)
      ∧ r.2.mem ((c.tc : Thread Cert.SoRefIdeal.nD Cert.SoRefIdeal.τ).loc Cert.SoRefIdeal.main_arg1) = m ((c.tc : Thread Cert.SoRefIdeal.nD Cert.SoRefIdeal.τ).loc Cert.SoRefIdeal.main_arg1)
      ∧ r.2.mem ((c.tc : Thread Cert.SoRefIdeal.nD Cert.SoRefIdeal.τ).loc Cert.SoRefIdeal.main_arg2) = m ((c.tc : Thread Cert.SoRefIdeal.nD Cert.SoRefIdeal.τ).loc Cert.SoRefIdeal.main_arg2)
      ∧ r.2.mem ((c.tc : Thread Cert.SoRefIdeal.nD Cert.SoRefIdeal.τ).loc Cert.SoRefIdeal.main_arg3) = m ((c.tc : Thread Cert.SoRefIdeal.nD Cert.SoRefIdeal.τ).loc Cert.SoRefIdeal.main_arg3))
      ∧ r.2.sem = fun _ => 0)

def quiescent_Tdy [hTdy : Cert.Tdy.Facts] : Prop :=
  ∀ (m : (ℓ : Loc Cert.Tdy.nD Cert.Tdy.τ Cert.Tdy.sig) → Buf (Elt Bits) ℓ) (g : Dev Cert.Tdy.nD → PrngReg), Pre_Tdy m →
    θ_run (Cert.Tdy.defs (F := Bits)) (onTc (τ := Cert.Tdy.τ) (Cert.Tdy.main (F := Bits))) ⟨m, fun _ => 0, g⟩ (fun r => (∀ c : Dev Cert.Tdy.nD,
      r.2.mem ((c.tc : Thread Cert.Tdy.nD Cert.Tdy.τ).loc Cert.Tdy.main_arg0) = m ((c.tc : Thread Cert.Tdy.nD Cert.Tdy.τ).loc Cert.Tdy.main_arg0)
      ∧ r.2.mem ((c.tc : Thread Cert.Tdy.nD Cert.Tdy.τ).loc Cert.Tdy.main_arg1) = m ((c.tc : Thread Cert.Tdy.nD Cert.Tdy.τ).loc Cert.Tdy.main_arg1))
      ∧ r.2.sem = fun _ => 0)

def quiescent_TdyIdeal [hTdyIdeal : Cert.TdyIdeal.Facts] : Prop :=
  ∀ (m : (ℓ : Loc Cert.TdyIdeal.nD Cert.TdyIdeal.τ Cert.TdyIdeal.sig) → Buf (Elt Ideal) ℓ) (g : Dev Cert.TdyIdeal.nD → PrngReg), Pre_TdyIdeal m →
    θ_run (Cert.TdyIdeal.defs (F := Ideal)) (onTc (τ := Cert.TdyIdeal.τ) (Cert.TdyIdeal.main (F := Ideal))) ⟨m, fun _ => 0, g⟩ (fun r => (∀ c : Dev Cert.TdyIdeal.nD,
      r.2.mem ((c.tc : Thread Cert.TdyIdeal.nD Cert.TdyIdeal.τ).loc Cert.TdyIdeal.main_arg0) = m ((c.tc : Thread Cert.TdyIdeal.nD Cert.TdyIdeal.τ).loc Cert.TdyIdeal.main_arg0)
      ∧ r.2.mem ((c.tc : Thread Cert.TdyIdeal.nD Cert.TdyIdeal.τ).loc Cert.TdyIdeal.main_arg1) = m ((c.tc : Thread Cert.TdyIdeal.nD Cert.TdyIdeal.τ).loc Cert.TdyIdeal.main_arg1))
      ∧ r.2.sem = fun _ => 0)

def quiescent_TdyRefIdeal [hTdyRefIdeal : Cert.TdyRefIdeal.Facts] : Prop :=
  ∀ (m : (ℓ : Loc Cert.TdyRefIdeal.nD Cert.TdyRefIdeal.τ Cert.TdyRefIdeal.sig) → Buf (Elt Ideal) ℓ) (g : Dev Cert.TdyRefIdeal.nD → PrngReg), Pre_TdyRefIdeal m →
    θ_run (Cert.TdyRefIdeal.defs (F := Ideal)) (onTc (τ := Cert.TdyRefIdeal.τ) (Cert.TdyRefIdeal.main (F := Ideal))) ⟨m, fun _ => 0, g⟩ (fun r => (∀ c : Dev Cert.TdyRefIdeal.nD,
      r.2.mem ((c.tc : Thread Cert.TdyRefIdeal.nD Cert.TdyRefIdeal.τ).loc Cert.TdyRefIdeal.main_arg0) = m ((c.tc : Thread Cert.TdyRefIdeal.nD Cert.TdyRefIdeal.τ).loc Cert.TdyRefIdeal.main_arg0)
      ∧ r.2.mem ((c.tc : Thread Cert.TdyRefIdeal.nD Cert.TdyRefIdeal.τ).loc Cert.TdyRefIdeal.main_arg1) = m ((c.tc : Thread Cert.TdyRefIdeal.nD Cert.TdyRefIdeal.τ).loc Cert.TdyRefIdeal.main_arg1))
      ∧ r.2.sem = fun _ => 0)

def quiescent_Tdw [hTdw : Cert.Tdw.Facts] : Prop :=
  ∀ (m : (ℓ : Loc Cert.Tdw.nD Cert.Tdw.τ Cert.Tdw.sig) → Buf (Elt Bits) ℓ) (g : Dev Cert.Tdw.nD → PrngReg), Pre_Tdw m →
    θ_run (Cert.Tdw.defs (F := Bits)) (onTc (τ := Cert.Tdw.τ) (Cert.Tdw.main (F := Bits))) ⟨m, fun _ => 0, g⟩ (fun r => (∀ c : Dev Cert.Tdw.nD,
      r.2.mem ((c.tc : Thread Cert.Tdw.nD Cert.Tdw.τ).loc Cert.Tdw.main_arg0) = m ((c.tc : Thread Cert.Tdw.nD Cert.Tdw.τ).loc Cert.Tdw.main_arg0)
      ∧ r.2.mem ((c.tc : Thread Cert.Tdw.nD Cert.Tdw.τ).loc Cert.Tdw.main_arg1) = m ((c.tc : Thread Cert.Tdw.nD Cert.Tdw.τ).loc Cert.Tdw.main_arg1))
      ∧ r.2.sem = fun _ => 0)

def quiescent_TdwIdeal [hTdwIdeal : Cert.TdwIdeal.Facts] : Prop :=
  ∀ (m : (ℓ : Loc Cert.TdwIdeal.nD Cert.TdwIdeal.τ Cert.TdwIdeal.sig) → Buf (Elt Ideal) ℓ) (g : Dev Cert.TdwIdeal.nD → PrngReg), Pre_TdwIdeal m →
    θ_run (Cert.TdwIdeal.defs (F := Ideal)) (onTc (τ := Cert.TdwIdeal.τ) (Cert.TdwIdeal.main (F := Ideal))) ⟨m, fun _ => 0, g⟩ (fun r => (∀ c : Dev Cert.TdwIdeal.nD,
      r.2.mem ((c.tc : Thread Cert.TdwIdeal.nD Cert.TdwIdeal.τ).loc Cert.TdwIdeal.main_arg0) = m ((c.tc : Thread Cert.TdwIdeal.nD Cert.TdwIdeal.τ).loc Cert.TdwIdeal.main_arg0)
      ∧ r.2.mem ((c.tc : Thread Cert.TdwIdeal.nD Cert.TdwIdeal.τ).loc Cert.TdwIdeal.main_arg1) = m ((c.tc : Thread Cert.TdwIdeal.nD Cert.TdwIdeal.τ).loc Cert.TdwIdeal.main_arg1))
      ∧ r.2.sem = fun _ => 0)

def quiescent_TdwRefIdeal [hTdwRefIdeal : Cert.TdwRefIdeal.Facts] : Prop :=
  ∀ (m : (ℓ : Loc Cert.TdwRefIdeal.nD Cert.TdwRefIdeal.τ Cert.TdwRefIdeal.sig) → Buf (Elt Ideal) ℓ) (g : Dev Cert.TdwRefIdeal.nD → PrngReg), Pre_TdwRefIdeal m →
    θ_run (Cert.TdwRefIdeal.defs (F := Ideal)) (onTc (τ := Cert.TdwRefIdeal.τ) (Cert.TdwRefIdeal.main (F := Ideal))) ⟨m, fun _ => 0, g⟩ (fun r => (∀ c : Dev Cert.TdwRefIdeal.nD,
      r.2.mem ((c.tc : Thread Cert.TdwRefIdeal.nD Cert.TdwRefIdeal.τ).loc Cert.TdwRefIdeal.main_arg0) = m ((c.tc : Thread Cert.TdwRefIdeal.nD Cert.TdwRefIdeal.τ).loc Cert.TdwRefIdeal.main_arg0)
      ∧ r.2.mem ((c.tc : Thread Cert.TdwRefIdeal.nD Cert.TdwRefIdeal.τ).loc Cert.TdwRefIdeal.main_arg1) = m ((c.tc : Thread Cert.TdwRefIdeal.nD Cert.TdwRefIdeal.τ).loc Cert.TdwRefIdeal.main_arg1))
      ∧ r.2.sem = fun _ => 0)

def quiescent_To [hTo : Cert.To.Facts] : Prop :=
  ∀ (m : (ℓ : Loc Cert.To.nD Cert.To.τ Cert.To.sig) → Buf (Elt Bits) ℓ) (g : Dev Cert.To.nD → PrngReg), Pre_To m →
    θ_run (Cert.To.defs (F := Bits)) (onTc (τ := Cert.To.τ) (Cert.To.main (F := Bits))) ⟨m, fun _ => 0, g⟩ (fun r => (∀ c : Dev Cert.To.nD,
      r.2.mem ((c.tc : Thread Cert.To.nD Cert.To.τ).loc Cert.To.main_arg0) = m ((c.tc : Thread Cert.To.nD Cert.To.τ).loc Cert.To.main_arg0)
      ∧ r.2.mem ((c.tc : Thread Cert.To.nD Cert.To.τ).loc Cert.To.main_arg1) = m ((c.tc : Thread Cert.To.nD Cert.To.τ).loc Cert.To.main_arg1)
      ∧ r.2.mem ((c.tc : Thread Cert.To.nD Cert.To.τ).loc Cert.To.main_arg2) = m ((c.tc : Thread Cert.To.nD Cert.To.τ).loc Cert.To.main_arg2)
      ∧ r.2.mem ((c.tc : Thread Cert.To.nD Cert.To.τ).loc Cert.To.main_arg3) = m ((c.tc : Thread Cert.To.nD Cert.To.τ).loc Cert.To.main_arg3))
      ∧ r.2.sem = fun _ => 0)

def quiescent_ToIdeal [hToIdeal : Cert.ToIdeal.Facts] : Prop :=
  ∀ (m : (ℓ : Loc Cert.ToIdeal.nD Cert.ToIdeal.τ Cert.ToIdeal.sig) → Buf (Elt Ideal) ℓ) (g : Dev Cert.ToIdeal.nD → PrngReg), Pre_ToIdeal m →
    θ_run (Cert.ToIdeal.defs (F := Ideal)) (onTc (τ := Cert.ToIdeal.τ) (Cert.ToIdeal.main (F := Ideal))) ⟨m, fun _ => 0, g⟩ (fun r => (∀ c : Dev Cert.ToIdeal.nD,
      r.2.mem ((c.tc : Thread Cert.ToIdeal.nD Cert.ToIdeal.τ).loc Cert.ToIdeal.main_arg0) = m ((c.tc : Thread Cert.ToIdeal.nD Cert.ToIdeal.τ).loc Cert.ToIdeal.main_arg0)
      ∧ r.2.mem ((c.tc : Thread Cert.ToIdeal.nD Cert.ToIdeal.τ).loc Cert.ToIdeal.main_arg1) = m ((c.tc : Thread Cert.ToIdeal.nD Cert.ToIdeal.τ).loc Cert.ToIdeal.main_arg1)
      ∧ r.2.mem ((c.tc : Thread Cert.ToIdeal.nD Cert.ToIdeal.τ).loc Cert.ToIdeal.main_arg2) = m ((c.tc : Thread Cert.ToIdeal.nD Cert.ToIdeal.τ).loc Cert.ToIdeal.main_arg2)
      ∧ r.2.mem ((c.tc : Thread Cert.ToIdeal.nD Cert.ToIdeal.τ).loc Cert.ToIdeal.main_arg3) = m ((c.tc : Thread Cert.ToIdeal.nD Cert.ToIdeal.τ).loc Cert.ToIdeal.main_arg3))
      ∧ r.2.sem = fun _ => 0)

def quiescent_ToRefIdeal [hToRefIdeal : Cert.ToRefIdeal.Facts] : Prop :=
  ∀ (m : (ℓ : Loc Cert.ToRefIdeal.nD Cert.ToRefIdeal.τ Cert.ToRefIdeal.sig) → Buf (Elt Ideal) ℓ) (g : Dev Cert.ToRefIdeal.nD → PrngReg), Pre_ToRefIdeal m →
    θ_run (Cert.ToRefIdeal.defs (F := Ideal)) (onTc (τ := Cert.ToRefIdeal.τ) (Cert.ToRefIdeal.main (F := Ideal))) ⟨m, fun _ => 0, g⟩ (fun r => (∀ c : Dev Cert.ToRefIdeal.nD,
      r.2.mem ((c.tc : Thread Cert.ToRefIdeal.nD Cert.ToRefIdeal.τ).loc Cert.ToRefIdeal.main_arg0) = m ((c.tc : Thread Cert.ToRefIdeal.nD Cert.ToRefIdeal.τ).loc Cert.ToRefIdeal.main_arg0)
      ∧ r.2.mem ((c.tc : Thread Cert.ToRefIdeal.nD Cert.ToRefIdeal.τ).loc Cert.ToRefIdeal.main_arg1) = m ((c.tc : Thread Cert.ToRefIdeal.nD Cert.ToRefIdeal.τ).loc Cert.ToRefIdeal.main_arg1)
      ∧ r.2.mem ((c.tc : Thread Cert.ToRefIdeal.nD Cert.ToRefIdeal.τ).loc Cert.ToRefIdeal.main_arg2) = m ((c.tc : Thread Cert.ToRefIdeal.nD Cert.ToRefIdeal.τ).loc Cert.ToRefIdeal.main_arg2)
      ∧ r.2.mem ((c.tc : Thread Cert.ToRefIdeal.nD Cert.ToRefIdeal.τ).loc Cert.ToRefIdeal.main_arg3) = m ((c.tc : Thread Cert.ToRefIdeal.nD Cert.ToRefIdeal.τ).loc Cert.ToRefIdeal.main_arg3))
      ∧ r.2.sem = fun _ => 0)

def quiescent_Tin [hTin : Cert.Tin.Facts] : Prop :=
  ∀ (m : (ℓ : Loc Cert.Tin.nD Cert.Tin.τ Cert.Tin.sig) → Buf (Elt Bits) ℓ) (g : Dev Cert.Tin.nD → PrngReg), Pre_Tin m →
    θ_run (Cert.Tin.defs (F := Bits)) (onTc (τ := Cert.Tin.τ) (Cert.Tin.main (F := Bits))) ⟨m, fun _ => 0, g⟩ (fun r => (∀ c : Dev Cert.Tin.nD,
      r.2.mem ((c.tc : Thread Cert.Tin.nD Cert.Tin.τ).loc Cert.Tin.main_arg0) = m ((c.tc : Thread Cert.Tin.nD Cert.Tin.τ).loc Cert.Tin.main_arg0)
      ∧ r.2.mem ((c.tc : Thread Cert.Tin.nD Cert.Tin.τ).loc Cert.Tin.main_arg1) = m ((c.tc : Thread Cert.Tin.nD Cert.Tin.τ).loc Cert.Tin.main_arg1))
      ∧ r.2.sem = fun _ => 0)

def quiescent_TinIdeal [hTinIdeal : Cert.TinIdeal.Facts] : Prop :=
  ∀ (m : (ℓ : Loc Cert.TinIdeal.nD Cert.TinIdeal.τ Cert.TinIdeal.sig) → Buf (Elt Ideal) ℓ) (g : Dev Cert.TinIdeal.nD → PrngReg), Pre_TinIdeal m →
    θ_run (Cert.TinIdeal.defs (F := Ideal)) (onTc (τ := Cert.TinIdeal.τ) (Cert.TinIdeal.main (F := Ideal))) ⟨m, fun _ => 0, g⟩ (fun r => (∀ c : Dev Cert.TinIdeal.nD,
      r.2.mem ((c.tc : Thread Cert.TinIdeal.nD Cert.TinIdeal.τ).loc Cert.TinIdeal.main_arg0) = m ((c.tc : Thread Cert.TinIdeal.nD Cert.TinIdeal.τ).loc Cert.TinIdeal.main_arg0)
      ∧ r.2.mem ((c.tc : Thread Cert.TinIdeal.nD Cert.TinIdeal.τ).loc Cert.TinIdeal.main_arg1) = m ((c.tc : Thread Cert.TinIdeal.nD Cert.TinIdeal.τ).loc Cert.TinIdeal.main_arg1))
      ∧ r.2.sem = fun _ => 0)

def quiescent_TinRefIdeal [hTinRefIdeal : Cert.TinRefIdeal.Facts] : Prop :=
  ∀ (m : (ℓ : Loc Cert.TinRefIdeal.nD Cert.TinRefIdeal.τ Cert.TinRefIdeal.sig) → Buf (Elt Ideal) ℓ) (g : Dev Cert.TinRefIdeal.nD → PrngReg), Pre_TinRefIdeal m →
    θ_run (Cert.TinRefIdeal.defs (F := Ideal)) (onTc (τ := Cert.TinRefIdeal.τ) (Cert.TinRefIdeal.main (F := Ideal))) ⟨m, fun _ => 0, g⟩ (fun r => (∀ c : Dev Cert.TinRefIdeal.nD,
      r.2.mem ((c.tc : Thread Cert.TinRefIdeal.nD Cert.TinRefIdeal.τ).loc Cert.TinRefIdeal.main_arg0) = m ((c.tc : Thread Cert.TinRefIdeal.nD Cert.TinRefIdeal.τ).loc Cert.TinRefIdeal.main_arg0)
      ∧ r.2.mem ((c.tc : Thread Cert.TinRefIdeal.nD Cert.TinRefIdeal.τ).loc Cert.TinRefIdeal.main_arg1) = m ((c.tc : Thread Cert.TinRefIdeal.nD Cert.TinRefIdeal.τ).loc Cert.TinRefIdeal.main_arg1))
      ∧ r.2.sem = fun _ => 0)

def quiescent_Cup [hCup : Cert.Cup.Facts] : Prop :=
  ∀ (m : (ℓ : Loc Cert.Cup.nD Cert.Cup.τ Cert.Cup.sig) → Buf (Elt Bits) ℓ) (g : Dev Cert.Cup.nD → PrngReg), Pre_Cup m →
    θ_run (Cert.Cup.defs (F := Bits)) (onTc (τ := Cert.Cup.τ) (Cert.Cup.main (F := Bits))) ⟨m, fun _ => 0, g⟩ (fun r => (∀ c : Dev Cert.Cup.nD,
      r.2.mem ((c.tc : Thread Cert.Cup.nD Cert.Cup.τ).loc Cert.Cup.main_arg0) = m ((c.tc : Thread Cert.Cup.nD Cert.Cup.τ).loc Cert.Cup.main_arg0)
      ∧ r.2.mem ((c.tc : Thread Cert.Cup.nD Cert.Cup.τ).loc Cert.Cup.main_arg1) = m ((c.tc : Thread Cert.Cup.nD Cert.Cup.τ).loc Cert.Cup.main_arg1)
      ∧ r.2.mem ((c.tc : Thread Cert.Cup.nD Cert.Cup.τ).loc Cert.Cup.main_arg2) = m ((c.tc : Thread Cert.Cup.nD Cert.Cup.τ).loc Cert.Cup.main_arg2))
      ∧ r.2.sem = fun _ => 0)

def quiescent_CupIdeal [hCupIdeal : Cert.CupIdeal.Facts] : Prop :=
  ∀ (m : (ℓ : Loc Cert.CupIdeal.nD Cert.CupIdeal.τ Cert.CupIdeal.sig) → Buf (Elt Ideal) ℓ) (g : Dev Cert.CupIdeal.nD → PrngReg), Pre_CupIdeal m →
    θ_run (Cert.CupIdeal.defs (F := Ideal)) (onTc (τ := Cert.CupIdeal.τ) (Cert.CupIdeal.main (F := Ideal))) ⟨m, fun _ => 0, g⟩ (fun r => (∀ c : Dev Cert.CupIdeal.nD,
      r.2.mem ((c.tc : Thread Cert.CupIdeal.nD Cert.CupIdeal.τ).loc Cert.CupIdeal.main_arg0) = m ((c.tc : Thread Cert.CupIdeal.nD Cert.CupIdeal.τ).loc Cert.CupIdeal.main_arg0)
      ∧ r.2.mem ((c.tc : Thread Cert.CupIdeal.nD Cert.CupIdeal.τ).loc Cert.CupIdeal.main_arg1) = m ((c.tc : Thread Cert.CupIdeal.nD Cert.CupIdeal.τ).loc Cert.CupIdeal.main_arg1)
      ∧ r.2.mem ((c.tc : Thread Cert.CupIdeal.nD Cert.CupIdeal.τ).loc Cert.CupIdeal.main_arg2) = m ((c.tc : Thread Cert.CupIdeal.nD Cert.CupIdeal.τ).loc Cert.CupIdeal.main_arg2))
      ∧ r.2.sem = fun _ => 0)

def quiescent_CupRefIdeal [hCupRefIdeal : Cert.CupRefIdeal.Facts] : Prop :=
  ∀ (m : (ℓ : Loc Cert.CupRefIdeal.nD Cert.CupRefIdeal.τ Cert.CupRefIdeal.sig) → Buf (Elt Ideal) ℓ) (g : Dev Cert.CupRefIdeal.nD → PrngReg), Pre_CupRefIdeal m →
    θ_run (Cert.CupRefIdeal.defs (F := Ideal)) (onTc (τ := Cert.CupRefIdeal.τ) (Cert.CupRefIdeal.main (F := Ideal))) ⟨m, fun _ => 0, g⟩ (fun r => (∀ c : Dev Cert.CupRefIdeal.nD,
      r.2.mem ((c.tc : Thread Cert.CupRefIdeal.nD Cert.CupRefIdeal.τ).loc Cert.CupRefIdeal.main_arg0) = m ((c.tc : Thread Cert.CupRefIdeal.nD Cert.CupRefIdeal.τ).loc Cert.CupRefIdeal.main_arg0)
      ∧ r.2.mem ((c.tc : Thread Cert.CupRefIdeal.nD Cert.CupRefIdeal.τ).loc Cert.CupRefIdeal.main_arg1) = m ((c.tc : Thread Cert.CupRefIdeal.nD Cert.CupRefIdeal.τ).loc Cert.CupRefIdeal.main_arg1)
      ∧ r.2.mem ((c.tc : Thread Cert.CupRefIdeal.nD Cert.CupRefIdeal.τ).loc Cert.CupRefIdeal.main_arg2) = m ((c.tc : Thread Cert.CupRefIdeal.nD Cert.CupRefIdeal.τ).loc Cert.CupRefIdeal.main_arg2))
      ∧ r.2.sem = fun _ => 0)

def quiescent_Cdw [hCdw : Cert.Cdw.Facts] : Prop :=
  ∀ (m : (ℓ : Loc Cert.Cdw.nD Cert.Cdw.τ Cert.Cdw.sig) → Buf (Elt Bits) ℓ) (g : Dev Cert.Cdw.nD → PrngReg), Pre_Cdw m →
    θ_run (Cert.Cdw.defs (F := Bits)) (onTc (τ := Cert.Cdw.τ) (Cert.Cdw.main (F := Bits))) ⟨m, fun _ => 0, g⟩ (fun r => (∀ c : Dev Cert.Cdw.nD,
      r.2.mem ((c.tc : Thread Cert.Cdw.nD Cert.Cdw.τ).loc Cert.Cdw.main_arg0) = m ((c.tc : Thread Cert.Cdw.nD Cert.Cdw.τ).loc Cert.Cdw.main_arg0)
      ∧ r.2.mem ((c.tc : Thread Cert.Cdw.nD Cert.Cdw.τ).loc Cert.Cdw.main_arg1) = m ((c.tc : Thread Cert.Cdw.nD Cert.Cdw.τ).loc Cert.Cdw.main_arg1))
      ∧ r.2.sem = fun _ => 0)

def quiescent_CdwIdeal [hCdwIdeal : Cert.CdwIdeal.Facts] : Prop :=
  ∀ (m : (ℓ : Loc Cert.CdwIdeal.nD Cert.CdwIdeal.τ Cert.CdwIdeal.sig) → Buf (Elt Ideal) ℓ) (g : Dev Cert.CdwIdeal.nD → PrngReg), Pre_CdwIdeal m →
    θ_run (Cert.CdwIdeal.defs (F := Ideal)) (onTc (τ := Cert.CdwIdeal.τ) (Cert.CdwIdeal.main (F := Ideal))) ⟨m, fun _ => 0, g⟩ (fun r => (∀ c : Dev Cert.CdwIdeal.nD,
      r.2.mem ((c.tc : Thread Cert.CdwIdeal.nD Cert.CdwIdeal.τ).loc Cert.CdwIdeal.main_arg0) = m ((c.tc : Thread Cert.CdwIdeal.nD Cert.CdwIdeal.τ).loc Cert.CdwIdeal.main_arg0)
      ∧ r.2.mem ((c.tc : Thread Cert.CdwIdeal.nD Cert.CdwIdeal.τ).loc Cert.CdwIdeal.main_arg1) = m ((c.tc : Thread Cert.CdwIdeal.nD Cert.CdwIdeal.τ).loc Cert.CdwIdeal.main_arg1))
      ∧ r.2.sem = fun _ => 0)

def quiescent_CdwRefIdeal [hCdwRefIdeal : Cert.CdwRefIdeal.Facts] : Prop :=
  ∀ (m : (ℓ : Loc Cert.CdwRefIdeal.nD Cert.CdwRefIdeal.τ Cert.CdwRefIdeal.sig) → Buf (Elt Ideal) ℓ) (g : Dev Cert.CdwRefIdeal.nD → PrngReg), Pre_CdwRefIdeal m →
    θ_run (Cert.CdwRefIdeal.defs (F := Ideal)) (onTc (τ := Cert.CdwRefIdeal.τ) (Cert.CdwRefIdeal.main (F := Ideal))) ⟨m, fun _ => 0, g⟩ (fun r => (∀ c : Dev Cert.CdwRefIdeal.nD,
      r.2.mem ((c.tc : Thread Cert.CdwRefIdeal.nD Cert.CdwRefIdeal.τ).loc Cert.CdwRefIdeal.main_arg0) = m ((c.tc : Thread Cert.CdwRefIdeal.nD Cert.CdwRefIdeal.τ).loc Cert.CdwRefIdeal.main_arg0)
      ∧ r.2.mem ((c.tc : Thread Cert.CdwRefIdeal.nD Cert.CdwRefIdeal.τ).loc Cert.CdwRefIdeal.main_arg1) = m ((c.tc : Thread Cert.CdwRefIdeal.nD Cert.CdwRefIdeal.τ).loc Cert.CdwRefIdeal.main_arg1))
      ∧ r.2.sem = fun _ => 0)

def quiescent_Cout [hCout : Cert.Cout.Facts] : Prop :=
  ∀ (m : (ℓ : Loc Cert.Cout.nD Cert.Cout.τ Cert.Cout.sig) → Buf (Elt Bits) ℓ) (g : Dev Cert.Cout.nD → PrngReg), Pre_Cout m →
    θ_run (Cert.Cout.defs (F := Bits)) (onTc (τ := Cert.Cout.τ) (Cert.Cout.main (F := Bits))) ⟨m, fun _ => 0, g⟩ (fun r => (∀ c : Dev Cert.Cout.nD,
      r.2.mem ((c.tc : Thread Cert.Cout.nD Cert.Cout.τ).loc Cert.Cout.main_arg0) = m ((c.tc : Thread Cert.Cout.nD Cert.Cout.τ).loc Cert.Cout.main_arg0)
      ∧ r.2.mem ((c.tc : Thread Cert.Cout.nD Cert.Cout.τ).loc Cert.Cout.main_arg1) = m ((c.tc : Thread Cert.Cout.nD Cert.Cout.τ).loc Cert.Cout.main_arg1)
      ∧ r.2.mem ((c.tc : Thread Cert.Cout.nD Cert.Cout.τ).loc Cert.Cout.main_arg2) = m ((c.tc : Thread Cert.Cout.nD Cert.Cout.τ).loc Cert.Cout.main_arg2)
      ∧ r.2.mem ((c.tc : Thread Cert.Cout.nD Cert.Cout.τ).loc Cert.Cout.main_arg3) = m ((c.tc : Thread Cert.Cout.nD Cert.Cout.τ).loc Cert.Cout.main_arg3)
      ∧ r.2.mem ((c.tc : Thread Cert.Cout.nD Cert.Cout.τ).loc Cert.Cout.main_arg4) = m ((c.tc : Thread Cert.Cout.nD Cert.Cout.τ).loc Cert.Cout.main_arg4))
      ∧ r.2.sem = fun _ => 0)

def quiescent_CoutIdeal [hCoutIdeal : Cert.CoutIdeal.Facts] : Prop :=
  ∀ (m : (ℓ : Loc Cert.CoutIdeal.nD Cert.CoutIdeal.τ Cert.CoutIdeal.sig) → Buf (Elt Ideal) ℓ) (g : Dev Cert.CoutIdeal.nD → PrngReg), Pre_CoutIdeal m →
    θ_run (Cert.CoutIdeal.defs (F := Ideal)) (onTc (τ := Cert.CoutIdeal.τ) (Cert.CoutIdeal.main (F := Ideal))) ⟨m, fun _ => 0, g⟩ (fun r => (∀ c : Dev Cert.CoutIdeal.nD,
      r.2.mem ((c.tc : Thread Cert.CoutIdeal.nD Cert.CoutIdeal.τ).loc Cert.CoutIdeal.main_arg0) = m ((c.tc : Thread Cert.CoutIdeal.nD Cert.CoutIdeal.τ).loc Cert.CoutIdeal.main_arg0)
      ∧ r.2.mem ((c.tc : Thread Cert.CoutIdeal.nD Cert.CoutIdeal.τ).loc Cert.CoutIdeal.main_arg1) = m ((c.tc : Thread Cert.CoutIdeal.nD Cert.CoutIdeal.τ).loc Cert.CoutIdeal.main_arg1)
      ∧ r.2.mem ((c.tc : Thread Cert.CoutIdeal.nD Cert.CoutIdeal.τ).loc Cert.CoutIdeal.main_arg2) = m ((c.tc : Thread Cert.CoutIdeal.nD Cert.CoutIdeal.τ).loc Cert.CoutIdeal.main_arg2)
      ∧ r.2.mem ((c.tc : Thread Cert.CoutIdeal.nD Cert.CoutIdeal.τ).loc Cert.CoutIdeal.main_arg3) = m ((c.tc : Thread Cert.CoutIdeal.nD Cert.CoutIdeal.τ).loc Cert.CoutIdeal.main_arg3)
      ∧ r.2.mem ((c.tc : Thread Cert.CoutIdeal.nD Cert.CoutIdeal.τ).loc Cert.CoutIdeal.main_arg4) = m ((c.tc : Thread Cert.CoutIdeal.nD Cert.CoutIdeal.τ).loc Cert.CoutIdeal.main_arg4))
      ∧ r.2.sem = fun _ => 0)

def quiescent_CoutRefIdeal [hCoutRefIdeal : Cert.CoutRefIdeal.Facts] : Prop :=
  ∀ (m : (ℓ : Loc Cert.CoutRefIdeal.nD Cert.CoutRefIdeal.τ Cert.CoutRefIdeal.sig) → Buf (Elt Ideal) ℓ) (g : Dev Cert.CoutRefIdeal.nD → PrngReg), Pre_CoutRefIdeal m →
    θ_run (Cert.CoutRefIdeal.defs (F := Ideal)) (onTc (τ := Cert.CoutRefIdeal.τ) (Cert.CoutRefIdeal.main (F := Ideal))) ⟨m, fun _ => 0, g⟩ (fun r => (∀ c : Dev Cert.CoutRefIdeal.nD,
      r.2.mem ((c.tc : Thread Cert.CoutRefIdeal.nD Cert.CoutRefIdeal.τ).loc Cert.CoutRefIdeal.main_arg0) = m ((c.tc : Thread Cert.CoutRefIdeal.nD Cert.CoutRefIdeal.τ).loc Cert.CoutRefIdeal.main_arg0)
      ∧ r.2.mem ((c.tc : Thread Cert.CoutRefIdeal.nD Cert.CoutRefIdeal.τ).loc Cert.CoutRefIdeal.main_arg1) = m ((c.tc : Thread Cert.CoutRefIdeal.nD Cert.CoutRefIdeal.τ).loc Cert.CoutRefIdeal.main_arg1)
      ∧ r.2.mem ((c.tc : Thread Cert.CoutRefIdeal.nD Cert.CoutRefIdeal.τ).loc Cert.CoutRefIdeal.main_arg2) = m ((c.tc : Thread Cert.CoutRefIdeal.nD Cert.CoutRefIdeal.τ).loc Cert.CoutRefIdeal.main_arg2)
      ∧ r.2.mem ((c.tc : Thread Cert.CoutRefIdeal.nD Cert.CoutRefIdeal.τ).loc Cert.CoutRefIdeal.main_arg3) = m ((c.tc : Thread Cert.CoutRefIdeal.nD Cert.CoutRefIdeal.τ).loc Cert.CoutRefIdeal.main_arg3)
      ∧ r.2.mem ((c.tc : Thread Cert.CoutRefIdeal.nD Cert.CoutRefIdeal.τ).loc Cert.CoutRefIdeal.main_arg4) = m ((c.tc : Thread Cert.CoutRefIdeal.nD Cert.CoutRefIdeal.τ).loc Cert.CoutRefIdeal.main_arg4))
      ∧ r.2.sem = fun _ => 0)

def quiescent_Sdn [hSdn : Cert.Sdn.Facts] : Prop :=
  ∀ (m : (ℓ : Loc Cert.Sdn.nD Cert.Sdn.τ Cert.Sdn.sig) → Buf (Elt Bits) ℓ) (g : Dev Cert.Sdn.nD → PrngReg), Pre_Sdn m →
    θ_run (Cert.Sdn.defs (F := Bits)) (onTc (τ := Cert.Sdn.τ) (Cert.Sdn.main (F := Bits))) ⟨m, fun _ => 0, g⟩ (fun r => (∀ c : Dev Cert.Sdn.nD,
      r.2.mem ((c.tc : Thread Cert.Sdn.nD Cert.Sdn.τ).loc Cert.Sdn.main_arg0) = m ((c.tc : Thread Cert.Sdn.nD Cert.Sdn.τ).loc Cert.Sdn.main_arg0)
      ∧ r.2.mem ((c.tc : Thread Cert.Sdn.nD Cert.Sdn.τ).loc Cert.Sdn.main_arg1) = m ((c.tc : Thread Cert.Sdn.nD Cert.Sdn.τ).loc Cert.Sdn.main_arg1)
      ∧ r.2.mem ((c.tc : Thread Cert.Sdn.nD Cert.Sdn.τ).loc Cert.Sdn.main_arg2) = m ((c.tc : Thread Cert.Sdn.nD Cert.Sdn.τ).loc Cert.Sdn.main_arg2)
      ∧ r.2.mem ((c.tc : Thread Cert.Sdn.nD Cert.Sdn.τ).loc Cert.Sdn.main_arg3) = m ((c.tc : Thread Cert.Sdn.nD Cert.Sdn.τ).loc Cert.Sdn.main_arg3)
      ∧ r.2.mem ((c.tc : Thread Cert.Sdn.nD Cert.Sdn.τ).loc Cert.Sdn.main_arg4) = m ((c.tc : Thread Cert.Sdn.nD Cert.Sdn.τ).loc Cert.Sdn.main_arg4))
      ∧ r.2.sem = fun _ => 0)

def quiescent_SdnIdeal [hSdnIdeal : Cert.SdnIdeal.Facts] : Prop :=
  ∀ (m : (ℓ : Loc Cert.SdnIdeal.nD Cert.SdnIdeal.τ Cert.SdnIdeal.sig) → Buf (Elt Ideal) ℓ) (g : Dev Cert.SdnIdeal.nD → PrngReg), Pre_SdnIdeal m →
    θ_run (Cert.SdnIdeal.defs (F := Ideal)) (onTc (τ := Cert.SdnIdeal.τ) (Cert.SdnIdeal.main (F := Ideal))) ⟨m, fun _ => 0, g⟩ (fun r => (∀ c : Dev Cert.SdnIdeal.nD,
      r.2.mem ((c.tc : Thread Cert.SdnIdeal.nD Cert.SdnIdeal.τ).loc Cert.SdnIdeal.main_arg0) = m ((c.tc : Thread Cert.SdnIdeal.nD Cert.SdnIdeal.τ).loc Cert.SdnIdeal.main_arg0)
      ∧ r.2.mem ((c.tc : Thread Cert.SdnIdeal.nD Cert.SdnIdeal.τ).loc Cert.SdnIdeal.main_arg1) = m ((c.tc : Thread Cert.SdnIdeal.nD Cert.SdnIdeal.τ).loc Cert.SdnIdeal.main_arg1)
      ∧ r.2.mem ((c.tc : Thread Cert.SdnIdeal.nD Cert.SdnIdeal.τ).loc Cert.SdnIdeal.main_arg2) = m ((c.tc : Thread Cert.SdnIdeal.nD Cert.SdnIdeal.τ).loc Cert.SdnIdeal.main_arg2)
      ∧ r.2.mem ((c.tc : Thread Cert.SdnIdeal.nD Cert.SdnIdeal.τ).loc Cert.SdnIdeal.main_arg3) = m ((c.tc : Thread Cert.SdnIdeal.nD Cert.SdnIdeal.τ).loc Cert.SdnIdeal.main_arg3)
      ∧ r.2.mem ((c.tc : Thread Cert.SdnIdeal.nD Cert.SdnIdeal.τ).loc Cert.SdnIdeal.main_arg4) = m ((c.tc : Thread Cert.SdnIdeal.nD Cert.SdnIdeal.τ).loc Cert.SdnIdeal.main_arg4))
      ∧ r.2.sem = fun _ => 0)

def quiescent_SdnRefIdeal [hSdnRefIdeal : Cert.SdnRefIdeal.Facts] : Prop :=
  ∀ (m : (ℓ : Loc Cert.SdnRefIdeal.nD Cert.SdnRefIdeal.τ Cert.SdnRefIdeal.sig) → Buf (Elt Ideal) ℓ) (g : Dev Cert.SdnRefIdeal.nD → PrngReg), Pre_SdnRefIdeal m →
    θ_run (Cert.SdnRefIdeal.defs (F := Ideal)) (onTc (τ := Cert.SdnRefIdeal.τ) (Cert.SdnRefIdeal.main (F := Ideal))) ⟨m, fun _ => 0, g⟩ (fun r => (∀ c : Dev Cert.SdnRefIdeal.nD,
      r.2.mem ((c.tc : Thread Cert.SdnRefIdeal.nD Cert.SdnRefIdeal.τ).loc Cert.SdnRefIdeal.main_arg0) = m ((c.tc : Thread Cert.SdnRefIdeal.nD Cert.SdnRefIdeal.τ).loc Cert.SdnRefIdeal.main_arg0)
      ∧ r.2.mem ((c.tc : Thread Cert.SdnRefIdeal.nD Cert.SdnRefIdeal.τ).loc Cert.SdnRefIdeal.main_arg1) = m ((c.tc : Thread Cert.SdnRefIdeal.nD Cert.SdnRefIdeal.τ).loc Cert.SdnRefIdeal.main_arg1)
      ∧ r.2.mem ((c.tc : Thread Cert.SdnRefIdeal.nD Cert.SdnRefIdeal.τ).loc Cert.SdnRefIdeal.main_arg2) = m ((c.tc : Thread Cert.SdnRefIdeal.nD Cert.SdnRefIdeal.τ).loc Cert.SdnRefIdeal.main_arg2)
      ∧ r.2.mem ((c.tc : Thread Cert.SdnRefIdeal.nD Cert.SdnRefIdeal.τ).loc Cert.SdnRefIdeal.main_arg3) = m ((c.tc : Thread Cert.SdnRefIdeal.nD Cert.SdnRefIdeal.τ).loc Cert.SdnRefIdeal.main_arg3)
      ∧ r.2.mem ((c.tc : Thread Cert.SdnRefIdeal.nD Cert.SdnRefIdeal.τ).loc Cert.SdnRefIdeal.main_arg4) = m ((c.tc : Thread Cert.SdnRefIdeal.nD Cert.SdnRefIdeal.τ).loc Cert.SdnRefIdeal.main_arg4))
      ∧ r.2.sem = fun _ => 0)

def quiescent_Cdn [hCdn : Cert.Cdn.Facts] : Prop :=
  ∀ (m : (ℓ : Loc Cert.Cdn.nD Cert.Cdn.τ Cert.Cdn.sig) → Buf (Elt Bits) ℓ) (g : Dev Cert.Cdn.nD → PrngReg), Pre_Cdn m →
    θ_run (Cert.Cdn.defs (F := Bits)) (onTc (τ := Cert.Cdn.τ) (Cert.Cdn.main (F := Bits))) ⟨m, fun _ => 0, g⟩ (fun r => (∀ c : Dev Cert.Cdn.nD,
      r.2.mem ((c.tc : Thread Cert.Cdn.nD Cert.Cdn.τ).loc Cert.Cdn.main_arg0) = m ((c.tc : Thread Cert.Cdn.nD Cert.Cdn.τ).loc Cert.Cdn.main_arg0)
      ∧ r.2.mem ((c.tc : Thread Cert.Cdn.nD Cert.Cdn.τ).loc Cert.Cdn.main_arg1) = m ((c.tc : Thread Cert.Cdn.nD Cert.Cdn.τ).loc Cert.Cdn.main_arg1)
      ∧ r.2.mem ((c.tc : Thread Cert.Cdn.nD Cert.Cdn.τ).loc Cert.Cdn.main_arg2) = m ((c.tc : Thread Cert.Cdn.nD Cert.Cdn.τ).loc Cert.Cdn.main_arg2)
      ∧ r.2.mem ((c.tc : Thread Cert.Cdn.nD Cert.Cdn.τ).loc Cert.Cdn.main_arg3) = m ((c.tc : Thread Cert.Cdn.nD Cert.Cdn.τ).loc Cert.Cdn.main_arg3)
      ∧ r.2.mem ((c.tc : Thread Cert.Cdn.nD Cert.Cdn.τ).loc Cert.Cdn.main_arg4) = m ((c.tc : Thread Cert.Cdn.nD Cert.Cdn.τ).loc Cert.Cdn.main_arg4))
      ∧ r.2.sem = fun _ => 0)

def quiescent_CdnIdeal [hCdnIdeal : Cert.CdnIdeal.Facts] : Prop :=
  ∀ (m : (ℓ : Loc Cert.CdnIdeal.nD Cert.CdnIdeal.τ Cert.CdnIdeal.sig) → Buf (Elt Ideal) ℓ) (g : Dev Cert.CdnIdeal.nD → PrngReg), Pre_CdnIdeal m →
    θ_run (Cert.CdnIdeal.defs (F := Ideal)) (onTc (τ := Cert.CdnIdeal.τ) (Cert.CdnIdeal.main (F := Ideal))) ⟨m, fun _ => 0, g⟩ (fun r => (∀ c : Dev Cert.CdnIdeal.nD,
      r.2.mem ((c.tc : Thread Cert.CdnIdeal.nD Cert.CdnIdeal.τ).loc Cert.CdnIdeal.main_arg0) = m ((c.tc : Thread Cert.CdnIdeal.nD Cert.CdnIdeal.τ).loc Cert.CdnIdeal.main_arg0)
      ∧ r.2.mem ((c.tc : Thread Cert.CdnIdeal.nD Cert.CdnIdeal.τ).loc Cert.CdnIdeal.main_arg1) = m ((c.tc : Thread Cert.CdnIdeal.nD Cert.CdnIdeal.τ).loc Cert.CdnIdeal.main_arg1)
      ∧ r.2.mem ((c.tc : Thread Cert.CdnIdeal.nD Cert.CdnIdeal.τ).loc Cert.CdnIdeal.main_arg2) = m ((c.tc : Thread Cert.CdnIdeal.nD Cert.CdnIdeal.τ).loc Cert.CdnIdeal.main_arg2)
      ∧ r.2.mem ((c.tc : Thread Cert.CdnIdeal.nD Cert.CdnIdeal.τ).loc Cert.CdnIdeal.main_arg3) = m ((c.tc : Thread Cert.CdnIdeal.nD Cert.CdnIdeal.τ).loc Cert.CdnIdeal.main_arg3)
      ∧ r.2.mem ((c.tc : Thread Cert.CdnIdeal.nD Cert.CdnIdeal.τ).loc Cert.CdnIdeal.main_arg4) = m ((c.tc : Thread Cert.CdnIdeal.nD Cert.CdnIdeal.τ).loc Cert.CdnIdeal.main_arg4))
      ∧ r.2.sem = fun _ => 0)

def quiescent_CdnRefIdeal [hCdnRefIdeal : Cert.CdnRefIdeal.Facts] : Prop :=
  ∀ (m : (ℓ : Loc Cert.CdnRefIdeal.nD Cert.CdnRefIdeal.τ Cert.CdnRefIdeal.sig) → Buf (Elt Ideal) ℓ) (g : Dev Cert.CdnRefIdeal.nD → PrngReg), Pre_CdnRefIdeal m →
    θ_run (Cert.CdnRefIdeal.defs (F := Ideal)) (onTc (τ := Cert.CdnRefIdeal.τ) (Cert.CdnRefIdeal.main (F := Ideal))) ⟨m, fun _ => 0, g⟩ (fun r => (∀ c : Dev Cert.CdnRefIdeal.nD,
      r.2.mem ((c.tc : Thread Cert.CdnRefIdeal.nD Cert.CdnRefIdeal.τ).loc Cert.CdnRefIdeal.main_arg0) = m ((c.tc : Thread Cert.CdnRefIdeal.nD Cert.CdnRefIdeal.τ).loc Cert.CdnRefIdeal.main_arg0)
      ∧ r.2.mem ((c.tc : Thread Cert.CdnRefIdeal.nD Cert.CdnRefIdeal.τ).loc Cert.CdnRefIdeal.main_arg1) = m ((c.tc : Thread Cert.CdnRefIdeal.nD Cert.CdnRefIdeal.τ).loc Cert.CdnRefIdeal.main_arg1)
      ∧ r.2.mem ((c.tc : Thread Cert.CdnRefIdeal.nD Cert.CdnRefIdeal.τ).loc Cert.CdnRefIdeal.main_arg2) = m ((c.tc : Thread Cert.CdnRefIdeal.nD Cert.CdnRefIdeal.τ).loc Cert.CdnRefIdeal.main_arg2)
      ∧ r.2.mem ((c.tc : Thread Cert.CdnRefIdeal.nD Cert.CdnRefIdeal.τ).loc Cert.CdnRefIdeal.main_arg3) = m ((c.tc : Thread Cert.CdnRefIdeal.nD Cert.CdnRefIdeal.τ).loc Cert.CdnRefIdeal.main_arg3)
      ∧ r.2.mem ((c.tc : Thread Cert.CdnRefIdeal.nD Cert.CdnRefIdeal.τ).loc Cert.CdnRefIdeal.main_arg4) = m ((c.tc : Thread Cert.CdnRefIdeal.nD Cert.CdnRefIdeal.τ).loc Cert.CdnRefIdeal.main_arg4))
      ∧ r.2.sem = fun _ => 0)

def quiescent_Tdn [hTdn : Cert.Tdn.Facts] : Prop :=
  ∀ (m : (ℓ : Loc Cert.Tdn.nD Cert.Tdn.τ Cert.Tdn.sig) → Buf (Elt Bits) ℓ) (g : Dev Cert.Tdn.nD → PrngReg), Pre_Tdn m →
    θ_run (Cert.Tdn.defs (F := Bits)) (onTc (τ := Cert.Tdn.τ) (Cert.Tdn.main (F := Bits))) ⟨m, fun _ => 0, g⟩ (fun r => (∀ c : Dev Cert.Tdn.nD,
      r.2.mem ((c.tc : Thread Cert.Tdn.nD Cert.Tdn.τ).loc Cert.Tdn.main_arg0) = m ((c.tc : Thread Cert.Tdn.nD Cert.Tdn.τ).loc Cert.Tdn.main_arg0)
      ∧ r.2.mem ((c.tc : Thread Cert.Tdn.nD Cert.Tdn.τ).loc Cert.Tdn.main_arg1) = m ((c.tc : Thread Cert.Tdn.nD Cert.Tdn.τ).loc Cert.Tdn.main_arg1)
      ∧ r.2.mem ((c.tc : Thread Cert.Tdn.nD Cert.Tdn.τ).loc Cert.Tdn.main_arg2) = m ((c.tc : Thread Cert.Tdn.nD Cert.Tdn.τ).loc Cert.Tdn.main_arg2)
      ∧ r.2.mem ((c.tc : Thread Cert.Tdn.nD Cert.Tdn.τ).loc Cert.Tdn.main_arg3) = m ((c.tc : Thread Cert.Tdn.nD Cert.Tdn.τ).loc Cert.Tdn.main_arg3)
      ∧ r.2.mem ((c.tc : Thread Cert.Tdn.nD Cert.Tdn.τ).loc Cert.Tdn.main_arg4) = m ((c.tc : Thread Cert.Tdn.nD Cert.Tdn.τ).loc Cert.Tdn.main_arg4)
      ∧ r.2.mem ((c.tc : Thread Cert.Tdn.nD Cert.Tdn.τ).loc Cert.Tdn.main_arg5) = m ((c.tc : Thread Cert.Tdn.nD Cert.Tdn.τ).loc Cert.Tdn.main_arg5)
      ∧ r.2.mem ((c.tc : Thread Cert.Tdn.nD Cert.Tdn.τ).loc Cert.Tdn.main_arg6) = m ((c.tc : Thread Cert.Tdn.nD Cert.Tdn.τ).loc Cert.Tdn.main_arg6))
      ∧ r.2.sem = fun _ => 0)

def quiescent_TdnIdeal [hTdnIdeal : Cert.TdnIdeal.Facts] : Prop :=
  ∀ (m : (ℓ : Loc Cert.TdnIdeal.nD Cert.TdnIdeal.τ Cert.TdnIdeal.sig) → Buf (Elt Ideal) ℓ) (g : Dev Cert.TdnIdeal.nD → PrngReg), Pre_TdnIdeal m →
    θ_run (Cert.TdnIdeal.defs (F := Ideal)) (onTc (τ := Cert.TdnIdeal.τ) (Cert.TdnIdeal.main (F := Ideal))) ⟨m, fun _ => 0, g⟩ (fun r => (∀ c : Dev Cert.TdnIdeal.nD,
      r.2.mem ((c.tc : Thread Cert.TdnIdeal.nD Cert.TdnIdeal.τ).loc Cert.TdnIdeal.main_arg0) = m ((c.tc : Thread Cert.TdnIdeal.nD Cert.TdnIdeal.τ).loc Cert.TdnIdeal.main_arg0)
      ∧ r.2.mem ((c.tc : Thread Cert.TdnIdeal.nD Cert.TdnIdeal.τ).loc Cert.TdnIdeal.main_arg1) = m ((c.tc : Thread Cert.TdnIdeal.nD Cert.TdnIdeal.τ).loc Cert.TdnIdeal.main_arg1)
      ∧ r.2.mem ((c.tc : Thread Cert.TdnIdeal.nD Cert.TdnIdeal.τ).loc Cert.TdnIdeal.main_arg2) = m ((c.tc : Thread Cert.TdnIdeal.nD Cert.TdnIdeal.τ).loc Cert.TdnIdeal.main_arg2)
      ∧ r.2.mem ((c.tc : Thread Cert.TdnIdeal.nD Cert.TdnIdeal.τ).loc Cert.TdnIdeal.main_arg3) = m ((c.tc : Thread Cert.TdnIdeal.nD Cert.TdnIdeal.τ).loc Cert.TdnIdeal.main_arg3)
      ∧ r.2.mem ((c.tc : Thread Cert.TdnIdeal.nD Cert.TdnIdeal.τ).loc Cert.TdnIdeal.main_arg4) = m ((c.tc : Thread Cert.TdnIdeal.nD Cert.TdnIdeal.τ).loc Cert.TdnIdeal.main_arg4)
      ∧ r.2.mem ((c.tc : Thread Cert.TdnIdeal.nD Cert.TdnIdeal.τ).loc Cert.TdnIdeal.main_arg5) = m ((c.tc : Thread Cert.TdnIdeal.nD Cert.TdnIdeal.τ).loc Cert.TdnIdeal.main_arg5)
      ∧ r.2.mem ((c.tc : Thread Cert.TdnIdeal.nD Cert.TdnIdeal.τ).loc Cert.TdnIdeal.main_arg6) = m ((c.tc : Thread Cert.TdnIdeal.nD Cert.TdnIdeal.τ).loc Cert.TdnIdeal.main_arg6))
      ∧ r.2.sem = fun _ => 0)

def quiescent_TdnRefIdeal [hTdnRefIdeal : Cert.TdnRefIdeal.Facts] : Prop :=
  ∀ (m : (ℓ : Loc Cert.TdnRefIdeal.nD Cert.TdnRefIdeal.τ Cert.TdnRefIdeal.sig) → Buf (Elt Ideal) ℓ) (g : Dev Cert.TdnRefIdeal.nD → PrngReg), Pre_TdnRefIdeal m →
    θ_run (Cert.TdnRefIdeal.defs (F := Ideal)) (onTc (τ := Cert.TdnRefIdeal.τ) (Cert.TdnRefIdeal.main (F := Ideal))) ⟨m, fun _ => 0, g⟩ (fun r => (∀ c : Dev Cert.TdnRefIdeal.nD,
      r.2.mem ((c.tc : Thread Cert.TdnRefIdeal.nD Cert.TdnRefIdeal.τ).loc Cert.TdnRefIdeal.main_arg0) = m ((c.tc : Thread Cert.TdnRefIdeal.nD Cert.TdnRefIdeal.τ).loc Cert.TdnRefIdeal.main_arg0)
      ∧ r.2.mem ((c.tc : Thread Cert.TdnRefIdeal.nD Cert.TdnRefIdeal.τ).loc Cert.TdnRefIdeal.main_arg1) = m ((c.tc : Thread Cert.TdnRefIdeal.nD Cert.TdnRefIdeal.τ).loc Cert.TdnRefIdeal.main_arg1)
      ∧ r.2.mem ((c.tc : Thread Cert.TdnRefIdeal.nD Cert.TdnRefIdeal.τ).loc Cert.TdnRefIdeal.main_arg2) = m ((c.tc : Thread Cert.TdnRefIdeal.nD Cert.TdnRefIdeal.τ).loc Cert.TdnRefIdeal.main_arg2)
      ∧ r.2.mem ((c.tc : Thread Cert.TdnRefIdeal.nD Cert.TdnRefIdeal.τ).loc Cert.TdnRefIdeal.main_arg3) = m ((c.tc : Thread Cert.TdnRefIdeal.nD Cert.TdnRefIdeal.τ).loc Cert.TdnRefIdeal.main_arg3)
      ∧ r.2.mem ((c.tc : Thread Cert.TdnRefIdeal.nD Cert.TdnRefIdeal.τ).loc Cert.TdnRefIdeal.main_arg4) = m ((c.tc : Thread Cert.TdnRefIdeal.nD Cert.TdnRefIdeal.τ).loc Cert.TdnRefIdeal.main_arg4)
      ∧ r.2.mem ((c.tc : Thread Cert.TdnRefIdeal.nD Cert.TdnRefIdeal.τ).loc Cert.TdnRefIdeal.main_arg5) = m ((c.tc : Thread Cert.TdnRefIdeal.nD Cert.TdnRefIdeal.τ).loc Cert.TdnRefIdeal.main_arg5)
      ∧ r.2.mem ((c.tc : Thread Cert.TdnRefIdeal.nD Cert.TdnRefIdeal.τ).loc Cert.TdnRefIdeal.main_arg6) = m ((c.tc : Thread Cert.TdnRefIdeal.nD Cert.TdnRefIdeal.τ).loc Cert.TdnRefIdeal.main_arg6))
      ∧ r.2.sem = fun _ => 0)

def quiescent_Afw [hAfw : Cert.Afw.Facts] : Prop :=
  ∀ (m : (ℓ : Loc Cert.Afw.nD Cert.Afw.τ Cert.Afw.sig) → Buf (Elt Bits) ℓ) (g : Dev Cert.Afw.nD → PrngReg), Pre_Afw m →
    θ_run (Cert.Afw.defs (F := Bits)) (onTc (τ := Cert.Afw.τ) (Cert.Afw.main (F := Bits))) ⟨m, fun _ => 0, g⟩ (fun r => (∀ c : Dev Cert.Afw.nD,
      r.2.mem ((c.tc : Thread Cert.Afw.nD Cert.Afw.τ).loc Cert.Afw.main_arg0) = m ((c.tc : Thread Cert.Afw.nD Cert.Afw.τ).loc Cert.Afw.main_arg0)
      ∧ r.2.mem ((c.tc : Thread Cert.Afw.nD Cert.Afw.τ).loc Cert.Afw.main_arg1) = m ((c.tc : Thread Cert.Afw.nD Cert.Afw.τ).loc Cert.Afw.main_arg1)
      ∧ r.2.mem ((c.tc : Thread Cert.Afw.nD Cert.Afw.τ).loc Cert.Afw.main_arg2) = m ((c.tc : Thread Cert.Afw.nD Cert.Afw.τ).loc Cert.Afw.main_arg2))
      ∧ r.2.sem = fun _ => 0)

def quiescent_AfwIdeal [hAfwIdeal : Cert.AfwIdeal.Facts] : Prop :=
  ∀ (m : (ℓ : Loc Cert.AfwIdeal.nD Cert.AfwIdeal.τ Cert.AfwIdeal.sig) → Buf (Elt Ideal) ℓ) (g : Dev Cert.AfwIdeal.nD → PrngReg), Pre_AfwIdeal m →
    θ_run (Cert.AfwIdeal.defs (F := Ideal)) (onTc (τ := Cert.AfwIdeal.τ) (Cert.AfwIdeal.main (F := Ideal))) ⟨m, fun _ => 0, g⟩ (fun r => (∀ c : Dev Cert.AfwIdeal.nD,
      r.2.mem ((c.tc : Thread Cert.AfwIdeal.nD Cert.AfwIdeal.τ).loc Cert.AfwIdeal.main_arg0) = m ((c.tc : Thread Cert.AfwIdeal.nD Cert.AfwIdeal.τ).loc Cert.AfwIdeal.main_arg0)
      ∧ r.2.mem ((c.tc : Thread Cert.AfwIdeal.nD Cert.AfwIdeal.τ).loc Cert.AfwIdeal.main_arg1) = m ((c.tc : Thread Cert.AfwIdeal.nD Cert.AfwIdeal.τ).loc Cert.AfwIdeal.main_arg1)
      ∧ r.2.mem ((c.tc : Thread Cert.AfwIdeal.nD Cert.AfwIdeal.τ).loc Cert.AfwIdeal.main_arg2) = m ((c.tc : Thread Cert.AfwIdeal.nD Cert.AfwIdeal.τ).loc Cert.AfwIdeal.main_arg2))
      ∧ r.2.sem = fun _ => 0)

def quiescent_AfwRefIdeal [hAfwRefIdeal : Cert.AfwRefIdeal.Facts] : Prop :=
  ∀ (m : (ℓ : Loc Cert.AfwRefIdeal.nD Cert.AfwRefIdeal.τ Cert.AfwRefIdeal.sig) → Buf (Elt Ideal) ℓ) (g : Dev Cert.AfwRefIdeal.nD → PrngReg), Pre_AfwRefIdeal m →
    θ_run (Cert.AfwRefIdeal.defs (F := Ideal)) (onTc (τ := Cert.AfwRefIdeal.τ) (Cert.AfwRefIdeal.main (F := Ideal))) ⟨m, fun _ => 0, g⟩ (fun r => (∀ c : Dev Cert.AfwRefIdeal.nD,
      r.2.mem ((c.tc : Thread Cert.AfwRefIdeal.nD Cert.AfwRefIdeal.τ).loc Cert.AfwRefIdeal.main_arg0) = m ((c.tc : Thread Cert.AfwRefIdeal.nD Cert.AfwRefIdeal.τ).loc Cert.AfwRefIdeal.main_arg0)
      ∧ r.2.mem ((c.tc : Thread Cert.AfwRefIdeal.nD Cert.AfwRefIdeal.τ).loc Cert.AfwRefIdeal.main_arg1) = m ((c.tc : Thread Cert.AfwRefIdeal.nD Cert.AfwRefIdeal.τ).loc Cert.AfwRefIdeal.main_arg1)
      ∧ r.2.mem ((c.tc : Thread Cert.AfwRefIdeal.nD Cert.AfwRefIdeal.τ).loc Cert.AfwRefIdeal.main_arg2) = m ((c.tc : Thread Cert.AfwRefIdeal.nD Cert.AfwRefIdeal.τ).loc Cert.AfwRefIdeal.main_arg2))
      ∧ r.2.sem = fun _ => 0)

def quiescent_Tdp [hTdp : Cert.Tdp.Facts] : Prop :=
  ∀ (m : (ℓ : Loc Cert.Tdp.nD Cert.Tdp.τ Cert.Tdp.sig) → Buf (Elt Bits) ℓ) (g : Dev Cert.Tdp.nD → PrngReg), Pre_Tdp m →
    θ_run (Cert.Tdp.defs (F := Bits)) (onTc (τ := Cert.Tdp.τ) (Cert.Tdp.main (F := Bits))) ⟨m, fun _ => 0, g⟩ (fun r => (∀ c : Dev Cert.Tdp.nD,
      r.2.mem ((c.tc : Thread Cert.Tdp.nD Cert.Tdp.τ).loc Cert.Tdp.main_arg0) = m ((c.tc : Thread Cert.Tdp.nD Cert.Tdp.τ).loc Cert.Tdp.main_arg0)
      ∧ r.2.mem ((c.tc : Thread Cert.Tdp.nD Cert.Tdp.τ).loc Cert.Tdp.main_arg1) = m ((c.tc : Thread Cert.Tdp.nD Cert.Tdp.τ).loc Cert.Tdp.main_arg1))
      ∧ r.2.sem = fun _ => 0)

def quiescent_TdpIdeal [hTdpIdeal : Cert.TdpIdeal.Facts] : Prop :=
  ∀ (m : (ℓ : Loc Cert.TdpIdeal.nD Cert.TdpIdeal.τ Cert.TdpIdeal.sig) → Buf (Elt Ideal) ℓ) (g : Dev Cert.TdpIdeal.nD → PrngReg), Pre_TdpIdeal m →
    θ_run (Cert.TdpIdeal.defs (F := Ideal)) (onTc (τ := Cert.TdpIdeal.τ) (Cert.TdpIdeal.main (F := Ideal))) ⟨m, fun _ => 0, g⟩ (fun r => (∀ c : Dev Cert.TdpIdeal.nD,
      r.2.mem ((c.tc : Thread Cert.TdpIdeal.nD Cert.TdpIdeal.τ).loc Cert.TdpIdeal.main_arg0) = m ((c.tc : Thread Cert.TdpIdeal.nD Cert.TdpIdeal.τ).loc Cert.TdpIdeal.main_arg0)
      ∧ r.2.mem ((c.tc : Thread Cert.TdpIdeal.nD Cert.TdpIdeal.τ).loc Cert.TdpIdeal.main_arg1) = m ((c.tc : Thread Cert.TdpIdeal.nD Cert.TdpIdeal.τ).loc Cert.TdpIdeal.main_arg1))
      ∧ r.2.sem = fun _ => 0)

def quiescent_TdpRefIdeal [hTdpRefIdeal : Cert.TdpRefIdeal.Facts] : Prop :=
  ∀ (m : (ℓ : Loc Cert.TdpRefIdeal.nD Cert.TdpRefIdeal.τ Cert.TdpRefIdeal.sig) → Buf (Elt Ideal) ℓ) (g : Dev Cert.TdpRefIdeal.nD → PrngReg), Pre_TdpRefIdeal m →
    θ_run (Cert.TdpRefIdeal.defs (F := Ideal)) (onTc (τ := Cert.TdpRefIdeal.τ) (Cert.TdpRefIdeal.main (F := Ideal))) ⟨m, fun _ => 0, g⟩ (fun r => (∀ c : Dev Cert.TdpRefIdeal.nD,
      r.2.mem ((c.tc : Thread Cert.TdpRefIdeal.nD Cert.TdpRefIdeal.τ).loc Cert.TdpRefIdeal.main_arg0) = m ((c.tc : Thread Cert.TdpRefIdeal.nD Cert.TdpRefIdeal.τ).loc Cert.TdpRefIdeal.main_arg0)
      ∧ r.2.mem ((c.tc : Thread Cert.TdpRefIdeal.nD Cert.TdpRefIdeal.τ).loc Cert.TdpRefIdeal.main_arg1) = m ((c.tc : Thread Cert.TdpRefIdeal.nD Cert.TdpRefIdeal.τ).loc Cert.TdpRefIdeal.main_arg1))
      ∧ r.2.sem = fun _ => 0)

def quiescent_Mk [hMk : Cert.Mk.Facts] : Prop :=
  ∀ (m : (ℓ : Loc Cert.Mk.nD Cert.Mk.τ Cert.Mk.sig) → Buf (Elt Bits) ℓ) (g : Dev Cert.Mk.nD → PrngReg), Pre_Mk m →
    θ_run (Cert.Mk.defs (F := Bits)) (onTc (τ := Cert.Mk.τ) (Cert.Mk.main (F := Bits))) ⟨m, fun _ => 0, g⟩ (fun r => (∀ c : Dev Cert.Mk.nD,
      r.2.mem ((c.tc : Thread Cert.Mk.nD Cert.Mk.τ).loc Cert.Mk.main_arg0) = m ((c.tc : Thread Cert.Mk.nD Cert.Mk.τ).loc Cert.Mk.main_arg0)
      ∧ r.2.mem ((c.tc : Thread Cert.Mk.nD Cert.Mk.τ).loc Cert.Mk.main_arg1) = m ((c.tc : Thread Cert.Mk.nD Cert.Mk.τ).loc Cert.Mk.main_arg1))
      ∧ r.2.sem = fun _ => 0)

def quiescent_MkIdeal [hMkIdeal : Cert.MkIdeal.Facts] : Prop :=
  ∀ (m : (ℓ : Loc Cert.MkIdeal.nD Cert.MkIdeal.τ Cert.MkIdeal.sig) → Buf (Elt Ideal) ℓ) (g : Dev Cert.MkIdeal.nD → PrngReg), Pre_MkIdeal m →
    θ_run (Cert.MkIdeal.defs (F := Ideal)) (onTc (τ := Cert.MkIdeal.τ) (Cert.MkIdeal.main (F := Ideal))) ⟨m, fun _ => 0, g⟩ (fun r => (∀ c : Dev Cert.MkIdeal.nD,
      r.2.mem ((c.tc : Thread Cert.MkIdeal.nD Cert.MkIdeal.τ).loc Cert.MkIdeal.main_arg0) = m ((c.tc : Thread Cert.MkIdeal.nD Cert.MkIdeal.τ).loc Cert.MkIdeal.main_arg0)
      ∧ r.2.mem ((c.tc : Thread Cert.MkIdeal.nD Cert.MkIdeal.τ).loc Cert.MkIdeal.main_arg1) = m ((c.tc : Thread Cert.MkIdeal.nD Cert.MkIdeal.τ).loc Cert.MkIdeal.main_arg1))
      ∧ r.2.sem = fun _ => 0)

def quiescent_MkRefIdeal [hMkRefIdeal : Cert.MkRefIdeal.Facts] : Prop :=
  ∀ (m : (ℓ : Loc Cert.MkRefIdeal.nD Cert.MkRefIdeal.τ Cert.MkRefIdeal.sig) → Buf (Elt Ideal) ℓ) (g : Dev Cert.MkRefIdeal.nD → PrngReg), Pre_MkRefIdeal m →
    θ_run (Cert.MkRefIdeal.defs (F := Ideal)) (onTc (τ := Cert.MkRefIdeal.τ) (Cert.MkRefIdeal.main (F := Ideal))) ⟨m, fun _ => 0, g⟩ (fun r => (∀ c : Dev Cert.MkRefIdeal.nD,
      r.2.mem ((c.tc : Thread Cert.MkRefIdeal.nD Cert.MkRefIdeal.τ).loc Cert.MkRefIdeal.main_arg0) = m ((c.tc : Thread Cert.MkRefIdeal.nD Cert.MkRefIdeal.τ).loc Cert.MkRefIdeal.main_arg0)
      ∧ r.2.mem ((c.tc : Thread Cert.MkRefIdeal.nD Cert.MkRefIdeal.τ).loc Cert.MkRefIdeal.main_arg1) = m ((c.tc : Thread Cert.MkRefIdeal.nD Cert.MkRefIdeal.τ).loc Cert.MkRefIdeal.main_arg1))
      ∧ r.2.sem = fun _ => 0)

def quiescent_Mdw [hMdw : Cert.Mdw.Facts] : Prop :=
  ∀ (m : (ℓ : Loc Cert.Mdw.nD Cert.Mdw.τ Cert.Mdw.sig) → Buf (Elt Bits) ℓ) (g : Dev Cert.Mdw.nD → PrngReg), Pre_Mdw m →
    θ_run (Cert.Mdw.defs (F := Bits)) (onTc (τ := Cert.Mdw.τ) (Cert.Mdw.main (F := Bits))) ⟨m, fun _ => 0, g⟩ (fun r => (∀ c : Dev Cert.Mdw.nD,
      r.2.mem ((c.tc : Thread Cert.Mdw.nD Cert.Mdw.τ).loc Cert.Mdw.main_arg0) = m ((c.tc : Thread Cert.Mdw.nD Cert.Mdw.τ).loc Cert.Mdw.main_arg0)
      ∧ r.2.mem ((c.tc : Thread Cert.Mdw.nD Cert.Mdw.τ).loc Cert.Mdw.main_arg1) = m ((c.tc : Thread Cert.Mdw.nD Cert.Mdw.τ).loc Cert.Mdw.main_arg1))
      ∧ r.2.sem = fun _ => 0)

def quiescent_MdwIdeal [hMdwIdeal : Cert.MdwIdeal.Facts] : Prop :=
  ∀ (m : (ℓ : Loc Cert.MdwIdeal.nD Cert.MdwIdeal.τ Cert.MdwIdeal.sig) → Buf (Elt Ideal) ℓ) (g : Dev Cert.MdwIdeal.nD → PrngReg), Pre_MdwIdeal m →
    θ_run (Cert.MdwIdeal.defs (F := Ideal)) (onTc (τ := Cert.MdwIdeal.τ) (Cert.MdwIdeal.main (F := Ideal))) ⟨m, fun _ => 0, g⟩ (fun r => (∀ c : Dev Cert.MdwIdeal.nD,
      r.2.mem ((c.tc : Thread Cert.MdwIdeal.nD Cert.MdwIdeal.τ).loc Cert.MdwIdeal.main_arg0) = m ((c.tc : Thread Cert.MdwIdeal.nD Cert.MdwIdeal.τ).loc Cert.MdwIdeal.main_arg0)
      ∧ r.2.mem ((c.tc : Thread Cert.MdwIdeal.nD Cert.MdwIdeal.τ).loc Cert.MdwIdeal.main_arg1) = m ((c.tc : Thread Cert.MdwIdeal.nD Cert.MdwIdeal.τ).loc Cert.MdwIdeal.main_arg1))
      ∧ r.2.sem = fun _ => 0)

def quiescent_MdwRefIdeal [hMdwRefIdeal : Cert.MdwRefIdeal.Facts] : Prop :=
  ∀ (m : (ℓ : Loc Cert.MdwRefIdeal.nD Cert.MdwRefIdeal.τ Cert.MdwRefIdeal.sig) → Buf (Elt Ideal) ℓ) (g : Dev Cert.MdwRefIdeal.nD → PrngReg), Pre_MdwRefIdeal m →
    θ_run (Cert.MdwRefIdeal.defs (F := Ideal)) (onTc (τ := Cert.MdwRefIdeal.τ) (Cert.MdwRefIdeal.main (F := Ideal))) ⟨m, fun _ => 0, g⟩ (fun r => (∀ c : Dev Cert.MdwRefIdeal.nD,
      r.2.mem ((c.tc : Thread Cert.MdwRefIdeal.nD Cert.MdwRefIdeal.τ).loc Cert.MdwRefIdeal.main_arg0) = m ((c.tc : Thread Cert.MdwRefIdeal.nD Cert.MdwRefIdeal.τ).loc Cert.MdwRefIdeal.main_arg0)
      ∧ r.2.mem ((c.tc : Thread Cert.MdwRefIdeal.nD Cert.MdwRefIdeal.τ).loc Cert.MdwRefIdeal.main_arg1) = m ((c.tc : Thread Cert.MdwRefIdeal.nD Cert.MdwRefIdeal.τ).loc Cert.MdwRefIdeal.main_arg1))
      ∧ r.2.sem = fun _ => 0)

def quiescent_Mdk [hMdk : Cert.Mdk.Facts] : Prop :=
  ∀ (m : (ℓ : Loc Cert.Mdk.nD Cert.Mdk.τ Cert.Mdk.sig) → Buf (Elt Bits) ℓ) (g : Dev Cert.Mdk.nD → PrngReg), Pre_Mdk m →
    θ_run (Cert.Mdk.defs (F := Bits)) (onTc (τ := Cert.Mdk.τ) (Cert.Mdk.main (F := Bits))) ⟨m, fun _ => 0, g⟩ (fun r => (∀ c : Dev Cert.Mdk.nD,
      r.2.mem ((c.tc : Thread Cert.Mdk.nD Cert.Mdk.τ).loc Cert.Mdk.main_arg0) = m ((c.tc : Thread Cert.Mdk.nD Cert.Mdk.τ).loc Cert.Mdk.main_arg0)
      ∧ r.2.mem ((c.tc : Thread Cert.Mdk.nD Cert.Mdk.τ).loc Cert.Mdk.main_arg1) = m ((c.tc : Thread Cert.Mdk.nD Cert.Mdk.τ).loc Cert.Mdk.main_arg1))
      ∧ r.2.sem = fun _ => 0)

def quiescent_MdkIdeal [hMdkIdeal : Cert.MdkIdeal.Facts] : Prop :=
  ∀ (m : (ℓ : Loc Cert.MdkIdeal.nD Cert.MdkIdeal.τ Cert.MdkIdeal.sig) → Buf (Elt Ideal) ℓ) (g : Dev Cert.MdkIdeal.nD → PrngReg), Pre_MdkIdeal m →
    θ_run (Cert.MdkIdeal.defs (F := Ideal)) (onTc (τ := Cert.MdkIdeal.τ) (Cert.MdkIdeal.main (F := Ideal))) ⟨m, fun _ => 0, g⟩ (fun r => (∀ c : Dev Cert.MdkIdeal.nD,
      r.2.mem ((c.tc : Thread Cert.MdkIdeal.nD Cert.MdkIdeal.τ).loc Cert.MdkIdeal.main_arg0) = m ((c.tc : Thread Cert.MdkIdeal.nD Cert.MdkIdeal.τ).loc Cert.MdkIdeal.main_arg0)
      ∧ r.2.mem ((c.tc : Thread Cert.MdkIdeal.nD Cert.MdkIdeal.τ).loc Cert.MdkIdeal.main_arg1) = m ((c.tc : Thread Cert.MdkIdeal.nD Cert.MdkIdeal.τ).loc Cert.MdkIdeal.main_arg1))
      ∧ r.2.sem = fun _ => 0)

def quiescent_MdkRefIdeal [hMdkRefIdeal : Cert.MdkRefIdeal.Facts] : Prop :=
  ∀ (m : (ℓ : Loc Cert.MdkRefIdeal.nD Cert.MdkRefIdeal.τ Cert.MdkRefIdeal.sig) → Buf (Elt Ideal) ℓ) (g : Dev Cert.MdkRefIdeal.nD → PrngReg), Pre_MdkRefIdeal m →
    θ_run (Cert.MdkRefIdeal.defs (F := Ideal)) (onTc (τ := Cert.MdkRefIdeal.τ) (Cert.MdkRefIdeal.main (F := Ideal))) ⟨m, fun _ => 0, g⟩ (fun r => (∀ c : Dev Cert.MdkRefIdeal.nD,
      r.2.mem ((c.tc : Thread Cert.MdkRefIdeal.nD Cert.MdkRefIdeal.τ).loc Cert.MdkRefIdeal.main_arg0) = m ((c.tc : Thread Cert.MdkRefIdeal.nD Cert.MdkRefIdeal.τ).loc Cert.MdkRefIdeal.main_arg0)
      ∧ r.2.mem ((c.tc : Thread Cert.MdkRefIdeal.nD Cert.MdkRefIdeal.τ).loc Cert.MdkRefIdeal.main_arg1) = m ((c.tc : Thread Cert.MdkRefIdeal.nD Cert.MdkRefIdeal.τ).loc Cert.MdkRefIdeal.main_arg1))
      ∧ r.2.sem = fun _ => 0)

def quiescent_Mdv [hMdv : Cert.Mdv.Facts] : Prop :=
  ∀ (m : (ℓ : Loc Cert.Mdv.nD Cert.Mdv.τ Cert.Mdv.sig) → Buf (Elt Bits) ℓ) (g : Dev Cert.Mdv.nD → PrngReg), Pre_Mdv m →
    θ_run (Cert.Mdv.defs (F := Bits)) (onTc (τ := Cert.Mdv.τ) (Cert.Mdv.main (F := Bits))) ⟨m, fun _ => 0, g⟩ (fun r => (∀ c : Dev Cert.Mdv.nD,
      r.2.mem ((c.tc : Thread Cert.Mdv.nD Cert.Mdv.τ).loc Cert.Mdv.main_arg0) = m ((c.tc : Thread Cert.Mdv.nD Cert.Mdv.τ).loc Cert.Mdv.main_arg0)
      ∧ r.2.mem ((c.tc : Thread Cert.Mdv.nD Cert.Mdv.τ).loc Cert.Mdv.main_arg1) = m ((c.tc : Thread Cert.Mdv.nD Cert.Mdv.τ).loc Cert.Mdv.main_arg1)
      ∧ r.2.mem ((c.tc : Thread Cert.Mdv.nD Cert.Mdv.τ).loc Cert.Mdv.main_arg2) = m ((c.tc : Thread Cert.Mdv.nD Cert.Mdv.τ).loc Cert.Mdv.main_arg2))
      ∧ r.2.sem = fun _ => 0)

def quiescent_MdvIdeal [hMdvIdeal : Cert.MdvIdeal.Facts] : Prop :=
  ∀ (m : (ℓ : Loc Cert.MdvIdeal.nD Cert.MdvIdeal.τ Cert.MdvIdeal.sig) → Buf (Elt Ideal) ℓ) (g : Dev Cert.MdvIdeal.nD → PrngReg), Pre_MdvIdeal m →
    θ_run (Cert.MdvIdeal.defs (F := Ideal)) (onTc (τ := Cert.MdvIdeal.τ) (Cert.MdvIdeal.main (F := Ideal))) ⟨m, fun _ => 0, g⟩ (fun r => (∀ c : Dev Cert.MdvIdeal.nD,
      r.2.mem ((c.tc : Thread Cert.MdvIdeal.nD Cert.MdvIdeal.τ).loc Cert.MdvIdeal.main_arg0) = m ((c.tc : Thread Cert.MdvIdeal.nD Cert.MdvIdeal.τ).loc Cert.MdvIdeal.main_arg0)
      ∧ r.2.mem ((c.tc : Thread Cert.MdvIdeal.nD Cert.MdvIdeal.τ).loc Cert.MdvIdeal.main_arg1) = m ((c.tc : Thread Cert.MdvIdeal.nD Cert.MdvIdeal.τ).loc Cert.MdvIdeal.main_arg1)
      ∧ r.2.mem ((c.tc : Thread Cert.MdvIdeal.nD Cert.MdvIdeal.τ).loc Cert.MdvIdeal.main_arg2) = m ((c.tc : Thread Cert.MdvIdeal.nD Cert.MdvIdeal.τ).loc Cert.MdvIdeal.main_arg2))
      ∧ r.2.sem = fun _ => 0)

def quiescent_MdvRefIdeal [hMdvRefIdeal : Cert.MdvRefIdeal.Facts] : Prop :=
  ∀ (m : (ℓ : Loc Cert.MdvRefIdeal.nD Cert.MdvRefIdeal.τ Cert.MdvRefIdeal.sig) → Buf (Elt Ideal) ℓ) (g : Dev Cert.MdvRefIdeal.nD → PrngReg), Pre_MdvRefIdeal m →
    θ_run (Cert.MdvRefIdeal.defs (F := Ideal)) (onTc (τ := Cert.MdvRefIdeal.τ) (Cert.MdvRefIdeal.main (F := Ideal))) ⟨m, fun _ => 0, g⟩ (fun r => (∀ c : Dev Cert.MdvRefIdeal.nD,
      r.2.mem ((c.tc : Thread Cert.MdvRefIdeal.nD Cert.MdvRefIdeal.τ).loc Cert.MdvRefIdeal.main_arg0) = m ((c.tc : Thread Cert.MdvRefIdeal.nD Cert.MdvRefIdeal.τ).loc Cert.MdvRefIdeal.main_arg0)
      ∧ r.2.mem ((c.tc : Thread Cert.MdvRefIdeal.nD Cert.MdvRefIdeal.τ).loc Cert.MdvRefIdeal.main_arg1) = m ((c.tc : Thread Cert.MdvRefIdeal.nD Cert.MdvRefIdeal.τ).loc Cert.MdvRefIdeal.main_arg1)
      ∧ r.2.mem ((c.tc : Thread Cert.MdvRefIdeal.nD Cert.MdvRefIdeal.τ).loc Cert.MdvRefIdeal.main_arg2) = m ((c.tc : Thread Cert.MdvRefIdeal.nD Cert.MdvRefIdeal.τ).loc Cert.MdvRefIdeal.main_arg2))
      ∧ r.2.sem = fun _ => 0)

def quiescent_Nx [hNx : Cert.Nx.Facts] : Prop :=
  ∀ (m : (ℓ : Loc Cert.Nx.nD Cert.Nx.τ Cert.Nx.sig) → Buf (Elt Bits) ℓ) (g : Dev Cert.Nx.nD → PrngReg), Pre_Nx m →
    θ_run (Cert.Nx.defs (F := Bits)) (onTc (τ := Cert.Nx.τ) (Cert.Nx.main (F := Bits))) ⟨m, fun _ => 0, g⟩ (fun r => (∀ c : Dev Cert.Nx.nD,
      r.2.mem ((c.tc : Thread Cert.Nx.nD Cert.Nx.τ).loc Cert.Nx.main_arg0) = m ((c.tc : Thread Cert.Nx.nD Cert.Nx.τ).loc Cert.Nx.main_arg0)
      ∧ r.2.mem ((c.tc : Thread Cert.Nx.nD Cert.Nx.τ).loc Cert.Nx.main_arg1) = m ((c.tc : Thread Cert.Nx.nD Cert.Nx.τ).loc Cert.Nx.main_arg1))
      ∧ r.2.sem = fun _ => 0)

def quiescent_NxIdeal [hNxIdeal : Cert.NxIdeal.Facts] : Prop :=
  ∀ (m : (ℓ : Loc Cert.NxIdeal.nD Cert.NxIdeal.τ Cert.NxIdeal.sig) → Buf (Elt Ideal) ℓ) (g : Dev Cert.NxIdeal.nD → PrngReg), Pre_NxIdeal m →
    θ_run (Cert.NxIdeal.defs (F := Ideal)) (onTc (τ := Cert.NxIdeal.τ) (Cert.NxIdeal.main (F := Ideal))) ⟨m, fun _ => 0, g⟩ (fun r => (∀ c : Dev Cert.NxIdeal.nD,
      r.2.mem ((c.tc : Thread Cert.NxIdeal.nD Cert.NxIdeal.τ).loc Cert.NxIdeal.main_arg0) = m ((c.tc : Thread Cert.NxIdeal.nD Cert.NxIdeal.τ).loc Cert.NxIdeal.main_arg0)
      ∧ r.2.mem ((c.tc : Thread Cert.NxIdeal.nD Cert.NxIdeal.τ).loc Cert.NxIdeal.main_arg1) = m ((c.tc : Thread Cert.NxIdeal.nD Cert.NxIdeal.τ).loc Cert.NxIdeal.main_arg1))
      ∧ r.2.sem = fun _ => 0)

def quiescent_NxRefIdeal [hNxRefIdeal : Cert.NxRefIdeal.Facts] : Prop :=
  ∀ (m : (ℓ : Loc Cert.NxRefIdeal.nD Cert.NxRefIdeal.τ Cert.NxRefIdeal.sig) → Buf (Elt Ideal) ℓ) (g : Dev Cert.NxRefIdeal.nD → PrngReg), Pre_NxRefIdeal m →
    θ_run (Cert.NxRefIdeal.defs (F := Ideal)) (onTc (τ := Cert.NxRefIdeal.τ) (Cert.NxRefIdeal.main (F := Ideal))) ⟨m, fun _ => 0, g⟩ (fun r => (∀ c : Dev Cert.NxRefIdeal.nD,
      r.2.mem ((c.tc : Thread Cert.NxRefIdeal.nD Cert.NxRefIdeal.τ).loc Cert.NxRefIdeal.main_arg0) = m ((c.tc : Thread Cert.NxRefIdeal.nD Cert.NxRefIdeal.τ).loc Cert.NxRefIdeal.main_arg0)
      ∧ r.2.mem ((c.tc : Thread Cert.NxRefIdeal.nD Cert.NxRefIdeal.τ).loc Cert.NxRefIdeal.main_arg1) = m ((c.tc : Thread Cert.NxRefIdeal.nD Cert.NxRefIdeal.τ).loc Cert.NxRefIdeal.main_arg1))
      ∧ r.2.sem = fun _ => 0)

def quiescent_Nm [hNm : Cert.Nm.Facts] : Prop :=
  ∀ (m : (ℓ : Loc Cert.Nm.nD Cert.Nm.τ Cert.Nm.sig) → Buf (Elt Bits) ℓ) (g : Dev Cert.Nm.nD → PrngReg), Pre_Nm m →
    θ_run (Cert.Nm.defs (F := Bits)) (onTc (τ := Cert.Nm.τ) (Cert.Nm.main (F := Bits))) ⟨m, fun _ => 0, g⟩ (fun r => (∀ c : Dev Cert.Nm.nD,
      r.2.mem ((c.tc : Thread Cert.Nm.nD Cert.Nm.τ).loc Cert.Nm.main_arg0) = m ((c.tc : Thread Cert.Nm.nD Cert.Nm.τ).loc Cert.Nm.main_arg0)
      ∧ r.2.mem ((c.tc : Thread Cert.Nm.nD Cert.Nm.τ).loc Cert.Nm.main_arg1) = m ((c.tc : Thread Cert.Nm.nD Cert.Nm.τ).loc Cert.Nm.main_arg1))
      ∧ r.2.sem = fun _ => 0)

def quiescent_NmIdeal [hNmIdeal : Cert.NmIdeal.Facts] : Prop :=
  ∀ (m : (ℓ : Loc Cert.NmIdeal.nD Cert.NmIdeal.τ Cert.NmIdeal.sig) → Buf (Elt Ideal) ℓ) (g : Dev Cert.NmIdeal.nD → PrngReg), Pre_NmIdeal m →
    θ_run (Cert.NmIdeal.defs (F := Ideal)) (onTc (τ := Cert.NmIdeal.τ) (Cert.NmIdeal.main (F := Ideal))) ⟨m, fun _ => 0, g⟩ (fun r => (∀ c : Dev Cert.NmIdeal.nD,
      r.2.mem ((c.tc : Thread Cert.NmIdeal.nD Cert.NmIdeal.τ).loc Cert.NmIdeal.main_arg0) = m ((c.tc : Thread Cert.NmIdeal.nD Cert.NmIdeal.τ).loc Cert.NmIdeal.main_arg0)
      ∧ r.2.mem ((c.tc : Thread Cert.NmIdeal.nD Cert.NmIdeal.τ).loc Cert.NmIdeal.main_arg1) = m ((c.tc : Thread Cert.NmIdeal.nD Cert.NmIdeal.τ).loc Cert.NmIdeal.main_arg1))
      ∧ r.2.sem = fun _ => 0)

def quiescent_NmRefIdeal [hNmRefIdeal : Cert.NmRefIdeal.Facts] : Prop :=
  ∀ (m : (ℓ : Loc Cert.NmRefIdeal.nD Cert.NmRefIdeal.τ Cert.NmRefIdeal.sig) → Buf (Elt Ideal) ℓ) (g : Dev Cert.NmRefIdeal.nD → PrngReg), Pre_NmRefIdeal m →
    θ_run (Cert.NmRefIdeal.defs (F := Ideal)) (onTc (τ := Cert.NmRefIdeal.τ) (Cert.NmRefIdeal.main (F := Ideal))) ⟨m, fun _ => 0, g⟩ (fun r => (∀ c : Dev Cert.NmRefIdeal.nD,
      r.2.mem ((c.tc : Thread Cert.NmRefIdeal.nD Cert.NmRefIdeal.τ).loc Cert.NmRefIdeal.main_arg0) = m ((c.tc : Thread Cert.NmRefIdeal.nD Cert.NmRefIdeal.τ).loc Cert.NmRefIdeal.main_arg0)
      ∧ r.2.mem ((c.tc : Thread Cert.NmRefIdeal.nD Cert.NmRefIdeal.τ).loc Cert.NmRefIdeal.main_arg1) = m ((c.tc : Thread Cert.NmRefIdeal.nD Cert.NmRefIdeal.τ).loc Cert.NmRefIdeal.main_arg1))
      ∧ r.2.sem = fun _ => 0)

def quiescent_Nb [hNb : Cert.Nb.Facts] : Prop :=
  ∀ (m : (ℓ : Loc Cert.Nb.nD Cert.Nb.τ Cert.Nb.sig) → Buf (Elt Bits) ℓ) (g : Dev Cert.Nb.nD → PrngReg), Pre_Nb m →
    θ_run (Cert.Nb.defs (F := Bits)) (onTc (τ := Cert.Nb.τ) (Cert.Nb.main (F := Bits))) ⟨m, fun _ => 0, g⟩ (fun r => (∀ c : Dev Cert.Nb.nD,
      r.2.mem ((c.tc : Thread Cert.Nb.nD Cert.Nb.τ).loc Cert.Nb.main_arg0) = m ((c.tc : Thread Cert.Nb.nD Cert.Nb.τ).loc Cert.Nb.main_arg0)
      ∧ r.2.mem ((c.tc : Thread Cert.Nb.nD Cert.Nb.τ).loc Cert.Nb.main_arg1) = m ((c.tc : Thread Cert.Nb.nD Cert.Nb.τ).loc Cert.Nb.main_arg1)
      ∧ r.2.mem ((c.tc : Thread Cert.Nb.nD Cert.Nb.τ).loc Cert.Nb.main_arg2) = m ((c.tc : Thread Cert.Nb.nD Cert.Nb.τ).loc Cert.Nb.main_arg2))
      ∧ r.2.sem = fun _ => 0)

def quiescent_NbIdeal [hNbIdeal : Cert.NbIdeal.Facts] : Prop :=
  ∀ (m : (ℓ : Loc Cert.NbIdeal.nD Cert.NbIdeal.τ Cert.NbIdeal.sig) → Buf (Elt Ideal) ℓ) (g : Dev Cert.NbIdeal.nD → PrngReg), Pre_NbIdeal m →
    θ_run (Cert.NbIdeal.defs (F := Ideal)) (onTc (τ := Cert.NbIdeal.τ) (Cert.NbIdeal.main (F := Ideal))) ⟨m, fun _ => 0, g⟩ (fun r => (∀ c : Dev Cert.NbIdeal.nD,
      r.2.mem ((c.tc : Thread Cert.NbIdeal.nD Cert.NbIdeal.τ).loc Cert.NbIdeal.main_arg0) = m ((c.tc : Thread Cert.NbIdeal.nD Cert.NbIdeal.τ).loc Cert.NbIdeal.main_arg0)
      ∧ r.2.mem ((c.tc : Thread Cert.NbIdeal.nD Cert.NbIdeal.τ).loc Cert.NbIdeal.main_arg1) = m ((c.tc : Thread Cert.NbIdeal.nD Cert.NbIdeal.τ).loc Cert.NbIdeal.main_arg1)
      ∧ r.2.mem ((c.tc : Thread Cert.NbIdeal.nD Cert.NbIdeal.τ).loc Cert.NbIdeal.main_arg2) = m ((c.tc : Thread Cert.NbIdeal.nD Cert.NbIdeal.τ).loc Cert.NbIdeal.main_arg2))
      ∧ r.2.sem = fun _ => 0)

def quiescent_NbRefIdeal [hNbRefIdeal : Cert.NbRefIdeal.Facts] : Prop :=
  ∀ (m : (ℓ : Loc Cert.NbRefIdeal.nD Cert.NbRefIdeal.τ Cert.NbRefIdeal.sig) → Buf (Elt Ideal) ℓ) (g : Dev Cert.NbRefIdeal.nD → PrngReg), Pre_NbRefIdeal m →
    θ_run (Cert.NbRefIdeal.defs (F := Ideal)) (onTc (τ := Cert.NbRefIdeal.τ) (Cert.NbRefIdeal.main (F := Ideal))) ⟨m, fun _ => 0, g⟩ (fun r => (∀ c : Dev Cert.NbRefIdeal.nD,
      r.2.mem ((c.tc : Thread Cert.NbRefIdeal.nD Cert.NbRefIdeal.τ).loc Cert.NbRefIdeal.main_arg0) = m ((c.tc : Thread Cert.NbRefIdeal.nD Cert.NbRefIdeal.τ).loc Cert.NbRefIdeal.main_arg0)
      ∧ r.2.mem ((c.tc : Thread Cert.NbRefIdeal.nD Cert.NbRefIdeal.τ).loc Cert.NbRefIdeal.main_arg1) = m ((c.tc : Thread Cert.NbRefIdeal.nD Cert.NbRefIdeal.τ).loc Cert.NbRefIdeal.main_arg1)
      ∧ r.2.mem ((c.tc : Thread Cert.NbRefIdeal.nD Cert.NbRefIdeal.τ).loc Cert.NbRefIdeal.main_arg2) = m ((c.tc : Thread Cert.NbRefIdeal.nD Cert.NbRefIdeal.τ).loc Cert.NbRefIdeal.main_arg2))
      ∧ r.2.sem = fun _ => 0)

def quiescent_Ls [hLs : Cert.Ls.Facts] : Prop :=
  ∀ (m : (ℓ : Loc Cert.Ls.nD Cert.Ls.τ Cert.Ls.sig) → Buf (Elt Bits) ℓ) (g : Dev Cert.Ls.nD → PrngReg), Pre_Ls m →
    θ_run (Cert.Ls.defs (F := Bits)) (onTc (τ := Cert.Ls.τ) (Cert.Ls.main (F := Bits))) ⟨m, fun _ => 0, g⟩ (fun r => (∀ c : Dev Cert.Ls.nD,
      r.2.mem ((c.tc : Thread Cert.Ls.nD Cert.Ls.τ).loc Cert.Ls.main_arg0) = m ((c.tc : Thread Cert.Ls.nD Cert.Ls.τ).loc Cert.Ls.main_arg0)
      ∧ r.2.mem ((c.tc : Thread Cert.Ls.nD Cert.Ls.τ).loc Cert.Ls.main_arg1) = m ((c.tc : Thread Cert.Ls.nD Cert.Ls.τ).loc Cert.Ls.main_arg1)
      ∧ r.2.mem ((c.tc : Thread Cert.Ls.nD Cert.Ls.τ).loc Cert.Ls.main_arg2) = m ((c.tc : Thread Cert.Ls.nD Cert.Ls.τ).loc Cert.Ls.main_arg2))
      ∧ r.2.sem = fun _ => 0)

def quiescent_LsIdeal [hLsIdeal : Cert.LsIdeal.Facts] : Prop :=
  ∀ (m : (ℓ : Loc Cert.LsIdeal.nD Cert.LsIdeal.τ Cert.LsIdeal.sig) → Buf (Elt Ideal) ℓ) (g : Dev Cert.LsIdeal.nD → PrngReg), Pre_LsIdeal m →
    θ_run (Cert.LsIdeal.defs (F := Ideal)) (onTc (τ := Cert.LsIdeal.τ) (Cert.LsIdeal.main (F := Ideal))) ⟨m, fun _ => 0, g⟩ (fun r => (∀ c : Dev Cert.LsIdeal.nD,
      r.2.mem ((c.tc : Thread Cert.LsIdeal.nD Cert.LsIdeal.τ).loc Cert.LsIdeal.main_arg0) = m ((c.tc : Thread Cert.LsIdeal.nD Cert.LsIdeal.τ).loc Cert.LsIdeal.main_arg0)
      ∧ r.2.mem ((c.tc : Thread Cert.LsIdeal.nD Cert.LsIdeal.τ).loc Cert.LsIdeal.main_arg1) = m ((c.tc : Thread Cert.LsIdeal.nD Cert.LsIdeal.τ).loc Cert.LsIdeal.main_arg1)
      ∧ r.2.mem ((c.tc : Thread Cert.LsIdeal.nD Cert.LsIdeal.τ).loc Cert.LsIdeal.main_arg2) = m ((c.tc : Thread Cert.LsIdeal.nD Cert.LsIdeal.τ).loc Cert.LsIdeal.main_arg2))
      ∧ r.2.sem = fun _ => 0)

def quiescent_LsRefIdeal [hLsRefIdeal : Cert.LsRefIdeal.Facts] : Prop :=
  ∀ (m : (ℓ : Loc Cert.LsRefIdeal.nD Cert.LsRefIdeal.τ Cert.LsRefIdeal.sig) → Buf (Elt Ideal) ℓ) (g : Dev Cert.LsRefIdeal.nD → PrngReg), Pre_LsRefIdeal m →
    θ_run (Cert.LsRefIdeal.defs (F := Ideal)) (onTc (τ := Cert.LsRefIdeal.τ) (Cert.LsRefIdeal.main (F := Ideal))) ⟨m, fun _ => 0, g⟩ (fun r => (∀ c : Dev Cert.LsRefIdeal.nD,
      r.2.mem ((c.tc : Thread Cert.LsRefIdeal.nD Cert.LsRefIdeal.τ).loc Cert.LsRefIdeal.main_arg0) = m ((c.tc : Thread Cert.LsRefIdeal.nD Cert.LsRefIdeal.τ).loc Cert.LsRefIdeal.main_arg0)
      ∧ r.2.mem ((c.tc : Thread Cert.LsRefIdeal.nD Cert.LsRefIdeal.τ).loc Cert.LsRefIdeal.main_arg1) = m ((c.tc : Thread Cert.LsRefIdeal.nD Cert.LsRefIdeal.τ).loc Cert.LsRefIdeal.main_arg1)
      ∧ r.2.mem ((c.tc : Thread Cert.LsRefIdeal.nD Cert.LsRefIdeal.τ).loc Cert.LsRefIdeal.main_arg2) = m ((c.tc : Thread Cert.LsRefIdeal.nD Cert.LsRefIdeal.τ).loc Cert.LsRefIdeal.main_arg2))
      ∧ r.2.sem = fun _ => 0)

def quiescent_Lh [hLh : Cert.Lh.Facts] : Prop :=
  ∀ (m : (ℓ : Loc Cert.Lh.nD Cert.Lh.τ Cert.Lh.sig) → Buf (Elt Bits) ℓ) (g : Dev Cert.Lh.nD → PrngReg), Pre_Lh m →
    θ_run (Cert.Lh.defs (F := Bits)) (onTc (τ := Cert.Lh.τ) (Cert.Lh.main (F := Bits))) ⟨m, fun _ => 0, g⟩ (fun r => (∀ c : Dev Cert.Lh.nD,
      r.2.mem ((c.tc : Thread Cert.Lh.nD Cert.Lh.τ).loc Cert.Lh.main_arg0) = m ((c.tc : Thread Cert.Lh.nD Cert.Lh.τ).loc Cert.Lh.main_arg0)
      ∧ r.2.mem ((c.tc : Thread Cert.Lh.nD Cert.Lh.τ).loc Cert.Lh.main_arg1) = m ((c.tc : Thread Cert.Lh.nD Cert.Lh.τ).loc Cert.Lh.main_arg1)
      ∧ r.2.mem ((c.tc : Thread Cert.Lh.nD Cert.Lh.τ).loc Cert.Lh.main_arg2) = m ((c.tc : Thread Cert.Lh.nD Cert.Lh.τ).loc Cert.Lh.main_arg2))
      ∧ r.2.sem = fun _ => 0)

def quiescent_LhIdeal [hLhIdeal : Cert.LhIdeal.Facts] : Prop :=
  ∀ (m : (ℓ : Loc Cert.LhIdeal.nD Cert.LhIdeal.τ Cert.LhIdeal.sig) → Buf (Elt Ideal) ℓ) (g : Dev Cert.LhIdeal.nD → PrngReg), Pre_LhIdeal m →
    θ_run (Cert.LhIdeal.defs (F := Ideal)) (onTc (τ := Cert.LhIdeal.τ) (Cert.LhIdeal.main (F := Ideal))) ⟨m, fun _ => 0, g⟩ (fun r => (∀ c : Dev Cert.LhIdeal.nD,
      r.2.mem ((c.tc : Thread Cert.LhIdeal.nD Cert.LhIdeal.τ).loc Cert.LhIdeal.main_arg0) = m ((c.tc : Thread Cert.LhIdeal.nD Cert.LhIdeal.τ).loc Cert.LhIdeal.main_arg0)
      ∧ r.2.mem ((c.tc : Thread Cert.LhIdeal.nD Cert.LhIdeal.τ).loc Cert.LhIdeal.main_arg1) = m ((c.tc : Thread Cert.LhIdeal.nD Cert.LhIdeal.τ).loc Cert.LhIdeal.main_arg1)
      ∧ r.2.mem ((c.tc : Thread Cert.LhIdeal.nD Cert.LhIdeal.τ).loc Cert.LhIdeal.main_arg2) = m ((c.tc : Thread Cert.LhIdeal.nD Cert.LhIdeal.τ).loc Cert.LhIdeal.main_arg2))
      ∧ r.2.sem = fun _ => 0)

def quiescent_LhRefIdeal [hLhRefIdeal : Cert.LhRefIdeal.Facts] : Prop :=
  ∀ (m : (ℓ : Loc Cert.LhRefIdeal.nD Cert.LhRefIdeal.τ Cert.LhRefIdeal.sig) → Buf (Elt Ideal) ℓ) (g : Dev Cert.LhRefIdeal.nD → PrngReg), Pre_LhRefIdeal m →
    θ_run (Cert.LhRefIdeal.defs (F := Ideal)) (onTc (τ := Cert.LhRefIdeal.τ) (Cert.LhRefIdeal.main (F := Ideal))) ⟨m, fun _ => 0, g⟩ (fun r => (∀ c : Dev Cert.LhRefIdeal.nD,
      r.2.mem ((c.tc : Thread Cert.LhRefIdeal.nD Cert.LhRefIdeal.τ).loc Cert.LhRefIdeal.main_arg0) = m ((c.tc : Thread Cert.LhRefIdeal.nD Cert.LhRefIdeal.τ).loc Cert.LhRefIdeal.main_arg0)
      ∧ r.2.mem ((c.tc : Thread Cert.LhRefIdeal.nD Cert.LhRefIdeal.τ).loc Cert.LhRefIdeal.main_arg1) = m ((c.tc : Thread Cert.LhRefIdeal.nD Cert.LhRefIdeal.τ).loc Cert.LhRefIdeal.main_arg1)
      ∧ r.2.mem ((c.tc : Thread Cert.LhRefIdeal.nD Cert.LhRefIdeal.τ).loc Cert.LhRefIdeal.main_arg2) = m ((c.tc : Thread Cert.LhRefIdeal.nD Cert.LhRefIdeal.τ).loc Cert.LhRefIdeal.main_arg2))
      ∧ r.2.sem = fun _ => 0)

def quiescent_Lb [hLb : Cert.Lb.Facts] : Prop :=
  ∀ (m : (ℓ : Loc Cert.Lb.nD Cert.Lb.τ Cert.Lb.sig) → Buf (Elt Bits) ℓ) (g : Dev Cert.Lb.nD → PrngReg), Pre_Lb m →
    θ_run (Cert.Lb.defs (F := Bits)) (onTc (τ := Cert.Lb.τ) (Cert.Lb.main (F := Bits))) ⟨m, fun _ => 0, g⟩ (fun r => (∀ c : Dev Cert.Lb.nD,
      r.2.mem ((c.tc : Thread Cert.Lb.nD Cert.Lb.τ).loc Cert.Lb.main_arg0) = m ((c.tc : Thread Cert.Lb.nD Cert.Lb.τ).loc Cert.Lb.main_arg0)
      ∧ r.2.mem ((c.tc : Thread Cert.Lb.nD Cert.Lb.τ).loc Cert.Lb.main_arg1) = m ((c.tc : Thread Cert.Lb.nD Cert.Lb.τ).loc Cert.Lb.main_arg1)
      ∧ r.2.mem ((c.tc : Thread Cert.Lb.nD Cert.Lb.τ).loc Cert.Lb.main_arg2) = m ((c.tc : Thread Cert.Lb.nD Cert.Lb.τ).loc Cert.Lb.main_arg2)
      ∧ r.2.mem ((c.tc : Thread Cert.Lb.nD Cert.Lb.τ).loc Cert.Lb.main_arg3) = m ((c.tc : Thread Cert.Lb.nD Cert.Lb.τ).loc Cert.Lb.main_arg3)
      ∧ r.2.mem ((c.tc : Thread Cert.Lb.nD Cert.Lb.τ).loc Cert.Lb.main_arg4) = m ((c.tc : Thread Cert.Lb.nD Cert.Lb.τ).loc Cert.Lb.main_arg4))
      ∧ r.2.sem = fun _ => 0)

def quiescent_LbIdeal [hLbIdeal : Cert.LbIdeal.Facts] : Prop :=
  ∀ (m : (ℓ : Loc Cert.LbIdeal.nD Cert.LbIdeal.τ Cert.LbIdeal.sig) → Buf (Elt Ideal) ℓ) (g : Dev Cert.LbIdeal.nD → PrngReg), Pre_LbIdeal m →
    θ_run (Cert.LbIdeal.defs (F := Ideal)) (onTc (τ := Cert.LbIdeal.τ) (Cert.LbIdeal.main (F := Ideal))) ⟨m, fun _ => 0, g⟩ (fun r => (∀ c : Dev Cert.LbIdeal.nD,
      r.2.mem ((c.tc : Thread Cert.LbIdeal.nD Cert.LbIdeal.τ).loc Cert.LbIdeal.main_arg0) = m ((c.tc : Thread Cert.LbIdeal.nD Cert.LbIdeal.τ).loc Cert.LbIdeal.main_arg0)
      ∧ r.2.mem ((c.tc : Thread Cert.LbIdeal.nD Cert.LbIdeal.τ).loc Cert.LbIdeal.main_arg1) = m ((c.tc : Thread Cert.LbIdeal.nD Cert.LbIdeal.τ).loc Cert.LbIdeal.main_arg1)
      ∧ r.2.mem ((c.tc : Thread Cert.LbIdeal.nD Cert.LbIdeal.τ).loc Cert.LbIdeal.main_arg2) = m ((c.tc : Thread Cert.LbIdeal.nD Cert.LbIdeal.τ).loc Cert.LbIdeal.main_arg2)
      ∧ r.2.mem ((c.tc : Thread Cert.LbIdeal.nD Cert.LbIdeal.τ).loc Cert.LbIdeal.main_arg3) = m ((c.tc : Thread Cert.LbIdeal.nD Cert.LbIdeal.τ).loc Cert.LbIdeal.main_arg3)
      ∧ r.2.mem ((c.tc : Thread Cert.LbIdeal.nD Cert.LbIdeal.τ).loc Cert.LbIdeal.main_arg4) = m ((c.tc : Thread Cert.LbIdeal.nD Cert.LbIdeal.τ).loc Cert.LbIdeal.main_arg4))
      ∧ r.2.sem = fun _ => 0)

def quiescent_LbIdeal_pre_gradient_and_gain_finite [hLbIdeal : Cert.LbIdeal.Facts] [hPre_gradient_and_gain_finite : Cert.Pre_gradient_and_gain_finite.Facts] : Prop :=
  ∀ (m : (ℓ : Loc Cert.LbIdeal.nD Cert.LbIdeal.τ Cert.LbIdeal.sig) → Buf (Elt Ideal) ℓ) (g : Dev Cert.LbIdeal.nD → PrngReg), Pre_LbIdeal_gradient_and_gain_finite m →
    θ_run (Cert.LbIdeal.defs (F := Ideal)) (onTc (τ := Cert.LbIdeal.τ) (Cert.LbIdeal.main (F := Ideal))) ⟨m, fun _ => 0, g⟩ (fun r => (∀ c : Dev Cert.LbIdeal.nD,
      r.2.mem ((c.tc : Thread Cert.LbIdeal.nD Cert.LbIdeal.τ).loc Cert.LbIdeal.main_arg0) = m ((c.tc : Thread Cert.LbIdeal.nD Cert.LbIdeal.τ).loc Cert.LbIdeal.main_arg0)
      ∧ r.2.mem ((c.tc : Thread Cert.LbIdeal.nD Cert.LbIdeal.τ).loc Cert.LbIdeal.main_arg1) = m ((c.tc : Thread Cert.LbIdeal.nD Cert.LbIdeal.τ).loc Cert.LbIdeal.main_arg1)
      ∧ r.2.mem ((c.tc : Thread Cert.LbIdeal.nD Cert.LbIdeal.τ).loc Cert.LbIdeal.main_arg2) = m ((c.tc : Thread Cert.LbIdeal.nD Cert.LbIdeal.τ).loc Cert.LbIdeal.main_arg2)
      ∧ r.2.mem ((c.tc : Thread Cert.LbIdeal.nD Cert.LbIdeal.τ).loc Cert.LbIdeal.main_arg3) = m ((c.tc : Thread Cert.LbIdeal.nD Cert.LbIdeal.τ).loc Cert.LbIdeal.main_arg3)
      ∧ r.2.mem ((c.tc : Thread Cert.LbIdeal.nD Cert.LbIdeal.τ).loc Cert.LbIdeal.main_arg4) = m ((c.tc : Thread Cert.LbIdeal.nD Cert.LbIdeal.τ).loc Cert.LbIdeal.main_arg4))
      ∧ r.2.sem = fun _ => 0)

def quiescent_LbRefIdeal [hLbRefIdeal : Cert.LbRefIdeal.Facts] : Prop :=
  ∀ (m : (ℓ : Loc Cert.LbRefIdeal.nD Cert.LbRefIdeal.τ Cert.LbRefIdeal.sig) → Buf (Elt Ideal) ℓ) (g : Dev Cert.LbRefIdeal.nD → PrngReg), Pre_LbRefIdeal m →
    θ_run (Cert.LbRefIdeal.defs (F := Ideal)) (onTc (τ := Cert.LbRefIdeal.τ) (Cert.LbRefIdeal.main (F := Ideal))) ⟨m, fun _ => 0, g⟩ (fun r => (∀ c : Dev Cert.LbRefIdeal.nD,
      r.2.mem ((c.tc : Thread Cert.LbRefIdeal.nD Cert.LbRefIdeal.τ).loc Cert.LbRefIdeal.main_arg0) = m ((c.tc : Thread Cert.LbRefIdeal.nD Cert.LbRefIdeal.τ).loc Cert.LbRefIdeal.main_arg0)
      ∧ r.2.mem ((c.tc : Thread Cert.LbRefIdeal.nD Cert.LbRefIdeal.τ).loc Cert.LbRefIdeal.main_arg1) = m ((c.tc : Thread Cert.LbRefIdeal.nD Cert.LbRefIdeal.τ).loc Cert.LbRefIdeal.main_arg1)
      ∧ r.2.mem ((c.tc : Thread Cert.LbRefIdeal.nD Cert.LbRefIdeal.τ).loc Cert.LbRefIdeal.main_arg2) = m ((c.tc : Thread Cert.LbRefIdeal.nD Cert.LbRefIdeal.τ).loc Cert.LbRefIdeal.main_arg2)
      ∧ r.2.mem ((c.tc : Thread Cert.LbRefIdeal.nD Cert.LbRefIdeal.τ).loc Cert.LbRefIdeal.main_arg3) = m ((c.tc : Thread Cert.LbRefIdeal.nD Cert.LbRefIdeal.τ).loc Cert.LbRefIdeal.main_arg3)
      ∧ r.2.mem ((c.tc : Thread Cert.LbRefIdeal.nD Cert.LbRefIdeal.τ).loc Cert.LbRefIdeal.main_arg4) = m ((c.tc : Thread Cert.LbRefIdeal.nD Cert.LbRefIdeal.τ).loc Cert.LbRefIdeal.main_arg4))
      ∧ r.2.sem = fun _ => 0)

def quiescent_LbRefIdeal_pre_gradient_and_gain_finite [hLbRefIdeal : Cert.LbRefIdeal.Facts] [hPre_gradient_and_gain_finite : Cert.Pre_gradient_and_gain_finite.Facts] : Prop :=
  ∀ (m : (ℓ : Loc Cert.LbRefIdeal.nD Cert.LbRefIdeal.τ Cert.LbRefIdeal.sig) → Buf (Elt Ideal) ℓ) (g : Dev Cert.LbRefIdeal.nD → PrngReg), Pre_LbRefIdeal_gradient_and_gain_finite m →
    θ_run (Cert.LbRefIdeal.defs (F := Ideal)) (onTc (τ := Cert.LbRefIdeal.τ) (Cert.LbRefIdeal.main (F := Ideal))) ⟨m, fun _ => 0, g⟩ (fun r => (∀ c : Dev Cert.LbRefIdeal.nD,
      r.2.mem ((c.tc : Thread Cert.LbRefIdeal.nD Cert.LbRefIdeal.τ).loc Cert.LbRefIdeal.main_arg0) = m ((c.tc : Thread Cert.LbRefIdeal.nD Cert.LbRefIdeal.τ).loc Cert.LbRefIdeal.main_arg0)
      ∧ r.2.mem ((c.tc : Thread Cert.LbRefIdeal.nD Cert.LbRefIdeal.τ).loc Cert.LbRefIdeal.main_arg1) = m ((c.tc : Thread Cert.LbRefIdeal.nD Cert.LbRefIdeal.τ).loc Cert.LbRefIdeal.main_arg1)
      ∧ r.2.mem ((c.tc : Thread Cert.LbRefIdeal.nD Cert.LbRefIdeal.τ).loc Cert.LbRefIdeal.main_arg2) = m ((c.tc : Thread Cert.LbRefIdeal.nD Cert.LbRefIdeal.τ).loc Cert.LbRefIdeal.main_arg2)
      ∧ r.2.mem ((c.tc : Thread Cert.LbRefIdeal.nD Cert.LbRefIdeal.τ).loc Cert.LbRefIdeal.main_arg3) = m ((c.tc : Thread Cert.LbRefIdeal.nD Cert.LbRefIdeal.τ).loc Cert.LbRefIdeal.main_arg3)
      ∧ r.2.mem ((c.tc : Thread Cert.LbRefIdeal.nD Cert.LbRefIdeal.τ).loc Cert.LbRefIdeal.main_arg4) = m ((c.tc : Thread Cert.LbRefIdeal.nD Cert.LbRefIdeal.τ).loc Cert.LbRefIdeal.main_arg4))
      ∧ r.2.sem = fun _ => 0)

def preserves_Attn_AttnIdeal : Prop :=
  True

def algebraic_AttnIdeal_AttnRefIdeal_pre_queries_and_keys_finite [hAttnIdeal : Cert.AttnIdeal.Facts] [hAttnRefIdeal : Cert.AttnRefIdeal.Facts] [hPre_queries_and_keys_finite : Cert.Pre_queries_and_keys_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_queries_and_keys_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v0_0)) (v1 : (c : Dev Cert.AttnIdeal.nD) → Buf (Elt Ideal) ((c.tc : Thread Cert.AttnIdeal.nD Cert.AttnIdeal.τ).loc Cert.AttnIdeal.main_v0_1)) (v2 : (c : Dev Cert.AttnIdeal.nD) → Buf (Elt Ideal) ((c.tc : Thread Cert.AttnIdeal.nD Cert.AttnIdeal.τ).loc Cert.AttnIdeal.main_v0_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0_0) = v0 c
          ∧ r.2.mem ((c.tc : Thread Cert.AttnIdeal.nD Cert.AttnIdeal.τ).loc Cert.AttnIdeal.main_v0_1) = v1 c
          ∧ r.2.mem ((c.tc : Thread Cert.AttnIdeal.nD Cert.AttnIdeal.τ).loc Cert.AttnIdeal.main_v0_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v68) = v0 c
          ∧ r.2.mem ((c.tc : Thread Cert.AttnRefIdeal.nD Cert.AttnRefIdeal.τ).loc Cert.AttnRefIdeal.main_v66) = v1 c
          ∧ r.2.mem ((c.tc : Thread Cert.AttnRefIdeal.nD Cert.AttnRefIdeal.τ).loc Cert.AttnRefIdeal.main_v65) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Fdn_FdnIdeal : Prop :=
  True

def algebraic_FdnIdeal_FdnRefIdeal [hFdnIdeal : Cert.FdnIdeal.Facts] [hFdnRefIdeal : Cert.FdnRefIdeal.Facts] : Prop :=
  ∀ (m : (ℓ : Loc Cert.FdnIdeal.nD Cert.FdnIdeal.τ Cert.FdnIdeal.sig) → Buf (Elt Ideal) ℓ) (g : Dev Cert.FdnIdeal.nD → PrngReg)
    (m' : (ℓ : Loc Cert.FdnRefIdeal.nD Cert.FdnRefIdeal.τ Cert.FdnRefIdeal.sig) → Buf (Elt Ideal) ℓ) (g' : Dev Cert.FdnRefIdeal.nD → PrngReg), Pre_FdnIdeal m →
    (∀ c : Dev Cert.FdnIdeal.nD,
      m' ((c.tc : Thread Cert.FdnRefIdeal.nD Cert.FdnRefIdeal.τ).loc Cert.FdnRefIdeal.main_arg0) = m ((c.tc : Thread Cert.FdnIdeal.nD Cert.FdnIdeal.τ).loc Cert.FdnIdeal.main_arg0)
      ∧ m' ((c.tc : Thread Cert.FdnRefIdeal.nD Cert.FdnRefIdeal.τ).loc Cert.FdnRefIdeal.main_arg1) = m ((c.tc : Thread Cert.FdnIdeal.nD Cert.FdnIdeal.τ).loc Cert.FdnIdeal.main_arg1)
      ∧ m' ((c.tc : Thread Cert.FdnRefIdeal.nD Cert.FdnRefIdeal.τ).loc Cert.FdnRefIdeal.main_arg2) = m ((c.tc : Thread Cert.FdnIdeal.nD Cert.FdnIdeal.τ).loc Cert.FdnIdeal.main_arg2)
      ∧ m' ((c.tc : Thread Cert.FdnRefIdeal.nD Cert.FdnRefIdeal.τ).loc Cert.FdnRefIdeal.main_arg3) = m ((c.tc : Thread Cert.FdnIdeal.nD Cert.FdnIdeal.τ).loc Cert.FdnIdeal.main_arg3)
      ∧ m' ((c.tc : Thread Cert.FdnRefIdeal.nD Cert.FdnRefIdeal.τ).loc Cert.FdnRefIdeal.main_arg4) = m ((c.tc : Thread Cert.FdnIdeal.nD Cert.FdnIdeal.τ).loc Cert.FdnIdeal.main_arg4)) →
    ∃ (v0 : (c : Dev Cert.FdnIdeal.nD) → Buf (Elt Ideal) ((c.tc : Thread Cert.FdnIdeal.nD Cert.FdnIdeal.τ).loc Cert.FdnIdeal.main_v0_0)) (v1 : (c : Dev Cert.FdnIdeal.nD) → Buf (Elt Ideal) ((c.tc : Thread Cert.FdnIdeal.nD Cert.FdnIdeal.τ).loc Cert.FdnIdeal.main_v0_1)) (v2 : (c : Dev Cert.FdnIdeal.nD) → Buf (Elt Ideal) ((c.tc : Thread Cert.FdnIdeal.nD Cert.FdnIdeal.τ).loc Cert.FdnIdeal.main_v0_2)),
      θ_run (Cert.FdnIdeal.defs (F := Ideal)) (onTc (τ := Cert.FdnIdeal.τ) (Cert.FdnIdeal.main (F := Ideal))) ⟨m, fun _ => 0, g⟩ (fun r => ∀ c : Dev Cert.FdnIdeal.nD,
          r.2.mem ((c.tc : Thread Cert.FdnIdeal.nD Cert.FdnIdeal.τ).loc Cert.FdnIdeal.main_v0_0) = v0 c
          ∧ r.2.mem ((c.tc : Thread Cert.FdnIdeal.nD Cert.FdnIdeal.τ).loc Cert.FdnIdeal.main_v0_1) = v1 c
          ∧ r.2.mem ((c.tc : Thread Cert.FdnIdeal.nD Cert.FdnIdeal.τ).loc Cert.FdnIdeal.main_v0_2) = v2 c
          ∧ r.2.mem ((c.tc : Thread Cert.FdnIdeal.nD Cert.FdnIdeal.τ).loc Cert.FdnIdeal.main_arg0) = m ((c.tc : Thread Cert.FdnIdeal.nD Cert.FdnIdeal.τ).loc Cert.FdnIdeal.main_arg0)
          ∧ r.2.mem ((c.tc : Thread Cert.FdnIdeal.nD Cert.FdnIdeal.τ).loc Cert.FdnIdeal.main_arg1) = m ((c.tc : Thread Cert.FdnIdeal.nD Cert.FdnIdeal.τ).loc Cert.FdnIdeal.main_arg1)
          ∧ r.2.mem ((c.tc : Thread Cert.FdnIdeal.nD Cert.FdnIdeal.τ).loc Cert.FdnIdeal.main_arg2) = m ((c.tc : Thread Cert.FdnIdeal.nD Cert.FdnIdeal.τ).loc Cert.FdnIdeal.main_arg2)
          ∧ r.2.mem ((c.tc : Thread Cert.FdnIdeal.nD Cert.FdnIdeal.τ).loc Cert.FdnIdeal.main_arg3) = m ((c.tc : Thread Cert.FdnIdeal.nD Cert.FdnIdeal.τ).loc Cert.FdnIdeal.main_arg3)
          ∧ r.2.mem ((c.tc : Thread Cert.FdnIdeal.nD Cert.FdnIdeal.τ).loc Cert.FdnIdeal.main_arg4) = m ((c.tc : Thread Cert.FdnIdeal.nD Cert.FdnIdeal.τ).loc Cert.FdnIdeal.main_arg4))
      ∧ θ_run (Cert.FdnRefIdeal.defs (F := Ideal)) (onTc (τ := Cert.FdnRefIdeal.τ) (Cert.FdnRefIdeal.main (F := Ideal))) ⟨m', fun _ => 0, g'⟩ (fun r => ∀ c : Dev Cert.FdnRefIdeal.nD,
          r.2.mem ((c.tc : Thread Cert.FdnRefIdeal.nD Cert.FdnRefIdeal.τ).loc Cert.FdnRefIdeal.main_v41) = v0 c
          ∧ r.2.mem ((c.tc : Thread Cert.FdnRefIdeal.nD Cert.FdnRefIdeal.τ).loc Cert.FdnRefIdeal.main_v42) = v1 c
          ∧ r.2.mem ((c.tc : Thread Cert.FdnRefIdeal.nD Cert.FdnRefIdeal.τ).loc Cert.FdnRefIdeal.main_v24) = v2 c
          ∧ r.2.mem ((c.tc : Thread Cert.FdnRefIdeal.nD Cert.FdnRefIdeal.τ).loc Cert.FdnRefIdeal.main_arg0) = m' ((c.tc : Thread Cert.FdnRefIdeal.nD Cert.FdnRefIdeal.τ).loc Cert.FdnRefIdeal.main_arg0)
          ∧ r.2.mem ((c.tc : Thread Cert.FdnRefIdeal.nD Cert.FdnRefIdeal.τ).loc Cert.FdnRefIdeal.main_arg1) = m' ((c.tc : Thread Cert.FdnRefIdeal.nD Cert.FdnRefIdeal.τ).loc Cert.FdnRefIdeal.main_arg1)
          ∧ r.2.mem ((c.tc : Thread Cert.FdnRefIdeal.nD Cert.FdnRefIdeal.τ).loc Cert.FdnRefIdeal.main_arg2) = m' ((c.tc : Thread Cert.FdnRefIdeal.nD Cert.FdnRefIdeal.τ).loc Cert.FdnRefIdeal.main_arg2)
          ∧ r.2.mem ((c.tc : Thread Cert.FdnRefIdeal.nD Cert.FdnRefIdeal.τ).loc Cert.FdnRefIdeal.main_arg3) = m' ((c.tc : Thread Cert.FdnRefIdeal.nD Cert.FdnRefIdeal.τ).loc Cert.FdnRefIdeal.main_arg3)
          ∧ r.2.mem ((c.tc : Thread Cert.FdnRefIdeal.nD Cert.FdnRefIdeal.τ).loc Cert.FdnRefIdeal.main_arg4) = m' ((c.tc : Thread Cert.FdnRefIdeal.nD Cert.FdnRefIdeal.τ).loc Cert.FdnRefIdeal.main_arg4))

def preserves_Fdwup_FdwupIdeal : Prop :=
  True

def algebraic_FdwupIdeal_FdwupRefIdeal [hFdwupIdeal : Cert.FdwupIdeal.Facts] [hFdwupRefIdeal : Cert.FdwupRefIdeal.Facts] : Prop :=
  ∀ (m : (ℓ : Loc Cert.FdwupIdeal.nD Cert.FdwupIdeal.τ Cert.FdwupIdeal.sig) → Buf (Elt Ideal) ℓ) (g : Dev Cert.FdwupIdeal.nD → PrngReg)
    (m' : (ℓ : Loc Cert.FdwupRefIdeal.nD Cert.FdwupRefIdeal.τ Cert.FdwupRefIdeal.sig) → Buf (Elt Ideal) ℓ) (g' : Dev Cert.FdwupRefIdeal.nD → PrngReg), Pre_FdwupIdeal m →
    (∀ c : Dev Cert.FdwupIdeal.nD,
      m' ((c.tc : Thread Cert.FdwupRefIdeal.nD Cert.FdwupRefIdeal.τ).loc Cert.FdwupRefIdeal.main_arg0) = m ((c.tc : Thread Cert.FdwupIdeal.nD Cert.FdwupIdeal.τ).loc Cert.FdwupIdeal.main_arg0)
      ∧ m' ((c.tc : Thread Cert.FdwupRefIdeal.nD Cert.FdwupRefIdeal.τ).loc Cert.FdwupRefIdeal.main_arg1) = m ((c.tc : Thread Cert.FdwupIdeal.nD Cert.FdwupIdeal.τ).loc Cert.FdwupIdeal.main_arg1)) →
    ∃ (v0 : (c : Dev Cert.FdwupIdeal.nD) → Buf (Elt Ideal) ((c.tc : Thread Cert.FdwupIdeal.nD Cert.FdwupIdeal.τ).loc Cert.FdwupIdeal.main_v0)),
      θ_run (Cert.FdwupIdeal.defs (F := Ideal)) (onTc (τ := Cert.FdwupIdeal.τ) (Cert.FdwupIdeal.main (F := Ideal))) ⟨m, fun _ => 0, g⟩ (fun r => ∀ c : Dev Cert.FdwupIdeal.nD,
          r.2.mem ((c.tc : Thread Cert.FdwupIdeal.nD Cert.FdwupIdeal.τ).loc Cert.FdwupIdeal.main_v0) = v0 c
          ∧ r.2.mem ((c.tc : Thread Cert.FdwupIdeal.nD Cert.FdwupIdeal.τ).loc Cert.FdwupIdeal.main_arg0) = m ((c.tc : Thread Cert.FdwupIdeal.nD Cert.FdwupIdeal.τ).loc Cert.FdwupIdeal.main_arg0)
          ∧ r.2.mem ((c.tc : Thread Cert.FdwupIdeal.nD Cert.FdwupIdeal.τ).loc Cert.FdwupIdeal.main_arg1) = m ((c.tc : Thread Cert.FdwupIdeal.nD Cert.FdwupIdeal.τ).loc Cert.FdwupIdeal.main_arg1))
      ∧ θ_run (Cert.FdwupRefIdeal.defs (F := Ideal)) (onTc (τ := Cert.FdwupRefIdeal.τ) (Cert.FdwupRefIdeal.main (F := Ideal))) ⟨m', fun _ => 0, g'⟩ (fun r => ∀ c : Dev Cert.FdwupRefIdeal.nD,
          r.2.mem ((c.tc : Thread Cert.FdwupRefIdeal.nD Cert.FdwupRefIdeal.τ).loc Cert.FdwupRefIdeal.main_v9) = v0 c
          ∧ r.2.mem ((c.tc : Thread Cert.FdwupRefIdeal.nD Cert.FdwupRefIdeal.τ).loc Cert.FdwupRefIdeal.main_arg0) = m' ((c.tc : Thread Cert.FdwupRefIdeal.nD Cert.FdwupRefIdeal.τ).loc Cert.FdwupRefIdeal.main_arg0)
          ∧ r.2.mem ((c.tc : Thread Cert.FdwupRefIdeal.nD Cert.FdwupRefIdeal.τ).loc Cert.FdwupRefIdeal.main_arg1) = m' ((c.tc : Thread Cert.FdwupRefIdeal.nD Cert.FdwupRefIdeal.τ).loc Cert.FdwupRefIdeal.main_arg1))

def preserves_Fdact_FdactIdeal : Prop :=
  True

def algebraic_FdactIdeal_FdactRefIdeal [hFdactIdeal : Cert.FdactIdeal.Facts] [hFdactRefIdeal : Cert.FdactRefIdeal.Facts] : Prop :=
  ∀ (m : (ℓ : Loc Cert.FdactIdeal.nD Cert.FdactIdeal.τ Cert.FdactIdeal.sig) → Buf (Elt Ideal) ℓ) (g : Dev Cert.FdactIdeal.nD → PrngReg)
    (m' : (ℓ : Loc Cert.FdactRefIdeal.nD Cert.FdactRefIdeal.τ Cert.FdactRefIdeal.sig) → Buf (Elt Ideal) ℓ) (g' : Dev Cert.FdactRefIdeal.nD → PrngReg), Pre_FdactIdeal m →
    (∀ c : Dev Cert.FdactIdeal.nD,
      m' ((c.tc : Thread Cert.FdactRefIdeal.nD Cert.FdactRefIdeal.τ).loc Cert.FdactRefIdeal.main_arg0) = m ((c.tc : Thread Cert.FdactIdeal.nD Cert.FdactIdeal.τ).loc Cert.FdactIdeal.main_arg0)
      ∧ m' ((c.tc : Thread Cert.FdactRefIdeal.nD Cert.FdactRefIdeal.τ).loc Cert.FdactRefIdeal.main_arg1) = m ((c.tc : Thread Cert.FdactIdeal.nD Cert.FdactIdeal.τ).loc Cert.FdactIdeal.main_arg1)) →
    ∃ (v0 : (c : Dev Cert.FdactIdeal.nD) → Buf (Elt Ideal) ((c.tc : Thread Cert.FdactIdeal.nD Cert.FdactIdeal.τ).loc Cert.FdactIdeal.main_v0)),
      θ_run (Cert.FdactIdeal.defs (F := Ideal)) (onTc (τ := Cert.FdactIdeal.τ) (Cert.FdactIdeal.main (F := Ideal))) ⟨m, fun _ => 0, g⟩ (fun r => ∀ c : Dev Cert.FdactIdeal.nD,
          r.2.mem ((c.tc : Thread Cert.FdactIdeal.nD Cert.FdactIdeal.τ).loc Cert.FdactIdeal.main_v0) = v0 c
          ∧ r.2.mem ((c.tc : Thread Cert.FdactIdeal.nD Cert.FdactIdeal.τ).loc Cert.FdactIdeal.main_arg0) = m ((c.tc : Thread Cert.FdactIdeal.nD Cert.FdactIdeal.τ).loc Cert.FdactIdeal.main_arg0)
          ∧ r.2.mem ((c.tc : Thread Cert.FdactIdeal.nD Cert.FdactIdeal.τ).loc Cert.FdactIdeal.main_arg1) = m ((c.tc : Thread Cert.FdactIdeal.nD Cert.FdactIdeal.τ).loc Cert.FdactIdeal.main_arg1))
      ∧ θ_run (Cert.FdactRefIdeal.defs (F := Ideal)) (onTc (τ := Cert.FdactRefIdeal.τ) (Cert.FdactRefIdeal.main (F := Ideal))) ⟨m', fun _ => 0, g'⟩ (fun r => ∀ c : Dev Cert.FdactRefIdeal.nD,
          r.2.mem ((c.tc : Thread Cert.FdactRefIdeal.nD Cert.FdactRefIdeal.τ).loc Cert.FdactRefIdeal.main_v5) = v0 c
          ∧ r.2.mem ((c.tc : Thread Cert.FdactRefIdeal.nD Cert.FdactRefIdeal.τ).loc Cert.FdactRefIdeal.main_arg0) = m' ((c.tc : Thread Cert.FdactRefIdeal.nD Cert.FdactRefIdeal.τ).loc Cert.FdactRefIdeal.main_arg0)
          ∧ r.2.mem ((c.tc : Thread Cert.FdactRefIdeal.nD Cert.FdactRefIdeal.τ).loc Cert.FdactRefIdeal.main_arg1) = m' ((c.tc : Thread Cert.FdactRefIdeal.nD Cert.FdactRefIdeal.τ).loc Cert.FdactRefIdeal.main_arg1))

def preserves_Fdwdown_FdwdownIdeal : Prop :=
  True

def algebraic_FdwdownIdeal_FdwdownRefIdeal [hFdwdownIdeal : Cert.FdwdownIdeal.Facts] [hFdwdownRefIdeal : Cert.FdwdownRefIdeal.Facts] : Prop :=
  ∀ (m : (ℓ : Loc Cert.FdwdownIdeal.nD Cert.FdwdownIdeal.τ Cert.FdwdownIdeal.sig) → Buf (Elt Ideal) ℓ) (g : Dev Cert.FdwdownIdeal.nD → PrngReg)
    (m' : (ℓ : Loc Cert.FdwdownRefIdeal.nD Cert.FdwdownRefIdeal.τ Cert.FdwdownRefIdeal.sig) → Buf (Elt Ideal) ℓ) (g' : Dev Cert.FdwdownRefIdeal.nD → PrngReg), Pre_FdwdownIdeal m →
    (∀ c : Dev Cert.FdwdownIdeal.nD,
      m' ((c.tc : Thread Cert.FdwdownRefIdeal.nD Cert.FdwdownRefIdeal.τ).loc Cert.FdwdownRefIdeal.main_arg0) = m ((c.tc : Thread Cert.FdwdownIdeal.nD Cert.FdwdownIdeal.τ).loc Cert.FdwdownIdeal.main_arg0)
      ∧ m' ((c.tc : Thread Cert.FdwdownRefIdeal.nD Cert.FdwdownRefIdeal.τ).loc Cert.FdwdownRefIdeal.main_arg1) = m ((c.tc : Thread Cert.FdwdownIdeal.nD Cert.FdwdownIdeal.τ).loc Cert.FdwdownIdeal.main_arg1)) →
    ∃ (v0 : (c : Dev Cert.FdwdownIdeal.nD) → Buf (Elt Ideal) ((c.tc : Thread Cert.FdwdownIdeal.nD Cert.FdwdownIdeal.τ).loc Cert.FdwdownIdeal.main_v0)),
      θ_run (Cert.FdwdownIdeal.defs (F := Ideal)) (onTc (τ := Cert.FdwdownIdeal.τ) (Cert.FdwdownIdeal.main (F := Ideal))) ⟨m, fun _ => 0, g⟩ (fun r => ∀ c : Dev Cert.FdwdownIdeal.nD,
          r.2.mem ((c.tc : Thread Cert.FdwdownIdeal.nD Cert.FdwdownIdeal.τ).loc Cert.FdwdownIdeal.main_v0) = v0 c
          ∧ r.2.mem ((c.tc : Thread Cert.FdwdownIdeal.nD Cert.FdwdownIdeal.τ).loc Cert.FdwdownIdeal.main_arg0) = m ((c.tc : Thread Cert.FdwdownIdeal.nD Cert.FdwdownIdeal.τ).loc Cert.FdwdownIdeal.main_arg0)
          ∧ r.2.mem ((c.tc : Thread Cert.FdwdownIdeal.nD Cert.FdwdownIdeal.τ).loc Cert.FdwdownIdeal.main_arg1) = m ((c.tc : Thread Cert.FdwdownIdeal.nD Cert.FdwdownIdeal.τ).loc Cert.FdwdownIdeal.main_arg1))
      ∧ θ_run (Cert.FdwdownRefIdeal.defs (F := Ideal)) (onTc (τ := Cert.FdwdownRefIdeal.τ) (Cert.FdwdownRefIdeal.main (F := Ideal))) ⟨m', fun _ => 0, g'⟩ (fun r => ∀ c : Dev Cert.FdwdownRefIdeal.nD,
          r.2.mem ((c.tc : Thread Cert.FdwdownRefIdeal.nD Cert.FdwdownRefIdeal.τ).loc Cert.FdwdownRefIdeal.main_v6) = v0 c
          ∧ r.2.mem ((c.tc : Thread Cert.FdwdownRefIdeal.nD Cert.FdwdownRefIdeal.τ).loc Cert.FdwdownRefIdeal.main_arg0) = m' ((c.tc : Thread Cert.FdwdownRefIdeal.nD Cert.FdwdownRefIdeal.τ).loc Cert.FdwdownRefIdeal.main_arg0)
          ∧ r.2.mem ((c.tc : Thread Cert.FdwdownRefIdeal.nD Cert.FdwdownRefIdeal.τ).loc Cert.FdwdownRefIdeal.main_arg1) = m' ((c.tc : Thread Cert.FdwdownRefIdeal.nD Cert.FdwdownRefIdeal.τ).loc Cert.FdwdownRefIdeal.main_arg1))

def preserves_Fup_FupIdeal : Prop :=
  True

def algebraic_FupIdeal_FupRefIdeal [hFupIdeal : Cert.FupIdeal.Facts] [hFupRefIdeal : Cert.FupRefIdeal.Facts] : Prop :=
  ∀ (m : (ℓ : Loc Cert.FupIdeal.nD Cert.FupIdeal.τ Cert.FupIdeal.sig) → Buf (Elt Ideal) ℓ) (g : Dev Cert.FupIdeal.nD → PrngReg)
    (m' : (ℓ : Loc Cert.FupRefIdeal.nD Cert.FupRefIdeal.τ Cert.FupRefIdeal.sig) → Buf (Elt Ideal) ℓ) (g' : Dev Cert.FupRefIdeal.nD → PrngReg), Pre_FupIdeal m →
    (∀ c : Dev Cert.FupIdeal.nD,
      m' ((c.tc : Thread Cert.FupRefIdeal.nD Cert.FupRefIdeal.τ).loc Cert.FupRefIdeal.main_arg0) = m ((c.tc : Thread Cert.FupIdeal.nD Cert.FupIdeal.τ).loc Cert.FupIdeal.main_arg0)
      ∧ m' ((c.tc : Thread Cert.FupRefIdeal.nD Cert.FupRefIdeal.τ).loc Cert.FupRefIdeal.main_arg1) = m ((c.tc : Thread Cert.FupIdeal.nD Cert.FupIdeal.τ).loc Cert.FupIdeal.main_arg1)) →
    ∃ (v0 : (c : Dev Cert.FupIdeal.nD) → Buf (Elt Ideal) ((c.tc : Thread Cert.FupIdeal.nD Cert.FupIdeal.τ).loc Cert.FupIdeal.main_v0)),
      θ_run (Cert.FupIdeal.defs (F := Ideal)) (onTc (τ := Cert.FupIdeal.τ) (Cert.FupIdeal.main (F := Ideal))) ⟨m, fun _ => 0, g⟩ (fun r => ∀ c : Dev Cert.FupIdeal.nD,
          r.2.mem ((c.tc : Thread Cert.FupIdeal.nD Cert.FupIdeal.τ).loc Cert.FupIdeal.main_v0) = v0 c
          ∧ r.2.mem ((c.tc : Thread Cert.FupIdeal.nD Cert.FupIdeal.τ).loc Cert.FupIdeal.main_arg0) = m ((c.tc : Thread Cert.FupIdeal.nD Cert.FupIdeal.τ).loc Cert.FupIdeal.main_arg0)
          ∧ r.2.mem ((c.tc : Thread Cert.FupIdeal.nD Cert.FupIdeal.τ).loc Cert.FupIdeal.main_arg1) = m ((c.tc : Thread Cert.FupIdeal.nD Cert.FupIdeal.τ).loc Cert.FupIdeal.main_arg1))
      ∧ θ_run (Cert.FupRefIdeal.defs (F := Ideal)) (onTc (τ := Cert.FupRefIdeal.τ) (Cert.FupRefIdeal.main (F := Ideal))) ⟨m', fun _ => 0, g'⟩ (fun r => ∀ c : Dev Cert.FupRefIdeal.nD,
          r.2.mem ((c.tc : Thread Cert.FupRefIdeal.nD Cert.FupRefIdeal.τ).loc Cert.FupRefIdeal.main_v6) = v0 c
          ∧ r.2.mem ((c.tc : Thread Cert.FupRefIdeal.nD Cert.FupRefIdeal.τ).loc Cert.FupRefIdeal.main_arg0) = m' ((c.tc : Thread Cert.FupRefIdeal.nD Cert.FupRefIdeal.τ).loc Cert.FupRefIdeal.main_arg0)
          ∧ r.2.mem ((c.tc : Thread Cert.FupRefIdeal.nD Cert.FupRefIdeal.τ).loc Cert.FupRefIdeal.main_arg1) = m' ((c.tc : Thread Cert.FupRefIdeal.nD Cert.FupRefIdeal.τ).loc Cert.FupRefIdeal.main_arg1))

def preserves_Fdown_FdownIdeal : Prop :=
  True

def algebraic_FdownIdeal_FdownRefIdeal [hFdownIdeal : Cert.FdownIdeal.Facts] [hFdownRefIdeal : Cert.FdownRefIdeal.Facts] : Prop :=
  ∀ (m : (ℓ : Loc Cert.FdownIdeal.nD Cert.FdownIdeal.τ Cert.FdownIdeal.sig) → Buf (Elt Ideal) ℓ) (g : Dev Cert.FdownIdeal.nD → PrngReg)
    (m' : (ℓ : Loc Cert.FdownRefIdeal.nD Cert.FdownRefIdeal.τ Cert.FdownRefIdeal.sig) → Buf (Elt Ideal) ℓ) (g' : Dev Cert.FdownRefIdeal.nD → PrngReg), Pre_FdownIdeal m →
    (∀ c : Dev Cert.FdownIdeal.nD,
      m' ((c.tc : Thread Cert.FdownRefIdeal.nD Cert.FdownRefIdeal.τ).loc Cert.FdownRefIdeal.main_arg0) = m ((c.tc : Thread Cert.FdownIdeal.nD Cert.FdownIdeal.τ).loc Cert.FdownIdeal.main_arg0)
      ∧ m' ((c.tc : Thread Cert.FdownRefIdeal.nD Cert.FdownRefIdeal.τ).loc Cert.FdownRefIdeal.main_arg1) = m ((c.tc : Thread Cert.FdownIdeal.nD Cert.FdownIdeal.τ).loc Cert.FdownIdeal.main_arg1)
      ∧ m' ((c.tc : Thread Cert.FdownRefIdeal.nD Cert.FdownRefIdeal.τ).loc Cert.FdownRefIdeal.main_arg2) = m ((c.tc : Thread Cert.FdownIdeal.nD Cert.FdownIdeal.τ).loc Cert.FdownIdeal.main_arg2)
      ∧ m' ((c.tc : Thread Cert.FdownRefIdeal.nD Cert.FdownRefIdeal.τ).loc Cert.FdownRefIdeal.main_arg3) = m ((c.tc : Thread Cert.FdownIdeal.nD Cert.FdownIdeal.τ).loc Cert.FdownIdeal.main_arg3)) →
    ∃ (v0 : (c : Dev Cert.FdownIdeal.nD) → Buf (Elt Ideal) ((c.tc : Thread Cert.FdownIdeal.nD Cert.FdownIdeal.τ).loc Cert.FdownIdeal.main_v0_0)) (v1 : (c : Dev Cert.FdownIdeal.nD) → Buf (Elt Ideal) ((c.tc : Thread Cert.FdownIdeal.nD Cert.FdownIdeal.τ).loc Cert.FdownIdeal.main_v0_1)),
      θ_run (Cert.FdownIdeal.defs (F := Ideal)) (onTc (τ := Cert.FdownIdeal.τ) (Cert.FdownIdeal.main (F := Ideal))) ⟨m, fun _ => 0, g⟩ (fun r => ∀ c : Dev Cert.FdownIdeal.nD,
          r.2.mem ((c.tc : Thread Cert.FdownIdeal.nD Cert.FdownIdeal.τ).loc Cert.FdownIdeal.main_v0_0) = v0 c
          ∧ r.2.mem ((c.tc : Thread Cert.FdownIdeal.nD Cert.FdownIdeal.τ).loc Cert.FdownIdeal.main_v0_1) = v1 c
          ∧ r.2.mem ((c.tc : Thread Cert.FdownIdeal.nD Cert.FdownIdeal.τ).loc Cert.FdownIdeal.main_arg0) = m ((c.tc : Thread Cert.FdownIdeal.nD Cert.FdownIdeal.τ).loc Cert.FdownIdeal.main_arg0)
          ∧ r.2.mem ((c.tc : Thread Cert.FdownIdeal.nD Cert.FdownIdeal.τ).loc Cert.FdownIdeal.main_arg1) = m ((c.tc : Thread Cert.FdownIdeal.nD Cert.FdownIdeal.τ).loc Cert.FdownIdeal.main_arg1)
          ∧ r.2.mem ((c.tc : Thread Cert.FdownIdeal.nD Cert.FdownIdeal.τ).loc Cert.FdownIdeal.main_arg2) = m ((c.tc : Thread Cert.FdownIdeal.nD Cert.FdownIdeal.τ).loc Cert.FdownIdeal.main_arg2)
          ∧ r.2.mem ((c.tc : Thread Cert.FdownIdeal.nD Cert.FdownIdeal.τ).loc Cert.FdownIdeal.main_arg3) = m ((c.tc : Thread Cert.FdownIdeal.nD Cert.FdownIdeal.τ).loc Cert.FdownIdeal.main_arg3))
      ∧ θ_run (Cert.FdownRefIdeal.defs (F := Ideal)) (onTc (τ := Cert.FdownRefIdeal.τ) (Cert.FdownRefIdeal.main (F := Ideal))) ⟨m', fun _ => 0, g'⟩ (fun r => ∀ c : Dev Cert.FdownRefIdeal.nD,
          r.2.mem ((c.tc : Thread Cert.FdownRefIdeal.nD Cert.FdownRefIdeal.τ).loc Cert.FdownRefIdeal.main_v3) = v0 c
          ∧ r.2.mem ((c.tc : Thread Cert.FdownRefIdeal.nD Cert.FdownRefIdeal.τ).loc Cert.FdownRefIdeal.main_v16) = v1 c
          ∧ r.2.mem ((c.tc : Thread Cert.FdownRefIdeal.nD Cert.FdownRefIdeal.τ).loc Cert.FdownRefIdeal.main_arg0) = m' ((c.tc : Thread Cert.FdownRefIdeal.nD Cert.FdownRefIdeal.τ).loc Cert.FdownRefIdeal.main_arg0)
          ∧ r.2.mem ((c.tc : Thread Cert.FdownRefIdeal.nD Cert.FdownRefIdeal.τ).loc Cert.FdownRefIdeal.main_arg1) = m' ((c.tc : Thread Cert.FdownRefIdeal.nD Cert.FdownRefIdeal.τ).loc Cert.FdownRefIdeal.main_arg1)
          ∧ r.2.mem ((c.tc : Thread Cert.FdownRefIdeal.nD Cert.FdownRefIdeal.τ).loc Cert.FdownRefIdeal.main_arg2) = m' ((c.tc : Thread Cert.FdownRefIdeal.nD Cert.FdownRefIdeal.τ).loc Cert.FdownRefIdeal.main_arg2)
          ∧ r.2.mem ((c.tc : Thread Cert.FdownRefIdeal.nD Cert.FdownRefIdeal.τ).loc Cert.FdownRefIdeal.main_arg3) = m' ((c.tc : Thread Cert.FdownRefIdeal.nD Cert.FdownRefIdeal.τ).loc Cert.FdownRefIdeal.main_arg3))

def preserves_Flast_FlastIdeal : Prop :=
  True

def algebraic_FlastIdeal_FlastRefIdeal [hFlastIdeal : Cert.FlastIdeal.Facts] [hFlastRefIdeal : Cert.FlastRefIdeal.Facts] : Prop :=
  ∀ (m : (ℓ : Loc Cert.FlastIdeal.nD Cert.FlastIdeal.τ Cert.FlastIdeal.sig) → Buf (Elt Ideal) ℓ) (g : Dev Cert.FlastIdeal.nD → PrngReg)
    (m' : (ℓ : Loc Cert.FlastRefIdeal.nD Cert.FlastRefIdeal.τ Cert.FlastRefIdeal.sig) → Buf (Elt Ideal) ℓ) (g' : Dev Cert.FlastRefIdeal.nD → PrngReg), Pre_FlastIdeal m →
    (∀ c : Dev Cert.FlastIdeal.nD,
      m' ((c.tc : Thread Cert.FlastRefIdeal.nD Cert.FlastRefIdeal.τ).loc Cert.FlastRefIdeal.main_arg0) = m ((c.tc : Thread Cert.FlastIdeal.nD Cert.FlastIdeal.τ).loc Cert.FlastIdeal.main_arg0)
      ∧ m' ((c.tc : Thread Cert.FlastRefIdeal.nD Cert.FlastRefIdeal.τ).loc Cert.FlastRefIdeal.main_arg1) = m ((c.tc : Thread Cert.FlastIdeal.nD Cert.FlastIdeal.τ).loc Cert.FlastIdeal.main_arg1)
      ∧ m' ((c.tc : Thread Cert.FlastRefIdeal.nD Cert.FlastRefIdeal.τ).loc Cert.FlastRefIdeal.main_arg2) = m ((c.tc : Thread Cert.FlastIdeal.nD Cert.FlastIdeal.τ).loc Cert.FlastIdeal.main_arg2)) →
    ∃ (v0 : (c : Dev Cert.FlastIdeal.nD) → Buf (Elt Ideal) ((c.tc : Thread Cert.FlastIdeal.nD Cert.FlastIdeal.τ).loc Cert.FlastIdeal.main_v0)),
      θ_run (Cert.FlastIdeal.defs (F := Ideal)) (onTc (τ := Cert.FlastIdeal.τ) (Cert.FlastIdeal.main (F := Ideal))) ⟨m, fun _ => 0, g⟩ (fun r => ∀ c : Dev Cert.FlastIdeal.nD,
          r.2.mem ((c.tc : Thread Cert.FlastIdeal.nD Cert.FlastIdeal.τ).loc Cert.FlastIdeal.main_v0) = v0 c
          ∧ r.2.mem ((c.tc : Thread Cert.FlastIdeal.nD Cert.FlastIdeal.τ).loc Cert.FlastIdeal.main_arg0) = m ((c.tc : Thread Cert.FlastIdeal.nD Cert.FlastIdeal.τ).loc Cert.FlastIdeal.main_arg0)
          ∧ r.2.mem ((c.tc : Thread Cert.FlastIdeal.nD Cert.FlastIdeal.τ).loc Cert.FlastIdeal.main_arg1) = m ((c.tc : Thread Cert.FlastIdeal.nD Cert.FlastIdeal.τ).loc Cert.FlastIdeal.main_arg1)
          ∧ r.2.mem ((c.tc : Thread Cert.FlastIdeal.nD Cert.FlastIdeal.τ).loc Cert.FlastIdeal.main_arg2) = m ((c.tc : Thread Cert.FlastIdeal.nD Cert.FlastIdeal.τ).loc Cert.FlastIdeal.main_arg2))
      ∧ θ_run (Cert.FlastRefIdeal.defs (F := Ideal)) (onTc (τ := Cert.FlastRefIdeal.τ) (Cert.FlastRefIdeal.main (F := Ideal))) ⟨m', fun _ => 0, g'⟩ (fun r => ∀ c : Dev Cert.FlastRefIdeal.nD,
          r.2.mem ((c.tc : Thread Cert.FlastRefIdeal.nD Cert.FlastRefIdeal.τ).loc Cert.FlastRefIdeal.main_v3) = v0 c
          ∧ r.2.mem ((c.tc : Thread Cert.FlastRefIdeal.nD Cert.FlastRefIdeal.τ).loc Cert.FlastRefIdeal.main_arg0) = m' ((c.tc : Thread Cert.FlastRefIdeal.nD Cert.FlastRefIdeal.τ).loc Cert.FlastRefIdeal.main_arg0)
          ∧ r.2.mem ((c.tc : Thread Cert.FlastRefIdeal.nD Cert.FlastRefIdeal.τ).loc Cert.FlastRefIdeal.main_arg1) = m' ((c.tc : Thread Cert.FlastRefIdeal.nD Cert.FlastRefIdeal.τ).loc Cert.FlastRefIdeal.main_arg1)
          ∧ r.2.mem ((c.tc : Thread Cert.FlastRefIdeal.nD Cert.FlastRefIdeal.τ).loc Cert.FlastRefIdeal.main_arg2) = m' ((c.tc : Thread Cert.FlastRefIdeal.nD Cert.FlastRefIdeal.τ).loc Cert.FlastRefIdeal.main_arg2))

def preserves_Sdy_SdyIdeal : Prop :=
  True

def algebraic_SdyIdeal_SdyRefIdeal [hSdyIdeal : Cert.SdyIdeal.Facts] [hSdyRefIdeal : Cert.SdyRefIdeal.Facts] : Prop :=
  ∀ (m : (ℓ : Loc Cert.SdyIdeal.nD Cert.SdyIdeal.τ Cert.SdyIdeal.sig) → Buf (Elt Ideal) ℓ) (g : Dev Cert.SdyIdeal.nD → PrngReg)
    (m' : (ℓ : Loc Cert.SdyRefIdeal.nD Cert.SdyRefIdeal.τ Cert.SdyRefIdeal.sig) → Buf (Elt Ideal) ℓ) (g' : Dev Cert.SdyRefIdeal.nD → PrngReg), Pre_SdyIdeal m →
    (∀ c : Dev Cert.SdyIdeal.nD,
      m' ((c.tc : Thread Cert.SdyRefIdeal.nD Cert.SdyRefIdeal.τ).loc Cert.SdyRefIdeal.main_arg0) = m ((c.tc : Thread Cert.SdyIdeal.nD Cert.SdyIdeal.τ).loc Cert.SdyIdeal.main_arg0)
      ∧ m' ((c.tc : Thread Cert.SdyRefIdeal.nD Cert.SdyRefIdeal.τ).loc Cert.SdyRefIdeal.main_arg1) = m ((c.tc : Thread Cert.SdyIdeal.nD Cert.SdyIdeal.τ).loc Cert.SdyIdeal.main_arg1)) →
    ∃ (v0 : (c : Dev Cert.SdyIdeal.nD) → Buf (Elt Ideal) ((c.tc : Thread Cert.SdyIdeal.nD Cert.SdyIdeal.τ).loc Cert.SdyIdeal.main_v0)),
      θ_run (Cert.SdyIdeal.defs (F := Ideal)) (onTc (τ := Cert.SdyIdeal.τ) (Cert.SdyIdeal.main (F := Ideal))) ⟨m, fun _ => 0, g⟩ (fun r => ∀ c : Dev Cert.SdyIdeal.nD,
          r.2.mem ((c.tc : Thread Cert.SdyIdeal.nD Cert.SdyIdeal.τ).loc Cert.SdyIdeal.main_v0) = v0 c
          ∧ r.2.mem ((c.tc : Thread Cert.SdyIdeal.nD Cert.SdyIdeal.τ).loc Cert.SdyIdeal.main_arg0) = m ((c.tc : Thread Cert.SdyIdeal.nD Cert.SdyIdeal.τ).loc Cert.SdyIdeal.main_arg0)
          ∧ r.2.mem ((c.tc : Thread Cert.SdyIdeal.nD Cert.SdyIdeal.τ).loc Cert.SdyIdeal.main_arg1) = m ((c.tc : Thread Cert.SdyIdeal.nD Cert.SdyIdeal.τ).loc Cert.SdyIdeal.main_arg1))
      ∧ θ_run (Cert.SdyRefIdeal.defs (F := Ideal)) (onTc (τ := Cert.SdyRefIdeal.τ) (Cert.SdyRefIdeal.main (F := Ideal))) ⟨m', fun _ => 0, g'⟩ (fun r => ∀ c : Dev Cert.SdyRefIdeal.nD,
          r.2.mem ((c.tc : Thread Cert.SdyRefIdeal.nD Cert.SdyRefIdeal.τ).loc Cert.SdyRefIdeal.main_v5) = v0 c
          ∧ r.2.mem ((c.tc : Thread Cert.SdyRefIdeal.nD Cert.SdyRefIdeal.τ).loc Cert.SdyRefIdeal.main_arg0) = m' ((c.tc : Thread Cert.SdyRefIdeal.nD Cert.SdyRefIdeal.τ).loc Cert.SdyRefIdeal.main_arg0)
          ∧ r.2.mem ((c.tc : Thread Cert.SdyRefIdeal.nD Cert.SdyRefIdeal.τ).loc Cert.SdyRefIdeal.main_arg1) = m' ((c.tc : Thread Cert.SdyRefIdeal.nD Cert.SdyRefIdeal.τ).loc Cert.SdyRefIdeal.main_arg1))

def preserves_Sdw_SdwIdeal : Prop :=
  True

def algebraic_SdwIdeal_SdwRefIdeal [hSdwIdeal : Cert.SdwIdeal.Facts] [hSdwRefIdeal : Cert.SdwRefIdeal.Facts] : Prop :=
  ∀ (m : (ℓ : Loc Cert.SdwIdeal.nD Cert.SdwIdeal.τ Cert.SdwIdeal.sig) → Buf (Elt Ideal) ℓ) (g : Dev Cert.SdwIdeal.nD → PrngReg)
    (m' : (ℓ : Loc Cert.SdwRefIdeal.nD Cert.SdwRefIdeal.τ Cert.SdwRefIdeal.sig) → Buf (Elt Ideal) ℓ) (g' : Dev Cert.SdwRefIdeal.nD → PrngReg), Pre_SdwIdeal m →
    (∀ c : Dev Cert.SdwIdeal.nD,
      m' ((c.tc : Thread Cert.SdwRefIdeal.nD Cert.SdwRefIdeal.τ).loc Cert.SdwRefIdeal.main_arg0) = m ((c.tc : Thread Cert.SdwIdeal.nD Cert.SdwIdeal.τ).loc Cert.SdwIdeal.main_arg0)
      ∧ m' ((c.tc : Thread Cert.SdwRefIdeal.nD Cert.SdwRefIdeal.τ).loc Cert.SdwRefIdeal.main_arg1) = m ((c.tc : Thread Cert.SdwIdeal.nD Cert.SdwIdeal.τ).loc Cert.SdwIdeal.main_arg1)) →
    ∃ (v0 : (c : Dev Cert.SdwIdeal.nD) → Buf (Elt Ideal) ((c.tc : Thread Cert.SdwIdeal.nD Cert.SdwIdeal.τ).loc Cert.SdwIdeal.main_v0)),
      θ_run (Cert.SdwIdeal.defs (F := Ideal)) (onTc (τ := Cert.SdwIdeal.τ) (Cert.SdwIdeal.main (F := Ideal))) ⟨m, fun _ => 0, g⟩ (fun r => ∀ c : Dev Cert.SdwIdeal.nD,
          r.2.mem ((c.tc : Thread Cert.SdwIdeal.nD Cert.SdwIdeal.τ).loc Cert.SdwIdeal.main_v0) = v0 c
          ∧ r.2.mem ((c.tc : Thread Cert.SdwIdeal.nD Cert.SdwIdeal.τ).loc Cert.SdwIdeal.main_arg0) = m ((c.tc : Thread Cert.SdwIdeal.nD Cert.SdwIdeal.τ).loc Cert.SdwIdeal.main_arg0)
          ∧ r.2.mem ((c.tc : Thread Cert.SdwIdeal.nD Cert.SdwIdeal.τ).loc Cert.SdwIdeal.main_arg1) = m ((c.tc : Thread Cert.SdwIdeal.nD Cert.SdwIdeal.τ).loc Cert.SdwIdeal.main_arg1))
      ∧ θ_run (Cert.SdwRefIdeal.defs (F := Ideal)) (onTc (τ := Cert.SdwRefIdeal.τ) (Cert.SdwRefIdeal.main (F := Ideal))) ⟨m', fun _ => 0, g'⟩ (fun r => ∀ c : Dev Cert.SdwRefIdeal.nD,
          r.2.mem ((c.tc : Thread Cert.SdwRefIdeal.nD Cert.SdwRefIdeal.τ).loc Cert.SdwRefIdeal.main_v6) = v0 c
          ∧ r.2.mem ((c.tc : Thread Cert.SdwRefIdeal.nD Cert.SdwRefIdeal.τ).loc Cert.SdwRefIdeal.main_arg0) = m' ((c.tc : Thread Cert.SdwRefIdeal.nD Cert.SdwRefIdeal.τ).loc Cert.SdwRefIdeal.main_arg0)
          ∧ r.2.mem ((c.tc : Thread Cert.SdwRefIdeal.nD Cert.SdwRefIdeal.τ).loc Cert.SdwRefIdeal.main_arg1) = m' ((c.tc : Thread Cert.SdwRefIdeal.nD Cert.SdwRefIdeal.τ).loc Cert.SdwRefIdeal.main_arg1))

def preserves_Sq_SqIdeal : Prop :=
  True

def algebraic_SqIdeal_SqRefIdeal [hSqIdeal : Cert.SqIdeal.Facts] [hSqRefIdeal : Cert.SqRefIdeal.Facts] : Prop :=
  ∀ (m : (ℓ : Loc Cert.SqIdeal.nD Cert.SqIdeal.τ Cert.SqIdeal.sig) → Buf (Elt Ideal) ℓ) (g : Dev Cert.SqIdeal.nD → PrngReg)
    (m' : (ℓ : Loc Cert.SqRefIdeal.nD Cert.SqRefIdeal.τ Cert.SqRefIdeal.sig) → Buf (Elt Ideal) ℓ) (g' : Dev Cert.SqRefIdeal.nD → PrngReg), Pre_SqIdeal m →
    (∀ c : Dev Cert.SqIdeal.nD,
      m' ((c.tc : Thread Cert.SqRefIdeal.nD Cert.SqRefIdeal.τ).loc Cert.SqRefIdeal.main_arg0) = m ((c.tc : Thread Cert.SqIdeal.nD Cert.SqIdeal.τ).loc Cert.SqIdeal.main_arg0)
      ∧ m' ((c.tc : Thread Cert.SqRefIdeal.nD Cert.SqRefIdeal.τ).loc Cert.SqRefIdeal.main_arg1) = m ((c.tc : Thread Cert.SqIdeal.nD Cert.SqIdeal.τ).loc Cert.SqIdeal.main_arg1)) →
    ∃ (v0 : (c : Dev Cert.SqIdeal.nD) → Buf (Elt Ideal) ((c.tc : Thread Cert.SqIdeal.nD Cert.SqIdeal.τ).loc Cert.SqIdeal.main_v0)),
      θ_run (Cert.SqIdeal.defs (F := Ideal)) (onTc (τ := Cert.SqIdeal.τ) (Cert.SqIdeal.main (F := Ideal))) ⟨m, fun _ => 0, g⟩ (fun r => ∀ c : Dev Cert.SqIdeal.nD,
          r.2.mem ((c.tc : Thread Cert.SqIdeal.nD Cert.SqIdeal.τ).loc Cert.SqIdeal.main_v0) = v0 c
          ∧ r.2.mem ((c.tc : Thread Cert.SqIdeal.nD Cert.SqIdeal.τ).loc Cert.SqIdeal.main_arg0) = m ((c.tc : Thread Cert.SqIdeal.nD Cert.SqIdeal.τ).loc Cert.SqIdeal.main_arg0)
          ∧ r.2.mem ((c.tc : Thread Cert.SqIdeal.nD Cert.SqIdeal.τ).loc Cert.SqIdeal.main_arg1) = m ((c.tc : Thread Cert.SqIdeal.nD Cert.SqIdeal.τ).loc Cert.SqIdeal.main_arg1))
      ∧ θ_run (Cert.SqRefIdeal.defs (F := Ideal)) (onTc (τ := Cert.SqRefIdeal.τ) (Cert.SqRefIdeal.main (F := Ideal))) ⟨m', fun _ => 0, g'⟩ (fun r => ∀ c : Dev Cert.SqRefIdeal.nD,
          r.2.mem ((c.tc : Thread Cert.SqRefIdeal.nD Cert.SqRefIdeal.τ).loc Cert.SqRefIdeal.main_v3) = v0 c
          ∧ r.2.mem ((c.tc : Thread Cert.SqRefIdeal.nD Cert.SqRefIdeal.τ).loc Cert.SqRefIdeal.main_arg0) = m' ((c.tc : Thread Cert.SqRefIdeal.nD Cert.SqRefIdeal.τ).loc Cert.SqRefIdeal.main_arg0)
          ∧ r.2.mem ((c.tc : Thread Cert.SqRefIdeal.nD Cert.SqRefIdeal.τ).loc Cert.SqRefIdeal.main_arg1) = m' ((c.tc : Thread Cert.SqRefIdeal.nD Cert.SqRefIdeal.τ).loc Cert.SqRefIdeal.main_arg1))

def preserves_So_SoIdeal : Prop :=
  True

def algebraic_SoIdeal_SoRefIdeal [hSoIdeal : Cert.SoIdeal.Facts] [hSoRefIdeal : Cert.SoRefIdeal.Facts] : Prop :=
  ∀ (m : (ℓ : Loc Cert.SoIdeal.nD Cert.SoIdeal.τ Cert.SoIdeal.sig) → Buf (Elt Ideal) ℓ) (g : Dev Cert.SoIdeal.nD → PrngReg)
    (m' : (ℓ : Loc Cert.SoRefIdeal.nD Cert.SoRefIdeal.τ Cert.SoRefIdeal.sig) → Buf (Elt Ideal) ℓ) (g' : Dev Cert.SoRefIdeal.nD → PrngReg), Pre_SoIdeal m →
    (∀ c : Dev Cert.SoIdeal.nD,
      m' ((c.tc : Thread Cert.SoRefIdeal.nD Cert.SoRefIdeal.τ).loc Cert.SoRefIdeal.main_arg0) = m ((c.tc : Thread Cert.SoIdeal.nD Cert.SoIdeal.τ).loc Cert.SoIdeal.main_arg0)
      ∧ m' ((c.tc : Thread Cert.SoRefIdeal.nD Cert.SoRefIdeal.τ).loc Cert.SoRefIdeal.main_arg1) = m ((c.tc : Thread Cert.SoIdeal.nD Cert.SoIdeal.τ).loc Cert.SoIdeal.main_arg1)
      ∧ m' ((c.tc : Thread Cert.SoRefIdeal.nD Cert.SoRefIdeal.τ).loc Cert.SoRefIdeal.main_arg2) = m ((c.tc : Thread Cert.SoIdeal.nD Cert.SoIdeal.τ).loc Cert.SoIdeal.main_arg2)
      ∧ m' ((c.tc : Thread Cert.SoRefIdeal.nD Cert.SoRefIdeal.τ).loc Cert.SoRefIdeal.main_arg3) = m ((c.tc : Thread Cert.SoIdeal.nD Cert.SoIdeal.τ).loc Cert.SoIdeal.main_arg3)) →
    ∃ (v0 : (c : Dev Cert.SoIdeal.nD) → Buf (Elt Ideal) ((c.tc : Thread Cert.SoIdeal.nD Cert.SoIdeal.τ).loc Cert.SoIdeal.main_v0_0)) (v1 : (c : Dev Cert.SoIdeal.nD) → Buf (Elt Ideal) ((c.tc : Thread Cert.SoIdeal.nD Cert.SoIdeal.τ).loc Cert.SoIdeal.main_v0_1)),
      θ_run (Cert.SoIdeal.defs (F := Ideal)) (onTc (τ := Cert.SoIdeal.τ) (Cert.SoIdeal.main (F := Ideal))) ⟨m, fun _ => 0, g⟩ (fun r => ∀ c : Dev Cert.SoIdeal.nD,
          r.2.mem ((c.tc : Thread Cert.SoIdeal.nD Cert.SoIdeal.τ).loc Cert.SoIdeal.main_v0_0) = v0 c
          ∧ r.2.mem ((c.tc : Thread Cert.SoIdeal.nD Cert.SoIdeal.τ).loc Cert.SoIdeal.main_v0_1) = v1 c
          ∧ r.2.mem ((c.tc : Thread Cert.SoIdeal.nD Cert.SoIdeal.τ).loc Cert.SoIdeal.main_arg0) = m ((c.tc : Thread Cert.SoIdeal.nD Cert.SoIdeal.τ).loc Cert.SoIdeal.main_arg0)
          ∧ r.2.mem ((c.tc : Thread Cert.SoIdeal.nD Cert.SoIdeal.τ).loc Cert.SoIdeal.main_arg1) = m ((c.tc : Thread Cert.SoIdeal.nD Cert.SoIdeal.τ).loc Cert.SoIdeal.main_arg1)
          ∧ r.2.mem ((c.tc : Thread Cert.SoIdeal.nD Cert.SoIdeal.τ).loc Cert.SoIdeal.main_arg2) = m ((c.tc : Thread Cert.SoIdeal.nD Cert.SoIdeal.τ).loc Cert.SoIdeal.main_arg2)
          ∧ r.2.mem ((c.tc : Thread Cert.SoIdeal.nD Cert.SoIdeal.τ).loc Cert.SoIdeal.main_arg3) = m ((c.tc : Thread Cert.SoIdeal.nD Cert.SoIdeal.τ).loc Cert.SoIdeal.main_arg3))
      ∧ θ_run (Cert.SoRefIdeal.defs (F := Ideal)) (onTc (τ := Cert.SoRefIdeal.τ) (Cert.SoRefIdeal.main (F := Ideal))) ⟨m', fun _ => 0, g'⟩ (fun r => ∀ c : Dev Cert.SoRefIdeal.nD,
          r.2.mem ((c.tc : Thread Cert.SoRefIdeal.nD Cert.SoRefIdeal.τ).loc Cert.SoRefIdeal.main_v3) = v0 c
          ∧ r.2.mem ((c.tc : Thread Cert.SoRefIdeal.nD Cert.SoRefIdeal.τ).loc Cert.SoRefIdeal.main_v16) = v1 c
          ∧ r.2.mem ((c.tc : Thread Cert.SoRefIdeal.nD Cert.SoRefIdeal.τ).loc Cert.SoRefIdeal.main_arg0) = m' ((c.tc : Thread Cert.SoRefIdeal.nD Cert.SoRefIdeal.τ).loc Cert.SoRefIdeal.main_arg0)
          ∧ r.2.mem ((c.tc : Thread Cert.SoRefIdeal.nD Cert.SoRefIdeal.τ).loc Cert.SoRefIdeal.main_arg1) = m' ((c.tc : Thread Cert.SoRefIdeal.nD Cert.SoRefIdeal.τ).loc Cert.SoRefIdeal.main_arg1)
          ∧ r.2.mem ((c.tc : Thread Cert.SoRefIdeal.nD Cert.SoRefIdeal.τ).loc Cert.SoRefIdeal.main_arg2) = m' ((c.tc : Thread Cert.SoRefIdeal.nD Cert.SoRefIdeal.τ).loc Cert.SoRefIdeal.main_arg2)
          ∧ r.2.mem ((c.tc : Thread Cert.SoRefIdeal.nD Cert.SoRefIdeal.τ).loc Cert.SoRefIdeal.main_arg3) = m' ((c.tc : Thread Cert.SoRefIdeal.nD Cert.SoRefIdeal.τ).loc Cert.SoRefIdeal.main_arg3))

def preserves_Tdy_TdyIdeal : Prop :=
  True

def algebraic_TdyIdeal_TdyRefIdeal [hTdyIdeal : Cert.TdyIdeal.Facts] [hTdyRefIdeal : Cert.TdyRefIdeal.Facts] : Prop :=
  ∀ (m : (ℓ : Loc Cert.TdyIdeal.nD Cert.TdyIdeal.τ Cert.TdyIdeal.sig) → Buf (Elt Ideal) ℓ) (g : Dev Cert.TdyIdeal.nD → PrngReg)
    (m' : (ℓ : Loc Cert.TdyRefIdeal.nD Cert.TdyRefIdeal.τ Cert.TdyRefIdeal.sig) → Buf (Elt Ideal) ℓ) (g' : Dev Cert.TdyRefIdeal.nD → PrngReg), Pre_TdyIdeal m →
    (∀ c : Dev Cert.TdyIdeal.nD,
      m' ((c.tc : Thread Cert.TdyRefIdeal.nD Cert.TdyRefIdeal.τ).loc Cert.TdyRefIdeal.main_arg0) = m ((c.tc : Thread Cert.TdyIdeal.nD Cert.TdyIdeal.τ).loc Cert.TdyIdeal.main_arg0)
      ∧ m' ((c.tc : Thread Cert.TdyRefIdeal.nD Cert.TdyRefIdeal.τ).loc Cert.TdyRefIdeal.main_arg1) = m ((c.tc : Thread Cert.TdyIdeal.nD Cert.TdyIdeal.τ).loc Cert.TdyIdeal.main_arg1)) →
    ∃ (v0 : (c : Dev Cert.TdyIdeal.nD) → Buf (Elt Ideal) ((c.tc : Thread Cert.TdyIdeal.nD Cert.TdyIdeal.τ).loc Cert.TdyIdeal.main_v0)),
      θ_run (Cert.TdyIdeal.defs (F := Ideal)) (onTc (τ := Cert.TdyIdeal.τ) (Cert.TdyIdeal.main (F := Ideal))) ⟨m, fun _ => 0, g⟩ (fun r => ∀ c : Dev Cert.TdyIdeal.nD,
          r.2.mem ((c.tc : Thread Cert.TdyIdeal.nD Cert.TdyIdeal.τ).loc Cert.TdyIdeal.main_v0) = v0 c
          ∧ r.2.mem ((c.tc : Thread Cert.TdyIdeal.nD Cert.TdyIdeal.τ).loc Cert.TdyIdeal.main_arg0) = m ((c.tc : Thread Cert.TdyIdeal.nD Cert.TdyIdeal.τ).loc Cert.TdyIdeal.main_arg0)
          ∧ r.2.mem ((c.tc : Thread Cert.TdyIdeal.nD Cert.TdyIdeal.τ).loc Cert.TdyIdeal.main_arg1) = m ((c.tc : Thread Cert.TdyIdeal.nD Cert.TdyIdeal.τ).loc Cert.TdyIdeal.main_arg1))
      ∧ θ_run (Cert.TdyRefIdeal.defs (F := Ideal)) (onTc (τ := Cert.TdyRefIdeal.τ) (Cert.TdyRefIdeal.main (F := Ideal))) ⟨m', fun _ => 0, g'⟩ (fun r => ∀ c : Dev Cert.TdyRefIdeal.nD,
          r.2.mem ((c.tc : Thread Cert.TdyRefIdeal.nD Cert.TdyRefIdeal.τ).loc Cert.TdyRefIdeal.main_v5) = v0 c
          ∧ r.2.mem ((c.tc : Thread Cert.TdyRefIdeal.nD Cert.TdyRefIdeal.τ).loc Cert.TdyRefIdeal.main_arg0) = m' ((c.tc : Thread Cert.TdyRefIdeal.nD Cert.TdyRefIdeal.τ).loc Cert.TdyRefIdeal.main_arg0)
          ∧ r.2.mem ((c.tc : Thread Cert.TdyRefIdeal.nD Cert.TdyRefIdeal.τ).loc Cert.TdyRefIdeal.main_arg1) = m' ((c.tc : Thread Cert.TdyRefIdeal.nD Cert.TdyRefIdeal.τ).loc Cert.TdyRefIdeal.main_arg1))

def preserves_Tdw_TdwIdeal : Prop :=
  True

def algebraic_TdwIdeal_TdwRefIdeal [hTdwIdeal : Cert.TdwIdeal.Facts] [hTdwRefIdeal : Cert.TdwRefIdeal.Facts] : Prop :=
  ∀ (m : (ℓ : Loc Cert.TdwIdeal.nD Cert.TdwIdeal.τ Cert.TdwIdeal.sig) → Buf (Elt Ideal) ℓ) (g : Dev Cert.TdwIdeal.nD → PrngReg)
    (m' : (ℓ : Loc Cert.TdwRefIdeal.nD Cert.TdwRefIdeal.τ Cert.TdwRefIdeal.sig) → Buf (Elt Ideal) ℓ) (g' : Dev Cert.TdwRefIdeal.nD → PrngReg), Pre_TdwIdeal m →
    (∀ c : Dev Cert.TdwIdeal.nD,
      m' ((c.tc : Thread Cert.TdwRefIdeal.nD Cert.TdwRefIdeal.τ).loc Cert.TdwRefIdeal.main_arg0) = m ((c.tc : Thread Cert.TdwIdeal.nD Cert.TdwIdeal.τ).loc Cert.TdwIdeal.main_arg0)
      ∧ m' ((c.tc : Thread Cert.TdwRefIdeal.nD Cert.TdwRefIdeal.τ).loc Cert.TdwRefIdeal.main_arg1) = m ((c.tc : Thread Cert.TdwIdeal.nD Cert.TdwIdeal.τ).loc Cert.TdwIdeal.main_arg1)) →
    ∃ (v0 : (c : Dev Cert.TdwIdeal.nD) → Buf (Elt Ideal) ((c.tc : Thread Cert.TdwIdeal.nD Cert.TdwIdeal.τ).loc Cert.TdwIdeal.main_v0)),
      θ_run (Cert.TdwIdeal.defs (F := Ideal)) (onTc (τ := Cert.TdwIdeal.τ) (Cert.TdwIdeal.main (F := Ideal))) ⟨m, fun _ => 0, g⟩ (fun r => ∀ c : Dev Cert.TdwIdeal.nD,
          r.2.mem ((c.tc : Thread Cert.TdwIdeal.nD Cert.TdwIdeal.τ).loc Cert.TdwIdeal.main_v0) = v0 c
          ∧ r.2.mem ((c.tc : Thread Cert.TdwIdeal.nD Cert.TdwIdeal.τ).loc Cert.TdwIdeal.main_arg0) = m ((c.tc : Thread Cert.TdwIdeal.nD Cert.TdwIdeal.τ).loc Cert.TdwIdeal.main_arg0)
          ∧ r.2.mem ((c.tc : Thread Cert.TdwIdeal.nD Cert.TdwIdeal.τ).loc Cert.TdwIdeal.main_arg1) = m ((c.tc : Thread Cert.TdwIdeal.nD Cert.TdwIdeal.τ).loc Cert.TdwIdeal.main_arg1))
      ∧ θ_run (Cert.TdwRefIdeal.defs (F := Ideal)) (onTc (τ := Cert.TdwRefIdeal.τ) (Cert.TdwRefIdeal.main (F := Ideal))) ⟨m', fun _ => 0, g'⟩ (fun r => ∀ c : Dev Cert.TdwRefIdeal.nD,
          r.2.mem ((c.tc : Thread Cert.TdwRefIdeal.nD Cert.TdwRefIdeal.τ).loc Cert.TdwRefIdeal.main_v6) = v0 c
          ∧ r.2.mem ((c.tc : Thread Cert.TdwRefIdeal.nD Cert.TdwRefIdeal.τ).loc Cert.TdwRefIdeal.main_arg0) = m' ((c.tc : Thread Cert.TdwRefIdeal.nD Cert.TdwRefIdeal.τ).loc Cert.TdwRefIdeal.main_arg0)
          ∧ r.2.mem ((c.tc : Thread Cert.TdwRefIdeal.nD Cert.TdwRefIdeal.τ).loc Cert.TdwRefIdeal.main_arg1) = m' ((c.tc : Thread Cert.TdwRefIdeal.nD Cert.TdwRefIdeal.τ).loc Cert.TdwRefIdeal.main_arg1))

def preserves_To_ToIdeal : Prop :=
  True

def algebraic_ToIdeal_ToRefIdeal [hToIdeal : Cert.ToIdeal.Facts] [hToRefIdeal : Cert.ToRefIdeal.Facts] : Prop :=
  ∀ (m : (ℓ : Loc Cert.ToIdeal.nD Cert.ToIdeal.τ Cert.ToIdeal.sig) → Buf (Elt Ideal) ℓ) (g : Dev Cert.ToIdeal.nD → PrngReg)
    (m' : (ℓ : Loc Cert.ToRefIdeal.nD Cert.ToRefIdeal.τ Cert.ToRefIdeal.sig) → Buf (Elt Ideal) ℓ) (g' : Dev Cert.ToRefIdeal.nD → PrngReg), Pre_ToIdeal m →
    (∀ c : Dev Cert.ToIdeal.nD,
      m' ((c.tc : Thread Cert.ToRefIdeal.nD Cert.ToRefIdeal.τ).loc Cert.ToRefIdeal.main_arg0) = m ((c.tc : Thread Cert.ToIdeal.nD Cert.ToIdeal.τ).loc Cert.ToIdeal.main_arg0)
      ∧ m' ((c.tc : Thread Cert.ToRefIdeal.nD Cert.ToRefIdeal.τ).loc Cert.ToRefIdeal.main_arg1) = m ((c.tc : Thread Cert.ToIdeal.nD Cert.ToIdeal.τ).loc Cert.ToIdeal.main_arg1)
      ∧ m' ((c.tc : Thread Cert.ToRefIdeal.nD Cert.ToRefIdeal.τ).loc Cert.ToRefIdeal.main_arg2) = m ((c.tc : Thread Cert.ToIdeal.nD Cert.ToIdeal.τ).loc Cert.ToIdeal.main_arg2)
      ∧ m' ((c.tc : Thread Cert.ToRefIdeal.nD Cert.ToRefIdeal.τ).loc Cert.ToRefIdeal.main_arg3) = m ((c.tc : Thread Cert.ToIdeal.nD Cert.ToIdeal.τ).loc Cert.ToIdeal.main_arg3)) →
    ∃ (v0 : (c : Dev Cert.ToIdeal.nD) → Buf (Elt Ideal) ((c.tc : Thread Cert.ToIdeal.nD Cert.ToIdeal.τ).loc Cert.ToIdeal.main_v0_0)) (v1 : (c : Dev Cert.ToIdeal.nD) → Buf (Elt Ideal) ((c.tc : Thread Cert.ToIdeal.nD Cert.ToIdeal.τ).loc Cert.ToIdeal.main_v0_1)),
      θ_run (Cert.ToIdeal.defs (F := Ideal)) (onTc (τ := Cert.ToIdeal.τ) (Cert.ToIdeal.main (F := Ideal))) ⟨m, fun _ => 0, g⟩ (fun r => ∀ c : Dev Cert.ToIdeal.nD,
          r.2.mem ((c.tc : Thread Cert.ToIdeal.nD Cert.ToIdeal.τ).loc Cert.ToIdeal.main_v0_0) = v0 c
          ∧ r.2.mem ((c.tc : Thread Cert.ToIdeal.nD Cert.ToIdeal.τ).loc Cert.ToIdeal.main_v0_1) = v1 c
          ∧ r.2.mem ((c.tc : Thread Cert.ToIdeal.nD Cert.ToIdeal.τ).loc Cert.ToIdeal.main_arg0) = m ((c.tc : Thread Cert.ToIdeal.nD Cert.ToIdeal.τ).loc Cert.ToIdeal.main_arg0)
          ∧ r.2.mem ((c.tc : Thread Cert.ToIdeal.nD Cert.ToIdeal.τ).loc Cert.ToIdeal.main_arg1) = m ((c.tc : Thread Cert.ToIdeal.nD Cert.ToIdeal.τ).loc Cert.ToIdeal.main_arg1)
          ∧ r.2.mem ((c.tc : Thread Cert.ToIdeal.nD Cert.ToIdeal.τ).loc Cert.ToIdeal.main_arg2) = m ((c.tc : Thread Cert.ToIdeal.nD Cert.ToIdeal.τ).loc Cert.ToIdeal.main_arg2)
          ∧ r.2.mem ((c.tc : Thread Cert.ToIdeal.nD Cert.ToIdeal.τ).loc Cert.ToIdeal.main_arg3) = m ((c.tc : Thread Cert.ToIdeal.nD Cert.ToIdeal.τ).loc Cert.ToIdeal.main_arg3))
      ∧ θ_run (Cert.ToRefIdeal.defs (F := Ideal)) (onTc (τ := Cert.ToRefIdeal.τ) (Cert.ToRefIdeal.main (F := Ideal))) ⟨m', fun _ => 0, g'⟩ (fun r => ∀ c : Dev Cert.ToRefIdeal.nD,
          r.2.mem ((c.tc : Thread Cert.ToRefIdeal.nD Cert.ToRefIdeal.τ).loc Cert.ToRefIdeal.main_v3) = v0 c
          ∧ r.2.mem ((c.tc : Thread Cert.ToRefIdeal.nD Cert.ToRefIdeal.τ).loc Cert.ToRefIdeal.main_v16) = v1 c
          ∧ r.2.mem ((c.tc : Thread Cert.ToRefIdeal.nD Cert.ToRefIdeal.τ).loc Cert.ToRefIdeal.main_arg0) = m' ((c.tc : Thread Cert.ToRefIdeal.nD Cert.ToRefIdeal.τ).loc Cert.ToRefIdeal.main_arg0)
          ∧ r.2.mem ((c.tc : Thread Cert.ToRefIdeal.nD Cert.ToRefIdeal.τ).loc Cert.ToRefIdeal.main_arg1) = m' ((c.tc : Thread Cert.ToRefIdeal.nD Cert.ToRefIdeal.τ).loc Cert.ToRefIdeal.main_arg1)
          ∧ r.2.mem ((c.tc : Thread Cert.ToRefIdeal.nD Cert.ToRefIdeal.τ).loc Cert.ToRefIdeal.main_arg2) = m' ((c.tc : Thread Cert.ToRefIdeal.nD Cert.ToRefIdeal.τ).loc Cert.ToRefIdeal.main_arg2)
          ∧ r.2.mem ((c.tc : Thread Cert.ToRefIdeal.nD Cert.ToRefIdeal.τ).loc Cert.ToRefIdeal.main_arg3) = m' ((c.tc : Thread Cert.ToRefIdeal.nD Cert.ToRefIdeal.τ).loc Cert.ToRefIdeal.main_arg3))

def preserves_Tin_TinIdeal : Prop :=
  True

def algebraic_TinIdeal_TinRefIdeal [hTinIdeal : Cert.TinIdeal.Facts] [hTinRefIdeal : Cert.TinRefIdeal.Facts] : Prop :=
  ∀ (m : (ℓ : Loc Cert.TinIdeal.nD Cert.TinIdeal.τ Cert.TinIdeal.sig) → Buf (Elt Ideal) ℓ) (g : Dev Cert.TinIdeal.nD → PrngReg)
    (m' : (ℓ : Loc Cert.TinRefIdeal.nD Cert.TinRefIdeal.τ Cert.TinRefIdeal.sig) → Buf (Elt Ideal) ℓ) (g' : Dev Cert.TinRefIdeal.nD → PrngReg), Pre_TinIdeal m →
    (∀ c : Dev Cert.TinIdeal.nD,
      m' ((c.tc : Thread Cert.TinRefIdeal.nD Cert.TinRefIdeal.τ).loc Cert.TinRefIdeal.main_arg0) = m ((c.tc : Thread Cert.TinIdeal.nD Cert.TinIdeal.τ).loc Cert.TinIdeal.main_arg0)
      ∧ m' ((c.tc : Thread Cert.TinRefIdeal.nD Cert.TinRefIdeal.τ).loc Cert.TinRefIdeal.main_arg1) = m ((c.tc : Thread Cert.TinIdeal.nD Cert.TinIdeal.τ).loc Cert.TinIdeal.main_arg1)) →
    ∃ (v0 : (c : Dev Cert.TinIdeal.nD) → Buf (Elt Ideal) ((c.tc : Thread Cert.TinIdeal.nD Cert.TinIdeal.τ).loc Cert.TinIdeal.main_v0)),
      θ_run (Cert.TinIdeal.defs (F := Ideal)) (onTc (τ := Cert.TinIdeal.τ) (Cert.TinIdeal.main (F := Ideal))) ⟨m, fun _ => 0, g⟩ (fun r => ∀ c : Dev Cert.TinIdeal.nD,
          r.2.mem ((c.tc : Thread Cert.TinIdeal.nD Cert.TinIdeal.τ).loc Cert.TinIdeal.main_v0) = v0 c
          ∧ r.2.mem ((c.tc : Thread Cert.TinIdeal.nD Cert.TinIdeal.τ).loc Cert.TinIdeal.main_arg0) = m ((c.tc : Thread Cert.TinIdeal.nD Cert.TinIdeal.τ).loc Cert.TinIdeal.main_arg0)
          ∧ r.2.mem ((c.tc : Thread Cert.TinIdeal.nD Cert.TinIdeal.τ).loc Cert.TinIdeal.main_arg1) = m ((c.tc : Thread Cert.TinIdeal.nD Cert.TinIdeal.τ).loc Cert.TinIdeal.main_arg1))
      ∧ θ_run (Cert.TinRefIdeal.defs (F := Ideal)) (onTc (τ := Cert.TinRefIdeal.τ) (Cert.TinRefIdeal.main (F := Ideal))) ⟨m', fun _ => 0, g'⟩ (fun r => ∀ c : Dev Cert.TinRefIdeal.nD,
          r.2.mem ((c.tc : Thread Cert.TinRefIdeal.nD Cert.TinRefIdeal.τ).loc Cert.TinRefIdeal.main_v3) = v0 c
          ∧ r.2.mem ((c.tc : Thread Cert.TinRefIdeal.nD Cert.TinRefIdeal.τ).loc Cert.TinRefIdeal.main_arg0) = m' ((c.tc : Thread Cert.TinRefIdeal.nD Cert.TinRefIdeal.τ).loc Cert.TinRefIdeal.main_arg0)
          ∧ r.2.mem ((c.tc : Thread Cert.TinRefIdeal.nD Cert.TinRefIdeal.τ).loc Cert.TinRefIdeal.main_arg1) = m' ((c.tc : Thread Cert.TinRefIdeal.nD Cert.TinRefIdeal.τ).loc Cert.TinRefIdeal.main_arg1))

def preserves_Cup_CupIdeal : Prop :=
  True

def algebraic_CupIdeal_CupRefIdeal [hCupIdeal : Cert.CupIdeal.Facts] [hCupRefIdeal : Cert.CupRefIdeal.Facts] : Prop :=
  ∀ (m : (ℓ : Loc Cert.CupIdeal.nD Cert.CupIdeal.τ Cert.CupIdeal.sig) → Buf (Elt Ideal) ℓ) (g : Dev Cert.CupIdeal.nD → PrngReg)
    (m' : (ℓ : Loc Cert.CupRefIdeal.nD Cert.CupRefIdeal.τ Cert.CupRefIdeal.sig) → Buf (Elt Ideal) ℓ) (g' : Dev Cert.CupRefIdeal.nD → PrngReg), Pre_CupIdeal m →
    (∀ c : Dev Cert.CupIdeal.nD,
      m' ((c.tc : Thread Cert.CupRefIdeal.nD Cert.CupRefIdeal.τ).loc Cert.CupRefIdeal.main_arg0) = m ((c.tc : Thread Cert.CupIdeal.nD Cert.CupIdeal.τ).loc Cert.CupIdeal.main_arg0)
      ∧ m' ((c.tc : Thread Cert.CupRefIdeal.nD Cert.CupRefIdeal.τ).loc Cert.CupRefIdeal.main_arg1) = m ((c.tc : Thread Cert.CupIdeal.nD Cert.CupIdeal.τ).loc Cert.CupIdeal.main_arg1)
      ∧ m' ((c.tc : Thread Cert.CupRefIdeal.nD Cert.CupRefIdeal.τ).loc Cert.CupRefIdeal.main_arg2) = m ((c.tc : Thread Cert.CupIdeal.nD Cert.CupIdeal.τ).loc Cert.CupIdeal.main_arg2)) →
    ∃ (v0 : (c : Dev Cert.CupIdeal.nD) → Buf (Elt Ideal) ((c.tc : Thread Cert.CupIdeal.nD Cert.CupIdeal.τ).loc Cert.CupIdeal.main_v0)),
      θ_run (Cert.CupIdeal.defs (F := Ideal)) (onTc (τ := Cert.CupIdeal.τ) (Cert.CupIdeal.main (F := Ideal))) ⟨m, fun _ => 0, g⟩ (fun r => ∀ c : Dev Cert.CupIdeal.nD,
          r.2.mem ((c.tc : Thread Cert.CupIdeal.nD Cert.CupIdeal.τ).loc Cert.CupIdeal.main_v0) = v0 c
          ∧ r.2.mem ((c.tc : Thread Cert.CupIdeal.nD Cert.CupIdeal.τ).loc Cert.CupIdeal.main_arg0) = m ((c.tc : Thread Cert.CupIdeal.nD Cert.CupIdeal.τ).loc Cert.CupIdeal.main_arg0)
          ∧ r.2.mem ((c.tc : Thread Cert.CupIdeal.nD Cert.CupIdeal.τ).loc Cert.CupIdeal.main_arg1) = m ((c.tc : Thread Cert.CupIdeal.nD Cert.CupIdeal.τ).loc Cert.CupIdeal.main_arg1)
          ∧ r.2.mem ((c.tc : Thread Cert.CupIdeal.nD Cert.CupIdeal.τ).loc Cert.CupIdeal.main_arg2) = m ((c.tc : Thread Cert.CupIdeal.nD Cert.CupIdeal.τ).loc Cert.CupIdeal.main_arg2))
      ∧ θ_run (Cert.CupRefIdeal.defs (F := Ideal)) (onTc (τ := Cert.CupRefIdeal.τ) (Cert.CupRefIdeal.main (F := Ideal))) ⟨m', fun _ => 0, g'⟩ (fun r => ∀ c : Dev Cert.CupRefIdeal.nD,
          r.2.mem ((c.tc : Thread Cert.CupRefIdeal.nD Cert.CupRefIdeal.τ).loc Cert.CupRefIdeal.main_v8) = v0 c
          ∧ r.2.mem ((c.tc : Thread Cert.CupRefIdeal.nD Cert.CupRefIdeal.τ).loc Cert.CupRefIdeal.main_arg0) = m' ((c.tc : Thread Cert.CupRefIdeal.nD Cert.CupRefIdeal.τ).loc Cert.CupRefIdeal.main_arg0)
          ∧ r.2.mem ((c.tc : Thread Cert.CupRefIdeal.nD Cert.CupRefIdeal.τ).loc Cert.CupRefIdeal.main_arg1) = m' ((c.tc : Thread Cert.CupRefIdeal.nD Cert.CupRefIdeal.τ).loc Cert.CupRefIdeal.main_arg1)
          ∧ r.2.mem ((c.tc : Thread Cert.CupRefIdeal.nD Cert.CupRefIdeal.τ).loc Cert.CupRefIdeal.main_arg2) = m' ((c.tc : Thread Cert.CupRefIdeal.nD Cert.CupRefIdeal.τ).loc Cert.CupRefIdeal.main_arg2))

def preserves_Cdw_CdwIdeal : Prop :=
  True

def algebraic_CdwIdeal_CdwRefIdeal [hCdwIdeal : Cert.CdwIdeal.Facts] [hCdwRefIdeal : Cert.CdwRefIdeal.Facts] : Prop :=
  ∀ (m : (ℓ : Loc Cert.CdwIdeal.nD Cert.CdwIdeal.τ Cert.CdwIdeal.sig) → Buf (Elt Ideal) ℓ) (g : Dev Cert.CdwIdeal.nD → PrngReg)
    (m' : (ℓ : Loc Cert.CdwRefIdeal.nD Cert.CdwRefIdeal.τ Cert.CdwRefIdeal.sig) → Buf (Elt Ideal) ℓ) (g' : Dev Cert.CdwRefIdeal.nD → PrngReg), Pre_CdwIdeal m →
    (∀ c : Dev Cert.CdwIdeal.nD,
      m' ((c.tc : Thread Cert.CdwRefIdeal.nD Cert.CdwRefIdeal.τ).loc Cert.CdwRefIdeal.main_arg0) = m ((c.tc : Thread Cert.CdwIdeal.nD Cert.CdwIdeal.τ).loc Cert.CdwIdeal.main_arg0)
      ∧ m' ((c.tc : Thread Cert.CdwRefIdeal.nD Cert.CdwRefIdeal.τ).loc Cert.CdwRefIdeal.main_arg1) = m ((c.tc : Thread Cert.CdwIdeal.nD Cert.CdwIdeal.τ).loc Cert.CdwIdeal.main_arg1)) →
    ∃ (v0 : (c : Dev Cert.CdwIdeal.nD) → Buf (Elt Ideal) ((c.tc : Thread Cert.CdwIdeal.nD Cert.CdwIdeal.τ).loc Cert.CdwIdeal.main_v0)),
      θ_run (Cert.CdwIdeal.defs (F := Ideal)) (onTc (τ := Cert.CdwIdeal.τ) (Cert.CdwIdeal.main (F := Ideal))) ⟨m, fun _ => 0, g⟩ (fun r => ∀ c : Dev Cert.CdwIdeal.nD,
          r.2.mem ((c.tc : Thread Cert.CdwIdeal.nD Cert.CdwIdeal.τ).loc Cert.CdwIdeal.main_v0) = v0 c
          ∧ r.2.mem ((c.tc : Thread Cert.CdwIdeal.nD Cert.CdwIdeal.τ).loc Cert.CdwIdeal.main_arg0) = m ((c.tc : Thread Cert.CdwIdeal.nD Cert.CdwIdeal.τ).loc Cert.CdwIdeal.main_arg0)
          ∧ r.2.mem ((c.tc : Thread Cert.CdwIdeal.nD Cert.CdwIdeal.τ).loc Cert.CdwIdeal.main_arg1) = m ((c.tc : Thread Cert.CdwIdeal.nD Cert.CdwIdeal.τ).loc Cert.CdwIdeal.main_arg1))
      ∧ θ_run (Cert.CdwRefIdeal.defs (F := Ideal)) (onTc (τ := Cert.CdwRefIdeal.τ) (Cert.CdwRefIdeal.main (F := Ideal))) ⟨m', fun _ => 0, g'⟩ (fun r => ∀ c : Dev Cert.CdwRefIdeal.nD,
          r.2.mem ((c.tc : Thread Cert.CdwRefIdeal.nD Cert.CdwRefIdeal.τ).loc Cert.CdwRefIdeal.main_v9) = v0 c
          ∧ r.2.mem ((c.tc : Thread Cert.CdwRefIdeal.nD Cert.CdwRefIdeal.τ).loc Cert.CdwRefIdeal.main_arg0) = m' ((c.tc : Thread Cert.CdwRefIdeal.nD Cert.CdwRefIdeal.τ).loc Cert.CdwRefIdeal.main_arg0)
          ∧ r.2.mem ((c.tc : Thread Cert.CdwRefIdeal.nD Cert.CdwRefIdeal.τ).loc Cert.CdwRefIdeal.main_arg1) = m' ((c.tc : Thread Cert.CdwRefIdeal.nD Cert.CdwRefIdeal.τ).loc Cert.CdwRefIdeal.main_arg1))

def preserves_Cout_CoutIdeal : Prop :=
  True

def algebraic_CoutIdeal_CoutRefIdeal [hCoutIdeal : Cert.CoutIdeal.Facts] [hCoutRefIdeal : Cert.CoutRefIdeal.Facts] : Prop :=
  ∀ (m : (ℓ : Loc Cert.CoutIdeal.nD Cert.CoutIdeal.τ Cert.CoutIdeal.sig) → Buf (Elt Ideal) ℓ) (g : Dev Cert.CoutIdeal.nD → PrngReg)
    (m' : (ℓ : Loc Cert.CoutRefIdeal.nD Cert.CoutRefIdeal.τ Cert.CoutRefIdeal.sig) → Buf (Elt Ideal) ℓ) (g' : Dev Cert.CoutRefIdeal.nD → PrngReg), Pre_CoutIdeal m →
    (∀ c : Dev Cert.CoutIdeal.nD,
      m' ((c.tc : Thread Cert.CoutRefIdeal.nD Cert.CoutRefIdeal.τ).loc Cert.CoutRefIdeal.main_arg0) = m ((c.tc : Thread Cert.CoutIdeal.nD Cert.CoutIdeal.τ).loc Cert.CoutIdeal.main_arg0)
      ∧ m' ((c.tc : Thread Cert.CoutRefIdeal.nD Cert.CoutRefIdeal.τ).loc Cert.CoutRefIdeal.main_arg1) = m ((c.tc : Thread Cert.CoutIdeal.nD Cert.CoutIdeal.τ).loc Cert.CoutIdeal.main_arg1)
      ∧ m' ((c.tc : Thread Cert.CoutRefIdeal.nD Cert.CoutRefIdeal.τ).loc Cert.CoutRefIdeal.main_arg2) = m ((c.tc : Thread Cert.CoutIdeal.nD Cert.CoutIdeal.τ).loc Cert.CoutIdeal.main_arg2)
      ∧ m' ((c.tc : Thread Cert.CoutRefIdeal.nD Cert.CoutRefIdeal.τ).loc Cert.CoutRefIdeal.main_arg3) = m ((c.tc : Thread Cert.CoutIdeal.nD Cert.CoutIdeal.τ).loc Cert.CoutIdeal.main_arg3)
      ∧ m' ((c.tc : Thread Cert.CoutRefIdeal.nD Cert.CoutRefIdeal.τ).loc Cert.CoutRefIdeal.main_arg4) = m ((c.tc : Thread Cert.CoutIdeal.nD Cert.CoutIdeal.τ).loc Cert.CoutIdeal.main_arg4)) →
    ∃ (v0 : (c : Dev Cert.CoutIdeal.nD) → Buf (Elt Ideal) ((c.tc : Thread Cert.CoutIdeal.nD Cert.CoutIdeal.τ).loc Cert.CoutIdeal.main_v0_0)) (v1 : (c : Dev Cert.CoutIdeal.nD) → Buf (Elt Ideal) ((c.tc : Thread Cert.CoutIdeal.nD Cert.CoutIdeal.τ).loc Cert.CoutIdeal.main_v0_1)),
      θ_run (Cert.CoutIdeal.defs (F := Ideal)) (onTc (τ := Cert.CoutIdeal.τ) (Cert.CoutIdeal.main (F := Ideal))) ⟨m, fun _ => 0, g⟩ (fun r => ∀ c : Dev Cert.CoutIdeal.nD,
          r.2.mem ((c.tc : Thread Cert.CoutIdeal.nD Cert.CoutIdeal.τ).loc Cert.CoutIdeal.main_v0_0) = v0 c
          ∧ r.2.mem ((c.tc : Thread Cert.CoutIdeal.nD Cert.CoutIdeal.τ).loc Cert.CoutIdeal.main_v0_1) = v1 c
          ∧ r.2.mem ((c.tc : Thread Cert.CoutIdeal.nD Cert.CoutIdeal.τ).loc Cert.CoutIdeal.main_arg0) = m ((c.tc : Thread Cert.CoutIdeal.nD Cert.CoutIdeal.τ).loc Cert.CoutIdeal.main_arg0)
          ∧ r.2.mem ((c.tc : Thread Cert.CoutIdeal.nD Cert.CoutIdeal.τ).loc Cert.CoutIdeal.main_arg1) = m ((c.tc : Thread Cert.CoutIdeal.nD Cert.CoutIdeal.τ).loc Cert.CoutIdeal.main_arg1)
          ∧ r.2.mem ((c.tc : Thread Cert.CoutIdeal.nD Cert.CoutIdeal.τ).loc Cert.CoutIdeal.main_arg2) = m ((c.tc : Thread Cert.CoutIdeal.nD Cert.CoutIdeal.τ).loc Cert.CoutIdeal.main_arg2)
          ∧ r.2.mem ((c.tc : Thread Cert.CoutIdeal.nD Cert.CoutIdeal.τ).loc Cert.CoutIdeal.main_arg3) = m ((c.tc : Thread Cert.CoutIdeal.nD Cert.CoutIdeal.τ).loc Cert.CoutIdeal.main_arg3)
          ∧ r.2.mem ((c.tc : Thread Cert.CoutIdeal.nD Cert.CoutIdeal.τ).loc Cert.CoutIdeal.main_arg4) = m ((c.tc : Thread Cert.CoutIdeal.nD Cert.CoutIdeal.τ).loc Cert.CoutIdeal.main_arg4))
      ∧ θ_run (Cert.CoutRefIdeal.defs (F := Ideal)) (onTc (τ := Cert.CoutRefIdeal.τ) (Cert.CoutRefIdeal.main (F := Ideal))) ⟨m', fun _ => 0, g'⟩ (fun r => ∀ c : Dev Cert.CoutRefIdeal.nD,
          r.2.mem ((c.tc : Thread Cert.CoutRefIdeal.nD Cert.CoutRefIdeal.τ).loc Cert.CoutRefIdeal.main_v5) = v0 c
          ∧ r.2.mem ((c.tc : Thread Cert.CoutRefIdeal.nD Cert.CoutRefIdeal.τ).loc Cert.CoutRefIdeal.main_v18) = v1 c
          ∧ r.2.mem ((c.tc : Thread Cert.CoutRefIdeal.nD Cert.CoutRefIdeal.τ).loc Cert.CoutRefIdeal.main_arg0) = m' ((c.tc : Thread Cert.CoutRefIdeal.nD Cert.CoutRefIdeal.τ).loc Cert.CoutRefIdeal.main_arg0)
          ∧ r.2.mem ((c.tc : Thread Cert.CoutRefIdeal.nD Cert.CoutRefIdeal.τ).loc Cert.CoutRefIdeal.main_arg1) = m' ((c.tc : Thread Cert.CoutRefIdeal.nD Cert.CoutRefIdeal.τ).loc Cert.CoutRefIdeal.main_arg1)
          ∧ r.2.mem ((c.tc : Thread Cert.CoutRefIdeal.nD Cert.CoutRefIdeal.τ).loc Cert.CoutRefIdeal.main_arg2) = m' ((c.tc : Thread Cert.CoutRefIdeal.nD Cert.CoutRefIdeal.τ).loc Cert.CoutRefIdeal.main_arg2)
          ∧ r.2.mem ((c.tc : Thread Cert.CoutRefIdeal.nD Cert.CoutRefIdeal.τ).loc Cert.CoutRefIdeal.main_arg3) = m' ((c.tc : Thread Cert.CoutRefIdeal.nD Cert.CoutRefIdeal.τ).loc Cert.CoutRefIdeal.main_arg3)
          ∧ r.2.mem ((c.tc : Thread Cert.CoutRefIdeal.nD Cert.CoutRefIdeal.τ).loc Cert.CoutRefIdeal.main_arg4) = m' ((c.tc : Thread Cert.CoutRefIdeal.nD Cert.CoutRefIdeal.τ).loc Cert.CoutRefIdeal.main_arg4))

def preserves_Sdn_SdnIdeal : Prop :=
  True

def algebraic_SdnIdeal_SdnRefIdeal [hSdnIdeal : Cert.SdnIdeal.Facts] [hSdnRefIdeal : Cert.SdnRefIdeal.Facts] : Prop :=
  ∀ (m : (ℓ : Loc Cert.SdnIdeal.nD Cert.SdnIdeal.τ Cert.SdnIdeal.sig) → Buf (Elt Ideal) ℓ) (g : Dev Cert.SdnIdeal.nD → PrngReg)
    (m' : (ℓ : Loc Cert.SdnRefIdeal.nD Cert.SdnRefIdeal.τ Cert.SdnRefIdeal.sig) → Buf (Elt Ideal) ℓ) (g' : Dev Cert.SdnRefIdeal.nD → PrngReg), Pre_SdnIdeal m →
    (∀ c : Dev Cert.SdnIdeal.nD,
      m' ((c.tc : Thread Cert.SdnRefIdeal.nD Cert.SdnRefIdeal.τ).loc Cert.SdnRefIdeal.main_arg0) = m ((c.tc : Thread Cert.SdnIdeal.nD Cert.SdnIdeal.τ).loc Cert.SdnIdeal.main_arg0)
      ∧ m' ((c.tc : Thread Cert.SdnRefIdeal.nD Cert.SdnRefIdeal.τ).loc Cert.SdnRefIdeal.main_arg1) = m ((c.tc : Thread Cert.SdnIdeal.nD Cert.SdnIdeal.τ).loc Cert.SdnIdeal.main_arg1)
      ∧ m' ((c.tc : Thread Cert.SdnRefIdeal.nD Cert.SdnRefIdeal.τ).loc Cert.SdnRefIdeal.main_arg2) = m ((c.tc : Thread Cert.SdnIdeal.nD Cert.SdnIdeal.τ).loc Cert.SdnIdeal.main_arg2)
      ∧ m' ((c.tc : Thread Cert.SdnRefIdeal.nD Cert.SdnRefIdeal.τ).loc Cert.SdnRefIdeal.main_arg3) = m ((c.tc : Thread Cert.SdnIdeal.nD Cert.SdnIdeal.τ).loc Cert.SdnIdeal.main_arg3)
      ∧ m' ((c.tc : Thread Cert.SdnRefIdeal.nD Cert.SdnRefIdeal.τ).loc Cert.SdnRefIdeal.main_arg4) = m ((c.tc : Thread Cert.SdnIdeal.nD Cert.SdnIdeal.τ).loc Cert.SdnIdeal.main_arg4)) →
    ∃ (v0 : (c : Dev Cert.SdnIdeal.nD) → Buf (Elt Ideal) ((c.tc : Thread Cert.SdnIdeal.nD Cert.SdnIdeal.τ).loc Cert.SdnIdeal.main_v0_0)) (v1 : (c : Dev Cert.SdnIdeal.nD) → Buf (Elt Ideal) ((c.tc : Thread Cert.SdnIdeal.nD Cert.SdnIdeal.τ).loc Cert.SdnIdeal.main_v0_1)) (v2 : (c : Dev Cert.SdnIdeal.nD) → Buf (Elt Ideal) ((c.tc : Thread Cert.SdnIdeal.nD Cert.SdnIdeal.τ).loc Cert.SdnIdeal.main_v0_2)),
      θ_run (Cert.SdnIdeal.defs (F := Ideal)) (onTc (τ := Cert.SdnIdeal.τ) (Cert.SdnIdeal.main (F := Ideal))) ⟨m, fun _ => 0, g⟩ (fun r => ∀ c : Dev Cert.SdnIdeal.nD,
          r.2.mem ((c.tc : Thread Cert.SdnIdeal.nD Cert.SdnIdeal.τ).loc Cert.SdnIdeal.main_v0_0) = v0 c
          ∧ r.2.mem ((c.tc : Thread Cert.SdnIdeal.nD Cert.SdnIdeal.τ).loc Cert.SdnIdeal.main_v0_1) = v1 c
          ∧ r.2.mem ((c.tc : Thread Cert.SdnIdeal.nD Cert.SdnIdeal.τ).loc Cert.SdnIdeal.main_v0_2) = v2 c
          ∧ r.2.mem ((c.tc : Thread Cert.SdnIdeal.nD Cert.SdnIdeal.τ).loc Cert.SdnIdeal.main_arg0) = m ((c.tc : Thread Cert.SdnIdeal.nD Cert.SdnIdeal.τ).loc Cert.SdnIdeal.main_arg0)
          ∧ r.2.mem ((c.tc : Thread Cert.SdnIdeal.nD Cert.SdnIdeal.τ).loc Cert.SdnIdeal.main_arg1) = m ((c.tc : Thread Cert.SdnIdeal.nD Cert.SdnIdeal.τ).loc Cert.SdnIdeal.main_arg1)
          ∧ r.2.mem ((c.tc : Thread Cert.SdnIdeal.nD Cert.SdnIdeal.τ).loc Cert.SdnIdeal.main_arg2) = m ((c.tc : Thread Cert.SdnIdeal.nD Cert.SdnIdeal.τ).loc Cert.SdnIdeal.main_arg2)
          ∧ r.2.mem ((c.tc : Thread Cert.SdnIdeal.nD Cert.SdnIdeal.τ).loc Cert.SdnIdeal.main_arg3) = m ((c.tc : Thread Cert.SdnIdeal.nD Cert.SdnIdeal.τ).loc Cert.SdnIdeal.main_arg3)
          ∧ r.2.mem ((c.tc : Thread Cert.SdnIdeal.nD Cert.SdnIdeal.τ).loc Cert.SdnIdeal.main_arg4) = m ((c.tc : Thread Cert.SdnIdeal.nD Cert.SdnIdeal.τ).loc Cert.SdnIdeal.main_arg4))
      ∧ θ_run (Cert.SdnRefIdeal.defs (F := Ideal)) (onTc (τ := Cert.SdnRefIdeal.τ) (Cert.SdnRefIdeal.main (F := Ideal))) ⟨m', fun _ => 0, g'⟩ (fun r => ∀ c : Dev Cert.SdnRefIdeal.nD,
          r.2.mem ((c.tc : Thread Cert.SdnRefIdeal.nD Cert.SdnRefIdeal.τ).loc Cert.SdnRefIdeal.main_v38) = v0 c
          ∧ r.2.mem ((c.tc : Thread Cert.SdnRefIdeal.nD Cert.SdnRefIdeal.τ).loc Cert.SdnRefIdeal.main_v39) = v1 c
          ∧ r.2.mem ((c.tc : Thread Cert.SdnRefIdeal.nD Cert.SdnRefIdeal.τ).loc Cert.SdnRefIdeal.main_v21) = v2 c
          ∧ r.2.mem ((c.tc : Thread Cert.SdnRefIdeal.nD Cert.SdnRefIdeal.τ).loc Cert.SdnRefIdeal.main_arg0) = m' ((c.tc : Thread Cert.SdnRefIdeal.nD Cert.SdnRefIdeal.τ).loc Cert.SdnRefIdeal.main_arg0)
          ∧ r.2.mem ((c.tc : Thread Cert.SdnRefIdeal.nD Cert.SdnRefIdeal.τ).loc Cert.SdnRefIdeal.main_arg1) = m' ((c.tc : Thread Cert.SdnRefIdeal.nD Cert.SdnRefIdeal.τ).loc Cert.SdnRefIdeal.main_arg1)
          ∧ r.2.mem ((c.tc : Thread Cert.SdnRefIdeal.nD Cert.SdnRefIdeal.τ).loc Cert.SdnRefIdeal.main_arg2) = m' ((c.tc : Thread Cert.SdnRefIdeal.nD Cert.SdnRefIdeal.τ).loc Cert.SdnRefIdeal.main_arg2)
          ∧ r.2.mem ((c.tc : Thread Cert.SdnRefIdeal.nD Cert.SdnRefIdeal.τ).loc Cert.SdnRefIdeal.main_arg3) = m' ((c.tc : Thread Cert.SdnRefIdeal.nD Cert.SdnRefIdeal.τ).loc Cert.SdnRefIdeal.main_arg3)
          ∧ r.2.mem ((c.tc : Thread Cert.SdnRefIdeal.nD Cert.SdnRefIdeal.τ).loc Cert.SdnRefIdeal.main_arg4) = m' ((c.tc : Thread Cert.SdnRefIdeal.nD Cert.SdnRefIdeal.τ).loc Cert.SdnRefIdeal.main_arg4))

def preserves_Cdn_CdnIdeal : Prop :=
  True

def algebraic_CdnIdeal_CdnRefIdeal [hCdnIdeal : Cert.CdnIdeal.Facts] [hCdnRefIdeal : Cert.CdnRefIdeal.Facts] : Prop :=
  ∀ (m : (ℓ : Loc Cert.CdnIdeal.nD Cert.CdnIdeal.τ Cert.CdnIdeal.sig) → Buf (Elt Ideal) ℓ) (g : Dev Cert.CdnIdeal.nD → PrngReg)
    (m' : (ℓ : Loc Cert.CdnRefIdeal.nD Cert.CdnRefIdeal.τ Cert.CdnRefIdeal.sig) → Buf (Elt Ideal) ℓ) (g' : Dev Cert.CdnRefIdeal.nD → PrngReg), Pre_CdnIdeal m →
    (∀ c : Dev Cert.CdnIdeal.nD,
      m' ((c.tc : Thread Cert.CdnRefIdeal.nD Cert.CdnRefIdeal.τ).loc Cert.CdnRefIdeal.main_arg0) = m ((c.tc : Thread Cert.CdnIdeal.nD Cert.CdnIdeal.τ).loc Cert.CdnIdeal.main_arg0)
      ∧ m' ((c.tc : Thread Cert.CdnRefIdeal.nD Cert.CdnRefIdeal.τ).loc Cert.CdnRefIdeal.main_arg1) = m ((c.tc : Thread Cert.CdnIdeal.nD Cert.CdnIdeal.τ).loc Cert.CdnIdeal.main_arg1)
      ∧ m' ((c.tc : Thread Cert.CdnRefIdeal.nD Cert.CdnRefIdeal.τ).loc Cert.CdnRefIdeal.main_arg2) = m ((c.tc : Thread Cert.CdnIdeal.nD Cert.CdnIdeal.τ).loc Cert.CdnIdeal.main_arg2)
      ∧ m' ((c.tc : Thread Cert.CdnRefIdeal.nD Cert.CdnRefIdeal.τ).loc Cert.CdnRefIdeal.main_arg3) = m ((c.tc : Thread Cert.CdnIdeal.nD Cert.CdnIdeal.τ).loc Cert.CdnIdeal.main_arg3)
      ∧ m' ((c.tc : Thread Cert.CdnRefIdeal.nD Cert.CdnRefIdeal.τ).loc Cert.CdnRefIdeal.main_arg4) = m ((c.tc : Thread Cert.CdnIdeal.nD Cert.CdnIdeal.τ).loc Cert.CdnIdeal.main_arg4)) →
    ∃ (v0 : (c : Dev Cert.CdnIdeal.nD) → Buf (Elt Ideal) ((c.tc : Thread Cert.CdnIdeal.nD Cert.CdnIdeal.τ).loc Cert.CdnIdeal.main_v0_0)) (v1 : (c : Dev Cert.CdnIdeal.nD) → Buf (Elt Ideal) ((c.tc : Thread Cert.CdnIdeal.nD Cert.CdnIdeal.τ).loc Cert.CdnIdeal.main_v0_1)) (v2 : (c : Dev Cert.CdnIdeal.nD) → Buf (Elt Ideal) ((c.tc : Thread Cert.CdnIdeal.nD Cert.CdnIdeal.τ).loc Cert.CdnIdeal.main_v0_2)),
      θ_run (Cert.CdnIdeal.defs (F := Ideal)) (onTc (τ := Cert.CdnIdeal.τ) (Cert.CdnIdeal.main (F := Ideal))) ⟨m, fun _ => 0, g⟩ (fun r => ∀ c : Dev Cert.CdnIdeal.nD,
          r.2.mem ((c.tc : Thread Cert.CdnIdeal.nD Cert.CdnIdeal.τ).loc Cert.CdnIdeal.main_v0_0) = v0 c
          ∧ r.2.mem ((c.tc : Thread Cert.CdnIdeal.nD Cert.CdnIdeal.τ).loc Cert.CdnIdeal.main_v0_1) = v1 c
          ∧ r.2.mem ((c.tc : Thread Cert.CdnIdeal.nD Cert.CdnIdeal.τ).loc Cert.CdnIdeal.main_v0_2) = v2 c
          ∧ r.2.mem ((c.tc : Thread Cert.CdnIdeal.nD Cert.CdnIdeal.τ).loc Cert.CdnIdeal.main_arg0) = m ((c.tc : Thread Cert.CdnIdeal.nD Cert.CdnIdeal.τ).loc Cert.CdnIdeal.main_arg0)
          ∧ r.2.mem ((c.tc : Thread Cert.CdnIdeal.nD Cert.CdnIdeal.τ).loc Cert.CdnIdeal.main_arg1) = m ((c.tc : Thread Cert.CdnIdeal.nD Cert.CdnIdeal.τ).loc Cert.CdnIdeal.main_arg1)
          ∧ r.2.mem ((c.tc : Thread Cert.CdnIdeal.nD Cert.CdnIdeal.τ).loc Cert.CdnIdeal.main_arg2) = m ((c.tc : Thread Cert.CdnIdeal.nD Cert.CdnIdeal.τ).loc Cert.CdnIdeal.main_arg2)
          ∧ r.2.mem ((c.tc : Thread Cert.CdnIdeal.nD Cert.CdnIdeal.τ).loc Cert.CdnIdeal.main_arg3) = m ((c.tc : Thread Cert.CdnIdeal.nD Cert.CdnIdeal.τ).loc Cert.CdnIdeal.main_arg3)
          ∧ r.2.mem ((c.tc : Thread Cert.CdnIdeal.nD Cert.CdnIdeal.τ).loc Cert.CdnIdeal.main_arg4) = m ((c.tc : Thread Cert.CdnIdeal.nD Cert.CdnIdeal.τ).loc Cert.CdnIdeal.main_arg4))
      ∧ θ_run (Cert.CdnRefIdeal.defs (F := Ideal)) (onTc (τ := Cert.CdnRefIdeal.τ) (Cert.CdnRefIdeal.main (F := Ideal))) ⟨m', fun _ => 0, g'⟩ (fun r => ∀ c : Dev Cert.CdnRefIdeal.nD,
          r.2.mem ((c.tc : Thread Cert.CdnRefIdeal.nD Cert.CdnRefIdeal.τ).loc Cert.CdnRefIdeal.main_v41) = v0 c
          ∧ r.2.mem ((c.tc : Thread Cert.CdnRefIdeal.nD Cert.CdnRefIdeal.τ).loc Cert.CdnRefIdeal.main_v42) = v1 c
          ∧ r.2.mem ((c.tc : Thread Cert.CdnRefIdeal.nD Cert.CdnRefIdeal.τ).loc Cert.CdnRefIdeal.main_v24) = v2 c
          ∧ r.2.mem ((c.tc : Thread Cert.CdnRefIdeal.nD Cert.CdnRefIdeal.τ).loc Cert.CdnRefIdeal.main_arg0) = m' ((c.tc : Thread Cert.CdnRefIdeal.nD Cert.CdnRefIdeal.τ).loc Cert.CdnRefIdeal.main_arg0)
          ∧ r.2.mem ((c.tc : Thread Cert.CdnRefIdeal.nD Cert.CdnRefIdeal.τ).loc Cert.CdnRefIdeal.main_arg1) = m' ((c.tc : Thread Cert.CdnRefIdeal.nD Cert.CdnRefIdeal.τ).loc Cert.CdnRefIdeal.main_arg1)
          ∧ r.2.mem ((c.tc : Thread Cert.CdnRefIdeal.nD Cert.CdnRefIdeal.τ).loc Cert.CdnRefIdeal.main_arg2) = m' ((c.tc : Thread Cert.CdnRefIdeal.nD Cert.CdnRefIdeal.τ).loc Cert.CdnRefIdeal.main_arg2)
          ∧ r.2.mem ((c.tc : Thread Cert.CdnRefIdeal.nD Cert.CdnRefIdeal.τ).loc Cert.CdnRefIdeal.main_arg3) = m' ((c.tc : Thread Cert.CdnRefIdeal.nD Cert.CdnRefIdeal.τ).loc Cert.CdnRefIdeal.main_arg3)
          ∧ r.2.mem ((c.tc : Thread Cert.CdnRefIdeal.nD Cert.CdnRefIdeal.τ).loc Cert.CdnRefIdeal.main_arg4) = m' ((c.tc : Thread Cert.CdnRefIdeal.nD Cert.CdnRefIdeal.τ).loc Cert.CdnRefIdeal.main_arg4))

def preserves_Tdn_TdnIdeal : Prop :=
  True

def algebraic_TdnIdeal_TdnRefIdeal [hTdnIdeal : Cert.TdnIdeal.Facts] [hTdnRefIdeal : Cert.TdnRefIdeal.Facts] : Prop :=
  ∀ (m : (ℓ : Loc Cert.TdnIdeal.nD Cert.TdnIdeal.τ Cert.TdnIdeal.sig) → Buf (Elt Ideal) ℓ) (g : Dev Cert.TdnIdeal.nD → PrngReg)
    (m' : (ℓ : Loc Cert.TdnRefIdeal.nD Cert.TdnRefIdeal.τ Cert.TdnRefIdeal.sig) → Buf (Elt Ideal) ℓ) (g' : Dev Cert.TdnRefIdeal.nD → PrngReg), Pre_TdnIdeal m →
    (∀ c : Dev Cert.TdnIdeal.nD,
      m' ((c.tc : Thread Cert.TdnRefIdeal.nD Cert.TdnRefIdeal.τ).loc Cert.TdnRefIdeal.main_arg0) = m ((c.tc : Thread Cert.TdnIdeal.nD Cert.TdnIdeal.τ).loc Cert.TdnIdeal.main_arg0)
      ∧ m' ((c.tc : Thread Cert.TdnRefIdeal.nD Cert.TdnRefIdeal.τ).loc Cert.TdnRefIdeal.main_arg1) = m ((c.tc : Thread Cert.TdnIdeal.nD Cert.TdnIdeal.τ).loc Cert.TdnIdeal.main_arg1)
      ∧ m' ((c.tc : Thread Cert.TdnRefIdeal.nD Cert.TdnRefIdeal.τ).loc Cert.TdnRefIdeal.main_arg2) = m ((c.tc : Thread Cert.TdnIdeal.nD Cert.TdnIdeal.τ).loc Cert.TdnIdeal.main_arg2)
      ∧ m' ((c.tc : Thread Cert.TdnRefIdeal.nD Cert.TdnRefIdeal.τ).loc Cert.TdnRefIdeal.main_arg3) = m ((c.tc : Thread Cert.TdnIdeal.nD Cert.TdnIdeal.τ).loc Cert.TdnIdeal.main_arg3)
      ∧ m' ((c.tc : Thread Cert.TdnRefIdeal.nD Cert.TdnRefIdeal.τ).loc Cert.TdnRefIdeal.main_arg4) = m ((c.tc : Thread Cert.TdnIdeal.nD Cert.TdnIdeal.τ).loc Cert.TdnIdeal.main_arg4)
      ∧ m' ((c.tc : Thread Cert.TdnRefIdeal.nD Cert.TdnRefIdeal.τ).loc Cert.TdnRefIdeal.main_arg5) = m ((c.tc : Thread Cert.TdnIdeal.nD Cert.TdnIdeal.τ).loc Cert.TdnIdeal.main_arg5)
      ∧ m' ((c.tc : Thread Cert.TdnRefIdeal.nD Cert.TdnRefIdeal.τ).loc Cert.TdnRefIdeal.main_arg6) = m ((c.tc : Thread Cert.TdnIdeal.nD Cert.TdnIdeal.τ).loc Cert.TdnIdeal.main_arg6)) →
    ∃ (v0 : (c : Dev Cert.TdnIdeal.nD) → Buf (Elt Ideal) ((c.tc : Thread Cert.TdnIdeal.nD Cert.TdnIdeal.τ).loc Cert.TdnIdeal.main_v0_0)) (v1 : (c : Dev Cert.TdnIdeal.nD) → Buf (Elt Ideal) ((c.tc : Thread Cert.TdnIdeal.nD Cert.TdnIdeal.τ).loc Cert.TdnIdeal.main_v0_1)) (v2 : (c : Dev Cert.TdnIdeal.nD) → Buf (Elt Ideal) ((c.tc : Thread Cert.TdnIdeal.nD Cert.TdnIdeal.τ).loc Cert.TdnIdeal.main_v0_2)),
      θ_run (Cert.TdnIdeal.defs (F := Ideal)) (onTc (τ := Cert.TdnIdeal.τ) (Cert.TdnIdeal.main (F := Ideal))) ⟨m, fun _ => 0, g⟩ (fun r => ∀ c : Dev Cert.TdnIdeal.nD,
          r.2.mem ((c.tc : Thread Cert.TdnIdeal.nD Cert.TdnIdeal.τ).loc Cert.TdnIdeal.main_v0_0) = v0 c
          ∧ r.2.mem ((c.tc : Thread Cert.TdnIdeal.nD Cert.TdnIdeal.τ).loc Cert.TdnIdeal.main_v0_1) = v1 c
          ∧ r.2.mem ((c.tc : Thread Cert.TdnIdeal.nD Cert.TdnIdeal.τ).loc Cert.TdnIdeal.main_v0_2) = v2 c
          ∧ r.2.mem ((c.tc : Thread Cert.TdnIdeal.nD Cert.TdnIdeal.τ).loc Cert.TdnIdeal.main_arg0) = m ((c.tc : Thread Cert.TdnIdeal.nD Cert.TdnIdeal.τ).loc Cert.TdnIdeal.main_arg0)
          ∧ r.2.mem ((c.tc : Thread Cert.TdnIdeal.nD Cert.TdnIdeal.τ).loc Cert.TdnIdeal.main_arg1) = m ((c.tc : Thread Cert.TdnIdeal.nD Cert.TdnIdeal.τ).loc Cert.TdnIdeal.main_arg1)
          ∧ r.2.mem ((c.tc : Thread Cert.TdnIdeal.nD Cert.TdnIdeal.τ).loc Cert.TdnIdeal.main_arg2) = m ((c.tc : Thread Cert.TdnIdeal.nD Cert.TdnIdeal.τ).loc Cert.TdnIdeal.main_arg2)
          ∧ r.2.mem ((c.tc : Thread Cert.TdnIdeal.nD Cert.TdnIdeal.τ).loc Cert.TdnIdeal.main_arg3) = m ((c.tc : Thread Cert.TdnIdeal.nD Cert.TdnIdeal.τ).loc Cert.TdnIdeal.main_arg3)
          ∧ r.2.mem ((c.tc : Thread Cert.TdnIdeal.nD Cert.TdnIdeal.τ).loc Cert.TdnIdeal.main_arg4) = m ((c.tc : Thread Cert.TdnIdeal.nD Cert.TdnIdeal.τ).loc Cert.TdnIdeal.main_arg4)
          ∧ r.2.mem ((c.tc : Thread Cert.TdnIdeal.nD Cert.TdnIdeal.τ).loc Cert.TdnIdeal.main_arg5) = m ((c.tc : Thread Cert.TdnIdeal.nD Cert.TdnIdeal.τ).loc Cert.TdnIdeal.main_arg5)
          ∧ r.2.mem ((c.tc : Thread Cert.TdnIdeal.nD Cert.TdnIdeal.τ).loc Cert.TdnIdeal.main_arg6) = m ((c.tc : Thread Cert.TdnIdeal.nD Cert.TdnIdeal.τ).loc Cert.TdnIdeal.main_arg6))
      ∧ θ_run (Cert.TdnRefIdeal.defs (F := Ideal)) (onTc (τ := Cert.TdnRefIdeal.τ) (Cert.TdnRefIdeal.main (F := Ideal))) ⟨m', fun _ => 0, g'⟩ (fun r => ∀ c : Dev Cert.TdnRefIdeal.nD,
          r.2.mem ((c.tc : Thread Cert.TdnRefIdeal.nD Cert.TdnRefIdeal.τ).loc Cert.TdnRefIdeal.main_v40) = v0 c
          ∧ r.2.mem ((c.tc : Thread Cert.TdnRefIdeal.nD Cert.TdnRefIdeal.τ).loc Cert.TdnRefIdeal.main_v41) = v1 c
          ∧ r.2.mem ((c.tc : Thread Cert.TdnRefIdeal.nD Cert.TdnRefIdeal.τ).loc Cert.TdnRefIdeal.main_v23) = v2 c
          ∧ r.2.mem ((c.tc : Thread Cert.TdnRefIdeal.nD Cert.TdnRefIdeal.τ).loc Cert.TdnRefIdeal.main_arg0) = m' ((c.tc : Thread Cert.TdnRefIdeal.nD Cert.TdnRefIdeal.τ).loc Cert.TdnRefIdeal.main_arg0)
          ∧ r.2.mem ((c.tc : Thread Cert.TdnRefIdeal.nD Cert.TdnRefIdeal.τ).loc Cert.TdnRefIdeal.main_arg1) = m' ((c.tc : Thread Cert.TdnRefIdeal.nD Cert.TdnRefIdeal.τ).loc Cert.TdnRefIdeal.main_arg1)
          ∧ r.2.mem ((c.tc : Thread Cert.TdnRefIdeal.nD Cert.TdnRefIdeal.τ).loc Cert.TdnRefIdeal.main_arg2) = m' ((c.tc : Thread Cert.TdnRefIdeal.nD Cert.TdnRefIdeal.τ).loc Cert.TdnRefIdeal.main_arg2)
          ∧ r.2.mem ((c.tc : Thread Cert.TdnRefIdeal.nD Cert.TdnRefIdeal.τ).loc Cert.TdnRefIdeal.main_arg3) = m' ((c.tc : Thread Cert.TdnRefIdeal.nD Cert.TdnRefIdeal.τ).loc Cert.TdnRefIdeal.main_arg3)
          ∧ r.2.mem ((c.tc : Thread Cert.TdnRefIdeal.nD Cert.TdnRefIdeal.τ).loc Cert.TdnRefIdeal.main_arg4) = m' ((c.tc : Thread Cert.TdnRefIdeal.nD Cert.TdnRefIdeal.τ).loc Cert.TdnRefIdeal.main_arg4)
          ∧ r.2.mem ((c.tc : Thread Cert.TdnRefIdeal.nD Cert.TdnRefIdeal.τ).loc Cert.TdnRefIdeal.main_arg5) = m' ((c.tc : Thread Cert.TdnRefIdeal.nD Cert.TdnRefIdeal.τ).loc Cert.TdnRefIdeal.main_arg5)
          ∧ r.2.mem ((c.tc : Thread Cert.TdnRefIdeal.nD Cert.TdnRefIdeal.τ).loc Cert.TdnRefIdeal.main_arg6) = m' ((c.tc : Thread Cert.TdnRefIdeal.nD Cert.TdnRefIdeal.τ).loc Cert.TdnRefIdeal.main_arg6))

def preserves_Afw_AfwIdeal : Prop :=
  True

def algebraic_AfwIdeal_AfwRefIdeal [hAfwIdeal : Cert.AfwIdeal.Facts] [hAfwRefIdeal : Cert.AfwRefIdeal.Facts] : Prop :=
  ∀ (m : (ℓ : Loc Cert.AfwIdeal.nD Cert.AfwIdeal.τ Cert.AfwIdeal.sig) → Buf (Elt Ideal) ℓ) (g : Dev Cert.AfwIdeal.nD → PrngReg)
    (m' : (ℓ : Loc Cert.AfwRefIdeal.nD Cert.AfwRefIdeal.τ Cert.AfwRefIdeal.sig) → Buf (Elt Ideal) ℓ) (g' : Dev Cert.AfwRefIdeal.nD → PrngReg), Pre_AfwIdeal m →
    (∀ c : Dev Cert.AfwIdeal.nD,
      m' ((c.tc : Thread Cert.AfwRefIdeal.nD Cert.AfwRefIdeal.τ).loc Cert.AfwRefIdeal.main_arg0) = m ((c.tc : Thread Cert.AfwIdeal.nD Cert.AfwIdeal.τ).loc Cert.AfwIdeal.main_arg0)
      ∧ m' ((c.tc : Thread Cert.AfwRefIdeal.nD Cert.AfwRefIdeal.τ).loc Cert.AfwRefIdeal.main_arg1) = m ((c.tc : Thread Cert.AfwIdeal.nD Cert.AfwIdeal.τ).loc Cert.AfwIdeal.main_arg1)
      ∧ m' ((c.tc : Thread Cert.AfwRefIdeal.nD Cert.AfwRefIdeal.τ).loc Cert.AfwRefIdeal.main_arg2) = m ((c.tc : Thread Cert.AfwIdeal.nD Cert.AfwIdeal.τ).loc Cert.AfwIdeal.main_arg2)) →
    ∃ (v0 : (c : Dev Cert.AfwIdeal.nD) → Buf (Elt Ideal) ((c.tc : Thread Cert.AfwIdeal.nD Cert.AfwIdeal.τ).loc Cert.AfwIdeal.main_v0)),
      θ_run (Cert.AfwIdeal.defs (F := Ideal)) (onTc (τ := Cert.AfwIdeal.τ) (Cert.AfwIdeal.main (F := Ideal))) ⟨m, fun _ => 0, g⟩ (fun r => ∀ c : Dev Cert.AfwIdeal.nD,
          r.2.mem ((c.tc : Thread Cert.AfwIdeal.nD Cert.AfwIdeal.τ).loc Cert.AfwIdeal.main_v0) = v0 c
          ∧ r.2.mem ((c.tc : Thread Cert.AfwIdeal.nD Cert.AfwIdeal.τ).loc Cert.AfwIdeal.main_arg0) = m ((c.tc : Thread Cert.AfwIdeal.nD Cert.AfwIdeal.τ).loc Cert.AfwIdeal.main_arg0)
          ∧ r.2.mem ((c.tc : Thread Cert.AfwIdeal.nD Cert.AfwIdeal.τ).loc Cert.AfwIdeal.main_arg1) = m ((c.tc : Thread Cert.AfwIdeal.nD Cert.AfwIdeal.τ).loc Cert.AfwIdeal.main_arg1)
          ∧ r.2.mem ((c.tc : Thread Cert.AfwIdeal.nD Cert.AfwIdeal.τ).loc Cert.AfwIdeal.main_arg2) = m ((c.tc : Thread Cert.AfwIdeal.nD Cert.AfwIdeal.τ).loc Cert.AfwIdeal.main_arg2))
      ∧ θ_run (Cert.AfwRefIdeal.defs (F := Ideal)) (onTc (τ := Cert.AfwRefIdeal.τ) (Cert.AfwRefIdeal.main (F := Ideal))) ⟨m', fun _ => 0, g'⟩ (fun r => ∀ c : Dev Cert.AfwRefIdeal.nD,
          r.2.mem ((c.tc : Thread Cert.AfwRefIdeal.nD Cert.AfwRefIdeal.τ).loc Cert.AfwRefIdeal.main_v23) = v0 c
          ∧ r.2.mem ((c.tc : Thread Cert.AfwRefIdeal.nD Cert.AfwRefIdeal.τ).loc Cert.AfwRefIdeal.main_arg0) = m' ((c.tc : Thread Cert.AfwRefIdeal.nD Cert.AfwRefIdeal.τ).loc Cert.AfwRefIdeal.main_arg0)
          ∧ r.2.mem ((c.tc : Thread Cert.AfwRefIdeal.nD Cert.AfwRefIdeal.τ).loc Cert.AfwRefIdeal.main_arg1) = m' ((c.tc : Thread Cert.AfwRefIdeal.nD Cert.AfwRefIdeal.τ).loc Cert.AfwRefIdeal.main_arg1)
          ∧ r.2.mem ((c.tc : Thread Cert.AfwRefIdeal.nD Cert.AfwRefIdeal.τ).loc Cert.AfwRefIdeal.main_arg2) = m' ((c.tc : Thread Cert.AfwRefIdeal.nD Cert.AfwRefIdeal.τ).loc Cert.AfwRefIdeal.main_arg2))

def preserves_Tdp_TdpIdeal : Prop :=
  True

def algebraic_TdpIdeal_TdpRefIdeal [hTdpIdeal : Cert.TdpIdeal.Facts] [hTdpRefIdeal : Cert.TdpRefIdeal.Facts] : Prop :=
  ∀ (m : (ℓ : Loc Cert.TdpIdeal.nD Cert.TdpIdeal.τ Cert.TdpIdeal.sig) → Buf (Elt Ideal) ℓ) (g : Dev Cert.TdpIdeal.nD → PrngReg)
    (m' : (ℓ : Loc Cert.TdpRefIdeal.nD Cert.TdpRefIdeal.τ Cert.TdpRefIdeal.sig) → Buf (Elt Ideal) ℓ) (g' : Dev Cert.TdpRefIdeal.nD → PrngReg), Pre_TdpIdeal m →
    (∀ c : Dev Cert.TdpIdeal.nD,
      m' ((c.tc : Thread Cert.TdpRefIdeal.nD Cert.TdpRefIdeal.τ).loc Cert.TdpRefIdeal.main_arg0) = m ((c.tc : Thread Cert.TdpIdeal.nD Cert.TdpIdeal.τ).loc Cert.TdpIdeal.main_arg0)
      ∧ m' ((c.tc : Thread Cert.TdpRefIdeal.nD Cert.TdpRefIdeal.τ).loc Cert.TdpRefIdeal.main_arg1) = m ((c.tc : Thread Cert.TdpIdeal.nD Cert.TdpIdeal.τ).loc Cert.TdpIdeal.main_arg1)) →
    ∃ (v0 : (c : Dev Cert.TdpIdeal.nD) → Buf (Elt Ideal) ((c.tc : Thread Cert.TdpIdeal.nD Cert.TdpIdeal.τ).loc Cert.TdpIdeal.main_v0)),
      θ_run (Cert.TdpIdeal.defs (F := Ideal)) (onTc (τ := Cert.TdpIdeal.τ) (Cert.TdpIdeal.main (F := Ideal))) ⟨m, fun _ => 0, g⟩ (fun r => ∀ c : Dev Cert.TdpIdeal.nD,
          r.2.mem ((c.tc : Thread Cert.TdpIdeal.nD Cert.TdpIdeal.τ).loc Cert.TdpIdeal.main_v0) = v0 c
          ∧ r.2.mem ((c.tc : Thread Cert.TdpIdeal.nD Cert.TdpIdeal.τ).loc Cert.TdpIdeal.main_arg0) = m ((c.tc : Thread Cert.TdpIdeal.nD Cert.TdpIdeal.τ).loc Cert.TdpIdeal.main_arg0)
          ∧ r.2.mem ((c.tc : Thread Cert.TdpIdeal.nD Cert.TdpIdeal.τ).loc Cert.TdpIdeal.main_arg1) = m ((c.tc : Thread Cert.TdpIdeal.nD Cert.TdpIdeal.τ).loc Cert.TdpIdeal.main_arg1))
      ∧ θ_run (Cert.TdpRefIdeal.defs (F := Ideal)) (onTc (τ := Cert.TdpRefIdeal.τ) (Cert.TdpRefIdeal.main (F := Ideal))) ⟨m', fun _ => 0, g'⟩ (fun r => ∀ c : Dev Cert.TdpRefIdeal.nD,
          r.2.mem ((c.tc : Thread Cert.TdpRefIdeal.nD Cert.TdpRefIdeal.τ).loc Cert.TdpRefIdeal.main_v6) = v0 c
          ∧ r.2.mem ((c.tc : Thread Cert.TdpRefIdeal.nD Cert.TdpRefIdeal.τ).loc Cert.TdpRefIdeal.main_arg0) = m' ((c.tc : Thread Cert.TdpRefIdeal.nD Cert.TdpRefIdeal.τ).loc Cert.TdpRefIdeal.main_arg0)
          ∧ r.2.mem ((c.tc : Thread Cert.TdpRefIdeal.nD Cert.TdpRefIdeal.τ).loc Cert.TdpRefIdeal.main_arg1) = m' ((c.tc : Thread Cert.TdpRefIdeal.nD Cert.TdpRefIdeal.τ).loc Cert.TdpRefIdeal.main_arg1))

def preserves_Mk_MkIdeal : Prop :=
  True

def algebraic_MkIdeal_MkRefIdeal [hMkIdeal : Cert.MkIdeal.Facts] [hMkRefIdeal : Cert.MkRefIdeal.Facts] : Prop :=
  ∀ (m : (ℓ : Loc Cert.MkIdeal.nD Cert.MkIdeal.τ Cert.MkIdeal.sig) → Buf (Elt Ideal) ℓ) (g : Dev Cert.MkIdeal.nD → PrngReg)
    (m' : (ℓ : Loc Cert.MkRefIdeal.nD Cert.MkRefIdeal.τ Cert.MkRefIdeal.sig) → Buf (Elt Ideal) ℓ) (g' : Dev Cert.MkRefIdeal.nD → PrngReg), Pre_MkIdeal m →
    (∀ c : Dev Cert.MkIdeal.nD,
      m' ((c.tc : Thread Cert.MkRefIdeal.nD Cert.MkRefIdeal.τ).loc Cert.MkRefIdeal.main_arg0) = m ((c.tc : Thread Cert.MkIdeal.nD Cert.MkIdeal.τ).loc Cert.MkIdeal.main_arg0)
      ∧ m' ((c.tc : Thread Cert.MkRefIdeal.nD Cert.MkRefIdeal.τ).loc Cert.MkRefIdeal.main_arg1) = m ((c.tc : Thread Cert.MkIdeal.nD Cert.MkIdeal.τ).loc Cert.MkIdeal.main_arg1)) →
    ∃ (v0 : (c : Dev Cert.MkIdeal.nD) → Buf (Elt Ideal) ((c.tc : Thread Cert.MkIdeal.nD Cert.MkIdeal.τ).loc Cert.MkIdeal.main_v0)),
      θ_run (Cert.MkIdeal.defs (F := Ideal)) (onTc (τ := Cert.MkIdeal.τ) (Cert.MkIdeal.main (F := Ideal))) ⟨m, fun _ => 0, g⟩ (fun r => ∀ c : Dev Cert.MkIdeal.nD,
          r.2.mem ((c.tc : Thread Cert.MkIdeal.nD Cert.MkIdeal.τ).loc Cert.MkIdeal.main_v0) = v0 c
          ∧ r.2.mem ((c.tc : Thread Cert.MkIdeal.nD Cert.MkIdeal.τ).loc Cert.MkIdeal.main_arg0) = m ((c.tc : Thread Cert.MkIdeal.nD Cert.MkIdeal.τ).loc Cert.MkIdeal.main_arg0)
          ∧ r.2.mem ((c.tc : Thread Cert.MkIdeal.nD Cert.MkIdeal.τ).loc Cert.MkIdeal.main_arg1) = m ((c.tc : Thread Cert.MkIdeal.nD Cert.MkIdeal.τ).loc Cert.MkIdeal.main_arg1))
      ∧ θ_run (Cert.MkRefIdeal.defs (F := Ideal)) (onTc (τ := Cert.MkRefIdeal.τ) (Cert.MkRefIdeal.main (F := Ideal))) ⟨m', fun _ => 0, g'⟩ (fun r => ∀ c : Dev Cert.MkRefIdeal.nD,
          r.2.mem ((c.tc : Thread Cert.MkRefIdeal.nD Cert.MkRefIdeal.τ).loc Cert.MkRefIdeal.main_v3) = v0 c
          ∧ r.2.mem ((c.tc : Thread Cert.MkRefIdeal.nD Cert.MkRefIdeal.τ).loc Cert.MkRefIdeal.main_arg0) = m' ((c.tc : Thread Cert.MkRefIdeal.nD Cert.MkRefIdeal.τ).loc Cert.MkRefIdeal.main_arg0)
          ∧ r.2.mem ((c.tc : Thread Cert.MkRefIdeal.nD Cert.MkRefIdeal.τ).loc Cert.MkRefIdeal.main_arg1) = m' ((c.tc : Thread Cert.MkRefIdeal.nD Cert.MkRefIdeal.τ).loc Cert.MkRefIdeal.main_arg1))

def preserves_Mdw_MdwIdeal : Prop :=
  True

def algebraic_MdwIdeal_MdwRefIdeal [hMdwIdeal : Cert.MdwIdeal.Facts] [hMdwRefIdeal : Cert.MdwRefIdeal.Facts] : Prop :=
  ∀ (m : (ℓ : Loc Cert.MdwIdeal.nD Cert.MdwIdeal.τ Cert.MdwIdeal.sig) → Buf (Elt Ideal) ℓ) (g : Dev Cert.MdwIdeal.nD → PrngReg)
    (m' : (ℓ : Loc Cert.MdwRefIdeal.nD Cert.MdwRefIdeal.τ Cert.MdwRefIdeal.sig) → Buf (Elt Ideal) ℓ) (g' : Dev Cert.MdwRefIdeal.nD → PrngReg), Pre_MdwIdeal m →
    (∀ c : Dev Cert.MdwIdeal.nD,
      m' ((c.tc : Thread Cert.MdwRefIdeal.nD Cert.MdwRefIdeal.τ).loc Cert.MdwRefIdeal.main_arg0) = m ((c.tc : Thread Cert.MdwIdeal.nD Cert.MdwIdeal.τ).loc Cert.MdwIdeal.main_arg0)
      ∧ m' ((c.tc : Thread Cert.MdwRefIdeal.nD Cert.MdwRefIdeal.τ).loc Cert.MdwRefIdeal.main_arg1) = m ((c.tc : Thread Cert.MdwIdeal.nD Cert.MdwIdeal.τ).loc Cert.MdwIdeal.main_arg1)) →
    ∃ (v0 : (c : Dev Cert.MdwIdeal.nD) → Buf (Elt Ideal) ((c.tc : Thread Cert.MdwIdeal.nD Cert.MdwIdeal.τ).loc Cert.MdwIdeal.main_v0)),
      θ_run (Cert.MdwIdeal.defs (F := Ideal)) (onTc (τ := Cert.MdwIdeal.τ) (Cert.MdwIdeal.main (F := Ideal))) ⟨m, fun _ => 0, g⟩ (fun r => ∀ c : Dev Cert.MdwIdeal.nD,
          r.2.mem ((c.tc : Thread Cert.MdwIdeal.nD Cert.MdwIdeal.τ).loc Cert.MdwIdeal.main_v0) = v0 c
          ∧ r.2.mem ((c.tc : Thread Cert.MdwIdeal.nD Cert.MdwIdeal.τ).loc Cert.MdwIdeal.main_arg0) = m ((c.tc : Thread Cert.MdwIdeal.nD Cert.MdwIdeal.τ).loc Cert.MdwIdeal.main_arg0)
          ∧ r.2.mem ((c.tc : Thread Cert.MdwIdeal.nD Cert.MdwIdeal.τ).loc Cert.MdwIdeal.main_arg1) = m ((c.tc : Thread Cert.MdwIdeal.nD Cert.MdwIdeal.τ).loc Cert.MdwIdeal.main_arg1))
      ∧ θ_run (Cert.MdwRefIdeal.defs (F := Ideal)) (onTc (τ := Cert.MdwRefIdeal.τ) (Cert.MdwRefIdeal.main (F := Ideal))) ⟨m', fun _ => 0, g'⟩ (fun r => ∀ c : Dev Cert.MdwRefIdeal.nD,
          r.2.mem ((c.tc : Thread Cert.MdwRefIdeal.nD Cert.MdwRefIdeal.τ).loc Cert.MdwRefIdeal.main_v6) = v0 c
          ∧ r.2.mem ((c.tc : Thread Cert.MdwRefIdeal.nD Cert.MdwRefIdeal.τ).loc Cert.MdwRefIdeal.main_arg0) = m' ((c.tc : Thread Cert.MdwRefIdeal.nD Cert.MdwRefIdeal.τ).loc Cert.MdwRefIdeal.main_arg0)
          ∧ r.2.mem ((c.tc : Thread Cert.MdwRefIdeal.nD Cert.MdwRefIdeal.τ).loc Cert.MdwRefIdeal.main_arg1) = m' ((c.tc : Thread Cert.MdwRefIdeal.nD Cert.MdwRefIdeal.τ).loc Cert.MdwRefIdeal.main_arg1))

def preserves_Mdk_MdkIdeal : Prop :=
  True

def algebraic_MdkIdeal_MdkRefIdeal [hMdkIdeal : Cert.MdkIdeal.Facts] [hMdkRefIdeal : Cert.MdkRefIdeal.Facts] : Prop :=
  ∀ (m : (ℓ : Loc Cert.MdkIdeal.nD Cert.MdkIdeal.τ Cert.MdkIdeal.sig) → Buf (Elt Ideal) ℓ) (g : Dev Cert.MdkIdeal.nD → PrngReg)
    (m' : (ℓ : Loc Cert.MdkRefIdeal.nD Cert.MdkRefIdeal.τ Cert.MdkRefIdeal.sig) → Buf (Elt Ideal) ℓ) (g' : Dev Cert.MdkRefIdeal.nD → PrngReg), Pre_MdkIdeal m →
    (∀ c : Dev Cert.MdkIdeal.nD,
      m' ((c.tc : Thread Cert.MdkRefIdeal.nD Cert.MdkRefIdeal.τ).loc Cert.MdkRefIdeal.main_arg0) = m ((c.tc : Thread Cert.MdkIdeal.nD Cert.MdkIdeal.τ).loc Cert.MdkIdeal.main_arg0)
      ∧ m' ((c.tc : Thread Cert.MdkRefIdeal.nD Cert.MdkRefIdeal.τ).loc Cert.MdkRefIdeal.main_arg1) = m ((c.tc : Thread Cert.MdkIdeal.nD Cert.MdkIdeal.τ).loc Cert.MdkIdeal.main_arg1)) →
    ∃ (v0 : (c : Dev Cert.MdkIdeal.nD) → Buf (Elt Ideal) ((c.tc : Thread Cert.MdkIdeal.nD Cert.MdkIdeal.τ).loc Cert.MdkIdeal.main_v0)),
      θ_run (Cert.MdkIdeal.defs (F := Ideal)) (onTc (τ := Cert.MdkIdeal.τ) (Cert.MdkIdeal.main (F := Ideal))) ⟨m, fun _ => 0, g⟩ (fun r => ∀ c : Dev Cert.MdkIdeal.nD,
          r.2.mem ((c.tc : Thread Cert.MdkIdeal.nD Cert.MdkIdeal.τ).loc Cert.MdkIdeal.main_v0) = v0 c
          ∧ r.2.mem ((c.tc : Thread Cert.MdkIdeal.nD Cert.MdkIdeal.τ).loc Cert.MdkIdeal.main_arg0) = m ((c.tc : Thread Cert.MdkIdeal.nD Cert.MdkIdeal.τ).loc Cert.MdkIdeal.main_arg0)
          ∧ r.2.mem ((c.tc : Thread Cert.MdkIdeal.nD Cert.MdkIdeal.τ).loc Cert.MdkIdeal.main_arg1) = m ((c.tc : Thread Cert.MdkIdeal.nD Cert.MdkIdeal.τ).loc Cert.MdkIdeal.main_arg1))
      ∧ θ_run (Cert.MdkRefIdeal.defs (F := Ideal)) (onTc (τ := Cert.MdkRefIdeal.τ) (Cert.MdkRefIdeal.main (F := Ideal))) ⟨m', fun _ => 0, g'⟩ (fun r => ∀ c : Dev Cert.MdkRefIdeal.nD,
          r.2.mem ((c.tc : Thread Cert.MdkRefIdeal.nD Cert.MdkRefIdeal.τ).loc Cert.MdkRefIdeal.main_v4) = v0 c
          ∧ r.2.mem ((c.tc : Thread Cert.MdkRefIdeal.nD Cert.MdkRefIdeal.τ).loc Cert.MdkRefIdeal.main_arg0) = m' ((c.tc : Thread Cert.MdkRefIdeal.nD Cert.MdkRefIdeal.τ).loc Cert.MdkRefIdeal.main_arg0)
          ∧ r.2.mem ((c.tc : Thread Cert.MdkRefIdeal.nD Cert.MdkRefIdeal.τ).loc Cert.MdkRefIdeal.main_arg1) = m' ((c.tc : Thread Cert.MdkRefIdeal.nD Cert.MdkRefIdeal.τ).loc Cert.MdkRefIdeal.main_arg1))

def preserves_Mdv_MdvIdeal : Prop :=
  True

def algebraic_MdvIdeal_MdvRefIdeal [hMdvIdeal : Cert.MdvIdeal.Facts] [hMdvRefIdeal : Cert.MdvRefIdeal.Facts] : Prop :=
  ∀ (m : (ℓ : Loc Cert.MdvIdeal.nD Cert.MdvIdeal.τ Cert.MdvIdeal.sig) → Buf (Elt Ideal) ℓ) (g : Dev Cert.MdvIdeal.nD → PrngReg)
    (m' : (ℓ : Loc Cert.MdvRefIdeal.nD Cert.MdvRefIdeal.τ Cert.MdvRefIdeal.sig) → Buf (Elt Ideal) ℓ) (g' : Dev Cert.MdvRefIdeal.nD → PrngReg), Pre_MdvIdeal m →
    (∀ c : Dev Cert.MdvIdeal.nD,
      m' ((c.tc : Thread Cert.MdvRefIdeal.nD Cert.MdvRefIdeal.τ).loc Cert.MdvRefIdeal.main_arg0) = m ((c.tc : Thread Cert.MdvIdeal.nD Cert.MdvIdeal.τ).loc Cert.MdvIdeal.main_arg0)
      ∧ m' ((c.tc : Thread Cert.MdvRefIdeal.nD Cert.MdvRefIdeal.τ).loc Cert.MdvRefIdeal.main_arg1) = m ((c.tc : Thread Cert.MdvIdeal.nD Cert.MdvIdeal.τ).loc Cert.MdvIdeal.main_arg1)
      ∧ m' ((c.tc : Thread Cert.MdvRefIdeal.nD Cert.MdvRefIdeal.τ).loc Cert.MdvRefIdeal.main_arg2) = m ((c.tc : Thread Cert.MdvIdeal.nD Cert.MdvIdeal.τ).loc Cert.MdvIdeal.main_arg2)) →
    ∃ (v0 : (c : Dev Cert.MdvIdeal.nD) → Buf (Elt Ideal) ((c.tc : Thread Cert.MdvIdeal.nD Cert.MdvIdeal.τ).loc Cert.MdvIdeal.main_v0)),
      θ_run (Cert.MdvIdeal.defs (F := Ideal)) (onTc (τ := Cert.MdvIdeal.τ) (Cert.MdvIdeal.main (F := Ideal))) ⟨m, fun _ => 0, g⟩ (fun r => ∀ c : Dev Cert.MdvIdeal.nD,
          r.2.mem ((c.tc : Thread Cert.MdvIdeal.nD Cert.MdvIdeal.τ).loc Cert.MdvIdeal.main_v0) = v0 c
          ∧ r.2.mem ((c.tc : Thread Cert.MdvIdeal.nD Cert.MdvIdeal.τ).loc Cert.MdvIdeal.main_arg0) = m ((c.tc : Thread Cert.MdvIdeal.nD Cert.MdvIdeal.τ).loc Cert.MdvIdeal.main_arg0)
          ∧ r.2.mem ((c.tc : Thread Cert.MdvIdeal.nD Cert.MdvIdeal.τ).loc Cert.MdvIdeal.main_arg1) = m ((c.tc : Thread Cert.MdvIdeal.nD Cert.MdvIdeal.τ).loc Cert.MdvIdeal.main_arg1)
          ∧ r.2.mem ((c.tc : Thread Cert.MdvIdeal.nD Cert.MdvIdeal.τ).loc Cert.MdvIdeal.main_arg2) = m ((c.tc : Thread Cert.MdvIdeal.nD Cert.MdvIdeal.τ).loc Cert.MdvIdeal.main_arg2))
      ∧ θ_run (Cert.MdvRefIdeal.defs (F := Ideal)) (onTc (τ := Cert.MdvRefIdeal.τ) (Cert.MdvRefIdeal.main (F := Ideal))) ⟨m', fun _ => 0, g'⟩ (fun r => ∀ c : Dev Cert.MdvRefIdeal.nD,
          r.2.mem ((c.tc : Thread Cert.MdvRefIdeal.nD Cert.MdvRefIdeal.τ).loc Cert.MdvRefIdeal.main_v5) = v0 c
          ∧ r.2.mem ((c.tc : Thread Cert.MdvRefIdeal.nD Cert.MdvRefIdeal.τ).loc Cert.MdvRefIdeal.main_arg0) = m' ((c.tc : Thread Cert.MdvRefIdeal.nD Cert.MdvRefIdeal.τ).loc Cert.MdvRefIdeal.main_arg0)
          ∧ r.2.mem ((c.tc : Thread Cert.MdvRefIdeal.nD Cert.MdvRefIdeal.τ).loc Cert.MdvRefIdeal.main_arg1) = m' ((c.tc : Thread Cert.MdvRefIdeal.nD Cert.MdvRefIdeal.τ).loc Cert.MdvRefIdeal.main_arg1)
          ∧ r.2.mem ((c.tc : Thread Cert.MdvRefIdeal.nD Cert.MdvRefIdeal.τ).loc Cert.MdvRefIdeal.main_arg2) = m' ((c.tc : Thread Cert.MdvRefIdeal.nD Cert.MdvRefIdeal.τ).loc Cert.MdvRefIdeal.main_arg2))

def preserves_Nx_NxIdeal : Prop :=
  True

def algebraic_NxIdeal_NxRefIdeal [hNxIdeal : Cert.NxIdeal.Facts] [hNxRefIdeal : Cert.NxRefIdeal.Facts] : Prop :=
  ∀ (m : (ℓ : Loc Cert.NxIdeal.nD Cert.NxIdeal.τ Cert.NxIdeal.sig) → Buf (Elt Ideal) ℓ) (g : Dev Cert.NxIdeal.nD → PrngReg)
    (m' : (ℓ : Loc Cert.NxRefIdeal.nD Cert.NxRefIdeal.τ Cert.NxRefIdeal.sig) → Buf (Elt Ideal) ℓ) (g' : Dev Cert.NxRefIdeal.nD → PrngReg), Pre_NxIdeal m →
    (∀ c : Dev Cert.NxIdeal.nD,
      m' ((c.tc : Thread Cert.NxRefIdeal.nD Cert.NxRefIdeal.τ).loc Cert.NxRefIdeal.main_arg0) = m ((c.tc : Thread Cert.NxIdeal.nD Cert.NxIdeal.τ).loc Cert.NxIdeal.main_arg0)
      ∧ m' ((c.tc : Thread Cert.NxRefIdeal.nD Cert.NxRefIdeal.τ).loc Cert.NxRefIdeal.main_arg1) = m ((c.tc : Thread Cert.NxIdeal.nD Cert.NxIdeal.τ).loc Cert.NxIdeal.main_arg1)) →
    ∃ (v0 : (c : Dev Cert.NxIdeal.nD) → Buf (Elt Ideal) ((c.tc : Thread Cert.NxIdeal.nD Cert.NxIdeal.τ).loc Cert.NxIdeal.main_v0)),
      θ_run (Cert.NxIdeal.defs (F := Ideal)) (onTc (τ := Cert.NxIdeal.τ) (Cert.NxIdeal.main (F := Ideal))) ⟨m, fun _ => 0, g⟩ (fun r => ∀ c : Dev Cert.NxIdeal.nD,
          r.2.mem ((c.tc : Thread Cert.NxIdeal.nD Cert.NxIdeal.τ).loc Cert.NxIdeal.main_v0) = v0 c
          ∧ r.2.mem ((c.tc : Thread Cert.NxIdeal.nD Cert.NxIdeal.τ).loc Cert.NxIdeal.main_arg0) = m ((c.tc : Thread Cert.NxIdeal.nD Cert.NxIdeal.τ).loc Cert.NxIdeal.main_arg0)
          ∧ r.2.mem ((c.tc : Thread Cert.NxIdeal.nD Cert.NxIdeal.τ).loc Cert.NxIdeal.main_arg1) = m ((c.tc : Thread Cert.NxIdeal.nD Cert.NxIdeal.τ).loc Cert.NxIdeal.main_arg1))
      ∧ θ_run (Cert.NxRefIdeal.defs (F := Ideal)) (onTc (τ := Cert.NxRefIdeal.τ) (Cert.NxRefIdeal.main (F := Ideal))) ⟨m', fun _ => 0, g'⟩ (fun r => ∀ c : Dev Cert.NxRefIdeal.nD,
          r.2.mem ((c.tc : Thread Cert.NxRefIdeal.nD Cert.NxRefIdeal.τ).loc Cert.NxRefIdeal.main_v12) = v0 c
          ∧ r.2.mem ((c.tc : Thread Cert.NxRefIdeal.nD Cert.NxRefIdeal.τ).loc Cert.NxRefIdeal.main_arg0) = m' ((c.tc : Thread Cert.NxRefIdeal.nD Cert.NxRefIdeal.τ).loc Cert.NxRefIdeal.main_arg0)
          ∧ r.2.mem ((c.tc : Thread Cert.NxRefIdeal.nD Cert.NxRefIdeal.τ).loc Cert.NxRefIdeal.main_arg1) = m' ((c.tc : Thread Cert.NxRefIdeal.nD Cert.NxRefIdeal.τ).loc Cert.NxRefIdeal.main_arg1))

def preserves_Nm_NmIdeal : Prop :=
  True

def algebraic_NmIdeal_NmRefIdeal [hNmIdeal : Cert.NmIdeal.Facts] [hNmRefIdeal : Cert.NmRefIdeal.Facts] : Prop :=
  ∀ (m : (ℓ : Loc Cert.NmIdeal.nD Cert.NmIdeal.τ Cert.NmIdeal.sig) → Buf (Elt Ideal) ℓ) (g : Dev Cert.NmIdeal.nD → PrngReg)
    (m' : (ℓ : Loc Cert.NmRefIdeal.nD Cert.NmRefIdeal.τ Cert.NmRefIdeal.sig) → Buf (Elt Ideal) ℓ) (g' : Dev Cert.NmRefIdeal.nD → PrngReg), Pre_NmIdeal m →
    (∀ c : Dev Cert.NmIdeal.nD,
      m' ((c.tc : Thread Cert.NmRefIdeal.nD Cert.NmRefIdeal.τ).loc Cert.NmRefIdeal.main_arg0) = m ((c.tc : Thread Cert.NmIdeal.nD Cert.NmIdeal.τ).loc Cert.NmIdeal.main_arg0)
      ∧ m' ((c.tc : Thread Cert.NmRefIdeal.nD Cert.NmRefIdeal.τ).loc Cert.NmRefIdeal.main_arg1) = m ((c.tc : Thread Cert.NmIdeal.nD Cert.NmIdeal.τ).loc Cert.NmIdeal.main_arg1)) →
    ∃ (v0 : (c : Dev Cert.NmIdeal.nD) → Buf (Elt Ideal) ((c.tc : Thread Cert.NmIdeal.nD Cert.NmIdeal.τ).loc Cert.NmIdeal.main_v0)),
      θ_run (Cert.NmIdeal.defs (F := Ideal)) (onTc (τ := Cert.NmIdeal.τ) (Cert.NmIdeal.main (F := Ideal))) ⟨m, fun _ => 0, g⟩ (fun r => ∀ c : Dev Cert.NmIdeal.nD,
          r.2.mem ((c.tc : Thread Cert.NmIdeal.nD Cert.NmIdeal.τ).loc Cert.NmIdeal.main_v0) = v0 c
          ∧ r.2.mem ((c.tc : Thread Cert.NmIdeal.nD Cert.NmIdeal.τ).loc Cert.NmIdeal.main_arg0) = m ((c.tc : Thread Cert.NmIdeal.nD Cert.NmIdeal.τ).loc Cert.NmIdeal.main_arg0)
          ∧ r.2.mem ((c.tc : Thread Cert.NmIdeal.nD Cert.NmIdeal.τ).loc Cert.NmIdeal.main_arg1) = m ((c.tc : Thread Cert.NmIdeal.nD Cert.NmIdeal.τ).loc Cert.NmIdeal.main_arg1))
      ∧ θ_run (Cert.NmRefIdeal.defs (F := Ideal)) (onTc (τ := Cert.NmRefIdeal.τ) (Cert.NmRefIdeal.main (F := Ideal))) ⟨m', fun _ => 0, g'⟩ (fun r => ∀ c : Dev Cert.NmRefIdeal.nD,
          r.2.mem ((c.tc : Thread Cert.NmRefIdeal.nD Cert.NmRefIdeal.τ).loc Cert.NmRefIdeal.main_v12) = v0 c
          ∧ r.2.mem ((c.tc : Thread Cert.NmRefIdeal.nD Cert.NmRefIdeal.τ).loc Cert.NmRefIdeal.main_arg0) = m' ((c.tc : Thread Cert.NmRefIdeal.nD Cert.NmRefIdeal.τ).loc Cert.NmRefIdeal.main_arg0)
          ∧ r.2.mem ((c.tc : Thread Cert.NmRefIdeal.nD Cert.NmRefIdeal.τ).loc Cert.NmRefIdeal.main_arg1) = m' ((c.tc : Thread Cert.NmRefIdeal.nD Cert.NmRefIdeal.τ).loc Cert.NmRefIdeal.main_arg1))

def preserves_Nb_NbIdeal : Prop :=
  True

def algebraic_NbIdeal_NbRefIdeal [hNbIdeal : Cert.NbIdeal.Facts] [hNbRefIdeal : Cert.NbRefIdeal.Facts] : Prop :=
  ∀ (m : (ℓ : Loc Cert.NbIdeal.nD Cert.NbIdeal.τ Cert.NbIdeal.sig) → Buf (Elt Ideal) ℓ) (g : Dev Cert.NbIdeal.nD → PrngReg)
    (m' : (ℓ : Loc Cert.NbRefIdeal.nD Cert.NbRefIdeal.τ Cert.NbRefIdeal.sig) → Buf (Elt Ideal) ℓ) (g' : Dev Cert.NbRefIdeal.nD → PrngReg), Pre_NbIdeal m →
    (∀ c : Dev Cert.NbIdeal.nD,
      m' ((c.tc : Thread Cert.NbRefIdeal.nD Cert.NbRefIdeal.τ).loc Cert.NbRefIdeal.main_arg0) = m ((c.tc : Thread Cert.NbIdeal.nD Cert.NbIdeal.τ).loc Cert.NbIdeal.main_arg0)
      ∧ m' ((c.tc : Thread Cert.NbRefIdeal.nD Cert.NbRefIdeal.τ).loc Cert.NbRefIdeal.main_arg1) = m ((c.tc : Thread Cert.NbIdeal.nD Cert.NbIdeal.τ).loc Cert.NbIdeal.main_arg1)
      ∧ m' ((c.tc : Thread Cert.NbRefIdeal.nD Cert.NbRefIdeal.τ).loc Cert.NbRefIdeal.main_arg2) = m ((c.tc : Thread Cert.NbIdeal.nD Cert.NbIdeal.τ).loc Cert.NbIdeal.main_arg2)) →
    ∃ (v0 : (c : Dev Cert.NbIdeal.nD) → Buf (Elt Ideal) ((c.tc : Thread Cert.NbIdeal.nD Cert.NbIdeal.τ).loc Cert.NbIdeal.main_v0)),
      θ_run (Cert.NbIdeal.defs (F := Ideal)) (onTc (τ := Cert.NbIdeal.τ) (Cert.NbIdeal.main (F := Ideal))) ⟨m, fun _ => 0, g⟩ (fun r => ∀ c : Dev Cert.NbIdeal.nD,
          r.2.mem ((c.tc : Thread Cert.NbIdeal.nD Cert.NbIdeal.τ).loc Cert.NbIdeal.main_v0) = v0 c
          ∧ r.2.mem ((c.tc : Thread Cert.NbIdeal.nD Cert.NbIdeal.τ).loc Cert.NbIdeal.main_arg0) = m ((c.tc : Thread Cert.NbIdeal.nD Cert.NbIdeal.τ).loc Cert.NbIdeal.main_arg0)
          ∧ r.2.mem ((c.tc : Thread Cert.NbIdeal.nD Cert.NbIdeal.τ).loc Cert.NbIdeal.main_arg1) = m ((c.tc : Thread Cert.NbIdeal.nD Cert.NbIdeal.τ).loc Cert.NbIdeal.main_arg1)
          ∧ r.2.mem ((c.tc : Thread Cert.NbIdeal.nD Cert.NbIdeal.τ).loc Cert.NbIdeal.main_arg2) = m ((c.tc : Thread Cert.NbIdeal.nD Cert.NbIdeal.τ).loc Cert.NbIdeal.main_arg2))
      ∧ θ_run (Cert.NbRefIdeal.defs (F := Ideal)) (onTc (τ := Cert.NbRefIdeal.τ) (Cert.NbRefIdeal.main (F := Ideal))) ⟨m', fun _ => 0, g'⟩ (fun r => ∀ c : Dev Cert.NbRefIdeal.nD,
          r.2.mem ((c.tc : Thread Cert.NbRefIdeal.nD Cert.NbRefIdeal.τ).loc Cert.NbRefIdeal.main_v14) = v0 c
          ∧ r.2.mem ((c.tc : Thread Cert.NbRefIdeal.nD Cert.NbRefIdeal.τ).loc Cert.NbRefIdeal.main_arg0) = m' ((c.tc : Thread Cert.NbRefIdeal.nD Cert.NbRefIdeal.τ).loc Cert.NbRefIdeal.main_arg0)
          ∧ r.2.mem ((c.tc : Thread Cert.NbRefIdeal.nD Cert.NbRefIdeal.τ).loc Cert.NbRefIdeal.main_arg1) = m' ((c.tc : Thread Cert.NbRefIdeal.nD Cert.NbRefIdeal.τ).loc Cert.NbRefIdeal.main_arg1)
          ∧ r.2.mem ((c.tc : Thread Cert.NbRefIdeal.nD Cert.NbRefIdeal.τ).loc Cert.NbRefIdeal.main_arg2) = m' ((c.tc : Thread Cert.NbRefIdeal.nD Cert.NbRefIdeal.τ).loc Cert.NbRefIdeal.main_arg2))

def preserves_Ls_LsIdeal : Prop :=
  True

def algebraic_LsIdeal_LsRefIdeal [hLsIdeal : Cert.LsIdeal.Facts] [hLsRefIdeal : Cert.LsRefIdeal.Facts] : Prop :=
  ∀ (m : (ℓ : Loc Cert.LsIdeal.nD Cert.LsIdeal.τ Cert.LsIdeal.sig) → Buf (Elt Ideal) ℓ) (g : Dev Cert.LsIdeal.nD → PrngReg)
    (m' : (ℓ : Loc Cert.LsRefIdeal.nD Cert.LsRefIdeal.τ Cert.LsRefIdeal.sig) → Buf (Elt Ideal) ℓ) (g' : Dev Cert.LsRefIdeal.nD → PrngReg), Pre_LsIdeal m →
    (∀ c : Dev Cert.LsIdeal.nD,
      m' ((c.tc : Thread Cert.LsRefIdeal.nD Cert.LsRefIdeal.τ).loc Cert.LsRefIdeal.main_arg0) = m ((c.tc : Thread Cert.LsIdeal.nD Cert.LsIdeal.τ).loc Cert.LsIdeal.main_arg0)
      ∧ m' ((c.tc : Thread Cert.LsRefIdeal.nD Cert.LsRefIdeal.τ).loc Cert.LsRefIdeal.main_arg1) = m ((c.tc : Thread Cert.LsIdeal.nD Cert.LsIdeal.τ).loc Cert.LsIdeal.main_arg1)
      ∧ m' ((c.tc : Thread Cert.LsRefIdeal.nD Cert.LsRefIdeal.τ).loc Cert.LsRefIdeal.main_arg2) = m ((c.tc : Thread Cert.LsIdeal.nD Cert.LsIdeal.τ).loc Cert.LsIdeal.main_arg2)) →
    ∃ (v0 : (c : Dev Cert.LsIdeal.nD) → Buf (Elt Ideal) ((c.tc : Thread Cert.LsIdeal.nD Cert.LsIdeal.τ).loc Cert.LsIdeal.main_v0)),
      θ_run (Cert.LsIdeal.defs (F := Ideal)) (onTc (τ := Cert.LsIdeal.τ) (Cert.LsIdeal.main (F := Ideal))) ⟨m, fun _ => 0, g⟩ (fun r => ∀ c : Dev Cert.LsIdeal.nD,
          r.2.mem ((c.tc : Thread Cert.LsIdeal.nD Cert.LsIdeal.τ).loc Cert.LsIdeal.main_v0) = v0 c
          ∧ r.2.mem ((c.tc : Thread Cert.LsIdeal.nD Cert.LsIdeal.τ).loc Cert.LsIdeal.main_arg0) = m ((c.tc : Thread Cert.LsIdeal.nD Cert.LsIdeal.τ).loc Cert.LsIdeal.main_arg0)
          ∧ r.2.mem ((c.tc : Thread Cert.LsIdeal.nD Cert.LsIdeal.τ).loc Cert.LsIdeal.main_arg1) = m ((c.tc : Thread Cert.LsIdeal.nD Cert.LsIdeal.τ).loc Cert.LsIdeal.main_arg1)
          ∧ r.2.mem ((c.tc : Thread Cert.LsIdeal.nD Cert.LsIdeal.τ).loc Cert.LsIdeal.main_arg2) = m ((c.tc : Thread Cert.LsIdeal.nD Cert.LsIdeal.τ).loc Cert.LsIdeal.main_arg2))
      ∧ θ_run (Cert.LsRefIdeal.defs (F := Ideal)) (onTc (τ := Cert.LsRefIdeal.τ) (Cert.LsRefIdeal.main (F := Ideal))) ⟨m', fun _ => 0, g'⟩ (fun r => ∀ c : Dev Cert.LsRefIdeal.nD,
          r.2.mem ((c.tc : Thread Cert.LsRefIdeal.nD Cert.LsRefIdeal.τ).loc Cert.LsRefIdeal.main_v23) = v0 c
          ∧ r.2.mem ((c.tc : Thread Cert.LsRefIdeal.nD Cert.LsRefIdeal.τ).loc Cert.LsRefIdeal.main_arg0) = m' ((c.tc : Thread Cert.LsRefIdeal.nD Cert.LsRefIdeal.τ).loc Cert.LsRefIdeal.main_arg0)
          ∧ r.2.mem ((c.tc : Thread Cert.LsRefIdeal.nD Cert.LsRefIdeal.τ).loc Cert.LsRefIdeal.main_arg1) = m' ((c.tc : Thread Cert.LsRefIdeal.nD Cert.LsRefIdeal.τ).loc Cert.LsRefIdeal.main_arg1)
          ∧ r.2.mem ((c.tc : Thread Cert.LsRefIdeal.nD Cert.LsRefIdeal.τ).loc Cert.LsRefIdeal.main_arg2) = m' ((c.tc : Thread Cert.LsRefIdeal.nD Cert.LsRefIdeal.τ).loc Cert.LsRefIdeal.main_arg2))

def preserves_Lh_LhIdeal : Prop :=
  True

def algebraic_LhIdeal_LhRefIdeal [hLhIdeal : Cert.LhIdeal.Facts] [hLhRefIdeal : Cert.LhRefIdeal.Facts] : Prop :=
  ∀ (m : (ℓ : Loc Cert.LhIdeal.nD Cert.LhIdeal.τ Cert.LhIdeal.sig) → Buf (Elt Ideal) ℓ) (g : Dev Cert.LhIdeal.nD → PrngReg)
    (m' : (ℓ : Loc Cert.LhRefIdeal.nD Cert.LhRefIdeal.τ Cert.LhRefIdeal.sig) → Buf (Elt Ideal) ℓ) (g' : Dev Cert.LhRefIdeal.nD → PrngReg), Pre_LhIdeal m →
    (∀ c : Dev Cert.LhIdeal.nD,
      m' ((c.tc : Thread Cert.LhRefIdeal.nD Cert.LhRefIdeal.τ).loc Cert.LhRefIdeal.main_arg0) = m ((c.tc : Thread Cert.LhIdeal.nD Cert.LhIdeal.τ).loc Cert.LhIdeal.main_arg0)
      ∧ m' ((c.tc : Thread Cert.LhRefIdeal.nD Cert.LhRefIdeal.τ).loc Cert.LhRefIdeal.main_arg1) = m ((c.tc : Thread Cert.LhIdeal.nD Cert.LhIdeal.τ).loc Cert.LhIdeal.main_arg1)
      ∧ m' ((c.tc : Thread Cert.LhRefIdeal.nD Cert.LhRefIdeal.τ).loc Cert.LhRefIdeal.main_arg2) = m ((c.tc : Thread Cert.LhIdeal.nD Cert.LhIdeal.τ).loc Cert.LhIdeal.main_arg2)) →
    ∃ (v0 : (c : Dev Cert.LhIdeal.nD) → Buf (Elt Ideal) ((c.tc : Thread Cert.LhIdeal.nD Cert.LhIdeal.τ).loc Cert.LhIdeal.main_v0_0)) (v1 : (c : Dev Cert.LhIdeal.nD) → Buf (Elt Ideal) ((c.tc : Thread Cert.LhIdeal.nD Cert.LhIdeal.τ).loc Cert.LhIdeal.main_v0_1)) (v2 : (c : Dev Cert.LhIdeal.nD) → Buf (Elt Ideal) ((c.tc : Thread Cert.LhIdeal.nD Cert.LhIdeal.τ).loc Cert.LhIdeal.main_v0_2)) (v3 : (c : Dev Cert.LhIdeal.nD) → Buf (Elt Ideal) ((c.tc : Thread Cert.LhIdeal.nD Cert.LhIdeal.τ).loc Cert.LhIdeal.main_v0_3)),
      θ_run (Cert.LhIdeal.defs (F := Ideal)) (onTc (τ := Cert.LhIdeal.τ) (Cert.LhIdeal.main (F := Ideal))) ⟨m, fun _ => 0, g⟩ (fun r => ∀ c : Dev Cert.LhIdeal.nD,
          r.2.mem ((c.tc : Thread Cert.LhIdeal.nD Cert.LhIdeal.τ).loc Cert.LhIdeal.main_v0_0) = v0 c
          ∧ r.2.mem ((c.tc : Thread Cert.LhIdeal.nD Cert.LhIdeal.τ).loc Cert.LhIdeal.main_v0_1) = v1 c
          ∧ r.2.mem ((c.tc : Thread Cert.LhIdeal.nD Cert.LhIdeal.τ).loc Cert.LhIdeal.main_v0_2) = v2 c
          ∧ r.2.mem ((c.tc : Thread Cert.LhIdeal.nD Cert.LhIdeal.τ).loc Cert.LhIdeal.main_v0_3) = v3 c
          ∧ r.2.mem ((c.tc : Thread Cert.LhIdeal.nD Cert.LhIdeal.τ).loc Cert.LhIdeal.main_arg0) = m ((c.tc : Thread Cert.LhIdeal.nD Cert.LhIdeal.τ).loc Cert.LhIdeal.main_arg0)
          ∧ r.2.mem ((c.tc : Thread Cert.LhIdeal.nD Cert.LhIdeal.τ).loc Cert.LhIdeal.main_arg1) = m ((c.tc : Thread Cert.LhIdeal.nD Cert.LhIdeal.τ).loc Cert.LhIdeal.main_arg1)
          ∧ r.2.mem ((c.tc : Thread Cert.LhIdeal.nD Cert.LhIdeal.τ).loc Cert.LhIdeal.main_arg2) = m ((c.tc : Thread Cert.LhIdeal.nD Cert.LhIdeal.τ).loc Cert.LhIdeal.main_arg2))
      ∧ θ_run (Cert.LhRefIdeal.defs (F := Ideal)) (onTc (τ := Cert.LhRefIdeal.τ) (Cert.LhRefIdeal.main (F := Ideal))) ⟨m', fun _ => 0, g'⟩ (fun r => ∀ c : Dev Cert.LhRefIdeal.nD,
          r.2.mem ((c.tc : Thread Cert.LhRefIdeal.nD Cert.LhRefIdeal.τ).loc Cert.LhRefIdeal.main_v49) = v0 c
          ∧ r.2.mem ((c.tc : Thread Cert.LhRefIdeal.nD Cert.LhRefIdeal.τ).loc Cert.LhRefIdeal.main_v48) = v1 c
          ∧ r.2.mem ((c.tc : Thread Cert.LhRefIdeal.nD Cert.LhRefIdeal.τ).loc Cert.LhRefIdeal.main_v50) = v2 c
          ∧ r.2.mem ((c.tc : Thread Cert.LhRefIdeal.nD Cert.LhRefIdeal.τ).loc Cert.LhRefIdeal.main_v32) = v3 c
          ∧ r.2.mem ((c.tc : Thread Cert.LhRefIdeal.nD Cert.LhRefIdeal.τ).loc Cert.LhRefIdeal.main_arg0) = m' ((c.tc : Thread Cert.LhRefIdeal.nD Cert.LhRefIdeal.τ).loc Cert.LhRefIdeal.main_arg0)
          ∧ r.2.mem ((c.tc : Thread Cert.LhRefIdeal.nD Cert.LhRefIdeal.τ).loc Cert.LhRefIdeal.main_arg1) = m' ((c.tc : Thread Cert.LhRefIdeal.nD Cert.LhRefIdeal.τ).loc Cert.LhRefIdeal.main_arg1)
          ∧ r.2.mem ((c.tc : Thread Cert.LhRefIdeal.nD Cert.LhRefIdeal.τ).loc Cert.LhRefIdeal.main_arg2) = m' ((c.tc : Thread Cert.LhRefIdeal.nD Cert.LhRefIdeal.τ).loc Cert.LhRefIdeal.main_arg2))

def preserves_Lb_LbIdeal : Prop :=
  True

def algebraic_LbIdeal_LbRefIdeal_pre_gradient_and_gain_finite [hLbIdeal : Cert.LbIdeal.Facts] [hLbRefIdeal : Cert.LbRefIdeal.Facts] [hPre_gradient_and_gain_finite : Cert.Pre_gradient_and_gain_finite.Facts] : Prop :=
  ∀ (m : (ℓ : Loc Cert.LbIdeal.nD Cert.LbIdeal.τ Cert.LbIdeal.sig) → Buf (Elt Ideal) ℓ) (g : Dev Cert.LbIdeal.nD → PrngReg)
    (m' : (ℓ : Loc Cert.LbRefIdeal.nD Cert.LbRefIdeal.τ Cert.LbRefIdeal.sig) → Buf (Elt Ideal) ℓ) (g' : Dev Cert.LbRefIdeal.nD → PrngReg), Pre_LbIdeal_gradient_and_gain_finite m →
    (∀ c : Dev Cert.LbIdeal.nD,
      m' ((c.tc : Thread Cert.LbRefIdeal.nD Cert.LbRefIdeal.τ).loc Cert.LbRefIdeal.main_arg0) = m ((c.tc : Thread Cert.LbIdeal.nD Cert.LbIdeal.τ).loc Cert.LbIdeal.main_arg0)
      ∧ m' ((c.tc : Thread Cert.LbRefIdeal.nD Cert.LbRefIdeal.τ).loc Cert.LbRefIdeal.main_arg1) = m ((c.tc : Thread Cert.LbIdeal.nD Cert.LbIdeal.τ).loc Cert.LbIdeal.main_arg1)
      ∧ m' ((c.tc : Thread Cert.LbRefIdeal.nD Cert.LbRefIdeal.τ).loc Cert.LbRefIdeal.main_arg2) = m ((c.tc : Thread Cert.LbIdeal.nD Cert.LbIdeal.τ).loc Cert.LbIdeal.main_arg2)
      ∧ m' ((c.tc : Thread Cert.LbRefIdeal.nD Cert.LbRefIdeal.τ).loc Cert.LbRefIdeal.main_arg3) = m ((c.tc : Thread Cert.LbIdeal.nD Cert.LbIdeal.τ).loc Cert.LbIdeal.main_arg3)
      ∧ m' ((c.tc : Thread Cert.LbRefIdeal.nD Cert.LbRefIdeal.τ).loc Cert.LbRefIdeal.main_arg4) = m ((c.tc : Thread Cert.LbIdeal.nD Cert.LbIdeal.τ).loc Cert.LbIdeal.main_arg4)) →
    ∃ (v0 : (c : Dev Cert.LbIdeal.nD) → Buf (Elt Ideal) ((c.tc : Thread Cert.LbIdeal.nD Cert.LbIdeal.τ).loc Cert.LbIdeal.main_v0_0)) (v1 : (c : Dev Cert.LbIdeal.nD) → Buf (Elt Ideal) ((c.tc : Thread Cert.LbIdeal.nD Cert.LbIdeal.τ).loc Cert.LbIdeal.main_v0_1)) (v2 : (c : Dev Cert.LbIdeal.nD) → Buf (Elt Ideal) ((c.tc : Thread Cert.LbIdeal.nD Cert.LbIdeal.τ).loc Cert.LbIdeal.main_v0_2)) (v3 : (c : Dev Cert.LbIdeal.nD) → Buf (Elt Ideal) ((c.tc : Thread Cert.LbIdeal.nD Cert.LbIdeal.τ).loc Cert.LbIdeal.main_v0_3)),
      θ_run (Cert.LbIdeal.defs (F := Ideal)) (onTc (τ := Cert.LbIdeal.τ) (Cert.LbIdeal.main (F := Ideal))) ⟨m, fun _ => 0, g⟩ (fun r => ∀ c : Dev Cert.LbIdeal.nD,
          r.2.mem ((c.tc : Thread Cert.LbIdeal.nD Cert.LbIdeal.τ).loc Cert.LbIdeal.main_v0_0) = v0 c
          ∧ r.2.mem ((c.tc : Thread Cert.LbIdeal.nD Cert.LbIdeal.τ).loc Cert.LbIdeal.main_v0_1) = v1 c
          ∧ r.2.mem ((c.tc : Thread Cert.LbIdeal.nD Cert.LbIdeal.τ).loc Cert.LbIdeal.main_v0_2) = v2 c
          ∧ r.2.mem ((c.tc : Thread Cert.LbIdeal.nD Cert.LbIdeal.τ).loc Cert.LbIdeal.main_v0_3) = v3 c
          ∧ r.2.mem ((c.tc : Thread Cert.LbIdeal.nD Cert.LbIdeal.τ).loc Cert.LbIdeal.main_arg0) = m ((c.tc : Thread Cert.LbIdeal.nD Cert.LbIdeal.τ).loc Cert.LbIdeal.main_arg0)
          ∧ r.2.mem ((c.tc : Thread Cert.LbIdeal.nD Cert.LbIdeal.τ).loc Cert.LbIdeal.main_arg1) = m ((c.tc : Thread Cert.LbIdeal.nD Cert.LbIdeal.τ).loc Cert.LbIdeal.main_arg1)
          ∧ r.2.mem ((c.tc : Thread Cert.LbIdeal.nD Cert.LbIdeal.τ).loc Cert.LbIdeal.main_arg2) = m ((c.tc : Thread Cert.LbIdeal.nD Cert.LbIdeal.τ).loc Cert.LbIdeal.main_arg2)
          ∧ r.2.mem ((c.tc : Thread Cert.LbIdeal.nD Cert.LbIdeal.τ).loc Cert.LbIdeal.main_arg3) = m ((c.tc : Thread Cert.LbIdeal.nD Cert.LbIdeal.τ).loc Cert.LbIdeal.main_arg3)
          ∧ r.2.mem ((c.tc : Thread Cert.LbIdeal.nD Cert.LbIdeal.τ).loc Cert.LbIdeal.main_arg4) = m ((c.tc : Thread Cert.LbIdeal.nD Cert.LbIdeal.τ).loc Cert.LbIdeal.main_arg4))
      ∧ θ_run (Cert.LbRefIdeal.defs (F := Ideal)) (onTc (τ := Cert.LbRefIdeal.τ) (Cert.LbRefIdeal.main (F := Ideal))) ⟨m', fun _ => 0, g'⟩ (fun r => ∀ c : Dev Cert.LbRefIdeal.nD,
          r.2.mem ((c.tc : Thread Cert.LbRefIdeal.nD Cert.LbRefIdeal.τ).loc Cert.LbRefIdeal.main_v64) = v0 c
          ∧ r.2.mem ((c.tc : Thread Cert.LbRefIdeal.nD Cert.LbRefIdeal.τ).loc Cert.LbRefIdeal.main_v38) = v1 c
          ∧ r.2.mem ((c.tc : Thread Cert.LbRefIdeal.nD Cert.LbRefIdeal.τ).loc Cert.LbRefIdeal.main_v35) = v2 c
          ∧ r.2.mem ((c.tc : Thread Cert.LbRefIdeal.nD Cert.LbRefIdeal.τ).loc Cert.LbRefIdeal.main_v32) = v3 c
          ∧ r.2.mem ((c.tc : Thread Cert.LbRefIdeal.nD Cert.LbRefIdeal.τ).loc Cert.LbRefIdeal.main_arg0) = m' ((c.tc : Thread Cert.LbRefIdeal.nD Cert.LbRefIdeal.τ).loc Cert.LbRefIdeal.main_arg0)
          ∧ r.2.mem ((c.tc : Thread Cert.LbRefIdeal.nD Cert.LbRefIdeal.τ).loc Cert.LbRefIdeal.main_arg1) = m' ((c.tc : Thread Cert.LbRefIdeal.nD Cert.LbRefIdeal.τ).loc Cert.LbRefIdeal.main_arg1)
          ∧ r.2.mem ((c.tc : Thread Cert.LbRefIdeal.nD Cert.LbRefIdeal.τ).loc Cert.LbRefIdeal.main_arg2) = m' ((c.tc : Thread Cert.LbRefIdeal.nD Cert.LbRefIdeal.τ).loc Cert.LbRefIdeal.main_arg2)
          ∧ r.2.mem ((c.tc : Thread Cert.LbRefIdeal.nD Cert.LbRefIdeal.τ).loc Cert.LbRefIdeal.main_arg3) = m' ((c.tc : Thread Cert.LbRefIdeal.nD Cert.LbRefIdeal.τ).loc Cert.LbRefIdeal.main_arg3)
          ∧ r.2.mem ((c.tc : Thread Cert.LbRefIdeal.nD Cert.LbRefIdeal.τ).loc Cert.LbRefIdeal.main_arg4) = m' ((c.tc : Thread Cert.LbRefIdeal.nD Cert.LbRefIdeal.τ).loc Cert.LbRefIdeal.main_arg4))

def Claim : Prop :=
  ∃ (hAttn : Cert.Attn.Facts) (hAttnIdeal : Cert.AttnIdeal.Facts) (hAttnRefIdeal : Cert.AttnRefIdeal.Facts) (hFdn : Cert.Fdn.Facts) (hFdnIdeal : Cert.FdnIdeal.Facts) (hFdnRefIdeal : Cert.FdnRefIdeal.Facts) (hFdwup : Cert.Fdwup.Facts) (hFdwupIdeal : Cert.FdwupIdeal.Facts) (hFdwupRefIdeal : Cert.FdwupRefIdeal.Facts) (hFdact : Cert.Fdact.Facts) (hFdactIdeal : Cert.FdactIdeal.Facts) (hFdactRefIdeal : Cert.FdactRefIdeal.Facts) (hFdwdown : Cert.Fdwdown.Facts) (hFdwdownIdeal : Cert.FdwdownIdeal.Facts) (hFdwdownRefIdeal : Cert.FdwdownRefIdeal.Facts) (hFup : Cert.Fup.Facts) (hFupIdeal : Cert.FupIdeal.Facts) (hFupRefIdeal : Cert.FupRefIdeal.Facts) (hFdown : Cert.Fdown.Facts) (hFdownIdeal : Cert.FdownIdeal.Facts) (hFdownRefIdeal : Cert.FdownRefIdeal.Facts) (hFlast : Cert.Flast.Facts) (hFlastIdeal : Cert.FlastIdeal.Facts) (hFlastRefIdeal : Cert.FlastRefIdeal.Facts) (hSdy : Cert.Sdy.Facts) (hSdyIdeal : Cert.SdyIdeal.Facts) (hSdyRefIdeal : Cert.SdyRefIdeal.Facts) (hSdw : Cert.Sdw.Facts) (hSdwIdeal : Cert.SdwIdeal.Facts) (hSdwRefIdeal : Cert.SdwRefIdeal.Facts) (hSq : Cert.Sq.Facts) (hSqIdeal : Cert.SqIdeal.Facts) (hSqRefIdeal : Cert.SqRefIdeal.Facts) (hSo : Cert.So.Facts) (hSoIdeal : Cert.SoIdeal.Facts) (hSoRefIdeal : Cert.SoRefIdeal.Facts) (hTdy : Cert.Tdy.Facts) (hTdyIdeal : Cert.TdyIdeal.Facts) (hTdyRefIdeal : Cert.TdyRefIdeal.Facts) (hTdw : Cert.Tdw.Facts) (hTdwIdeal : Cert.TdwIdeal.Facts) (hTdwRefIdeal : Cert.TdwRefIdeal.Facts) (hTo : Cert.To.Facts) (hToIdeal : Cert.ToIdeal.Facts) (hToRefIdeal : Cert.ToRefIdeal.Facts) (hTin : Cert.Tin.Facts) (hTinIdeal : Cert.TinIdeal.Facts) (hTinRefIdeal : Cert.TinRefIdeal.Facts) (hCup : Cert.Cup.Facts) (hCupIdeal : Cert.CupIdeal.Facts) (hCupRefIdeal : Cert.CupRefIdeal.Facts) (hCdw : Cert.Cdw.Facts) (hCdwIdeal : Cert.CdwIdeal.Facts) (hCdwRefIdeal : Cert.CdwRefIdeal.Facts) (hCout : Cert.Cout.Facts) (hCoutIdeal : Cert.CoutIdeal.Facts) (hCoutRefIdeal : Cert.CoutRefIdeal.Facts) (hSdn : Cert.Sdn.Facts) (hSdnIdeal : Cert.SdnIdeal.Facts) (hSdnRefIdeal : Cert.SdnRefIdeal.Facts) (hCdn : Cert.Cdn.Facts) (hCdnIdeal : Cert.CdnIdeal.Facts) (hCdnRefIdeal : Cert.CdnRefIdeal.Facts) (hTdn : Cert.Tdn.Facts) (hTdnIdeal : Cert.TdnIdeal.Facts) (hTdnRefIdeal : Cert.TdnRefIdeal.Facts) (hAfw : Cert.Afw.Facts) (hAfwIdeal : Cert.AfwIdeal.Facts) (hAfwRefIdeal : Cert.AfwRefIdeal.Facts) (hTdp : Cert.Tdp.Facts) (hTdpIdeal : Cert.TdpIdeal.Facts) (hTdpRefIdeal : Cert.TdpRefIdeal.Facts) (hMk : Cert.Mk.Facts) (hMkIdeal : Cert.MkIdeal.Facts) (hMkRefIdeal : Cert.MkRefIdeal.Facts) (hMdw : Cert.Mdw.Facts) (hMdwIdeal : Cert.MdwIdeal.Facts) (hMdwRefIdeal : Cert.MdwRefIdeal.Facts) (hMdk : Cert.Mdk.Facts) (hMdkIdeal : Cert.MdkIdeal.Facts) (hMdkRefIdeal : Cert.MdkRefIdeal.Facts) (hMdv : Cert.Mdv.Facts) (hMdvIdeal : Cert.MdvIdeal.Facts) (hMdvRefIdeal : Cert.MdvRefIdeal.Facts) (hNx : Cert.Nx.Facts) (hNxIdeal : Cert.NxIdeal.Facts) (hNxRefIdeal : Cert.NxRefIdeal.Facts) (hNm : Cert.Nm.Facts) (hNmIdeal : Cert.NmIdeal.Facts) (hNmRefIdeal : Cert.NmRefIdeal.Facts) (hNb : Cert.Nb.Facts) (hNbIdeal : Cert.NbIdeal.Facts) (hNbRefIdeal : Cert.NbRefIdeal.Facts) (hLs : Cert.Ls.Facts) (hLsIdeal : Cert.LsIdeal.Facts) (hLsRefIdeal : Cert.LsRefIdeal.Facts) (hLh : Cert.Lh.Facts) (hLhIdeal : Cert.LhIdeal.Facts) (hLhRefIdeal : Cert.LhRefIdeal.Facts) (hLb : Cert.Lb.Facts) (hLbIdeal : Cert.LbIdeal.Facts) (hLbRefIdeal : Cert.LbRefIdeal.Facts) (hPre_queries_and_keys_finite : Cert.Pre_queries_and_keys_finite.Facts) (hPre_gradient_and_gain_finite : Cert.Pre_gradient_and_gain_finite.Facts),
    quiescent_Attn (hAttn := hAttn)
    ∧ quiescent_AttnIdeal (hAttnIdeal := hAttnIdeal)
    ∧ quiescent_AttnIdeal_pre_queries_and_keys_finite (hAttnIdeal := hAttnIdeal) (hPre_queries_and_keys_finite := hPre_queries_and_keys_finite)
    ∧ quiescent_AttnRefIdeal (hAttnRefIdeal := hAttnRefIdeal)
    ∧ quiescent_AttnRefIdeal_pre_queries_and_keys_finite (hAttnRefIdeal := hAttnRefIdeal) (hPre_queries_and_keys_finite := hPre_queries_and_keys_finite)
    ∧ quiescent_Fdn (hFdn := hFdn)
    ∧ quiescent_FdnIdeal (hFdnIdeal := hFdnIdeal)
    ∧ quiescent_FdnRefIdeal (hFdnRefIdeal := hFdnRefIdeal)
    ∧ quiescent_Fdwup (hFdwup := hFdwup)
    ∧ quiescent_FdwupIdeal (hFdwupIdeal := hFdwupIdeal)
    ∧ quiescent_FdwupRefIdeal (hFdwupRefIdeal := hFdwupRefIdeal)
    ∧ quiescent_Fdact (hFdact := hFdact)
    ∧ quiescent_FdactIdeal (hFdactIdeal := hFdactIdeal)
    ∧ quiescent_FdactRefIdeal (hFdactRefIdeal := hFdactRefIdeal)
    ∧ quiescent_Fdwdown (hFdwdown := hFdwdown)
    ∧ quiescent_FdwdownIdeal (hFdwdownIdeal := hFdwdownIdeal)
    ∧ quiescent_FdwdownRefIdeal (hFdwdownRefIdeal := hFdwdownRefIdeal)
    ∧ quiescent_Fup (hFup := hFup)
    ∧ quiescent_FupIdeal (hFupIdeal := hFupIdeal)
    ∧ quiescent_FupRefIdeal (hFupRefIdeal := hFupRefIdeal)
    ∧ quiescent_Fdown (hFdown := hFdown)
    ∧ quiescent_FdownIdeal (hFdownIdeal := hFdownIdeal)
    ∧ quiescent_FdownRefIdeal (hFdownRefIdeal := hFdownRefIdeal)
    ∧ quiescent_Flast (hFlast := hFlast)
    ∧ quiescent_FlastIdeal (hFlastIdeal := hFlastIdeal)
    ∧ quiescent_FlastRefIdeal (hFlastRefIdeal := hFlastRefIdeal)
    ∧ quiescent_Sdy (hSdy := hSdy)
    ∧ quiescent_SdyIdeal (hSdyIdeal := hSdyIdeal)
    ∧ quiescent_SdyRefIdeal (hSdyRefIdeal := hSdyRefIdeal)
    ∧ quiescent_Sdw (hSdw := hSdw)
    ∧ quiescent_SdwIdeal (hSdwIdeal := hSdwIdeal)
    ∧ quiescent_SdwRefIdeal (hSdwRefIdeal := hSdwRefIdeal)
    ∧ quiescent_Sq (hSq := hSq)
    ∧ quiescent_SqIdeal (hSqIdeal := hSqIdeal)
    ∧ quiescent_SqRefIdeal (hSqRefIdeal := hSqRefIdeal)
    ∧ quiescent_So (hSo := hSo)
    ∧ quiescent_SoIdeal (hSoIdeal := hSoIdeal)
    ∧ quiescent_SoRefIdeal (hSoRefIdeal := hSoRefIdeal)
    ∧ quiescent_Tdy (hTdy := hTdy)
    ∧ quiescent_TdyIdeal (hTdyIdeal := hTdyIdeal)
    ∧ quiescent_TdyRefIdeal (hTdyRefIdeal := hTdyRefIdeal)
    ∧ quiescent_Tdw (hTdw := hTdw)
    ∧ quiescent_TdwIdeal (hTdwIdeal := hTdwIdeal)
    ∧ quiescent_TdwRefIdeal (hTdwRefIdeal := hTdwRefIdeal)
    ∧ quiescent_To (hTo := hTo)
    ∧ quiescent_ToIdeal (hToIdeal := hToIdeal)
    ∧ quiescent_ToRefIdeal (hToRefIdeal := hToRefIdeal)
    ∧ quiescent_Tin (hTin := hTin)
    ∧ quiescent_TinIdeal (hTinIdeal := hTinIdeal)
    ∧ quiescent_TinRefIdeal (hTinRefIdeal := hTinRefIdeal)
    ∧ quiescent_Cup (hCup := hCup)
    ∧ quiescent_CupIdeal (hCupIdeal := hCupIdeal)
    ∧ quiescent_CupRefIdeal (hCupRefIdeal := hCupRefIdeal)
    ∧ quiescent_Cdw (hCdw := hCdw)
    ∧ quiescent_CdwIdeal (hCdwIdeal := hCdwIdeal)
    ∧ quiescent_CdwRefIdeal (hCdwRefIdeal := hCdwRefIdeal)
    ∧ quiescent_Cout (hCout := hCout)
    ∧ quiescent_CoutIdeal (hCoutIdeal := hCoutIdeal)
    ∧ quiescent_CoutRefIdeal (hCoutRefIdeal := hCoutRefIdeal)
    ∧ quiescent_Sdn (hSdn := hSdn)
    ∧ quiescent_SdnIdeal (hSdnIdeal := hSdnIdeal)
    ∧ quiescent_SdnRefIdeal (hSdnRefIdeal := hSdnRefIdeal)
    ∧ quiescent_Cdn (hCdn := hCdn)
    ∧ quiescent_CdnIdeal (hCdnIdeal := hCdnIdeal)
    ∧ quiescent_CdnRefIdeal (hCdnRefIdeal := hCdnRefIdeal)
    ∧ quiescent_Tdn (hTdn := hTdn)
    ∧ quiescent_TdnIdeal (hTdnIdeal := hTdnIdeal)
    ∧ quiescent_TdnRefIdeal (hTdnRefIdeal := hTdnRefIdeal)
    ∧ quiescent_Afw (hAfw := hAfw)
    ∧ quiescent_AfwIdeal (hAfwIdeal := hAfwIdeal)
    ∧ quiescent_AfwRefIdeal (hAfwRefIdeal := hAfwRefIdeal)
    ∧ quiescent_Tdp (hTdp := hTdp)
    ∧ quiescent_TdpIdeal (hTdpIdeal := hTdpIdeal)
    ∧ quiescent_TdpRefIdeal (hTdpRefIdeal := hTdpRefIdeal)
    ∧ quiescent_Mk (hMk := hMk)
    ∧ quiescent_MkIdeal (hMkIdeal := hMkIdeal)
    ∧ quiescent_MkRefIdeal (hMkRefIdeal := hMkRefIdeal)
    ∧ quiescent_Mdw (hMdw := hMdw)
    ∧ quiescent_MdwIdeal (hMdwIdeal := hMdwIdeal)
    ∧ quiescent_MdwRefIdeal (hMdwRefIdeal := hMdwRefIdeal)
    ∧ quiescent_Mdk (hMdk := hMdk)
    ∧ quiescent_MdkIdeal (hMdkIdeal := hMdkIdeal)
    ∧ quiescent_MdkRefIdeal (hMdkRefIdeal := hMdkRefIdeal)
    ∧ quiescent_Mdv (hMdv := hMdv)
    ∧ quiescent_MdvIdeal (hMdvIdeal := hMdvIdeal)
    ∧ quiescent_MdvRefIdeal (hMdvRefIdeal := hMdvRefIdeal)
    ∧ quiescent_Nx (hNx := hNx)
    ∧ quiescent_NxIdeal (hNxIdeal := hNxIdeal)
    ∧ quiescent_NxRefIdeal (hNxRefIdeal := hNxRefIdeal)
    ∧ quiescent_Nm (hNm := hNm)
    ∧ quiescent_NmIdeal (hNmIdeal := hNmIdeal)
    ∧ quiescent_NmRefIdeal (hNmRefIdeal := hNmRefIdeal)
    ∧ quiescent_Nb (hNb := hNb)
    ∧ quiescent_NbIdeal (hNbIdeal := hNbIdeal)
    ∧ quiescent_NbRefIdeal (hNbRefIdeal := hNbRefIdeal)
    ∧ quiescent_Ls (hLs := hLs)
    ∧ quiescent_LsIdeal (hLsIdeal := hLsIdeal)
    ∧ quiescent_LsRefIdeal (hLsRefIdeal := hLsRefIdeal)
    ∧ quiescent_Lh (hLh := hLh)
    ∧ quiescent_LhIdeal (hLhIdeal := hLhIdeal)
    ∧ quiescent_LhRefIdeal (hLhRefIdeal := hLhRefIdeal)
    ∧ quiescent_Lb (hLb := hLb)
    ∧ quiescent_LbIdeal (hLbIdeal := hLbIdeal)
    ∧ quiescent_LbIdeal_pre_gradient_and_gain_finite (hLbIdeal := hLbIdeal) (hPre_gradient_and_gain_finite := hPre_gradient_and_gain_finite)
    ∧ quiescent_LbRefIdeal (hLbRefIdeal := hLbRefIdeal)
    ∧ quiescent_LbRefIdeal_pre_gradient_and_gain_finite (hLbRefIdeal := hLbRefIdeal) (hPre_gradient_and_gain_finite := hPre_gradient_and_gain_finite)
    ∧ preserves_Attn_AttnIdeal
    ∧ algebraic_AttnIdeal_AttnRefIdeal_pre_queries_and_keys_finite (hAttnIdeal := hAttnIdeal) (hAttnRefIdeal := hAttnRefIdeal) (hPre_queries_and_keys_finite := hPre_queries_and_keys_finite)
    ∧ preserves_Fdn_FdnIdeal
    ∧ algebraic_FdnIdeal_FdnRefIdeal (hFdnIdeal := hFdnIdeal) (hFdnRefIdeal := hFdnRefIdeal)
    ∧ preserves_Fdwup_FdwupIdeal
    ∧ algebraic_FdwupIdeal_FdwupRefIdeal (hFdwupIdeal := hFdwupIdeal) (hFdwupRefIdeal := hFdwupRefIdeal)
    ∧ preserves_Fdact_FdactIdeal
    ∧ algebraic_FdactIdeal_FdactRefIdeal (hFdactIdeal := hFdactIdeal) (hFdactRefIdeal := hFdactRefIdeal)
    ∧ preserves_Fdwdown_FdwdownIdeal
    ∧ algebraic_FdwdownIdeal_FdwdownRefIdeal (hFdwdownIdeal := hFdwdownIdeal) (hFdwdownRefIdeal := hFdwdownRefIdeal)
    ∧ preserves_Fup_FupIdeal
    ∧ algebraic_FupIdeal_FupRefIdeal (hFupIdeal := hFupIdeal) (hFupRefIdeal := hFupRefIdeal)
    ∧ preserves_Fdown_FdownIdeal
    ∧ algebraic_FdownIdeal_FdownRefIdeal (hFdownIdeal := hFdownIdeal) (hFdownRefIdeal := hFdownRefIdeal)
    ∧ preserves_Flast_FlastIdeal
    ∧ algebraic_FlastIdeal_FlastRefIdeal (hFlastIdeal := hFlastIdeal) (hFlastRefIdeal := hFlastRefIdeal)
    ∧ preserves_Sdy_SdyIdeal
    ∧ algebraic_SdyIdeal_SdyRefIdeal (hSdyIdeal := hSdyIdeal) (hSdyRefIdeal := hSdyRefIdeal)
    ∧ preserves_Sdw_SdwIdeal
    ∧ algebraic_SdwIdeal_SdwRefIdeal (hSdwIdeal := hSdwIdeal) (hSdwRefIdeal := hSdwRefIdeal)
    ∧ preserves_Sq_SqIdeal
    ∧ algebraic_SqIdeal_SqRefIdeal (hSqIdeal := hSqIdeal) (hSqRefIdeal := hSqRefIdeal)
    ∧ preserves_So_SoIdeal
    ∧ algebraic_SoIdeal_SoRefIdeal (hSoIdeal := hSoIdeal) (hSoRefIdeal := hSoRefIdeal)
    ∧ preserves_Tdy_TdyIdeal
    ∧ algebraic_TdyIdeal_TdyRefIdeal (hTdyIdeal := hTdyIdeal) (hTdyRefIdeal := hTdyRefIdeal)
    ∧ preserves_Tdw_TdwIdeal
    ∧ algebraic_TdwIdeal_TdwRefIdeal (hTdwIdeal := hTdwIdeal) (hTdwRefIdeal := hTdwRefIdeal)
    ∧ preserves_To_ToIdeal
    ∧ algebraic_ToIdeal_ToRefIdeal (hToIdeal := hToIdeal) (hToRefIdeal := hToRefIdeal)
    ∧ preserves_Tin_TinIdeal
    ∧ algebraic_TinIdeal_TinRefIdeal (hTinIdeal := hTinIdeal) (hTinRefIdeal := hTinRefIdeal)
    ∧ preserves_Cup_CupIdeal
    ∧ algebraic_CupIdeal_CupRefIdeal (hCupIdeal := hCupIdeal) (hCupRefIdeal := hCupRefIdeal)
    ∧ preserves_Cdw_CdwIdeal
    ∧ algebraic_CdwIdeal_CdwRefIdeal (hCdwIdeal := hCdwIdeal) (hCdwRefIdeal := hCdwRefIdeal)
    ∧ preserves_Cout_CoutIdeal
    ∧ algebraic_CoutIdeal_CoutRefIdeal (hCoutIdeal := hCoutIdeal) (hCoutRefIdeal := hCoutRefIdeal)
    ∧ preserves_Sdn_SdnIdeal
    ∧ algebraic_SdnIdeal_SdnRefIdeal (hSdnIdeal := hSdnIdeal) (hSdnRefIdeal := hSdnRefIdeal)
    ∧ preserves_Cdn_CdnIdeal
    ∧ algebraic_CdnIdeal_CdnRefIdeal (hCdnIdeal := hCdnIdeal) (hCdnRefIdeal := hCdnRefIdeal)
    ∧ preserves_Tdn_TdnIdeal
    ∧ algebraic_TdnIdeal_TdnRefIdeal (hTdnIdeal := hTdnIdeal) (hTdnRefIdeal := hTdnRefIdeal)
    ∧ preserves_Afw_AfwIdeal
    ∧ algebraic_AfwIdeal_AfwRefIdeal (hAfwIdeal := hAfwIdeal) (hAfwRefIdeal := hAfwRefIdeal)
    ∧ preserves_Tdp_TdpIdeal
    ∧ algebraic_TdpIdeal_TdpRefIdeal (hTdpIdeal := hTdpIdeal) (hTdpRefIdeal := hTdpRefIdeal)
    ∧ preserves_Mk_MkIdeal
    ∧ algebraic_MkIdeal_MkRefIdeal (hMkIdeal := hMkIdeal) (hMkRefIdeal := hMkRefIdeal)
    ∧ preserves_Mdw_MdwIdeal
    ∧ algebraic_MdwIdeal_MdwRefIdeal (hMdwIdeal := hMdwIdeal) (hMdwRefIdeal := hMdwRefIdeal)
    ∧ preserves_Mdk_MdkIdeal
    ∧ algebraic_MdkIdeal_MdkRefIdeal (hMdkIdeal := hMdkIdeal) (hMdkRefIdeal := hMdkRefIdeal)
    ∧ preserves_Mdv_MdvIdeal
    ∧ algebraic_MdvIdeal_MdvRefIdeal (hMdvIdeal := hMdvIdeal) (hMdvRefIdeal := hMdvRefIdeal)
    ∧ preserves_Nx_NxIdeal
    ∧ algebraic_NxIdeal_NxRefIdeal (hNxIdeal := hNxIdeal) (hNxRefIdeal := hNxRefIdeal)
    ∧ preserves_Nm_NmIdeal
    ∧ algebraic_NmIdeal_NmRefIdeal (hNmIdeal := hNmIdeal) (hNmRefIdeal := hNmRefIdeal)
    ∧ preserves_Nb_NbIdeal
    ∧ algebraic_NbIdeal_NbRefIdeal (hNbIdeal := hNbIdeal) (hNbRefIdeal := hNbRefIdeal)
    ∧ preserves_Ls_LsIdeal
    ∧ algebraic_LsIdeal_LsRefIdeal (hLsIdeal := hLsIdeal) (hLsRefIdeal := hLsRefIdeal)
    ∧ preserves_Lh_LhIdeal
    ∧ algebraic_LhIdeal_LhRefIdeal (hLhIdeal := hLhIdeal) (hLhRefIdeal := hLhRefIdeal)
    ∧ preserves_Lb_LbIdeal
    ∧ algebraic_LbIdeal_LbRefIdeal_pre_gradient_and_gain_finite (hLbIdeal := hLbIdeal) (hLbRefIdeal := hLbRefIdeal) (hPre_gradient_and_gain_finite := hPre_gradient_and_gain_finite)
-- ==== Pre_gradient_and_gain_finite.lean ====
abbrev S4096x1024 : Shape := ⟨2, ![4096, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x1024 .bf16) (main_arg1 : FVec F S4096x1024 .f32) (main_arg2 : FVec F S1x1024 .f32) (main_arg3 : FVec F S1x1024 .f32) (main_arg4 : FVec F S4096x1024 .f32) : IVec S4096x1024 1 × IVec S1x1024 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S1x1024 .f32 := Host.absf main_arg2
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  (main_v3, main_v6)
-- ==== Pre_queries_and_keys_finite.lean ====
abbrev S4096x1024 : Shape := ⟨2, ![4096, 1024]⟩
abbrev S256x1024 : Shape := ⟨2, ![256, 1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S256x1024 : S_.BroadcastsInDim S256x1024 (![] : Fin 0 → Fin S256x1024.rank)

variable [Facts]

def fn {F : FTy → Type} [FloatOps F] (main_arg0 : FVec F S4096x1024 .bf16) (main_arg1 : FVec F S256x1024 .bf16) (main_arg2 : FVec F S256x1024 .bf16) (main_arg3 : FVec F S4096x1024 .bf16) : IVec S4096x1024 1 × IVec S256x1024 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S256x1024 .f32 := (extf .f32 · bitsLt_bf16_f32) main_arg1
  let main_v5 : FVec F S256x1024 .f32 := Host.absf main_v4
  let main_cst_0 : FVec F S_ .f32 := constant S_ .f32 0x7F800000#32
  let main_v6 : FVec F S256x1024 .f32 := broadcastInDim S256x1024 ![] bcast_S_S256x1024 main_cst_0
  let main_v7 : IVec S256x1024 1 := cmpf .olt main_v5 main_v6
  (main_v3, main_v7)
-- ==== Attn.lean ====
abbrev S4096x1024 : Shape := ⟨2, ![4096, 1024]⟩
abbrev S256x1024 : Shape := ⟨2, ![256, 1024]⟩
abbrev S1024x1024 : Shape := ⟨2, ![1024, 1024]⟩
abbrev S1024x256 : Shape := ⟨2, ![1024, 256]⟩
abbrev S256x256 : Shape := ⟨2, ![256, 256]⟩
abbrev S1024 : Shape := ⟨1, ![1024]⟩
abbrev S1024x1 : Shape := ⟨2, ![1024, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S256x1024, .bf16⟩
  | .hbm, ⟨2, _⟩ => ⟨S256x1024, .bf16⟩
  | .hbm, ⟨3, _⟩ => ⟨S4096x1024, .bf16⟩
  | .hbm, ⟨4, _⟩ => ⟨S4096x1024, .bf16⟩
  | .hbm, ⟨5, _⟩ => ⟨S256x1024, .f32⟩
  | .hbm, ⟨6, _⟩ => ⟨S256x1024, .f32⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S256x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S256x1024, .f32⟩
  | .local _ .vmem, ⟨9, _⟩ => ⟨S256x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== AttnRefIdeal.lean ====
abbrev S4096x1024 : Shape := ⟨2, ![4096, 1024]⟩
abbrev S256x1024 : Shape := ⟨2, ![256, 1024]⟩
abbrev S1x4096x4x256 : Shape := ⟨4, ![1, 4096, 4, 256]⟩
abbrev S1x256x4x256 : Shape := ⟨4, ![1, 256, 4, 256]⟩
abbrev S1x4x4096x256 : Shape := ⟨4, ![1, 4, 4096, 256]⟩
abbrev S_ : Shape := ⟨0, ![]⟩
abbrev S1x4x4096 : Shape := ⟨3, ![1, 4, 4096]⟩
abbrev S1x4x4096x1 : Shape := ⟨4, ![1, 4, 4096, 1]⟩
abbrev S1x4x256x4096 : Shape := ⟨4, ![1, 4, 256, 4096]⟩
abbrev S1x4x256x256 : Shape := ⟨4, ![1, 4, 256, 256]⟩
abbrev S4x4096 : Shape := ⟨2, ![4, 4096]⟩

abbrev nBuf : Space → Nat
  | .hbm => 87
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S256x1024, .bf16⟩
  | .hbm, ⟨2, _⟩ => ⟨S256x1024, .bf16⟩
  | .hbm, ⟨3, _⟩ => ⟨S4096x1024, .bf16⟩
  | .hbm, ⟨4, _⟩ => ⟨S4096x1024, .f32⟩
  | .hbm, ⟨5, _⟩ => ⟨S256x1024, .f32⟩
  | .hbm, ⟨6, _⟩ => ⟨S256x1024, .f32⟩
  | .hbm, ⟨7, _⟩ => ⟨S4096x1024, .f32⟩
  | .hbm, ⟨8, _⟩ => ⟨S1x4096x4x256, .f32⟩
  | .hbm, ⟨9, _⟩ => ⟨S1x256x4x256, .f32⟩
  | .hbm, ⟨10, _⟩ => ⟨S1x256x4x256, .f32⟩
  | .hbm, ⟨11, _⟩ => ⟨S1x4x4096x256, .f32⟩
  | .hbm, ⟨12, _⟩ => ⟨S_, .f32⟩
  | .hbm, ⟨13, _⟩ => ⟨S1x4x4096x256, .f32⟩
  | .hbm, ⟨14, _⟩ => ⟨S1x4x4096x256, .f32⟩
  | .hbm, ⟨15, _⟩ => ⟨S_, .f32⟩
  | .hbm, ⟨16, _⟩ => ⟨S1x4x4096, .f32⟩
  | .hbm, ⟨17, _⟩ => ⟨S1x4x4096x1, .f32⟩
  | .hbm, ⟨18, _⟩ => ⟨S1x4x4096x256, .f32⟩
  | .hbm, ⟨19, _⟩ => ⟨S1x4x4096x256, .i1⟩
  | .hbm, ⟨20, _⟩ => ⟨S1x4x4096x256, .f32⟩
  | .hbm, ⟨21, _⟩ => ⟨S_, .f32⟩
  | .hbm, ⟨22, _⟩ => ⟨S1x4x4096, .f32⟩
  | .hbm, ⟨23, _⟩ => ⟨S_, .f32⟩
  | .hbm, ⟨24, _⟩ => ⟨S1x4x4096, .f32⟩
  | .hbm, ⟨25, _⟩ => ⟨S1x4x4096, .f32⟩
  | .hbm, ⟨26, _⟩ => ⟨S_, .f32⟩
  | .hbm, ⟨27, _⟩ => ⟨S1x4x4096, .f32⟩
  | .hbm, ⟨28, _⟩ => ⟨S1x4x4096, .i1⟩
  | .hbm, ⟨29, _⟩ => ⟨S_, .f32⟩
  | .hbm, ⟨30, _⟩ => ⟨S1x4x4096, .f32⟩
  | .hbm, ⟨31, _⟩ => ⟨S1x4x4096, .i1⟩
  | .hbm, ⟨32, _⟩ => ⟨S_, .f32⟩
  | .hbm, ⟨33, _⟩ => ⟨S1x4x4096, .f32⟩
  | .hbm, ⟨34, _⟩ => ⟨S_, .f32⟩
  | .hbm, ⟨35, _⟩ => ⟨S1x4x4096, .f32⟩
  | .hbm, ⟨36, _⟩ => ⟨S_, .f32⟩
  | .hbm, ⟨37, _⟩ => ⟨S1x4x4096, .f32⟩
  | .hbm, ⟨38, _⟩ => ⟨S1x4x4096, .f32⟩
  | .hbm, ⟨39, _⟩ => ⟨S1x4x4096, .f32⟩
  | .hbm, ⟨40, _⟩ => ⟨S1x4x4096x1, .f32⟩
  | .hbm, ⟨41, _⟩ => ⟨S1x4x4096x256, .f32⟩
  | .hbm, ⟨42, _⟩ => ⟨S1x4x4096x256, .f32⟩
  | .hbm, ⟨43, _⟩ => ⟨S1x4x4096x256, .f32⟩
  | .hbm, ⟨44, _⟩ => ⟨S_, .f32⟩
  | .hbm, ⟨45, _⟩ => ⟨S1x4x4096, .f32⟩
  | .hbm, ⟨46, _⟩ => ⟨S1x4x4096x1, .f32⟩
  | .hbm, ⟨47, _⟩ => ⟨S1x4x4096x256, .f32⟩
  | .hbm, ⟨48, _⟩ => ⟨S1x4x4096x256, .f32⟩
  | .hbm, ⟨49, _⟩ => ⟨S1x4x4096x1, .f32⟩
  | .hbm, ⟨50, _⟩ => ⟨S_, .f32⟩
  | .hbm, ⟨51, _⟩ => ⟨S1x4x4096x1, .f32⟩
  | .hbm, ⟨52, _⟩ => ⟨S1x4x4096x1, .f32⟩
  | .hbm, ⟨53, _⟩ => ⟨S1x4x256x4096, .f32⟩
  | .hbm, ⟨54, _⟩ => ⟨S1x4096x4x256, .f32⟩
  | .hbm, ⟨55, _⟩ => ⟨S4096x1024, .f32⟩
  | .hbm, ⟨56, _⟩ => ⟨S1x4096x4x256, .f32⟩
  | .hbm, ⟨57, _⟩ => ⟨S1x4x256x4096, .f32⟩
  | .hbm, ⟨58, _⟩ => ⟨S1x4x4096x256, .f32⟩
  | .hbm, ⟨59, _⟩ => ⟨S1x4x256x256, .f32⟩
  | .hbm, ⟨60, _⟩ => ⟨S1x256x4x256, .f32⟩
  | .hbm, ⟨61, _⟩ => ⟨S1x4x4096x256, .f32⟩
  | .hbm, ⟨62, _⟩ => ⟨S1x4x4096x256, .f32⟩
  | .hbm, ⟨63, _⟩ => ⟨S1x4x4096x256, .f32⟩
  | .hbm, ⟨64, _⟩ => ⟨S_, .f32⟩
  | .hbm, ⟨65, _⟩ => ⟨S1x4x4096, .f32⟩
  | .hbm, ⟨66, _⟩ => ⟨S1x4x4096x1, .f32⟩
  | .hbm, ⟨67, _⟩ => ⟨S1x4x4096x1, .f32⟩
  | .hbm, ⟨68, _⟩ => ⟨S1x4x4096x256, .f32⟩
  | .hbm, ⟨69, _⟩ => ⟨S1x4x4096x256, .f32⟩
  | .hbm, ⟨70, _⟩ => ⟨S_, .f32⟩
  | .hbm, ⟨71, _⟩ => ⟨S4x4096, .f32⟩
  | .hbm, ⟨72, _⟩ => ⟨S1x4x4096, .f32⟩
  | .hbm, ⟨73, _⟩ => ⟨S1x4x4096x256, .f32⟩
  | .hbm, ⟨74, _⟩ => ⟨S1x4x4096x256, .f32⟩
  | .hbm, ⟨75, _⟩ => ⟨S1x4x4096x256, .f32⟩
  | .hbm, ⟨76, _⟩ => ⟨S_, .f32⟩
  | .hbm, ⟨77, _⟩ => ⟨S1x4x4096x256, .f32⟩
  | .hbm, ⟨78, _⟩ => ⟨S1x4x4096x256, .f32⟩
  | .hbm, ⟨79, _⟩ => ⟨S1x4x256x256, .f32⟩
  | .hbm, ⟨80, _⟩ => ⟨S1x256x4x256, .f32⟩
  | .hbm, ⟨81, _⟩ => ⟨S1x4x4096x256, .f32⟩
  | .hbm, ⟨82, _⟩ => ⟨S1x4096x4x256, .f32⟩
  | .hbm, ⟨83, _⟩ => ⟨S256x1024, .f32⟩
  | .hbm, ⟨84, _⟩ => ⟨S256x1024, .f32⟩
  | .hbm, ⟨85, _⟩ => ⟨S4096x1024, .f32⟩
  | .hbm, ⟨86, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_11 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_12 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== Fdn.lean ====
abbrev S4096x6144 : Shape := ⟨2, ![4096, 6144]⟩
abbrev S8x1024x768 : Shape := ⟨3, ![8, 1024, 768]⟩
abbrev S4096x1024 : Shape := ⟨2, ![4096, 1024]⟩
abbrev S1x1024 : Shape := ⟨2, ![1, 1024]⟩
abbrev S1024x768 : Shape := ⟨2, ![1024, 768]⟩
abbrev S1x1024x768 : Shape := ⟨3, ![1, 1024, 768]⟩
abbrev S1024x1024 : Shape := ⟨2, ![1024, 1024]⟩
abbrev S8x1024 : Shape := ⟨2, ![8, 1024]⟩
abbrev S16x1024 : Shape := ⟨2, ![16, 1024]⟩
abbrev S16 : Shape := ⟨1, ![16]⟩
abbrev S16x1 : Shape := ⟨2, ![16, 1]⟩
abbrev S1024 : Shape := ⟨1, ![1024]⟩

abbrev nBuf : Space → Nat
  | .hbm => 8
  | .vmem => 15
  | .smem => 0
  | _ => 0

abbrev bufTy : (tb : Table) → Fin (tcTables nBuf tb) → BufTy
  | .hbm, ⟨0, _⟩ => ⟨S4096x6144, .bf16⟩
  | .hbm, ⟨1, _⟩ => ⟨S8x1024x768, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S1024x768, .bf16⟩
  | .local _ .vmem, ⟨1, _⟩ => ⟨S1024x768, .bf16⟩
  | .local _ .vmem, ⟨2, _⟩ => ⟨S1x1024x768, .bf16⟩
  | .local _ .vmem, ⟨3, _⟩ => ⟨S1x1024x768, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x1024, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨3, ![4, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_10 : BitVec 32 := 0#32
  let v15 : BitVec 1 := Scalar.cmpi .ne v14 c0_i32_10
  v15

@[reducible] def k0_t1_loop : Scf.Loop 32 :=
  let c0_i32_15 : BitVec 32 := 0#32
  let c32_i32 : BitVec 32 := 32#32
  let v20 : BitVec 32 := Scalar.addi c0_i32_15 c32_i32
  let c1_i32 : BitVec 32 := 1#32
  ⟨c0_i32_15, v20, c1_i32⟩
def k0_mult1 (k0_t1 : Fin k0_t1_loop.trips) : BitVec 32 :=
  let c0_i32_15 : BitVec 32 := 0#32
  let c1_i32 : BitVec 32 := 1#32
  let arg12 : BitVec 32 := Scf.iv c0_i32_15 c1_i32 k0_t1
  let c32_i32_22 : BitVec 32 := 32#32
  let v28 : BitVec 32 := Scalar.muli arg12 c32_i32_22
  let c0_i32_23 : BitVec 32 := 0#32
  let v29 : BitVec 32 := Scalar.addi v28 c0_i32_23
  v29
def k0_mult2 (k0_t1 : Fin k0_t1_loop.trips) : BitVec 32 :=
  let c0_i32_15 : BitVec 32 := 0#32
  let c1_i32 : BitVec 32 := 1#32
  let arg12 : BitVec 32 := Scf.iv c0_i32_15 c1_i32 k0_t1
  let c32_i32_24 : BitVec 32 := 32#32
  let v31 : BitVec 32 := Scalar.muli arg12 c32_i32_24
  let c16_i32 : BitVec 32 := 16#32
  let v32 : BitVec 32 := Scalar.addi v31 c16_i32
  v32
def k0_off1 (k0_t1 : Fin k0_t1_loop.trips) (c0_i32_23 : BitVec 32) : Fin 2 → Nat :=
  let c0_i32_15 : BitVec 32 := 0#32
  let c1_i32 : BitVec 32 := 1#32
  let arg12 : BitVec 32 := Scf.iv c0_i32_15 c1_i32 k0_t1
  let c32_i32_22 : BitVec 32 := 32#32
  let v28 : BitVec 32 := Scalar.muli arg12 c32_i32_22
  let v29 : BitVec 32 := Scalar.addi v28 c0_i32_23
  let v30 : BitVec 32 := v29
  let v34 : Index := Scalar.indexCast v30
  let c0_25 : Index := 0#32
  ![v34.toNat, 0]
def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v16 : BitVec 32 := Scalar.extui v0
  let c0_i32_11 : BitVec 32 := 0#32
  let v17 : BitVec 1 := Scalar.cmpi .ne v16 c0_i32_11
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg2 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli v9 c4_i32
  let c2_i32_3 : BitVec 32 := 2#32
  let v11 : BitVec 32 := Scalar.divsi arg2 c2_i32_3
  let c0_i32_4 : BitVec 32 := 0#32
  let v12 : BitVec 1 := Scalar.cmpi .sgt arg2 c0_i32_4
  let v13 : BitVec 32 := Scalar.extui v12
  let c0_i32_5 : BitVec 32 := 0#32
  let v14 : BitVec 1 := Scalar.cmpi .slt arg2 c0_i32_5
  let v15 : BitVec 32 := Scalar.extui v14
  let v16 : BitVec 32 := Scalar.subi v13 v15
  let c0_i32_6 : BitVec 32 := 0#32
  let v17 : BitVec 1 := Scalar.cmpi .sgt c2_i32_3 c0_i32_6
  let v18 : BitVec 32 := Scalar.extui v17
  let c0_i32_7 : BitVec 32 := 0#32
  let v19 : BitVec 1 := Scalar.cmpi .slt c2_i32_3 c0_i32_7
  let v20 : BitVec 32 := Scalar.extui v19
  let v21 : BitVec 32 := Scalar.subi v18 v20
  let v22 : BitVec 1 := Scalar.cmpi .ne v16 v21
  let v23 : BitVec 32 := Scalar.remsi arg2 c2_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let v28 : BitVec 32 := Scalar.addi v10 v27
  let c0_i32_10 : BitVec 32 := 0#32
  let c0_i32_11 : BitVec 32 := 0#32
  ![v28.toNat, arg1.toNat, c0_i32_10.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== FdnIdeal.lean ====
abbrev S4096x6144 : Shape := ⟨2, ![4096, 6144]⟩
abbrev S8x1024x768 : Shape := ⟨3, ![8, 1024, 768]⟩
abbrev S4096x1024 : Shape := ⟨2, ![4096, 1024]⟩
abbrev S1x1024 : Shape := ⟨2, ![1, 1024]⟩
abbrev S1024x768 : Shape := ⟨2, ![1024, 768]⟩
abbrev S1x1024x768 : Shape := ⟨3, ![1, 1024, 768]⟩
abbrev S1024x1024 : Shape := ⟨2, ![1024, 1024]⟩
abbrev S8x1024 : Shape := ⟨2, ![8, 1024]⟩
abbrev S16x1024 : Shape := ⟨2, ![16, 1024]⟩
abbrev S16 : Shape := ⟨1, ![16]⟩
abbrev S16x1 : Shape := ⟨2, ![16, 1]⟩
abbrev S1024 : Shape := ⟨1, ![1024]⟩

abbrev nBuf : Space → Nat
  | .hbm => 8
  | .vmem => 15
  | .smem => 0
  | _ => 0

abbrev bufTy : (tb : Table) → Fin (tcTables nBuf tb) → BufTy
  | .hbm, ⟨0, _⟩ => ⟨S4096x6144, .bf16⟩
  | .hbm, ⟨1, _⟩ => ⟨S8x1024x768, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S1024x768, .bf16⟩
  | .local _ .vmem, ⟨1, _⟩ => ⟨S1024x768, .bf16⟩
  | .local _ .vmem, ⟨2, _⟩ => ⟨S1x1024x768, .bf16⟩
  | .local _ .vmem, ⟨3, _⟩ => ⟨S1x1024x768, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x1024, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨3, ![4, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_10 : BitVec 32 := 0#32
  let v15 : BitVec 1 := Scalar.cmpi .ne v14 c0_i32_10
  v15

@[reducible] def k0_t1_loop : Scf.Loop 32 :=
  let c0_i32_15 : BitVec 32 := 0#32
  let c32_i32 : BitVec 32 := 32#32
  let v20 : BitVec 32 := Scalar.addi c0_i32_15 c32_i32
  let c1_i32 : BitVec 32 := 1#32
  ⟨c0_i32_15, v20, c1_i32⟩
def k0_mult1 (k0_t1 : Fin k0_t1_loop.trips) : BitVec 32 :=
  let c0_i32_15 : BitVec 32 := 0#32
  let c1_i32 : BitVec 32 := 1#32
  let arg12 : BitVec 32 := Scf.iv c0_i32_15 c1_i32 k0_t1
  let c32_i32_22 : BitVec 32 := 32#32
  let v28 : BitVec 32 := Scalar.muli arg12 c32_i32_22
  let c0_i32_23 : BitVec 32 := 0#32
  let v29 : BitVec 32 := Scalar.addi v28 c0_i32_23
  v29
def k0_mult2 (k0_t1 : Fin k0_t1_loop.trips) : BitVec 32 :=
  let c0_i32_15 : BitVec 32 := 0#32
  let c1_i32 : BitVec 32 := 1#32
  let arg12 : BitVec 32 := Scf.iv c0_i32_15 c1_i32 k0_t1
  let c32_i32_24 : BitVec 32 := 32#32
  let v31 : BitVec 32 := Scalar.muli arg12 c32_i32_24
  let c16_i32 : BitVec 32 := 16#32
  let v32 : BitVec 32 := Scalar.addi v31 c16_i32
  v32
def k0_off1 (k0_t1 : Fin k0_t1_loop.trips) (c0_i32_23 : BitVec 32) : Fin 2 → Nat :=
  let c0_i32_15 : BitVec 32 := 0#32
  let c1_i32 : BitVec 32 := 1#32
  let arg12 : BitVec 32 := Scf.iv c0_i32_15 c1_i32 k0_t1
  let c32_i32_22 : BitVec 32 := 32#32
  let v28 : BitVec 32 := Scalar.muli arg12 c32_i32_22
  let v29 : BitVec 32 := Scalar.addi v28 c0_i32_23
  let v30 : BitVec 32 := v29
  let v34 : Index := Scalar.indexCast v30
  let c0_25 : Index := 0#32
  ![v34.toNat, 0]
def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v16 : BitVec 32 := Scalar.extui v0
  let c0_i32_11 : BitVec 32 := 0#32
  let v17 : BitVec 1 := Scalar.cmpi .ne v16 c0_i32_11
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg2 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli v9 c4_i32
  let c2_i32_3 : BitVec 32 := 2#32
  let v11 : BitVec 32 := Scalar.divsi arg2 c2_i32_3
  let c0_i32_4 : BitVec 32 := 0#32
  let v12 : BitVec 1 := Scalar.cmpi .sgt arg2 c0_i32_4
  let v13 : BitVec 32 := Scalar.extui v12
  let c0_i32_5 : BitVec 32 := 0#32
  let v14 : BitVec 1 := Scalar.cmpi .slt arg2 c0_i32_5
  let v15 : BitVec 32 := Scalar.extui v14
  let v16 : BitVec 32 := Scalar.subi v13 v15
  let c0_i32_6 : BitVec 32 := 0#32
  let v17 : BitVec 1 := Scalar.cmpi .sgt c2_i32_3 c0_i32_6
  let v18 : BitVec 32 := Scalar.extui v17
  let c0_i32_7 : BitVec 32 := 0#32
  let v19 : BitVec 1 := Scalar.cmpi .slt c2_i32_3 c0_i32_7
  let v20 : BitVec 32 := Scalar.extui v19
  let v21 : BitVec 32 := Scalar.subi v18 v20
  let v22 : BitVec 1 := Scalar.cmpi .ne v16 v21
  let v23 : BitVec 32 := Scalar.remsi arg2 c2_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let v28 : BitVec 32 := Scalar.addi v10 v27
  let c0_i32_10 : BitVec 32 := 0#32
  let c0_i32_11 : BitVec 32 := 0#32
  ![v28.toNat, arg1.toNat, c0_i32_10.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== FdnRefIdeal.lean ====
abbrev S4096x6144 : Shape := ⟨2, ![4096, 6144]⟩
abbrev S8x1024x768 : Shape := ⟨3, ![8, 1024, 768]⟩
abbrev S4096x1024 : Shape := ⟨2, ![4096, 1024]⟩
abbrev S1x1024 : Shape := ⟨2, ![1, 1024]⟩
abbrev S2x4x1024x768 : Shape := ⟨4, ![2, 4, 1024, 768]⟩
abbrev S1024x4x2x768 : Shape := ⟨4, ![1024, 4, 2, 768]⟩
abbrev S1024x6144 : Shape := ⟨2, ![1024, 6144]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 56
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S8x1024x768, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S8x1024x768, .f32⟩
  | .hbm, ⟨6, _⟩ => ⟨S2x4x1024x768, .f32⟩
  | .hbm, ⟨7, _⟩ => ⟨S1024x4x2x768, .f32⟩
  | .hbm, ⟨8, _⟩ => ⟨S1024x6144, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x6144, .f32⟩
  | .hbm, ⟨29, _⟩ => ⟨S4096x6144, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .bf16⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== Fdwup.lean ====
abbrev S4096x1024 : Shape := ⟨2, ![4096, 1024]⟩
abbrev S4096x6144 : Shape := ⟨2, ![4096, 6144]⟩
abbrev S8x1024x768 : Shape := ⟨3, ![8, 1024, 768]⟩
abbrev S4096x768 : Shape := ⟨2, ![4096, 768]⟩
abbrev S1x1024x768 : Shape := ⟨3, ![1, 1024, 768]⟩
abbrev S1024x768 : Shape := ⟨2, ![1024, 768]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x6144, .bf16⟩
  | .hbm, ⟨2, _⟩ => ⟨S8x1024x768, .bf16⟩
  | .local _ .vmem, ⟨0, _⟩ => ⟨S4096x1024, .bf16⟩
  | .local _ .vmem, ⟨1, _⟩ => ⟨S4096x768, .bf16⟩
  | .local _ .vmem, ⟨2, _⟩ => ⟨S4096x768, .bf16⟩
  | .local _ .vmem, ⟨3, _⟩ => ⟨S1x1024x768, .bf16⟩
  | .local _ .vmem, ⟨4, _⟩ => ⟨S1x1024x768, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli v9 c4_i32
  let c2_i32_3 : BitVec 32 := 2#32
  let v11 : BitVec 32 := Scalar.divsi arg1 c2_i32_3
  let c0_i32_4 : BitVec 32 := 0#32
  let v12 : BitVec 1 := Scalar.cmpi .sgt arg1 c0_i32_4
  let v13 : BitVec 32 := Scalar.extui v12
  let c0_i32_5 : BitVec 32 := 0#32
  let v14 : BitVec 1 := Scalar.cmpi .slt arg1 c0_i32_5
  let v15 : BitVec 32 := Scalar.extui v14
  let v16 : BitVec 32 := Scalar.subi v13 v15
  let c0_i32_6 : BitVec 32 := 0#32
  let v17 : BitVec 1 := Scalar.cmpi .sgt c2_i32_3 c0_i32_6
  let v18 : BitVec 32 := Scalar.extui v17
  let c0_i32_7 : BitVec 32 := 0#32
  let v19 : BitVec 1 := Scalar.cmpi .slt c2_i32_3 c0_i32_7
  let v20 : BitVec 32 := Scalar.extui v19
  let v21 : BitVec 32 := Scalar.subi v18 v20
  let v22 : BitVec 1 := Scalar.cmpi .ne v16 v21
  let v23 : BitVec 32 := Scalar.remsi arg1 c2_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let v28 : BitVec 32 := Scalar.addi v10 v27
  let c0_i32_10 : BitVec 32 := 0#32
  let c0_i32_11 : BitVec 32 := 0#32
  ![v28.toNat, arg0.toNat, c0_i32_10.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FdwupRefIdeal.lean ====
abbrev S4096x1024 : Shape := ⟨2, ![4096, 1024]⟩
abbrev S4096x6144 : Shape := ⟨2, ![4096, 6144]⟩
abbrev S_ : Shape := ⟨0, ![]⟩
abbrev S1024x6144 : Shape := ⟨2, ![1024, 6144]⟩
abbrev S6144x1024 : Shape := ⟨2, ![6144, 1024]⟩
abbrev S1024x4x2x768 : Shape := ⟨4, ![1024, 4, 2, 768]⟩
abbrev S2x4x1024x768 : Shape := ⟨4, ![2, 4, 1024, 768]⟩
abbrev S8x1024x768 : Shape := ⟨3, ![8, 1024, 768]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x6144, .bf16⟩
  | .hbm, ⟨2, _⟩ => ⟨S4096x1024, .f32⟩
  | .hbm, ⟨3, _⟩ => ⟨S4096x6144, .f32⟩
  | .hbm, ⟨4, _⟩ => ⟨S_, .f32⟩
  | .hbm, ⟨5, _⟩ => ⟨S1024x6144, .f32⟩
  | .hbm, ⟨6, _⟩ => ⟨S4096x6144, .f32⟩
  | .hbm, ⟨7, _⟩ => ⟨S6144x1024, .f32⟩
  | .hbm, ⟨8, _⟩ => ⟨S1024x6144, .f32⟩
  | .hbm, ⟨9, _⟩ => ⟨S1024x4x2x768, .f32⟩
  | .hbm, ⟨10, _⟩ => ⟨S2x4x1024x768, .f32⟩
  | .hbm, ⟨11, _⟩ => ⟨S8x1024x768, .f32⟩
  | .hbm, ⟨12, _⟩ => ⟨S8x1024x768, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Fdact.lean ====
abbrev S4096x1024 : Shape := ⟨2, ![4096, 1024]⟩
abbrev S3072x1024 : Shape := ⟨2, ![3072, 1024]⟩
abbrev S4096x3072 : Shape := ⟨2, ![4096, 3072]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S3072x1024, .bf16⟩
  | .hbm, ⟨2, _⟩ => ⟨S4096x3072, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FdactRefIdeal.lean ====
abbrev S4096x1024 : Shape := ⟨2, ![4096, 1024]⟩
abbrev S3072x1024 : Shape := ⟨2, ![3072, 1024]⟩
abbrev S_ : Shape := ⟨0, ![]⟩
abbrev S4096x3072 : Shape := ⟨2, ![4096, 3072]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S3072x1024, .bf16⟩
  | .hbm, ⟨2, _⟩ => ⟨S4096x1024, .f32⟩
  | .hbm, ⟨3, _⟩ => ⟨S3072x1024, .f32⟩
  | .hbm, ⟨4, _⟩ => ⟨S_, .f32⟩
  | .hbm, ⟨5, _⟩ => ⟨S4096x3072, .f32⟩
  | .hbm, ⟨6, _⟩ => ⟨S4096x1024, .f32⟩
  | .hbm, ⟨7, _⟩ => ⟨S4096x3072, .f32⟩
  | .hbm, ⟨8, _⟩ => ⟨S4096x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Fdwdown.lean ====
abbrev S4096x3072 : Shape := ⟨2, ![4096, 3072]⟩
abbrev S4096x1024 : Shape := ⟨2, ![4096, 1024]⟩
abbrev S3072x1024 : Shape := ⟨2, ![3072, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S3072x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FdwdownRefIdeal.lean ====
abbrev S4096x3072 : Shape := ⟨2, ![4096, 3072]⟩
abbrev S4096x1024 : Shape := ⟨2, ![4096, 1024]⟩
abbrev S_ : Shape := ⟨0, ![]⟩
abbrev S3072x1024 : Shape := ⟨2, ![3072, 1024]⟩
abbrev S1024x3072 : Shape := ⟨2, ![1024, 3072]⟩

abbrev nBuf : Space → Nat
  | .hbm => 10
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S4096x3072, .f32⟩
  | .hbm, ⟨3, _⟩ => ⟨S4096x1024, .f32⟩
  | .hbm, ⟨4, _⟩ => ⟨S_, .f32⟩
  | .hbm, ⟨5, _⟩ => ⟨S3072x1024, .f32⟩
  | .hbm, ⟨6, _⟩ => ⟨S4096x1024, .f32⟩
  | .hbm, ⟨7, _⟩ => ⟨S1024x3072, .f32⟩
  | .hbm, ⟨8, _⟩ => ⟨S3072x1024, .f32⟩
  | .hbm, ⟨9, _⟩ => ⟨S3072x1024, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Fup.lean ====
abbrev S4096x1024 : Shape := ⟨2, ![4096, 1024]⟩
abbrev S8x1024x768 : Shape := ⟨3, ![8, 1024, 768]⟩
abbrev S4096x6144 : Shape := ⟨2, ![4096, 6144]⟩
abbrev S2048x1024 : Shape := ⟨2, ![2048, 1024]⟩
abbrev S1x1024x768 : Shape := ⟨3, ![1, 1024, 768]⟩
abbrev S2048x768 : Shape := ⟨2, ![2048, 768]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S8x1024x768, .bf16⟩
  | .hbm, ⟨2, _⟩ => ⟨S4096x6144, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x768, .bf16⟩
  | .local _ .vmem, ⟨3, _⟩ => ⟨S1x1024x768, .bf16⟩
  | .local _ .vmem, ⟨4, _⟩ => ⟨S2048x768, .bf16⟩
  | .local _ .vmem, ⟨5, _⟩ => ⟨S2048x768, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli v9 c4_i32
  let c2_i32_3 : BitVec 32 := 2#32
  let v11 : BitVec 32 := Scalar.divsi arg1 c2_i32_3
  let c0_i32_4 : BitVec 32 := 0#32
  let v12 : BitVec 1 := Scalar.cmpi .sgt arg1 c0_i32_4
  let v13 : BitVec 32 := Scalar.extui v12
  let c0_i32_5 : BitVec 32 := 0#32
  let v14 : BitVec 1 := Scalar.cmpi .slt arg1 c0_i32_5
  let v15 : BitVec 32 := Scalar.extui v14
  let v16 : BitVec 32 := Scalar.subi v13 v15
  let c0_i32_6 : BitVec 32 := 0#32
  let v17 : BitVec 1 := Scalar.cmpi .sgt c2_i32_3 c0_i32_6
  let v18 : BitVec 32 := Scalar.extui v17
  let c0_i32_7 : BitVec 32 := 0#32
  let v19 : BitVec 1 := Scalar.cmpi .slt c2_i32_3 c0_i32_7
  let v20 : BitVec 32 := Scalar.extui v19
  let v21 : BitVec 32 := Scalar.subi v18 v20
  let v22 : BitVec 1 := Scalar.cmpi .ne v16 v21
  let v23 : BitVec 32 := Scalar.remsi arg1 c2_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let v28 : BitVec 32 := Scalar.addi v10 v27
  let c0_i32_10 : BitVec 32 := 0#32
  let c0_i32_11 : BitVec 32 := 0#32
  ![v28.toNat, arg2.toNat, c0_i32_10.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FupRefIdeal.lean ====
abbrev S4096x1024 : Shape := ⟨2, ![4096, 1024]⟩
abbrev S8x1024x768 : Shape := ⟨3, ![8, 1024, 768]⟩
abbrev S2x4x1024x768 : Shape := ⟨4, ![2, 4, 1024, 768]⟩
abbrev S1024x4x2x768 : Shape := ⟨4, ![1024, 4, 2, 768]⟩
abbrev S1024x6144 : Shape := ⟨2, ![1024, 6144]⟩
abbrev S4096x6144 : Shape := ⟨2, ![4096, 6144]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x1024x768, .bf16⟩
  | .hbm, ⟨2, _⟩ => ⟨S4096x1024, .f32⟩
  | .hbm, ⟨3, _⟩ => ⟨S8x1024x768, .f32⟩
  | .hbm, ⟨4, _⟩ => ⟨S2x4x1024x768, .f32⟩
  | .hbm, ⟨5, _⟩ => ⟨S1024x4x2x768, .f32⟩
  | .hbm, ⟨6, _⟩ => ⟨S1024x6144, .f32⟩
  | .hbm, ⟨7, _⟩ => ⟨S4096x6144, .f32⟩
  | .hbm, ⟨8, _⟩ => ⟨S4096x6144, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Fdown.lean ====
abbrev S4096x3072 : Shape := ⟨2, ![4096, 3072]⟩
abbrev S3072x1024 : Shape := ⟨2, ![3072, 1024]⟩
abbrev S4096x1024 : Shape := ⟨2, ![4096, 1024]⟩
abbrev S1x1024 : Shape := ⟨2, ![1, 1024]⟩
abbrev S512x3072 : Shape := ⟨2, ![512, 3072]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x3072, .bf16⟩
  | .hbm, ⟨1, _⟩ => ⟨S3072x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S512x3072, .bf16⟩
  | .local _ .vmem, ⟨1, _⟩ => ⟨S512x3072, .bf16⟩
  | .local _ .vmem, ⟨2, _⟩ => ⟨S3072x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== FdownIdeal.lean ====
abbrev S4096x3072 : Shape := ⟨2, ![4096, 3072]⟩
abbrev S3072x1024 : Shape := ⟨2, ![3072, 1024]⟩
abbrev S4096x1024 : Shape := ⟨2, ![4096, 1024]⟩
abbrev S1x1024 : Shape := ⟨2, ![1, 1024]⟩
abbrev S512x3072 : Shape := ⟨2, ![512, 3072]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x3072, .bf16⟩
  | .hbm, ⟨1, _⟩ => ⟨S3072x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S512x3072, .bf16⟩
  | .local _ .vmem, ⟨1, _⟩ => ⟨S512x3072, .bf16⟩
  | .local _ .vmem, ⟨2, _⟩ => ⟨S3072x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== FdownRefIdeal.lean ====
abbrev S4096x3072 : Shape := ⟨2, ![4096, 3072]⟩
abbrev S3072x1024 : Shape := ⟨2, ![3072, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 24
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S3072x1024, .bf16⟩
  | .hbm, ⟨2, _⟩ => ⟨S4096x1024, .f32⟩
  | .hbm, ⟨3, _⟩ => ⟨S1x1024, .f32⟩
  | .hbm, ⟨4, _⟩ => ⟨S4096x3072, .f32⟩
  | .hbm, ⟨5, _⟩ => ⟨S3072x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Flast.lean ====
abbrev S4096x3072 : Shape := ⟨2, ![4096, 3072]⟩
abbrev S3072x1024 : Shape := ⟨2, ![3072, 1024]⟩
abbrev S4096x1024 : Shape := ⟨2, ![4096, 1024]⟩
abbrev S512x3072 : Shape := ⟨2, ![512, 3072]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x3072, .bf16⟩
  | .hbm, ⟨1, _⟩ => ⟨S3072x1024, .bf16⟩
  | .hbm, ⟨2, _⟩ => ⟨S4096x1024, .f32⟩
  | .hbm, ⟨3, _⟩ => ⟨S4096x1024, .f32⟩
  | .local _ .vmem, ⟨0, _⟩ => ⟨S512x3072, .bf16⟩
  | .local _ .vmem, ⟨1, _⟩ => ⟨S512x3072, .bf16⟩
  | .local _ .vmem, ⟨2, _⟩ => ⟨S3072x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FlastRefIdeal.lean ====
abbrev S4096x3072 : Shape := ⟨2, ![4096, 3072]⟩
abbrev S3072x1024 : Shape := ⟨2, ![3072, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S3072x1024, .bf16⟩
  | .hbm, ⟨2, _⟩ => ⟨S4096x1024, .f32⟩
  | .hbm, ⟨3, _⟩ => ⟨S4096x3072, .f32⟩
  | .hbm, ⟨4, _⟩ => ⟨S3072x1024, .f32⟩
  | .hbm, ⟨5, _⟩ => ⟨S4096x1024, .f32⟩
  | .hbm, ⟨6, _⟩ => ⟨S4096x1024, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Sdy.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SdyIdeal.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SdyRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Sdw.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== SdwIdeal.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== SdwRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S1024x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Sq.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SqIdeal.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SqRefIdeal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | .hbm, ⟨5, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== So.lean ====
abbrev S4096x1024 : Shape := ⟨2, ![4096, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== SoIdeal.lean ====
abbrev S4096x1024 : Shape := ⟨2, ![4096, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== SoRefIdeal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Tdy.lean ====
abbrev S4096x1024 : Shape := ⟨2, ![4096, 1024]⟩
abbrev S1536x1024 : Shape := ⟨2, ![1536, 1024]⟩
abbrev S4096x1536 : Shape := ⟨2, ![4096, 1536]⟩
abbrev S2048x1024 : Shape := ⟨2, ![2048, 1024]⟩
abbrev S768x1024 : Shape := ⟨2, ![768, 1024]⟩
abbrev S2048x768 : Shape := ⟨2, ![2048, 768]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1536x1024, .bf16⟩
  | .hbm, ⟨2, _⟩ => ⟨S4096x1536, .bf16⟩
  | .local _ .vmem, ⟨0, _⟩ => ⟨S2048x1024, .bf16⟩
  | .local _ .vmem, ⟨1, _⟩ => ⟨S2048x1024, .bf16⟩
  | .local _ .vmem, ⟨2, _⟩ => ⟨S768x1024, .bf16⟩
  | .local _ .vmem, ⟨3, _⟩ => ⟨S768x1024, .bf16⟩
  | .local _ .vmem, ⟨4, _⟩ => ⟨S2048x768, .bf16⟩
  | .local _ .vmem, ⟨5, _⟩ => ⟨S2048x768, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== TdyRefIdeal.lean ====
abbrev S4096x1024 : Shape := ⟨2, ![4096, 1024]⟩
abbrev S1536x1024 : Shape := ⟨2, ![1536, 1024]⟩
abbrev S_ : Shape := ⟨0, ![]⟩
abbrev S4096x1536 : Shape := ⟨2, ![4096, 1536]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1536x1024, .bf16⟩
  | .hbm, ⟨2, _⟩ => ⟨S4096x1024, .f32⟩
  | .hbm, ⟨3, _⟩ => ⟨S1536x1024, .f32⟩
  | .hbm, ⟨4, _⟩ => ⟨S_, .f32⟩
  | .hbm, ⟨5, _⟩ => ⟨S4096x1536, .f32⟩
  | .hbm, ⟨6, _⟩ => ⟨S4096x1024, .f32⟩
  | .hbm, ⟨7, _⟩ => ⟨S4096x1536, .f32⟩
  | .hbm, ⟨8, _⟩ => ⟨S4096x1536, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Tdw.lean ====
abbrev S4096x1536 : Shape := ⟨2, ![4096, 1536]⟩
abbrev S4096x1024 : Shape := ⟨2, ![4096, 1024]⟩
abbrev S1536x1024 : Shape := ⟨2, ![1536, 1024]⟩
abbrev S2048x768 : Shape := ⟨2, ![2048, 768]⟩
abbrev S2048x1024 : Shape := ⟨2, ![2048, 1024]⟩
abbrev S768x1024 : Shape := ⟨2, ![768, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1536, .bf16⟩
  | .hbm, ⟨1, _⟩ => ⟨S4096x1024, .bf16⟩
  | .hbm, ⟨2, _⟩ => ⟨S1536x1024, .bf16⟩
  | .local _ .vmem, ⟨0, _⟩ => ⟨S2048x768, .bf16⟩
  | .local _ .vmem, ⟨1, _⟩ => ⟨S2048x768, .bf16⟩
  | .local _ .vmem, ⟨2, _⟩ => ⟨S2048x1024, .bf16⟩
  | .local _ .vmem, ⟨3, _⟩ => ⟨S2048x1024, .bf16⟩
  | .local _ .vmem, ⟨4, _⟩ => ⟨S768x1024, .bf16⟩
  | .local _ .vmem, ⟨5, _⟩ => ⟨S768x1024, .bf16⟩
  | .local _ .vmem, ⟨6, _⟩ => ⟨S768x1024, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== TdwIdeal.lean ====
abbrev S4096x1536 : Shape := ⟨2, ![4096, 1536]⟩
abbrev S4096x1024 : Shape := ⟨2, ![4096, 1024]⟩
abbrev S1536x1024 : Shape := ⟨2, ![1536, 1024]⟩
abbrev S2048x768 : Shape := ⟨2, ![2048, 768]⟩
abbrev S2048x1024 : Shape := ⟨2, ![2048, 1024]⟩
abbrev S768x1024 : Shape := ⟨2, ![768, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1536, .bf16⟩
  | .hbm, ⟨1, _⟩ => ⟨S4096x1024, .bf16⟩
  | .hbm, ⟨2, _⟩ => ⟨S1536x1024, .bf16⟩
  | .local _ .vmem, ⟨0, _⟩ => ⟨S2048x768, .bf16⟩
  | .local _ .vmem, ⟨1, _⟩ => ⟨S2048x768, .bf16⟩
  | .local _ .vmem, ⟨2, _⟩ => ⟨S2048x1024, .bf16⟩
  | .local _ .vmem, ⟨3, _⟩ => ⟨S2048x1024, .bf16⟩
  | .local _ .vmem, ⟨4, _⟩ => ⟨S768x1024, .bf16⟩
  | .local _ .vmem, ⟨5, _⟩ => ⟨S768x1024, .bf16⟩
  | .local _ .vmem, ⟨6, _⟩ => ⟨S768x1024, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== TdwRefIdeal.lean ====
abbrev S4096x1536 : Shape := ⟨2, ![4096, 1536]⟩
abbrev S4096x1024 : Shape := ⟨2, ![4096, 1024]⟩
abbrev S_ : Shape := ⟨0, ![]⟩
abbrev S1536x1024 : Shape := ⟨2, ![1536, 1024]⟩
abbrev S1024x1536 : Shape := ⟨2, ![1024, 1536]⟩

abbrev nBuf : Space → Nat
  | .hbm => 10
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S4096x1024, .bf16⟩
  | .hbm, ⟨2, _⟩ => ⟨S4096x1536, .f32⟩
  | .hbm, ⟨3, _⟩ => ⟨S4096x1024, .f32⟩
  | .hbm, ⟨4, _⟩ => ⟨S_, .f32⟩
  | .hbm, ⟨5, _⟩ => ⟨S1536x1024, .f32⟩
  | .hbm, ⟨6, _⟩ => ⟨S4096x1024, .f32⟩
  | .hbm, ⟨7, _⟩ => ⟨S1024x1536, .f32⟩
  | .hbm, ⟨8, _⟩ => ⟨S1536x1024, .f32⟩
  | .hbm, ⟨9, _⟩ => ⟨S1536x1024, .bf16⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== To.lean ====
abbrev S4096x1536 : Shape := ⟨2, ![4096, 1536]⟩
abbrev S1536x1024 : Shape := ⟨2, ![1536, 1024]⟩
abbrev S4096x1024 : Shape := ⟨2, ![4096, 1024]⟩
abbrev S1x1024 : Shape := ⟨2, ![1, 1024]⟩
abbrev S512x1536 : Shape := ⟨2, ![512, 1536]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1536, .bf16⟩
  | .hbm, ⟨1, _⟩ => ⟨S1536x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S512x1536, .bf16⟩
  | .local _ .vmem, ⟨1, _⟩ => ⟨S512x1536, .bf16⟩
  | .local _ .vmem, ⟨2, _⟩ => ⟨S1536x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ToRefIdeal.lean ====
abbrev S4096x1536 : Shape := ⟨2, ![4096, 1536]⟩
abbrev S1536x1024 : Shape := ⟨2, ![1536, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 24
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S1536x1024, .bf16⟩
  | .hbm, ⟨2, _⟩ => ⟨S4096x1024, .f32⟩
  | .hbm, ⟨3, _⟩ => ⟨S1x1024, .f32⟩
  | .hbm, ⟨4, _⟩ => ⟨S4096x1536, .f32⟩
  | .hbm, ⟨5, _⟩ => ⟨S1536x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Tin.lean ====
abbrev S4096x1024 : Shape := ⟨2, ![4096, 1024]⟩
abbrev S1024x2560 : Shape := ⟨2, ![1024, 2560]⟩
abbrev S4096x2560 : Shape := ⟨2, ![4096, 2560]⟩
abbrev S2048x1024 : Shape := ⟨2, ![2048, 1024]⟩
abbrev S1024x640 : Shape := ⟨2, ![1024, 640]⟩
abbrev S2048x640 : Shape := ⟨2, ![2048, 640]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2560, .bf16⟩
  | .hbm, ⟨2, _⟩ => ⟨S4096x2560, .bf16⟩
  | .local _ .vmem, ⟨0, _⟩ => ⟨S2048x1024, .bf16⟩
  | .local _ .vmem, ⟨1, _⟩ => ⟨S2048x1024, .bf16⟩
  | .local _ .vmem, ⟨2, _⟩ => ⟨S1024x640, .bf16⟩
  | .local _ .vmem, ⟨3, _⟩ => ⟨S1024x640, .bf16⟩
  | .local _ .vmem, ⟨4, _⟩ => ⟨S2048x640, .bf16⟩
  | .local _ .vmem, ⟨5, _⟩ => ⟨S2048x640, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== TinIdeal.lean ====
abbrev S4096x1024 : Shape := ⟨2, ![4096, 1024]⟩
abbrev S1024x2560 : Shape := ⟨2, ![1024, 2560]⟩
abbrev S4096x2560 : Shape := ⟨2, ![4096, 2560]⟩
abbrev S2048x1024 : Shape := ⟨2, ![2048, 1024]⟩
abbrev S1024x640 : Shape := ⟨2, ![1024, 640]⟩
abbrev S2048x640 : Shape := ⟨2, ![2048, 640]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2560, .bf16⟩
  | .hbm, ⟨2, _⟩ => ⟨S4096x2560, .bf16⟩
  | .local _ .vmem, ⟨0, _⟩ => ⟨S2048x1024, .bf16⟩
  | .local _ .vmem, ⟨1, _⟩ => ⟨S2048x1024, .bf16⟩
  | .local _ .vmem, ⟨2, _⟩ => ⟨S1024x640, .bf16⟩
  | .local _ .vmem, ⟨3, _⟩ => ⟨S1024x640, .bf16⟩
  | .local _ .vmem, ⟨4, _⟩ => ⟨S2048x640, .bf16⟩
  | .local _ .vmem, ⟨5, _⟩ => ⟨S2048x640, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== TinRefIdeal.lean ====
abbrev S4096x1024 : Shape := ⟨2, ![4096, 1024]⟩
abbrev S1024x2560 : Shape := ⟨2, ![1024, 2560]⟩
abbrev S4096x2560 : Shape := ⟨2, ![4096, 2560]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2560, .bf16⟩
  | .hbm, ⟨2, _⟩ => ⟨S4096x1024, .f32⟩
  | .hbm, ⟨3, _⟩ => ⟨S1024x2560, .f32⟩
  | .hbm, ⟨4, _⟩ => ⟨S4096x2560, .f32⟩
  | .hbm, ⟨5, _⟩ => ⟨S4096x2560, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Cup.lean ====
abbrev S4096x1024 : Shape := ⟨2, ![4096, 1024]⟩
abbrev S8x1024x256 : Shape := ⟨3, ![8, 1024, 256]⟩
abbrev S1x2048 : Shape := ⟨2, ![1, 2048]⟩
abbrev S4096x2048 : Shape := ⟨2, ![4096, 2048]⟩
abbrev S2048x1024 : Shape := ⟨2, ![2048, 1024]⟩
abbrev S1x1024x256 : Shape := ⟨3, ![1, 1024, 256]⟩
abbrev S1x256 : Shape := ⟨2, ![1, 256]⟩
abbrev S2048x256 : Shape := ⟨2, ![2048, 256]⟩
abbrev S1024x256 : Shape := ⟨2, ![1024, 256]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S8x1024x256, .bf16⟩
  | .hbm, ⟨2, _⟩ => ⟨S1x2048, .f32⟩
  | .hbm, ⟨3, _⟩ => ⟨S4096x2048, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x256, .f32⟩
  | .local _ .vmem, ⟨5, _⟩ => ⟨S1x256, .f32⟩
  | .local _ .vmem, ⟨6, _⟩ => ⟨S2048x256, .bf16⟩
  | .local _ .vmem, ⟨7, _⟩ => ⟨S2048x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli v9 c4_i32
  let c2_i32_3 : BitVec 32 := 2#32
  let v11 : BitVec 32 := Scalar.divsi arg1 c2_i32_3
  let c0_i32_4 : BitVec 32 := 0#32
  let v12 : BitVec 1 := Scalar.cmpi .sgt arg1 c0_i32_4
  let v13 : BitVec 32 := Scalar.extui v12
  let c0_i32_5 : BitVec 32 := 0#32
  let v14 : BitVec 1 := Scalar.cmpi .slt arg1 c0_i32_5
  let v15 : BitVec 32 := Scalar.extui v14
  let v16 : BitVec 32 := Scalar.subi v13 v15
  let c0_i32_6 : BitVec 32 := 0#32
  let v17 : BitVec 1 := Scalar.cmpi .sgt c2_i32_3 c0_i32_6
  let v18 : BitVec 32 := Scalar.extui v17
  let c0_i32_7 : BitVec 32 := 0#32
  let v19 : BitVec 1 := Scalar.cmpi .slt c2_i32_3 c0_i32_7
  let v20 : BitVec 32 := Scalar.extui v19
  let v21 : BitVec 32 := Scalar.subi v18 v20
  let v22 : BitVec 1 := Scalar.cmpi .ne v16 v21
  let v23 : BitVec 32 := Scalar.remsi arg1 c2_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let v28 : BitVec 32 := Scalar.addi v10 v27
  let c0_i32_10 : BitVec 32 := 0#32
  let c0_i32_11 : BitVec 32 := 0#32
  ![v28.toNat, arg2.toNat, c0_i32_10.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== CupRefIdeal.lean ====
abbrev S4096x1024 : Shape := ⟨2, ![4096, 1024]⟩
abbrev S8x1024x256 : Shape := ⟨3, ![8, 1024, 256]⟩
abbrev S1x2048 : Shape := ⟨2, ![1, 2048]⟩
abbrev S2x4x1024x256 : Shape := ⟨4, ![2, 4, 1024, 256]⟩
abbrev S1024x4x2x256 : Shape := ⟨4, ![1024, 4, 2, 256]⟩
abbrev S1024x2048 : Shape := ⟨2, ![1024, 2048]⟩
abbrev S4096x2048 : Shape := ⟨2, ![4096, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x1024x256, .bf16⟩
  | .hbm, ⟨2, _⟩ => ⟨S1x2048, .f32⟩
  | .hbm, ⟨3, _⟩ => ⟨S4096x1024, .f32⟩
  | .hbm, ⟨4, _⟩ => ⟨S8x1024x256, .f32⟩
  | .hbm, ⟨5, _⟩ => ⟨S2x4x1024x256, .f32⟩
  | .hbm, ⟨6, _⟩ => ⟨S1024x4x2x256, .f32⟩
  | .hbm, ⟨7, _⟩ => ⟨S1024x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Cdw.lean ====
abbrev S4096x1024 : Shape := ⟨2, ![4096, 1024]⟩
abbrev S4096x2048 : Shape := ⟨2, ![4096, 2048]⟩
abbrev S8x1024x256 : Shape := ⟨3, ![8, 1024, 256]⟩
abbrev S4096x256 : Shape := ⟨2, ![4096, 256]⟩
abbrev S1x1024x256 : Shape := ⟨3, ![1, 1024, 256]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S8x1024x256, .bf16⟩
  | .local _ .vmem, ⟨0, _⟩ => ⟨S4096x1024, .bf16⟩
  | .local _ .vmem, ⟨1, _⟩ => ⟨S4096x256, .bf16⟩
  | .local _ .vmem, ⟨2, _⟩ => ⟨S4096x256, .bf16⟩
  | .local _ .vmem, ⟨3, _⟩ => ⟨S1x1024x256, .bf16⟩
  | .local _ .vmem, ⟨4, _⟩ => ⟨S1x1024x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli v9 c4_i32
  let c2_i32_3 : BitVec 32 := 2#32
  let v11 : BitVec 32 := Scalar.divsi arg1 c2_i32_3
  let c0_i32_4 : BitVec 32 := 0#32
  let v12 : BitVec 1 := Scalar.cmpi .sgt arg1 c0_i32_4
  let v13 : BitVec 32 := Scalar.extui v12
  let c0_i32_5 : BitVec 32 := 0#32
  let v14 : BitVec 1 := Scalar.cmpi .slt arg1 c0_i32_5
  let v15 : BitVec 32 := Scalar.extui v14
  let v16 : BitVec 32 := Scalar.subi v13 v15
  let c0_i32_6 : BitVec 32 := 0#32
  let v17 : BitVec 1 := Scalar.cmpi .sgt c2_i32_3 c0_i32_6
  let v18 : BitVec 32 := Scalar.extui v17
  let c0_i32_7 : BitVec 32 := 0#32
  let v19 : BitVec 1 := Scalar.cmpi .slt c2_i32_3 c0_i32_7
  let v20 : BitVec 32 := Scalar.extui v19
  let v21 : BitVec 32 := Scalar.subi v18 v20
  let v22 : BitVec 1 := Scalar.cmpi .ne v16 v21
  let v23 : BitVec 32 := Scalar.remsi arg1 c2_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let v28 : BitVec 32 := Scalar.addi v10 v27
  let c0_i32_10 : BitVec 32 := 0#32
  let c0_i32_11 : BitVec 32 := 0#32
  ![v28.toNat, arg0.toNat, c0_i32_10.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== CdwRefIdeal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩
abbrev S1024x4x2x256 : Shape := ⟨4, ![1024, 4, 2, 256]⟩
abbrev S2x4x1024x256 : Shape := ⟨4, ![2, 4, 1024, 256]⟩
abbrev S8x1024x256 : Shape := ⟨3, ![8, 1024, 256]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S4096x1024, .f32⟩
  | .hbm, ⟨3, _⟩ => ⟨S4096x2048, .f32⟩
  | .hbm, ⟨4, _⟩ => ⟨S_, .f32⟩
  | .hbm, ⟨5, _⟩ => ⟨S1024x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S1024x4x2x256, .f32⟩
  | .hbm, ⟨10, _⟩ => ⟨S2x4x1024x256, .f32⟩
  | .hbm, ⟨11, _⟩ => ⟨S8x1024x256, .f32⟩
  | .hbm, ⟨12, _⟩ => ⟨S8x1024x256, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Cout.lean ====
abbrev S4096x1024 : Shape := ⟨2, ![4096, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 11
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S1x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== CoutRefIdeal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S1x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Sdn.lean ====
abbrev S4096x1024 : Shape := ⟨2, ![4096, 1024]⟩
abbrev S1024x1024 : Shape := ⟨2, ![1024, 1024]⟩
abbrev S1x1024 : Shape := ⟨2, ![1, 1024]⟩
abbrev S512x1024 : Shape := ⟨2, ![512, 1024]⟩
abbrev S8x1024 : Shape := ⟨2, ![8, 1024]⟩
abbrev S16x1024 : Shape := ⟨2, ![16, 1024]⟩
abbrev S16 : Shape := ⟨1, ![16]⟩
abbrev S16x1 : Shape := ⟨2, ![16, 1]⟩
abbrev S1024 : Shape := ⟨1, ![1024]⟩

abbrev nBuf : Space → Nat
  | .hbm => 8
  | .vmem => 14
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![8, 1, 1], ![false, false, false]⟩

@[reducible] def k0_t1_loop : Scf.Loop 32 :=
  let c0_i32_9 : BitVec 32 := 0#32
  let c16_i32 : BitVec 32 := 16#32
  let v11 : BitVec 32 := Scalar.addi c0_i32_9 c16_i32
  let c1_i32 : BitVec 32 := 1#32
  ⟨c0_i32_9, v11, c1_i32⟩
def k0_mult1 (k0_t1 : Fin k0_t1_loop.trips) : BitVec 32 :=
  let c0_i32_9 : BitVec 32 := 0#32
  let c1_i32 : BitVec 32 := 1#32
  let arg12 : BitVec 32 := Scf.iv c0_i32_9 c1_i32 k0_t1
  let c32_i32 : BitVec 32 := 32#32
  let v19 : BitVec 32 := Scalar.muli arg12 c32_i32
  let c0_i32_16 : BitVec 32 := 0#32
  let v20 : BitVec 32 := Scalar.addi v19 c0_i32_16
  v20
def k0_mult2 (k0_t1 : Fin k0_t1_loop.trips) : BitVec 32 :=
  let c0_i32_9 : BitVec 32 := 0#32
  let c1_i32 : BitVec 32 := 1#32
  let arg12 : BitVec 32 := Scf.iv c0_i32_9 c1_i32 k0_t1
  let c32_i32_17 : BitVec 32 := 32#32
  let v22 : BitVec 32 := Scalar.muli arg12 c32_i32_17
  let c16_i32_18 : BitVec 32 := 16#32
  let v23 : BitVec 32 := Scalar.addi v22 c16_i32_18
  v23
def k0_off1 (k0_t1 : Fin k0_t1_loop.trips) (c0_i32_16 : BitVec 32) : Fin 2 → Nat :=
  let c0_i32_9 : BitVec 32 := 0#32
  let c1_i32 : BitVec 32 := 1#32
  let arg12 : BitVec 32 := Scf.iv c0_i32_9 c1_i32 k0_t1
  let c32_i32 : BitVec 32 := 32#32
  let v19 : BitVec 32 := Scalar.muli arg12 c32_i32
  let v20 : BitVec 32 := Scalar.addi v19 c0_i32_16
  let v21 : BitVec 32 := v20
  let v25 : Index := Scalar.indexCast v21
  let c0_19 : Index := 0#32
  ![v25.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== SdnRefIdeal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Cdn.lean ====
abbrev S4096x2048 : Shape := ⟨2, ![4096, 2048]⟩
abbrev S8x1024x256 : Shape := ⟨3, ![8, 1024, 256]⟩
abbrev S4096x1024 : Shape := ⟨2, ![4096, 1024]⟩
abbrev S1x1024 : Shape := ⟨2, ![1, 1024]⟩
abbrev S1024x256 : Shape := ⟨2, ![1024, 256]⟩
abbrev S1x1024x256 : Shape := ⟨3, ![1, 1024, 256]⟩
abbrev S1024x1024 : Shape := ⟨2, ![1024, 1024]⟩
abbrev S8x1024 : Shape := ⟨2, ![8, 1024]⟩
abbrev S16x1024 : Shape := ⟨2, ![16, 1024]⟩
abbrev S16 : Shape := ⟨1, ![16]⟩
abbrev S16x1 : Shape := ⟨2, ![16, 1]⟩
abbrev S1024 : Shape := ⟨1, ![1024]⟩

abbrev nBuf : Space → Nat
  | .hbm => 8
  | .vmem => 15
  | .smem => 0
  | _ => 0

abbrev bufTy : (tb : Table) → Fin (tcTables nBuf tb) → BufTy
  | .hbm, ⟨0, _⟩ => ⟨S4096x2048, .bf16⟩
  | .hbm, ⟨1, _⟩ => ⟨S8x1024x256, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S1024x256, .bf16⟩
  | .local _ .vmem, ⟨1, _⟩ => ⟨S1024x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨3, ![4, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_10 : BitVec 32 := 0#32
  let v15 : BitVec 1 := Scalar.cmpi .ne v14 c0_i32_10
  v15

@[reducible] def k0_t1_loop : Scf.Loop 32 :=
  let c0_i32_15 : BitVec 32 := 0#32
  let c32_i32 : BitVec 32 := 32#32
  let v20 : BitVec 32 := Scalar.addi c0_i32_15 c32_i32
  let c1_i32 : BitVec 32 := 1#32
  ⟨c0_i32_15, v20, c1_i32⟩
def k0_mult1 (k0_t1 : Fin k0_t1_loop.trips) : BitVec 32 :=
  let c0_i32_15 : BitVec 32 := 0#32
  let c1_i32 : BitVec 32 := 1#32
  let arg12 : BitVec 32 := Scf.iv c0_i32_15 c1_i32 k0_t1
  let c32_i32_22 : BitVec 32 := 32#32
  let v28 : BitVec 32 := Scalar.muli arg12 c32_i32_22
  let c0_i32_23 : BitVec 32 := 0#32
  let v29 : BitVec 32 := Scalar.addi v28 c0_i32_23
  v29
def k0_mult2 (k0_t1 : Fin k0_t1_loop.trips) : BitVec 32 :=
  let c0_i32_15 : BitVec 32 := 0#32
  let c1_i32 : BitVec 32 := 1#32
  let arg12 : BitVec 32 := Scf.iv c0_i32_15 c1_i32 k0_t1
  let c32_i32_24 : BitVec 32 := 32#32
  let v31 : BitVec 32 := Scalar.muli arg12 c32_i32_24
  let c16_i32 : BitVec 32 := 16#32
  let v32 : BitVec 32 := Scalar.addi v31 c16_i32
  v32
def k0_off1 (k0_t1 : Fin k0_t1_loop.trips) (c0_i32_23 : BitVec 32) : Fin 2 → Nat :=
  let c0_i32_15 : BitVec 32 := 0#32
  let c1_i32 : BitVec 32 := 1#32
  let arg12 : BitVec 32 := Scf.iv c0_i32_15 c1_i32 k0_t1
  let c32_i32_22 : BitVec 32 := 32#32
  let v28 : BitVec 32 := Scalar.muli arg12 c32_i32_22
  let v29 : BitVec 32 := Scalar.addi v28 c0_i32_23
  let v30 : BitVec 32 := v29
  let v34 : Index := Scalar.indexCast v30
  let c0_25 : Index := 0#32
  ![v34.toNat, 0]
def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v16 : BitVec 32 := Scalar.extui v0
  let c0_i32_11 : BitVec 32 := 0#32
  let v17 : BitVec 1 := Scalar.cmpi .ne v16 c0_i32_11
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg2 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli v9 c4_i32
  let c2_i32_3 : BitVec 32 := 2#32
  let v11 : BitVec 32 := Scalar.divsi arg2 c2_i32_3
  let c0_i32_4 : BitVec 32 := 0#32
  let v12 : BitVec 1 := Scalar.cmpi .sgt arg2 c0_i32_4
  let v13 : BitVec 32 := Scalar.extui v12
  let c0_i32_5 : BitVec 32 := 0#32
  let v14 : BitVec 1 := Scalar.cmpi .slt arg2 c0_i32_5
  let v15 : BitVec 32 := Scalar.extui v14
  let v16 : BitVec 32 := Scalar.subi v13 v15
  let c0_i32_6 : BitVec 32 := 0#32
  let v17 : BitVec 1 := Scalar.cmpi .sgt c2_i32_3 c0_i32_6
  let v18 : BitVec 32 := Scalar.extui v17
  let c0_i32_7 : BitVec 32 := 0#32
  let v19 : BitVec 1 := Scalar.cmpi .slt c2_i32_3 c0_i32_7
  let v20 : BitVec 32 := Scalar.extui v19
  let v21 : BitVec 32 := Scalar.subi v18 v20
  let v22 : BitVec 1 := Scalar.cmpi .ne v16 v21
  let v23 : BitVec 32 := Scalar.remsi arg2 c2_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let v28 : BitVec 32 := Scalar.addi v10 v27
  let c0_i32_10 : BitVec 32 := 0#32
  let c0_i32_11 : BitVec 32 := 0#32
  ![v28.toNat, arg1.toNat, c0_i32_10.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== CdnRefIdeal.lean ====
abbrev S4096x2048 : Shape := ⟨2, ![4096, 2048]⟩
abbrev S8x1024x256 : Shape := ⟨3, ![8, 1024, 256]⟩
abbrev S4096x1024 : Shape := ⟨2, ![4096, 1024]⟩
abbrev S1x1024 : Shape := ⟨2, ![1, 1024]⟩
abbrev S2x4x1024x256 : Shape := ⟨4, ![2, 4, 1024, 256]⟩
abbrev S1024x4x2x256 : Shape := ⟨4, ![1024, 4, 2, 256]⟩
abbrev S1024x2048 : Shape := ⟨2, ![1024, 2048]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 56
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x1024x256, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S8x1024x256, .f32⟩
  | .hbm, ⟨6, _⟩ => ⟨S2x4x1024x256, .f32⟩
  | .hbm, ⟨7, _⟩ => ⟨S1024x4x2x256, .f32⟩
  | .hbm, ⟨8, _⟩ => ⟨S1024x2048, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x2048, .f32⟩
  | .hbm, ⟨29, _⟩ => ⟨S4096x2048, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== Tdn.lean ====
abbrev S4096x1024 : Shape := ⟨2, ![4096, 1024]⟩
abbrev S4096x512 : Shape := ⟨2, ![4096, 512]⟩
abbrev S1024x2560 : Shape := ⟨2, ![1024, 2560]⟩
abbrev S1x1024 : Shape := ⟨2, ![1, 1024]⟩
abbrev S512x1024 : Shape := ⟨2, ![512, 1024]⟩
abbrev S1024x1024 : Shape := ⟨2, ![1024, 1024]⟩
abbrev S512x512 : Shape := ⟨2, ![512, 512]⟩
abbrev S1024x512 : Shape := ⟨2, ![1024, 512]⟩
abbrev S8x1024 : Shape := ⟨2, ![8, 1024]⟩
abbrev S16x1024 : Shape := ⟨2, ![16, 1024]⟩
abbrev S16 : Shape := ⟨1, ![16]⟩
abbrev S16x1 : Shape := ⟨2, ![16, 1]⟩
abbrev S1024 : Shape := ⟨1, ![1024]⟩

abbrev nBuf : Space → Nat
  | .hbm => 10
  | .vmem => 20
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x512, .bf16⟩
  | .hbm, ⟨3, _⟩ => ⟨S1024x2560, .bf16⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | .hbm, ⟨9, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S1024x1024, .bf16⟩
  | .local _ .vmem, ⟨6, _⟩ => ⟨S512x512, .bf16⟩
  | .local _ .vmem, ⟨7, _⟩ => ⟨S512x512, .bf16⟩
  | .local _ .vmem, ⟨8, _⟩ => ⟨S1024x512, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S1x1024, .f32⟩
  | .local _ .vmem, ⟨19, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨3, ![8, 1, 1], ![false, false, false]⟩

@[reducible] def k0_t1_loop : Scf.Loop 32 :=
  let c0_i32_19 : BitVec 32 := 0#32
  let c16_i32 : BitVec 32 := 16#32
  let v19 : BitVec 32 := Scalar.addi c0_i32_19 c16_i32
  let c1_i32 : BitVec 32 := 1#32
  ⟨c0_i32_19, v19, c1_i32⟩
def k0_mult1 (k0_t1 : Fin k0_t1_loop.trips) : BitVec 32 :=
  let c0_i32_19 : BitVec 32 := 0#32
  let c1_i32 : BitVec 32 := 1#32
  let arg16 : BitVec 32 := Scf.iv c0_i32_19 c1_i32 k0_t1
  let c32_i32 : BitVec 32 := 32#32
  let v27 : BitVec 32 := Scalar.muli arg16 c32_i32
  let c0_i32_26 : BitVec 32 := 0#32
  let v28 : BitVec 32 := Scalar.addi v27 c0_i32_26
  v28
def k0_mult2 (k0_t1 : Fin k0_t1_loop.trips) : BitVec 32 :=
  let c0_i32_19 : BitVec 32 := 0#32
  let c1_i32 : BitVec 32 := 1#32
  let arg16 : BitVec 32 := Scf.iv c0_i32_19 c1_i32 k0_t1
  let c32_i32_27 : BitVec 32 := 32#32
  let v30 : BitVec 32 := Scalar.muli arg16 c32_i32_27
  let c16_i32_28 : BitVec 32 := 16#32
  let v31 : BitVec 32 := Scalar.addi v30 c16_i32_28
  v31
def k0_off1 (k0_t1 : Fin k0_t1_loop.trips) (c0_i32_26 : BitVec 32) : Fin 2 → Nat :=
  let c0_i32_19 : BitVec 32 := 0#32
  let c1_i32 : BitVec 32 := 1#32
  let arg16 : BitVec 32 := Scf.iv c0_i32_19 c1_i32 k0_t1
  let c32_i32 : BitVec 32 := 32#32
  let v27 : BitVec 32 := Scalar.muli arg16 c32_i32
  let v28 : BitVec 32 := Scalar.addi v27 c0_i32_26
  let v29 : BitVec 32 := v28
  let v33 : Index := Scalar.indexCast v29
  let c0_29 : Index := 0#32
  ![v33.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c4_i32 : BitVec 32 := 4#32
  let c0_i32_0 : BitVec 32 := 0#32
  ![c0_i32.toNat, c4_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]
-- ==== TdnRefIdeal.lean ====
abbrev S4096x1024 : Shape := ⟨2, ![4096, 1024]⟩
abbrev S4096x512 : Shape := ⟨2, ![4096, 512]⟩
abbrev S1024x2560 : Shape := ⟨2, ![1024, 2560]⟩
abbrev S1x1024 : Shape := ⟨2, ![1, 1024]⟩
abbrev S4096x2048 : Shape := ⟨2, ![4096, 2048]⟩
abbrev S4096x2560 : Shape := ⟨2, ![4096, 2560]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 57
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x512, .bf16⟩
  | .hbm, ⟨3, _⟩ => ⟨S1024x2560, .bf16⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S1024x2560, .f32⟩
  | .hbm, ⟨8, _⟩ => ⟨S4096x2048, .bf16⟩
  | .hbm, ⟨9, _⟩ => ⟨S4096x2560, .bf16⟩
  | .hbm, ⟨10, _⟩ => ⟨S4096x2560, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x2560, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== Afw.lean ====
abbrev S4096x1024 : Shape := ⟨2, ![4096, 1024]⟩
abbrev S256x1024 : Shape := ⟨2, ![256, 1024]⟩
abbrev S1024x1024 : Shape := ⟨2, ![1024, 1024]⟩
abbrev S1024x256 : Shape := ⟨2, ![1024, 256]⟩
abbrev S256x256 : Shape := ⟨2, ![256, 256]⟩
abbrev S1024 : Shape := ⟨1, ![1024]⟩
abbrev S1024x1 : Shape := ⟨2, ![1024, 1]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S256x1024, .bf16⟩
  | .hbm, ⟨2, _⟩ => ⟨S256x1024, .bf16⟩
  | .hbm, ⟨3, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S256x1024, .bf16⟩
  | .local _ .vmem, ⟨4, _⟩ => ⟨S1024x1024, .bf16⟩
  | .local _ .vmem, ⟨5, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AfwRefIdeal.lean ====
abbrev S4096x1024 : Shape := ⟨2, ![4096, 1024]⟩
abbrev S256x1024 : Shape := ⟨2, ![256, 1024]⟩
abbrev S1x4096x4x256 : Shape := ⟨4, ![1, 4096, 4, 256]⟩
abbrev S1x256x4x256 : Shape := ⟨4, ![1, 256, 4, 256]⟩
abbrev S1x4x4096x256 : Shape := ⟨4, ![1, 4, 4096, 256]⟩
abbrev S_ : Shape := ⟨0, ![]⟩
abbrev S1x4x4096 : Shape := ⟨3, ![1, 4, 4096]⟩
abbrev S1x4x4096x1 : Shape := ⟨4, ![1, 4, 4096, 1]⟩
abbrev S1x4x256x4096 : Shape := ⟨4, ![1, 4, 256, 4096]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S256x1024, .bf16⟩
  | .hbm, ⟨2, _⟩ => ⟨S256x1024, .bf16⟩
  | .hbm, ⟨3, _⟩ => ⟨S4096x1024, .f32⟩
  | .hbm, ⟨4, _⟩ => ⟨S256x1024, .f32⟩
  | .hbm, ⟨5, _⟩ => ⟨S256x1024, .f32⟩
  | .hbm, ⟨6, _⟩ => ⟨S1x4096x4x256, .f32⟩
  | .hbm, ⟨7, _⟩ => ⟨S1x256x4x256, .f32⟩
  | .hbm, ⟨8, _⟩ => ⟨S1x256x4x256, .f32⟩
  | .hbm, ⟨9, _⟩ => ⟨S1x4x4096x256, .f32⟩
  | .hbm, ⟨10, _⟩ => ⟨S_, .f32⟩
  | .hbm, ⟨11, _⟩ => ⟨S1x4x4096x256, .f32⟩
  | .hbm, ⟨12, _⟩ => ⟨S1x4x4096x256, .f32⟩
  | .hbm, ⟨13, _⟩ => ⟨S_, .f32⟩
  | .hbm, ⟨14, _⟩ => ⟨S1x4x4096, .f32⟩
  | .hbm, ⟨15, _⟩ => ⟨S_, .f32⟩
  | .hbm, ⟨16, _⟩ => ⟨S1x4x4096, .f32⟩
  | .hbm, ⟨17, _⟩ => ⟨S1x4x4096, .f32⟩
  | .hbm, ⟨18, _⟩ => ⟨S1x4x4096x1, .f32⟩
  | .hbm, ⟨19, _⟩ => ⟨S1x4x4096x256, .f32⟩
  | .hbm, ⟨20, _⟩ => ⟨S1x4x4096x256, .f32⟩
  | .hbm, ⟨21, _⟩ => ⟨S1x4x4096x256, .f32⟩
  | .hbm, ⟨22, _⟩ => ⟨S_, .f32⟩
  | .hbm, ⟨23, _⟩ => ⟨S1x4x4096, .f32⟩
  | .hbm, ⟨24, _⟩ => ⟨S1x4x4096x1, .f32⟩
  | .hbm, ⟨25, _⟩ => ⟨S1x4x4096x256, .f32⟩
  | .hbm, ⟨26, _⟩ => ⟨S1x4x4096x256, .f32⟩
  | .hbm, ⟨27, _⟩ => ⟨S1x4x256x4096, .f32⟩
  | .hbm, ⟨28, _⟩ => ⟨S1x4096x4x256, .f32⟩
  | .hbm, ⟨29, _⟩ => ⟨S4096x1024, .f32⟩
  | .hbm, ⟨30, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Tdp.lean ====
abbrev S4096x1024 : Shape := ⟨2, ![4096, 1024]⟩
abbrev S4096x512 : Shape := ⟨2, ![4096, 512]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S1024x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== TdpIdeal.lean ====
abbrev S4096x1024 : Shape := ⟨2, ![4096, 1024]⟩
abbrev S4096x512 : Shape := ⟨2, ![4096, 512]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S1024x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== TdpRefIdeal.lean ====
abbrev S4096x1024 : Shape := ⟨2, ![4096, 1024]⟩
abbrev S4096x512 : Shape := ⟨2, ![4096, 512]⟩
abbrev S_ : Shape := ⟨0, ![]⟩
abbrev S1024x512 : Shape := ⟨2, ![1024, 512]⟩
abbrev S512x1024 : Shape := ⟨2, ![512, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S4096x1024, .f32⟩
  | .hbm, ⟨3, _⟩ => ⟨S4096x512, .f32⟩
  | .hbm, ⟨4, _⟩ => ⟨S_, .f32⟩
  | .hbm, ⟨5, _⟩ => ⟨S1024x512, .f32⟩
  | .hbm, ⟨6, _⟩ => ⟨S4096x512, .f32⟩
  | .hbm, ⟨7, _⟩ => ⟨S512x1024, .f32⟩
  | .hbm, ⟨8, _⟩ => ⟨S1024x512, .f32⟩
  | .hbm, ⟨9, _⟩ => ⟨S1024x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Mk.lean ====
abbrev S256x1024 : Shape := ⟨2, ![256, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S1024x1024, .bf16⟩
  | .hbm, ⟨2, _⟩ => ⟨S256x1024, .bf16⟩
  | .local _ .vmem, ⟨0, _⟩ => ⟨S256x1024, .bf16⟩
  | .local _ .vmem, ⟨1, _⟩ => ⟨S1024x1024, .bf16⟩
  | .local _ .vmem, ⟨2, _⟩ => ⟨S256x1024, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MkRefIdeal.lean ====
abbrev S256x1024 : Shape := ⟨2, ![256, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S1024x1024, .bf16⟩
  | .hbm, ⟨2, _⟩ => ⟨S256x1024, .f32⟩
  | .hbm, ⟨3, _⟩ => ⟨S1024x1024, .f32⟩
  | .hbm, ⟨4, _⟩ => ⟨S256x1024, .f32⟩
  | .hbm, ⟨5, _⟩ => ⟨S256x1024, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Mdw.lean ====
abbrev S256x1024 : Shape := ⟨2, ![256, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S256x1024, .bf16⟩
  | .hbm, ⟨2, _⟩ => ⟨S1024x1024, .bf16⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MdwRefIdeal.lean ====
abbrev S256x1024 : Shape := ⟨2, ![256, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x1024, .bf16⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S1024x1024, .f32⟩
  | .hbm, ⟨6, _⟩ => ⟨S256x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Mdk.lean ====
abbrev S256x1024 : Shape := ⟨2, ![256, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S1024x1024, .bf16⟩
  | .hbm, ⟨2, _⟩ => ⟨S256x1024, .f32⟩
  | .local _ .vmem, ⟨0, _⟩ => ⟨S256x1024, .bf16⟩
  | .local _ .vmem, ⟨1, _⟩ => ⟨S1024x1024, .bf16⟩
  | .local _ .vmem, ⟨2, _⟩ => ⟨S256x1024, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MdkRefIdeal.lean ====
abbrev S256x1024 : Shape := ⟨2, ![256, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S1024x1024, .bf16⟩
  | .hbm, ⟨2, _⟩ => ⟨S256x1024, .f32⟩
  | .hbm, ⟨3, _⟩ => ⟨S1024x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S256x1024, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Mdv.lean ====
abbrev S256x1024 : Shape := ⟨2, ![256, 1024]⟩
abbrev S1024x1024 : Shape := ⟨2, ![1024, 1024]⟩

abbrev nBuf : Space → Nat
  | .hbm => 4
  | .vmem => 4
  | .smem => 0
  | _ => 0

abbrev bufTy : (tb : Table) → Fin (tcTables nBuf tb) → BufTy
  | .hbm, ⟨0, _⟩ => ⟨S256x1024, .bf16⟩
  | .hbm, ⟨1, _⟩ => ⟨S1024x1024, .bf16⟩
  | .hbm, ⟨2, _⟩ => ⟨S256x1024, .f32⟩
  | .hbm, ⟨3, _⟩ => ⟨S256x1024, .f32⟩
  | .local _ .vmem, ⟨0, _⟩ => ⟨S256x1024, .bf16⟩
  | .local _ .vmem, ⟨1, _⟩ => ⟨S1024x1024, .bf16⟩
  | .local _ .vmem, ⟨2, _⟩ => ⟨S256x1024, .f32⟩
  | .local _ .vmem, ⟨3, _⟩ => ⟨S256x1024, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== MdvRefIdeal.lean ====
abbrev S256x1024 : Shape := ⟨2, ![256, 1024]⟩
abbrev S1024x1024 : Shape := ⟨2, ![1024, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S1024x1024, .bf16⟩
  | .hbm, ⟨2, _⟩ => ⟨S256x1024, .f32⟩
  | .hbm, ⟨3, _⟩ => ⟨S256x1024, .f32⟩
  | .hbm, ⟨4, _⟩ => ⟨S1024x1024, .f32⟩
  | .hbm, ⟨5, _⟩ => ⟨S_, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Nx.lean ====
abbrev S4096x1024 : Shape := ⟨2, ![4096, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NxIdeal.lean ====
abbrev S4096x1024 : Shape := ⟨2, ![4096, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NxRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Nm.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== NmRefIdeal.lean ====
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩

abbrev nBuf : Space → Nat
  | .hbm => 18
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x1024, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Nb.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024 : Shape := ⟨1, ![1024]⟩

abbrev nBuf : Space → Nat
  | .hbm => 4
  | .vmem => 4
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S1x1024, .f32⟩
  | .local _ .vmem, ⟨0, _⟩ => ⟨S256x1024, .f32⟩
  | .local _ .vmem, ⟨1, _⟩ => ⟨S1x1024, .f32⟩
  | .local _ .vmem, ⟨2, _⟩ => ⟨S256x1024, .f32⟩
  | .local _ .vmem, ⟨3, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== NbRefIdeal.lean ====
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩
abbrev S1024 : Shape := ⟨1, ![1024]⟩

abbrev nBuf : Space → Nat
  | .hbm => 22
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S1024, .f32⟩
  | .hbm, ⟨21, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Ls.lean ====
abbrev S4096x1024 : Shape := ⟨2, ![4096, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LsRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩

abbrev nD : Nat := 1
abbrev τ : Topo := Topo.v7x

variable {F : FTy → Type} [FloatOps F]
-- ==== Lh.lean ====
abbrev S4096x1024 : Shape := ⟨2, ![4096, 1024]⟩
abbrev S1x1024 : Shape := ⟨2, ![1, 1024]⟩
abbrev S1x1 : Shape := ⟨2, ![1, 1]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩

abbrev nBuf : Space → Nat
  | .hbm => 7
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S1x1, .f32⟩
  | .hbm, ⟨4, _⟩ => ⟨S4096x1024, .f32⟩
  | .hbm, ⟨5, _⟩ => ⟨S4096x1024, .bf16⟩
  | .hbm, ⟨6, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | .local _ .vmem, ⟨5, _⟩ => ⟨S1x1, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LhRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x1 : Shape := ⟨2, ![1, 1]⟩

abbrev nBuf : Space → Nat
  | .hbm => 70
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x1024, .f32⟩
  | .hbm, ⟨56, _⟩ => ⟨S4096x1024, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S1x1, .f32⟩
  | .hbm, ⟨69, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== Lb.lean ====
abbrev S4096x1024 : Shape := ⟨2, ![4096, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 9
  | .vmem => 13
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S1x1024, .f32⟩
  | .hbm, ⟨8, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LbRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 103
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S_, .f32⟩
  | .hbm, ⟨6, _⟩ => ⟨S1x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S4096x1024, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S_, .f32⟩
  | .hbm, ⟨74, _⟩ => ⟨S4096, .f32⟩
  | .hbm, ⟨75, _⟩ => ⟨S4096x1, .f32⟩
  | .hbm, ⟨76, _⟩ => ⟨S4096x1024, .f32⟩
  | .hbm, ⟨77, _⟩ => ⟨S4096x1024, .f32⟩
  | .hbm, ⟨78, _⟩ => ⟨S4096x1, .f32⟩
  | .hbm, ⟨79, _⟩ => ⟨S4096x1024, .f32⟩
  | .hbm, ⟨80, _⟩ => ⟨S_, .f32⟩
  | .hbm, ⟨81, _⟩ => ⟨S4096, .f32⟩
  | .hbm, ⟨82, _⟩ => ⟨S4096x1, .f32⟩
  | .hbm, ⟨83, _⟩ => ⟨S_, .f32⟩
  | .hbm, ⟨84, _⟩ => ⟨S4096x1, .f32⟩
  | .hbm, ⟨85, _⟩ => ⟨S4096x1, .f32⟩
  | .hbm, ⟨86, _⟩ => ⟨S_, .f32⟩
  | .hbm, ⟨87, _⟩ => ⟨S4096, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S_, .f32⟩
  | .hbm, ⟨92, _⟩ => ⟨S4096, .f32⟩
  | .hbm, ⟨93, _⟩ => ⟨S4096x1, .f32⟩
  | .hbm, ⟨94, _⟩ => ⟨S4096x1024, .f32⟩
  | .hbm, ⟨95, _⟩ => ⟨S4096x1, .f32⟩
  | .hbm, ⟨96, _⟩ => ⟨S_, .f32⟩
  | .hbm, ⟨97, _⟩ => ⟨S4096x1, .f32⟩
  | .hbm, ⟨98, _⟩ => ⟨S4096x1, .f32⟩
  | .hbm, ⟨99, _⟩ => ⟨S_, .f32⟩
  | .hbm, ⟨100, _⟩ => ⟨S4096, .f32⟩
  | .hbm, ⟨101, _⟩ => ⟨S4096x1024, .f32⟩
  | .hbm, ⟨102, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_v28_2 : Ref sig .tc := ⟨.hbm, 48, rfl⟩
abbrev main_call0_cst_1 : Ref sig .tc := ⟨.hbm, 49, rfl⟩
abbrev main_call0_v6 : Ref sig .tc := ⟨.hbm, 50, rfl⟩
abbrev main_call0_v7 : Ref sig .tc := ⟨.hbm, 51, rfl⟩
abbrev main_v28_1 : Ref sig .tc := ⟨.hbm, 52, rfl⟩
abbrev main_v28_0 : Ref sig .tc := ⟨.hbm, 53, rfl⟩
abbrev main_v29 : Ref sig .tc := ⟨.hbm, 54, rfl⟩
abbrev main_v30 : Ref sig .tc := ⟨.hbm, 55, rfl⟩
abbrev main_cst_7 : Ref sig .tc := ⟨.hbm, 56, rfl⟩
abbrev main_v31 : Ref sig .tc := ⟨.hbm, 57, rfl⟩
abbrev main_v32 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v33 : Ref sig .tc := ⟨.hbm, 62, rfl⟩
abbrev main_cst_8 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_cst_9 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_10 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_cst_11 : Ref sig .tc := ⟨.hbm, 80, rfl⟩
abbrev main_v48 : Ref sig .tc := ⟨.hbm, 81, rfl⟩
abbrev main_v49 : Ref sig .tc := ⟨.hbm, 82, rfl⟩
abbrev main_cst_12 : Ref sig .tc := ⟨.hbm, 83, rfl⟩
abbrev main_v50 : Ref sig .tc := ⟨.hbm, 84, rfl⟩
abbrev main_v51 : Ref sig .tc := ⟨.hbm, 85, rfl⟩
abbrev main_cst_13 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_14 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_cst_15 : Ref sig .tc := ⟨.hbm, 96, rfl⟩
abbrev main_v60 : Ref sig .tc := ⟨.hbm, 97, rfl⟩
abbrev main_v61 : Ref sig .tc := ⟨.hbm, 98, rfl⟩
abbrev main_cst_16 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩

abbrev nD : Nat := 1
abbrev τ : Topo := Topo.v7x

variable {F : FTy → Type} [FloatOps F]
-- ==== Proof.RowMath.lean ====
/- One row of the softmax gradient over the extended reals: the kernel's arrangement and the derivative of
   `exp(s - max s) / sum` as differentiation writes it agree when the row's scores are numbers. -/
module

public import Idealize.ShloMosaic.PureOps.Ideal.Laws
public import Idealize.ShloMosaic.Lib.ValueIdx

@[expose] public section

noncomputable section

namespace Cert.XAttn

open Idealize.ShloMosaic

/-- The score scale `256 ** -0.5`, as both programs print it. -/
abbrev cScale : EReal := Ideal.ofBits .f32 0x3D800000#32

/-- The scale is the number one sixteenth. -/
theorem cScale_eq : cScale = (((1 : ℝ) / 16 : ℝ) : EReal) := by
  simp [cScale, Ideal.ofBits, Ideal.ieee, -EReal.coe_mul]; norm_num

/-- The starting value of a maximum is minus infinity. -/
theorem ofBits_negInf : Ideal.ofBits .f32 0xFF800000#32 = ⊥ := by
  simp [Ideal.ofBits, Ideal.ieee]

/-- The literal one. -/
theorem ofBits_one : Ideal.ofBits .f32 0x3F800000#32 = 1 := by
  simp [Ideal.ofBits, Ideal.ieee, -EReal.coe_mul]; norm_num

variable {n : Nat}

/-- The maximum of a row, folded from minus infinity. -/
def rowMax (s : Fin n → EReal) : EReal := (Finset.univ : Finset (Fin n)).fold max ⊥ s

/-- The shifted exponentials of a row. -/
def rowExp (s : Fin n → EReal) (j : Fin n) : EReal := Ideal.exp (s j - rowMax s)

/-- Their sum. -/
def rowSum (s : Fin n → EReal) : EReal := ∑ j, rowExp s j

/-- The softmax of a row. -/
def prob (s : Fin n → EReal) (j : Fin n) : EReal := Ideal.div (rowExp s j) (rowSum s)

/-- The gradient of the scores as the kernel computes it from the gradient `dp` of the probabilities. -/
def dsKernel (s dp : Fin n → EReal) (j : Fin n) : EReal :=
  (prob s j * (dp j - ∑ k, dp k * prob s k)) * cScale

/-- The same gradient as differentiating the quotient and the exponential gives it. -/
def dsDerived (s dp : Fin n → EReal) (j : Fin n) : EReal :=
  ((Ideal.div (dp j) (rowSum s) + -(∑ k, dp k * Ideal.div 1 (rowSum s * rowSum s) * rowExp s k)) * rowExp s j) * cScale

/-- A finite sum of numbers is the number that is their sum. -/
theorem coe_sum {ι : Type*} (t : Finset ι) (f : ι → ℝ) : ∑ i ∈ t, (f i : EReal) = ((∑ i ∈ t, f i : ℝ) : EReal) := by
  classical
  induction t using Finset.induction_on with
  | empty => simp
  | insert a t ha ih => rw [Finset.sum_insert ha, Finset.sum_insert ha, ih, EReal.coe_add]

/-- A nonnegative number multiplies a sum of extended reals term by term. -/
theorem sum_mul_coe {ι : Type*} (t : Finset ι) (f : ι → EReal) {r : ℝ} (hr : 0 ≤ r) :
    (∑ i ∈ t, f i) * (r : EReal) = ∑ i ∈ t, f i * (r : EReal) := by
  classical
  induction t using Finset.induction_on with
  | empty => simp
  | insert a t ha ih =>
    rw [Finset.sum_insert ha, Finset.sum_insert ha, EReal.right_distrib_of_nonneg_of_ne_top (by exact_mod_cast hr) (EReal.coe_ne_top r), ih]

/-- The maximum of a row of numbers is a number, when the row is not empty. -/
theorem rowMax_coe (r : Fin n → ℝ) (hn : 0 < n) : ∃ M : ℝ, rowMax (fun j => (r j : EReal)) = (M : EReal) := by
  have h : ∀ t : Finset (Fin n), (t.fold max ⊥ (fun j => (r j : EReal)) = ⊥ ∧ t = ∅)
      ∨ ∃ M : ℝ, t.fold max ⊥ (fun j => (r j : EReal)) = (M : EReal) := by
    intro t
    classical
    induction t using Finset.induction_on with
    | empty => exact .inl ⟨Finset.fold_empty, rfl⟩
    | insert a t ha ih =>
      right
      rw [Finset.fold_insert ha]
      rcases ih with ⟨h, -⟩ | ⟨M, h⟩
      · exact ⟨r a, by rw [h]; exact max_bot_right _⟩
      · exact ⟨max (r a) M, by rw [h]; exact (EReal.coe_strictMono.monotone.map_max (a := r a) (b := M)).symm⟩
  rcases h Finset.univ with ⟨-, h0⟩ | h
  · exact absurd (Finset.mem_univ (⟨0, hn⟩ : Fin n)) (by rw [h0]; simp)
  · exact h

/-- On a row of numbers the shifted exponentials are positive numbers and so is their sum. -/
theorem rowExp_coe (r : Fin n → ℝ) (hn : 0 < n) :
    ∃ (e : Fin n → ℝ) (z : ℝ), (∀ j, 0 < e j) ∧ 0 < z ∧ (∀ j, rowExp (fun j => (r j : EReal)) j = (e j : EReal))
      ∧ rowSum (fun j => (r j : EReal)) = (z : EReal) := by
  obtain ⟨M, hM⟩ := rowMax_coe r hn
  have he : ∀ j, rowExp (fun j => (r j : EReal)) j = ((Real.exp (r j - M) : ℝ) : EReal) := fun j => by
    unfold rowExp
    rw [hM, ← EReal.coe_sub]
    rfl
  refine ⟨fun j => Real.exp (r j - M), ∑ j, Real.exp (r j - M), fun j => Real.exp_pos _,
    Finset.sum_pos (fun j _ => Real.exp_pos _) ⟨⟨0, hn⟩, Finset.mem_univ _⟩, he, ?_⟩
  unfold rowSum
  rw [Finset.sum_congr rfl fun j _ => he j, coe_sum]

/-- The two arrangements of the softmax gradient agree on a row of numbers, whatever the gradient of the probabilities. -/
theorem dsKernel_eq_dsDerived (s dp : Fin n → EReal) (hs : ∀ j, ∃ x : ℝ, s j = (x : EReal)) (j : Fin n) :
    dsKernel s dp j = dsDerived s dp j := by
  choose r hr using hs
  obtain rfl : s = fun j => (r j : EReal) := funext hr
  obtain ⟨e, z, he0, hz0, he, hz⟩ := rowExp_coe r (Nat.lt_of_le_of_lt (Nat.zero_le _) j.isLt)
  have hz1 : z ≠ 0 := ne_of_gt hz0
  have hzz : z * z ≠ 0 := mul_ne_zero hz1 hz1
  have hinv : 0 ≤ 1 / z := by positivity
  unfold dsKernel dsDerived prob
  simp only [he, hz]
  rw [← EReal.coe_mul]
  simp only [Ideal.div_coe hz1, Ideal.div_coe hzz]
  congr 1
  have hS : ∑ k, dp k * (1 * ((1 / (z * z) : ℝ) : EReal)) * (e k : EReal)
      = (∑ k, dp k * ((e k : EReal) * ((1 / z : ℝ) : EReal))) * ((1 / z : ℝ) : EReal) := by
    rw [sum_mul_coe _ _ hinv]
    refine Finset.sum_congr rfl fun k _ => ?_
    rw [one_mul, mul_assoc, mul_assoc, ← EReal.coe_mul, ← EReal.coe_mul, ← EReal.coe_mul]
    congr 2
    field_simp
  rw [hS, ← EReal.neg_mul, ← EReal.right_distrib_of_nonneg_of_ne_top (by exact_mod_cast hinv) (EReal.coe_ne_top _), sub_eq_add_neg]
  rw [mul_comm (dp j + _) ((1 / z : ℝ) : EReal), mul_comm _ (e j : EReal), ← mul_assoc]

end Cert.XAttn

end
-- ==== Proof.Pay.lean ====
/- What the cross-attention gradient's body stores, head by head, read at an element over the extended reals. -/
module

public import proofs.«01_k».proof.Proof.Gen.AttnIdeal.Value
public import proofs.«01_k».proof.Proof.RowMath
public import Idealize.ShloMosaic.Lib.ValueIdx

@[expose] public section

noncomputable section

namespace Cert.XAttn

open Cert.AttnIdeal Cert.AttnIdeal.Gen Idealize.ShloMosaic Idealize.ShloMosaic.ValueIdx

section AnyFloat
variable {F : FTy → Type} [FloatOps F]

/-- One head's gradient of the scores: the first head's stored term serves every head. -/
abbrev headDs (q : Vec F S1024x256 .bf16) (k v : Vec F S256x256 .bf16) (d : Vec F S1024x256 .bf16) : FVec F S1024x256 .bf16 :=
  k0_pay10 q k v d

theorem head1_dv (q : Vec F S1024x256 .bf16) (k : Vec F S256x256 .bf16) (d : Vec F S1024x256 .bf16) (x : Vec F S256x256 .f32) :
    k0_pay14 q k d x = k0_pay9 q k d x := rfl
theorem head1_dq (q : Vec F S1024x256 .bf16) (k v : Vec F S256x256 .bf16) (d : Vec F S1024x256 .bf16) :
    k0_pay17 k (k0_pay13 q k) (k0_pay15 v d) = k0_pay11 k (headDs q k v d) := rfl
theorem head1_dk (q : Vec F S1024x256 .bf16) (k v : Vec F S256x256 .bf16) (d : Vec F S1024x256 .bf16) (x : Vec F S256x256 .f32) :
    k0_pay18 q (k0_pay13 q k) (k0_pay15 v d) x = k0_pay12 q (headDs q k v d) x := rfl
theorem head2_dv (q : Vec F S1024x256 .bf16) (k : Vec F S256x256 .bf16) (d : Vec F S1024x256 .bf16) (x : Vec F S256x256 .f32) :
    k0_pay21 d (k0_pay20 q k) x = k0_pay9 q k d x := rfl
theorem head2_dq (q : Vec F S1024x256 .bf16) (k v : Vec F S256x256 .bf16) (d : Vec F S1024x256 .bf16) :
    k0_pay23 k v d (k0_pay19 q k) = k0_pay11 k (headDs q k v d) := rfl
theorem head2_dk (q : Vec F S1024x256 .bf16) (k v : Vec F S256x256 .bf16) (d : Vec F S1024x256 .bf16) (x : Vec F S256x256 .f32) :
    k0_pay24 q v d (k0_pay19 q k) x = k0_pay12 q (headDs q k v d) x := rfl
theorem head3_dv (q : Vec F S1024x256 .bf16) (k : Vec F S256x256 .bf16) (d : Vec F S1024x256 .bf16) (x : Vec F S256x256 .f32) :
    k0_pay2 d (k0_pay25 q k) (k0_pay26 q k) x = k0_pay9 q k d x := rfl
theorem head3_dq (q : Vec F S1024x256 .bf16) (k v : Vec F S256x256 .bf16) (d : Vec F S1024x256 .bf16) :
    k0_pay4 k v d (k0_pay25 q k) (k0_pay26 q k) = k0_pay11 k (headDs q k v d) := rfl
theorem head3_dk (q : Vec F S1024x256 .bf16) (k v : Vec F S256x256 .bf16) (d : Vec F S1024x256 .bf16) (x : Vec F S256x256 .f32) :
    k0_pay5 q v d (k0_pay25 q k) (k0_pay26 q k) x = k0_pay12 q (headDs q k v d) x := rfl

end AnyFloat

/-! ## The three products -/

/-- Rows against rows. -/
theorem nt_apply (a : FVec Ideal S1024x256 .bf16) (b : FVec Ideal S256x256 .bf16) (r : Fin 1024) (j : Fin 256) :
    matmul dot_S1024x256_S256x256_S1024x256_1_1_0_0_n_n none a b (constant S1024x256 .f32 0x00000000#32) (ix2 r j)
      = ∑ d : Fin 256, a (ix2 r d) * b (ix2 j d) := by
  simp only [matmul]
  rw [Ideal.matmul_constant_zero_apply, ← Equiv.sum_comp (contrEquiv1 dot_S1024x256_S256x256_S1024x256_1_1_0_0_n_n 256 rfl rfl).symm]
  refine Finset.sum_congr rfl fun d _ => ?_
  congr 2
  · funext ax
    match ax with
    | ⟨0, _⟩ => rfl
    | ⟨1, _⟩ => rfl
  · funext ax
    match ax with
    | ⟨0, _⟩ => rfl
    | ⟨1, _⟩ => rfl

/-- Rows against columns. -/
theorem nn_apply (a : FVec Ideal S1024x256 .bf16) (b : FVec Ideal S256x256 .bf16) (r : Fin 1024) (d : Fin 256) :
    matmul dot_S1024x256_S256x256_S1024x256_1_0_0_1_n_n none a b (constant S1024x256 .f32 0x00000000#32) (ix2 r d)
      = ∑ j : Fin 256, a (ix2 r j) * b (ix2 j d) := by
  simp only [matmul]
  rw [Ideal.matmul_constant_zero_apply, ← Equiv.sum_comp (contrEquiv1 dot_S1024x256_S256x256_S1024x256_1_0_0_1_n_n 256 rfl rfl).symm]
  refine Finset.sum_congr rfl fun j _ => ?_
  congr 2
  · funext ax
    match ax with
    | ⟨0, _⟩ => rfl
    | ⟨1, _⟩ => rfl
  · funext ax
    match ax with
    | ⟨0, _⟩ => rfl
    | ⟨1, _⟩ => rfl

/-- Columns against columns. -/
theorem tn_apply (a b : FVec Ideal S1024x256 .bf16) (j d : Fin 256) :
    matmul dot_S1024x256_S1024x256_S256x256_0_0_1_1_n_n none a b (constant S256x256 .f32 0x00000000#32) (ix2 j d)
      = ∑ r : Fin 1024, a (ix2 r j) * b (ix2 r d) := by
  simp only [matmul]
  rw [Ideal.matmul_constant_zero_apply, ← Equiv.sum_comp (contrEquiv1 dot_S1024x256_S1024x256_S256x256_0_0_1_1_n_n 1024 rfl rfl).symm]
  refine Finset.sum_congr rfl fun j _ => ?_
  congr 2
  · funext ax
    match ax with
    | ⟨0, _⟩ => rfl
    | ⟨1, _⟩ => rfl
  · funext ax
    match ax with
    | ⟨0, _⟩ => rfl
    | ⟨1, _⟩ => rfl

/-! ## Row reductions -/

/-- A row statistic kept as a column and spread over the row again. -/
def spread (x : FVec Ideal S1024 .f32) : FVec Ideal S1024x256 .f32 :=
  broadcastTo S1024x256 (shapeCast S1024x1 x shapeCasts_S1024_S1024x1) broadcasts_S1024x1_S1024x256
/-- The rows' sums. -/
def rowAddV (x : FVec Ideal S1024x256 .f32) : FVec Ideal S1024 .f32 :=
  multiReduction .add [1] S1024 x 0x00000000#32 reduces_S1024x256_S1024 (.inl rfl) rfl
/-- The rows' maxima. -/
def rowMaxV (x : FVec Ideal S1024x256 .f32) : FVec Ideal S1024 .f32 :=
  multiReduction .maximumf [1] S1024 x 0xFF800000#32 reduces_S1024x256_S1024 (.inl rfl) rfl

/-- The spread statistic is the statistic of the row. -/
theorem spread_apply (x : FVec Ideal S1024 .f32) (r : Fin 1024) (j : Fin 256) : spread x (ix2 r j) = x (ix1 r) := by
  refine Eq.trans (broadcastTo_apply _ _ (ix2 r j) (ix2 r 0) (fun a => match a with
    | ⟨0, _⟩ => rfl
    | ⟨1, _⟩ => rfl)) ?_
  exact shapeCast_apply x shapeCasts_S1024_S1024x1 (ix2 r 0) (ix1 r) (by
    rewrite [Shape.rowMajor_val_two, Shape.rowMajor_val_one]; show r.val = r.val * 1 + 0; omega)

/-- A row's sum. -/
theorem rowAdd_apply (x : FVec Ideal S1024x256 .f32) (r : Fin 1024) : rowAddV x (ix1 r) = ∑ j : Fin 256, x (ix2 r j) := by
  refine Eq.trans (Ideal.multiReduction_add_single _ _ _ _ _ _) ?_
  refine Finset.sum_congr rfl fun j _ => congrArg x ?_
  funext ax
  match ax with
  | ⟨0, _⟩ => rfl
  | ⟨1, _⟩ => rfl

/-- A row's maximum. -/
theorem rowMax_apply (x : FVec Ideal S1024x256 .f32) (r : Fin 1024) : rowMaxV x (ix1 r) = rowMax fun j => x (ix2 r j) := by
  refine Eq.trans (Ideal.multiReduction_maximumf_single _ _ _ _ _ _) ?_
  show Finset.fold max (Ideal.ofBits .f32 0xFF800000#32) _ _ = _
  rw [ofBits_negInf]
  unfold rowMax
  refine congrArg (fun f => Finset.fold max ⊥ f Finset.univ) (funext fun j => congrArg x ?_)
  funext ax
  match ax with
  | ⟨0, _⟩ => rfl
  | ⟨1, _⟩ => rfl

/-! ## The payloads -/

/-- A head's scores. -/
def score (q : FVec Ideal S1024x256 .bf16) (k : FVec Ideal S256x256 .bf16) (r : Fin 1024) (j : Fin 256) : EReal :=
  (∑ d : Fin 256, q (ix2 r d) * k (ix2 j d)) * cScale

/-- A head's scores as the body computes them. -/
def scoreV (q : FVec Ideal S1024x256 .bf16) (k : FVec Ideal S256x256 .bf16) : FVec Ideal S1024x256 .f32 :=
  mulf (matmul dot_S1024x256_S256x256_S1024x256_1_1_0_0_n_n none q k (constant S1024x256 .f32 0x00000000#32))
    (broadcast S1024x256 (Scalar.ofBits (F := Ideal) .f32 0x3D800000#32))
/-- Their shifted exponentials. -/
def expV (s : FVec Ideal S1024x256 .f32) : FVec Ideal S1024x256 .f32 := exp (subf s (spread (rowMaxV s)))

theorem scoreV_apply (q : FVec Ideal S1024x256 .bf16) (k : FVec Ideal S256x256 .bf16) (r : Fin 1024) (j : Fin 256) :
    scoreV q k (ix2 r j) = score q k r j := by
  unfold scoreV score
  rw [mulf_apply, nt_apply]
  rfl

theorem expV_apply (s : FVec Ideal S1024x256 .f32) (r : Fin 1024) (j : Fin 256) :
    expV s (ix2 r j) = rowExp (fun j => s (ix2 r j)) j := by
  show Ideal.exp (s (ix2 r j) - spread (rowMaxV s) (ix2 r j)) = _
  rw [spread_apply, rowMax_apply]
  rfl

theorem pay8_eq (q : FVec Ideal S1024x256 .bf16) (k : FVec Ideal S256x256 .bf16) :
    k0_pay8 (F := Ideal) q k = divf (expV (scoreV q k)) (spread (rowAddV (expV (scoreV q k)))) := rfl

/-- The stored probabilities are the row softmax of the scores. -/
theorem pay8_apply (q : FVec Ideal S1024x256 .bf16) (k : FVec Ideal S256x256 .bf16) (r : Fin 1024) (j : Fin 256) :
    k0_pay8 (F := Ideal) q k (ix2 r j) = prob (score q k r) j := by
  rw [pay8_eq]
  simp only [divf_apply, spread_apply, rowAdd_apply, expV_apply, scoreV_apply]
  rfl

/-- The gradient of the probabilities as the body computes it. -/
def dpV (v : FVec Ideal S256x256 .bf16) (d : FVec Ideal S1024x256 .bf16) : FVec Ideal S1024x256 .f32 :=
  matmul dot_S1024x256_S256x256_S1024x256_1_1_0_0_n_n none d v (constant S1024x256 .f32 0x00000000#32)

theorem pay10_eq (q : FVec Ideal S1024x256 .bf16) (k v : FVec Ideal S256x256 .bf16) (d : FVec Ideal S1024x256 .bf16) :
    k0_pay10 (F := Ideal) q k v d = truncf .bf16 (mulf (mulf (k0_pay8 q k) (subf (dpV v d) (spread (rowAddV (mulf (dpV v d) (k0_pay8 q k))))))
      (broadcast S1024x256 (Scalar.ofBits (F := Ideal) .f32 0x3D800000#32))) bitsLt_bf16_f32 := rfl

/-- The stored gradient of the scores is the kernel's arrangement on the row. -/
theorem pay10_apply (q : FVec Ideal S1024x256 .bf16) (k v : FVec Ideal S256x256 .bf16) (d : FVec Ideal S1024x256 .bf16) (r : Fin 1024) (j : Fin 256) :
    k0_pay10 (F := Ideal) q k v d (ix2 r j) = dsKernel (score q k r) (fun j => ∑ c : Fin 256, d (ix2 r c) * v (ix2 j c)) j := by
  rw [pay10_eq]
  simp only [truncf_apply, mulf_apply, subf_apply, spread_apply, rowAdd_apply, pay8_apply]
  unfold dpV dsKernel
  simp only [nt_apply]
  rfl

/-- A head's block of the gradient of `q`. -/
theorem pay11_apply (k : FVec Ideal S256x256 .bf16) (ds : FVec Ideal S1024x256 .bf16) (r : Fin 1024) (d : Fin 256) :
    k0_pay11 (F := Ideal) k ds (ix2 r d) = ∑ j : Fin 256, ds (ix2 r j) * k (ix2 j d) := by
  unfold k0_pay11
  simp only [truncf_apply, nn_apply]

/-- A head's block of the gradient of `k`, added to what was there. -/
theorem pay12_apply (q ds : FVec Ideal S1024x256 .bf16) (x : FVec Ideal S256x256 .f32) (j d : Fin 256) :
    k0_pay12 (F := Ideal) q ds x (ix2 j d) = x (ix2 j d) + ∑ r : Fin 1024, ds (ix2 r j) * q (ix2 r d) := by
  unfold k0_pay12
  simp only [addf_apply, tn_apply, shapeCast_self]

/-- A head's block of the gradient of `v`, added to what was there. -/
theorem pay9_apply (q : FVec Ideal S1024x256 .bf16) (k : FVec Ideal S256x256 .bf16) (d : FVec Ideal S1024x256 .bf16) (x : FVec Ideal S256x256 .f32) (j c : Fin 256) :
    k0_pay9 (F := Ideal) q k d x (ix2 j c) = x (ix2 j c) + ∑ r : Fin 1024, prob (score q k r) j * d (ix2 r c) := by
  unfold k0_pay9
  simp only [addf_apply, tn_apply, shapeCast_self, truncf_apply, pay8_apply]

end Cert.XAttn

end
-- ==== Proof.Blocks.lean ====
/- What the cross-attention gradient's body leaves in its three output blocks, as whole-block formulas over the extended reals. -/
module

public import proofs.«01_k».proof.Proof.Pay
public import Idealize.ShloMosaic.Lib.Pipeline.Value
public import Idealize.ShloMosaic.Lib.Pipeline.ReadBack
public import Idealize.ShloMosaic.Lib.Pipeline.ValueKit.Tiles

@[expose] public section

noncomputable section

namespace Cert.XAttn

open Cert.AttnIdeal Cert.AttnIdeal.Gen Idealize.ShloMosaic Idealize.ShloMosaic.ValueIdx Idealize.SL.Sem

/-- The head a column belongs to. -/
def headOf (c : Fin 1024) : Fin 4 := ⟨c.val / 256, by omega⟩
/-- Column `d` of head `h`. -/
def lane (h : Fin 4) (d : Fin 256) : Fin 1024 := ⟨256 * h.val + d.val, by omega⟩

theorem headOf_lane (h : Fin 4) (d : Fin 256) : headOf (lane h d) = h := Fin.ext (by
  show (256 * h.val + d.val) / 256 = h.val
  omega)

/-- The columns of one head. -/
def cols {n : ℕ} {e : EltTy} (X : Vec Ideal (⟨2, ![n, 1024]⟩ : Shape) e) (h : Fin 4) : Vec Ideal (⟨2, ![n, 256]⟩ : Shape) e :=
  fun y => X (ix2 (y 0) (lane h (y 1)))

section Formulas
variable {n : ℕ} (Q D : FVec Ideal (⟨2, ![n, 1024]⟩ : Shape) .bf16) (K V : FVec Ideal S256x1024 .bf16)

/-- A head's scaled scores of row `r`. -/
def scores (h : Fin 4) (r : Fin n) (j : Fin 256) : EReal := (∑ d : Fin 256, Q (ix2 r (lane h d)) * K (ix2 j (lane h d))) * cScale
/-- A head's gradient of the probabilities of row `r`. -/
def probGrad (h : Fin 4) (r : Fin n) (j : Fin 256) : EReal := ∑ c : Fin 256, D (ix2 r (lane h c)) * V (ix2 j (lane h c))
/-- A head's gradient of the scores of row `r`. -/
def scoreGrad (h : Fin 4) (r : Fin n) (j : Fin 256) : EReal := dsKernel (scores Q K h r) (probGrad D V h r) j
/-- The gradient of the queries. -/
def gradQ (r : Fin n) (c : Fin 1024) : EReal := ∑ j : Fin 256, scoreGrad Q D K V (headOf c) r j * K (ix2 j c)
/-- What these rows give to the gradient of the keys. -/
def gradK (j : Fin 256) (c : Fin 1024) : EReal := ∑ r : Fin n, scoreGrad Q D K V (headOf c) r j * Q (ix2 r c)
/-- What these rows give to the gradient of the values. -/
def gradV (j : Fin 256) (c : Fin 1024) : EReal := ∑ r : Fin n, prob (scores Q K (headOf c) r) j * D (ix2 r c)
end Formulas

/-! ## A head's rectangle -/

section Rectangles
variable {n : ℕ} {e : EltTy}

theorem ld_cols (X : Vec Ideal (⟨2, ![n, 1024]⟩ : Shape) e) (h : Fin 4) (off : Fin 2 → ℕ) (ho : off = ![0, 256 * h.val]) (inb) :
    View.ld X (Rect.unit off ![n, 256] inb) = cols X h := by
  subst ho
  funext y
  refine View.ld_unit_apply_of X _ _ inb y (ix2 (y 0) (lane h (y 1))) fun a => ?_
  match a with
  | ⟨0, _⟩ => exact (Nat.zero_add _).symm
  | ⟨1, _⟩ => rfl

theorem emb_cols (h : Fin 4) (off : Fin 2 → ℕ) (ho : off = ![0, 256 * h.val]) (inb) (x : (⟨2, ![n, 256]⟩ : Shape).Idx) :
    (Rect.unit (s := (⟨2, ![n, 1024]⟩ : Shape)) off ![n, 256] inb).emb x = ix2 (x 0) (lane h (x 1)) := by
  subst ho
  funext a
  refine Fin.ext ((Rect.idx_unit_val _ _ inb x a).trans ?_)
  match a with
  | ⟨0, _⟩ => exact Nat.zero_add _
  | ⟨1, _⟩ => rfl
end Rectangles

/-- Every column is in its head's rectangle. -/
theorem mem_cols {n : ℕ} (h : Fin 4) (off : Fin 2 → ℕ) (ho : off = ![0, 256 * h.val]) (inb) (y : (⟨2, ![n, 1024]⟩ : Shape).Idx) (hy : headOf (y 1) = h) :
    y ∈ (Rect.unit (s := (⟨2, ![n, 1024]⟩ : Shape)) off ![n, 256] inb).set := by
  have hv : (y 1).val / 256 = h.val := congrArg Fin.val hy
  subst ho
  rw [Rect.mem_set_unit]
  intro a
  match a with
  | ⟨0, _⟩ => exact ⟨Nat.zero_le _, (y 0).isLt.trans_eq (Nat.zero_add _).symm⟩
  | ⟨1, _⟩ => exact ⟨show 256 * h.val ≤ (y 1).val by omega, show (y 1).val < 256 * h.val + 256 by omega⟩

/-- Four heads' rectangles hold every index. -/
theorem four_cover {n : ℕ} {e : EltTy} (inb0 inb1 inb2 inb3) (w0 w1 w2 w3) (y : (⟨2, ![n, 1024]⟩ : Shape).Idx) :
    ∃ p ∈ ([⟨Rect.unit ![0, 768] ![n, 256] inb3, w3⟩, ⟨Rect.unit ![0, 512] ![n, 256] inb2, w2⟩,
      ⟨Rect.unit ![0, 256] ![n, 256] inb1, w1⟩, ⟨Rect.unit ![0, 0] ![n, 256] inb0, w0⟩] : List (View.Piece (Elt Ideal) (⟨2, ![n, 1024]⟩ : Shape) e)), y ∈ p.1.set := by
  match hh : headOf (y 1) with
  | ⟨0, _⟩ => exact ⟨_, .tail _ (.tail _ (.tail _ (.head _))), mem_cols 0 _ rfl inb0 y hh⟩
  | ⟨1, _⟩ => exact ⟨_, .tail _ (.tail _ (.head _)), mem_cols 1 _ rfl inb1 y hh⟩
  | ⟨2, _⟩ => exact ⟨_, .tail _ (.head _), mem_cols 2 _ rfl inb2 y hh⟩
  | ⟨3, _⟩ => exact ⟨_, .head _, mem_cols 3 _ rfl inb3 y hh⟩

section Pieces
variable (Q D : FVec Ideal S1024x1024 .bf16) (K V : FVec Ideal S256x1024 .bf16) (h : Fin 4)

theorem headDs_cols (r : Fin 1024) (j : Fin 256) :
    headDs (F := Ideal) (cols Q h) (cols K h) (cols V h) (cols D h) (ix2 r j) = scoreGrad Q D K V h r j := by
  unfold headDs
  rw [pay10_apply]
  rfl

theorem piece_dq (x : S1024x256.Idx) :
    k0_pay11 (F := Ideal) (cols K h) (headDs (cols Q h) (cols K h) (cols V h) (cols D h)) x = gradQ Q D K V (x 0) (lane h (x 1)) := by
  obtain ⟨r, d, rfl⟩ : ∃ r d, x = ix2 r d := ⟨x 0, x 1, eq_ix2 x⟩
  rw [pay11_apply]
  unfold gradQ
  refine Finset.sum_congr rfl fun j _ => ?_
  rw [headDs_cols]
  show _ = scoreGrad Q D K V (headOf (lane h d)) r j * K (ix2 j (lane h d))
  rw [headOf_lane]
  rfl

theorem piece_dk (X : FVec Ideal S256x1024 .f32) (x : S256x256.Idx) :
    k0_pay12 (F := Ideal) (cols Q h) (headDs (cols Q h) (cols K h) (cols V h) (cols D h)) (cols X h) x
      = X (ix2 (x 0) (lane h (x 1))) + gradK Q D K V (x 0) (lane h (x 1)) := by
  obtain ⟨j, d, rfl⟩ : ∃ j d, x = ix2 j d := ⟨x 0, x 1, eq_ix2 x⟩
  rw [pay12_apply]
  refine congrArg₂ (· + ·) rfl ?_
  unfold gradK
  refine Finset.sum_congr rfl fun r _ => ?_
  rw [headDs_cols]
  show _ = scoreGrad Q D K V (headOf (lane h d)) r j * Q (ix2 r (lane h d))
  rw [headOf_lane]
  rfl

theorem piece_dv (X : FVec Ideal S256x1024 .f32) (x : S256x256.Idx) :
    k0_pay9 (F := Ideal) (cols Q h) (cols K h) (cols D h) (cols X h) x
      = X (ix2 (x 0) (lane h (x 1))) + gradV Q D K (x 0) (lane h (x 1)) := by
  obtain ⟨j, d, rfl⟩ : ∃ j d, x = ix2 j d := ⟨x 0, x 1, eq_ix2 x⟩
  rw [pay9_apply]
  refine congrArg₂ (· + ·) rfl ?_
  unfold gradV
  refine Finset.sum_congr rfl fun r _ => ?_
  show _ = prob (scores Q K (headOf (lane h d)) r) j * D (ix2 r (lane h d))
  rw [headOf_lane]
  rfl
theorem piece_dq_of {q : FVec Ideal S1024x256 .bf16} {d : FVec Ideal S1024x256 .bf16} {k : FVec Ideal S256x256 .bf16} {v : FVec Ideal S256x256 .bf16} (hq : q = cols (n := 1024) (e := .bf16) Q h) (hd : d = cols (n := 1024) (e := .bf16) D h) (hk : k = cols (n := 256) (e := .bf16) K h) (hv : v = cols (n := 256) (e := .bf16) V h) (x : S1024x256.Idx) :
    k0_pay11 (F := Ideal) k (headDs q k v d) x = gradQ Q D K V (x 0) (lane h (x 1)) := by
  subst hq hd hk hv
  exact piece_dq Q D K V h x

theorem piece_dk_of (X : FVec Ideal S256x1024 .f32) {q : FVec Ideal S1024x256 .bf16} {d : FVec Ideal S1024x256 .bf16} {k : FVec Ideal S256x256 .bf16} {v : FVec Ideal S256x256 .bf16} {x : FVec Ideal S256x256 .f32} (hq : q = cols (n := 1024) (e := .bf16) Q h) (hd : d = cols (n := 1024) (e := .bf16) D h) (hk : k = cols (n := 256) (e := .bf16) K h) (hv : v = cols (n := 256) (e := .bf16) V h) (hx : x = cols (n := 256) (e := .f32) X h) (x' : S256x256.Idx) :
    k0_pay12 (F := Ideal) q (headDs q k v d) x x' = X (ix2 (x' 0) (lane h (x' 1))) + gradK Q D K V (x' 0) (lane h (x' 1)) := by
  subst hq hd hk hv hx
  exact piece_dk Q D K V h X x'

theorem piece_dv_of (X : FVec Ideal S256x1024 .f32) {q : FVec Ideal S1024x256 .bf16} {d : FVec Ideal S1024x256 .bf16} {k : FVec Ideal S256x256 .bf16} {x : FVec Ideal S256x256 .f32} (hq : q = cols (n := 1024) (e := .bf16) Q h) (hd : d = cols (n := 1024) (e := .bf16) D h) (hk : k = cols (n := 256) (e := .bf16) K h) (hx : x = cols (n := 256) (e := .f32) X h) (x' : S256x256.Idx) :
    k0_pay9 (F := Ideal) q k d x x' = X (ix2 (x' 0) (lane h (x' 1))) + gradV Q D K (x' 0) (lane h (x' 1)) := by
  subst hq hd hk hx
  exact piece_dv Q D K h X x'

end Pieces

/-! ## Four heads' rectangles over what was there -/

theorem off0 : (![0, 0] : Fin 2 → ℕ) = ![0, 256 * (0 : Fin 4).val] := rfl
theorem off1 : (![0, 256] : Fin 2 → ℕ) = ![0, 256 * (1 : Fin 4).val] := rfl
theorem off2 : (![0, 512] : Fin 2 → ℕ) = ![0, 256 * (2 : Fin 4).val] := rfl
theorem off3 : (![0, 768] : Fin 2 → ℕ) = ![0, 256 * (3 : Fin 4).val] := rfl

/-- Four heads' pieces of one whole-block formula make that formula. -/
theorem canon_four {n : ℕ} {e : EltTy} (G : Vec Ideal (⟨2, ![n, 1024]⟩ : Shape) e) (L' : List (View.Piece (Elt Ideal) (⟨2, ![n, 1024]⟩ : Shape) e))
    (inb0 inb1 inb2 inb3) (w0 w1 w2 w3 : Vec Ideal (⟨2, ![n, 256]⟩ : Shape) e)
    (h0 : ∀ x, w0 x = G (ix2 (x 0) (lane 0 (x 1)))) (h1 : ∀ x, w1 x = G (ix2 (x 0) (lane 1 (x 1))))
    (h2 : ∀ x, w2 x = G (ix2 (x 0) (lane 2 (x 1)))) (h3 : ∀ x, w3 x = G (ix2 (x 0) (lane 3 (x 1)))) (y : (⟨2, ![n, 1024]⟩ : Shape).Idx) :
    View.canon (⟨Rect.unit ![0, 768] ![n, 256] inb3, w3⟩ :: ⟨Rect.unit ![0, 512] ![n, 256] inb2, w2⟩
      :: ⟨Rect.unit ![0, 256] ![n, 256] inb1, w1⟩ :: ⟨Rect.unit ![0, 0] ![n, 256] inb0, w0⟩ :: L') y = G y :=
  View.canon_append_of_piecesOf G L' [_, _, _, _]
    ⟨fun x => (h3 x).trans (congrArg G (emb_cols 3 _ off3 inb3 x).symm), fun x => (h2 x).trans (congrArg G (emb_cols 2 _ off2 inb2 x).symm),
     fun x => (h1 x).trans (congrArg G (emb_cols 1 _ off1 inb1 x).symm), fun x => (h0 x).trans (congrArg G (emb_cols 0 _ off0 inb0 x).symm), trivial⟩
    y (four_cover inb0 inb1 inb2 inb3 w0 w1 w2 w3 y)

/-- Both fills are zero. -/
theorem fill_dk (y : S256x1024.Idx) : k0_pay6 (F := Ideal) y = 0 := Ideal.ofBits_zero_f32
theorem fill_dv (y : S256x1024.Idx) : k0_pay7 (F := Ideal) y = 0 := Ideal.ofBits_zero_f32

/-! ## The blocks after the body -/

variable (m : (ℓ : Loc nD τ sig) → Buf (Elt Ideal) ℓ)

/-- A later point writes its rows' gradient of the queries. -/
theorem later_dq (c : Dev nD) (t : Fin cfg0.N) (h0 : ¬t.val % 4 = 0) (y : S1024x1024.Idx) :
    (outsAt0 m c t.val t.isLt).1 y = gradQ (n := 1024) (iblk m c 0 t) (iblk m c 3 t) (iblk m c 1 t) (iblk m c 2 t) (y 0) (y 1) := by
  rw [outsAt0_B m c t h0]
  dsimp only
  unfold out0_B_4
  rw [View.read_writes_eq_canon _ _ _ (by intro y; apply cover0_B_4)]
  unfold kernelRun0_B
  dsimp only
  sl_unfold_words
  simp only [View.readAt_eq_ld, (hs0_0 t).read_unread, (hs0_1 t).read_unread, (hs0_2 t).read_unread, (hs0_3 t).read_unread]
  generalize iblk m c 0 t = Q
  generalize iblk m c 1 t = K
  generalize iblk m c 2 t = V
  generalize iblk m c 3 t = D
  refine canon_four (n := 1024) (e := .bf16) (fun y : S1024x1024.Idx => gradQ (n := 1024) Q D K V (y 0) (y 1)) [] _ _ _ _ _ _ _ _ ?_ ?_ ?_ ?_ y
  · intro x
    exact piece_dq_of Q D K V 0 (ld_cols Q 0 _ off0 _) (ld_cols D 0 _ off0 _) (ld_cols K 0 _ off0 _) (ld_cols V 0 _ off0 _) x
  · intro x
    exact (congrFun (head1_dq _ _ _ _ ) x).trans (piece_dq_of Q D K V 1 (ld_cols Q 1 _ off1 _) (ld_cols D 1 _ off1 _) (ld_cols K 1 _ off1 _) (ld_cols V 1 _ off1 _) x)
  · intro x
    exact (congrFun (head2_dq _ _ _ _ ) x).trans (piece_dq_of Q D K V 2 (ld_cols Q 2 _ off2 _) (ld_cols D 2 _ off2 _) (ld_cols K 2 _ off2 _) (ld_cols V 2 _ off2 _) x)
  · intro x
    exact (congrFun (head3_dq _ _ _ _ ) x).trans (piece_dq_of Q D K V 3 (ld_cols Q 3 _ off3 _) (ld_cols D 3 _ off3 _) (ld_cols K 3 _ off3 _) (ld_cols V 3 _ off3 _) x)

/-- A later point adds its rows' part of the gradient of the keys. -/
theorem later_dk (c : Dev nD) (t : Fin cfg0.N) (h0 : ¬t.val % 4 = 0) (y : S256x1024.Idx) :
    (outsAt0 m c t.val t.isLt).2.1 y = (outsAt0 m c (t.val - 1) (Nat.lt_of_le_of_lt (Nat.sub_le _ _) t.isLt)).2.1 y
      + gradK (n := 1024) (iblk m c 0 t) (iblk m c 3 t) (iblk m c 1 t) (iblk m c 2 t) (y 0) (y 1) := by
  rw [outsAt0_B m c t h0]
  dsimp only
  unfold out0_B_5
  rw [View.read_writes_eq_canon _ _ _ (by intro y; apply cover0_B_5)]
  unfold kernelRun0_B
  dsimp only
  sl_unfold_words
  simp only [View.readAt_eq_ld, (hs0_0 t).read_unread, (hs0_1 t).read_unread, (hs0_2 t).read_unread, (hs0_3 t).read_unread, (hs0_5 t).read_unread]
  generalize (outsAt0 m c (t.val - 1) (Nat.lt_of_le_of_lt (Nat.sub_le _ _) t.isLt)).2.1 = X
  generalize iblk m c 0 t = Q
  generalize iblk m c 1 t = K
  generalize iblk m c 2 t = V
  generalize iblk m c 3 t = D
  refine canon_four (n := 256) (e := .f32) (fun y : S256x1024.Idx => X y + gradK (n := 1024) Q D K V (y 0) (y 1)) [] _ _ _ _ _ _ _ _ ?_ ?_ ?_ ?_ y
  · intro x
    exact piece_dk_of Q D K V 0 X (ld_cols Q 0 _ off0 _) (ld_cols D 0 _ off0 _) (ld_cols K 0 _ off0 _) (ld_cols V 0 _ off0 _) (ld_cols X 0 _ off0 _) x
  · intro x
    exact (congrFun (head1_dk _ _ _ _ _ ) x).trans (piece_dk_of Q D K V 1 X (ld_cols Q 1 _ off1 _) (ld_cols D 1 _ off1 _) (ld_cols K 1 _ off1 _) (ld_cols V 1 _ off1 _) (ld_cols X 1 _ off1 _) x)
  · intro x
    exact (congrFun (head2_dk _ _ _ _ _ ) x).trans (piece_dk_of Q D K V 2 X (ld_cols Q 2 _ off2 _) (ld_cols D 2 _ off2 _) (ld_cols K 2 _ off2 _) (ld_cols V 2 _ off2 _) (ld_cols X 2 _ off2 _) x)
  · intro x
    exact (congrFun (head3_dk _ _ _ _ _ ) x).trans (piece_dk_of Q D K V 3 X (ld_cols Q 3 _ off3 _) (ld_cols D 3 _ off3 _) (ld_cols K 3 _ off3 _) (ld_cols V 3 _ off3 _) (ld_cols X 3 _ off3 _) x)

/-- A later point adds its rows' part of the gradient of the values. -/
theorem later_dv (c : Dev nD) (t : Fin cfg0.N) (h0 : ¬t.val % 4 = 0) (y : S256x1024.Idx) :
    (outsAt0 m c t.val t.isLt).2.2 y = (outsAt0 m c (t.val - 1) (Nat.lt_of_le_of_lt (Nat.sub_le _ _) t.isLt)).2.2 y
      + gradV (n := 1024) (iblk m c 0 t) (iblk m c 3 t) (iblk m c 1 t) (y 0) (y 1) := by
  rw [outsAt0_B m c t h0]
  dsimp only
  unfold out0_B_6
  rw [View.read_writes_eq_canon _ _ _ (by intro y; apply cover0_B_6)]
  unfold kernelRun0_B
  dsimp only
  sl_unfold_words
  simp only [View.readAt_eq_ld, (hs0_0 t).read_unread, (hs0_1 t).read_unread, (hs0_2 t).read_unread, (hs0_3 t).read_unread, (hs0_6 t).read_unread]
  generalize (outsAt0 m c (t.val - 1) (Nat.lt_of_le_of_lt (Nat.sub_le _ _) t.isLt)).2.2 = X
  generalize iblk m c 0 t = Q
  generalize iblk m c 1 t = K
  generalize iblk m c 2 t = V
  generalize iblk m c 3 t = D
  refine canon_four (n := 256) (e := .f32) (fun y : S256x1024.Idx => X y + gradV (n := 1024) Q D K (y 0) (y 1)) [] _ _ _ _ _ _ _ _ ?_ ?_ ?_ ?_ y
  · intro x
    exact piece_dv_of Q D K 0 X (ld_cols Q 0 _ off0 _) (ld_cols D 0 _ off0 _) (ld_cols K 0 _ off0 _) (ld_cols X 0 _ off0 _) x
  · intro x
    exact (congrFun (head1_dv _ _ _ _ ) x).trans (piece_dv_of Q D K 1 X (ld_cols Q 1 _ off1 _) (ld_cols D 1 _ off1 _) (ld_cols K 1 _ off1 _) (ld_cols X 1 _ off1 _) x)
  · intro x
    exact (congrFun (head2_dv _ _ _ _ ) x).trans (piece_dv_of Q D K 2 X (ld_cols Q 2 _ off2 _) (ld_cols D 2 _ off2 _) (ld_cols K 2 _ off2 _) (ld_cols X 2 _ off2 _) x)
  · intro x
    exact (congrFun (head3_dv _ _ _ _ ) x).trans (piece_dv_of Q D K 3 X (ld_cols Q 3 _ off3 _) (ld_cols D 3 _ off3 _) (ld_cols K 3 _ off3 _) (ld_cols X 3 _ off3 _) x)

/-- The first point writes its rows' gradient of the queries. -/
theorem first_dq (c : Dev nD) (t : Fin cfg0.N) (h0 : t.val % 4 = 0) (y : S1024x1024.Idx) :
    (outsAt0 m c t.val t.isLt).1 y = gradQ (n := 1024) (iblk m c 0 t) (iblk m c 3 t) (iblk m c 1 t) (iblk m c 2 t) (y 0) (y 1) := by
  rw [outsAt0_A m c t h0]
  dsimp only
  unfold out0_A_4
  rw [View.read_writes_eq_canon _ _ _ (by intro y; apply cover0_A_4)]
  unfold kernelRun0_A
  dsimp only
  sl_unfold_words
  simp only [View.readAt_eq_ld, (hs0_0 t).read_unread, (hs0_1 t).read_unread, (hs0_2 t).read_unread, (hs0_3 t).read_unread]
  generalize iblk m c 0 t = Q
  generalize iblk m c 1 t = K
  generalize iblk m c 2 t = V
  generalize iblk m c 3 t = D
  refine canon_four (n := 1024) (e := .bf16) (fun y : S1024x1024.Idx => gradQ (n := 1024) Q D K V (y 0) (y 1)) [] _ _ _ _ _ _ _ _ ?_ ?_ ?_ ?_ y
  · intro x
    exact piece_dq_of Q D K V 0 (ld_cols Q 0 _ off0 _) (ld_cols D 0 _ off0 _) (ld_cols K 0 _ off0 _) (ld_cols V 0 _ off0 _) x
  · intro x
    exact (congrFun (head1_dq _ _ _ _ ) x).trans (piece_dq_of Q D K V 1 (ld_cols Q 1 _ off1 _) (ld_cols D 1 _ off1 _) (ld_cols K 1 _ off1 _) (ld_cols V 1 _ off1 _) x)
  · intro x
    exact (congrFun (head2_dq _ _ _ _ ) x).trans (piece_dq_of Q D K V 2 (ld_cols Q 2 _ off2 _) (ld_cols D 2 _ off2 _) (ld_cols K 2 _ off2 _) (ld_cols V 2 _ off2 _) x)
  · intro x
    exact (congrFun (head3_dq _ _ _ _ ) x).trans (piece_dq_of Q D K V 3 (ld_cols Q 3 _ off3 _) (ld_cols D 3 _ off3 _) (ld_cols K 3 _ off3 _) (ld_cols V 3 _ off3 _) x)

/-- The first point leaves its rows' part of the gradient of the keys. -/
theorem first_dk (c : Dev nD) (t : Fin cfg0.N) (h0 : t.val % 4 = 0) (y : S256x1024.Idx) :
    (outsAt0 m c t.val t.isLt).2.1 y = gradK (n := 1024) (iblk m c 0 t) (iblk m c 3 t) (iblk m c 1 t) (iblk m c 2 t) (y 0) (y 1) := by
  rw [outsAt0_A m c t h0]
  dsimp only
  unfold out0_A_5
  rw [View.read_writes_eq_canon _ _ _ (by intro y; apply cover0_A_5)]
  unfold kernelRun0_A
  dsimp only
  sl_unfold_words
  simp only [View.readAt_eq_ld, (hs0_0 t).read_unread, (hs0_1 t).read_unread, (hs0_2 t).read_unread, (hs0_3 t).read_unread]
  generalize iblk m c 0 t = Q
  generalize iblk m c 1 t = K
  generalize iblk m c 2 t = V
  generalize iblk m c 3 t = D
  simp (disch := decide) only [View.readCov_skip, View.readCov_fill]
  refine Eq.trans (canon_four (n := 256) (e := .f32) (fun y : S256x1024.Idx => (k0_pay6 (F := Ideal)) y + gradK (n := 1024) Q D K V (y 0) (y 1)) [_] _ _ _ _ _ _ _ _ ?_ ?_ ?_ ?_ y) ?_
  · intro x
    exact piece_dk_of Q D K V 0 k0_pay6 (ld_cols Q 0 _ off0 _) (ld_cols D 0 _ off0 _) (ld_cols K 0 _ off0 _) (ld_cols V 0 _ off0 _) (ld_cols (n := 256) (e := .f32) (k0_pay6 (F := Ideal)) 0 _ off0 _) x
  · intro x
    exact (congrFun (head1_dk _ _ _ _ _ ) x).trans (piece_dk_of Q D K V 1 k0_pay6 (ld_cols Q 1 _ off1 _) (ld_cols D 1 _ off1 _) (ld_cols K 1 _ off1 _) (ld_cols V 1 _ off1 _) (ld_cols (n := 256) (e := .f32) (k0_pay6 (F := Ideal)) 1 _ off1 _) x)
  · intro x
    exact (congrFun (head2_dk _ _ _ _ _ ) x).trans (piece_dk_of Q D K V 2 k0_pay6 (ld_cols Q 2 _ off2 _) (ld_cols D 2 _ off2 _) (ld_cols K 2 _ off2 _) (ld_cols V 2 _ off2 _) (ld_cols (n := 256) (e := .f32) (k0_pay6 (F := Ideal)) 2 _ off2 _) x)
  · intro x
    exact (congrFun (head3_dk _ _ _ _ _ ) x).trans (piece_dk_of Q D K V 3 k0_pay6 (ld_cols Q 3 _ off3 _) (ld_cols D 3 _ off3 _) (ld_cols K 3 _ off3 _) (ld_cols V 3 _ off3 _) (ld_cols (n := 256) (e := .f32) (k0_pay6 (F := Ideal)) 3 _ off3 _) x)
  show k0_pay6 (F := Ideal) y + _ = _
  rw [fill_dk, zero_add]

/-- The first point leaves its rows' part of the gradient of the values. -/
theorem first_dv (c : Dev nD) (t : Fin cfg0.N) (h0 : t.val % 4 = 0) (y : S256x1024.Idx) :
    (outsAt0 m c t.val t.isLt).2.2 y = gradV (n := 1024) (iblk m c 0 t) (iblk m c 3 t) (iblk m c 1 t) (y 0) (y 1) := by
  rw [outsAt0_A m c t h0]
  dsimp only
  unfold out0_A_6
  rw [View.read_writes_eq_canon _ _ _ (by intro y; apply cover0_A_6)]
  unfold kernelRun0_A
  dsimp only
  sl_unfold_words
  simp only [View.readAt_eq_ld, (hs0_0 t).read_unread, (hs0_1 t).read_unread, (hs0_2 t).read_unread, (hs0_3 t).read_unread]
  generalize iblk m c 0 t = Q
  generalize iblk m c 1 t = K
  generalize iblk m c 2 t = V
  generalize iblk m c 3 t = D
  simp (disch := decide) only [View.readCov_skip, View.readCov_fill]
  refine Eq.trans (canon_four (n := 256) (e := .f32) (fun y : S256x1024.Idx => (k0_pay7 (F := Ideal)) y + gradV (n := 1024) Q D K (y 0) (y 1)) [_] _ _ _ _ _ _ _ _ ?_ ?_ ?_ ?_ y) ?_
  · intro x
    exact piece_dv_of Q D K 0 k0_pay7 (ld_cols Q 0 _ off0 _) (ld_cols D 0 _ off0 _) (ld_cols K 0 _ off0 _) (ld_cols (n := 256) (e := .f32) (k0_pay7 (F := Ideal)) 0 _ off0 _) x
  · intro x
    exact (congrFun (head1_dv _ _ _ _ ) x).trans (piece_dv_of Q D K 1 k0_pay7 (ld_cols Q 1 _ off1 _) (ld_cols D 1 _ off1 _) (ld_cols K 1 _ off1 _) (ld_cols (n := 256) (e := .f32) (k0_pay7 (F := Ideal)) 1 _ off1 _) x)
  · intro x
    exact (congrFun (head2_dv _ _ _ _ ) x).trans (piece_dv_of Q D K 2 k0_pay7 (ld_cols Q 2 _ off2 _) (ld_cols D 2 _ off2 _) (ld_cols K 2 _ off2 _) (ld_cols (n := 256) (e := .f32) (k0_pay7 (F := Ideal)) 2 _ off2 _) x)
  · intro x
    exact (congrFun (head3_dv _ _ _ _ ) x).trans (piece_dv_of Q D K 3 k0_pay7 (ld_cols Q 3 _ off3 _) (ld_cols D 3 _ off3 _) (ld_cols K 3 _ off3 _) (ld_cols (n := 256) (e := .f32) (k0_pay7 (F := Ideal)) 3 _ off3 _) x)
  show k0_pay7 (F := Ideal) y + _ = _
  rw [fill_dv, zero_add]

end Cert.XAttn

end
-- ==== Proof.Arrays.lean ====
/- The three output arrays of the cross-attention gradient after the whole grid, as functions of the argument arrays. -/
module

public import proofs.«01_k».proof.Proof.Blocks

@[expose] public section

noncomputable section

namespace Cert.XAttn

open Cert.AttnIdeal Cert.AttnIdeal.Gen Idealize.ShloMosaic Idealize.ShloMosaic.ValueIdx Idealize.SL.Sem

/-- Row `r` of block `t`. -/
def row (t : Fin 4) (r : Fin 1024) : Fin 4096 := ⟨1024 * t.val + r.val, by omega⟩

/-- Block `t` of a tall array. -/
def rows (X : FVec Ideal S4096x1024 .bf16) (t : Fin 4) : FVec Ideal S1024x1024 .bf16 := fun y => X (ix2 (row t (y 0)) (y 1))

/-- A sum over all rows is the sum over the blocks of the sums over their rows. -/
theorem sum_rows (f : Fin 4096 → EReal) : ∑ r, f r = ∑ t : Fin 4, ∑ r : Fin 1024, f (row t r) := by
  rw [← Fintype.sum_prod_type', ← Equiv.sum_comp (finProdFinEquiv (m := 4) (n := 1024))]
  refine Finset.sum_congr rfl fun p _ => congrArg f (Fin.ext ?_)
  show p.2.val + 1024 * p.1.val = 1024 * p.1.val + p.2.val
  exact Nat.add_comm _ _

section Sums
variable (Q D : FVec Ideal S4096x1024 .bf16) (K V : FVec Ideal S256x1024 .bf16)

theorem gradQ_rows (t : Fin 4) (r : Fin 1024) (c : Fin 1024) : gradQ (rows Q t) (rows D t) K V r c = gradQ Q D K V (row t r) c := rfl

theorem gradK_rows (j : Fin 256) (c : Fin 1024) : gradK Q D K V j c = ∑ t : Fin 4, gradK (rows Q t) (rows D t) K V j c := sum_rows _

theorem gradV_rows (j : Fin 256) (c : Fin 1024) : gradV Q D K j c = ∑ t : Fin 4, gradV (rows Q t) (rows D t) K j c := sum_rows _
end Sums

variable (m : (ℓ : Loc nD τ sig) → Buf (Elt Ideal) ℓ)

abbrev argQ (c : Dev nD) : FVec Ideal S4096x1024 .bf16 := m ((c.tc : Thread nD τ).loc main_arg0)
abbrev argK (c : Dev nD) : FVec Ideal S256x1024 .bf16 := m ((c.tc : Thread nD τ).loc main_arg1)
abbrev argV (c : Dev nD) : FVec Ideal S256x1024 .bf16 := m ((c.tc : Thread nD τ).loc main_arg2)
abbrev argD (c : Dev nD) : FVec Ideal S4096x1024 .bf16 := m ((c.tc : Thread nD τ).loc main_arg3)

/-- The grid's point as a block number. -/
abbrev blockOf (t : Fin cfg0.N) : Fin 4 := ⟨t.val, t.isLt.trans_eq N_0⟩

/-! ## The blocks the points load -/

theorem at0 : ∀ t : Fin grid0.N, win0_0.index t 0 * win0_0.size 0 = 1024 * t.val ∧ win0_0.index t 1 * win0_0.size 1 = 0 := by decide +kernel
theorem at3 : ∀ t : Fin grid0.N, win0_3.index t 0 * win0_3.size 0 = 1024 * t.val ∧ win0_3.index t 1 * win0_3.size 1 = 0 := by decide +kernel
theorem at4 : ∀ t : Fin grid0.N, win0_4.index t 0 * win0_4.size 0 = 1024 * t.val ∧ win0_4.index t 1 * win0_4.size 1 = 0 := by decide +kernel
theorem at1 : ∀ t : Fin grid0.N, win0_1.index t 0 * win0_1.size 0 = 0 ∧ win0_1.index t 1 * win0_1.size 1 = 0 := by decide +kernel
theorem at2 : ∀ t : Fin grid0.N, win0_2.index t 0 * win0_2.size 0 = 0 ∧ win0_2.index t 1 * win0_2.size 1 = 0 := by decide +kernel
theorem at5 : ∀ t : Fin grid0.N, win0_5.index t 0 * win0_5.size 0 = 0 ∧ win0_5.index t 1 * win0_5.size 1 = 0 := by decide +kernel
theorem at6 : ∀ t : Fin grid0.N, win0_6.index t 0 * win0_6.size 0 = 0 ∧ win0_6.index t 1 * win0_6.size 1 = 0 := by decide +kernel

theorem emb0 (t : Fin cfg0.N) (y : S1024x1024.Idx) : (win0_0.rect t).emb y = ix2 (row (blockOf t) (y 0)) (y 1) := by
  funext a
  refine Fin.ext ((win0_0.rect_emb_val t y a).trans ?_)
  match a with
  | ⟨0, _⟩ => exact congrArg (· + (y 0).val) (at0 t).1
  | ⟨1, _⟩ => exact (congrArg (· + (y 1).val) (at0 t).2).trans (Nat.zero_add _)
theorem emb3 (t : Fin cfg0.N) (y : S1024x1024.Idx) : (win0_3.rect t).emb y = ix2 (row (blockOf t) (y 0)) (y 1) := by
  funext a
  refine Fin.ext ((win0_3.rect_emb_val t y a).trans ?_)
  match a with
  | ⟨0, _⟩ => exact congrArg (· + (y 0).val) (at3 t).1
  | ⟨1, _⟩ => exact (congrArg (· + (y 1).val) (at3 t).2).trans (Nat.zero_add _)
theorem emb4 (t : Fin cfg0.N) (y : S1024x1024.Idx) : (win0_4.rect t).emb y = ix2 (row (blockOf t) (y 0)) (y 1) := by
  funext a
  refine Fin.ext ((win0_4.rect_emb_val t y a).trans ?_)
  match a with
  | ⟨0, _⟩ => exact congrArg (· + (y 0).val) (at4 t).1
  | ⟨1, _⟩ => exact (congrArg (· + (y 1).val) (at4 t).2).trans (Nat.zero_add _)
theorem emb1 (t : Fin cfg0.N) (y : S256x1024.Idx) : (win0_1.rect t).emb y = y := by
  funext a
  refine Fin.ext ((win0_1.rect_emb_val t y a).trans ?_)
  match a with
  | ⟨0, _⟩ => exact (congrArg (· + (y 0).val) (at1 t).1).trans (Nat.zero_add _)
  | ⟨1, _⟩ => exact (congrArg (· + (y 1).val) (at1 t).2).trans (Nat.zero_add _)
theorem emb2 (t : Fin cfg0.N) (y : S256x1024.Idx) : (win0_2.rect t).emb y = y := by
  funext a
  refine Fin.ext ((win0_2.rect_emb_val t y a).trans ?_)
  match a with
  | ⟨0, _⟩ => exact (congrArg (· + (y 0).val) (at2 t).1).trans (Nat.zero_add _)
  | ⟨1, _⟩ => exact (congrArg (· + (y 1).val) (at2 t).2).trans (Nat.zero_add _)
theorem emb5 (t : Fin cfg0.N) (y : S256x1024.Idx) : (win0_5.rect t).emb y = y := by
  funext a
  refine Fin.ext ((win0_5.rect_emb_val t y a).trans ?_)
  match a with
  | ⟨0, _⟩ => exact (congrArg (· + (y 0).val) (at5 t).1).trans (Nat.zero_add _)
  | ⟨1, _⟩ => exact (congrArg (· + (y 1).val) (at5 t).2).trans (Nat.zero_add _)
theorem emb6 (t : Fin cfg0.N) (y : S256x1024.Idx) : (win0_6.rect t).emb y = y := by
  funext a
  refine Fin.ext ((win0_6.rect_emb_val t y a).trans ?_)
  match a with
  | ⟨0, _⟩ => exact (congrArg (· + (y 0).val) (at6 t).1).trans (Nat.zero_add _)
  | ⟨1, _⟩ => exact (congrArg (· + (y 1).val) (at6 t).2).trans (Nat.zero_add _)

theorem iblk0_eq (c : Dev nD) (t : Fin cfg0.N) : iblk m c 0 t = rows (argQ m c) (blockOf t) := by
  funext y
  show V m c main_arg0 ((win0_0.rect t).emb y) = _
  rw [V_main_arg0, emb0]
  rfl
theorem iblk3_eq (c : Dev nD) (t : Fin cfg0.N) : iblk m c 3 t = rows (argD m c) (blockOf t) := by
  funext y
  show V m c main_arg3 ((win0_3.rect t).emb y) = _
  rw [V_main_arg3, emb3]
  rfl
theorem iblk1_eq (c : Dev nD) (t : Fin cfg0.N) : iblk m c 1 t = argK m c := by
  funext y
  show V m c main_arg1 ((win0_1.rect t).emb y) = _
  rw [V_main_arg1, emb1]
theorem iblk2_eq (c : Dev nD) (t : Fin cfg0.N) : iblk m c 2 t = argV m c := by
  funext y
  show V m c main_arg2 ((win0_2.rect t).emb y) = _
  rw [V_main_arg2, emb2]

/-! ## The staging blocks after each point -/

theorem left_dq (c : Dev nD) (t : Fin cfg0.N) (y : S1024x1024.Idx) :
    (outsAt0 m c t.val t.isLt).1 y = gradQ (argQ m c) (argD m c) (argK m c) (argV m c) (row (blockOf t) (y 0)) (y 1) := by
  have h : (outsAt0 m c t.val t.isLt).1 y = gradQ (n := 1024) (iblk m c 0 t) (iblk m c 3 t) (iblk m c 1 t) (iblk m c 2 t) (y 0) (y 1) := by
    by_cases h0 : t.val % 4 = 0
    · exact first_dq m c t h0 y
    · exact later_dq m c t h0 y
  refine h.trans ?_
  rw [iblk0_eq, iblk3_eq, iblk1_eq, iblk2_eq]
  rfl

/-- What block `t` gives to the keys' gradient. -/
def addK (c : Dev nD) (t : Fin 4) (y : S256x1024.Idx) : EReal := gradK (rows (argQ m c) t) (rows (argD m c) t) (argK m c) (argV m c) (y 0) (y 1)
/-- What block `t` gives to the values' gradient. -/
def addV (c : Dev nD) (t : Fin 4) (y : S256x1024.Idx) : EReal := gradV (rows (argQ m c) t) (rows (argD m c) t) (argK m c) (y 0) (y 1)

theorem stepA_dk (c : Dev nD) (t : Fin cfg0.N) (h0 : t.val % 4 = 0) (y : S256x1024.Idx) : (outsAt0 m c t.val t.isLt).2.1 y = addK m c (blockOf t) y := by
  refine (first_dk m c t h0 y).trans ?_
  rw [iblk0_eq, iblk3_eq, iblk1_eq, iblk2_eq]
  rfl
theorem stepA_dv (c : Dev nD) (t : Fin cfg0.N) (h0 : t.val % 4 = 0) (y : S256x1024.Idx) : (outsAt0 m c t.val t.isLt).2.2 y = addV m c (blockOf t) y := by
  refine (first_dv m c t h0 y).trans ?_
  rw [iblk0_eq, iblk3_eq, iblk1_eq]
  rfl
theorem stepB_dk (c : Dev nD) (t : Fin cfg0.N) (h0 : ¬t.val % 4 = 0) (y : S256x1024.Idx) :
    (outsAt0 m c t.val t.isLt).2.1 y = (outsAt0 m c (t.val - 1) (Nat.lt_of_le_of_lt (Nat.sub_le _ _) t.isLt)).2.1 y + addK m c (blockOf t) y := by
  refine (later_dk m c t h0 y).trans ?_
  rw [iblk0_eq, iblk3_eq, iblk1_eq, iblk2_eq]
  rfl
theorem stepB_dv (c : Dev nD) (t : Fin cfg0.N) (h0 : ¬t.val % 4 = 0) (y : S256x1024.Idx) :
    (outsAt0 m c t.val t.isLt).2.2 y = (outsAt0 m c (t.val - 1) (Nat.lt_of_le_of_lt (Nat.sub_le _ _) t.isLt)).2.2 y + addV m c (blockOf t) y := by
  refine (later_dv m c t h0 y).trans ?_
  rw [iblk0_eq, iblk3_eq, iblk1_eq]
  rfl

theorem lt_N (n : ℕ) (h : n < 4) : n < cfg0.N := h.trans_eq N_0.symm

/-- After the last point the keys' block holds the sum over all rows. -/
theorem last_dk (c : Dev nD) (y : S256x1024.Idx) :
    (outsAt0 m c 3 (lt_N 3 (by decide))).2.1 y = gradK (argQ m c) (argD m c) (argK m c) (argV m c) (y 0) (y 1) := by
  refine Eq.trans ?_ ((gradK_rows _ _ _ _ _ _).trans (Fin.sum_univ_four _)).symm
  refine (stepB_dk m c ⟨3, lt_N 3 (by decide)⟩ (by decide) y).trans (congrArg₂ (· + ·) ?_ rfl)
  refine (stepB_dk m c ⟨2, lt_N 2 (by decide)⟩ (by decide) y).trans (congrArg₂ (· + ·) ?_ rfl)
  refine (stepB_dk m c ⟨1, lt_N 1 (by decide)⟩ (by decide) y).trans (congrArg₂ (· + ·) ?_ rfl)
  exact stepA_dk m c ⟨0, lt_N 0 (by decide)⟩ rfl y
/-- After the last point the values' block holds the sum over all rows. -/
theorem last_dv (c : Dev nD) (y : S256x1024.Idx) :
    (outsAt0 m c 3 (lt_N 3 (by decide))).2.2 y = gradV (argQ m c) (argD m c) (argK m c) (y 0) (y 1) := by
  refine Eq.trans ?_ ((gradV_rows _ _ _ _ _).trans (Fin.sum_univ_four _)).symm
  refine (stepB_dv m c ⟨3, lt_N 3 (by decide)⟩ (by decide) y).trans (congrArg₂ (· + ·) ?_ rfl)
  refine (stepB_dv m c ⟨2, lt_N 2 (by decide)⟩ (by decide) y).trans (congrArg₂ (· + ·) ?_ rfl)
  refine (stepB_dv m c ⟨1, lt_N 1 (by decide)⟩ (by decide) y).trans (congrArg₂ (· + ·) ?_ rfl)
  exact stepA_dv m c ⟨0, lt_N 0 (by decide)⟩ rfl y

/-! ## The arrays -/

/-- The queries' gradient. -/
def resQ (c : Dev nD) : FVec Ideal S4096x1024 .bf16 := fun y => gradQ (argQ m c) (argD m c) (argK m c) (argV m c) (y 0) (y 1)
/-- The keys' gradient. -/
def resK (c : Dev nD) : FVec Ideal S256x1024 .f32 := fun y => gradK (argQ m c) (argD m c) (argK m c) (argV m c) (y 0) (y 1)
/-- The values' gradient. -/
def resV (c : Dev nD) : FVec Ideal S256x1024 .f32 := fun y => gradV (argQ m c) (argD m c) (argK m c) (y 0) (y 1)

theorem lt3 : 3 < cfg0.N := lt_N 3 (by decide)

/-- A place of a view lies in the view's set. -/
theorem mem_of_emb {κ : Kind} {sp : Space} {s : Shape} {e : EltTy} (v : View sig κ sp s e) (x : s.Idx) (i : v.ty.Idx) (h : v.emb x = i) : i ∈ v.set := h ▸ v.emb_mem_set x

theorem array_dq (c : Dev nD) : (dats m 0 c).arrAt 4 cfg0.N = resQ m c := by
  refine (dats m 0 c).arrAt_eq_of_cover 4 (resQ m c) (fun t hf => ?_) fun i => ?_
  · funext y
    refine (congrFun (Cert.AttnIdeal.Value.flushed4 m c t) y).trans ((left_dq m c t y).trans ?_)
    show _ = resQ m c ((win0_4.rect t).emb y)
    rw [emb4]
    rfl
  · have h0 : (i 0).val < 4096 := (i 0).isLt
    have ht : (i 0).val / 1024 < cfg0.N := lt_N _ (by omega)
    refine ⟨⟨(i 0).val / 1024, ht⟩, flush0_4 _, ?_⟩
    refine mem_of_emb ((cfg0.win 4).blk ⟨(i 0).val / 1024, ht⟩).view (ix2 ⟨(i 0).val % 1024, Nat.mod_lt _ (by decide)⟩ (i 1)) i ?_
    refine (emb4 ⟨(i 0).val / 1024, ht⟩ (ix2 ⟨(i 0).val % 1024, Nat.mod_lt _ (by decide)⟩ (i 1))).trans ?_
    funext a
    match a with
    | ⟨0, _⟩ => exact Fin.ext (Nat.div_add_mod _ _)
    | ⟨1, _⟩ => rfl

theorem array_dk (c : Dev nD) : (dats m 0 c).arrAt 5 cfg0.N = resK m c := by
  refine (dats m 0 c).arrAt_eq_of_cover 5 (resK m c) (fun t hf => ?_) fun i => ?_
  · have h3 : t.val = 3 := by
      have hN : cfg0.N = 4 := N_0
      have := (flush0_5 t).mp hf; have := t.isLt; omega
    obtain rfl : t = ⟨3, lt_N 3 (by decide)⟩ := Fin.ext h3
    funext y
    refine (congrFun (Cert.AttnIdeal.Value.flushed5 m c _) y).trans ((last_dk m c y).trans ?_)
    show _ = resK m c ((win0_5.rect _).emb y)
    rw [emb5]
    rfl
  · refine ⟨⟨3, lt_N 3 (by decide)⟩, (flush0_5 _).mpr rfl, ?_⟩
    exact mem_of_emb ((cfg0.win 5).blk ⟨3, lt3⟩).view i i (emb5 _ i)

theorem array_dv (c : Dev nD) : (dats m 0 c).arrAt 6 cfg0.N = resV m c := by
  refine (dats m 0 c).arrAt_eq_of_cover 6 (resV m c) (fun t hf => ?_) fun i => ?_
  · have h3 : t.val = 3 := by
      have hN : cfg0.N = 4 := N_0
      have := (flush0_6 t).mp hf; have := t.isLt; omega
    obtain rfl : t = ⟨3, lt_N 3 (by decide)⟩ := Fin.ext h3
    funext y
    refine (congrFun (Cert.AttnIdeal.Value.flushed6 m c _) y).trans ((last_dv m c y).trans ?_)
    show _ = resV m c ((win0_6.rect _).emb y)
    rw [emb6]
    rfl
  · refine ⟨⟨3, lt_N 3 (by decide)⟩, (flush0_6 _).mpr rfl, ?_⟩
    exact mem_of_emb ((cfg0.win 6).blk ⟨3, lt3⟩).view i i (emb6 _ i)

end Cert.XAttn

end
-- ==== Proof.RefReduce.lean ====
/- The reference's two reductions that are not single-axis sums: a row's maximum, and a sum over two axes of extent one. -/
module

public import proofs.«01_k».proof.Proof.RowMath
public import proofs.«01_k».proof.Proof.Gen.AttnRefIdeal.Read
import Idealize.ShloMosaic.Lib.Pointwise.Reduce

@[expose] public section

noncomputable section

namespace Cert.XAttn.Ref

open Cert.AttnRefIdeal Cert.AttnRefIdeal.Gen Idealize.ShloMosaic Idealize.SL.Sem

/-- A maximum over the last axis from minus infinity. -/
theorem max_last (x : FVec Ideal S1x4x4096x256 .f32) (h : Fin 4) (r : Fin 4096) :
    Host.reduce FloatOps.maximumf x (constant S_ .f32 0xFF800000#32) reducesTo_S1x4x4096x256_S1x4x4096_d3 h_S_ (ValueIdx.ix3 (0 : Fin 1) h r)
      = rowMax fun j => x (ValueIdx.ix4 (0 : Fin 1) h r j) := by
  simp only [pointwise]
  exact congrArg (fun b => Finset.fold max b _ _) ofBits_negInf

/-- A sum over two axes of extent one is its one term. -/
theorem sum_units (x : FVec Ideal S1x4x4096x1 .f32) (h : Fin 4) (r : Fin 4096) :
    Ideal.hostReduceAdd reducesTo_S1x4x4096x1_S4x4096_d0_3 x 0 (ValueIdx.ix2 h r) = x (ValueIdx.ix4 (0 : Fin 1) h r (0 : Fin 1)) := by
  unfold Ideal.hostReduceAdd
  rw [zero_add]
  refine Finset.sum_eq_single_of_mem (ValueIdx.ix4 (0 : Fin 1) h r (0 : Fin 1)) (Finset.mem_filter.mpr ⟨Finset.mem_univ _, ?_⟩) fun i hi hne => ?_
  · funext b
    match b with
    | ⟨0, _⟩ => rfl
    | ⟨1, _⟩ => rfl
  · have e := (Finset.mem_filter.mp hi).2
    refine absurd (funext fun a => ?_) hne
    match a with
    | ⟨0, _⟩ => exact Fin.ext (Nat.lt_one_iff.mp (i 0).isLt)
    | ⟨1, _⟩ => exact Fin.ext (congrArg Fin.val (congrFun e 0))
    | ⟨2, _⟩ => exact Fin.ext (congrArg Fin.val (congrFun e 1))
    | ⟨3, _⟩ => exact Fin.ext (Nat.lt_one_iff.mp (i 3).isLt)

end Cert.XAttn.Ref

end
-- ==== Proof.RefValue.lean ====
/- The reference's three results read at an index: the gradients of the cross-attention's queries, keys and values as
   the formulas of Blocks.lean, with the scores' gradient in the form differentiation gives it. -/
module

public import proofs.«01_k».proof.Proof.Blocks
public import proofs.«01_k».proof.Proof.Gen.AttnRefIdeal.Read
public import proofs.«01_k».proof.Proof.RefReduce

@[expose] public section

noncomputable section

namespace Cert.XAttn.Ref

open Cert.AttnRefIdeal Cert.AttnRefIdeal.Gen Cert.AttnRefIdeal.Read Idealize.ShloMosaic Idealize.ShloMosaic.ValueIdx Idealize.SL.Sem

variable (Q D : FVec Ideal S4096x1024 .bf16) (K V : FVec Ideal S256x1024 .bf16)

/-- The queries split into heads. -/
theorem q4 (r : Fin 4096) (h : Fin 4) (d : Fin 256) : val_main_v4 (F := Ideal) Q (ix4 (0 : Fin 1) r h d) = Q (ix2 r (lane h d)) := by
  refine (val_main_v4_apply (F := Ideal) Q _).trans (congrArg Q ?_)
  funext a
  match a with
  | ⟨0, _⟩ => exact Fin.ext (by show ((((0 : ℕ) * 4096 + r.val) * 4 + h.val) * 256 + d.val) / 1024 = r.val; omega)
  | ⟨1, _⟩ => exact Fin.ext (by show ((((0 : ℕ) * 4096 + r.val) * 4 + h.val) * 256 + d.val) % 1024 = 256 * h.val + d.val; omega)

/-- The keys split into heads. -/
theorem k4 (j : Fin 256) (h : Fin 4) (d : Fin 256) : val_main_v5 (F := Ideal) K (ix4 (0 : Fin 1) j h d) = K (ix2 j (lane h d)) := by
  refine (val_main_v5_apply (F := Ideal) K _).trans (congrArg K ?_)
  funext a
  match a with
  | ⟨0, _⟩ => exact Fin.ext (by show ((((0 : ℕ) * 256 + j.val) * 4 + h.val) * 256 + d.val) / 1024 = j.val; omega)
  | ⟨1, _⟩ => exact Fin.ext (by show ((((0 : ℕ) * 256 + j.val) * 4 + h.val) * 256 + d.val) % 1024 = 256 * h.val + d.val; omega)

/-- The values split into heads. -/
theorem v4 (j : Fin 256) (h : Fin 4) (d : Fin 256) : val_main_v6 (F := Ideal) V (ix4 (0 : Fin 1) j h d) = V (ix2 j (lane h d)) := by
  refine (val_main_v6_apply (F := Ideal) V _).trans (congrArg V ?_)
  funext a
  match a with
  | ⟨0, _⟩ => exact Fin.ext (by show ((((0 : ℕ) * 256 + j.val) * 4 + h.val) * 256 + d.val) / 1024 = j.val; omega)
  | ⟨1, _⟩ => exact Fin.ext (by show ((((0 : ℕ) * 256 + j.val) * 4 + h.val) * 256 + d.val) % 1024 = 256 * h.val + d.val; omega)

/-- The output's gradient split into heads, its rows last. -/
theorem d4 (h : Fin 4) (d : Fin 256) (r : Fin 4096) : val_main_v42 (F := Ideal) D (ix4 (0 : Fin 1) h d r) = D (ix2 r (lane h d)) := by
  refine (val_main_v42_apply (F := Ideal) D _).trans ((val_main_v41_apply (F := Ideal) D _).trans (congrArg D ?_))
  funext a
  match a with
  | ⟨0, _⟩ => exact Fin.ext (by show ((((0 : ℕ) * 4096 + r.val) * 4 + h.val) * 256 + d.val) / 1024 = r.val; omega)
  | ⟨1, _⟩ => exact Fin.ext (by show ((((0 : ℕ) * 4096 + r.val) * 4 + h.val) * 256 + d.val) % 1024 = 256 * h.val + d.val; omega)

/-- The scaled scores. -/
theorem score4 (h : Fin 4) (r : Fin 4096) (j : Fin 256) : val_main_v9 (F := Ideal) Q K (ix4 (0 : Fin 1) h r j) = scores Q K h r j := by
  refine congrArg (· * cScale) ((val_main_v7_apply Q K _).trans (Finset.sum_congr rfl fun d _ => congrArg₂ (· * ·) ?_ ?_))
  · exact (congrArg (val_main_v4 (F := Ideal) Q) (eq_ix4 _)).trans (q4 Q r h d)
  · exact (congrArg (val_main_v5 (F := Ideal) K) (eq_ix4 _)).trans (k4 K j h d)

/-- The row's maximum. -/
theorem top3 (h : Fin 4) (r : Fin 4096) : val_main_v10 (F := Ideal) Q K (ix3 (0 : Fin 1) h r) = rowMax (scores Q K h r) := by
  unfold val_main_v10
  refine (max_last (val_main_v9 (F := Ideal) Q K) h r).trans ?_
  exact congrArg rowMax (funext fun j => score4 Q K h r j)

/-- The shift the exponentials take: that maximum. -/
theorem max3 (h : Fin 4) (r : Fin 4096) : val_main_v17 (F := Ideal) Q K (ix3 (0 : Fin 1) h r) = rowMax (scores Q K h r) := by
  rw [val_main_v17_apply, val_main_v16_apply, val_main_cst_2_apply, top3]
  refine (congrArg (fun b => max b (rowMax (scores Q K h r))) ofBits_negInf).trans ?_
  exact max_bot_left _

/-- The shifted exponentials. -/
theorem exp4 (h : Fin 4) (r : Fin 4096) (j : Fin 256) : val_main_v30 (F := Ideal) Q K (ix4 (0 : Fin 1) h r j) = rowExp (scores Q K h r) j := by
  refine congrArg Ideal.exp (congrArg₂ (· - ·) (score4 Q K h r j) ?_)
  refine (val_main_v28_apply (F := Ideal) Q K _).trans ((val_main_v27_apply (F := Ideal) Q K _).trans ?_)
  exact (congrArg (val_main_v17 (F := Ideal) Q K) (eq_ix3 _)).trans (max3 Q K h r)

/-- Their sum. -/
theorem sum3 (h : Fin 4) (r : Fin 4096) : val_main_v31 (F := Ideal) Q K (ix3 (0 : Fin 1) h r) = rowSum (scores Q K h r) := by
  refine (val_main_v31_apply Q K _).trans ?_
  refine Eq.trans (congrArg₂ (· + ·) (Ideal.ofBits_zero_f32) (Finset.sum_congr rfl fun j _ => ?_)) (zero_add _)
  exact (congrArg (val_main_v30 (F := Ideal) Q K) (eq_ix4 _)).trans (exp4 Q K h r j)

theorem sum4 (h : Fin 4) (r : Fin 4096) : val_main_v32 (F := Ideal) Q K (ix4 (0 : Fin 1) h r (0 : Fin 1)) = rowSum (scores Q K h r) :=
  (val_main_v32_apply (F := Ideal) Q K _).trans ((congrArg (val_main_v31 (F := Ideal) Q K) (eq_ix3 _)).trans (sum3 Q K h r))

/-- The probabilities. -/
theorem prob4 (h : Fin 4) (r : Fin 4096) (j : Fin 256) : val_main_v34 (F := Ideal) Q K (ix4 (0 : Fin 1) h r j) = prob (scores Q K h r) j := by
  refine congrArg₂ Ideal.div (exp4 Q K h r j) ((val_main_v33_apply (F := Ideal) Q K _).trans ?_)
  exact (congrArg (val_main_v32 (F := Ideal) Q K) (eq_ix4 _)).trans (sum4 Q K h r)

/-- One over the squared sum. -/
theorem inv4 (h : Fin 4) (r : Fin 4096) :
    val_main_v37 (F := Ideal) Q K (ix4 (0 : Fin 1) h r (0 : Fin 1)) = Ideal.div 1 (rowSum (scores Q K h r) * rowSum (scores Q K h r)) :=
  congrArg₂ Ideal.div ofBits_one (congrArg₂ (· * ·) (sum4 Q K h r) (sum4 Q K h r))

/-- The probabilities' gradient. -/
theorem dp4 (h : Fin 4) (r : Fin 4096) (j : Fin 256) : val_main_v43 (F := Ideal) V D (ix4 (0 : Fin 1) h r j) = probGrad D V h r j := by
  refine (val_main_v43_apply V D _).trans (Finset.sum_congr rfl fun d _ => congrArg₂ (· * ·) ?_ ?_)
  · exact (congrArg (val_main_v42 (F := Ideal) D) (eq_ix4 _)).trans (d4 D h d r)
  · exact (congrArg (val_main_v6 (F := Ideal) V) (eq_ix4 _)).trans (v4 V j h d)

/-- The row's correction from the sum's gradient, before its sign. -/
theorem corr3 (h : Fin 4) (r : Fin 4096) : val_main_v49 (F := Ideal) Q K V D (ix3 (0 : Fin 1) h r)
    = ∑ j, probGrad D V h r j * Ideal.div 1 (rowSum (scores Q K h r) * rowSum (scores Q K h r)) * rowExp (scores Q K h r) j := by
  refine (val_main_v49_apply Q K V D _).trans ?_
  refine Eq.trans (congrArg₂ (· + ·) (Ideal.ofBits_zero_f32) (Finset.sum_congr rfl fun j _ => ?_)) (zero_add _)
  refine (congrArg (val_main_v48 (F := Ideal) Q K V D) (eq_ix4 _)).trans ?_
  refine congrArg₂ (· * ·) (congrArg₂ (· * ·) (dp4 D V h r j) ?_) (exp4 Q K h r j)
  exact (val_main_v46_apply (F := Ideal) Q K _).trans ((congrArg (val_main_v37 (F := Ideal) Q K) (eq_ix4 _)).trans (inv4 Q K h r))

/-- The row's correction. -/
theorem corr2 (h : Fin 4) (r : Fin 4096) : val_main_v54 (F := Ideal) Q K V D (ix2 h r)
    = -(∑ j, probGrad D V h r j * Ideal.div 1 (rowSum (scores Q K h r) * rowSum (scores Q K h r)) * rowExp (scores Q K h r) j) := by
  refine Eq.trans (b := Ideal.hostReduceAdd reducesTo_S1x4x4096x1_S4x4096_d0_3 (val_main_v51 (F := Ideal) Q K V D) (Ideal.ofBits .f32 0x00000000#32) (ix2 h r)) rfl ?_
  rw [Ideal.ofBits_zero_f32]
  refine (sum_units _ h r).trans (congrArg (fun z : EReal => -z) ?_)
  refine (val_main_v50_apply (F := Ideal) Q K V D _).trans ((congrArg (val_main_v49 (F := Ideal) Q K V D) ?_).trans (corr3 Q D K V h r))
  funext a
  match a with
  | ⟨0, _⟩ => rfl
  | ⟨1, _⟩ => exact Fin.ext (by show ((((0 : ℕ) * 4 + h.val) * 4096 + r.val) * 1 + 0) / 4096 % 4 = h.val; omega)
  | ⟨2, _⟩ => exact Fin.ext (by show ((((0 : ℕ) * 4 + h.val) * 4096 + r.val) * 1 + 0) % 4096 = r.val; omega)

/-- The scores' gradient. -/
theorem ds4 (h : Fin 4) (r : Fin 4096) (j : Fin 256) : val_main_v60 (F := Ideal) Q K V D (ix4 (0 : Fin 1) h r j)
    = dsDerived (scores Q K h r) (probGrad D V h r) j := by
  refine congrArg (· * cScale) (congrArg₂ (· * ·) (congrArg₂ (· + ·) ?_ ?_) (exp4 Q K h r j))
  · refine congrArg₂ Ideal.div (dp4 D V h r j) ((val_main_v52_apply (F := Ideal) Q K _).trans ?_)
    exact (congrArg (val_main_v32 (F := Ideal) Q K) (eq_ix4 _)).trans (sum4 Q K h r)
  · refine (val_main_v56_apply (F := Ideal) Q K V D _).trans ((val_main_v55_apply (F := Ideal) Q K V D _).trans ?_)
    exact (congrArg (val_main_v54 (F := Ideal) Q K V D) (eq_ix2 _)).trans (corr2 Q D K V h r)

/-- A column's place in its head. -/
def inHead (c : Fin 1024) : Fin 256 := ⟨c.val % 256, by omega⟩

theorem lane_headOf (c : Fin 1024) : lane (headOf c) (inHead c) = c := Fin.ext (by show 256 * (c.val / 256) + c.val % 256 = c.val; omega)

/-- A product of numbers summed and scaled is a number. -/
theorem scores_real (hQ : ∀ i, ∃ x : ℝ, Q i = (x : EReal)) (hK : ∀ i, ∃ x : ℝ, K i = (x : EReal)) (h : Fin 4) (r : Fin 4096) (j : Fin 256) :
    ∃ x : ℝ, scores Q K h r j = (x : EReal) := by
  choose q hq using hQ
  choose k hk using hK
  refine ⟨(∑ d : Fin 256, q (ix2 r (lane h d)) * k (ix2 j (lane h d))) * (1 / 16), ?_⟩
  unfold scores
  rw [EReal.coe_mul, ← coe_sum, cScale_eq]
  refine congrArg (· * _) (Finset.sum_congr rfl fun d _ => ?_)
  rw [hq, hk, EReal.coe_mul]

variable (hQ : ∀ i, ∃ x : ℝ, Q i = (x : EReal)) (hK : ∀ i, ∃ x : ℝ, K i = (x : EReal))
include hQ hK

/-- The scores' gradient in the kernel's arrangement. -/
theorem grad4 (h : Fin 4) (r : Fin 4096) (j : Fin 256) : val_main_v60 (F := Ideal) Q K V D (ix4 (0 : Fin 1) h r j) = scoreGrad Q D K V h r j :=
  (ds4 Q D K V h r j).trans (dsKernel_eq_dsDerived _ _ (fun j => scores_real Q K hQ hK h r j) j).symm

/-- The queries' gradient. -/
theorem ref_dq : val_main_v68 (F := Ideal) Q K V D = fun y => gradQ Q D K V (y 0) (y 1) := by
  funext y
  refine (val_main_v67_apply (F := Ideal) Q K V D y).trans ((val_main_v64_apply (F := Ideal) Q K V D _).trans ?_)
  have e : idx_main_v64 (idx_main_v67 y) = ix4 (0 : Fin 1) (headOf (y 1)) (y 0) (inHead (y 1)) := by
    have h0 : (y 0).val < 4096 := (y 0).isLt
    have h1 : (y 1).val < 1024 := (y 1).isLt
    funext a
    match a with
    | ⟨0, _⟩ => rfl
    | ⟨1, _⟩ => exact Fin.ext (by show ((y 0).val * 1024 + (y 1).val) / 256 % 4 = (y 1).val / 256; omega)
    | ⟨2, _⟩ => exact Fin.ext (by show ((y 0).val * 1024 + (y 1).val) / 1024 % 4096 = (y 0).val; omega)
    | ⟨3, _⟩ => exact Fin.ext (by show ((y 0).val * 1024 + (y 1).val) % 256 = (y 1).val % 256; omega)
  refine (congrArg (val_main_v63 (F := Ideal) Q K V D) e).trans ((val_main_v63_apply Q K V D _).trans ?_)
  refine Finset.sum_congr rfl fun j _ => congrArg₂ (· * ·) ?_ ?_
  · exact (congrArg (val_main_v60 (F := Ideal) Q K V D) (eq_ix4 _)).trans (grad4 Q D K V hQ hK _ _ j)
  · refine (congrArg (val_main_v5 (F := Ideal) K) (eq_ix4 _)).trans ((k4 K j _ _).trans ?_)
    exact congrArg (fun z => K (ix2 j z)) (lane_headOf (y 1))

/-- The keys' gradient. -/
theorem ref_dk : val_main_v66 (F := Ideal) Q K V D = fun y => gradK Q D K V (y 0) (y 1) := by
  funext y
  refine (val_main_v66_apply (F := Ideal) Q K V D y).trans ((val_main_v62_apply (F := Ideal) Q K V D _).trans ?_)
  have e : idx_main_v62 (idx_main_v66 y) = ix4 (0 : Fin 1) (headOf (y 1)) (y 0) (inHead (y 1)) := by
    have h0 : (y 0).val < 256 := (y 0).isLt
    have h1 : (y 1).val < 1024 := (y 1).isLt
    funext a
    match a with
    | ⟨0, _⟩ => rfl
    | ⟨1, _⟩ => exact Fin.ext (by show ((y 0).val * 1024 + (y 1).val) / 256 % 4 = (y 1).val / 256; omega)
    | ⟨2, _⟩ => exact Fin.ext (by show ((y 0).val * 1024 + (y 1).val) / 1024 % 256 = (y 0).val; omega)
    | ⟨3, _⟩ => exact Fin.ext (by show ((y 0).val * 1024 + (y 1).val) % 256 = (y 1).val % 256; omega)
  refine (congrArg (val_main_v61 (F := Ideal) Q K V D) e).trans ((val_main_v61_apply Q K V D _).trans ?_)
  refine Finset.sum_congr rfl fun r _ => congrArg₂ (· * ·) ?_ ?_
  · exact (congrArg (val_main_v60 (F := Ideal) Q K V D) (eq_ix4 _)).trans (grad4 Q D K V hQ hK _ r _)
  · refine (congrArg (val_main_v4 (F := Ideal) Q) (eq_ix4 _)).trans ((q4 Q r _ _).trans ?_)
    exact congrArg (fun z => Q (ix2 r z)) (lane_headOf (y 1))

omit hQ hK in
/-- The values' gradient. -/
theorem ref_dv : val_main_v65 (F := Ideal) Q K D = fun y => gradV Q D K (y 0) (y 1) := by
  funext y
  refine (val_main_v65_apply (F := Ideal) Q K D y).trans ((val_main_v45_apply (F := Ideal) Q K D _).trans ?_)
  have e : idx_main_v45 (idx_main_v65 y) = ix4 (0 : Fin 1) (headOf (y 1)) (inHead (y 1)) (y 0) := by
    have h0 : (y 0).val < 256 := (y 0).isLt
    have h1 : (y 1).val < 1024 := (y 1).isLt
    funext a
    match a with
    | ⟨0, _⟩ => rfl
    | ⟨1, _⟩ => exact Fin.ext (by show ((y 0).val * 1024 + (y 1).val) / 256 % 4 = (y 1).val / 256; omega)
    | ⟨2, _⟩ => exact Fin.ext (by show ((y 0).val * 1024 + (y 1).val) % 256 = (y 1).val % 256; omega)
    | ⟨3, _⟩ => exact Fin.ext (by show ((y 0).val * 1024 + (y 1).val) / 1024 % 256 = (y 0).val; omega)
  refine (congrArg (val_main_v44 (F := Ideal) Q K D) e).trans ((val_main_v44_apply Q K D _).trans ?_)
  refine Finset.sum_congr rfl fun r _ => (mul_comm _ _).trans (congrArg₂ (· * ·) ?_ ?_)
  · exact (congrArg (val_main_v34 (F := Ideal) Q K) (eq_ix4 _)).trans (prob4 Q K _ r _)
  · refine (congrArg (val_main_v42 (F := Ideal) D) (eq_ix4 _)).trans ((d4 D _ _ r).trans ?_)
    exact congrArg (fun z => D (ix2 r z)) (lane_headOf (y 1))

end Cert.XAttn.Ref

end
-- ==== Proof.AttnClaims.lean ====
/- The claims about the cross-attention's gradient. -/
module

public import proofs.«01_k».proof.Defs
public import proofs.«01_k».proof.Proof.Arrays
public import proofs.«01_k».proof.Proof.RefValue
public import proofs.«01_k».proof.Proof.Gen.Attn.Frame
public import Idealize.ShloMosaic.Lib.Quiescent

@[expose] public section

noncomputable section

namespace Cert.XAttn

open Idealize.ShloMosaic Idealize.ShloMosaic.ValueIdx Idealize.SL.Sem

/-- The side conditions the precondition's operations state. -/
theorem preFacts : Cert.Pre_queries_and_keys_finite.Facts where
  bitsLt_bf16_f32 := by decide
  bcast_S_S4096x1024 := by decide
  bcast_S_S256x1024 := by decide

attribute [local instance] preFacts

/-- A value whose absolute value lies below infinity is a number. -/
theorem real_of_cmp (x : EReal) (h : Ideal.cmp .olt (max x (-x)) (Ideal.ofBits .f32 0x7F800000#32) = 1#1) : ∃ r : ℝ, x = (r : EReal) := by
  have top : Ideal.ofBits .f32 0x7F800000#32 = ⊤ := by simp [Ideal.ofBits, Ideal.ieee]
  rw [top] at h
  induction x using EReal.rec with
  | coe r => exact ⟨r, rfl⟩
  | bot => simp [Ideal.cmp] at h
  | top => simp [Ideal.cmp] at h

/-- `Attn` runs, keeps its arguments and ends quiescent. -/
theorem frame_attn : Cert.quiescent_Attn := fun m ρ _ => Cert.Attn.Gen.frame m ρ
/-- The same of its idealization. -/
theorem frame_attnIdeal : Cert.quiescent_AttnIdeal := fun m ρ _ => Cert.AttnIdeal.Gen.frame m ρ
/-- The same under the precondition. -/
theorem frame_attnIdeal_pre : Cert.quiescent_AttnIdeal_pre_queries_and_keys_finite := fun m ρ _ => Cert.AttnIdeal.Gen.frame m ρ
/-- The reference runs, keeps its arguments and has no semaphores. -/
theorem frame_attnRef : Cert.quiescent_AttnRefIdeal := fun m ρ _ =>
  (θ_run Cert.AttnRefIdeal.defs _ _).mono (fun r h => ⟨fun c => (h c).2.2.2, sem_eq_zero_of_no_sems (by decide) r.2⟩)
    (Cert.AttnRefIdeal.Value.run (F := Ideal) m ρ)
/-- The same under the precondition. -/
theorem frame_attnRef_pre : Cert.quiescent_AttnRefIdeal_pre_queries_and_keys_finite := fun m ρ _ => frame_attnRef m ρ trivial

/-- The kernel and the derivative of the attention compute the same three gradients. -/
theorem value_attn : Cert.algebraic_AttnIdeal_AttnRefIdeal_pre_queries_and_keys_finite := by
  intro m ρ m' ρ' hpre hag
  refine ⟨resQ m, resK m, resV m, ?_, ?_⟩
  · exact (θ_run Cert.AttnIdeal.defs _ _).mono (fun r h c =>
      ⟨(h c).1.trans (array_dq m c), (h c).2.1.trans (array_dk m c), (h c).2.2.1.trans (array_dv m c), (h c).2.2.2⟩)
      (Cert.AttnIdeal.Value.run_blocks m ρ)
  · refine (θ_run Cert.AttnRefIdeal.defs _ _).mono (fun r h c => ?_) (Cert.AttnRefIdeal.Value.run (F := Ideal) m' ρ')
    obtain ⟨e0, e1, e2, e3⟩ := hag c
    have hQ : ∀ i, ∃ x : ℝ, argQ m c i = (x : EReal) := fun i => real_of_cmp _ (congrFun (hpre c).1 i)
    have hK : ∀ i, ∃ x : ℝ, argK m c i = (x : EReal) := fun i => real_of_cmp _ (congrFun (hpre c).2 i)
    refine ⟨(h c).1.trans ?_, (h c).2.1.trans ?_, (h c).2.2.1.trans ?_, (h c).2.2.2⟩
    · refine (Cert.AttnRefIdeal.Read.val_main_v68_eq m' c).trans ?_
      rw [e0, e1, e2, e3]
      exact Ref.ref_dq (argQ m c) (argD m c) (argK m c) (argV m c) hQ hK
    · refine (Cert.AttnRefIdeal.Read.val_main_v66_eq m' c).trans ?_
      rw [e0, e1, e2, e3]
      exact Ref.ref_dk (argQ m c) (argD m c) (argK m c) (argV m c) hQ hK
    · refine (Cert.AttnRefIdeal.Read.val_main_v65_eq _ _ _).trans ?_
      rw [e0, e1, e3]
      exact Ref.ref_dv (argQ m c) (argD m c) (argK m c)

end Cert.XAttn

end
-- ==== Proof.Places.lean ====
/- Small facts about places of arrays that the calls' proofs share. -/
module

public import Idealize.ShloMosaic.Lib.Pipeline.Value
public import Idealize.ShloMosaic.Lib.ValueIdx

@[expose] public section

namespace Cert.XPlaces

open Idealize.ShloMosaic

theorem zero2 : (![0, 0] : Fin 2 → ℕ) = fun _ => 0 := by funext a; match a with | ⟨0, _⟩ => rfl | ⟨1, _⟩ => rfl
theorem zero3 : (![0, 0, 0] : Fin 3 → ℕ) = fun _ => 0 := by funext a; match a with | ⟨0, _⟩ => rfl | ⟨1, _⟩ => rfl | ⟨2, _⟩ => rfl

/-- A place of a view lies in the view's set. -/
theorem mem_of_emb {sig : RefSig} {κ : Kind} {sp : Space} {s : Shape} {e : EltTy} (v : View sig κ sp s e) (x : s.Idx) (i : v.ty.Idx) (h : v.emb x = i) :
    i ∈ v.set := h ▸ v.emb_mem_set x

/-- The column at place `j` of the block the slot `b` holds: the slots go through the even blocks of columns, then the odd ones. -/
def colOf (b : Fin 8) (j : Fin 768) : Fin 6144 := ⟨768 * ((b.val % 4) * 2 + b.val / 4) + j.val, by omega⟩

/-- The slot of the column's block. -/
def slotOf (j : Fin 6144) : Fin 8 := ⟨(j.val / 768 % 2) * 4 + j.val / 768 / 2, by omega⟩

/-- The column's place in its block. -/
def placeOf (j : Fin 6144) : Fin 768 := ⟨j.val % 768, Nat.mod_lt _ (by decide)⟩

end Cert.XPlaces
-- ==== Proof.NormGrad.lean ====
/- The backward of the root mean square norm on one row: the kernel's form, the derivative's form, and that they agree. -/
module

public import proofs.«01_k».proof.Proof.Gen.FdnIdeal.Value
public import proofs.«01_k».proof.Proof.Places
public import Idealize.ShloMosaic.PureOps.Ideal.Laws

@[expose] public section

noncomputable section

namespace Cert.XDn

open Cert.FdnIdeal Cert.FdnIdeal.Gen Cert.XPlaces Idealize.ShloMosaic Idealize.ShloMosaic.ValueIdx Idealize.SL.Sem

/-! ## The literals -/

/-- One over the row's length. -/
abbrev cInv : EReal := Ideal.ofBits .f32 0x3A800000#32
/-- The row's length. -/
abbrev cLen : EReal := Ideal.ofBits .f32 0x44800000#32
/-- What the norm adds to the mean square. -/
abbrev cEps : EReal := Ideal.ofBits .f32 0x358637BD#32
/-- Minus one half. -/
abbrev cHalf : EReal := Ideal.ofBits .f32 0xBF000000#32

theorem cInv_eq : cInv = ((1 / 1024 : ℝ) : EReal) := by
  simp [cInv, Ideal.ofBits, Ideal.ieee, -EReal.coe_mul]; norm_num
theorem cLen_eq : cLen = ((1024 : ℝ) : EReal) := by
  simp [cLen, Ideal.ofBits, Ideal.ieee, -EReal.coe_mul]; norm_num
theorem cEps_eq : cEps = ((8796093 / 8796093022208 : ℝ) : EReal) := by
  simp [cEps, Ideal.ofBits, Ideal.ieee, -EReal.coe_mul]; norm_num
theorem cHalf_eq : cHalf = ((-1 / 2 : ℝ) : EReal) := by
  simp [cHalf, Ideal.ofBits, Ideal.ieee, -EReal.coe_mul]; norm_num

/-- Dividing by a nonzero real is multiplying by its inverse. -/
theorem div_real (x : EReal) (y : ℝ) (hy : y ≠ 0) : Ideal.div x (y : EReal) = x * ((y⁻¹ : ℝ) : EReal) := by
  unfold Ideal.div
  rw [if_neg (by exact_mod_cast hy), EReal.coe_inv]

theorem div_len (x : EReal) : Ideal.div x cLen = x * cInv := by
  rw [cLen_eq, cInv_eq, div_real x 1024 (by norm_num)]
  norm_num

/-! ## The two forms of a row -/

/-- The reciprocal root mean square of a row. -/
def slopeOf (f : Fin 1024 → EReal) : EReal := Ideal.rsqrt ((∑ j : Fin 1024, f j * f j) * cInv + cEps)

/-- The kernel's row: `r` the product's row, `g` the weights, `x` the row normed, `d` the gradient added. -/
def inRow (r g x d : Fin 1024 → EReal) (j : Fin 1024) : EReal :=
  (slopeOf x * (r j * g j) - x j * ((slopeOf x * slopeOf x) * ((∑ i : Fin 1024, r i * g i * x i) * slopeOf x * cInv))) + d j

/-- The slope through the mean square, as differentiation gives it. -/
def slopePart (r g x : Fin 1024 → EReal) : EReal :=
  Ideal.div ((∑ i : Fin 1024, x i * (r i * g i))
    * (cHalf * Ideal.div (slopeOf x) ((∑ i : Fin 1024, x i * x i) * cInv + cEps))) cLen

/-- Twice a product with a real number. -/
theorem twice (y : EReal) (a : ℝ) : y * (a : EReal) + y * (a : EReal) = y * ((a + a : ℝ) : EReal) := by
  rcases lt_trichotomy a 0 with h | h | h
  · have h2 : a + a < 0 := by linarith
    induction y using EReal.rec with
    | bot => rw [EReal.bot_mul_coe_of_neg h, EReal.bot_mul_coe_of_neg h2]; rfl
    | coe y => norm_cast; ring
    | top => rw [EReal.top_mul_coe_of_neg h, EReal.top_mul_coe_of_neg h2]; rfl
  · subst h; simp
  · have h2 : 0 < a + a := by linarith
    induction y using EReal.rec with
    | bot => rw [EReal.bot_mul_coe_of_pos h, EReal.bot_mul_coe_of_pos h2]; rfl
    | coe y => norm_cast; ring
    | top => rw [EReal.top_mul_coe_of_pos h, EReal.top_mul_coe_of_pos h2]; rfl

/-- The term through the mean square: the kernel's product of reciprocals is the derivative's. -/
theorem through (v S x : EReal) (hv : v = ⊤ ∨ ∃ a : ℝ, 0 < a ∧ v = (a : EReal)) :
    -(x * ((Ideal.rsqrt v * Ideal.rsqrt v) * (S * Ideal.rsqrt v * cInv)))
      = x * Ideal.div (S * (cHalf * Ideal.div (Ideal.rsqrt v) v)) cLen + Ideal.div (S * (cHalf * Ideal.div (Ideal.rsqrt v) v)) cLen * x := by
  rw [div_len, cInv_eq, cHalf_eq]
  rcases hv with rfl | ⟨a, ha, rfl⟩
  · have h : Ideal.div 0 ⊤ = 0 := by unfold Ideal.div; rw [if_neg (by decide), zero_mul]
    rw [Ideal.rsqrt_top, h]
    simp
  · rw [div_real _ a ha.ne', Ideal.rsqrt_coe, if_neg (not_lt.mpr ha.le), if_neg ha.ne']
    have hs : 0 < Real.sqrt a := Real.sqrt_pos.mpr ha
    generalize hb : (Real.sqrt a)⁻¹ = b
    have hab : a⁻¹ = b * b := by
      rw [← hb, ← mul_inv, Real.mul_self_sqrt ha.le]
    rw [hab]
    have e1 : x * (((b : EReal) * (b : EReal)) * (S * (b : EReal) * ((1 / 1024 : ℝ) : EReal))) = (x * S) * ((b * b * b * (1 / 1024) : ℝ) : EReal) := by
      simp only [EReal.coe_mul]; ac_rfl
    have e2 : x * (S * (((-1 / 2 : ℝ) : EReal) * ((b : EReal) * ((b * b : ℝ) : EReal))) * ((1 / 1024 : ℝ) : EReal)) = (x * S) * ((-1 / 2 * (b * b * b) * (1 / 1024) : ℝ) : EReal) := by
      simp only [EReal.coe_mul]; ac_rfl
    rw [e1, mul_comm (S * _ * _) x, e2, twice, ← mul_neg, ← EReal.coe_neg]
    congr 2
    ring

/-- The mean square and its addend are a positive real, or infinite. -/
theorem meanSq_pos (f : Fin 1024 → EReal) :
    (∑ j : Fin 1024, f j * f j) * cInv + cEps = ⊤ ∨ ∃ a : ℝ, 0 < a ∧ (∑ j : Fin 1024, f j * f j) * cInv + cEps = (a : EReal) := by
  have hq : 0 ≤ ∑ j : Fin 1024, f j * f j := Finset.sum_nonneg fun j _ => by
    induction f j using EReal.rec with
    | bot => simp
    | coe y => norm_cast; exact mul_self_nonneg y
    | top => simp
  rw [cInv_eq, cEps_eq]
  generalize (∑ j : Fin 1024, f j * f j) = q at hq
  induction q using EReal.rec with
  | bot => exact absurd hq (by simp)
  | coe y =>
    right
    refine ⟨y * (1 / 1024) + 8796093 / 8796093022208, ?_, by norm_cast⟩
    have : 0 ≤ y := by exact_mod_cast hq
    positivity
  | top => left; rw [EReal.top_mul_coe_of_pos (by norm_num)]; rfl

/-- The kernel's row is the derivative's. -/
theorem inRow_eq (r g x d : Fin 1024 → EReal) (j : Fin 1024) :
    inRow r g x d j = ((d j + (r j * g j) * slopeOf x) + x j * slopePart r g x) + slopePart r g x * x j := by
  unfold inRow slopePart
  rw [sub_eq_add_neg]
  unfold slopeOf
  rw [through _ _ (x j) (meanSq_pos x)]
  have e : (∑ i : Fin 1024, r i * g i * x i) = ∑ i : Fin 1024, x i * (r i * g i) := Finset.sum_congr rfl fun i _ => mul_comm _ _
  rw [e, mul_comm (Ideal.rsqrt _) (r j * g j)]
  abel

/-! ## What sixteen rows store -/

theorem spread_apply (x : FVec Ideal S16x1 .f32) (a : Fin 16) (j : Fin 1024) :
    broadcastTo S16x1024 x broadcasts_S16x1_S16x1024 (ix2 a j) = x (ix2 a 0) :=
  broadcastTo_apply _ _ (ix2 a j) (ix2 a 0) (fun b => match b with
    | ⟨0, _⟩ => rfl
    | ⟨1, _⟩ => rfl)
theorem weights_apply (x : FVec Ideal S1x1024 .f32) (a : Fin 16) (j : Fin 1024) :
    broadcastTo S16x1024 x broadcasts_S1x1024_S16x1024 (ix2 a j) = x (ix2 0 j) :=
  broadcastTo_apply _ _ (ix2 a j) (ix2 0 j) (fun b => match b with
    | ⟨0, _⟩ => rfl
    | ⟨1, _⟩ => rfl)

/-- A row's sum kept as a column. -/
theorem rowSum_apply (x : FVec Ideal S16x1024 .f32) (a : Fin 16) :
    shapeCast S16x1 (multiReduction .add [1] S16 x 0x00000000#32 reduces_S16x1024_S16 (.inl rfl) rfl) shapeCasts_S16_S16x1 (ix2 a 0)
      = ∑ j : Fin 1024, x (ix2 a j) := by
  refine Eq.trans (shapeCast_apply _ shapeCasts_S16_S16x1 (ix2 a 0) (ix1 a) (by
    rewrite [Shape.rowMajor_val_two, Shape.rowMajor_val_one]; show a.val = a.val * 1 + 0; omega)) ?_
  refine Eq.trans (Ideal.multiReduction_add_single _ _ _ _ _ _) ?_
  refine Finset.sum_congr rfl fun j _ => congrArg x ?_
  funext ax
  match ax with
  | ⟨0, _⟩ => rfl
  | ⟨1, _⟩ => rfl

variable (g : FVec Ideal S1x1024 .f32) (R X D : FVec Ideal S16x1024 .f32)

theorem pay8_apply (a : Fin 16) : k0_pay8 (F := Ideal) g R X (ix2 a 0) = ∑ j : Fin 1024, R (ix2 a j) * g (ix2 0 j) * X (ix2 a j) :=
  (rowSum_apply _ a).trans (Finset.sum_congr rfl fun j _ => congrArg (fun y : EReal => R (ix2 a j) * y * X (ix2 a j)) (weights_apply g a j))
theorem pay10_apply (a : Fin 16) : k0_pay10 (F := Ideal) g R X (ix2 a 0) = ∑ j : Fin 1024, R (ix2 a j) * g (ix2 0 j) * X (ix2 a j) := pay8_apply g R X a

theorem pay11_apply (a : Fin 16) : k0_pay11 (F := Ideal) X (ix2 a 0) = slopeOf fun j => X (ix2 a j) := by
  unfold k0_pay11 slopeOf
  exact congrArg (fun y : EReal => Ideal.rsqrt (y * cInv + cEps)) (rowSum_apply _ a)
theorem pay16_apply (a : Fin 16) : k0_pay16 (F := Ideal) (k0_pay9 (F := Ideal) X) (ix2 a 0) = slopeOf fun j => X (ix2 a j) := pay11_apply X a

theorem pay14_raw (S s : FVec Ideal S16x1 .f32) (a : Fin 16) (j : Fin 1024) :
    k0_pay14 (F := Ideal) g S R X s D (ix2 a j)
      = (s (ix2 a 0) * (R (ix2 a j) * g (ix2 0 j)) - X (ix2 a j) * ((s (ix2 a 0) * s (ix2 a 0)) * (S (ix2 a 0) * s (ix2 a 0) * cInv))) + D (ix2 a j) := by
  unfold k0_pay14
  refine congrArg (fun y : EReal => y + D (ix2 a j)) (congrArg₂ (fun x y : EReal => x - y)
    (congrArg₂ (fun x y : EReal => x * y) (spread_apply _ a j) (congrArg (fun y : EReal => R (ix2 a j) * y) (weights_apply g a j)))
    (congrArg (fun y : EReal => X (ix2 a j) * y) (spread_apply _ a j)))

/-- The first sixteen rows of a trip. -/
theorem pay14_apply (a : Fin 16) (j : Fin 1024) :
    k0_pay14 (F := Ideal) g (k0_pay8 (F := Ideal) g R X) R X (k0_pay11 (F := Ideal) X) D (ix2 a j)
      = inRow (fun i => R (ix2 a i)) (fun i => g (ix2 0 i)) (fun i => X (ix2 a i)) (fun i => D (ix2 a i)) j := by
  rw [pay14_raw, pay8_apply, pay11_apply]
  rfl

/-- The second sixteen rows of a trip. -/
theorem pay5_apply (a : Fin 16) (j : Fin 1024) :
    k0_pay5 (F := Ideal) X (k0_pay18 (F := Ideal) g (k0_pay9 (F := Ideal) X) R) (k0_pay19 (F := Ideal) (k0_pay9 (F := Ideal) X) (k0_pay10 (F := Ideal) g R X)) D (ix2 a j)
      = inRow (fun i => R (ix2 a i)) (fun i => g (ix2 0 i)) (fun i => X (ix2 a i)) (fun i => D (ix2 a i)) j := by
  refine Eq.trans ?_ (pay14_apply g R X D a j)
  rfl

/-- What a row adds to the weights' gradient. -/
def weightRow (r x : Fin 1024 → EReal) (j : Fin 1024) : EReal := r j * (x j * slopeOf x)

theorem pay12_apply (a : Fin 16) (j : Fin 1024) :
    k0_pay12 (F := Ideal) X R X (ix2 a j) = weightRow (fun i => R (ix2 a i)) (fun i => X (ix2 a i)) j := by
  unfold k0_pay12
  exact congrArg (fun y : EReal => R (ix2 a j) * (X (ix2 a j) * y)) ((spread_apply _ a j).trans (pay11_apply X a))

/-- Rows `o … o+7` of sixteen. -/
theorem half_apply (x : FVec Ideal S16x1024 .f32) (a : Fin 8) (j : Fin 1024) :
    extractStridedSlice S8x1024 ![0, 0] x slices_S16x1024_o0_0_S8x1024 (ix2 a j) = x (ix2 ⟨a.val, by omega⟩ j)
    ∧ extractStridedSlice S8x1024 ![8, 0] x slices_S16x1024_o8_0_S8x1024 (ix2 a j) = x (ix2 ⟨8 + a.val, by omega⟩ j) := by
  constructor
  · refine congrArg x (funext fun b => Fin.ext ?_)
    match b with
    | ⟨0, _⟩ => exact Nat.zero_add _
    | ⟨1, _⟩ => exact Nat.zero_add _
  · refine congrArg x (funext fun b => Fin.ext ?_)
    match b with
    | ⟨0, _⟩ => rfl
    | ⟨1, _⟩ => exact Nat.zero_add _

/-- The carried sum after a trip: four rows more at each of its eight places. -/
theorem pay17_apply (acc : FVec Ideal S8x1024 .f32) (R' X' : FVec Ideal S16x1024 .f32) (a : Fin 8) (j : Fin 1024) :
    k0_pay17 (F := Ideal) acc (k0_pay9 (F := Ideal) X') (k0_pay12 (F := Ideal) X R X) (k0_pay13 (F := Ideal) X R X) R' X' (ix2 a j)
      = (acc (ix2 a j) + (weightRow (fun i => R (ix2 ⟨a.val, by omega⟩ i)) (fun i => X (ix2 ⟨a.val, by omega⟩ i)) j
          + weightRow (fun i => R (ix2 ⟨8 + a.val, by omega⟩ i)) (fun i => X (ix2 ⟨8 + a.val, by omega⟩ i)) j))
        + (weightRow (fun i => R' (ix2 ⟨a.val, by omega⟩ i)) (fun i => X' (ix2 ⟨a.val, by omega⟩ i)) j
          + weightRow (fun i => R' (ix2 ⟨8 + a.val, by omega⟩ i)) (fun i => X' (ix2 ⟨8 + a.val, by omega⟩ i)) j) := by
  unfold k0_pay17 k0_pay13
  refine congrArg₂ (fun x y : EReal => x + y) (congrArg (fun y : EReal => acc (ix2 a j) + y)
    (congrArg₂ (fun x y : EReal => x + y) ((half_apply _ a j).1.trans (pay12_apply R X _ j)) ((half_apply _ a j).2.trans (pay12_apply R X _ j))))
    (congrArg₂ (fun x y : EReal => x + y) ((half_apply _ a j).1.trans (pay12_apply R' X' _ j)) ((half_apply _ a j).2.trans (pay12_apply R' X' _ j)))

end Cert.XDn

end
-- ==== Proof.InputLoop.lean ====
/- The loop over the rows of a block, 32 rows a trip: what its trips store and what it carries. -/
module

public import proofs.«01_k».proof.Proof.NormGrad
public import Idealize.ShloMosaic.Lib.Pipeline.ValueKit.Tiles

@[expose] public section

noncomputable section

namespace Cert.XDn

open Cert.FdnIdeal Cert.FdnIdeal.Gen Cert.XPlaces Idealize.ShloMosaic Idealize.ShloMosaic.ValueIdx Idealize.SL.Sem

theorem off0 : ∀ k : Fin k0_t1_loop.trips, k0_off1 k 0#32 0 = 32 * k.val ∧ k0_off1 k 0#32 1 = 0 := by decide +kernel
theorem off1 : ∀ k : Fin k0_t1_loop.trips, k0_off1 k 16#32 0 = 32 * k.val + 16 ∧ k0_off1 k 16#32 1 = 0 := by decide +kernel
theorem lt32 (k : Fin k0_t1_loop.trips) : k.val < 32 := k.isLt.trans_eq (by decide +kernel)

/-- Sixteen rows of an array, from row `o`. -/
def win (V : FVec Ideal S1024x1024 .f32) (o : ℕ) (h : o + 16 ≤ 1024) : FVec Ideal S16x1024 .f32 :=
  fun y => V (ix2 ⟨o + (y 0).val, by have h0 : (y 0).val < 16 := (y 0).isLt; omega⟩ (y 1))

/-- A unit rectangle of sixteen whole rows from row `o` places its rows there. -/
theorem emb_rows (off : Fin 2 → ℕ) (inb) (o : ℕ) (h : o + 16 ≤ 1024) (h0 : off 0 = o) (h1 : off 1 = 0) (y : S16x1024.Idx) :
    (Rect.unit (s := S1024x1024) off S16x1024.size inb).emb y = ix2 ⟨o + (y 0).val, by have h0 : (y 0).val < 16 := (y 0).isLt; omega⟩ (y 1) := by
  funext b
  refine Fin.ext ((Rect.idx_unit_val _ _ inb y b).trans ?_)
  match b with
  | ⟨0, _⟩ => exact congrArg (· + (y 0).val) h0
  | ⟨1, _⟩ => exact (congrArg (· + (y 1).val) h1).trans (Nat.zero_add _)

theorem load_rows (w : Memref sig .tc .vmem S1024x1024 .f32) (C : BufTy.Contents (Elt Ideal) w.view.ty) (off : Fin 2 → ℕ) (inb) (o : ℕ) (h : o + 16 ≤ 1024)
    (h0 : off 0 = o) (h1 : off 1 = 0) :
    View.readAt (Elt Ideal) w.view (Rect.unit (s := S1024x1024) off S16x1024.size inb).toLoadRect C = win (w.view.read (Elt Ideal) C) o h := by
  funext y
  exact congrArg (w.view.read (Elt Ideal) C) (emb_rows off inb o h h0 h1 y)

variable (𝒱 : Variants) (c : Dev nD) (bd : Option 𝒱.V) (i : grid0.Coords)
  (arg3 : Memref sig .tc .vmem S1024x768 .bf16) (harg3 : arg3.IsWhole) (arg4 : Memref sig .tc .vmem S1x1024x768 .bf16) (harg4 : arg4.IsWhole)
  (arg5 : Memref sig .tc .vmem S1024x1024 .f32) (harg5 : arg5.IsWhole) (arg6 : Memref sig .tc .vmem S1x1024 .f32) (harg6 : arg6.IsWhole)
  (arg7 : Memref sig .tc .vmem S1024x1024 .f32) (harg7 : arg7.IsWhole) (arg8 : Memref sig .tc .vmem S1024x1024 .f32) (harg8 : arg8.IsWhole)
  (arg9 : Memref sig .tc .vmem S1024x1024 .bf16) (harg9 : arg9.IsWhole) (arg10 : Memref sig .tc .vmem S1x1024 .f32) (harg10 : arg10.IsWhole)
  (arg11 : Memref sig .tc .vmem S1024x1024 .f32) (harg11 : arg11.IsWhole) (k0_h2 : k0_cond2 i = 1#1) (v18 : FVec Ideal S1x1024 .f32)
  (X5 : BufTy.Contents (Elt Ideal) arg5.view.ty) (X7 : BufTy.Contents (Elt Ideal) arg7.view.ty) (X11 : BufTy.Contents (Elt Ideal) arg11.view.ty)

/-- The product's rows, the normed rows and the gradient added, as the buffers hold them. -/
abbrev valR (arg11 : Memref sig .tc .vmem S1024x1024 .f32) (X11 : BufTy.Contents (Elt Ideal) arg11.view.ty) : FVec Ideal S1024x1024 .f32 := arg11.view.read (Elt Ideal) X11

/-- The block's row `r` of the input's gradient. -/
def gradRow (R X D : FVec Ideal S1024x1024 .f32) (g : FVec Ideal S1x1024 .f32) (r : Fin 1024) (j : Fin 1024) : EReal :=
  inRow (fun i => R (ix2 r i)) (fun i => g (ix2 0 i)) (fun i => X (ix2 r i)) (fun i => D (ix2 r i)) j
/-- What the block's row `r` adds to the weights' gradient. -/
def addRow (R X : FVec Ideal S1024x1024 .f32) (r : ℕ) (j : Fin 1024) : EReal :=
  if h : r < 1024 then weightRow (fun i => R (ix2 ⟨r, h⟩ i)) (fun i => X (ix2 ⟨r, h⟩ i)) j else 0

/-- Sixteen rows stored from the loads of the same rows. -/
theorem first_rows (R X D : FVec Ideal S1024x1024 .f32) (g : FVec Ideal S1x1024 .f32) (off : Fin 2 → ℕ) (inb) (o : ℕ) (h : o + 16 ≤ 1024) (h0 : off 0 = o) (h1 : off 1 = 0)
    (w : FVec Ideal S16x1024 .f32)
    (hw : ∀ (a : Fin 16) (j : Fin 1024), w (ix2 a j) = inRow (fun i => win R o h (ix2 a i)) (fun i => g (ix2 0 i)) (fun i => win X o h (ix2 a i)) (fun i => win D o h (ix2 a i)) j)
    (z : S16x1024.Idx) :
    w z = gradRow R X D g ((Rect.unit (s := S1024x1024) off S16x1024.size inb).emb z 0) ((Rect.unit (s := S1024x1024) off S16x1024.size inb).emb z 1) := by
  rw [emb_rows off inb o h h0 h1 z]
  exact (congrArg w (eq_ix2 z)).trans (hw (z 0) (z 1))

theorem trip_first (k : Fin k0_t1_loop.trips) (acc : FVec Ideal S8x1024 .f32) :
    (∀ p ∈ (tripL_k0_t1 (F := Ideal) 𝒱 c bd i arg3 harg3 arg4 harg4 arg5 harg5 arg6 harg6 arg7 harg7 arg8 harg8 arg9 harg9 arg10 harg10 arg11 harg11 k0_h2 v18 X5 X7 X11 k acc).1, ∀ z : p.1.shape.Idx,
      p.2 z = gradRow (valR arg11 X11) (valR arg5 X5) (valR arg7 X7) v18 (p.1.emb z 0) (p.1.emb z 1))
    ∧ (∀ p ∈ (tripL_k0_t1 (F := Ideal) 𝒱 c bd i arg3 harg3 arg4 harg4 arg5 harg5 arg6 harg6 arg7 harg7 arg8 harg8 arg9 harg9 arg10 harg10 arg11 harg11 k0_h2 v18 X5 X7 X11 k acc).2, ∀ z : p.1.shape.Idx,
      p.2 z = gradRow (valR arg11 X11) (valR arg5 X5) (valR arg7 X7) v18 (p.1.emb z 0) (p.1.emb z 1)) := by
  have hk := lt32 k
  have low : ∀ (a : Fin 16) (j : Fin 1024), k0_pay14 (F := Ideal) v18 (k0_pay8 (F := Ideal) v18 (win (valR arg11 X11) (32 * k.val) (by omega)) (win (valR arg5 X5) (32 * k.val) (by omega)))
      (win (valR arg11 X11) (32 * k.val) (by omega)) (win (valR arg5 X5) (32 * k.val) (by omega)) (k0_pay11 (F := Ideal) (win (valR arg5 X5) (32 * k.val) (by omega)))
      (win (valR arg7 X7) (32 * k.val) (by omega)) (ix2 a j) = _ := pay14_apply v18 _ _ _
  have high : ∀ (a : Fin 16) (j : Fin 1024), k0_pay5 (F := Ideal) (win (valR arg5 X5) (32 * k.val + 16) (by omega))
      (k0_pay18 (F := Ideal) v18 (k0_pay9 (F := Ideal) (win (valR arg5 X5) (32 * k.val + 16) (by omega))) (win (valR arg11 X11) (32 * k.val + 16) (by omega)))
      (k0_pay19 (F := Ideal) (k0_pay9 (F := Ideal) (win (valR arg5 X5) (32 * k.val + 16) (by omega)))
        (k0_pay10 (F := Ideal) v18 (win (valR arg11 X11) (32 * k.val + 16) (by omega)) (win (valR arg5 X5) (32 * k.val + 16) (by omega))))
      (win (valR arg7 X7) (32 * k.val + 16) (by omega)) (ix2 a j) = _ := pay5_apply v18 _ _ _
  have low' := first_rows _ _ _ v18 _ (k0_off1_inb i k k0_h2 0) _ (by omega) (off0 k).1 (off0 k).2 _ low
  have high' := first_rows _ _ _ v18 _ (k0_off1_inb i k k0_h2 1) _ (by omega) (off1 k).1 (off1 k).2 _ high
  rw [← load_rows arg5 X5 _ (k0_off1_inb i k k0_h2 0) _ (by omega) (off0 k).1 (off0 k).2, ← load_rows arg7 X7 _ (k0_off1_inb i k k0_h2 0) _ (by omega) (off0 k).1 (off0 k).2,
    ← load_rows arg11 X11 _ (k0_off1_inb i k k0_h2 0) _ (by omega) (off0 k).1 (off0 k).2] at low'
  rw [← load_rows arg5 X5 _ (k0_off1_inb i k k0_h2 1) _ (by omega) (off1 k).1 (off1 k).2, ← load_rows arg7 X7 _ (k0_off1_inb i k k0_h2 1) _ (by omega) (off1 k).1 (off1 k).2,
    ← load_rows arg11 X11 _ (k0_off1_inb i k k0_h2 1) _ (by omega) (off1 k).1 (off1 k).2] at high'
  unfold tripL_k0_t1 trip_k0_t1
  dsimp only
  sl_unfold_words
  constructor
  · intro p hp z
    rcases List.mem_cons.mp hp with rfl | hp
    · exact high' z
    · rcases List.mem_cons.mp hp with rfl | hp
      · exact low' z
      · exact absurd hp List.not_mem_nil
  · intro p hp z
    rcases List.mem_cons.mp hp with rfl | hp
    · exact high' z
    · rcases List.mem_cons.mp hp with rfl | hp
      · exact low' z
      · exact absurd hp List.not_mem_nil

theorem trip_carry (k : Fin k0_t1_loop.trips) (acc : FVec Ideal S8x1024 .f32) (a : Fin 8) (j : Fin 1024) :
    tripR_k0_t1 (F := Ideal) 𝒱 c bd i arg3 harg3 arg4 harg4 arg5 harg5 arg6 harg6 arg7 harg7 arg8 harg8 arg9 harg9 arg10 harg10 arg11 harg11 k0_h2 v18 X5 X7 X11 k acc (ix2 a j)
      = (acc (ix2 a j) + (addRow (valR arg11 X11) (valR arg5 X5) (8 * (4 * k.val) + a.val) j + addRow (valR arg11 X11) (valR arg5 X5) (8 * (4 * k.val + 1) + a.val) j))
        + (addRow (valR arg11 X11) (valR arg5 X5) (8 * (4 * k.val + 2) + a.val) j + addRow (valR arg11 X11) (valR arg5 X5) (8 * (4 * k.val + 3) + a.val) j) := by
  have hk := lt32 k
  have e : tripR_k0_t1 (F := Ideal) 𝒱 c bd i arg3 harg3 arg4 harg4 arg5 harg5 arg6 harg6 arg7 harg7 arg8 harg8 arg9 harg9 arg10 harg10 arg11 harg11 k0_h2 v18 X5 X7 X11 k acc
      = k0_pay17 (F := Ideal) acc (k0_pay9 (F := Ideal) (win (valR arg5 X5) (32 * k.val + 16) (by omega)))
        (k0_pay12 (F := Ideal) (win (valR arg5 X5) (32 * k.val) (by omega)) (win (valR arg11 X11) (32 * k.val) (by omega)) (win (valR arg5 X5) (32 * k.val) (by omega)))
        (k0_pay13 (F := Ideal) (win (valR arg5 X5) (32 * k.val) (by omega)) (win (valR arg11 X11) (32 * k.val) (by omega)) (win (valR arg5 X5) (32 * k.val) (by omega)))
        (win (valR arg11 X11) (32 * k.val + 16) (by omega)) (win (valR arg5 X5) (32 * k.val + 16) (by omega)) := by
    rw [← load_rows arg5 X5 _ (k0_off1_inb i k k0_h2 0) _ (by omega) (off0 k).1 (off0 k).2, ← load_rows arg5 X5 _ (k0_off1_inb i k k0_h2 1) _ (by omega) (off1 k).1 (off1 k).2,
      ← load_rows arg11 X11 _ (k0_off1_inb i k k0_h2 0) _ (by omega) (off0 k).1 (off0 k).2, ← load_rows arg11 X11 _ (k0_off1_inb i k k0_h2 1) _ (by omega) (off1 k).1 (off1 k).2]
    unfold tripR_k0_t1 trip_k0_t1
    dsimp only
    sl_unfold_words
    rfl
  rw [e, pay17_apply]
  have row : ∀ (V : FVec Ideal S1024x1024 .f32) (o : ℕ) (h : o + 16 ≤ 1024) (b : Fin 16) (r : ℕ) (hr : r < 1024) (_ : r = o + b.val), (fun i : Fin 1024 => win V o h (ix2 b i)) = fun i => V (ix2 ⟨r, hr⟩ i) := by
    intro V o h b r hr e; subst e; rfl
  unfold addRow
  rw [dif_pos (by omega), dif_pos (by omega), dif_pos (by omega), dif_pos (by omega)]
  rw [row (valR arg11 X11) (32 * k.val) (by omega) ⟨a.val, by omega⟩ (8 * (4 * k.val) + a.val) (by omega) (by show _ = 32 * k.val + a.val; omega),
    row (valR arg5 X5) (32 * k.val) (by omega) ⟨a.val, by omega⟩ (8 * (4 * k.val) + a.val) (by omega) (by show _ = 32 * k.val + a.val; omega),
    row (valR arg11 X11) (32 * k.val) (by omega) ⟨8 + a.val, by omega⟩ (8 * (4 * k.val + 1) + a.val) (by omega) (by show _ = 32 * k.val + (8 + a.val); omega),
    row (valR arg5 X5) (32 * k.val) (by omega) ⟨8 + a.val, by omega⟩ (8 * (4 * k.val + 1) + a.val) (by omega) (by show _ = 32 * k.val + (8 + a.val); omega),
    row (valR arg11 X11) (32 * k.val + 16) (by omega) ⟨a.val, by omega⟩ (8 * (4 * k.val + 2) + a.val) (by omega) (by show _ = 32 * k.val + 16 + a.val; omega),
    row (valR arg5 X5) (32 * k.val + 16) (by omega) ⟨a.val, by omega⟩ (8 * (4 * k.val + 2) + a.val) (by omega) (by show _ = 32 * k.val + 16 + a.val; omega),
    row (valR arg11 X11) (32 * k.val + 16) (by omega) ⟨8 + a.val, by omega⟩ (8 * (4 * k.val + 3) + a.val) (by omega) (by show _ = 32 * k.val + 16 + (8 + a.val); omega),
    row (valR arg5 X5) (32 * k.val + 16) (by omega) ⟨8 + a.val, by omega⟩ (8 * (4 * k.val + 3) + a.val) (by omega) (by show _ = 32 * k.val + 16 + (8 + a.val); omega)]

/-- Every row stored so far is a row of the gradient. -/
theorem state_first (init : FVec Ideal S8x1024 .f32) : ∀ n : ℕ, n ≤ k0_t1_loop.trips →
    (∀ p ∈ (st_k0_t1 (F := Ideal) 𝒱 c bd i arg3 harg3 arg4 harg4 arg5 harg5 arg6 harg6 arg7 harg7 arg8 harg8 arg9 harg9 arg10 harg10 arg11 harg11 k0_h2 v18 X5 X7 X11 init n).2.1, ∀ z : p.1.shape.Idx, p.2 z = gradRow (valR arg11 X11) (valR arg5 X5) (valR arg7 X7) v18 (p.1.emb z 0) (p.1.emb z 1))
    ∧ (∀ p ∈ (st_k0_t1 (F := Ideal) 𝒱 c bd i arg3 harg3 arg4 harg4 arg5 harg5 arg6 harg6 arg7 harg7 arg8 harg8 arg9 harg9 arg10 harg10 arg11 harg11 k0_h2 v18 X5 X7 X11 init n).2.2, ∀ z : p.1.shape.Idx, p.2 z = gradRow (valR arg11 X11) (valR arg5 X5) (valR arg7 X7) v18 (p.1.emb z 0) (p.1.emb z 1))
  | 0, _ => ⟨fun p hp => absurd hp List.not_mem_nil, fun p hp => absurd hp List.not_mem_nil⟩
  | n + 1, hn => by
    have ih := state_first init n (Nat.le_of_succ_le hn)
    have tr := trip_first 𝒱 c bd i arg3 harg3 arg4 harg4 arg5 harg5 arg6 harg6 arg7 harg7 arg8 harg8 arg9 harg9 arg10 harg10 arg11 harg11 k0_h2 v18 X5 X7 X11 ⟨n, hn⟩ (st_k0_t1 (F := Ideal) 𝒱 c bd i arg3 harg3 arg4 harg4 arg5 harg5 arg6 harg6 arg7 harg7 arg8 harg8 arg9 harg9 arg10 harg10 arg11 harg11 k0_h2 v18 X5 X7 X11 init n).1
    rw [st_k0_t1_succ (F := Ideal) 𝒱 c bd i arg3 harg3 arg4 harg4 arg5 harg5 arg6 harg6 arg7 harg7 arg8 harg8 arg9 harg9 arg10 harg10 arg11 harg11 k0_h2 v18 X5 X7 X11 init ⟨n, hn⟩]
    constructor
    · intro p hp
      rcases List.mem_append.mp hp with hp | hp
      · exact tr.1 p hp
      · exact ih.1 p hp
    · intro p hp
      rcases List.mem_append.mp hp with hp | hp
      · exact tr.2 p hp
      · exact ih.2 p hp

/-- The carried sum: at each of its eight places, every eighth row so far. -/
theorem state_carry : ∀ n : ℕ, n ≤ k0_t1_loop.trips → ∀ (a : Fin 8) (j : Fin 1024),
    (st_k0_t1 (F := Ideal) 𝒱 c bd i arg3 harg3 arg4 harg4 arg5 harg5 arg6 harg6 arg7 harg7 arg8 harg8 arg9 harg9 arg10 harg10 arg11 harg11 k0_h2 v18 X5 X7 X11 (k0_pay4 (F := Ideal)) n).1 (ix2 a j) = ∑ q ∈ Finset.range (4 * n), addRow (valR arg11 X11) (valR arg5 X5) (8 * q + a.val) j
  | 0, _, a, j => Ideal.ofBits_zero_f32
  | n + 1, hn, a, j => by
    rw [st_k0_t1_succ (F := Ideal) 𝒱 c bd i arg3 harg3 arg4 harg4 arg5 harg5 arg6 harg6 arg7 harg7 arg8 harg8 arg9 harg9 arg10 harg10 arg11 harg11 k0_h2 v18 X5 X7 X11 (k0_pay4 (F := Ideal)) ⟨n, hn⟩]
    refine (trip_carry 𝒱 c bd i arg3 harg3 arg4 harg4 arg5 harg5 arg6 harg6 arg7 harg7 arg8 harg8 arg9 harg9 arg10 harg10 arg11 harg11 k0_h2 v18 X5 X7 X11 ⟨n, hn⟩ _ a j).trans ?_
    rw [state_carry n (Nat.le_of_succ_le hn) a j]
    rw [show 4 * (n + 1) = 4 * n + 1 + 1 + 1 + 1 from by omega, Finset.sum_range_succ, Finset.sum_range_succ, Finset.sum_range_succ, Finset.sum_range_succ]
    show _ + (_ + _) + (_ + _) = _
    simp only [add_assoc]

/-- The eight places of the carried sum together: all the block's rows. -/
theorem rows_all (R X : FVec Ideal S1024x1024 .f32) (j : Fin 1024) :
    (∑ a : Fin 8, ∑ q ∈ Finset.range (4 * 32), addRow R X (8 * q + a.val) j)
      = ∑ r : Fin 1024, weightRow (fun i => R (ix2 r i)) (fun i => X (ix2 r i)) j := by
  have e : ∀ r : Fin 1024, weightRow (fun i => R (ix2 r i)) (fun i => X (ix2 r i)) j = addRow R X r.val j := fun r => by
    unfold addRow; rw [dif_pos r.isLt]
  refine Eq.trans ?_ (Finset.sum_congr rfl fun r _ => (e r).symm)
  show _ = ∑ r : Fin (128 * 8), addRow R X r.val j
  rw [← Equiv.sum_comp (finProdFinEquiv (m := 128) (n := 8)), Fintype.sum_prod_type_right]
  refine Finset.sum_congr rfl fun a _ => ?_
  rw [Finset.sum_range]
  refine Finset.sum_congr rfl fun q _ => ?_
  refine congrArg (fun r => addRow R X r j) ?_
  show 8 * q.val + a.val = a.val + 8 * q.val
  omega

theorem rowsSum_apply (x : FVec Ideal S8x1024 .f32) (j : Fin 1024) :
    shapeCast S1x1024 (multiReduction .add [0] S1024 x 0x00000000#32 reduces_S8x1024_S1024 (.inl rfl) rfl) shapeCasts_S1024_S1x1024 (ix2 0 j)
      = ∑ a : Fin 8, x (ix2 a j) := by
  refine Eq.trans (shapeCast_apply _ shapeCasts_S1024_S1x1024 (ix2 0 j) (ix1 j) (by
    rewrite [Shape.rowMajor_val_two, Shape.rowMajor_val_one]; show j.val = 0 * 1024 + j.val; omega)) ?_
  refine Eq.trans (Ideal.multiReduction_add_single _ _ _ _ _ _) ?_
  refine Finset.sum_congr rfl fun a _ => congrArg x ?_
  funext ax
  match ax with
  | ⟨0, _⟩ => rfl
  | ⟨1, _⟩ => rfl

/-- The weights' gradient after the loop: what it held, and the block's rows. -/
theorem pay7_apply (w : FVec Ideal S1x1024 .f32) (j : Fin 1024) :
    k0_pay7 (F := Ideal) (st_k0_t1 (F := Ideal) 𝒱 c bd i arg3 harg3 arg4 harg4 arg5 harg5 arg6 harg6 arg7 harg7 arg8 harg8 arg9 harg9 arg10 harg10 arg11 harg11 k0_h2 v18 X5 X7 X11 (k0_pay4 (F := Ideal)) k0_t1_loop.trips).1 w (ix2 0 j)
      = w (ix2 0 j) + ∑ r : Fin 1024, weightRow (fun i => valR arg11 X11 (ix2 r i)) (fun i => valR arg5 X5 (ix2 r i)) j := by
  have ht : k0_t1_loop.trips = 32 := by decide +kernel
  unfold k0_pay7
  refine congrArg₂ (fun x y : EReal => x + y) (congrFun (shapeCast_self w _) (ix2 0 j)) ?_
  refine (rowsSum_apply _ j).trans ?_
  rw [← rows_all]
  refine Finset.sum_congr rfl fun a _ => ?_
  refine (state_carry 𝒱 c bd i arg3 harg3 arg4 harg4 arg5 harg5 arg6 harg6 arg7 harg7 arg8 harg8 arg9 harg9 arg10 harg10 arg11 harg11 k0_h2 v18 X5 X7 X11 _ le_rfl a j).trans ?_
  rw [ht]

end Cert.XDn

end
-- ==== Proof.InputBlocks.lean ====
/- What a point of the call leaves: the product's running sum, and at the last column block the gradients. -/
module

public import proofs.«01_k».proof.Proof.InputLoop

@[expose] public section

noncomputable section

namespace Cert.XDn

open Cert.FdnIdeal Cert.FdnIdeal.Gen Cert.XPlaces Idealize.ShloMosaic Idealize.ShloMosaic.ValueIdx Idealize.SL.Sem

/-- An array stored whole reads back. -/
theorem read_one (w : Memref sig .tc .vmem S1024x1024 .f32) (f : BufTy.Contents (Elt Ideal) w.view.ty) (inb) (p : FVec Ideal S1024x1024 .f32) :
    w.view.read (Elt Ideal) (w.view.writes (Elt Ideal) f [⟨Rect.unit (s := S1024x1024) ![0, 0] S1024x1024.size inb, p⟩]) = p := by
  have e : ∀ z : S1024x1024.Idx, (Rect.unit (s := S1024x1024) ![0, 0] S1024x1024.size inb).emb z = z := fun z => by
    funext b
    refine Fin.ext ((Rect.idx_unit_val _ _ inb z b).trans ?_)
    match b with
    | ⟨0, _⟩ => exact Nat.zero_add _
    | ⟨1, _⟩ => exact Nat.zero_add _
  funext y
  have h := View.read_writes_cons_emb (Val := Elt Ideal) w.view f (Rect.unit (s := S1024x1024) ![0, 0] S1024x1024.size inb) p [] y
  exact (congrArg (w.view.read (Elt Ideal) (w.view.writes (Elt Ideal) f [⟨Rect.unit (s := S1024x1024) ![0, 0] S1024x1024.size inb, p⟩])) (e y)).symm.trans h

variable (c : Dev nD) (i : grid0.Coords)
  (arg3 : Memref sig .tc .vmem S1024x768 .bf16) (harg3 : arg3.IsWhole) (arg4 : Memref sig .tc .vmem S1x1024x768 .bf16) (harg4 : arg4.IsWhole)
  (arg5 : Memref sig .tc .vmem S1024x1024 .f32) (harg5 : arg5.IsWhole) (arg6 : Memref sig .tc .vmem S1x1024 .f32) (harg6 : arg6.IsWhole)
  (arg7 : Memref sig .tc .vmem S1024x1024 .f32) (harg7 : arg7.IsWhole) (arg8 : Memref sig .tc .vmem S1024x1024 .f32) (harg8 : arg8.IsWhole)
  (arg9 : Memref sig .tc .vmem S1024x1024 .bf16) (harg9 : arg9.IsWhole) (arg10 : Memref sig .tc .vmem S1x1024 .f32) (harg10 : arg10.IsWhole)
  (arg11 : Memref sig .tc .vmem S1024x1024 .f32) (harg11 : arg11.IsWhole)
  (x0 : FVec Ideal S1024x768 .bf16) (x1 : FVec Ideal S1x1024x768 .bf16) (x2 : FVec Ideal S1024x1024 .f32) (x3 : FVec Ideal S1x1024 .f32) (x4 : FVec Ideal S1024x1024 .f32) (xo7 : FVec Ideal S1x1024 .f32) (xs0 : FVec Ideal S1024x1024 .f32)

theorem out5_C (hc0 : ¬cond0_0 i) (hc1 : cond0_1 i) (hc2 : cond0_2 i) (y : S1024x1024.Idx) :
    out0_C_5 (F := Ideal) c i arg3 harg3 arg4 harg4 arg5 harg5 arg6 harg6 arg7 harg7 arg8 harg8 arg9 harg9 arg10 harg10 arg11 harg11 hc0 hc1 hc2 x0 x1 x2 x3 x4 xs0 y = gradRow (k0_pay2 (F := Ideal) xs0 x0 x1) x2 x4 x3 (y 0) (y 1) := by
  unfold out0_C_5
  refine View.read_writes_apply_of_pieces VO0_5 VO0_5.junk (fun y => gradRow (k0_pay2 (F := Ideal) xs0 x0 x1) x2 x4 x3 (y 0) (y 1)) _ ?_ y (cover0_C_5 (F := Ideal) c i arg3 harg3 arg4 harg4 arg5 harg5 arg6 harg6 arg7 harg7 arg8 harg8 arg9 harg9 arg10 harg10 arg11 harg11 hc0 hc1 hc2 x0 x1 x2 x3 x4 xs0 y)
  unfold kernelRun0_C
  dsimp only
  sl_unfold_words
  simp only [View.readAt_eq_ld, harg3.read_unread, harg4.read_unread, harg6.read_unread, harg10.read_unread, harg11.read_unread,
    View.ld_unit_zero (S := S1024x768) zero2, View.ld_unit_zero (S := S1x1024x768) zero3, View.ld_unit_zero (S := S1024x1024) zero2, View.ld_unit_zero (S := S1x1024) zero2]
  intro p hp z
  refine ((state_first Variants.none c none i arg3 harg3 arg4 harg4 arg5 harg5 arg6 harg6 arg7 harg7 arg8 harg8 arg9 harg9 arg10 harg10 arg11 harg11 hc1 _ _ _ _ _ _ le_rfl).1 p hp z).trans ?_
  rw [valR, valR, valR, harg5.read_unread, harg7.read_unread, read_one]

theorem out6_C (hc0 : ¬cond0_0 i) (hc1 : cond0_1 i) (hc2 : cond0_2 i) (y : S1024x1024.Idx) :
    out0_C_6 (F := Ideal) c i arg3 harg3 arg4 harg4 arg5 harg5 arg6 harg6 arg7 harg7 arg8 harg8 arg9 harg9 arg10 harg10 arg11 harg11 hc0 hc1 hc2 x0 x1 x2 x3 x4 xs0 y = gradRow (k0_pay2 (F := Ideal) xs0 x0 x1) x2 x4 x3 (y 0) (y 1) := by
  unfold out0_C_6
  refine View.read_writes_apply_of_pieces VO0_6 VO0_6.junk (fun y => gradRow (k0_pay2 (F := Ideal) xs0 x0 x1) x2 x4 x3 (y 0) (y 1)) _ ?_ y (cover0_C_6 (F := Ideal) c i arg3 harg3 arg4 harg4 arg5 harg5 arg6 harg6 arg7 harg7 arg8 harg8 arg9 harg9 arg10 harg10 arg11 harg11 hc0 hc1 hc2 x0 x1 x2 x3 x4 xs0 y)
  unfold kernelRun0_C
  dsimp only
  sl_unfold_words
  simp only [View.readAt_eq_ld, harg3.read_unread, harg4.read_unread, harg6.read_unread, harg10.read_unread, harg11.read_unread,
    View.ld_unit_zero (S := S1024x768) zero2, View.ld_unit_zero (S := S1x1024x768) zero3, View.ld_unit_zero (S := S1024x1024) zero2, View.ld_unit_zero (S := S1x1024) zero2]
  intro p hp z
  refine ((state_first Variants.none c none i arg3 harg3 arg4 harg4 arg5 harg5 arg6 harg6 arg7 harg7 arg8 harg8 arg9 harg9 arg10 harg10 arg11 harg11 hc1 _ _ _ _ _ _ le_rfl).2 p hp z).trans ?_
  rw [valR, valR, valR, harg5.read_unread, harg7.read_unread, read_one]

theorem out7_C (hc0 : ¬cond0_0 i) (hc1 : cond0_1 i) (hc2 : cond0_2 i) (j : Fin 1024) :
    out0_C_7 (F := Ideal) c i arg3 harg3 arg4 harg4 arg5 harg5 arg6 harg6 arg7 harg7 arg8 harg8 arg9 harg9 arg10 harg10 arg11 harg11 hc0 hc1 hc2 x0 x1 x2 x3 x4 xs0 (ix2 0 j)
      = 0 + ∑ r : Fin 1024, weightRow (fun i => (k0_pay2 (F := Ideal) xs0 x0 x1) (ix2 r i)) (fun i => x2 (ix2 r i)) j := by
  unfold out0_C_7
  rw [View.read_writes_eq_canon _ _ _ (by intro y; apply cover0_C_7)]
  unfold kernelRun0_C
  dsimp only
  sl_unfold_words
  rw [View.canon_cons_unit_zero (S := S1x1024) zero2, View.readCov_unit_zero (S := S1x1024) _ zero2]
  simp only [View.readAt_eq_ld, harg3.read_unread, harg4.read_unread, harg6.read_unread, harg10.read_unread, harg11.read_unread,
    View.ld_unit_zero (S := S1024x768) zero2, View.ld_unit_zero (S := S1x1024x768) zero3, View.ld_unit_zero (S := S1024x1024) zero2, View.ld_unit_zero (S := S1x1024) zero2]
  refine (pay7_apply Variants.none c none i arg3 harg3 arg4 harg4 arg5 harg5 arg6 harg6 arg7 harg7 arg8 harg8 arg9 harg9 arg10 harg10 arg11 harg11 hc1 _ _ _ _ _ j).trans ?_
  rw [valR, valR, harg5.read_unread, read_one]
  exact congrArg (fun y : EReal => y + _) Ideal.ofBits_zero_f32

theorem out5_D (hc0 : ¬cond0_0 i) (hc1 : cond0_1 i) (hc2 : ¬cond0_2 i) (y : S1024x1024.Idx) :
    out0_D_5 (F := Ideal) c i arg3 harg3 arg4 harg4 arg5 harg5 arg6 harg6 arg7 harg7 arg8 harg8 arg9 harg9 arg10 harg10 arg11 harg11 hc0 hc1 hc2 x0 x1 x2 x3 x4 xo7 xs0 y = gradRow (k0_pay2 (F := Ideal) xs0 x0 x1) x2 x4 x3 (y 0) (y 1) := by
  unfold out0_D_5
  refine View.read_writes_apply_of_pieces VO0_5 VO0_5.junk (fun y => gradRow (k0_pay2 (F := Ideal) xs0 x0 x1) x2 x4 x3 (y 0) (y 1)) _ ?_ y (cover0_D_5 (F := Ideal) c i arg3 harg3 arg4 harg4 arg5 harg5 arg6 harg6 arg7 harg7 arg8 harg8 arg9 harg9 arg10 harg10 arg11 harg11 hc0 hc1 hc2 x0 x1 x2 x3 x4 xo7 xs0 y)
  unfold kernelRun0_D
  dsimp only
  sl_unfold_words
  simp only [View.readAt_eq_ld, harg3.read_unread, harg4.read_unread, harg6.read_unread, harg10.read_unread, harg11.read_unread,
    View.ld_unit_zero (S := S1024x768) zero2, View.ld_unit_zero (S := S1x1024x768) zero3, View.ld_unit_zero (S := S1024x1024) zero2, View.ld_unit_zero (S := S1x1024) zero2]
  intro p hp z
  refine ((state_first Variants.none c none i arg3 harg3 arg4 harg4 arg5 harg5 arg6 harg6 arg7 harg7 arg8 harg8 arg9 harg9 arg10 harg10 arg11 harg11 hc1 _ _ _ _ _ _ le_rfl).1 p hp z).trans ?_
  rw [valR, valR, valR, harg5.read_unread, harg7.read_unread, read_one]

theorem out6_D (hc0 : ¬cond0_0 i) (hc1 : cond0_1 i) (hc2 : ¬cond0_2 i) (y : S1024x1024.Idx) :
    out0_D_6 (F := Ideal) c i arg3 harg3 arg4 harg4 arg5 harg5 arg6 harg6 arg7 harg7 arg8 harg8 arg9 harg9 arg10 harg10 arg11 harg11 hc0 hc1 hc2 x0 x1 x2 x3 x4 xo7 xs0 y = gradRow (k0_pay2 (F := Ideal) xs0 x0 x1) x2 x4 x3 (y 0) (y 1) := by
  unfold out0_D_6
  refine View.read_writes_apply_of_pieces VO0_6 VO0_6.junk (fun y => gradRow (k0_pay2 (F := Ideal) xs0 x0 x1) x2 x4 x3 (y 0) (y 1)) _ ?_ y (cover0_D_6 (F := Ideal) c i arg3 harg3 arg4 harg4 arg5 harg5 arg6 harg6 arg7 harg7 arg8 harg8 arg9 harg9 arg10 harg10 arg11 harg11 hc0 hc1 hc2 x0 x1 x2 x3 x4 xo7 xs0 y)
  unfold kernelRun0_D
  dsimp only
  sl_unfold_words
  simp only [View.readAt_eq_ld, harg3.read_unread, harg4.read_unread, harg6.read_unread, harg10.read_unread, harg11.read_unread,
    View.ld_unit_zero (S := S1024x768) zero2, View.ld_unit_zero (S := S1x1024x768) zero3, View.ld_unit_zero (S := S1024x1024) zero2, View.ld_unit_zero (S := S1x1024) zero2]
  intro p hp z
  refine ((state_first Variants.none c none i arg3 harg3 arg4 harg4 arg5 harg5 arg6 harg6 arg7 harg7 arg8 harg8 arg9 harg9 arg10 harg10 arg11 harg11 hc1 _ _ _ _ _ _ le_rfl).2 p hp z).trans ?_
  rw [valR, valR, valR, harg5.read_unread, harg7.read_unread, read_one]

theorem out7_D (hc0 : ¬cond0_0 i) (hc1 : cond0_1 i) (hc2 : ¬cond0_2 i) (j : Fin 1024) :
    out0_D_7 (F := Ideal) c i arg3 harg3 arg4 harg4 arg5 harg5 arg6 harg6 arg7 harg7 arg8 harg8 arg9 harg9 arg10 harg10 arg11 harg11 hc0 hc1 hc2 x0 x1 x2 x3 x4 xo7 xs0 (ix2 0 j)
      = xo7 (ix2 0 j) + ∑ r : Fin 1024, weightRow (fun i => (k0_pay2 (F := Ideal) xs0 x0 x1) (ix2 r i)) (fun i => x2 (ix2 r i)) j := by
  unfold out0_D_7
  rw [View.read_writes_eq_canon _ _ _ (by intro y; apply cover0_D_7)]
  unfold kernelRun0_D
  dsimp only
  sl_unfold_words
  rw [View.canon_unit_zero (S := S1x1024) zero2]
  simp only [View.readAt_eq_ld, harg3.read_unread, harg4.read_unread, harg6.read_unread, harg10.read_unread, harg11.read_unread,
    View.ld_unit_zero (S := S1024x768) zero2, View.ld_unit_zero (S := S1x1024x768) zero3, View.ld_unit_zero (S := S1024x1024) zero2, View.ld_unit_zero (S := S1x1024) zero2]
  refine (pay7_apply Variants.none c none i arg3 harg3 arg4 harg4 arg5 harg5 arg6 harg6 arg7 harg7 arg8 harg8 arg9 harg9 arg10 harg10 arg11 harg11 hc1 _ _ _ _ _ j).trans ?_
  rw [valR, valR, harg5.read_unread, read_one]

theorem sum_A (hc0 : cond0_0 i) (hc1 : ¬cond0_1 i) :
    sout0_A_0 (F := Ideal) c i arg3 harg3 arg4 harg4 arg5 harg5 arg6 harg6 arg7 harg7 arg8 harg8 arg9 harg9 arg10 harg10 arg11 harg11 hc0 hc1 x0 x1 x2 x3 x4 = (k0_pay2 (F := Ideal) (k0_pay1 (F := Ideal)) x0 x1) := by
  unfold sout0_A_0
  rw [View.read_writes_eq_canon _ _ _ (by intro y; apply scover0_A_0)]
  unfold kernelRun0_A
  dsimp only
  sl_unfold_words
  rw [View.canon_cons_unit_zero (S := S1024x1024) zero2, View.readCov_unit_zero (S := S1024x1024) _ zero2]
  simp only [View.readAt_eq_ld, harg3.read_unread, harg4.read_unread, harg6.read_unread, harg10.read_unread, harg11.read_unread,
    View.ld_unit_zero (S := S1024x768) zero2, View.ld_unit_zero (S := S1x1024x768) zero3, View.ld_unit_zero (S := S1024x1024) zero2, View.ld_unit_zero (S := S1x1024) zero2]

theorem sum_B (hc0 : ¬cond0_0 i) (hc1 : ¬cond0_1 i) :
    sout0_B_0 (F := Ideal) c i arg3 harg3 arg4 harg4 arg5 harg5 arg6 harg6 arg7 harg7 arg8 harg8 arg9 harg9 arg10 harg10 arg11 harg11 hc0 hc1 x0 x1 x2 x3 x4 xs0 = (k0_pay2 (F := Ideal) xs0 x0 x1) := by
  unfold sout0_B_0
  rw [View.read_writes_eq_canon _ _ _ (by intro y; apply scover0_B_0)]
  unfold kernelRun0_B
  dsimp only
  sl_unfold_words
  rw [View.canon_unit_zero (S := S1024x1024) zero2]
  simp only [View.readAt_eq_ld, harg3.read_unread, harg4.read_unread, harg6.read_unread, harg10.read_unread, harg11.read_unread,
    View.ld_unit_zero (S := S1024x768) zero2, View.ld_unit_zero (S := S1x1024x768) zero3, View.ld_unit_zero (S := S1024x1024) zero2, View.ld_unit_zero (S := S1x1024) zero2]

end Cert.XDn

end
-- ==== Proof.InputArrays.lean ====
/- The kernel's three arrays: the input's gradient twice, and the weights' gradient. -/
module

public import proofs.«01_k».proof.Proof.InputBlocks

@[expose] public section

noncomputable section

namespace Cert.XDn

open Cert.FdnIdeal Cert.FdnIdeal.Gen Cert.XPlaces Idealize.ShloMosaic Idealize.ShloMosaic.ValueIdx Idealize.SL.Sem

/-! ## The product a block of columns at a time -/

theorem col_lt (n : ℕ) (hn : n < 8) (d : Fin 768) : 768 * n + d.val < 6144 := by omega
theorem slot_lt (n : ℕ) (hn : n < 8) : (n % 2) * 4 + n / 2 < 8 := by omega

/-- A row of the gradient against a row of the weights, over the `n`th block of columns. -/
def partOf (A : FVec Ideal S4096x6144 .bf16) (B : FVec Ideal S8x1024x768 .bf16) (r : Fin 4096) (i : Fin 1024) (n : ℕ) : EReal :=
  if hn : n < 8 then ∑ d : Fin 768, A (ix2 r ⟨768 * n + d.val, col_lt n hn d⟩) * B (ix3 ⟨(n % 2) * 4 + n / 2, slot_lt n hn⟩ i d) else 0

/-- A row of the gradient against a row of the weights. -/
def prodRow (A : FVec Ideal S4096x6144 .bf16) (B : FVec Ideal S8x1024x768 .bf16) (r : Fin 4096) (i : Fin 1024) : EReal :=
  ∑ j : Fin 6144, A (ix2 r j) * B (ix3 (slotOf j) i (placeOf j))

theorem parts_all (A : FVec Ideal S4096x6144 .bf16) (B : FVec Ideal S8x1024x768 .bf16) (r : Fin 4096) (i : Fin 1024) :
    ∑ n ∈ Finset.range 8, partOf A B r i n = prodRow A B r i := by
  show _ = ∑ j : Fin (8 * 768), A (ix2 r j) * B (ix3 (slotOf j) i (placeOf j))
  rw [← Equiv.sum_comp (finProdFinEquiv (m := 8) (n := 768)), Fintype.sum_prod_type, Finset.sum_range]
  refine Finset.sum_congr rfl fun n _ => ?_
  unfold partOf
  rw [dif_pos n.isLt]
  refine Finset.sum_congr rfl fun d _ => ?_
  have hn := n.isLt
  have hd := d.isLt
  have hc : (finProdFinEquiv (n, d)).val = d.val + 768 * n.val := rfl
  have e1 : (⟨768 * n.val + d.val, col_lt n.val n.isLt d⟩ : Fin 6144) = (finProdFinEquiv (n, d) : Fin (8 * 768)) := Fin.ext (by rw [hc]; exact Nat.add_comm _ _)
  have e2 : (⟨(n.val % 2) * 4 + n.val / 2, slot_lt n.val n.isLt⟩ : Fin 8) = slotOf (finProdFinEquiv (n, d) : Fin (8 * 768)) :=
    Fin.ext (by
      show _ = ((finProdFinEquiv (n, d)).val / 768 % 2) * 4 + (finProdFinEquiv (n, d)).val / 768 / 2
      rw [hc, show (d.val + 768 * n.val) / 768 = n.val by omega])
  have e3 : d = placeOf (finProdFinEquiv (n, d) : Fin (8 * 768)) :=
    Fin.ext (by show d.val = (finProdFinEquiv (n, d)).val % 768; rw [hc]; omega)
  exact congrArg₂ (fun x y : EReal => x * y) (congrArg A (congrArg (ix2 r) e1)) (congrArg B (congrArg₂ (fun s p => ix3 s i p) e2 e3))

theorem prod_apply (a b : FVec Ideal S1024x768 .bf16) (r i : Fin 1024) :
    matmul dot_S1024x768_S1024x768_S1024x1024_1_1_0_0_n_n none a b (constant S1024x1024 .f32 0x00000000#32) (ix2 r i)
      = ∑ d : Fin 768, a (ix2 r d) * b (ix2 i d) := by
  simp only [matmul]
  rw [Ideal.matmul_constant_zero_apply, ← Equiv.sum_comp (contrEquiv1 dot_S1024x768_S1024x768_S1024x1024_1_1_0_0_n_n 768 rfl rfl).symm]
  refine Finset.sum_congr rfl fun d _ => ?_
  congr 2
  · funext ax
    match ax with
    | ⟨0, _⟩ => rfl
    | ⟨1, _⟩ => rfl
  · funext ax
    match ax with
    | ⟨0, _⟩ => rfl
    | ⟨1, _⟩ => rfl

theorem pay2_apply (v : FVec Ideal S1024x1024 .f32) (a : FVec Ideal S1024x768 .bf16) (b : FVec Ideal S1x1024x768 .bf16) (r i : Fin 1024) :
    k0_pay2 (F := Ideal) v a b (ix2 r i) = v (ix2 r i) + ∑ d : Fin 768, a (ix2 r d) * b (ix3 0 i d) := by
  unfold k0_pay2
  rw [shapeCast_self]
  refine congrArg (fun y : EReal => v (ix2 r i) + y) ((prod_apply _ _ r i).trans ?_)
  refine Finset.sum_congr rfl fun d _ => congrArg (fun y : EReal => a (ix2 r d) * y) ?_
  exact shapeCast_apply _ shapeCasts_S1x1024x768_S1024x768 (ix2 i d) (ix3 0 i d) (by
    rw [Shape.rowMajor_val_two, Shape.rowMajor_val_three]; show (0 * 1024 + i.val) * 768 + d.val = i.val * 768 + d.val; omega)

theorem pay1_apply (y : S1024x1024.Idx) : k0_pay1 (F := Ideal) y = 0 := by
  unfold k0_pay1
  rw [shapeCast_self]
  exact Ideal.ofBits_zero_f32

/-! ## The blocks -/

variable (m : (ℓ : Loc nD τ sig) → Buf (Elt Ideal) ℓ)

abbrev argA (c : Dev nD) : FVec Ideal S4096x6144 .bf16 := m ((c.tc : Thread nD τ).loc main_arg0)
abbrev argB (c : Dev nD) : FVec Ideal S8x1024x768 .bf16 := m ((c.tc : Thread nD τ).loc main_arg1)
abbrev argX (c : Dev nD) : FVec Ideal S4096x1024 .f32 := m ((c.tc : Thread nD τ).loc main_arg2)
abbrev argG (c : Dev nD) : FVec Ideal S1x1024 .f32 := m ((c.tc : Thread nD τ).loc main_arg3)
abbrev argD (c : Dev nD) : FVec Ideal S4096x1024 .f32 := m ((c.tc : Thread nD τ).loc main_arg4)

theorem lt32N (t : Fin cfg0.N) : t.val < 32 := t.isLt.trans_eq N_0
/-- The row of the block of rows `q`. -/
def rowAt (q : ℕ) (hq : q < 4) (r : Fin 1024) : Fin 4096 := ⟨1024 * q + r.val, by omega⟩
theorem q_lt (t : Fin cfg0.N) : t.val / 8 < 4 := by have := lt32N t; omega

theorem at0 : ∀ t : Fin grid0.N, win0_0.index t 0 * win0_0.size 0 = 1024 * (t.val / 8) ∧ win0_0.index t 1 * win0_0.size 1 = 768 * (t.val % 8) := by decide +kernel
theorem at1 : ∀ t : Fin grid0.N, win0_1.index t 0 * win0_1.size 0 = (t.val % 8 % 2) * 4 + t.val % 8 / 2 ∧ win0_1.index t 1 * win0_1.size 1 = 0 ∧ win0_1.index t 2 * win0_1.size 2 = 0 := by decide +kernel
theorem at2 : ∀ t : Fin grid0.N, win0_2.index t 0 * win0_2.size 0 = 1024 * (t.val / 8) ∧ win0_2.index t 1 * win0_2.size 1 = 0 := by decide +kernel
theorem at3 : ∀ t : Fin grid0.N, win0_3.index t 0 * win0_3.size 0 = 0 ∧ win0_3.index t 1 * win0_3.size 1 = 0 := by decide +kernel
theorem at4 : ∀ t : Fin grid0.N, win0_4.index t 0 * win0_4.size 0 = 1024 * (t.val / 8) ∧ win0_4.index t 1 * win0_4.size 1 = 0 := by decide +kernel
theorem at5 : ∀ t : Fin grid0.N, win0_5.index t 0 * win0_5.size 0 = 1024 * (t.val / 8) ∧ win0_5.index t 1 * win0_5.size 1 = 0 := by decide +kernel
theorem at6 : ∀ t : Fin grid0.N, win0_6.index t 0 * win0_6.size 0 = 1024 * (t.val / 8) ∧ win0_6.index t 1 * win0_6.size 1 = 0 := by decide +kernel
theorem at7 : ∀ t : Fin grid0.N, win0_7.index t 0 * win0_7.size 0 = 0 ∧ win0_7.index t 1 * win0_7.size 1 = 0 := by decide +kernel

theorem emb0 (t : Fin cfg0.N) (y : S1024x768.Idx) :
    (win0_0.rect t).emb y = ix2 (rowAt (t.val / 8) (q_lt t) (y 0)) ⟨768 * (t.val % 8) + (y 1).val, col_lt _ (Nat.mod_lt _ (by decide)) (y 1)⟩ := by
  funext a
  refine Fin.ext ((win0_0.rect_emb_val t y a).trans ?_)
  match a with
  | ⟨0, _⟩ => exact congrArg (· + (y 0).val) (at0 t).1
  | ⟨1, _⟩ => exact congrArg (· + (y 1).val) (at0 t).2
theorem emb1 (t : Fin cfg0.N) (y : S1x1024x768.Idx) :
    (win0_1.rect t).emb y = ix3 ⟨(t.val % 8 % 2) * 4 + t.val % 8 / 2, slot_lt _ (Nat.mod_lt _ (by decide))⟩ (y 1) (y 2) := by
  have h0 : (y 0).val = 0 := by have : (y 0).val < 1 := (y 0).isLt; omega
  funext a
  refine Fin.ext ((win0_1.rect_emb_val t y a).trans ?_)
  match a with
  | ⟨0, _⟩ => exact (congrArg₂ (· + ·) (at1 t).1 h0).trans (Nat.add_zero _)
  | ⟨1, _⟩ => exact (congrArg (· + (y 1).val) (at1 t).2.1).trans (Nat.zero_add _)
  | ⟨2, _⟩ => exact (congrArg (· + (y 2).val) (at1 t).2.2).trans (Nat.zero_add _)
theorem emb2 (t : Fin cfg0.N) (y : S1024x1024.Idx) : (win0_2.rect t).emb y = ix2 (rowAt (t.val / 8) (q_lt t) (y 0)) (y 1) := by
  funext a
  refine Fin.ext ((win0_2.rect_emb_val t y a).trans ?_)
  match a with
  | ⟨0, _⟩ => exact congrArg (· + (y 0).val) (at2 t).1
  | ⟨1, _⟩ => exact (congrArg (· + (y 1).val) (at2 t).2).trans (Nat.zero_add _)
theorem emb3 (t : Fin cfg0.N) (y : S1x1024.Idx) : (win0_3.rect t).emb y = y := by
  funext a
  refine Fin.ext ((win0_3.rect_emb_val t y a).trans ?_)
  match a with
  | ⟨0, _⟩ => exact (congrArg (· + (y 0).val) (at3 t).1).trans (Nat.zero_add _)
  | ⟨1, _⟩ => exact (congrArg (· + (y 1).val) (at3 t).2).trans (Nat.zero_add _)
theorem emb4 (t : Fin cfg0.N) (y : S1024x1024.Idx) : (win0_4.rect t).emb y = ix2 (rowAt (t.val / 8) (q_lt t) (y 0)) (y 1) := by
  funext a
  refine Fin.ext ((win0_4.rect_emb_val t y a).trans ?_)
  match a with
  | ⟨0, _⟩ => exact congrArg (· + (y 0).val) (at4 t).1
  | ⟨1, _⟩ => exact (congrArg (· + (y 1).val) (at4 t).2).trans (Nat.zero_add _)
theorem emb5 (t : Fin cfg0.N) (y : S1024x1024.Idx) : (win0_5.rect t).emb y = ix2 (rowAt (t.val / 8) (q_lt t) (y 0)) (y 1) := by
  funext a
  refine Fin.ext ((win0_5.rect_emb_val t y a).trans ?_)
  match a with
  | ⟨0, _⟩ => exact congrArg (· + (y 0).val) (at5 t).1
  | ⟨1, _⟩ => exact (congrArg (· + (y 1).val) (at5 t).2).trans (Nat.zero_add _)
theorem emb6 (t : Fin cfg0.N) (y : S1024x1024.Idx) : (win0_6.rect t).emb y = ix2 (rowAt (t.val / 8) (q_lt t) (y 0)) (y 1) := by
  funext a
  refine Fin.ext ((win0_6.rect_emb_val t y a).trans ?_)
  match a with
  | ⟨0, _⟩ => exact congrArg (· + (y 0).val) (at6 t).1
  | ⟨1, _⟩ => exact (congrArg (· + (y 1).val) (at6 t).2).trans (Nat.zero_add _)
theorem emb7 (t : Fin cfg0.N) (y : S1x1024.Idx) : (win0_7.rect t).emb y = y := by
  funext a
  refine Fin.ext ((win0_7.rect_emb_val t y a).trans ?_)
  match a with
  | ⟨0, _⟩ => exact (congrArg (· + (y 0).val) (at7 t).1).trans (Nat.zero_add _)
  | ⟨1, _⟩ => exact (congrArg (· + (y 1).val) (at7 t).2).trans (Nat.zero_add _)

abbrev blkA (c : Dev nD) (t : Fin cfg0.N) : FVec Ideal S1024x768 .bf16 := iblk m c 0 t
abbrev blkB (c : Dev nD) (t : Fin cfg0.N) : FVec Ideal S1x1024x768 .bf16 := iblk m c 1 t
abbrev blkX (c : Dev nD) (t : Fin cfg0.N) : FVec Ideal S1024x1024 .f32 := iblk m c 2 t
abbrev blkG (c : Dev nD) (t : Fin cfg0.N) : FVec Ideal S1x1024 .f32 := iblk m c 3 t
abbrev blkD (c : Dev nD) (t : Fin cfg0.N) : FVec Ideal S1024x1024 .f32 := iblk m c 4 t

theorem blkA_apply (c : Dev nD) (t : Fin cfg0.N) (y : S1024x768.Idx) :
    blkA m c t y = argA m c (ix2 (rowAt (t.val / 8) (q_lt t) (y 0)) ⟨768 * (t.val % 8) + (y 1).val, col_lt _ (Nat.mod_lt _ (by decide)) (y 1)⟩) := by
  show V m c main_arg0 ((win0_0.rect t).emb y) = _
  rw [V_main_arg0, emb0 t]
theorem blkB_apply (c : Dev nD) (t : Fin cfg0.N) (y : S1x1024x768.Idx) :
    blkB m c t y = argB m c (ix3 ⟨(t.val % 8 % 2) * 4 + t.val % 8 / 2, slot_lt _ (Nat.mod_lt _ (by decide))⟩ (y 1) (y 2)) := by
  show V m c main_arg1 ((win0_1.rect t).emb y) = _
  rw [V_main_arg1, emb1 t]
  rfl
theorem blkX_apply (c : Dev nD) (t : Fin cfg0.N) (y : S1024x1024.Idx) : blkX m c t y = argX m c (ix2 (rowAt (t.val / 8) (q_lt t) (y 0)) (y 1)) := by
  show V m c main_arg2 ((win0_2.rect t).emb y) = _
  rw [V_main_arg2, emb2 t]
  rfl
theorem blkG_apply (c : Dev nD) (t : Fin cfg0.N) (y : S1x1024.Idx) : blkG m c t y = argG m c y := by
  show V m c main_arg3 ((win0_3.rect t).emb y) = _
  rw [V_main_arg3, emb3 t]
theorem blkD_apply (c : Dev nD) (t : Fin cfg0.N) (y : S1024x1024.Idx) : blkD m c t y = argD m c (ix2 (rowAt (t.val / 8) (q_lt t) (y 0)) (y 1)) := by
  show V m c main_arg4 ((win0_4.rect t).emb y) = _
  rw [V_main_arg4, emb4 t]
  rfl

/-- The point's part of the product. -/
theorem part_point (c : Dev nD) (t : Fin cfg0.N) (r i : Fin 1024) :
    ∑ d : Fin 768, blkA m c t (ix2 r d) * blkB m c t (ix3 0 i d) = partOf (argA m c) (argB m c) (rowAt (t.val / 8) (q_lt t) r) i (t.val % 8) := by
  unfold partOf
  rw [dif_pos (Nat.mod_lt _ (by decide))]
  refine Finset.sum_congr rfl fun d _ => ?_
  exact congrArg₂ (fun x y : EReal => x * y) (blkA_apply m c t (ix2 r d)) (blkB_apply m c t (ix3 0 i d))

theorem scratch_A (c : Dev nD) (t : Fin cfg0.N) (h0 : t.val % 8 = 0) (h1 : ¬t.val % 8 = 7) :
    (outsAt0 m c t.val t.isLt).2.2.2 = k0_pay2 (F := Ideal) (k0_pay1 (F := Ideal)) (blkA m c t) (blkB m c t) := by
  rw [outsAt0_A m c t h0 h1]
  dsimp only
  exact sum_A c _ _ _ _ _ _ _ _ _ _ _ _ _ _ _ _ _ _ _ _ _ _ _ _ _ _
theorem scratch_B (c : Dev nD) (t : Fin cfg0.N) (h0 : ¬t.val % 8 = 0) (h1 : ¬t.val % 8 = 7) :
    (outsAt0 m c t.val t.isLt).2.2.2
      = k0_pay2 (F := Ideal) (outsAt0 m c (t.val - 1) (Nat.lt_of_le_of_lt (Nat.sub_le _ _) t.isLt)).2.2.2 (blkA m c t) (blkB m c t) := by
  rw [outsAt0_B m c t h0 h1]
  dsimp only
  exact sum_B c _ _ _ _ _ _ _ _ _ _ _ _ _ _ _ _ _ _ _ _ _ _ _ _ _ _ _

/-- A point's step of the product. -/
theorem step_point (c : Dev nD) (t : Fin cfg0.N) (v : FVec Ideal S1024x1024 .f32) (r i : Fin 1024) (k : ℕ) (hk : t.val % 8 = k)
    (hv : v (ix2 r i) = ∑ n ∈ Finset.range k, partOf (argA m c) (argB m c) (rowAt (t.val / 8) (q_lt t) r) i n) :
    k0_pay2 (F := Ideal) v (blkA m c t) (blkB m c t) (ix2 r i)
      = ∑ n ∈ Finset.range (k + 1), partOf (argA m c) (argB m c) (rowAt (t.val / 8) (q_lt t) r) i n := by
  subst hk
  rw [Finset.sum_range_succ]
  exact (pay2_apply _ _ _ r i).trans (congrArg₂ (fun x y : EReal => x + y) hv (part_point m c t r i))

theorem row_before (t : Fin cfg0.N) (h0 : ¬t.val % 8 = 0) (hp : t.val - 1 < cfg0.N) (r : Fin 1024) :
    rowAt ((⟨t.val - 1, hp⟩ : Fin cfg0.N).val / 8) (q_lt ⟨t.val - 1, hp⟩) r = rowAt (t.val / 8) (q_lt t) r :=
  Fin.ext (by show 1024 * ((t.val - 1) / 8) + r.val = 1024 * (t.val / 8) + r.val; rw [show (t.val - 1) / 8 = t.val / 8 by omega])

/-- The scratch after a point before the last column block: the parts so far. -/
theorem scratch_sum (c : Dev nD) (r i : Fin 1024) (k : ℕ) : k < 7 → ∀ t : Fin cfg0.N, t.val % 8 = k →
    (outsAt0 m c t.val t.isLt).2.2.2 (ix2 r i)
      = ∑ n ∈ Finset.range (k + 1), partOf (argA m c) (argB m c) (rowAt (t.val / 8) (q_lt t) r) i n := by
  induction k with
  | zero =>
    intro _ t ht
    refine (congrFun (scratch_A m c t ht (by omega)) (ix2 r i)).trans ?_
    exact step_point m c t _ r i 0 ht ((pay1_apply (ix2 r i)).trans (Finset.sum_range_zero _).symm)
  | succ k IH =>
    intro hk t ht
    have hp : t.val - 1 < cfg0.N := Nat.lt_of_le_of_lt (Nat.sub_le _ _) t.isLt
    have ih := IH (by omega) ⟨t.val - 1, hp⟩ (by show (t.val - 1) % 8 = k; omega)
    rw [row_before t (by omega) hp r] at ih
    refine (congrFun (scratch_B m c t (by omega) (by omega)) (ix2 r i)).trans ?_
    exact step_point m c t _ r i (k + 1) ht ih

/-- The product at the last column block. -/
theorem last_prod (c : Dev nD) (t : Fin cfg0.N) (ht : t.val % 8 = 7) (r i : Fin 1024) :
    k0_pay2 (F := Ideal) (outsAt0 m c (t.val - 1) (Nat.lt_of_le_of_lt (Nat.sub_le _ _) t.isLt)).2.2.2 (blkA m c t) (blkB m c t) (ix2 r i)
      = prodRow (argA m c) (argB m c) (rowAt (t.val / 8) (q_lt t) r) i := by
  have hp : t.val - 1 < cfg0.N := Nat.lt_of_le_of_lt (Nat.sub_le _ _) t.isLt
  have ih := scratch_sum m c r i 6 (by omega) ⟨t.val - 1, hp⟩ (by show (t.val - 1) % 8 = 6; omega)
  rw [row_before t (by omega) hp r] at ih
  exact (step_point m c t _ r i 7 ht ih).trans (parts_all _ _ _ i)

/-! ## The results -/

/-- The input's gradient. -/
def gradIn (A : FVec Ideal S4096x6144 .bf16) (B : FVec Ideal S8x1024x768 .bf16) (X : FVec Ideal S4096x1024 .f32) (G : FVec Ideal S1x1024 .f32) (D : FVec Ideal S4096x1024 .f32)
    (r : Fin 4096) (j : Fin 1024) : EReal :=
  inRow (prodRow A B r) (fun i => G (ix2 0 i)) (fun i => X (ix2 r i)) (fun i => D (ix2 r i)) j
/-- What a row adds to the weights' gradient. -/
def gradAdd (A : FVec Ideal S4096x6144 .bf16) (B : FVec Ideal S8x1024x768 .bf16) (X : FVec Ideal S4096x1024 .f32) (r : Fin 4096) (j : Fin 1024) : EReal :=
  weightRow (prodRow A B r) (fun i => X (ix2 r i)) j

theorem gradRow_point (c : Dev nD) (t : Fin cfg0.N) (ht : t.val % 8 = 7) (r j : Fin 1024) :
    gradRow (k0_pay2 (F := Ideal) (outsAt0 m c (t.val - 1) (Nat.lt_of_le_of_lt (Nat.sub_le _ _) t.isLt)).2.2.2 (blkA m c t) (blkB m c t)) (blkX m c t) (blkD m c t) (blkG m c t) r j
      = gradIn (argA m c) (argB m c) (argX m c) (argG m c) (argD m c) (rowAt (t.val / 8) (q_lt t) r) j := by
  unfold gradRow gradIn
  have e1 := funext fun i => last_prod m c t ht r i
  have e2 := funext fun i => blkG_apply m c t (ix2 0 i)
  have e3 := funext fun i => blkX_apply m c t (ix2 r i)
  have e4 := funext fun i => blkD_apply m c t (ix2 r i)
  rw [e1, e2, e3, e4]
theorem add_point (c : Dev nD) (t : Fin cfg0.N) (ht : t.val % 8 = 7) (r j : Fin 1024) :
    weightRow (fun i => k0_pay2 (F := Ideal) (outsAt0 m c (t.val - 1) (Nat.lt_of_le_of_lt (Nat.sub_le _ _) t.isLt)).2.2.2 (blkA m c t) (blkB m c t) (ix2 r i))
        (fun i => blkX m c t (ix2 r i)) j
      = gradAdd (argA m c) (argB m c) (argX m c) (rowAt (t.val / 8) (q_lt t) r) j := by
  unfold gradAdd
  have e1 := funext fun i => last_prod m c t ht r i
  have e3 := funext fun i => blkX_apply m c t (ix2 r i)
  rw [e1, e3]

/-- What a point of the last column block leaves of the input's gradient. -/
theorem left5 (c : Dev nD) (t : Fin cfg0.N) (ht : t.val % 8 = 7) (y : S1024x1024.Idx) :
    (outsAt0 m c t.val t.isLt).1 y = gradIn (argA m c) (argB m c) (argX m c) (argG m c) (argD m c) (rowAt (t.val / 8) (q_lt t) (y 0)) (y 1) := by
  refine Eq.trans ?_ (gradRow_point m c t ht (y 0) (y 1))
  by_cases h2 : t.val < 8
  · rw [outsAt0_C m c t (by omega) ht h2]
    exact out5_C c _ _ _ _ _ _ _ _ _ _ _ _ _ _ _ _ _ _ _ _ _ _ _ _ _ _ _ _ y
  · rw [outsAt0_D m c t (by omega) ht h2]
    exact out5_D c _ _ _ _ _ _ _ _ _ _ _ _ _ _ _ _ _ _ _ _ _ _ _ _ _ _ _ _ _ y
theorem left6 (c : Dev nD) (t : Fin cfg0.N) (ht : t.val % 8 = 7) (y : S1024x1024.Idx) :
    (outsAt0 m c t.val t.isLt).2.1 y = gradIn (argA m c) (argB m c) (argX m c) (argG m c) (argD m c) (rowAt (t.val / 8) (q_lt t) (y 0)) (y 1) := by
  refine Eq.trans ?_ (gradRow_point m c t ht (y 0) (y 1))
  by_cases h2 : t.val < 8
  · rw [outsAt0_C m c t (by omega) ht h2]
    exact out6_C c _ _ _ _ _ _ _ _ _ _ _ _ _ _ _ _ _ _ _ _ _ _ _ _ _ _ _ _ y
  · rw [outsAt0_D m c t (by omega) ht h2]
    exact out6_D c _ _ _ _ _ _ _ _ _ _ _ _ _ _ _ _ _ _ _ _ _ _ _ _ _ _ _ _ _ y

/-- What a block of rows adds to the weights' gradient. -/
def blockAdd (A : FVec Ideal S4096x6144 .bf16) (B : FVec Ideal S8x1024x768 .bf16) (X : FVec Ideal S4096x1024 .f32) (j : Fin 1024) (q : ℕ) : EReal :=
  if hq : q < 4 then ∑ r : Fin 1024, gradAdd A B X (rowAt q hq r) j else 0

theorem block_point (c : Dev nD) (t : Fin cfg0.N) (ht : t.val % 8 = 7) (j : Fin 1024) :
    ∑ r : Fin 1024, weightRow (fun i => k0_pay2 (F := Ideal) (outsAt0 m c (t.val - 1) (Nat.lt_of_le_of_lt (Nat.sub_le _ _) t.isLt)).2.2.2 (blkA m c t) (blkB m c t) (ix2 r i))
        (fun i => blkX m c t (ix2 r i)) j
      = blockAdd (argA m c) (argB m c) (argX m c) j (t.val / 8) := by
  unfold blockAdd
  rw [dif_pos (q_lt t)]
  exact Finset.sum_congr rfl fun r _ => add_point m c t ht r j

theorem left7_C (c : Dev nD) (j : Fin 1024) (t : Fin cfg0.N) (ht : t.val % 8 = 7) (h2 : t.val < 8) :
    (outsAt0 m c t.val t.isLt).2.2.1 (ix2 0 j) = 0 + blockAdd (argA m c) (argB m c) (argX m c) j (t.val / 8) := by
  rw [outsAt0_C m c t (by omega) ht h2]
  dsimp only
  refine Eq.trans ?_ (congrArg (fun x : EReal => 0 + x) (block_point m c t ht j))
  exact out7_C c _ _ _ _ _ _ _ _ _ _ _ _ _ _ _ _ _ _ _ _ _ _ _ _ _ _ _ _ j
theorem left7_D (c : Dev nD) (j : Fin 1024) (t : Fin cfg0.N) (ht : t.val % 8 = 7) (h2 : ¬t.val < 8) :
    (outsAt0 m c t.val t.isLt).2.2.1 (ix2 0 j)
      = (outsAt0 m c (t.val - 1) (Nat.lt_of_le_of_lt (Nat.sub_le _ _) t.isLt)).2.2.1 (ix2 0 j) + blockAdd (argA m c) (argB m c) (argX m c) j (t.val / 8) := by
  rw [outsAt0_D m c t (by omega) ht h2]
  dsimp only
  refine Eq.trans ?_ (congrArg (fun x : EReal => (outsAt0 m c (t.val - 1) (Nat.lt_of_le_of_lt (Nat.sub_le _ _) t.isLt)).2.2.1 (ix2 0 j) + x) (block_point m c t ht j))
  exact out7_D c _ _ _ _ _ _ _ _ _ _ _ _ _ _ _ _ _ _ _ _ _ _ _ _ _ _ _ _ _ j
theorem left7_keep (c : Dev nD) (j : Fin 1024) (t : Fin cfg0.N) (h0 : 0 < t.val) (ht : ¬t.val % 8 = 7) :
    (outsAt0 m c t.val t.isLt).2.2.1 (ix2 0 j) = (outsAt0 m c (t.val - 1) (Nat.lt_of_le_of_lt (Nat.sub_le _ _) t.isLt)).2.2.1 (ix2 0 j) := by
  by_cases h8 : t.val % 8 = 0
  · rw [outsAt0_A m c t h8 ht]
    unfold out0_A_7
    rfl
  · rw [outsAt0_B m c t h8 ht]
    unfold out0_B_7
    rfl

/-- The weights' gradient after a point: the blocks of rows finished so far. -/
theorem left7 (c : Dev nD) (j : Fin 1024) (k : ℕ) : ∀ t : Fin cfg0.N, t.val = 7 + k →
    (outsAt0 m c t.val t.isLt).2.2.1 (ix2 0 j) = ∑ q ∈ Finset.range ((t.val + 1) / 8), blockAdd (argA m c) (argB m c) (argX m c) j q := by
  induction k with
  | zero =>
    intro t ht
    rw [left7_C m c j t (by omega) (by omega), show (t.val + 1) / 8 = 1 by omega, show t.val / 8 = 0 by omega, Finset.sum_range_one, zero_add]
  | succ k IH =>
    intro t ht
    have hp : t.val - 1 < cfg0.N := Nat.lt_of_le_of_lt (Nat.sub_le _ _) t.isLt
    have ih := IH ⟨t.val - 1, hp⟩ (by show t.val - 1 = 7 + k; omega)
    have hs : ((⟨t.val - 1, hp⟩ : Fin cfg0.N).val + 1) / 8 = t.val / 8 := by show (t.val - 1 + 1) / 8 = t.val / 8; omega
    rw [hs] at ih
    by_cases h1 : t.val % 8 = 7
    · rw [left7_D m c j t h1 (by omega), show (t.val + 1) / 8 = t.val / 8 + 1 by omega, Finset.sum_range_succ]
      exact congrArg (fun x : EReal => x + blockAdd (argA m c) (argB m c) (argX m c) j (t.val / 8)) ih
    · rw [left7_keep m c j t (by omega) h1, show (t.val + 1) / 8 = t.val / 8 by omega]
      exact ih

theorem blocks_all (A : FVec Ideal S4096x6144 .bf16) (B : FVec Ideal S8x1024x768 .bf16) (X : FVec Ideal S4096x1024 .f32) (j : Fin 1024) :
    ∑ q ∈ Finset.range 4, blockAdd A B X j q = ∑ r : Fin 4096, gradAdd A B X r j := by
  show _ = ∑ r : Fin (4 * 1024), gradAdd A B X r j
  rw [← Equiv.sum_comp (finProdFinEquiv (m := 4) (n := 1024)), Fintype.sum_prod_type, Finset.sum_range]
  refine Finset.sum_congr rfl fun q _ => ?_
  unfold blockAdd
  rw [dif_pos q.isLt]
  refine Finset.sum_congr rfl fun r _ => congrArg (fun r => gradAdd A B X r j) ?_
  refine Fin.ext ?_
  show 1024 * q.val + r.val = r.val + 1024 * q.val
  omega

/-! ## The arrays -/

def resX (A : FVec Ideal S4096x6144 .bf16) (B : FVec Ideal S8x1024x768 .bf16) (X : FVec Ideal S4096x1024 .f32) (G : FVec Ideal S1x1024 .f32) (D : FVec Ideal S4096x1024 .f32) :
    FVec Ideal S4096x1024 .f32 := fun i => gradIn A B X G D (i 0) (i 1)
def resXb (A : FVec Ideal S4096x6144 .bf16) (B : FVec Ideal S8x1024x768 .bf16) (X : FVec Ideal S4096x1024 .f32) (G : FVec Ideal S1x1024 .f32) (D : FVec Ideal S4096x1024 .f32) :
    FVec Ideal S4096x1024 .bf16 := fun i => gradIn A B X G D (i 0) (i 1)
def resG (A : FVec Ideal S4096x6144 .bf16) (B : FVec Ideal S8x1024x768 .bf16) (X : FVec Ideal S4096x1024 .f32) : FVec Ideal S1x1024 .f32 :=
  fun i => ∑ r : Fin 4096, gradAdd A B X r (i 1)

theorem array5 (c : Dev nD) : (dats m 0 c).arrAt 5 cfg0.N = resX (argA m c) (argB m c) (argX m c) (argG m c) (argD m c) := by
  refine (dats m 0 c).arrAt_eq_of_cover 5 (resX (argA m c) (argB m c) (argX m c) (argG m c) (argD m c)) (fun t hf => ?_) fun i => ?_
  · funext y
    refine (congrFun (Cert.FdnIdeal.Value.flushed5 m c t) y).trans ((left5 m c t ((flush0_5 t).mp hf) y).trans ?_)
    show _ = resX (argA m c) (argB m c) (argX m c) (argG m c) (argD m c) ((win0_5.rect t).emb y)
    rw [emb5]
    rfl
  · have h0 : (i 0).val < 4096 := (i 0).isLt
    have ht : ((i 0).val / 1024) * 8 + 7 < cfg0.N := Nat.lt_of_lt_of_eq (by omega) N_0.symm
    refine ⟨⟨_, ht⟩, (flush0_5 _).mpr (by show (((i 0).val / 1024) * 8 + 7) % 8 = 7; omega), ?_⟩
    refine mem_of_emb ((cfg0.win 5).blk ⟨_, ht⟩).view (ix2 ⟨(i 0).val % 1024, Nat.mod_lt _ (by decide)⟩ (i 1)) i ?_
    refine (emb5 ⟨_, ht⟩ (ix2 ⟨(i 0).val % 1024, Nat.mod_lt _ (by decide)⟩ (i 1))).trans ?_
    funext a
    match a with
    | ⟨0, _⟩ => exact Fin.ext (by show 1024 * ((((i 0).val / 1024) * 8 + 7) / 8) + (i 0).val % 1024 = (i 0).val; omega)
    | ⟨1, _⟩ => rfl

theorem array6 (c : Dev nD) : (dats m 0 c).arrAt 6 cfg0.N = resXb (argA m c) (argB m c) (argX m c) (argG m c) (argD m c) := by
  refine (dats m 0 c).arrAt_eq_of_cover 6 (resXb (argA m c) (argB m c) (argX m c) (argG m c) (argD m c)) (fun t hf => ?_) fun i => ?_
  · funext y
    refine (congrFun (Cert.FdnIdeal.Value.flushed6 m c t) y).trans ((left6 m c t ((flush0_6 t).mp hf) y).trans ?_)
    show _ = resXb (argA m c) (argB m c) (argX m c) (argG m c) (argD m c) ((win0_6.rect t).emb y)
    rw [emb6]
    rfl
  · have h0 : (i 0).val < 4096 := (i 0).isLt
    have ht : ((i 0).val / 1024) * 8 + 7 < cfg0.N := Nat.lt_of_lt_of_eq (by omega) N_0.symm
    refine ⟨⟨_, ht⟩, (flush0_6 _).mpr (by show (((i 0).val / 1024) * 8 + 7) % 8 = 7; omega), ?_⟩
    refine mem_of_emb ((cfg0.win 6).blk ⟨_, ht⟩).view (ix2 ⟨(i 0).val % 1024, Nat.mod_lt _ (by decide)⟩ (i 1)) i ?_
    refine (emb6 ⟨_, ht⟩ (ix2 ⟨(i 0).val % 1024, Nat.mod_lt _ (by decide)⟩ (i 1))).trans ?_
    funext a
    match a with
    | ⟨0, _⟩ => exact Fin.ext (by show 1024 * ((((i 0).val / 1024) * 8 + 7) / 8) + (i 0).val % 1024 = (i 0).val; omega)
    | ⟨1, _⟩ => rfl

theorem array7 (c : Dev nD) : (dats m 0 c).arrAt 7 cfg0.N = resG (argA m c) (argB m c) (argX m c) := by
  refine (dats m 0 c).arrAt_eq_of_cover 7 (resG (argA m c) (argB m c) (argX m c)) (fun t hf => ?_) fun i => ?_
  · funext y
    have h31 := (flush0_7 t).mp hf
    have h32 := lt32N t
    have hy : y = ix2 0 (y 1) := by
      funext a
      match a with
      | ⟨0, _⟩ => exact Fin.ext (by have : (y 0).val < 1 := (y 0).isLt; show (y 0).val = 0; omega)
      | ⟨1, _⟩ => rfl
    refine (congrFun (Cert.FdnIdeal.Value.flushed7 m c t) y).trans ?_
    show (outsAt0 m c t.val t.isLt).2.2.1 y = resG (argA m c) (argB m c) (argX m c) ((win0_7.rect t).emb y)
    rw [emb7]
    refine (congrArg (outsAt0 m c t.val t.isLt).2.2.1 hy).trans ((left7 m c (y 1) 24 t (by omega)).trans ?_)
    rw [show (t.val + 1) / 8 = 4 by omega]
    exact blocks_all _ _ _ _
  · have ht : 31 < cfg0.N := Nat.lt_of_lt_of_eq (by decide) N_0.symm
    refine ⟨⟨31, ht⟩, (flush0_7 _).mpr (by show 31 % 32 = 31; decide), ?_⟩
    exact mem_of_emb ((cfg0.win 7).blk ⟨31, ht⟩).view i i (emb7 ⟨31, ht⟩ i)

end Cert.XDn

end
-- ==== Proof.InputGrad.lean ====
/- The input's gradient through the first product and its norm: the reference, and the claims. -/
module

public import proofs.«01_k».proof.Defs
public import proofs.«01_k».proof.Proof.Gen.Fdn.Frame
public import proofs.«01_k».proof.Proof.Gen.FdnRefIdeal.Read
public import proofs.«01_k».proof.Proof.InputArrays
public import Idealize.ShloMosaic.Lib.Quiescent

@[expose] public section

noncomputable section

namespace Cert.XDn

open Cert.FdnIdeal Cert.FdnIdeal.Gen Cert.XPlaces Idealize.ShloMosaic Idealize.ShloMosaic.ValueIdx Idealize.SL.Sem

/-! ## The reference -/

section Ref
open Cert.FdnRefIdeal.Read

/-- A place of the whole array, split into row, pair of blocks, block of the pair and column. -/
theorem split_blocks (k j : ℕ) (hk : k < 1024) (hj : j < 6144) :
    (k * 6144 + j) / 6144 = k ∧ (k * 6144 + j) / 1536 % 4 = j / 768 / 2 ∧ (k * 6144 + j) / 768 % 2 = j / 768 % 2 ∧ (k * 6144 + j) % 768 = j % 768 := by
  refine ⟨?_, ?_, ?_, ?_⟩ <;> omega

/-- A place among the slots from the block of the pair, the pair, the row and the column. -/
theorem join_slots (q p k j : ℕ) (hq : q < 2) (hp : p < 4) (hk : k < 1024) (hj : j < 768) :
    (((q * 4 + p) * 1024 + k) * 768 + j) / 786432 = q * 4 + p ∧ (((q * 4 + p) * 1024 + k) * 768 + j) / 768 % 1024 = k
      ∧ (((q * 4 + p) * 1024 + k) * 768 + j) % 768 = j := by
  refine ⟨?_, ?_, ?_⟩ <;> omega

theorem idx3 (i : Cert.FdnRefIdeal.S1024x6144.Idx) : idx_main_v3 i = ix4 (i 0) ⟨(i 1).val / 768 / 2, by have : (i 1).val < 6144 := (i 1).isLt; omega⟩
    ⟨(i 1).val / 768 % 2, Nat.mod_lt _ (by decide)⟩ (placeOf (i 1)) := by
  obtain ⟨e0, e1, e2, e3⟩ := split_blocks (i 0).val (i 1).val (i 0).isLt (i 1).isLt
  funext a
  match a with
  | ⟨0, _⟩ => exact Fin.ext e0
  | ⟨1, _⟩ => exact Fin.ext e1
  | ⟨2, _⟩ => exact Fin.ext e2
  | ⟨3, _⟩ => exact Fin.ext e3

theorem idx21 (k : Fin 1024) (p : Fin 4) (q : Fin 2) (j : Fin 768) :
    idx_main_v1 (idx_main_v2 (ix4 k p q j)) = ix3 ⟨q.val * 4 + p.val, by omega⟩ k j := by
  obtain ⟨e0, e1, e2⟩ := join_slots q.val p.val k.val j.val q.isLt p.isLt k.isLt j.isLt
  funext a
  match a with
  | ⟨0, _⟩ => exact Fin.ext e0
  | ⟨1, _⟩ => exact Fin.ext e1
  | ⟨2, _⟩ => exact Fin.ext e2

theorem idx321 (i : Cert.FdnRefIdeal.S1024x6144.Idx) : idx_main_v1 (idx_main_v2 (idx_main_v3 i)) = ix3 (n0 := 8) (n1 := 1024) (n2 := 768) (slotOf (i 1)) (i 0) (placeOf (i 1)) :=
  (congrArg (fun z => idx_main_v1 (idx_main_v2 z)) (idx3 i)).trans (idx21 _ _ _ _)

variable (A : FVec Ideal S4096x6144 .bf16) (B : FVec Ideal S8x1024x768 .bf16) (X : FVec Ideal S4096x1024 .f32) (G : FVec Ideal S1x1024 .f32) (D : FVec Ideal S4096x1024 .f32)

theorem ref3_apply (i : Cert.FdnRefIdeal.S1024x6144.Idx) : val_main_v3 (F := Ideal) B i = B (ix3 (slotOf (i 1)) (i 0) (placeOf (i 1))) := by
  rw [val_main_v3_apply, val_main_v2_apply, val_main_v1_apply]
  exact congrArg B (idx321 i)

theorem ref21_apply (r : Fin 4096) (j : Fin 1024) : val_main_v21 (F := Ideal) A B (ix2 r j) = prodRow A B r j := by
  refine Eq.trans (val_main_v21_apply A B (ix2 r j)) ?_
  show _ = ∑ k : Fin 6144, A (ix2 r k) * B (ix3 (slotOf k) j (placeOf k))
  refine Finset.sum_congr rfl fun k _ => ?_
  exact congrArg₂ (fun x y : EReal => x * y) (congrArg A (eq_ix2 _)) (ref3_apply B (ridx_main_v21 (ix2 r j) k))

theorem ref10_apply (r : Fin 4096) : val_main_v10 (F := Ideal) X (ix2 r 0) = (∑ i : Fin 1024, X (ix2 r i) * X (ix2 r i)) * cInv + cEps := by
  refine congrArg₂ (fun x y : EReal => x + y) ?_ (val_main_v9_apply (F := Ideal) _)
  refine Eq.trans (congrArg₂ Ideal.div ?_ (val_main_v7_apply (F := Ideal) _)) (div_len _)
  refine Eq.trans (val_main_v6_apply (F := Ideal) X (ix2 r 0)) (Eq.trans (val_main_v5_apply X _) ?_)
  refine Eq.trans (congrArg (· + _) Ideal.ofBits_zero_f32) (Eq.trans (zero_add _) ?_)
  refine Finset.sum_congr rfl fun d _ => ?_
  have e : X (idx_main_v5 (idx_main_v6 (ix2 r 0)) d) = X (ix2 r d) := congrArg X (eq_ix2 _)
  exact congrArg₂ (fun x y : EReal => x * y) e e

theorem ref11_apply (r : Fin 4096) : val_main_v11 (F := Ideal) X (ix2 r 0) = slopeOf (fun i => X (ix2 r i)) :=
  congrArg Ideal.rsqrt (ref10_apply X r)

theorem ref14_apply (r : Fin 4096) : val_main_v14 (F := Ideal) X (ix2 r 0)
    = cHalf * Ideal.div (slopeOf (fun i => X (ix2 r i))) ((∑ i : Fin 1024, X (ix2 r i) * X (ix2 r i)) * cInv + cEps) :=
  congrArg₂ (fun x y : EReal => x * y) (val_main_v13_apply (F := Ideal) _) (congrArg₂ Ideal.div (ref11_apply X r) (ref10_apply X r))

theorem ref26_apply (r : Fin 4096) (j : Fin 1024) : val_main_v26 (F := Ideal) A B G (ix2 r j) = prodRow A B r j * G (ix2 0 j) :=
  congrArg₂ (fun x y : EReal => x * y) (ref21_apply A B r j) (Eq.trans (val_main_v25_apply (F := Ideal) G (ix2 r j)) (congrArg G (eq_ix2 _)))

theorem ref29_apply (r : Fin 4096) : val_main_v29 (F := Ideal) A B X G (ix2 r 0) = ∑ i : Fin 1024, X (ix2 r i) * (prodRow A B r i * G (ix2 0 i)) := by
  refine Eq.trans (val_main_v29_apply (F := Ideal) A B X G (ix2 r 0)) (Eq.trans (val_main_v28_apply A B X G _) ?_)
  refine Eq.trans (congrArg (· + _) Ideal.ofBits_zero_f32) (Eq.trans (zero_add _) ?_)
  refine Finset.sum_congr rfl fun d _ => ?_
  have e : idx_main_v28 (idx_main_v29 (ix2 r 0)) d = ix2 (n0 := 4096) (n1 := 1024) r d := funext fun a => match a with
    | ⟨0, _⟩ => Fin.ext (by show r.val * 1 + 0 = r.val; omega)
    | ⟨1, _⟩ => rfl
  refine Eq.trans (congrArg (val_main_v27 (F := Ideal) A B X G) e) ?_
  exact congrArg (fun y : EReal => X (ix2 r d) * y) (ref26_apply A B G r d)

theorem ref35_apply (r : Fin 4096) : val_main_v35 (F := Ideal) A B X G (ix2 r 0) = slopePart (prodRow A B r) (fun i => G (ix2 0 i)) (fun i => X (ix2 r i)) :=
  congrArg₂ Ideal.div (congrArg₂ (fun x y : EReal => x * y) (ref29_apply A B X G r) (ref14_apply X r)) (val_main_v34_apply (F := Ideal) _)

theorem ref37_apply (r : Fin 4096) (j : Fin 1024) : val_main_v37 (F := Ideal) A B X G (ix2 r j) = slopePart (prodRow A B r) (fun i => G (ix2 0 i)) (fun i => X (ix2 r i)) := by
  refine Eq.trans (val_main_v37_apply (F := Ideal) A B X G (ix2 r j)) (Eq.trans (val_main_v36_apply A B X G _) ?_)
  refine Eq.trans (congrArg (· + _) Ideal.ofBits_zero_f32) (Eq.trans (zero_add _) ?_)
  refine Eq.trans (Fin.sum_univ_one _) ?_
  exact Eq.trans (congrArg (val_main_v35 (F := Ideal) A B X G) (eq_ix2 _)) (ref35_apply A B X G r)

theorem ref41_apply (r : Fin 4096) (j : Fin 1024) : val_main_v41 (F := Ideal) A B X G D (ix2 r j) = gradIn A B X G D r j := by
  refine Eq.trans ?_ (inRow_eq (prodRow A B r) (fun i => G (ix2 0 i)) (fun i => X (ix2 r i)) (fun i => D (ix2 r i)) j).symm
  have e30 : val_main_v30 (F := Ideal) X (ix2 r j) = slopeOf (fun i => X (ix2 r i)) :=
    Eq.trans (val_main_v30_apply (F := Ideal) X (ix2 r j)) (Eq.trans (congrArg (val_main_v11 (F := Ideal) X) (eq_ix2 _)) (ref11_apply X r))
  refine congrArg₂ (fun x y : EReal => x + y) (congrArg₂ (fun x y : EReal => x + y) (congrArg (fun y : EReal => D (ix2 r j) + y) ?_) ?_) ?_
  · exact congrArg₂ (fun x y : EReal => x * y) (ref26_apply A B G r j) e30
  · exact congrArg (fun y : EReal => X (ix2 r j) * y) (ref37_apply A B X G r j)
  · exact congrArg (fun y : EReal => y * X (ix2 r j)) (ref37_apply A B X G r j)

theorem ref41 : val_main_v41 (F := Ideal) A B X G D = resX A B X G D := by
  funext i
  exact Eq.trans (congrArg (val_main_v41 (F := Ideal) A B X G D) (eq_ix2 i)) (ref41_apply A B X G D (i 0) (i 1))

theorem ref42 : val_main_v42 (F := Ideal) A B X G D = resXb A B X G D := by
  funext i
  exact congrFun (ref41 A B X G D) i

theorem col_idx (i : S1x1024.Idx) : (i 0).val * 1024 + (i 1).val = (i 1).val := by
  have h0 : (i 0).val < 1 := (i 0).isLt
  omega

theorem ref24 : val_main_v24 (F := Ideal) A B X = resG A B X := by
  funext i
  refine Eq.trans (val_main_v24_apply (F := Ideal) A B X i) (Eq.trans (val_main_v23_apply A B X _) ?_)
  refine Eq.trans (congrArg (· + _) Ideal.ofBits_zero_f32) (Eq.trans (zero_add _) ?_)
  show _ = ∑ r : Fin 4096, gradAdd A B X r (i 1)
  refine Finset.sum_congr rfl fun r _ => ?_
  have e : val_main_v22 (F := Ideal) A B X (idx_main_v23 (idx_main_v24 i) r) = val_main_v22 (F := Ideal) A B X (ix2 r (i 1)) :=
    congrArg (val_main_v22 (F := Ideal) A B X) (funext fun a => match a with
      | ⟨0, _⟩ => rfl
      | ⟨1, _⟩ => Fin.ext (col_idx i))
  refine Eq.trans e ?_
  refine Eq.trans ?_ (mul_comm (G := EReal) _ _)
  refine congrArg₂ (fun x y : EReal => x * y) (congrArg (fun y : EReal => X (ix2 r (i 1)) * y) ?_) (ref21_apply A B r (i 1))
  exact Eq.trans (val_main_v15_apply (F := Ideal) X (ix2 r (i 1))) (Eq.trans (congrArg (val_main_v11 (F := Ideal) X) (eq_ix2 _)) (ref11_apply X r))

end Ref

/-! ## The claims -/

/-- `Fdn` runs, keeps its arguments and ends quiescent. -/
theorem frame_kernel : Cert.quiescent_Fdn := fun m ρ _ => Cert.Fdn.Gen.frame m ρ
/-- The same of its idealization. -/
theorem frame_ideal : Cert.quiescent_FdnIdeal := fun m ρ _ => Cert.FdnIdeal.Gen.frame m ρ
/-- The reference runs, keeps its arguments and has no semaphores. -/
theorem frame_ref : Cert.quiescent_FdnRefIdeal := fun m ρ _ =>
  (θ_run Cert.FdnRefIdeal.defs _ _).mono (fun r h => ⟨fun c => (h c).2.2.2, sem_eq_zero_of_no_sems (by decide) r.2⟩)
    (Cert.FdnRefIdeal.Value.run (F := Ideal) m ρ)

/-- The kernel and the reference compute the same gradients of the input and of the norm's weights. -/
theorem value : Cert.algebraic_FdnIdeal_FdnRefIdeal := by
  intro m ρ m' ρ' _ hag
  refine ⟨fun c => resX (argA m c) (argB m c) (argX m c) (argG m c) (argD m c), fun c => resXb (argA m c) (argB m c) (argX m c) (argG m c) (argD m c),
    fun c => resG (argA m c) (argB m c) (argX m c), ?_, ?_⟩
  · exact (θ_run Cert.FdnIdeal.defs _ _).mono
      (fun r h c => ⟨(h c).1.trans (array5 m c), (h c).2.1.trans (array6 m c), (h c).2.2.1.trans (array7 m c), (h c).2.2.2⟩)
      (Cert.FdnIdeal.Value.run_blocks m ρ)
  · refine (θ_run Cert.FdnRefIdeal.defs _ _).mono (fun r h c => ?_) (Cert.FdnRefIdeal.Value.run (F := Ideal) m' ρ')
    obtain ⟨e0, e1, e2, e3, e4⟩ := hag c
    refine ⟨(h c).1.trans ?_, (h c).2.1.trans ?_, (h c).2.2.1.trans ?_, (h c).2.2.2⟩
    · refine (Cert.FdnRefIdeal.Read.val_main_v41_eq _ _).trans ?_
      rw [e0, e1, e2, e3, e4]
      exact ref41 (argA m c) (argB m c) (argX m c) (argG m c) (argD m c)
    · refine (Cert.FdnRefIdeal.Read.val_main_v42_eq _ _).trans ?_
      rw [e0, e1, e2, e3, e4]
      exact ref42 (argA m c) (argB m c) (argX m c) (argG m c) (argD m c)
    · refine (Cert.FdnRefIdeal.Read.val_main_v24_eq _ _ _).trans ?_
      rw [e0, e1, e2]
      exact ref24 (argA m c) (argB m c) (argX m c)

end Cert.XDn

end
-- ==== Proof.WeightUp.lean ====
/- The gradient of the feed-forward layer's first weights: the kernel's blocks of columns and the product of the reference. -/
module

public import proofs.«01_k».proof.Defs
public import proofs.«01_k».proof.Proof.Gen.Fdwup.Frame
public import proofs.«01_k».proof.Proof.Gen.FdwupIdeal.Value
public import proofs.«01_k».proof.Proof.Gen.FdwupRefIdeal.Read
public import proofs.«01_k».proof.Proof.Places
public import Idealize.ShloMosaic.Lib.Quiescent

@[expose] public section

noncomputable section

namespace Cert.XWup

open Cert.FdwupIdeal Cert.FdwupIdeal.Gen Cert.XPlaces Idealize.ShloMosaic Idealize.ShloMosaic.ValueIdx Idealize.SL.Sem

/-- The weights' gradient at row `c` and column `j`. -/
def grad (N : FVec Ideal S4096x1024 .bf16) (D : FVec Ideal S4096x6144 .bf16) (c : Fin 1024) (j : Fin 6144) : EReal :=
  ∑ r : Fin 4096, N (ix2 r c) * D (ix2 r j)

/-- The slot of the grid's point. -/
def slotAt (t : Fin cfg0.N) : Fin 8 := ⟨(t.val % 2) * 4 + t.val / 2, by have : t.val < 8 := t.isLt.trans_eq N_0; omega⟩

/-- The column of the point's block. -/
def colAt (t : Fin cfg0.N) (j : Fin 768) : Fin 6144 := ⟨768 * t.val + j.val, by have : t.val < 8 := t.isLt.trans_eq N_0; omega⟩

theorem colOf_slotAt (t : Fin cfg0.N) (j : Fin 768) : colOf (slotAt t) j = colAt t j :=
  Fin.ext (by have : t.val < 8 := t.isLt.trans_eq N_0; simp only [colOf, slotAt, colAt]; omega)

/-- Columns against columns. -/
theorem tn_apply (a : FVec Ideal S4096x1024 .bf16) (b : FVec Ideal S4096x768 .bf16) (c : Fin 1024) (j : Fin 768) :
    matmul dot_S4096x1024_S4096x768_S1024x768_0_0_1_1_n_n none a b (constant S1024x768 .f32 0x00000000#32) (ix2 c j)
      = ∑ r : Fin 4096, a (ix2 r c) * b (ix2 r j) := by
  simp only [matmul]
  rw [Ideal.matmul_constant_zero_apply, ← Equiv.sum_comp (contrEquiv1 dot_S4096x1024_S4096x768_S1024x768_0_0_1_1_n_n 4096 rfl rfl).symm]
  refine Finset.sum_congr rfl fun d _ => ?_
  congr 2
  · funext ax
    match ax with
    | ⟨0, _⟩ => rfl
    | ⟨1, _⟩ => rfl
  · funext ax
    match ax with
    | ⟨0, _⟩ => rfl
    | ⟨1, _⟩ => rfl

/-- What a point stores. -/
theorem out_apply (a : FVec Ideal S4096x1024 .bf16) (b : FVec Ideal S4096x768 .bf16) (y : S1x1024x768.Idx) :
    out0_2 (F := Ideal) a b y = ∑ r : Fin 4096, a (ix2 r (y 1)) * b (ix2 r (y 2)) := by
  unfold out0_2
  rw [View.canon_unit_zero zero3, View.ld_unit_zero zero2, View.ld_unit_zero zero2]
  unfold k0_pay1
  refine Eq.trans (shapeCast_apply _ shapeCasts_S1024x768_S1x1024x768 y (ix2 (y 1) (y 2)) ?_) (tn_apply a b (y 1) (y 2))
  have h0 : (y 0).val = 0 := Nat.lt_one_iff.mp (y 0).isLt
  rw [Shape.rowMajor_val_two, Shape.rowMajor_val_three]
  show (y 1).val * 768 + (y 2).val = ((y 0).val * 1024 + (y 1).val) * 768 + (y 2).val
  rw [h0, Nat.zero_mul, Nat.zero_add]

variable (m : (ℓ : Loc nD τ sig) → Buf (Elt Ideal) ℓ)

abbrev argN (c : Dev nD) : FVec Ideal S4096x1024 .bf16 := m ((c.tc : Thread nD τ).loc main_arg0)
abbrev argD (c : Dev nD) : FVec Ideal S4096x6144 .bf16 := m ((c.tc : Thread nD τ).loc main_arg1)

theorem at0 : ∀ t : Fin grid0.N, win0_0.index t 0 * win0_0.size 0 = 0 ∧ win0_0.index t 1 * win0_0.size 1 = 0 := by decide +kernel
theorem at1 : ∀ t : Fin grid0.N, win0_1.index t 0 * win0_1.size 0 = 0 ∧ win0_1.index t 1 * win0_1.size 1 = 768 * t.val := by decide +kernel
theorem at2 : ∀ t : Fin grid0.N, win0_2.index t 0 * win0_2.size 0 = (t.val % 2) * 4 + t.val / 2 ∧ win0_2.index t 1 * win0_2.size 1 = 0
    ∧ win0_2.index t 2 * win0_2.size 2 = 0 := by decide +kernel

theorem emb0 (t : Fin cfg0.N) (y : S4096x1024.Idx) : (win0_0.rect t).emb y = y := by
  funext a
  refine Fin.ext ((win0_0.rect_emb_val t y a).trans ?_)
  match a with
  | ⟨0, _⟩ => exact (congrArg (· + (y 0).val) (at0 t).1).trans (Nat.zero_add _)
  | ⟨1, _⟩ => exact (congrArg (· + (y 1).val) (at0 t).2).trans (Nat.zero_add _)
theorem emb1 (t : Fin cfg0.N) (y : S4096x768.Idx) : (win0_1.rect t).emb y = ix2 (y 0) (colAt t (y 1)) := by
  funext a
  refine Fin.ext ((win0_1.rect_emb_val t y a).trans ?_)
  match a with
  | ⟨0, _⟩ => exact (congrArg (· + (y 0).val) (at1 t).1).trans (Nat.zero_add _)
  | ⟨1, _⟩ => exact congrArg (· + (y 1).val) (at1 t).2
theorem emb2 (t : Fin cfg0.N) (y : S1x1024x768.Idx) : (win0_2.rect t).emb y = ix3 (slotAt t) (y 1) (y 2) := by
  have h0 : (y 0).val = 0 := Nat.lt_one_iff.mp (y 0).isLt
  funext a
  refine Fin.ext ((win0_2.rect_emb_val t y a).trans ?_)
  match a with
  | ⟨0, _⟩ => exact (congrArg₂ (· + ·) (at2 t).1 h0).trans (Nat.add_zero _)
  | ⟨1, _⟩ => exact (congrArg (· + (y 1).val) (at2 t).2.1).trans (Nat.zero_add _)
  | ⟨2, _⟩ => exact (congrArg (· + (y 2).val) (at2 t).2.2).trans (Nat.zero_add _)

theorem iblk0_eq (c : Dev nD) (t : Fin cfg0.N) : iblk m c 0 t = argN m c := by
  funext y
  show V m c main_arg0 ((win0_0.rect t).emb y) = _
  rw [V_main_arg0, emb0]
theorem iblk1_eq (c : Dev nD) (t : Fin cfg0.N) : iblk m c 1 t = fun y : S4096x768.Idx => argD m c (ix2 (y 0) (colAt t (y 1))) := by
  funext y
  show V m c main_arg1 ((win0_1.rect t).emb y) = _
  rw [V_main_arg1, emb1]
  rfl

/-- The weights' gradient, by slots. -/
def res (N : FVec Ideal S4096x1024 .bf16) (D : FVec Ideal S4096x6144 .bf16) : FVec Ideal S8x1024x768 .bf16 :=
  fun i => grad N D (i 1) (colOf (i 0) (i 2))

theorem res_slot (N : FVec Ideal S4096x1024 .bf16) (D : FVec Ideal S4096x6144 .bf16) (t : Fin cfg0.N) (r : Fin 1024) (j : Fin 768) :
    grad N D r (colAt t j) = res N D (ix3 (slotAt t) r j) := by
  rw [← colOf_slotAt]
  rfl

theorem array (c : Dev nD) : (dats m 0 c).arrAt 2 cfg0.N = res (argN m c) (argD m c) := by
  refine (dats m 0 c).arrAt_eq_of_cover 2 (res (argN m c) (argD m c)) (fun t hf => ?_) fun i => ?_
  · funext y
    refine (congrFun (Cert.FdwupIdeal.Value.flushed2 m c t) y).trans ((out_apply _ _ y).trans ?_)
    show _ = res (argN m c) (argD m c) ((win0_2.rect t).emb y)
    rw [emb2, iblk0_eq, iblk1_eq]
    exact res_slot (argN m c) (argD m c) t (y 1) (y 2)
  · have h0 : (i 0).val < 8 := (i 0).isLt
    have ht : ((i 0).val % 4) * 2 + (i 0).val / 4 < cfg0.N := Nat.lt_of_lt_of_eq (by omega) N_0.symm
    refine ⟨⟨_, ht⟩, flush0_2 _, ?_⟩
    refine mem_of_emb ((cfg0.win 2).blk ⟨_, ht⟩).view (ix3 0 (i 1) (i 2)) i ?_
    refine (emb2 ⟨_, ht⟩ (ix3 0 (i 1) (i 2))).trans ?_
    funext a
    match a with
    | ⟨0, _⟩ => exact Fin.ext (by show (((i 0).val % 4) * 2 + (i 0).val / 4) % 2 * 4 + (((i 0).val % 4) * 2 + (i 0).val / 4) / 2 = (i 0).val; omega)
    | ⟨1, _⟩ => rfl
    | ⟨2, _⟩ => rfl

/-- A place among the slots, split. -/
theorem split_slots (b c j : ℕ) (hb : b < 8) (hc : c < 1024) (hj : j < 768) :
    ((b * 1024 + c) * 768 + j) / 3145728 = b / 4 ∧ ((b * 1024 + c) * 768 + j) / 786432 % 4 = b % 4
      ∧ ((b * 1024 + c) * 768 + j) / 768 % 1024 = c ∧ ((b * 1024 + c) * 768 + j) % 768 = j := by
  refine ⟨?_, ?_, ?_, ?_⟩ <;> omega

/-- A place of the whole array from the row, the pair of blocks, the block of the pair and the column. -/
theorem join_blocks (c p q j : ℕ) (hp : p < 4) (hq : q < 2) (hj : j < 768) :
    (((c * 4 + p) * 2 + q) * 768 + j) / 6144 = c ∧ (((c * 4 + p) * 2 + q) * 768 + j) % 6144 = 768 * (p * 2 + q) + j := by
  refine ⟨?_, ?_⟩ <;> omega

open Cert.FdwupRefIdeal.Read in
theorem idx8 (i : S8x1024x768.Idx) : idx_main_v8 i = ix4 ⟨(i 0).val / 4, by have : (i 0).val < 8 := (i 0).isLt; omega⟩
    ⟨(i 0).val % 4, Nat.mod_lt _ (by decide)⟩ (i 1) (i 2) := by
  obtain ⟨e0, e1, e2, e3⟩ := split_slots (i 0).val (i 1).val (i 2).val (i 0).isLt (i 1).isLt (i 2).isLt
  funext a
  match a with
  | ⟨0, _⟩ => exact Fin.ext e0
  | ⟨1, _⟩ => exact Fin.ext e1
  | ⟨2, _⟩ => exact Fin.ext e2
  | ⟨3, _⟩ => exact Fin.ext e3

open Cert.FdwupRefIdeal.Read in
theorem idx67 (q : Fin 2) (p : Fin 4) (c : Fin 1024) (j : Fin 768) :
    idx_main_v6 (idx_main_v7 (ix4 q p c j)) = ix2 c ⟨768 * (p.val * 2 + q.val) + j.val, by omega⟩ := by
  obtain ⟨e0, e1⟩ := join_blocks c.val p.val q.val j.val p.isLt q.isLt j.isLt
  funext a
  match a with
  | ⟨0, _⟩ => exact Fin.ext e0
  | ⟨1, _⟩ => exact Fin.ext e1

open Cert.FdwupRefIdeal.Read in
theorem idx678 (i : S8x1024x768.Idx) : idx_main_v6 (idx_main_v7 (idx_main_v8 i)) = ix2 (n0 := 1024) (n1 := 6144) (i 1) (colOf (i 0) (i 2)) :=
  (congrArg (fun z => idx_main_v6 (idx_main_v7 z)) (idx8 i)).trans (idx67 _ _ _ _)

open Cert.FdwupRefIdeal.Read in
/-- The reference's product, laid out by slots. -/
theorem ref (N : FVec Ideal S4096x1024 .bf16) (D : FVec Ideal S4096x6144 .bf16) : val_main_v9 (F := Ideal) N D = res N D := by
  funext i
  refine Eq.trans (val_main_v9_apply (F := Ideal) N D i) ?_
  show val_main_v8 (F := Ideal) N D i = _
  rw [val_main_v8_apply, val_main_v7_apply, val_main_v6_apply, idx678, val_main_v5_apply, val_main_v4_apply]
  show _ = ∑ r : Fin 4096, N (ix2 r (i 1)) * D (ix2 r (colOf (i 0) (i 2)))
  refine Finset.sum_congr rfl fun r _ => ?_
  refine (mul_comm (G := EReal) _ _).trans ?_
  refine congrArg₂ (· * ·) (congrArg N (eq_ix2 _)) (congrArg D (eq_ix2 _))

/-- `Fdwup` runs, keeps its arguments and ends quiescent. -/
theorem frame_kernel : Cert.quiescent_Fdwup := fun m ρ _ => Cert.Fdwup.Gen.frame m ρ
/-- The same of its idealization. -/
theorem frame_ideal : Cert.quiescent_FdwupIdeal := fun m ρ _ => Cert.FdwupIdeal.Gen.frame m ρ
/-- The reference runs, keeps its arguments and has no semaphores. -/
theorem frame_ref : Cert.quiescent_FdwupRefIdeal := fun m ρ _ =>
  (θ_run Cert.FdwupRefIdeal.defs _ _).mono (fun r h => ⟨fun c => (h c).2, sem_eq_zero_of_no_sems (by decide) r.2⟩)
    (Cert.FdwupRefIdeal.Value.run (F := Ideal) m ρ)

/-- The kernel and the derivative of the product compute the same gradient. -/
theorem value : Cert.algebraic_FdwupIdeal_FdwupRefIdeal := by
  intro m ρ m' ρ' _ hag
  refine ⟨fun c => res (argN m c) (argD m c), ?_, ?_⟩
  · exact (θ_run Cert.FdwupIdeal.defs _ _).mono (fun r h c => ⟨(h c).1.trans (array m c), (h c).2⟩) (Cert.FdwupIdeal.Value.run_blocks m ρ)
  · refine (θ_run Cert.FdwupRefIdeal.defs _ _).mono (fun r h c => ?_) (Cert.FdwupRefIdeal.Value.run (F := Ideal) m' ρ')
    obtain ⟨e0, e1⟩ := hag c
    refine ⟨(h c).1.trans ?_, (h c).2⟩
    refine (Cert.FdwupRefIdeal.Read.val_main_v9_eq _ _).trans ?_
    rw [e0, e1]
    exact ref (argN m c) (argD m c)

end Cert.XWup

end
-- ==== Proof.HiddenGrad.lean ====
/- The gradient of the feed-forward layer's hidden rows: the kernel's blocks and the product of the reference. -/
module

public import proofs.«01_k».proof.Defs
public import proofs.«01_k».proof.Proof.Gen.Fdact.Frame
public import proofs.«01_k».proof.Proof.Gen.FdactIdeal.Value
public import proofs.«01_k».proof.Proof.Gen.FdactRefIdeal.Read
public import proofs.«01_k».proof.Proof.Places
public import Idealize.ShloMosaic.Lib.Quiescent

@[expose] public section

noncomputable section

namespace Cert.XDact

open Cert.FdactIdeal Cert.FdactIdeal.Gen Cert.XPlaces Idealize.ShloMosaic Idealize.ShloMosaic.ValueIdx Idealize.SL.Sem

/-- The hidden rows' gradient at row `r` and column `j`: rows against rows. -/
def grad (A : FVec Ideal S4096x1024 .bf16) (B : FVec Ideal S3072x1024 .bf16) (r : Fin 4096) (j : Fin 3072) : EReal :=
  ∑ d : Fin 1024, A (ix2 r d) * B (ix2 j d)

theorem lt6 (t : Fin cfg0.N) : t.val < 6 := t.isLt.trans_eq N_0
/-- The row of the point's block. -/
def rowAt (t : Fin cfg0.N) (r : Fin 2048) : Fin 4096 := ⟨2048 * (t.val / 3) + r.val, by have := lt6 t; omega⟩
/-- The column of the point's block. -/
def colAt (t : Fin cfg0.N) (j : Fin 1024) : Fin 3072 := ⟨1024 * (t.val % 3) + j.val, by omega⟩

/-- Rows against rows. -/
theorem prod_apply (a : FVec Ideal S2048x1024 .bf16) (b : FVec Ideal S1024x1024 .bf16) (r : Fin 2048) (j : Fin 1024) :
    matmul dot_S2048x1024_S1024x1024_S2048x1024_1_1_0_0_n_n none a b (constant S2048x1024 .f32 0x00000000#32) (ix2 r j)
      = ∑ d : Fin 1024, a (ix2 r d) * b (ix2 j d) := by
  simp only [matmul]
  rw [Ideal.matmul_constant_zero_apply, ← Equiv.sum_comp (contrEquiv1 dot_S2048x1024_S1024x1024_S2048x1024_1_1_0_0_n_n 1024 rfl rfl).symm]
  refine Finset.sum_congr rfl fun d _ => ?_
  congr 2
  · funext ax
    match ax with
    | ⟨0, _⟩ => rfl
    | ⟨1, _⟩ => rfl
  · funext ax
    match ax with
    | ⟨0, _⟩ => rfl
    | ⟨1, _⟩ => rfl

/-- What a point stores. -/
theorem out_apply (a : FVec Ideal S2048x1024 .bf16) (b : FVec Ideal S1024x1024 .bf16) (y : S2048x1024.Idx) :
    out0_2 (F := Ideal) a b y = ∑ d : Fin 1024, a (ix2 (y 0) d) * b (ix2 (y 1) d) := by
  unfold out0_2
  rw [View.canon_unit_zero zero2, View.ld_unit_zero zero2, View.ld_unit_zero zero2]
  exact (congrArg (k0_pay1 (F := Ideal) a b) (eq_ix2 y)).trans (prod_apply a b (y 0) (y 1))

variable (m : (ℓ : Loc nD τ sig) → Buf (Elt Ideal) ℓ)

abbrev argA (c : Dev nD) : FVec Ideal S4096x1024 .bf16 := m ((c.tc : Thread nD τ).loc main_arg0)
abbrev argB (c : Dev nD) : FVec Ideal S3072x1024 .bf16 := m ((c.tc : Thread nD τ).loc main_arg1)

theorem at0 : ∀ t : Fin grid0.N, win0_0.index t 0 * win0_0.size 0 = 2048 * (t.val / 3) ∧ win0_0.index t 1 * win0_0.size 1 = 0 := by decide +kernel
theorem at1 : ∀ t : Fin grid0.N, win0_1.index t 0 * win0_1.size 0 = 1024 * (t.val % 3) ∧ win0_1.index t 1 * win0_1.size 1 = 0 := by decide +kernel
theorem at2 : ∀ t : Fin grid0.N, win0_2.index t 0 * win0_2.size 0 = 2048 * (t.val / 3) ∧ win0_2.index t 1 * win0_2.size 1 = 1024 * (t.val % 3) := by decide +kernel

theorem emb0 (t : Fin cfg0.N) (y : S2048x1024.Idx) : (win0_0.rect t).emb y = ix2 (rowAt t (y 0)) (y 1) := by
  funext a
  refine Fin.ext ((win0_0.rect_emb_val t y a).trans ?_)
  match a with
  | ⟨0, _⟩ => exact congrArg (· + (y 0).val) (at0 t).1
  | ⟨1, _⟩ => exact (congrArg (· + (y 1).val) (at0 t).2).trans (Nat.zero_add _)
theorem emb1 (t : Fin cfg0.N) (y : S1024x1024.Idx) : (win0_1.rect t).emb y = ix2 (colAt t (y 0)) (y 1) := by
  funext a
  refine Fin.ext ((win0_1.rect_emb_val t y a).trans ?_)
  match a with
  | ⟨0, _⟩ => exact congrArg (· + (y 0).val) (at1 t).1
  | ⟨1, _⟩ => exact (congrArg (· + (y 1).val) (at1 t).2).trans (Nat.zero_add _)
theorem emb2 (t : Fin cfg0.N) (y : S2048x1024.Idx) : (win0_2.rect t).emb y = ix2 (rowAt t (y 0)) (colAt t (y 1)) := by
  funext a
  refine Fin.ext ((win0_2.rect_emb_val t y a).trans ?_)
  match a with
  | ⟨0, _⟩ => exact congrArg (· + (y 0).val) (at2 t).1
  | ⟨1, _⟩ => exact congrArg (· + (y 1).val) (at2 t).2

theorem iblk0_eq (c : Dev nD) (t : Fin cfg0.N) : iblk m c 0 t = fun y : S2048x1024.Idx => argA m c (ix2 (rowAt t (y 0)) (y 1)) := by
  funext y
  show V m c main_arg0 ((win0_0.rect t).emb y) = _
  rw [V_main_arg0, emb0]
  rfl
theorem iblk1_eq (c : Dev nD) (t : Fin cfg0.N) : iblk m c 1 t = fun y : S1024x1024.Idx => argB m c (ix2 (colAt t (y 0)) (y 1)) := by
  funext y
  show V m c main_arg1 ((win0_1.rect t).emb y) = _
  rw [V_main_arg1, emb1]
  rfl

/-- The hidden rows' gradient. -/
def res (A : FVec Ideal S4096x1024 .bf16) (B : FVec Ideal S3072x1024 .bf16) : FVec Ideal S4096x3072 .bf16 := fun i => grad A B (i 0) (i 1)

theorem array (c : Dev nD) : (dats m 0 c).arrAt 2 cfg0.N = res (argA m c) (argB m c) := by
  refine (dats m 0 c).arrAt_eq_of_cover 2 (res (argA m c) (argB m c)) (fun t hf => ?_) fun i => ?_
  · funext y
    refine (congrFun (Cert.FdactIdeal.Value.flushed2 m c t) y).trans ((out_apply _ _ y).trans ?_)
    show _ = res (argA m c) (argB m c) ((win0_2.rect t).emb y)
    rw [emb2, iblk0_eq, iblk1_eq]
    rfl
  · have h0 : (i 0).val < 4096 := (i 0).isLt
    have h1 : (i 1).val < 3072 := (i 1).isLt
    have ht : ((i 0).val / 2048) * 3 + (i 1).val / 1024 < cfg0.N := Nat.lt_of_lt_of_eq (by omega) N_0.symm
    refine ⟨⟨_, ht⟩, flush0_2 _, ?_⟩
    refine mem_of_emb ((cfg0.win 2).blk ⟨_, ht⟩).view (ix2 ⟨(i 0).val % 2048, Nat.mod_lt _ (by decide)⟩ ⟨(i 1).val % 1024, Nat.mod_lt _ (by decide)⟩) i ?_
    refine (emb2 ⟨_, ht⟩ (ix2 ⟨(i 0).val % 2048, Nat.mod_lt _ (by decide)⟩ ⟨(i 1).val % 1024, Nat.mod_lt _ (by decide)⟩)).trans ?_
    funext a
    match a with
    | ⟨0, _⟩ => exact Fin.ext (by show 2048 * ((((i 0).val / 2048) * 3 + (i 1).val / 1024) / 3) + (i 0).val % 2048 = (i 0).val; omega)
    | ⟨1, _⟩ => exact Fin.ext (by show 1024 * ((((i 0).val / 2048) * 3 + (i 1).val / 1024) % 3) + (i 1).val % 1024 = (i 1).val; omega)

open Cert.FdactRefIdeal.Read in
/-- The reference's product. -/
theorem ref (A : FVec Ideal S4096x1024 .bf16) (B : FVec Ideal S3072x1024 .bf16) : val_main_v5 (F := Ideal) A B = res A B := by
  funext i
  refine Eq.trans (val_main_v5_apply (F := Ideal) A B i) ?_
  show val_main_v4 (F := Ideal) A B i = _
  rw [val_main_v4_apply]
  show _ = ∑ d : Fin 1024, A (ix2 (i 0) d) * B (ix2 (i 1) d)
  refine Finset.sum_congr rfl fun r _ => ?_
  refine congrArg₂ (· * ·) (congrArg A (eq_ix2 _)) (congrArg B (eq_ix2 _))

/-- `Fdact` runs, keeps its arguments and ends quiescent. -/
theorem frame_kernel : Cert.quiescent_Fdact := fun m ρ _ => Cert.Fdact.Gen.frame m ρ
/-- The same of its idealization. -/
theorem frame_ideal : Cert.quiescent_FdactIdeal := fun m ρ _ => Cert.FdactIdeal.Gen.frame m ρ
/-- The reference runs, keeps its arguments and has no semaphores. -/
theorem frame_ref : Cert.quiescent_FdactRefIdeal := fun m ρ _ =>
  (θ_run Cert.FdactRefIdeal.defs _ _).mono (fun r h => ⟨fun c => (h c).2, sem_eq_zero_of_no_sems (by decide) r.2⟩)
    (Cert.FdactRefIdeal.Value.run (F := Ideal) m ρ)

/-- The kernel and the derivative of the product compute the same gradient. -/
theorem value : Cert.algebraic_FdactIdeal_FdactRefIdeal := by
  intro m ρ m' ρ' _ hag
  refine ⟨fun c => res (argA m c) (argB m c), ?_, ?_⟩
  · exact (θ_run Cert.FdactIdeal.defs _ _).mono (fun r h c => ⟨(h c).1.trans (array m c), (h c).2⟩) (Cert.FdactIdeal.Value.run_blocks m ρ)
  · refine (θ_run Cert.FdactRefIdeal.defs _ _).mono (fun r h c => ?_) (Cert.FdactRefIdeal.Value.run (F := Ideal) m' ρ')
    obtain ⟨e0, e1⟩ := hag c
    refine ⟨(h c).1.trans ?_, (h c).2⟩
    refine (Cert.FdactRefIdeal.Read.val_main_v5_eq _ _).trans ?_
    rw [e0, e1]
    exact ref (argA m c) (argB m c)

end Cert.XDact

end
-- ==== Proof.DownGrad.lean ====
/- The gradient of the feed-forward layer's second weights: the kernel's running sums over blocks of rows and the product of the reference. -/
module

public import proofs.«01_k».proof.Defs
public import proofs.«01_k».proof.Proof.Gen.Fdwdown.Frame
public import proofs.«01_k».proof.Proof.Gen.FdwdownIdeal.Value
public import proofs.«01_k».proof.Proof.Gen.FdwdownRefIdeal.Read
public import proofs.«01_k».proof.Proof.Places
public import Idealize.ShloMosaic.Lib.Quiescent

@[expose] public section

noncomputable section

namespace Cert.XWdown

open Cert.FdwdownIdeal Cert.FdwdownIdeal.Gen Cert.XPlaces Idealize.ShloMosaic Idealize.ShloMosaic.ValueIdx Idealize.SL.Sem

/-- The weights' gradient at row `r` and column `j`: columns against columns. -/
def grad (A : FVec Ideal S4096x3072 .bf16) (B : FVec Ideal S4096x1024 .bf16) (r : Fin 3072) (j : Fin 1024) : EReal :=
  ∑ d : Fin 4096, A (ix2 d r) * B (ix2 d j)

theorem lt6 (t : Fin cfg0.N) : t.val < 6 := t.isLt.trans_eq N_0
/-- The row of the product's block at the point. -/
def rowAt (t : Fin cfg0.N) (r : Fin 1024) : Fin 3072 := ⟨1024 * (t.val / 2) + r.val, by have := lt6 t; omega⟩
/-- The row of the operands' block at the point. -/
def sumAt (k : Fin 2) (d : Fin 2048) : Fin 4096 := ⟨2048 * k.val + d.val, by omega⟩

/-- A sum over all rows is the sum over the two blocks of the sums over their rows. -/
theorem sum_halves (f : Fin 4096 → EReal) : ∑ d, f d = (∑ d : Fin 2048, f (sumAt 0 d)) + ∑ d : Fin 2048, f (sumAt 1 d) := by
  rw [← Fin.sum_univ_two (fun k : Fin 2 => ∑ d : Fin 2048, f (sumAt k d)), ← Fintype.sum_prod_type', ← Equiv.sum_comp (finProdFinEquiv (m := 2) (n := 2048))]
  refine Finset.sum_congr rfl fun p _ => congrArg f (Fin.ext ?_)
  show p.2.val + 2048 * p.1.val = 2048 * p.1.val + p.2.val
  exact Nat.add_comm _ _

/-- Columns against columns. -/
theorem prod_apply (a : FVec Ideal S2048x1024 .bf16) (b : FVec Ideal S2048x1024 .bf16) (r : Fin 1024) (j : Fin 1024) :
    matmul dot_S2048x1024_S2048x1024_S1024x1024_0_0_1_1_n_n none a b (constant S1024x1024 .f32 0x00000000#32) (ix2 r j)
      = ∑ d : Fin 2048, a (ix2 d r) * b (ix2 d j) := by
  simp only [matmul]
  rw [Ideal.matmul_constant_zero_apply, ← Equiv.sum_comp (contrEquiv1 dot_S2048x1024_S2048x1024_S1024x1024_0_0_1_1_n_n 2048 rfl rfl).symm]
  refine Finset.sum_congr rfl fun d _ => ?_
  congr 2
  · funext ax
    match ax with
    | ⟨0, _⟩ => rfl
    | ⟨1, _⟩ => rfl
  · funext ax
    match ax with
    | ⟨0, _⟩ => rfl
    | ⟨1, _⟩ => rfl

/-- What one block of rows gives to the product. -/
def half (a b : FVec Ideal S2048x1024 .bf16) (y : S1024x1024.Idx) : EReal := ∑ d : Fin 2048, a (ix2 d (y 0)) * b (ix2 d (y 1))

theorem zero_apply (y : S1024x1024.Idx) : k0_pay1 (F := Ideal) y = 0 := by
  unfold k0_pay1
  rw [shapeCast_self]
  exact Ideal.ofBits_zero_f32
theorem add_apply (x : FVec Ideal S1024x1024 .f32) (a b : FVec Ideal S2048x1024 .bf16) (y : S1024x1024.Idx) :
    k0_pay2 (F := Ideal) x a b y = x y + half a b y := by
  unfold k0_pay2
  rw [shapeCast_self]
  exact congrArg (x y + ·) ((congrArg (matmul dot_S2048x1024_S2048x1024_S1024x1024_0_0_1_1_n_n none a b (constant S1024x1024 .f32 0x00000000#32)) (eq_ix2 y)).trans (prod_apply a b (y 0) (y 1)))

variable (m : (ℓ : Loc nD τ sig) → Buf (Elt Ideal) ℓ)

/-- The first point of a block of the product leaves the first half's sum. -/
theorem first (c : Dev nD) (t : Fin cfg0.N) (h0 : t.val % 2 = 0) (h1 : ¬t.val % 2 = 1) (y : S1024x1024.Idx) :
    (outsAt0 m c t.val t.isLt).2 y = half (iblk m c 0 t) (iblk m c 1 t) y := by
  rw [outsAt0_A m c t h0 h1]
  dsimp only
  unfold sout0_A_0
  rw [View.read_writes_eq_canon _ _ _ (by intro y; apply scover0_A_0)]
  unfold kernelRun0_A
  dsimp only
  sl_unfold_words
  rw [View.canon_cons_unit_zero (S := S1024x1024) zero2, View.readCov_unit_zero (S := S1024x1024) _ zero2]
  simp only [View.readAt_eq_ld, (hs0_0 t).read_unread, (hs0_1 t).read_unread, View.ld_unit_zero (S := S2048x1024) zero2, View.ld_unit_zero (S := S1024x1024) zero2]
  rw [add_apply, zero_apply, zero_add]

/-- The second point writes the sum of both halves. -/
theorem second (c : Dev nD) (t : Fin cfg0.N) (h0 : ¬t.val % 2 = 0) (h1 : t.val % 2 = 1) (y : S1024x1024.Idx) :
    (outsAt0 m c t.val t.isLt).1 y = (outsAt0 m c (t.val - 1) (Nat.lt_of_le_of_lt (Nat.sub_le _ _) t.isLt)).2 y
      + half (iblk m c 0 t) (iblk m c 1 t) y := by
  rw [outsAt0_B m c t h0 h1]
  dsimp only
  unfold out0_B_2
  rw [View.read_writes_eq_canon _ _ _ (by intro y; apply cover0_B_2)]
  unfold kernelRun0_B
  dsimp only
  sl_unfold_words
  rw [View.canon_cons_unit_zero (S := S1024x1024) zero2, View.readCov_unit_zero (S := S1024x1024) _ zero2]
  simp only [View.readAt_eq_ld, (hs0_0 t).read_unread, (hs0_1 t).read_unread, (Memref.isWhole_whole _).read_unread, View.ld_unit_zero (S := S2048x1024) zero2, View.ld_unit_zero (S := S1024x1024) zero2]
  exact add_apply _ _ _ y

abbrev argA (c : Dev nD) : FVec Ideal S4096x3072 .bf16 := m ((c.tc : Thread nD τ).loc main_arg0)
abbrev argB (c : Dev nD) : FVec Ideal S4096x1024 .bf16 := m ((c.tc : Thread nD τ).loc main_arg1)

theorem at0 : ∀ t : Fin grid0.N, win0_0.index t 0 * win0_0.size 0 = 2048 * (t.val % 2) ∧ win0_0.index t 1 * win0_0.size 1 = 1024 * (t.val / 2) := by decide +kernel
theorem at1 : ∀ t : Fin grid0.N, win0_1.index t 0 * win0_1.size 0 = 2048 * (t.val % 2) ∧ win0_1.index t 1 * win0_1.size 1 = 0 := by decide +kernel
theorem at2 : ∀ t : Fin grid0.N, win0_2.index t 0 * win0_2.size 0 = 1024 * (t.val / 2) ∧ win0_2.index t 1 * win0_2.size 1 = 0 := by decide +kernel

theorem emb0 (t : Fin cfg0.N) (k : Fin 2) (hk : t.val % 2 = k.val) (y : S2048x1024.Idx) : (win0_0.rect t).emb y = ix2 (sumAt k (y 0)) (rowAt t (y 1)) := by
  funext a
  refine Fin.ext ((win0_0.rect_emb_val t y a).trans ?_)
  match a with
  | ⟨0, _⟩ => exact congrArg (· + (y 0).val) ((at0 t).1.trans (congrArg (2048 * ·) hk))
  | ⟨1, _⟩ => exact congrArg (· + (y 1).val) (at0 t).2
theorem emb1 (t : Fin cfg0.N) (k : Fin 2) (hk : t.val % 2 = k.val) (y : S2048x1024.Idx) : (win0_1.rect t).emb y = ix2 (sumAt k (y 0)) (y 1) := by
  funext a
  refine Fin.ext ((win0_1.rect_emb_val t y a).trans ?_)
  match a with
  | ⟨0, _⟩ => exact congrArg (· + (y 0).val) ((at1 t).1.trans (congrArg (2048 * ·) hk))
  | ⟨1, _⟩ => exact (congrArg (· + (y 1).val) (at1 t).2).trans (Nat.zero_add _)
theorem emb2 (t : Fin cfg0.N) (y : S1024x1024.Idx) : (win0_2.rect t).emb y = ix2 (rowAt t (y 0)) (y 1) := by
  funext a
  refine Fin.ext ((win0_2.rect_emb_val t y a).trans ?_)
  match a with
  | ⟨0, _⟩ => exact congrArg (· + (y 0).val) (at2 t).1
  | ⟨1, _⟩ => exact (congrArg (· + (y 1).val) (at2 t).2).trans (Nat.zero_add _)

theorem iblk0_eq (c : Dev nD) (t : Fin cfg0.N) (k : Fin 2) (hk : t.val % 2 = k.val) :
    iblk m c 0 t = fun y : S2048x1024.Idx => argA m c (ix2 (sumAt k (y 0)) (rowAt t (y 1))) := by
  funext y
  show V m c main_arg0 ((win0_0.rect t).emb y) = _
  rw [V_main_arg0, emb0 t k hk]
theorem iblk1_eq (c : Dev nD) (t : Fin cfg0.N) (k : Fin 2) (hk : t.val % 2 = k.val) :
    iblk m c 1 t = fun y : S2048x1024.Idx => argB m c (ix2 (sumAt k (y 0)) (y 1)) := by
  funext y
  show V m c main_arg1 ((win0_1.rect t).emb y) = _
  rw [V_main_arg1, emb1 t k hk]
  rfl

theorem first_arg (c : Dev nD) (t : Fin cfg0.N) (h0 : t.val % 2 = 0) (y : S1024x1024.Idx) :
    (outsAt0 m c t.val t.isLt).2 y = ∑ d : Fin 2048, argA m c (ix2 (sumAt 0 d) (rowAt t (y 0))) * argB m c (ix2 (sumAt 0 d) (y 1)) := by
  refine (first m c t h0 (by omega) y).trans ?_
  rw [iblk0_eq m c t 0 h0, iblk1_eq m c t 0 h0]
  unfold half
  rfl

theorem second_arg (c : Dev nD) (t : Fin cfg0.N) (h1 : t.val % 2 = 1) (y : S1024x1024.Idx) :
    (outsAt0 m c t.val t.isLt).1 y = grad (argA m c) (argB m c) (rowAt t (y 0)) (y 1) := by
  refine (second m c t (by omega) h1 y).trans ((congrArg₂ (· + ·) ?_ ?_).trans (sum_halves _).symm)
  · have hp : t.val - 1 < cfg0.N := Nat.lt_of_le_of_lt (Nat.sub_le _ _) t.isLt
    refine (first_arg m c ⟨t.val - 1, hp⟩ (by show (t.val - 1) % 2 = 0; omega) y).trans ?_
    have hr : rowAt ⟨t.val - 1, hp⟩ (y 0) = rowAt t (y 0) := Fin.ext (by show 1024 * ((t.val - 1) / 2) + _ = 1024 * (t.val / 2) + _; have : (t.val - 1) / 2 = t.val / 2 := (by omega); rw [this])
    rw [hr]
  · rw [iblk0_eq m c t 1 h1, iblk1_eq m c t 1 h1]
    rfl

/-- The weights' gradient. -/
def res (A : FVec Ideal S4096x3072 .bf16) (B : FVec Ideal S4096x1024 .bf16) : FVec Ideal S3072x1024 .bf16 := fun i => grad A B (i 0) (i 1)

theorem array (c : Dev nD) : (dats m 0 c).arrAt 2 cfg0.N = res (argA m c) (argB m c) := by
  refine (dats m 0 c).arrAt_eq_of_cover 2 (res (argA m c) (argB m c)) (fun t hf => ?_) fun i => ?_
  · funext y
    refine (congrFun (Cert.FdwdownIdeal.Value.flushed2 m c t) y).trans ((second_arg m c t ((flush0_2 t).mp hf) y).trans ?_)
    show _ = res (argA m c) (argB m c) ((win0_2.rect t).emb y)
    rw [emb2]
    rfl
  · have h0 : (i 0).val < 3072 := (i 0).isLt
    have ht : ((i 0).val / 1024) * 2 + 1 < cfg0.N := Nat.lt_of_lt_of_eq (by omega) N_0.symm
    refine ⟨⟨_, ht⟩, (flush0_2 _).mpr (by show (((i 0).val / 1024) * 2 + 1) % 2 = 1; omega), ?_⟩
    refine mem_of_emb ((cfg0.win 2).blk ⟨_, ht⟩).view (ix2 ⟨(i 0).val % 1024, Nat.mod_lt _ (by decide)⟩ (i 1)) i ?_
    refine (emb2 ⟨_, ht⟩ (ix2 ⟨(i 0).val % 1024, Nat.mod_lt _ (by decide)⟩ (i 1))).trans ?_
    funext a
    match a with
    | ⟨0, _⟩ => exact Fin.ext (by show 1024 * ((((i 0).val / 1024) * 2 + 1) / 2) + (i 0).val % 1024 = (i 0).val; omega)
    | ⟨1, _⟩ => rfl

open Cert.FdwdownRefIdeal.Read in
/-- The reference's product. -/
theorem ref (A : FVec Ideal S4096x3072 .bf16) (B : FVec Ideal S4096x1024 .bf16) : val_main_v6 (F := Ideal) A B = res A B := by
  funext i
  refine Eq.trans (val_main_v6_apply (F := Ideal) A B i) ?_
  show val_main_v5 (F := Ideal) A B i = _
  rw [val_main_v5_apply, val_main_v4_apply]
  show _ = ∑ d : Fin 4096, A (ix2 d (i 0)) * B (ix2 d (i 1))
  refine Finset.sum_congr rfl fun r _ => ?_
  refine (mul_comm (G := EReal) _ _).trans ?_
  refine congrArg₂ (· * ·) (congrArg A (eq_ix2 _)) (congrArg B (eq_ix2 _))

/-- `Fdwdown` runs, keeps its arguments and ends quiescent. -/
theorem frame_kernel : Cert.quiescent_Fdwdown := fun m ρ _ => Cert.Fdwdown.Gen.frame m ρ
/-- The same of its idealization. -/
theorem frame_ideal : Cert.quiescent_FdwdownIdeal := fun m ρ _ => Cert.FdwdownIdeal.Gen.frame m ρ
/-- The reference runs, keeps its arguments and has no semaphores. -/
theorem frame_ref : Cert.quiescent_FdwdownRefIdeal := fun m ρ _ =>
  (θ_run Cert.FdwdownRefIdeal.defs _ _).mono (fun r h => ⟨fun c => (h c).2, sem_eq_zero_of_no_sems (by decide) r.2⟩)
    (Cert.FdwdownRefIdeal.Value.run (F := Ideal) m ρ)

/-- The kernel and the derivative of the product compute the same gradient. -/
theorem value : Cert.algebraic_FdwdownIdeal_FdwdownRefIdeal := by
  intro m ρ m' ρ' _ hag
  refine ⟨fun c => res (argA m c) (argB m c), ?_, ?_⟩
  · exact (θ_run Cert.FdwdownIdeal.defs _ _).mono (fun r h c => ⟨(h c).1.trans (array m c), (h c).2⟩) (Cert.FdwdownIdeal.Value.run_blocks m ρ)
  · refine (θ_run Cert.FdwdownRefIdeal.defs _ _).mono (fun r h c => ?_) (Cert.FdwdownRefIdeal.Value.run (F := Ideal) m' ρ')
    obtain ⟨e0, e1⟩ := hag c
    refine ⟨(h c).1.trans ?_, (h c).2⟩
    refine (Cert.FdwdownRefIdeal.Read.val_main_v6_eq _ _).trans ?_
    rw [e0, e1]
    exact ref (argA m c) (argB m c)

end Cert.XWdown

end
-- ==== Proof.UpProduct.lean ====
/- The feed-forward layer's first product: the kernel's blocks of columns and the product of the reference. -/
module

public import proofs.«01_k».proof.Defs
public import proofs.«01_k».proof.Proof.Gen.Fup.Frame
public import proofs.«01_k».proof.Proof.Gen.FupIdeal.Value
public import proofs.«01_k».proof.Proof.Gen.FupRefIdeal.Read
public import proofs.«01_k».proof.Proof.Places
public import Idealize.ShloMosaic.Lib.Quiescent

@[expose] public section

noncomputable section

namespace Cert.XUp

open Cert.FupIdeal Cert.FupIdeal.Gen Cert.XPlaces Idealize.ShloMosaic Idealize.ShloMosaic.ValueIdx Idealize.SL.Sem

/-- The product at row `r` and column `j`: the columns lie in slots. -/
def value_at (A : FVec Ideal S4096x1024 .bf16) (B : FVec Ideal S8x1024x768 .bf16) (r : Fin 4096) (j : Fin 6144) : EReal :=
  ∑ d : Fin 1024, A (ix2 r d) * B (ix3 (slotOf j) d (placeOf j))

theorem lt16 (t : Fin cfg0.N) : t.val < 16 := t.isLt.trans_eq N_0
/-- The row of the point's block. -/
def rowAt (t : Fin cfg0.N) (r : Fin 2048) : Fin 4096 := ⟨2048 * (t.val / 8) + r.val, by have := lt16 t; omega⟩
/-- The column of the point's block. -/
def colAt (t : Fin cfg0.N) (j : Fin 768) : Fin 6144 := ⟨768 * (t.val % 8) + j.val, by omega⟩

theorem slotOf_colAt (t : Fin cfg0.N) (j : Fin 768) : (slotOf (colAt t j)).val = (t.val % 8 % 2) * 4 + t.val % 8 / 2 := by
  simp only [slotOf, colAt]; omega
theorem placeOf_colAt (t : Fin cfg0.N) (j : Fin 768) : placeOf (colAt t j) = j := Fin.ext (by simp only [placeOf, colAt]; omega)

/-- Rows against columns. -/
theorem prod_apply (a : FVec Ideal S2048x1024 .bf16) (b : FVec Ideal S1024x768 .bf16) (r : Fin 2048) (j : Fin 768) :
    matmul dot_S2048x1024_S1024x768_S2048x768_1_0_0_1_n_n none a b (constant S2048x768 .f32 0x00000000#32) (ix2 r j)
      = ∑ d : Fin 1024, a (ix2 r d) * b (ix2 d j) := by
  simp only [matmul]
  rw [Ideal.matmul_constant_zero_apply, ← Equiv.sum_comp (contrEquiv1 dot_S2048x1024_S1024x768_S2048x768_1_0_0_1_n_n 1024 rfl rfl).symm]
  refine Finset.sum_congr rfl fun d _ => ?_
  congr 2
  · funext ax
    match ax with
    | ⟨0, _⟩ => rfl
    | ⟨1, _⟩ => rfl
  · funext ax
    match ax with
    | ⟨0, _⟩ => rfl
    | ⟨1, _⟩ => rfl

/-- What a point stores. -/
theorem out_apply (a : FVec Ideal S2048x1024 .bf16) (b : FVec Ideal S1x1024x768 .bf16) (y : S2048x768.Idx) :
    out0_2 (F := Ideal) a b y = ∑ d : Fin 1024, a (ix2 (y 0) d) * b (ix3 0 d (y 1)) := by
  unfold out0_2
  rw [View.canon_unit_zero zero2, View.ld_unit_zero zero2, View.ld_unit_zero zero3]
  refine (congrArg (k0_pay1 (F := Ideal) a b) (eq_ix2 y)).trans ((prod_apply a _ (y 0) (y 1)).trans ?_)
  refine Finset.sum_congr rfl fun d _ => congrArg (a (ix2 (y 0) d) * ·) ?_
  refine shapeCast_apply b shapeCasts_S1x1024x768_S1024x768 (ix2 d (y 1)) (ix3 0 d (y 1)) ?_
  rw [Shape.rowMajor_val_two, Shape.rowMajor_val_three]
  show (0 * 1024 + d.val) * 768 + (y 1).val = d.val * 768 + (y 1).val
  rw [Nat.zero_mul, Nat.zero_add]

variable (m : (ℓ : Loc nD τ sig) → Buf (Elt Ideal) ℓ)

abbrev argA (c : Dev nD) : FVec Ideal S4096x1024 .bf16 := m ((c.tc : Thread nD τ).loc main_arg0)
abbrev argB (c : Dev nD) : FVec Ideal S8x1024x768 .bf16 := m ((c.tc : Thread nD τ).loc main_arg1)

theorem at0 : ∀ t : Fin grid0.N, win0_0.index t 0 * win0_0.size 0 = 2048 * (t.val / 8) ∧ win0_0.index t 1 * win0_0.size 1 = 0 := by decide +kernel
theorem at1 : ∀ t : Fin grid0.N, win0_1.index t 0 * win0_1.size 0 = (t.val % 8 % 2) * 4 + t.val % 8 / 2 ∧ win0_1.index t 1 * win0_1.size 1 = 0
    ∧ win0_1.index t 2 * win0_1.size 2 = 0 := by decide +kernel
theorem at2 : ∀ t : Fin grid0.N, win0_2.index t 0 * win0_2.size 0 = 2048 * (t.val / 8) ∧ win0_2.index t 1 * win0_2.size 1 = 768 * (t.val % 8) := by decide +kernel

theorem emb0 (t : Fin cfg0.N) (y : S2048x1024.Idx) : (win0_0.rect t).emb y = ix2 (rowAt t (y 0)) (y 1) := by
  funext a
  refine Fin.ext ((win0_0.rect_emb_val t y a).trans ?_)
  match a with
  | ⟨0, _⟩ => exact congrArg (· + (y 0).val) (at0 t).1
  | ⟨1, _⟩ => exact (congrArg (· + (y 1).val) (at0 t).2).trans (Nat.zero_add _)
theorem emb1 (t : Fin cfg0.N) (y : S1x1024x768.Idx) (j : Fin 768) : (win0_1.rect t).emb y = ix3 (slotOf (colAt t j)) (y 1) (y 2) := by
  have h0 : (y 0).val = 0 := Nat.lt_one_iff.mp (y 0).isLt
  funext a
  refine Fin.ext ((win0_1.rect_emb_val t y a).trans ?_)
  match a with
  | ⟨0, _⟩ => exact (congrArg₂ (· + ·) (at1 t).1 h0).trans ((Nat.add_zero _).trans (slotOf_colAt t j).symm)
  | ⟨1, _⟩ => exact (congrArg (· + (y 1).val) (at1 t).2.1).trans (Nat.zero_add _)
  | ⟨2, _⟩ => exact (congrArg (· + (y 2).val) (at1 t).2.2).trans (Nat.zero_add _)
theorem emb2 (t : Fin cfg0.N) (y : S2048x768.Idx) : (win0_2.rect t).emb y = ix2 (rowAt t (y 0)) (colAt t (y 1)) := by
  funext a
  refine Fin.ext ((win0_2.rect_emb_val t y a).trans ?_)
  match a with
  | ⟨0, _⟩ => exact congrArg (· + (y 0).val) (at2 t).1
  | ⟨1, _⟩ => exact congrArg (· + (y 1).val) (at2 t).2

theorem iblk0_eq (c : Dev nD) (t : Fin cfg0.N) : iblk m c 0 t = fun y : S2048x1024.Idx => argA m c (ix2 (rowAt t (y 0)) (y 1)) := by
  funext y
  show V m c main_arg0 ((win0_0.rect t).emb y) = _
  rw [V_main_arg0, emb0]
  rfl
theorem iblk1_eq (c : Dev nD) (t : Fin cfg0.N) (j : Fin 768) :
    iblk m c 1 t = fun y : S1x1024x768.Idx => argB m c (ix3 (slotOf (colAt t j)) (y 1) (y 2)) := by
  funext y
  show V m c main_arg1 ((win0_1.rect t).emb y) = _
  rw [V_main_arg1, emb1 t y j]
  rfl

/-- The product. -/
def res (A : FVec Ideal S4096x1024 .bf16) (B : FVec Ideal S8x1024x768 .bf16) : FVec Ideal S4096x6144 .bf16 := fun i => value_at A B (i 0) (i 1)

theorem res_block (A : FVec Ideal S4096x1024 .bf16) (B : FVec Ideal S8x1024x768 .bf16) (t : Fin cfg0.N) (r : Fin 2048) (j : Fin 768) :
    ∑ d : Fin 1024, A (ix2 (rowAt t r) d) * B (ix3 (slotOf (colAt t j)) d j) = res A B (ix2 (rowAt t r) (colAt t j)) := by
  show _ = ∑ d : Fin 1024, A (ix2 (rowAt t r) d) * B (ix3 (slotOf (colAt t j)) d (placeOf (colAt t j)))
  rw [placeOf_colAt]

theorem array (c : Dev nD) : (dats m 0 c).arrAt 2 cfg0.N = res (argA m c) (argB m c) := by
  refine (dats m 0 c).arrAt_eq_of_cover 2 (res (argA m c) (argB m c)) (fun t hf => ?_) fun i => ?_
  · funext y
    refine (congrFun (Cert.FupIdeal.Value.flushed2 m c t) y).trans ((out_apply _ _ y).trans ?_)
    show _ = res (argA m c) (argB m c) ((win0_2.rect t).emb y)
    rw [emb2, iblk0_eq, iblk1_eq m c t (y 1)]
    exact res_block (argA m c) (argB m c) t (y 0) (y 1)
  · have h0 : (i 0).val < 4096 := (i 0).isLt
    have h1 : (i 1).val < 6144 := (i 1).isLt
    have ht : ((i 0).val / 2048) * 8 + (i 1).val / 768 < cfg0.N := Nat.lt_of_lt_of_eq (by omega) N_0.symm
    refine ⟨⟨_, ht⟩, flush0_2 _, ?_⟩
    refine mem_of_emb ((cfg0.win 2).blk ⟨_, ht⟩).view (ix2 ⟨(i 0).val % 2048, Nat.mod_lt _ (by decide)⟩ ⟨(i 1).val % 768, Nat.mod_lt _ (by decide)⟩) i ?_
    refine (emb2 ⟨_, ht⟩ (ix2 ⟨(i 0).val % 2048, Nat.mod_lt _ (by decide)⟩ ⟨(i 1).val % 768, Nat.mod_lt _ (by decide)⟩)).trans ?_
    funext a
    match a with
    | ⟨0, _⟩ => exact Fin.ext (by show 2048 * ((((i 0).val / 2048) * 8 + (i 1).val / 768) / 8) + (i 0).val % 2048 = (i 0).val; omega)
    | ⟨1, _⟩ => exact Fin.ext (by show 768 * ((((i 0).val / 2048) * 8 + (i 1).val / 768) % 8) + (i 1).val % 768 = (i 1).val; omega)

/-- A place of the whole array, split into row, pair of blocks, block of the pair and column. -/
theorem split_blocks (k j : ℕ) (hk : k < 1024) (hj : j < 6144) :
    (k * 6144 + j) / 6144 = k ∧ (k * 6144 + j) / 1536 % 4 = j / 768 / 2 ∧ (k * 6144 + j) / 768 % 2 = j / 768 % 2 ∧ (k * 6144 + j) % 768 = j % 768 := by
  refine ⟨?_, ?_, ?_, ?_⟩ <;> omega

/-- A place among the slots from the block of the pair, the pair, the row and the column. -/
theorem join_slots (q p k j : ℕ) (hq : q < 2) (hp : p < 4) (hk : k < 1024) (hj : j < 768) :
    (((q * 4 + p) * 1024 + k) * 768 + j) / 786432 = q * 4 + p ∧ (((q * 4 + p) * 1024 + k) * 768 + j) / 768 % 1024 = k
      ∧ (((q * 4 + p) * 1024 + k) * 768 + j) % 768 = j := by
  refine ⟨?_, ?_, ?_⟩ <;> omega

open Cert.FupRefIdeal.Read in
theorem idx4 (i : Cert.FupRefIdeal.S1024x6144.Idx) : idx_main_v4 i = ix4 (i 0) ⟨(i 1).val / 768 / 2, by have : (i 1).val < 6144 := (i 1).isLt; omega⟩
    ⟨(i 1).val / 768 % 2, Nat.mod_lt _ (by decide)⟩ (placeOf (i 1)) := by
  obtain ⟨e0, e1, e2, e3⟩ := split_blocks (i 0).val (i 1).val (i 0).isLt (i 1).isLt
  funext a
  match a with
  | ⟨0, _⟩ => exact Fin.ext e0
  | ⟨1, _⟩ => exact Fin.ext e1
  | ⟨2, _⟩ => exact Fin.ext e2
  | ⟨3, _⟩ => exact Fin.ext e3

open Cert.FupRefIdeal.Read in
theorem idx32 (k : Fin 1024) (p : Fin 4) (q : Fin 2) (j : Fin 768) :
    idx_main_v2 (idx_main_v3 (ix4 k p q j)) = ix3 ⟨q.val * 4 + p.val, by omega⟩ k j := by
  obtain ⟨e0, e1, e2⟩ := join_slots q.val p.val k.val j.val q.isLt p.isLt k.isLt j.isLt
  funext a
  match a with
  | ⟨0, _⟩ => exact Fin.ext e0
  | ⟨1, _⟩ => exact Fin.ext e1
  | ⟨2, _⟩ => exact Fin.ext e2

open Cert.FupRefIdeal.Read in
theorem idx432 (i : Cert.FupRefIdeal.S1024x6144.Idx) : idx_main_v2 (idx_main_v3 (idx_main_v4 i)) = ix3 (n0 := 8) (n1 := 1024) (n2 := 768) (slotOf (i 1)) (i 0) (placeOf (i 1)) :=
  (congrArg (fun z => idx_main_v2 (idx_main_v3 z)) (idx4 i)).trans (idx32 _ _ _ _)

open Cert.FupRefIdeal.Read in
/-- The reference's product. -/
theorem ref (A : FVec Ideal S4096x1024 .bf16) (B : FVec Ideal S8x1024x768 .bf16) : val_main_v6 (F := Ideal) A B = res A B := by
  funext i
  refine Eq.trans (val_main_v6_apply (F := Ideal) A B i) ?_
  show val_main_v5 (F := Ideal) A B i = _
  rw [val_main_v5_apply]
  show _ = ∑ d : Fin 1024, A (ix2 (i 0) d) * B (ix3 (slotOf (i 1)) d (placeOf (i 1)))
  refine Finset.sum_congr rfl fun r _ => ?_
  refine congrArg₂ (· * ·) (congrArg A (eq_ix2 _)) ?_
  rw [val_main_v4_apply, val_main_v3_apply, val_main_v2_apply]
  exact congrArg B (idx432 _)

/-- `Fup` runs, keeps its arguments and ends quiescent. -/
theorem frame_kernel : Cert.quiescent_Fup := fun m ρ _ => Cert.Fup.Gen.frame m ρ
/-- The same of its idealization. -/
theorem frame_ideal : Cert.quiescent_FupIdeal := fun m ρ _ => Cert.FupIdeal.Gen.frame m ρ
/-- The reference runs, keeps its arguments and has no semaphores. -/
theorem frame_ref : Cert.quiescent_FupRefIdeal := fun m ρ _ =>
  (θ_run Cert.FupRefIdeal.defs _ _).mono (fun r h => ⟨fun c => (h c).2, sem_eq_zero_of_no_sems (by decide) r.2⟩)
    (Cert.FupRefIdeal.Value.run (F := Ideal) m ρ)

/-- The kernel and the reference compute the same product. -/
theorem value : Cert.algebraic_FupIdeal_FupRefIdeal := by
  intro m ρ m' ρ' _ hag
  refine ⟨fun c => res (argA m c) (argB m c), ?_, ?_⟩
  · exact (θ_run Cert.FupIdeal.defs _ _).mono (fun r h c => ⟨(h c).1.trans (array m c), (h c).2⟩) (Cert.FupIdeal.Value.run_blocks m ρ)
  · refine (θ_run Cert.FupRefIdeal.defs _ _).mono (fun r h c => ?_) (Cert.FupRefIdeal.Value.run (F := Ideal) m' ρ')
    obtain ⟨e0, e1⟩ := hag c
    refine ⟨(h c).1.trans ?_, (h c).2⟩
    refine (Cert.FupRefIdeal.Read.val_main_v6_eq _ _).trans ?_
    rw [e0, e1]
    exact ref (argA m c) (argB m c)

end Cert.XUp

end
-- ==== Proof.DownNorm.lean ====
/- The feed-forward layer's second product, its residual and the next norm: the kernel's blocks and the reference. -/
module

public import proofs.«01_k».proof.Defs
public import proofs.«01_k».proof.Proof.Gen.Fdown.Frame
public import proofs.«01_k».proof.Proof.Gen.FdownIdeal.Value
public import proofs.«01_k».proof.Proof.Gen.FdownRefIdeal.Read
public import proofs.«01_k».proof.Proof.Places
public import Idealize.ShloMosaic.Lib.Quiescent

@[expose] public section

noncomputable section

namespace Cert.XDown

open Cert.FdownIdeal Cert.FdownIdeal.Gen Cert.XPlaces Idealize.ShloMosaic Idealize.ShloMosaic.ValueIdx Idealize.SL.Sem

/-- The root mean square's reciprocal of a row. -/
def scaleOf (f : Fin 1024 → EReal) : EReal :=
  Ideal.rsqrt (Ideal.div (∑ j : Fin 1024, f j * f j) (Ideal.ofBits .f32 0x44800000#32) + Ideal.ofBits .f32 0x358637BD#32)

/-- The layer's result at row `r` and column `j`: hidden rows against columns, and the residual. -/
def layer (A : FVec Ideal S4096x3072 .bf16) (B : FVec Ideal S3072x1024 .bf16) (X : FVec Ideal S4096x1024 .f32) (r : Fin 4096) (j : Fin 1024) : EReal :=
  (∑ d : Fin 3072, A (ix2 r d) * B (ix2 d j)) + X (ix2 r j)

theorem lt8 (t : Fin cfg0.N) : t.val < 8 := t.isLt.trans_eq N_0
/-- The row of the point's block. -/
def rowAt (t : Fin cfg0.N) (r : Fin 512) : Fin 4096 := ⟨512 * t.val + r.val, by have := lt8 t; omega⟩

/-! ## What a point stores -/

/-- Rows against columns. -/
theorem prod_apply (a : FVec Ideal S512x3072 .bf16) (b : FVec Ideal S3072x1024 .bf16) (r : Fin 512) (j : Fin 1024) :
    matmul dot_S512x3072_S3072x1024_S512x1024_1_0_0_1_n_n none a b (constant S512x1024 .f32 0x00000000#32) (ix2 r j)
      = ∑ d : Fin 3072, a (ix2 r d) * b (ix2 d j) := by
  simp only [matmul]
  rw [Ideal.matmul_constant_zero_apply, ← Equiv.sum_comp (contrEquiv1 dot_S512x3072_S3072x1024_S512x1024_1_0_0_1_n_n 3072 rfl rfl).symm]
  refine Finset.sum_congr rfl fun d _ => ?_
  congr 2
  · funext ax
    match ax with
    | ⟨0, _⟩ => rfl
    | ⟨1, _⟩ => rfl
  · funext ax
    match ax with
    | ⟨0, _⟩ => rfl
    | ⟨1, _⟩ => rfl

/-- A block's row of the result. -/
def blockRow (a : FVec Ideal S512x3072 .bf16) (b : FVec Ideal S3072x1024 .bf16) (x : FVec Ideal S512x1024 .f32) (r : Fin 512) (j : Fin 1024) : EReal :=
  (∑ d : Fin 3072, a (ix2 r d) * b (ix2 d j)) + x (ix2 r j)

theorem sum_apply (a : FVec Ideal S512x3072 .bf16) (b : FVec Ideal S3072x1024 .bf16) (x : FVec Ideal S512x1024 .f32) (r : Fin 512) (j : Fin 1024) :
    k0_pay1 (F := Ideal) a b x (ix2 r j) = blockRow a b x r j :=
  congrArg (· + x (ix2 r j)) (prod_apply a b r j)

/-- A statistic of the rows, spread over them. -/
theorem spread_apply (x : FVec Ideal S512x1 .f32) (r : Fin 512) (j : Fin 1024) :
    broadcastTo S512x1024 x broadcasts_S512x1_S512x1024 (ix2 r j) = x (ix2 r 0) :=
  broadcastTo_apply _ _ (ix2 r j) (ix2 r 0) (fun a => match a with
    | ⟨0, _⟩ => rfl
    | ⟨1, _⟩ => rfl)
theorem weights_apply (x : FVec Ideal S1x1024 .f32) (r : Fin 512) (j : Fin 1024) :
    broadcastTo S512x1024 x broadcasts_S1x1024_S512x1024 (ix2 r j) = x (ix2 0 j) :=
  broadcastTo_apply _ _ (ix2 r j) (ix2 0 j) (fun a => match a with
    | ⟨0, _⟩ => rfl
    | ⟨1, _⟩ => rfl)

/-- A row's sum kept as a column. -/
theorem rowSum_apply (x : FVec Ideal S512x1024 .f32) (r : Fin 512) :
    shapeCast S512x1 (multiReduction .add [1] S512 x 0x00000000#32 reduces_S512x1024_S512 (.inl rfl) rfl) shapeCasts_S512_S512x1 (ix2 r 0)
      = ∑ j : Fin 1024, x (ix2 r j) := by
  refine Eq.trans (shapeCast_apply _ shapeCasts_S512_S512x1 (ix2 r 0) (ix1 r) (by
    rewrite [Shape.rowMajor_val_two, Shape.rowMajor_val_one]; show r.val = r.val * 1 + 0; omega)) ?_
  refine Eq.trans (Ideal.multiReduction_add_single _ _ _ _ _ _) ?_
  refine Finset.sum_congr rfl fun j _ => congrArg x ?_
  funext ax
  match ax with
  | ⟨0, _⟩ => rfl
  | ⟨1, _⟩ => rfl

theorem norm_apply (a : FVec Ideal S512x3072 .bf16) (b : FVec Ideal S3072x1024 .bf16) (x : FVec Ideal S512x1024 .f32) (g : FVec Ideal S1x1024 .f32)
    (r : Fin 512) (j : Fin 1024) :
    k0_pay2 (F := Ideal) a b x g (ix2 r j) = blockRow a b x r j * scaleOf (blockRow a b x r) * g (ix2 0 j) := by
  unfold k0_pay2
  refine congrArg₂ (· * ·) (congrArg₂ (· * ·) (sum_apply a b x r j) ((spread_apply _ r j).trans ?_)) (weights_apply g r j)
  unfold scaleOf
  refine congrArg Ideal.rsqrt (congrArg (· + Ideal.ofBits .f32 0x358637BD#32) (congrArg (Ideal.div · (Ideal.ofBits .f32 0x44800000#32)) ?_))
  refine Eq.trans (rowSum_apply _ r) ?_
  exact Finset.sum_congr rfl fun d _ => congrArg₂ (· * ·) (sum_apply a b x r d) (sum_apply a b x r d)

theorem out4_apply (a : FVec Ideal S512x3072 .bf16) (b : FVec Ideal S3072x1024 .bf16) (x : FVec Ideal S512x1024 .f32) (g : FVec Ideal S1x1024 .f32) (y : S512x1024.Idx) :
    out0_4 (F := Ideal) a b x g y = blockRow a b x (y 0) (y 1) := by
  unfold out0_4
  rw [View.canon_unit_zero zero2, View.ld_unit_zero (S := S512x3072) zero2, View.ld_unit_zero (S := S3072x1024) zero2, View.ld_unit_zero (S := S512x1024) zero2]
  exact (congrArg (k0_pay1 (F := Ideal) a b x) (eq_ix2 y)).trans (sum_apply a b x (y 0) (y 1))

theorem out5_apply (a : FVec Ideal S512x3072 .bf16) (b : FVec Ideal S3072x1024 .bf16) (x : FVec Ideal S512x1024 .f32) (g : FVec Ideal S1x1024 .f32) (y : S512x1024.Idx) :
    out0_5 (F := Ideal) a b x g y = blockRow a b x (y 0) (y 1) * scaleOf (blockRow a b x (y 0)) * g (ix2 0 (y 1)) := by
  unfold out0_5
  rw [View.canon_unit_zero zero2, View.ld_unit_zero (S := S512x3072) zero2, View.ld_unit_zero (S := S3072x1024) zero2, View.ld_unit_zero (S := S512x1024) zero2,
    View.ld_unit_zero (S := S1x1024) zero2]
  exact (congrArg (k0_pay2 (F := Ideal) a b x g) (eq_ix2 y)).trans (norm_apply a b x g (y 0) (y 1))

/-! ## The blocks -/

variable (m : (ℓ : Loc nD τ sig) → Buf (Elt Ideal) ℓ)

abbrev argA (c : Dev nD) : FVec Ideal S4096x3072 .bf16 := m ((c.tc : Thread nD τ).loc main_arg0)
abbrev argB (c : Dev nD) : FVec Ideal S3072x1024 .bf16 := m ((c.tc : Thread nD τ).loc main_arg1)
abbrev argX (c : Dev nD) : FVec Ideal S4096x1024 .f32 := m ((c.tc : Thread nD τ).loc main_arg2)
abbrev argG (c : Dev nD) : FVec Ideal S1x1024 .f32 := m ((c.tc : Thread nD τ).loc main_arg3)

theorem at0 : ∀ t : Fin grid0.N, win0_0.index t 0 * win0_0.size 0 = 512 * t.val ∧ win0_0.index t 1 * win0_0.size 1 = 0 := by decide +kernel
theorem at1 : ∀ t : Fin grid0.N, win0_1.index t 0 * win0_1.size 0 = 0 ∧ win0_1.index t 1 * win0_1.size 1 = 0 := by decide +kernel
theorem at2 : ∀ t : Fin grid0.N, win0_2.index t 0 * win0_2.size 0 = 512 * t.val ∧ win0_2.index t 1 * win0_2.size 1 = 0 := by decide +kernel
theorem at3 : ∀ t : Fin grid0.N, win0_3.index t 0 * win0_3.size 0 = 0 ∧ win0_3.index t 1 * win0_3.size 1 = 0 := by decide +kernel
theorem at4 : ∀ t : Fin grid0.N, win0_4.index t 0 * win0_4.size 0 = 512 * t.val ∧ win0_4.index t 1 * win0_4.size 1 = 0 := by decide +kernel
theorem at5 : ∀ t : Fin grid0.N, win0_5.index t 0 * win0_5.size 0 = 512 * t.val ∧ win0_5.index t 1 * win0_5.size 1 = 0 := by decide +kernel

theorem emb0 (t : Fin cfg0.N) (y : S512x3072.Idx) : (win0_0.rect t).emb y = ix2 (rowAt t (y 0)) (y 1) := by
  funext a
  refine Fin.ext ((win0_0.rect_emb_val t y a).trans ?_)
  match a with
  | ⟨0, _⟩ => exact congrArg (· + (y 0).val) (at0 t).1
  | ⟨1, _⟩ => exact (congrArg (· + (y 1).val) (at0 t).2).trans (Nat.zero_add _)
theorem emb1 (t : Fin cfg0.N) (y : S3072x1024.Idx) : (win0_1.rect t).emb y = y := by
  funext a
  refine Fin.ext ((win0_1.rect_emb_val t y a).trans ?_)
  match a with
  | ⟨0, _⟩ => exact (congrArg (· + (y 0).val) (at1 t).1).trans (Nat.zero_add _)
  | ⟨1, _⟩ => exact (congrArg (· + (y 1).val) (at1 t).2).trans (Nat.zero_add _)
theorem emb2 (t : Fin cfg0.N) (y : S512x1024.Idx) : (win0_2.rect t).emb y = ix2 (rowAt t (y 0)) (y 1) := by
  funext a
  refine Fin.ext ((win0_2.rect_emb_val t y a).trans ?_)
  match a with
  | ⟨0, _⟩ => exact congrArg (· + (y 0).val) (at2 t).1
  | ⟨1, _⟩ => exact (congrArg (· + (y 1).val) (at2 t).2).trans (Nat.zero_add _)
theorem emb3 (t : Fin cfg0.N) (y : S1x1024.Idx) : (win0_3.rect t).emb y = y := by
  funext a
  refine Fin.ext ((win0_3.rect_emb_val t y a).trans ?_)
  match a with
  | ⟨0, _⟩ => exact (congrArg (· + (y 0).val) (at3 t).1).trans (Nat.zero_add _)
  | ⟨1, _⟩ => exact (congrArg (· + (y 1).val) (at3 t).2).trans (Nat.zero_add _)
theorem emb4 (t : Fin cfg0.N) (y : S512x1024.Idx) : (win0_4.rect t).emb y = ix2 (rowAt t (y 0)) (y 1) := by
  funext a
  refine Fin.ext ((win0_4.rect_emb_val t y a).trans ?_)
  match a with
  | ⟨0, _⟩ => exact congrArg (· + (y 0).val) (at4 t).1
  | ⟨1, _⟩ => exact (congrArg (· + (y 1).val) (at4 t).2).trans (Nat.zero_add _)
theorem emb5 (t : Fin cfg0.N) (y : S512x1024.Idx) : (win0_5.rect t).emb y = ix2 (rowAt t (y 0)) (y 1) := by
  funext a
  refine Fin.ext ((win0_5.rect_emb_val t y a).trans ?_)
  match a with
  | ⟨0, _⟩ => exact congrArg (· + (y 0).val) (at5 t).1
  | ⟨1, _⟩ => exact (congrArg (· + (y 1).val) (at5 t).2).trans (Nat.zero_add _)

theorem iblk0_eq (c : Dev nD) (t : Fin cfg0.N) : iblk m c 0 t = fun y : S512x3072.Idx => argA m c (ix2 (rowAt t (y 0)) (y 1)) := by
  funext y
  show V m c main_arg0 ((win0_0.rect t).emb y) = _
  rw [V_main_arg0, emb0]
  rfl
theorem iblk1_eq (c : Dev nD) (t : Fin cfg0.N) : iblk m c 1 t = argB m c := by
  funext y
  show V m c main_arg1 ((win0_1.rect t).emb y) = _
  rw [V_main_arg1, emb1]
theorem iblk2_eq (c : Dev nD) (t : Fin cfg0.N) : iblk m c 2 t = fun y : S512x1024.Idx => argX m c (ix2 (rowAt t (y 0)) (y 1)) := by
  funext y
  show V m c main_arg2 ((win0_2.rect t).emb y) = _
  rw [V_main_arg2, emb2]
  rfl
theorem iblk3_eq (c : Dev nD) (t : Fin cfg0.N) : iblk m c 3 t = argG m c := by
  funext y
  show V m c main_arg3 ((win0_3.rect t).emb y) = _
  rw [V_main_arg3, emb3]

/-! ## The arrays -/

/-- The layer's result. -/
def res (A : FVec Ideal S4096x3072 .bf16) (B : FVec Ideal S3072x1024 .bf16) (X : FVec Ideal S4096x1024 .f32) : FVec Ideal S4096x1024 .f32 :=
  fun i => layer A B X (i 0) (i 1)
/-- The result normed by rows and weighted by columns. -/
def normed (A : FVec Ideal S4096x3072 .bf16) (B : FVec Ideal S3072x1024 .bf16) (X : FVec Ideal S4096x1024 .f32) (G : FVec Ideal S1x1024 .f32) :
    FVec Ideal S4096x1024 .bf16 :=
  fun i => layer A B X (i 0) (i 1) * scaleOf (layer A B X (i 0)) * G (ix2 0 (i 1))

theorem covers (i : S4096x1024.Idx) : ∃ h : (i 0).val / 512 < cfg0.N,
    (ix2 (rowAt ⟨(i 0).val / 512, h⟩ ⟨(i 0).val % 512, Nat.mod_lt _ (by decide)⟩) (i 1) : S4096x1024.Idx) = i := by
  have h0 : (i 0).val < 4096 := (i 0).isLt
  refine ⟨Nat.lt_of_lt_of_eq (by omega) N_0.symm, ?_⟩
  funext a
  match a with
  | ⟨0, _⟩ => exact Fin.ext (by show 512 * ((i 0).val / 512) + (i 0).val % 512 = (i 0).val; omega)
  | ⟨1, _⟩ => rfl

theorem array4 (c : Dev nD) : (dats m 0 c).arrAt 4 cfg0.N = res (argA m c) (argB m c) (argX m c) := by
  refine (dats m 0 c).arrAt_eq_of_cover 4 (res (argA m c) (argB m c) (argX m c)) (fun t hf => ?_) fun i => ?_
  · funext y
    refine (congrFun (Cert.FdownIdeal.Value.flushed4 m c t) y).trans ((out4_apply _ _ _ _ y).trans ?_)
    show _ = res (argA m c) (argB m c) (argX m c) ((win0_4.rect t).emb y)
    rw [emb4, iblk0_eq, iblk1_eq, iblk2_eq]
    rfl
  · obtain ⟨h, e⟩ := covers i
    refine ⟨⟨_, h⟩, flush0_4 _, ?_⟩
    exact mem_of_emb ((cfg0.win 4).blk ⟨_, h⟩).view (ix2 ⟨(i 0).val % 512, Nat.mod_lt _ (by decide)⟩ (i 1)) i ((emb4 ⟨_, h⟩ _).trans e)

theorem array5 (c : Dev nD) : (dats m 0 c).arrAt 5 cfg0.N = normed (argA m c) (argB m c) (argX m c) (argG m c) := by
  refine (dats m 0 c).arrAt_eq_of_cover 5 (normed (argA m c) (argB m c) (argX m c) (argG m c)) (fun t hf => ?_) fun i => ?_
  · funext y
    refine (congrFun (Cert.FdownIdeal.Value.flushed5 m c t) y).trans ((out5_apply _ _ _ _ y).trans ?_)
    show _ = normed (argA m c) (argB m c) (argX m c) (argG m c) ((win0_5.rect t).emb y)
    rw [emb5, iblk0_eq, iblk1_eq, iblk2_eq, iblk3_eq]
    rfl
  · obtain ⟨h, e⟩ := covers i
    refine ⟨⟨_, h⟩, flush0_5 _, ?_⟩
    exact mem_of_emb ((cfg0.win 5).blk ⟨_, h⟩).view (ix2 ⟨(i 0).val % 512, Nat.mod_lt _ (by decide)⟩ (i 1)) i ((emb5 ⟨_, h⟩ _).trans e)

/-! ## The reference -/

section Ref
open Cert.FdownRefIdeal.Read

variable (A : FVec Ideal S4096x3072 .bf16) (B : FVec Ideal S3072x1024 .bf16) (X : FVec Ideal S4096x1024 .f32) (G : FVec Ideal S1x1024 .f32)

theorem ref3_apply (r : Fin 4096) (j : Fin 1024) : val_main_v3 (F := Ideal) A B X (ix2 r j) = layer A B X r j := by
  refine Eq.trans (congrArg (X (ix2 r j) + ·) (val_main_v2_apply A B (ix2 r j))) ?_
  refine Eq.trans (add_comm (G := EReal) _ _) (congrArg (· + X (ix2 r j)) ?_)
  refine Finset.sum_congr rfl fun d _ => ?_
  exact congrArg₂ (· * ·) (congrArg A (eq_ix2 _)) (congrArg B (eq_ix2 _))

theorem ref11_apply (r : Fin 4096) : val_main_v11 (F := Ideal) A B X (ix2 r 0) = scaleOf (layer A B X r) := by
  unfold scaleOf
  refine congrArg Ideal.rsqrt (congrArg₂ (· + ·) (congrArg₂ Ideal.div ?_ (val_main_v7_apply (F := Ideal) _)) (val_main_v9_apply (F := Ideal) _))
  refine Eq.trans (val_main_v6_apply (F := Ideal) A B X (ix2 r 0)) (Eq.trans (val_main_v5_apply A B X _) ?_)
  refine Eq.trans (congrArg (· + _) Ideal.ofBits_zero_f32) (Eq.trans (zero_add _) ?_)
  refine Finset.sum_congr rfl fun d _ => ?_
  have e : val_main_v3 (F := Ideal) A B X (idx_main_v5 (idx_main_v6 (ix2 r 0)) d) = layer A B X r d :=
    Eq.trans (congrArg (val_main_v3 (F := Ideal) A B X) (eq_ix2 _)) (ref3_apply A B X r d)
  exact congrArg₂ (· * ·) e e

theorem ref3 : val_main_v3 (F := Ideal) A B X = res A B X := by
  funext i
  exact Eq.trans (congrArg (val_main_v3 (F := Ideal) A B X) (eq_ix2 i)) (ref3_apply A B X (i 0) (i 1))

theorem ref16 : val_main_v16 (F := Ideal) A B X G = normed A B X G := by
  funext i
  refine congrArg₂ (fun x y : EReal => x * y) (congrArg₂ (fun x y : EReal => x * y) ?_ ?_) ?_
  · exact congrFun (ref3 A B X) i
  · exact Eq.trans (val_main_v12_apply (F := Ideal) A B X i) (Eq.trans (congrArg (val_main_v11 (F := Ideal) A B X) (eq_ix2 _)) (ref11_apply A B X (i 0)))
  · exact Eq.trans (val_main_v14_apply (F := Ideal) G i) (congrArg G (eq_ix2 _))

end Ref

/-! ## The claims -/

/-- `Fdown` runs, keeps its arguments and ends quiescent. -/
theorem frame_kernel : Cert.quiescent_Fdown := fun m ρ _ => Cert.Fdown.Gen.frame m ρ
/-- The same of its idealization. -/
theorem frame_ideal : Cert.quiescent_FdownIdeal := fun m ρ _ => Cert.FdownIdeal.Gen.frame m ρ
/-- The reference runs, keeps its arguments and has no semaphores. -/
theorem frame_ref : Cert.quiescent_FdownRefIdeal := fun m ρ _ =>
  (θ_run Cert.FdownRefIdeal.defs _ _).mono (fun r h => ⟨fun c => (h c).2.2, sem_eq_zero_of_no_sems (by decide) r.2⟩)
    (Cert.FdownRefIdeal.Value.run (F := Ideal) m ρ)

/-- The kernel and the reference compute the same result and the same normed rows. -/
theorem value : Cert.algebraic_FdownIdeal_FdownRefIdeal := by
  intro m ρ m' ρ' _ hag
  refine ⟨fun c => res (argA m c) (argB m c) (argX m c), fun c => normed (argA m c) (argB m c) (argX m c) (argG m c), ?_, ?_⟩
  · exact (θ_run Cert.FdownIdeal.defs _ _).mono (fun r h c => ⟨(h c).1.trans (array4 m c), (h c).2.1.trans (array5 m c), (h c).2.2⟩)
      (Cert.FdownIdeal.Value.run_blocks m ρ)
  · refine (θ_run Cert.FdownRefIdeal.defs _ _).mono (fun r h c => ?_) (Cert.FdownRefIdeal.Value.run (F := Ideal) m' ρ')
    obtain ⟨e0, e1, e2, e3⟩ := hag c
    refine ⟨(h c).1.trans ?_, (h c).2.1.trans ?_, (h c).2.2⟩
    · refine (Cert.FdownRefIdeal.Read.val_main_v3_eq _ _ _).trans ?_
      rw [e0, e1, e2]
      exact ref3 (argA m c) (argB m c) (argX m c)
    · refine (Cert.FdownRefIdeal.Read.val_main_v16_eq _ _ _ _).trans ?_
      rw [e0, e1, e2, e3]
      exact ref16 (argA m c) (argB m c) (argX m c) (argG m c)

end Cert.XDown

end
-- ==== Proof.Products.lean ====
/- Small facts about blocked products that the calls' proofs share. -/
module

public import Idealize.ShloMosaic.Lib.Pipeline.Value
public import Idealize.ShloMosaic.Lib.ValueIdx
public import Idealize.ShloMosaic.PureOps.Ideal.Laws

@[expose] public section

noncomputable section

namespace Cert.XProducts

open Idealize.ShloMosaic Idealize.ShloMosaic.ValueIdx

/-- An index is determined by its coordinates' values. -/
theorem ix2_ext {n0 n1 : ℕ} (i : (⟨2, ![n0, n1]⟩ : Shape).Idx) (a : Fin n0) (b : Fin n1) (h0 : (i 0).val = a.val) (h1 : (i 1).val = b.val) : i = ix2 a b := by
  funext x
  match x with
  | ⟨0, _⟩ => exact Fin.ext h0
  | ⟨1, _⟩ => exact Fin.ext h1
theorem ix3_ext {n0 n1 n2 : ℕ} (i : (⟨3, ![n0, n1, n2]⟩ : Shape).Idx) (a : Fin n0) (b : Fin n1) (c : Fin n2)
    (h0 : (i 0).val = a.val) (h1 : (i 1).val = b.val) (h2 : (i 2).val = c.val) : i = ix3 a b c := by
  funext x
  match x with
  | ⟨0, _⟩ => exact Fin.ext h0
  | ⟨1, _⟩ => exact Fin.ext h1
  | ⟨2, _⟩ => exact Fin.ext h2

/-- A product over one axis, read at a place: `f` and `g` are the places of the operands along that axis. -/
theorem sum_of {sl sr so : Shape} (D : DotDims sl sr so) (n : ℕ) (hr : D.contr.rank = 1) (hs : D.contr.size ⟨0, by omega⟩ = n)
    (a : FVec Ideal sl .bf16) (b : FVec Ideal sr .bf16) (i : so.Idx) (f : Fin n → sl.Idx) (g : Fin n → sr.Idx)
    (hf : ∀ k, D.lhsIdx i ((contrEquiv1 D n hr hs).symm k) = f k) (hg : ∀ k, D.rhsIdx i ((contrEquiv1 D n hr hs).symm k) = g k) :
    matmul (F := Ideal) D none a b (constant so .f32 0x00000000#32) i = ∑ k : Fin n, a (f k) * b (g k) := by
  simp only [matmul]
  rw [Ideal.matmul_constant_zero_apply, ← Equiv.sum_comp (contrEquiv1 D n hr hs).symm]
  exact Finset.sum_congr rfl fun k _ => congrArg₂ (fun x y : EReal => x * y) (congrArg a (hf k)) (congrArg b (hg k))

/-- The rest of a division, put back. -/
theorem div_back (n a : ℕ) : n * (a / n) + a % n = a := Nat.div_add_mod a n

/-- A sum over `p * q` places, `q` at a time. -/
theorem sum_blocks (p q : ℕ) (f : ℕ → EReal) : ∑ d : Fin (p * q), f d.val = ∑ k ∈ Finset.range p, ∑ d : Fin q, f (q * k + d.val) := by
  rw [← Equiv.sum_comp (finProdFinEquiv (m := p) (n := q)), Fintype.sum_prod_type, Finset.sum_range]
  refine Finset.sum_congr rfl fun k _ => Finset.sum_congr rfl fun d _ => congrArg f ?_
  show d.val + q * k.val = q * k.val + d.val
  exact Nat.add_comm _ _

end Cert.XProducts

end
-- ==== Proof.ForwardProducts.lean ====
/- Products of rows and weights: the second layer's last feed-forward product with its residual, the queries and the mixer's three inputs. -/
module

public import proofs.«01_k».proof.Defs
public import proofs.«01_k».proof.Proof.Gen.Flast.Frame
public import proofs.«01_k».proof.Proof.Gen.FlastIdeal.Value
public import proofs.«01_k».proof.Proof.Gen.FlastRefIdeal.Read
public import proofs.«01_k».proof.Proof.Gen.Sq.Frame
public import proofs.«01_k».proof.Proof.Gen.SqIdeal.Value
public import proofs.«01_k».proof.Proof.Gen.SqRefIdeal.Read
public import proofs.«01_k».proof.Proof.Gen.Tin.Frame
public import proofs.«01_k».proof.Proof.Gen.TinIdeal.Value
public import proofs.«01_k».proof.Proof.Gen.TinRefIdeal.Read
public import proofs.«01_k».proof.Proof.Places
public import proofs.«01_k».proof.Proof.Products
public import Idealize.ShloMosaic.Lib.Quiescent

@[expose] public section

noncomputable section

namespace Cert.XFlast

open Cert.FlastIdeal Cert.FlastIdeal.Gen Cert.XPlaces Cert.XProducts Idealize.ShloMosaic Idealize.ShloMosaic.ValueIdx Idealize.SL.Sem

/-- The layer's result: hidden rows against columns, and the residual. -/
def res (A : FVec Ideal S4096x3072 .bf16) (B : FVec Ideal S3072x1024 .bf16) (X : FVec Ideal S4096x1024 .f32) : FVec Ideal S4096x1024 .f32 :=
  fun i => (∑ d : Fin 3072, A (ix2 (i 0) d) * B (ix2 d (i 1))) + X (ix2 (i 0) (i 1))

theorem lt8 (t : Fin cfg0.N) : t.val < 8 := t.isLt.trans_eq N_0
/-- The row of the point's block. -/
def rowAt (t : Fin cfg0.N) (r : Fin 512) : Fin 4096 := ⟨512 * t.val + r.val, by have := lt8 t; omega⟩

/-- What a point stores. -/
theorem out_apply (a : FVec Ideal S512x3072 .bf16) (b : FVec Ideal S3072x1024 .bf16) (x : FVec Ideal S512x1024 .f32) (y : S512x1024.Idx) :
    out0_3 (F := Ideal) a b x y = (∑ d : Fin 3072, a (ix2 (y 0) d) * b (ix2 d (y 1))) + x (ix2 (y 0) (y 1)) := by
  unfold out0_3
  rw [View.canon_unit_zero zero2, View.ld_unit_zero (S := S512x3072) zero2, View.ld_unit_zero (S := S3072x1024) zero2, View.ld_unit_zero (S := S512x1024) zero2]
  exact congrArg₂ (fun p q : EReal => p + q) (sum_of dot_S512x3072_S3072x1024_S512x1024_1_0_0_1_n_n 3072 rfl rfl a b y _ _
    (fun d => ix2_ext _ (y 0) d rfl rfl) (fun d => ix2_ext _ d (y 1) rfl rfl)) (congrArg x (eq_ix2 y))

variable (m : (ℓ : Loc nD τ sig) → Buf (Elt Ideal) ℓ)

abbrev argA (c : Dev nD) : FVec Ideal S4096x3072 .bf16 := m ((c.tc : Thread nD τ).loc main_arg0)
abbrev argB (c : Dev nD) : FVec Ideal S3072x1024 .bf16 := m ((c.tc : Thread nD τ).loc main_arg1)
abbrev argX (c : Dev nD) : FVec Ideal S4096x1024 .f32 := m ((c.tc : Thread nD τ).loc main_arg2)

theorem at0 : ∀ t : Fin grid0.N, win0_0.index t 0 * win0_0.size 0 = 512 * t.val ∧ win0_0.index t 1 * win0_0.size 1 = 0 := by decide +kernel
theorem at1 : ∀ t : Fin grid0.N, win0_1.index t 0 * win0_1.size 0 = 0 ∧ win0_1.index t 1 * win0_1.size 1 = 0 := by decide +kernel
theorem at2 : ∀ t : Fin grid0.N, win0_2.index t 0 * win0_2.size 0 = 512 * t.val ∧ win0_2.index t 1 * win0_2.size 1 = 0 := by decide +kernel
theorem at3 : ∀ t : Fin grid0.N, win0_3.index t 0 * win0_3.size 0 = 512 * t.val ∧ win0_3.index t 1 * win0_3.size 1 = 0 := by decide +kernel

theorem emb0 (t : Fin cfg0.N) (y : S512x3072.Idx) : (win0_0.rect t).emb y = ix2 (rowAt t (y 0)) (y 1) :=
  ix2_ext _ _ _ ((win0_0.rect_emb_val t y 0).trans (congrArg (· + (y 0).val) (at0 t).1))
    ((win0_0.rect_emb_val t y 1).trans ((congrArg (· + (y 1).val) (at0 t).2).trans (Nat.zero_add _)))
theorem emb1 (t : Fin cfg0.N) (y : S3072x1024.Idx) : (win0_1.rect t).emb y = ix2 (y 0) (y 1) :=
  ix2_ext _ _ _ ((win0_1.rect_emb_val t y 0).trans ((congrArg (· + (y 0).val) (at1 t).1).trans (Nat.zero_add _)))
    ((win0_1.rect_emb_val t y 1).trans ((congrArg (· + (y 1).val) (at1 t).2).trans (Nat.zero_add _)))
theorem emb2 (t : Fin cfg0.N) (y : S512x1024.Idx) : (win0_2.rect t).emb y = ix2 (rowAt t (y 0)) (y 1) :=
  ix2_ext _ _ _ ((win0_2.rect_emb_val t y 0).trans (congrArg (· + (y 0).val) (at2 t).1))
    ((win0_2.rect_emb_val t y 1).trans ((congrArg (· + (y 1).val) (at2 t).2).trans (Nat.zero_add _)))
theorem emb3 (t : Fin cfg0.N) (y : S512x1024.Idx) : (win0_3.rect t).emb y = ix2 (rowAt t (y 0)) (y 1) :=
  ix2_ext _ _ _ ((win0_3.rect_emb_val t y 0).trans (congrArg (· + (y 0).val) (at3 t).1))
    ((win0_3.rect_emb_val t y 1).trans ((congrArg (· + (y 1).val) (at3 t).2).trans (Nat.zero_add _)))

theorem left (c : Dev nD) (t : Fin cfg0.N) (y : S512x1024.Idx) :
    out0_3 (F := Ideal) (iblk m c 0 t) (iblk m c 1 t) (iblk m c 2 t) y = res (argA m c) (argB m c) (argX m c) (ix2 (rowAt t (y 0)) (y 1)) := by
  refine (out_apply _ _ _ y).trans (congrArg₂ (fun p q : EReal => p + q) (Finset.sum_congr rfl fun d _ => congrArg₂ (fun x y : EReal => x * y) ?_ ?_) ?_)
  · show V m c main_arg0 ((win0_0.rect t).emb (ix2 (y 0) d)) = _
    rw [V_main_arg0, emb0]
    rfl
  · show V m c main_arg1 ((win0_1.rect t).emb (ix2 d (y 1))) = _
    rw [V_main_arg1, emb1]
    rfl
  · show V m c main_arg2 ((win0_2.rect t).emb (ix2 (y 0) (y 1))) = _
    rw [V_main_arg2, emb2]
    rfl

theorem array (c : Dev nD) : (dats m 0 c).arrAt 3 cfg0.N = res (argA m c) (argB m c) (argX m c) := by
  refine (dats m 0 c).arrAt_eq_of_cover 3 (res (argA m c) (argB m c) (argX m c)) (fun t hf => ?_) fun i => ?_
  · funext y
    refine (congrFun (Cert.FlastIdeal.Value.flushed3 m c t) y).trans ((left m c t y).trans ?_)
    show _ = res (argA m c) (argB m c) (argX m c) ((win0_3.rect t).emb y)
    rw [emb3]
    rfl
  · have h0 : (i 0).val < 4096 := (i 0).isLt
    have ht : (i 0).val / 512 < cfg0.N := Nat.lt_of_lt_of_eq (by omega) N_0.symm
    refine ⟨⟨_, ht⟩, flush0_3 _, ?_⟩
    refine mem_of_emb ((cfg0.win 3).blk ⟨_, ht⟩).view (ix2 ⟨(i 0).val % 512, Nat.mod_lt _ (by decide)⟩ (i 1)) i ?_
    exact (emb3 ⟨_, ht⟩ (ix2 ⟨(i 0).val % 512, Nat.mod_lt _ (by decide)⟩ (i 1))).trans (ix2_ext i _ _ (div_back 512 (i 0).val).symm rfl).symm

open Cert.FlastRefIdeal.Read in
/-- The reference. -/
theorem ref (A : FVec Ideal S4096x3072 .bf16) (B : FVec Ideal S3072x1024 .bf16) (X : FVec Ideal S4096x1024 .f32) :
    val_main_v3 (F := Ideal) A B X = res A B X := by
  funext i
  refine Eq.trans (congrArg (X i + ·) (val_main_v2_apply A B i)) (Eq.trans (add_comm (G := EReal) _ _) ?_)
  refine congrArg₂ (fun p q : EReal => p + q) ?_ (congrArg X (eq_ix2 i))
  show _ = ∑ d : Fin 3072, A (ix2 (i 0) d) * B (ix2 d (i 1))
  exact Finset.sum_congr rfl fun r _ => congrArg₂ (fun x y : EReal => x * y) (congrArg A (eq_ix2 _)) (congrArg B (eq_ix2 _))

/-- The call runs, keeps its arguments and ends quiescent. -/
theorem frame_kernel : Cert.quiescent_Flast := fun m ρ _ => Cert.Flast.Gen.frame m ρ
/-- The same of its idealization. -/
theorem frame_ideal : Cert.quiescent_FlastIdeal := fun m ρ _ => Cert.FlastIdeal.Gen.frame m ρ
/-- The reference runs, keeps its arguments and has no semaphores. -/
theorem frame_ref : Cert.quiescent_FlastRefIdeal := fun m ρ _ =>
  (θ_run Cert.FlastRefIdeal.defs _ _).mono (fun r h => ⟨fun c => (h c).2, sem_eq_zero_of_no_sems (by decide) r.2⟩)
    (Cert.FlastRefIdeal.Value.run (F := Ideal) m ρ)

/-- The kernel and the reference compute the same result. -/
theorem value : Cert.algebraic_FlastIdeal_FlastRefIdeal := by
  intro m ρ m' ρ' _ hag
  refine ⟨fun c => res (argA m c) (argB m c) (argX m c), ?_, ?_⟩
  · exact (θ_run Cert.FlastIdeal.defs _ _).mono (fun r h c => ⟨(h c).1.trans (array m c), (h c).2⟩) (Cert.FlastIdeal.Value.run_blocks m ρ)
  · refine (θ_run Cert.FlastRefIdeal.defs _ _).mono (fun r h c => ?_) (Cert.FlastRefIdeal.Value.run (F := Ideal) m' ρ')
    obtain ⟨e0, e1, e2⟩ := hag c
    refine ⟨(h c).1.trans ?_, (h c).2⟩
    refine (Cert.FlastRefIdeal.Read.val_main_v3_eq _ _ _).trans ?_
    rw [e0, e1, e2]
    exact ref (argA m c) (argB m c) (argX m c)

end Cert.XFlast

namespace Cert.XSq

open Cert.SqIdeal Cert.SqIdeal.Gen Cert.XPlaces Cert.XProducts Idealize.ShloMosaic Idealize.ShloMosaic.ValueIdx Idealize.SL.Sem

/-- The product: rows against columns. -/
def res (A : FVec Ideal S4096x1024 .bf16) (B : FVec Ideal S1024x1024 .bf16) : FVec Ideal S4096x1024 .bf16 :=
  fun i => ∑ d : Fin 1024, A (ix2 (i 0) d) * B (ix2 d (i 1))

theorem lt2 (t : Fin cfg0.N) : t.val < 2 := t.isLt.trans_eq N_0
/-- The row of the point's block. -/
def rowAt (t : Fin cfg0.N) (r : Fin 2048) : Fin 4096 := ⟨2048 * t.val + r.val, by have := lt2 t; omega⟩

/-- What a point stores. -/
theorem out_apply (a : FVec Ideal S2048x1024 .bf16) (b : FVec Ideal S1024x1024 .bf16) (y : S2048x1024.Idx) :
    out0_2 (F := Ideal) a b y = ∑ d : Fin 1024, a (ix2 (y 0) d) * b (ix2 d (y 1)) := by
  unfold out0_2
  rw [View.canon_unit_zero zero2, View.ld_unit_zero zero2, View.ld_unit_zero zero2]
  exact sum_of dot_S2048x1024_S1024x1024_S2048x1024_1_0_0_1_n_n 1024 rfl rfl a b y _ _ (fun d => ix2_ext _ (y 0) d rfl rfl) (fun d => ix2_ext _ d (y 1) rfl rfl)

variable (m : (ℓ : Loc nD τ sig) → Buf (Elt Ideal) ℓ)

abbrev argA (c : Dev nD) : FVec Ideal S4096x1024 .bf16 := m ((c.tc : Thread nD τ).loc main_arg0)
abbrev argB (c : Dev nD) : FVec Ideal S1024x1024 .bf16 := m ((c.tc : Thread nD τ).loc main_arg1)

theorem at0 : ∀ t : Fin grid0.N, win0_0.index t 0 * win0_0.size 0 = 2048 * t.val ∧ win0_0.index t 1 * win0_0.size 1 = 0 := by decide +kernel
theorem at1 : ∀ t : Fin grid0.N, win0_1.index t 0 * win0_1.size 0 = 0 ∧ win0_1.index t 1 * win0_1.size 1 = 0 := by decide +kernel
theorem at2 : ∀ t : Fin grid0.N, win0_2.index t 0 * win0_2.size 0 = 2048 * t.val ∧ win0_2.index t 1 * win0_2.size 1 = 0 := by decide +kernel

theorem emb0 (t : Fin cfg0.N) (y : S2048x1024.Idx) : (win0_0.rect t).emb y = ix2 (rowAt t (y 0)) (y 1) :=
  ix2_ext _ _ _ ((win0_0.rect_emb_val t y 0).trans (congrArg (· + (y 0).val) (at0 t).1))
    ((win0_0.rect_emb_val t y 1).trans ((congrArg (· + (y 1).val) (at0 t).2).trans (Nat.zero_add _)))
theorem emb1 (t : Fin cfg0.N) (y : S1024x1024.Idx) : (win0_1.rect t).emb y = ix2 (y 0) (y 1) :=
  ix2_ext _ _ _ ((win0_1.rect_emb_val t y 0).trans ((congrArg (· + (y 0).val) (at1 t).1).trans (Nat.zero_add _)))
    ((win0_1.rect_emb_val t y 1).trans ((congrArg (· + (y 1).val) (at1 t).2).trans (Nat.zero_add _)))
theorem emb2 (t : Fin cfg0.N) (y : S2048x1024.Idx) : (win0_2.rect t).emb y = ix2 (rowAt t (y 0)) (y 1) :=
  ix2_ext _ _ _ ((win0_2.rect_emb_val t y 0).trans (congrArg (· + (y 0).val) (at2 t).1))
    ((win0_2.rect_emb_val t y 1).trans ((congrArg (· + (y 1).val) (at2 t).2).trans (Nat.zero_add _)))

theorem left (c : Dev nD) (t : Fin cfg0.N) (y : S2048x1024.Idx) :
    out0_2 (F := Ideal) (iblk m c 0 t) (iblk m c 1 t) y = res (argA m c) (argB m c) (ix2 (rowAt t (y 0)) (y 1)) := by
  refine (out_apply _ _ y).trans (Finset.sum_congr rfl fun d _ => congrArg₂ (fun x y : EReal => x * y) ?_ ?_)
  · show V m c main_arg0 ((win0_0.rect t).emb (ix2 (y 0) d)) = _
    rw [V_main_arg0, emb0]
    rfl
  · show V m c main_arg1 ((win0_1.rect t).emb (ix2 d (y 1))) = _
    rw [V_main_arg1, emb1]
    rfl

theorem array (c : Dev nD) : (dats m 0 c).arrAt 2 cfg0.N = res (argA m c) (argB m c) := by
  refine (dats m 0 c).arrAt_eq_of_cover 2 (res (argA m c) (argB m c)) (fun t hf => ?_) fun i => ?_
  · funext y
    refine (congrFun (Cert.SqIdeal.Value.flushed2 m c t) y).trans ((left m c t y).trans ?_)
    show _ = res (argA m c) (argB m c) ((win0_2.rect t).emb y)
    rw [emb2]
    rfl
  · have h0 : (i 0).val < 4096 := (i 0).isLt
    have ht : (i 0).val / 2048 < cfg0.N := Nat.lt_of_lt_of_eq (by omega) N_0.symm
    refine ⟨⟨_, ht⟩, flush0_2 _, ?_⟩
    refine mem_of_emb ((cfg0.win 2).blk ⟨_, ht⟩).view (ix2 ⟨(i 0).val % 2048, Nat.mod_lt _ (by decide)⟩ (i 1)) i ?_
    exact (emb2 ⟨_, ht⟩ (ix2 ⟨(i 0).val % 2048, Nat.mod_lt _ (by decide)⟩ (i 1))).trans (ix2_ext i _ _ (div_back 2048 (i 0).val).symm rfl).symm

open Cert.SqRefIdeal.Read in
/-- The reference's product. -/
theorem ref (A : FVec Ideal S4096x1024 .bf16) (B : FVec Ideal S1024x1024 .bf16) : val_main_v3 (F := Ideal) A B = res A B := by
  funext i
  refine Eq.trans (val_main_v3_apply (F := Ideal) A B i) (Eq.trans (val_main_v2_apply A B i) ?_)
  show _ = ∑ d : Fin 1024, A (ix2 (i 0) d) * B (ix2 d (i 1))
  exact Finset.sum_congr rfl fun r _ => congrArg₂ (fun x y : EReal => x * y) (congrArg A (eq_ix2 _)) (congrArg B (eq_ix2 _))

/-- The call runs, keeps its arguments and ends quiescent. -/
theorem frame_kernel : Cert.quiescent_Sq := fun m ρ _ => Cert.Sq.Gen.frame m ρ
/-- The same of its idealization. -/
theorem frame_ideal : Cert.quiescent_SqIdeal := fun m ρ _ => Cert.SqIdeal.Gen.frame m ρ
/-- The reference runs, keeps its arguments and has no semaphores. -/
theorem frame_ref : Cert.quiescent_SqRefIdeal := fun m ρ _ =>
  (θ_run Cert.SqRefIdeal.defs _ _).mono (fun r h => ⟨fun c => (h c).2, sem_eq_zero_of_no_sems (by decide) r.2⟩)
    (Cert.SqRefIdeal.Value.run (F := Ideal) m ρ)

/-- The kernel and the reference compute the same product. -/
theorem value : Cert.algebraic_SqIdeal_SqRefIdeal := by
  intro m ρ m' ρ' _ hag
  refine ⟨fun c => res (argA m c) (argB m c), ?_, ?_⟩
  · exact (θ_run Cert.SqIdeal.defs _ _).mono (fun r h c => ⟨(h c).1.trans (array m c), (h c).2⟩) (Cert.SqIdeal.Value.run_blocks m ρ)
  · refine (θ_run Cert.SqRefIdeal.defs _ _).mono (fun r h c => ?_) (Cert.SqRefIdeal.Value.run (F := Ideal) m' ρ')
    obtain ⟨e0, e1⟩ := hag c
    refine ⟨(h c).1.trans ?_, (h c).2⟩
    refine (Cert.SqRefIdeal.Read.val_main_v3_eq _ _).trans ?_
    rw [e0, e1]
    exact ref (argA m c) (argB m c)

end Cert.XSq

namespace Cert.XTin

open Cert.TinIdeal Cert.TinIdeal.Gen Cert.XPlaces Cert.XProducts Idealize.ShloMosaic Idealize.ShloMosaic.ValueIdx Idealize.SL.Sem

/-- The product: rows against columns. -/
def res (A : FVec Ideal S4096x1024 .bf16) (B : FVec Ideal S1024x2560 .bf16) : FVec Ideal S4096x2560 .bf16 :=
  fun i => ∑ d : Fin 1024, A (ix2 (i 0) d) * B (ix2 d (i 1))

theorem lt8 (t : Fin cfg0.N) : t.val < 8 := t.isLt.trans_eq N_0
/-- The row of the point's block. -/
def rowAt (t : Fin cfg0.N) (r : Fin 2048) : Fin 4096 := ⟨2048 * (t.val / 4) + r.val, by have := lt8 t; omega⟩
/-- The column of the point's block. -/
def colAt (t : Fin cfg0.N) (j : Fin 640) : Fin 2560 := ⟨640 * (t.val % 4) + j.val, by omega⟩

/-- What a point stores. -/
theorem out_apply (a : FVec Ideal S2048x1024 .bf16) (b : FVec Ideal S1024x640 .bf16) (y : S2048x640.Idx) :
    out0_2 (F := Ideal) a b y = ∑ d : Fin 1024, a (ix2 (y 0) d) * b (ix2 d (y 1)) := by
  unfold out0_2
  rw [View.canon_unit_zero zero2, View.ld_unit_zero zero2, View.ld_unit_zero zero2]
  exact sum_of dot_S2048x1024_S1024x640_S2048x640_1_0_0_1_n_n 1024 rfl rfl a b y _ _ (fun d => ix2_ext _ (y 0) d rfl rfl) (fun d => ix2_ext _ d (y 1) rfl rfl)

variable (m : (ℓ : Loc nD τ sig) → Buf (Elt Ideal) ℓ)

abbrev argA (c : Dev nD) : FVec Ideal S4096x1024 .bf16 := m ((c.tc : Thread nD τ).loc main_arg0)
abbrev argB (c : Dev nD) : FVec Ideal S1024x2560 .bf16 := m ((c.tc : Thread nD τ).loc main_arg1)

theorem at0 : ∀ t : Fin grid0.N, win0_0.index t 0 * win0_0.size 0 = 2048 * (t.val / 4) ∧ win0_0.index t 1 * win0_0.size 1 = 0 := by decide +kernel
theorem at1 : ∀ t : Fin grid0.N, win0_1.index t 0 * win0_1.size 0 = 0 ∧ win0_1.index t 1 * win0_1.size 1 = 640 * (t.val % 4) := by decide +kernel
theorem at2 : ∀ t : Fin grid0.N, win0_2.index t 0 * win0_2.size 0 = 2048 * (t.val / 4) ∧ win0_2.index t 1 * win0_2.size 1 = 640 * (t.val % 4) := by decide +kernel

theorem emb0 (t : Fin cfg0.N) (y : S2048x1024.Idx) : (win0_0.rect t).emb y = ix2 (rowAt t (y 0)) (y 1) :=
  ix2_ext _ _ _ ((win0_0.rect_emb_val t y 0).trans (congrArg (· + (y 0).val) (at0 t).1))
    ((win0_0.rect_emb_val t y 1).trans ((congrArg (· + (y 1).val) (at0 t).2).trans (Nat.zero_add _)))
theorem emb1 (t : Fin cfg0.N) (y : S1024x640.Idx) : (win0_1.rect t).emb y = ix2 (y 0) (colAt t (y 1)) :=
  ix2_ext _ _ _ ((win0_1.rect_emb_val t y 0).trans ((congrArg (· + (y 0).val) (at1 t).1).trans (Nat.zero_add _)))
    ((win0_1.rect_emb_val t y 1).trans (congrArg (· + (y 1).val) (at1 t).2))
theorem emb2 (t : Fin cfg0.N) (y : S2048x640.Idx) : (win0_2.rect t).emb y = ix2 (rowAt t (y 0)) (colAt t (y 1)) :=
  ix2_ext _ _ _ ((win0_2.rect_emb_val t y 0).trans (congrArg (· + (y 0).val) (at2 t).1))
    ((win0_2.rect_emb_val t y 1).trans (congrArg (· + (y 1).val) (at2 t).2))

theorem left (c : Dev nD) (t : Fin cfg0.N) (y : S2048x640.Idx) :
    out0_2 (F := Ideal) (iblk m c 0 t) (iblk m c 1 t) y = res (argA m c) (argB m c) (ix2 (rowAt t (y 0)) (colAt t (y 1))) := by
  refine (out_apply _ _ y).trans (Finset.sum_congr rfl fun d _ => congrArg₂ (fun x y : EReal => x * y) ?_ ?_)
  · show V m c main_arg0 ((win0_0.rect t).emb (ix2 (y 0) d)) = _
    rw [V_main_arg0, emb0]
    rfl
  · show V m c main_arg1 ((win0_1.rect t).emb (ix2 d (y 1))) = _
    rw [V_main_arg1, emb1]
    rfl

theorem array (c : Dev nD) : (dats m 0 c).arrAt 2 cfg0.N = res (argA m c) (argB m c) := by
  refine (dats m 0 c).arrAt_eq_of_cover 2 (res (argA m c) (argB m c)) (fun t hf => ?_) fun i => ?_
  · funext y
    refine (congrFun (Cert.TinIdeal.Value.flushed2 m c t) y).trans ((left m c t y).trans ?_)
    show _ = res (argA m c) (argB m c) ((win0_2.rect t).emb y)
    rw [emb2]
  · have h0 : (i 0).val < 4096 := (i 0).isLt
    have h1 : (i 1).val < 2560 := (i 1).isLt
    have ht : ((i 0).val / 2048) * 4 + (i 1).val / 640 < cfg0.N := Nat.lt_of_lt_of_eq (by omega) N_0.symm
    refine ⟨⟨_, ht⟩, flush0_2 _, ?_⟩
    refine mem_of_emb ((cfg0.win 2).blk ⟨_, ht⟩).view (ix2 ⟨(i 0).val % 2048, Nat.mod_lt _ (by decide)⟩ ⟨(i 1).val % 640, Nat.mod_lt _ (by decide)⟩) i ?_
    refine (emb2 ⟨_, ht⟩ (ix2 ⟨(i 0).val % 2048, Nat.mod_lt _ (by decide)⟩ ⟨(i 1).val % 640, Nat.mod_lt _ (by decide)⟩)).trans (ix2_ext i _ _ ?_ ?_).symm
    · show (i 0).val = 2048 * ((((i 0).val / 2048) * 4 + (i 1).val / 640) / 4) + (i 0).val % 2048; omega
    · show (i 1).val = 640 * ((((i 0).val / 2048) * 4 + (i 1).val / 640) % 4) + (i 1).val % 640; omega

open Cert.TinRefIdeal.Read in
/-- The reference's product. -/
theorem ref (A : FVec Ideal S4096x1024 .bf16) (B : FVec Ideal S1024x2560 .bf16) : val_main_v3 (F := Ideal) A B = res A B := by
  funext i
  refine Eq.trans (val_main_v3_apply (F := Ideal) A B i) (Eq.trans (val_main_v2_apply A B i) ?_)
  show _ = ∑ d : Fin 1024, A (ix2 (i 0) d) * B (ix2 d (i 1))
  exact Finset.sum_congr rfl fun r _ => congrArg₂ (fun x y : EReal => x * y) (congrArg A (eq_ix2 _)) (congrArg B (eq_ix2 _))

/-- The call runs, keeps its arguments and ends quiescent. -/
theorem frame_kernel : Cert.quiescent_Tin := fun m ρ _ => Cert.Tin.Gen.frame m ρ
/-- The same of its idealization. -/
theorem frame_ideal : Cert.quiescent_TinIdeal := fun m ρ _ => Cert.TinIdeal.Gen.frame m ρ
/-- The reference runs, keeps its arguments and has no semaphores. -/
theorem frame_ref : Cert.quiescent_TinRefIdeal := fun m ρ _ =>
  (θ_run Cert.TinRefIdeal.defs _ _).mono (fun r h => ⟨fun c => (h c).2, sem_eq_zero_of_no_sems (by decide) r.2⟩)
    (Cert.TinRefIdeal.Value.run (F := Ideal) m ρ)

/-- The kernel and the reference compute the same product. -/
theorem value : Cert.algebraic_TinIdeal_TinRefIdeal := by
  intro m ρ m' ρ' _ hag
  refine ⟨fun c => res (argA m c) (argB m c), ?_, ?_⟩
  · exact (θ_run Cert.TinIdeal.defs _ _).mono (fun r h c => ⟨(h c).1.trans (array m c), (h c).2⟩) (Cert.TinIdeal.Value.run_blocks m ρ)
  · refine (θ_run Cert.TinRefIdeal.defs _ _).mono (fun r h c => ?_) (Cert.TinRefIdeal.Value.run (F := Ideal) m' ρ')
    obtain ⟨e0, e1⟩ := hag c
    refine ⟨(h c).1.trans ?_, (h c).2⟩
    refine (Cert.TinRefIdeal.Read.val_main_v3_eq _ _).trans ?_
    rw [e0, e1]
    exact ref (argA m c) (argB m c)

end Cert.XTin

end
-- ==== Proof.RowGrads.lean ====
/- The gradients of the rows before a product with the square weights and with the mixer's last weights: the kernel's blocks and the derivative of the product. -/
module

public import proofs.«01_k».proof.Defs
public import proofs.«01_k».proof.Proof.Gen.Sdy.Frame
public import proofs.«01_k».proof.Proof.Gen.SdyIdeal.Value
public import proofs.«01_k».proof.Proof.Gen.SdyRefIdeal.Read
public import proofs.«01_k».proof.Proof.Gen.Tdy.Frame
public import proofs.«01_k».proof.Proof.Gen.TdyIdeal.Value
public import proofs.«01_k».proof.Proof.Gen.TdyRefIdeal.Read
public import proofs.«01_k».proof.Proof.Places
public import proofs.«01_k».proof.Proof.Products
public import Idealize.ShloMosaic.Lib.Quiescent

@[expose] public section

noncomputable section

namespace Cert.XSdy

open Cert.SdyIdeal Cert.SdyIdeal.Gen Cert.XPlaces Cert.XProducts Idealize.ShloMosaic Idealize.ShloMosaic.ValueIdx Idealize.SL.Sem

/-- The rows' gradient: rows against the weights' rows. -/
def res (A : FVec Ideal S4096x1024 .bf16) (B : FVec Ideal S1024x1024 .bf16) : FVec Ideal S4096x1024 .bf16 :=
  fun i => ∑ d : Fin 1024, A (ix2 (i 0) d) * B (ix2 (i 1) d)

theorem lt2 (t : Fin cfg0.N) : t.val < 2 := t.isLt.trans_eq N_0
/-- The row of the point's block. -/
def rowAt (t : Fin cfg0.N) (r : Fin 2048) : Fin 4096 := ⟨2048 * t.val + r.val, by have := lt2 t; omega⟩

/-- What a point stores. -/
theorem out_apply (a : FVec Ideal S2048x1024 .bf16) (b : FVec Ideal S1024x1024 .bf16) (y : S2048x1024.Idx) :
    out0_2 (F := Ideal) a b y = ∑ d : Fin 1024, a (ix2 (y 0) d) * b (ix2 (y 1) d) := by
  unfold out0_2
  rw [View.canon_unit_zero zero2, View.ld_unit_zero zero2, View.ld_unit_zero zero2]
  exact sum_of dot_S2048x1024_S1024x1024_S2048x1024_1_1_0_0_n_n 1024 rfl rfl a b y _ _ (fun d => ix2_ext _ (y 0) d rfl rfl) (fun d => ix2_ext _ (y 1) d rfl rfl)

variable (m : (ℓ : Loc nD τ sig) → Buf (Elt Ideal) ℓ)

abbrev argA (c : Dev nD) : FVec Ideal S4096x1024 .bf16 := m ((c.tc : Thread nD τ).loc main_arg0)
abbrev argB (c : Dev nD) : FVec Ideal S1024x1024 .bf16 := m ((c.tc : Thread nD τ).loc main_arg1)

theorem at0 : ∀ t : Fin grid0.N, win0_0.index t 0 * win0_0.size 0 = 2048 * t.val ∧ win0_0.index t 1 * win0_0.size 1 = 0 := by decide +kernel
theorem at1 : ∀ t : Fin grid0.N, win0_1.index t 0 * win0_1.size 0 = 0 ∧ win0_1.index t 1 * win0_1.size 1 = 0 := by decide +kernel
theorem at2 : ∀ t : Fin grid0.N, win0_2.index t 0 * win0_2.size 0 = 2048 * t.val ∧ win0_2.index t 1 * win0_2.size 1 = 0 := by decide +kernel

theorem emb0 (t : Fin cfg0.N) (y : S2048x1024.Idx) : (win0_0.rect t).emb y = ix2 (rowAt t (y 0)) (y 1) :=
  ix2_ext _ _ _ ((win0_0.rect_emb_val t y 0).trans (congrArg (· + (y 0).val) (at0 t).1))
    ((win0_0.rect_emb_val t y 1).trans ((congrArg (· + (y 1).val) (at0 t).2).trans (Nat.zero_add _)))
theorem emb1 (t : Fin cfg0.N) (y : S1024x1024.Idx) : (win0_1.rect t).emb y = ix2 (y 0) (y 1) :=
  ix2_ext _ _ _ ((win0_1.rect_emb_val t y 0).trans ((congrArg (· + (y 0).val) (at1 t).1).trans (Nat.zero_add _)))
    ((win0_1.rect_emb_val t y 1).trans ((congrArg (· + (y 1).val) (at1 t).2).trans (Nat.zero_add _)))
theorem emb2 (t : Fin cfg0.N) (y : S2048x1024.Idx) : (win0_2.rect t).emb y = ix2 (rowAt t (y 0)) (y 1) :=
  ix2_ext _ _ _ ((win0_2.rect_emb_val t y 0).trans (congrArg (· + (y 0).val) (at2 t).1))
    ((win0_2.rect_emb_val t y 1).trans ((congrArg (· + (y 1).val) (at2 t).2).trans (Nat.zero_add _)))

theorem left (c : Dev nD) (t : Fin cfg0.N) (y : S2048x1024.Idx) :
    out0_2 (F := Ideal) (iblk m c 0 t) (iblk m c 1 t) y = res (argA m c) (argB m c) (ix2 (rowAt t (y 0)) (y 1)) := by
  refine (out_apply _ _ y).trans (Finset.sum_congr rfl fun d _ => congrArg₂ (fun x y : EReal => x * y) ?_ ?_)
  · show V m c main_arg0 ((win0_0.rect t).emb (ix2 (y 0) d)) = _
    rw [V_main_arg0, emb0]
    rfl
  · show V m c main_arg1 ((win0_1.rect t).emb (ix2 (y 1) d)) = _
    rw [V_main_arg1, emb1]
    rfl

theorem array (c : Dev nD) : (dats m 0 c).arrAt 2 cfg0.N = res (argA m c) (argB m c) := by
  refine (dats m 0 c).arrAt_eq_of_cover 2 (res (argA m c) (argB m c)) (fun t hf => ?_) fun i => ?_
  · funext y
    refine (congrFun (Cert.SdyIdeal.Value.flushed2 m c t) y).trans ((left m c t y).trans ?_)
    show _ = res (argA m c) (argB m c) ((win0_2.rect t).emb y)
    rw [emb2]
    rfl
  · have h0 : (i 0).val < 4096 := (i 0).isLt
    have ht : (i 0).val / 2048 < cfg0.N := Nat.lt_of_lt_of_eq (by omega) N_0.symm
    refine ⟨⟨_, ht⟩, flush0_2 _, ?_⟩
    refine mem_of_emb ((cfg0.win 2).blk ⟨_, ht⟩).view (ix2 ⟨(i 0).val % 2048, Nat.mod_lt _ (by decide)⟩ (i 1)) i ?_
    exact (emb2 ⟨_, ht⟩ (ix2 ⟨(i 0).val % 2048, Nat.mod_lt _ (by decide)⟩ (i 1))).trans (ix2_ext i _ _ (div_back 2048 (i 0).val).symm rfl).symm

open Cert.SdyRefIdeal.Read in
/-- The derivative of the product. -/
theorem ref (A : FVec Ideal S4096x1024 .bf16) (B : FVec Ideal S1024x1024 .bf16) : val_main_v5 (F := Ideal) A B = res A B := by
  funext i
  refine Eq.trans (val_main_v5_apply (F := Ideal) A B i) (Eq.trans (val_main_v4_apply A B i) ?_)
  show _ = ∑ d : Fin 1024, A (ix2 (i 0) d) * B (ix2 (i 1) d)
  exact Finset.sum_congr rfl fun r _ => congrArg₂ (fun x y : EReal => x * y) (congrArg A (eq_ix2 _)) (congrArg B (eq_ix2 _))

/-- The call runs, keeps its arguments and ends quiescent. -/
theorem frame_kernel : Cert.quiescent_Sdy := fun m ρ _ => Cert.Sdy.Gen.frame m ρ
/-- The same of its idealization. -/
theorem frame_ideal : Cert.quiescent_SdyIdeal := fun m ρ _ => Cert.SdyIdeal.Gen.frame m ρ
/-- The reference runs, keeps its arguments and has no semaphores. -/
theorem frame_ref : Cert.quiescent_SdyRefIdeal := fun m ρ _ =>
  (θ_run Cert.SdyRefIdeal.defs _ _).mono (fun r h => ⟨fun c => (h c).2, sem_eq_zero_of_no_sems (by decide) r.2⟩)
    (Cert.SdyRefIdeal.Value.run (F := Ideal) m ρ)

/-- The kernel and the derivative of the product compute the same gradient. -/
theorem value : Cert.algebraic_SdyIdeal_SdyRefIdeal := by
  intro m ρ m' ρ' _ hag
  refine ⟨fun c => res (argA m c) (argB m c), ?_, ?_⟩
  · exact (θ_run Cert.SdyIdeal.defs _ _).mono (fun r h c => ⟨(h c).1.trans (array m c), (h c).2⟩) (Cert.SdyIdeal.Value.run_blocks m ρ)
  · refine (θ_run Cert.SdyRefIdeal.defs _ _).mono (fun r h c => ?_) (Cert.SdyRefIdeal.Value.run (F := Ideal) m' ρ')
    obtain ⟨e0, e1⟩ := hag c
    refine ⟨(h c).1.trans ?_, (h c).2⟩
    refine (Cert.SdyRefIdeal.Read.val_main_v5_eq _ _).trans ?_
    rw [e0, e1]
    exact ref (argA m c) (argB m c)

end Cert.XSdy

namespace Cert.XTdy

open Cert.TdyIdeal Cert.TdyIdeal.Gen Cert.XPlaces Cert.XProducts Idealize.ShloMosaic Idealize.ShloMosaic.ValueIdx Idealize.SL.Sem

/-- The rows' gradient: rows against the weights' rows. -/
def res (A : FVec Ideal S4096x1024 .bf16) (B : FVec Ideal S1536x1024 .bf16) : FVec Ideal S4096x1536 .bf16 :=
  fun i => ∑ d : Fin 1024, A (ix2 (i 0) d) * B (ix2 (i 1) d)

theorem lt4 (t : Fin cfg0.N) : t.val < 4 := t.isLt.trans_eq N_0
/-- The row of the point's block. -/
def rowAt (t : Fin cfg0.N) (r : Fin 2048) : Fin 4096 := ⟨2048 * (t.val / 2) + r.val, by have := lt4 t; omega⟩
/-- The column of the point's block. -/
def colAt (t : Fin cfg0.N) (j : Fin 768) : Fin 1536 := ⟨768 * (t.val % 2) + j.val, by omega⟩

/-- What a point stores. -/
theorem out_apply (a : FVec Ideal S2048x1024 .bf16) (b : FVec Ideal S768x1024 .bf16) (y : S2048x768.Idx) :
    out0_2 (F := Ideal) a b y = ∑ d : Fin 1024, a (ix2 (y 0) d) * b (ix2 (y 1) d) := by
  unfold out0_2
  rw [View.canon_unit_zero zero2, View.ld_unit_zero zero2, View.ld_unit_zero zero2]
  exact sum_of dot_S2048x1024_S768x1024_S2048x768_1_1_0_0_n_n 1024 rfl rfl a b y _ _ (fun d => ix2_ext _ (y 0) d rfl rfl) (fun d => ix2_ext _ (y 1) d rfl rfl)

variable (m : (ℓ : Loc nD τ sig) → Buf (Elt Ideal) ℓ)

abbrev argA (c : Dev nD) : FVec Ideal S4096x1024 .bf16 := m ((c.tc : Thread nD τ).loc main_arg0)
abbrev argB (c : Dev nD) : FVec Ideal S1536x1024 .bf16 := m ((c.tc : Thread nD τ).loc main_arg1)

theorem at0 : ∀ t : Fin grid0.N, win0_0.index t 0 * win0_0.size 0 = 2048 * (t.val / 2) ∧ win0_0.index t 1 * win0_0.size 1 = 0 := by decide +kernel
theorem at1 : ∀ t : Fin grid0.N, win0_1.index t 0 * win0_1.size 0 = 768 * (t.val % 2) ∧ win0_1.index t 1 * win0_1.size 1 = 0 := by decide +kernel
theorem at2 : ∀ t : Fin grid0.N, win0_2.index t 0 * win0_2.size 0 = 2048 * (t.val / 2) ∧ win0_2.index t 1 * win0_2.size 1 = 768 * (t.val % 2) := by decide +kernel

theorem emb0 (t : Fin cfg0.N) (y : S2048x1024.Idx) : (win0_0.rect t).emb y = ix2 (rowAt t (y 0)) (y 1) :=
  ix2_ext _ _ _ ((win0_0.rect_emb_val t y 0).trans (congrArg (· + (y 0).val) (at0 t).1))
    ((win0_0.rect_emb_val t y 1).trans ((congrArg (· + (y 1).val) (at0 t).2).trans (Nat.zero_add _)))
theorem emb1 (t : Fin cfg0.N) (y : S768x1024.Idx) : (win0_1.rect t).emb y = ix2 (colAt t (y 0)) (y 1) :=
  ix2_ext _ _ _ ((win0_1.rect_emb_val t y 0).trans (congrArg (· + (y 0).val) (at1 t).1))
    ((win0_1.rect_emb_val t y 1).trans ((congrArg (· + (y 1).val) (at1 t).2).trans (Nat.zero_add _)))
theorem emb2 (t : Fin cfg0.N) (y : S2048x768.Idx) : (win0_2.rect t).emb y = ix2 (rowAt t (y 0)) (colAt t (y 1)) :=
  ix2_ext _ _ _ ((win0_2.rect_emb_val t y 0).trans (congrArg (· + (y 0).val) (at2 t).1))
    ((win0_2.rect_emb_val t y 1).trans (congrArg (· + (y 1).val) (at2 t).2))

theorem left (c : Dev nD) (t : Fin cfg0.N) (y : S2048x768.Idx) :
    out0_2 (F := Ideal) (iblk m c 0 t) (iblk m c 1 t) y = res (argA m c) (argB m c) (ix2 (rowAt t (y 0)) (colAt t (y 1))) := by
  refine (out_apply _ _ y).trans (Finset.sum_congr rfl fun d _ => congrArg₂ (fun x y : EReal => x * y) ?_ ?_)
  · show V m c main_arg0 ((win0_0.rect t).emb (ix2 (y 0) d)) = _
    rw [V_main_arg0, emb0]
    rfl
  · show V m c main_arg1 ((win0_1.rect t).emb (ix2 (y 1) d)) = _
    rw [V_main_arg1, emb1]
    rfl

theorem array (c : Dev nD) : (dats m 0 c).arrAt 2 cfg0.N = res (argA m c) (argB m c) := by
  refine (dats m 0 c).arrAt_eq_of_cover 2 (res (argA m c) (argB m c)) (fun t hf => ?_) fun i => ?_
  · funext y
    refine (congrFun (Cert.TdyIdeal.Value.flushed2 m c t) y).trans ((left m c t y).trans ?_)
    show _ = res (argA m c) (argB m c) ((win0_2.rect t).emb y)
    rw [emb2]
  · have h0 : (i 0).val < 4096 := (i 0).isLt
    have h1 : (i 1).val < 1536 := (i 1).isLt
    have ht : ((i 0).val / 2048) * 2 + (i 1).val / 768 < cfg0.N := Nat.lt_of_lt_of_eq (by omega) N_0.symm
    refine ⟨⟨_, ht⟩, flush0_2 _, ?_⟩
    refine mem_of_emb ((cfg0.win 2).blk ⟨_, ht⟩).view (ix2 ⟨(i 0).val % 2048, Nat.mod_lt _ (by decide)⟩ ⟨(i 1).val % 768, Nat.mod_lt _ (by decide)⟩) i ?_
    refine (emb2 ⟨_, ht⟩ (ix2 ⟨(i 0).val % 2048, Nat.mod_lt _ (by decide)⟩ ⟨(i 1).val % 768, Nat.mod_lt _ (by decide)⟩)).trans (ix2_ext i _ _ ?_ ?_).symm
    · show (i 0).val = 2048 * ((((i 0).val / 2048) * 2 + (i 1).val / 768) / 2) + (i 0).val % 2048; omega
    · show (i 1).val = 768 * ((((i 0).val / 2048) * 2 + (i 1).val / 768) % 2) + (i 1).val % 768; omega

open Cert.TdyRefIdeal.Read in
/-- The derivative of the product. -/
theorem ref (A : FVec Ideal S4096x1024 .bf16) (B : FVec Ideal S1536x1024 .bf16) : val_main_v5 (F := Ideal) A B = res A B := by
  funext i
  refine Eq.trans (val_main_v5_apply (F := Ideal) A B i) (Eq.trans (val_main_v4_apply A B i) ?_)
  show _ = ∑ d : Fin 1024, A (ix2 (i 0) d) * B (ix2 (i 1) d)
  exact Finset.sum_congr rfl fun r _ => congrArg₂ (fun x y : EReal => x * y) (congrArg A (eq_ix2 _)) (congrArg B (eq_ix2 _))

/-- The call runs, keeps its arguments and ends quiescent. -/
theorem frame_kernel : Cert.quiescent_Tdy := fun m ρ _ => Cert.Tdy.Gen.frame m ρ
/-- The same of its idealization. -/
theorem frame_ideal : Cert.quiescent_TdyIdeal := fun m ρ _ => Cert.TdyIdeal.Gen.frame m ρ
/-- The reference runs, keeps its arguments and has no semaphores. -/
theorem frame_ref : Cert.quiescent_TdyRefIdeal := fun m ρ _ =>
  (θ_run Cert.TdyRefIdeal.defs _ _).mono (fun r h => ⟨fun c => (h c).2, sem_eq_zero_of_no_sems (by decide) r.2⟩)
    (Cert.TdyRefIdeal.Value.run (F := Ideal) m ρ)

/-- The kernel and the derivative of the product compute the same gradient. -/
theorem value : Cert.algebraic_TdyIdeal_TdyRefIdeal := by
  intro m ρ m' ρ' _ hag
  refine ⟨fun c => res (argA m c) (argB m c), ?_, ?_⟩
  · exact (θ_run Cert.TdyIdeal.defs _ _).mono (fun r h c => ⟨(h c).1.trans (array m c), (h c).2⟩) (Cert.TdyIdeal.Value.run_blocks m ρ)
  · refine (θ_run Cert.TdyRefIdeal.defs _ _).mono (fun r h c => ?_) (Cert.TdyRefIdeal.Value.run (F := Ideal) m' ρ')
    obtain ⟨e0, e1⟩ := hag c
    refine ⟨(h c).1.trans ?_, (h c).2⟩
    refine (Cert.TdyRefIdeal.Read.val_main_v5_eq _ _).trans ?_
    rw [e0, e1]
    exact ref (argA m c) (argB m c)

end Cert.XTdy

end
-- ==== Proof.SquareGrad.lean ====
/- The gradient of square weights: the kernel's running sum over four blocks of rows and the derivative of the product. -/
module

public import proofs.«01_k».proof.Defs
public import proofs.«01_k».proof.Proof.Gen.Sdw.Frame
public import proofs.«01_k».proof.Proof.Gen.SdwIdeal.Value
public import proofs.«01_k».proof.Proof.Gen.SdwRefIdeal.Read
public import proofs.«01_k».proof.Proof.Places
public import proofs.«01_k».proof.Proof.Products
public import Idealize.ShloMosaic.Lib.Quiescent

@[expose] public section

noncomputable section

namespace Cert.XSdw

open Cert.SdwIdeal Cert.SdwIdeal.Gen Cert.XPlaces Cert.XProducts Idealize.ShloMosaic Idealize.ShloMosaic.ValueIdx Idealize.SL.Sem

/-- The weights' gradient: columns against columns. -/
def res (A B : FVec Ideal S4096x1024 .bf16) : FVec Ideal S1024x1024 .bf16 := fun i => ∑ d : Fin 4096, A (ix2 d (i 0)) * B (ix2 d (i 1))
/-- One row's part of the gradient. -/
def part (A B : FVec Ideal S4096x1024 .bf16) (y : S1024x1024.Idx) (d : ℕ) : EReal :=
  A (ix2 (Fin.ofNat 4096 d) (y 0)) * B (ix2 (Fin.ofNat 4096 d) (y 1))

theorem res_parts (A B : FVec Ideal S4096x1024 .bf16) (y : S1024x1024.Idx) :
    res A B y = ∑ k ∈ Finset.range 4, ∑ d : Fin 1024, part A B y (1024 * k + d.val) := by
  refine Eq.trans ?_ (sum_blocks 4 1024 (part A B y))
  show ∑ d : Fin 4096, A (ix2 d (y 0)) * B (ix2 d (y 1)) = ∑ d : Fin 4096, part A B y d.val
  refine Finset.sum_congr rfl fun d _ => ?_
  have e : Fin.ofNat 4096 d.val = d := Fin.ext (Nat.mod_eq_of_lt d.isLt)
  unfold part
  rw [e]

/-- What one block of rows gives to the product. -/
def block (a b : FVec Ideal S1024x1024 .bf16) (y : S1024x1024.Idx) : EReal := ∑ d : Fin 1024, a (ix2 d (y 0)) * b (ix2 d (y 1))

theorem zero_apply (y : S1024x1024.Idx) : k0_pay1 (F := Ideal) y = 0 := by
  unfold k0_pay1
  rw [shapeCast_self]
  exact Ideal.ofBits_zero_f32
theorem add_apply (x : FVec Ideal S1024x1024 .f32) (a b : FVec Ideal S1024x1024 .bf16) (y : S1024x1024.Idx) :
    k0_pay2 (F := Ideal) x a b y = x y + block a b y := by
  unfold k0_pay2
  rw [shapeCast_self]
  exact congrArg (x y + ·) (sum_of dot_S1024x1024_S1024x1024_S1024x1024_0_0_1_1_n_n 1024 rfl rfl a b y _ _
    (fun d => ix2_ext _ d (y 0) rfl rfl) (fun d => ix2_ext _ d (y 1) rfl rfl))

variable (m : (ℓ : Loc nD τ sig) → Buf (Elt Ideal) ℓ)

theorem first (c : Dev nD) (t : Fin cfg0.N) (h0 : t.val % 4 = 0) (h1 : ¬t.val % 4 = 3) (y : S1024x1024.Idx) :
    (outsAt0 m c t.val t.isLt).2 y = block (iblk m c 0 t) (iblk m c 1 t) y := by
  rw [outsAt0_A m c t h0 h1]
  dsimp only
  unfold sout0_A_0
  rw [View.read_writes_eq_canon _ _ _ (by intro y; apply scover0_A_0)]
  unfold kernelRun0_A
  dsimp only
  sl_unfold_words
  rw [View.canon_cons_unit_zero (S := S1024x1024) zero2, View.readCov_unit_zero (S := S1024x1024) _ zero2]
  simp only [View.readAt_eq_ld, (hs0_0 t).read_unread, (hs0_1 t).read_unread, View.ld_unit_zero (S := S1024x1024) zero2]
  rw [add_apply, zero_apply, zero_add]

theorem next (c : Dev nD) (t : Fin cfg0.N) (h0 : ¬t.val % 4 = 0) (h1 : ¬t.val % 4 = 3) (y : S1024x1024.Idx) :
    (outsAt0 m c t.val t.isLt).2 y = (outsAt0 m c (t.val - 1) (Nat.lt_of_le_of_lt (Nat.sub_le _ _) t.isLt)).2 y
      + block (iblk m c 0 t) (iblk m c 1 t) y := by
  rw [outsAt0_B m c t h0 h1]
  dsimp only
  unfold sout0_B_0
  rw [View.read_writes_eq_canon _ _ _ (by intro y; apply scover0_B_0)]
  unfold kernelRun0_B
  dsimp only
  sl_unfold_words
  rw [View.canon_cons_unit_zero (S := S1024x1024) zero2]
  simp only [View.readAt_eq_ld, (hs0_0 t).read_unread, (hs0_1 t).read_unread, (Memref.isWhole_whole _).read_unread, View.ld_unit_zero (S := S1024x1024) zero2]
  exact add_apply _ _ _ y

theorem last (c : Dev nD) (t : Fin cfg0.N) (h0 : ¬t.val % 4 = 0) (h1 : t.val % 4 = 3) (y : S1024x1024.Idx) :
    (outsAt0 m c t.val t.isLt).1 y = (outsAt0 m c (t.val - 1) (Nat.lt_of_le_of_lt (Nat.sub_le _ _) t.isLt)).2 y
      + block (iblk m c 0 t) (iblk m c 1 t) y := by
  rw [outsAt0_C m c t h0 h1]
  dsimp only
  unfold out0_C_2
  rw [View.read_writes_eq_canon _ _ _ (by intro y; apply cover0_C_2)]
  unfold kernelRun0_C
  dsimp only
  sl_unfold_words
  rw [View.canon_cons_unit_zero (S := S1024x1024) zero2, View.readCov_unit_zero (S := S1024x1024) _ zero2]
  simp only [View.readAt_eq_ld, (hs0_0 t).read_unread, (hs0_1 t).read_unread, (Memref.isWhole_whole _).read_unread, View.ld_unit_zero (S := S1024x1024) zero2]
  exact add_apply _ _ _ y

abbrev argA (c : Dev nD) : FVec Ideal S4096x1024 .bf16 := m ((c.tc : Thread nD τ).loc main_arg0)
abbrev argB (c : Dev nD) : FVec Ideal S4096x1024 .bf16 := m ((c.tc : Thread nD τ).loc main_arg1)

theorem lt4 (t : Fin cfg0.N) : t.val < 4 := t.isLt.trans_eq N_0
theorem at0 : ∀ t : Fin grid0.N, win0_0.index t 0 * win0_0.size 0 = 1024 * t.val ∧ win0_0.index t 1 * win0_0.size 1 = 0 := by decide +kernel
theorem at1 : ∀ t : Fin grid0.N, win0_1.index t 0 * win0_1.size 0 = 1024 * t.val ∧ win0_1.index t 1 * win0_1.size 1 = 0 := by decide +kernel
theorem at2 : ∀ t : Fin grid0.N, win0_2.index t 0 * win0_2.size 0 = 0 ∧ win0_2.index t 1 * win0_2.size 1 = 0 := by decide +kernel

theorem row_val (t : Fin cfg0.N) (d : Fin 1024) : 1024 * t.val + d.val = (Fin.ofNat 4096 (1024 * t.val + d.val)).val :=
  (Nat.mod_eq_of_lt (by have := lt4 t; omega)).symm
theorem emb0 (t : Fin cfg0.N) (y : S1024x1024.Idx) : (win0_0.rect t).emb y = ix2 (Fin.ofNat 4096 (1024 * t.val + (y 0).val)) (y 1) :=
  ix2_ext _ _ _ ((win0_0.rect_emb_val t y 0).trans ((congrArg (· + (y 0).val) (at0 t).1).trans (row_val t (y 0))))
    ((win0_0.rect_emb_val t y 1).trans ((congrArg (· + (y 1).val) (at0 t).2).trans (Nat.zero_add _)))
theorem emb1 (t : Fin cfg0.N) (y : S1024x1024.Idx) : (win0_1.rect t).emb y = ix2 (Fin.ofNat 4096 (1024 * t.val + (y 0).val)) (y 1) :=
  ix2_ext _ _ _ ((win0_1.rect_emb_val t y 0).trans ((congrArg (· + (y 0).val) (at1 t).1).trans (row_val t (y 0))))
    ((win0_1.rect_emb_val t y 1).trans ((congrArg (· + (y 1).val) (at1 t).2).trans (Nat.zero_add _)))
theorem emb2 (t : Fin cfg0.N) (y : S1024x1024.Idx) : (win0_2.rect t).emb y = ix2 (y 0) (y 1) :=
  ix2_ext _ _ _ ((win0_2.rect_emb_val t y 0).trans ((congrArg (· + (y 0).val) (at2 t).1).trans (Nat.zero_add _)))
    ((win0_2.rect_emb_val t y 1).trans ((congrArg (· + (y 1).val) (at2 t).2).trans (Nat.zero_add _)))

theorem block_eq (c : Dev nD) (t : Fin cfg0.N) (y : S1024x1024.Idx) :
    block (iblk m c 0 t) (iblk m c 1 t) y = ∑ d : Fin 1024, part (argA m c) (argB m c) y (1024 * t.val + d.val) := by
  unfold block part
  refine Finset.sum_congr rfl fun d _ => congrArg₂ (fun x y : EReal => x * y) ?_ ?_
  · show V m c main_arg0 ((win0_0.rect t).emb (ix2 d (y 0))) = _
    rw [V_main_arg0, emb0]
    rfl
  · show V m c main_arg1 ((win0_1.rect t).emb (ix2 d (y 1))) = _
    rw [V_main_arg1, emb1]
    rfl

/-- Before the last point the running sum holds the blocks so far. -/
theorem upto (c : Dev nD) (y : S1024x1024.Idx) (k : ℕ) : ∀ t : Fin cfg0.N, t.val = k → k < 3 →
    (outsAt0 m c t.val t.isLt).2 y = ∑ q ∈ Finset.range (k + 1), ∑ d : Fin 1024, part (argA m c) (argB m c) y (1024 * q + d.val) := by
  induction k with
  | zero =>
    intro t ht _
    refine (first m c t (by omega) (by omega) y).trans ((block_eq m c t y).trans ?_)
    rw [Finset.sum_range_one, ht]
  | succ k ih =>
    intro t ht hk
    refine (next m c t (by omega) (by omega) y).trans ?_
    refine Eq.trans (congrArg₂ (fun x z : EReal => x + z) ?_ ((block_eq m c t y).trans (by rw [ht]))) (Finset.sum_range_succ _ _).symm
    exact ih ⟨t.val - 1, Nat.lt_of_le_of_lt (Nat.sub_le _ _) t.isLt⟩ (by show t.val - 1 = k; omega) (by omega)

theorem whole (c : Dev nD) (t : Fin cfg0.N) (h : t.val % 4 = 3) (y : S1024x1024.Idx) :
    (outsAt0 m c t.val t.isLt).1 y = res (argA m c) (argB m c) y := by
  have ht : t.val = 3 := by have := lt4 t; omega
  refine (last m c t (by omega) h y).trans ?_
  rw [res_parts]
  refine Eq.trans (congrArg₂ (fun x z : EReal => x + z) ?_ ((block_eq m c t y).trans (by rw [ht]))) (Finset.sum_range_succ _ _).symm
  exact upto m c y 2 ⟨t.val - 1, Nat.lt_of_le_of_lt (Nat.sub_le _ _) t.isLt⟩ (by show t.val - 1 = 2; omega) (by omega)

theorem array (c : Dev nD) : (dats m 0 c).arrAt 2 cfg0.N = res (argA m c) (argB m c) := by
  refine (dats m 0 c).arrAt_eq_of_cover 2 (res (argA m c) (argB m c)) (fun t hf => ?_) fun i => ?_
  · funext y
    refine (congrFun (Cert.SdwIdeal.Value.flushed2 m c t) y).trans ((whole m c t ((flush0_2 t).mp hf) y).trans ?_)
    show _ = res (argA m c) (argB m c) ((win0_2.rect t).emb y)
    rw [emb2]
    exact congrArg (res (argA m c) (argB m c)) (eq_ix2 y)
  · have ht : 3 < cfg0.N := Nat.lt_of_lt_of_eq (by omega) N_0.symm
    exact ⟨⟨3, ht⟩, (flush0_2 _).mpr rfl, mem_of_emb ((cfg0.win 2).blk ⟨3, ht⟩).view i i ((emb2 ⟨3, ht⟩ i).trans (eq_ix2 i).symm)⟩

open Cert.SdwRefIdeal.Read in
/-- The derivative of the product. -/
theorem ref (A B : FVec Ideal S4096x1024 .bf16) : val_main_v6 (F := Ideal) A B = res A B := by
  funext i
  refine Eq.trans (val_main_v6_apply (F := Ideal) A B i) ?_
  show val_main_v5 (F := Ideal) A B i = _
  rw [val_main_v5_apply, val_main_v4_apply]
  show _ = ∑ d : Fin 4096, A (ix2 d (i 0)) * B (ix2 d (i 1))
  refine Finset.sum_congr rfl fun r _ => ?_
  refine (mul_comm (G := EReal) _ _).trans ?_
  refine congrArg₂ (· * ·) (congrArg A (eq_ix2 _)) (congrArg B (eq_ix2 _))

/-- The call runs, keeps its arguments and ends quiescent. -/
theorem frame_kernel : Cert.quiescent_Sdw := fun m ρ _ => Cert.Sdw.Gen.frame m ρ
/-- The same of its idealization. -/
theorem frame_ideal : Cert.quiescent_SdwIdeal := fun m ρ _ => Cert.SdwIdeal.Gen.frame m ρ
/-- The reference runs, keeps its arguments and has no semaphores. -/
theorem frame_ref : Cert.quiescent_SdwRefIdeal := fun m ρ _ =>
  (θ_run Cert.SdwRefIdeal.defs _ _).mono (fun r h => ⟨fun c => (h c).2, sem_eq_zero_of_no_sems (by decide) r.2⟩)
    (Cert.SdwRefIdeal.Value.run (F := Ideal) m ρ)

/-- The kernel and the derivative of the product compute the same gradient. -/
theorem value : Cert.algebraic_SdwIdeal_SdwRefIdeal := by
  intro m ρ m' ρ' _ hag
  refine ⟨fun c => res (argA m c) (argB m c), ?_, ?_⟩
  · exact (θ_run Cert.SdwIdeal.defs _ _).mono (fun r h c => ⟨(h c).1.trans (array m c), (h c).2⟩) (Cert.SdwIdeal.Value.run_blocks m ρ)
  · refine (θ_run Cert.SdwRefIdeal.defs _ _).mono (fun r h c => ?_) (Cert.SdwRefIdeal.Value.run (F := Ideal) m' ρ')
    obtain ⟨e0, e1⟩ := hag c
    refine ⟨(h c).1.trans ?_, (h c).2⟩
    refine (Cert.SdwRefIdeal.Read.val_main_v6_eq _ _).trans ?_
    rw [e0, e1]
    exact ref (argA m c) (argB m c)

end Cert.XSdw

end
-- ==== Proof.RowNorm.lean ====
/- The norm of a block of rows, whatever the rows are. -/
module

public import proofs.«01_k».proof.Proof.DownNorm
public import proofs.«01_k».proof.Proof.Products

@[expose] public section

noncomputable section

namespace Cert.XNorm

open Cert.FdownIdeal Cert.FdownIdeal.Gen Cert.XDown Cert.XProducts Idealize.ShloMosaic Idealize.ShloMosaic.ValueIdx

/-- The rows normed and weighted, as the kernel computes them from a block. -/
def normBlock (R : FVec Ideal S512x1024 .f32) (g : FVec Ideal S1x1024 .f32) : FVec Ideal S512x1024 .bf16 :=
  truncf .bf16 (mulf (mulf R (broadcastTo S512x1024 (rsqrt (addf (divf
    (shapeCast S512x1 (multiReduction .add [1] S512 (mulf R R) 0x00000000#32 reduces_S512x1024_S512 (.inl rfl) rfl) shapeCasts_S512_S512x1)
    (broadcast S512x1 (Scalar.ofBits (F := Ideal) .f32 0x44800000#32))) (broadcast S512x1 (Scalar.ofBits (F := Ideal) .f32 0x358637BD#32)))) broadcasts_S512x1_S512x1024))
    (broadcastTo S512x1024 g broadcasts_S1x1024_S512x1024)) bitsLt_bf16_f32

theorem norm_block (R : FVec Ideal S512x1024 .f32) (g : FVec Ideal S1x1024 .f32) (f : Fin 512 → Fin 1024 → EReal) (hR : ∀ r j, R (ix2 r j) = f r j)
    (r : Fin 512) (j : Fin 1024) : normBlock R g (ix2 r j) = f r j * scaleOf (f r) * g (ix2 0 j) := by
  unfold normBlock
  refine congrArg₂ (fun x y : EReal => x * y) (congrArg₂ (fun x y : EReal => x * y) (hR r j) ((spread_apply _ r j).trans ?_)) (weights_apply g r j)
  unfold scaleOf
  refine congrArg Ideal.rsqrt (congrArg (· + Ideal.ofBits .f32 0x358637BD#32) (congrArg (Ideal.div · (Ideal.ofBits .f32 0x44800000#32)) ?_))
  refine Eq.trans (rowSum_apply _ r) ?_
  exact Finset.sum_congr rfl fun d _ => congrArg₂ (fun x y : EReal => x * y) (hR r d) (hR r d)

/-- Row `r` of the block at point `t`, of eight blocks of 512 rows. -/
def rowOf (t : ℕ) (h : t < 8) (r : Fin 512) : Fin 4096 := ⟨512 * t + r.val, by omega⟩

/-- Every place lies in the block of its row. -/
theorem row_back (i : S4096x1024.Idx) (h : (i 0).val / 512 < 8) :
    (ix2 (rowOf ((i 0).val / 512) h ⟨(i 0).val % 512, Nat.mod_lt _ (by decide)⟩) (i 1) : S4096x1024.Idx) = i :=
  (ix2_ext i _ _ (div_back 512 (i 0).val).symm rfl).symm

/-- The rows' norms and weights over the whole array. -/
def normed (L : Fin 4096 → Fin 1024 → EReal) (G : FVec Ideal S1x1024 .f32) : FVec Ideal S4096x1024 .bf16 :=
  fun i => L (i 0) (i 1) * scaleOf (L (i 0)) * G (ix2 0 (i 1))

end Cert.XNorm

end
-- ==== Proof.OutNorms.lean ====
/- The products after attention and after the mixer, with their residuals and the next norm: the kernel's blocks and the reference. -/
module

public import proofs.«01_k».proof.Defs
public import proofs.«01_k».proof.Proof.Gen.So.Frame
public import proofs.«01_k».proof.Proof.Gen.SoIdeal.Value
public import proofs.«01_k».proof.Proof.Gen.SoRefIdeal.Read
public import proofs.«01_k».proof.Proof.Gen.To.Frame
public import proofs.«01_k».proof.Proof.Gen.ToIdeal.Value
public import proofs.«01_k».proof.Proof.Gen.ToRefIdeal.Read
public import proofs.«01_k».proof.Proof.Places
public import proofs.«01_k».proof.Proof.Products
public import proofs.«01_k».proof.Proof.RowNorm
public import Idealize.ShloMosaic.Lib.Quiescent

@[expose] public section

noncomputable section

namespace Cert.XSo

open Cert.SoIdeal Cert.SoIdeal.Gen Cert.XPlaces Cert.XProducts Cert.XNorm Cert.XDown Idealize.ShloMosaic Idealize.ShloMosaic.ValueIdx Idealize.SL.Sem

/-- The result at row `r` and column `j`: rows against columns, and the residual. -/
def layer (A : FVec Ideal S4096x1024 .bf16) (B : FVec Ideal S1024x1024 .bf16) (X : FVec Ideal S4096x1024 .f32) (r : Fin 4096) (j : Fin 1024) : EReal :=
  (∑ d : Fin 1024, A (ix2 r d) * B (ix2 d j)) + X (ix2 r j)
/-- The same of a block's rows. -/
def blockRow (a : FVec Ideal S512x1024 .bf16) (b : FVec Ideal S1024x1024 .bf16) (x : FVec Ideal S512x1024 .f32) (r : Fin 512) (j : Fin 1024) : EReal :=
  (∑ d : Fin 1024, a (ix2 r d) * b (ix2 d j)) + x (ix2 r j)

theorem lt8 (t : Fin cfg0.N) : t.val < 8 := t.isLt.trans_eq N_0

theorem sum_apply (a : FVec Ideal S512x1024 .bf16) (b : FVec Ideal S1024x1024 .bf16) (x : FVec Ideal S512x1024 .f32) (r : Fin 512) (j : Fin 1024) :
    k0_pay1 (F := Ideal) a b x (ix2 r j) = blockRow a b x r j :=
  congrArg (· + x (ix2 r j)) (sum_of dot_S512x1024_S1024x1024_S512x1024_1_0_0_1_n_n 1024 rfl rfl a b (ix2 r j) _ _ (fun d => ix2_ext _ r d rfl rfl) (fun d => ix2_ext _ d j rfl rfl))

theorem out4_apply (a : FVec Ideal S512x1024 .bf16) (b : FVec Ideal S1024x1024 .bf16) (x : FVec Ideal S512x1024 .f32) (g : FVec Ideal S1x1024 .f32) (y : S512x1024.Idx) :
    out0_4 (F := Ideal) a b x g y = blockRow a b x (y 0) (y 1) := by
  unfold out0_4
  rw [View.canon_unit_zero zero2]
  simp only [View.ld_unit_zero (S := S512x1024) zero2, View.ld_unit_zero (S := S1024x1024) zero2, View.ld_unit_zero (S := S512x1024) zero2, View.ld_unit_zero (S := S1x1024) zero2]
  exact (congrArg (k0_pay1 (F := Ideal) a b x) (eq_ix2 y)).trans (sum_apply a b x (y 0) (y 1))

theorem out5_apply (a : FVec Ideal S512x1024 .bf16) (b : FVec Ideal S1024x1024 .bf16) (x : FVec Ideal S512x1024 .f32) (g : FVec Ideal S1x1024 .f32) (y : S512x1024.Idx) :
    out0_5 (F := Ideal) a b x g y = blockRow a b x (y 0) (y 1) * scaleOf (blockRow a b x (y 0)) * g (ix2 0 (y 1)) := by
  unfold out0_5
  rw [View.canon_unit_zero zero2]
  simp only [View.ld_unit_zero (S := S512x1024) zero2, View.ld_unit_zero (S := S1024x1024) zero2, View.ld_unit_zero (S := S512x1024) zero2, View.ld_unit_zero (S := S1x1024) zero2]
  refine (congrArg (k0_pay2 (F := Ideal) a b x g) (eq_ix2 y)).trans ?_
  exact norm_block (k0_pay1 (F := Ideal) a b x) g (blockRow a b x) (sum_apply a b x) (y 0) (y 1)

variable (m : (ℓ : Loc nD τ sig) → Buf (Elt Ideal) ℓ)

abbrev argA (c : Dev nD) : FVec Ideal S4096x1024 .bf16 := m ((c.tc : Thread nD τ).loc main_arg0)
abbrev argB (c : Dev nD) : FVec Ideal S1024x1024 .bf16 := m ((c.tc : Thread nD τ).loc main_arg1)
abbrev argX (c : Dev nD) : FVec Ideal S4096x1024 .f32 := m ((c.tc : Thread nD τ).loc main_arg2)
abbrev argG (c : Dev nD) : FVec Ideal S1x1024 .f32 := m ((c.tc : Thread nD τ).loc main_arg3)
/-- The result's rows. -/
abbrev rows (c : Dev nD) : Fin 4096 → Fin 1024 → EReal := layer (argA m c) (argB m c) (argX m c)

theorem at0 : ∀ t : Fin grid0.N, win0_0.index t 0 * win0_0.size 0 = 512 * t.val ∧ win0_0.index t 1 * win0_0.size 1 = 0 := by decide +kernel
theorem at1 : ∀ t : Fin grid0.N, win0_1.index t 0 * win0_1.size 0 = 0 ∧ win0_1.index t 1 * win0_1.size 1 = 0 := by decide +kernel
theorem at2 : ∀ t : Fin grid0.N, win0_2.index t 0 * win0_2.size 0 = 512 * t.val ∧ win0_2.index t 1 * win0_2.size 1 = 0 := by decide +kernel
theorem at3 : ∀ t : Fin grid0.N, win0_3.index t 0 * win0_3.size 0 = 0 ∧ win0_3.index t 1 * win0_3.size 1 = 0 := by decide +kernel
theorem at4 : ∀ t : Fin grid0.N, win0_4.index t 0 * win0_4.size 0 = 512 * t.val ∧ win0_4.index t 1 * win0_4.size 1 = 0 := by decide +kernel
theorem at5 : ∀ t : Fin grid0.N, win0_5.index t 0 * win0_5.size 0 = 512 * t.val ∧ win0_5.index t 1 * win0_5.size 1 = 0 := by decide +kernel

theorem emb0 (t : Fin cfg0.N) (y : S512x1024.Idx) : (win0_0.rect t).emb y = ix2 (rowOf t.val (lt8 t) (y 0)) (y 1) :=
  ix2_ext _ _ _ ((win0_0.rect_emb_val t y 0).trans (congrArg (· + (y 0).val) (at0 t).1))
    ((win0_0.rect_emb_val t y 1).trans ((congrArg (· + (y 1).val) (at0 t).2).trans (Nat.zero_add _)))
theorem emb1 (t : Fin cfg0.N) (y : S1024x1024.Idx) : (win0_1.rect t).emb y = y :=
  (ix2_ext _ (y 0) (y 1) ((win0_1.rect_emb_val t y 0).trans ((congrArg (· + (y 0).val) (at1 t).1).trans (Nat.zero_add _)))
    ((win0_1.rect_emb_val t y 1).trans ((congrArg (· + (y 1).val) (at1 t).2).trans (Nat.zero_add _)))).trans (eq_ix2 y).symm
theorem emb2 (t : Fin cfg0.N) (y : S512x1024.Idx) : (win0_2.rect t).emb y = ix2 (rowOf t.val (lt8 t) (y 0)) (y 1) :=
  ix2_ext _ _ _ ((win0_2.rect_emb_val t y 0).trans (congrArg (· + (y 0).val) (at2 t).1))
    ((win0_2.rect_emb_val t y 1).trans ((congrArg (· + (y 1).val) (at2 t).2).trans (Nat.zero_add _)))
theorem emb3 (t : Fin cfg0.N) (y : S1x1024.Idx) : (win0_3.rect t).emb y = y :=
  (ix2_ext _ (y 0) (y 1) ((win0_3.rect_emb_val t y 0).trans ((congrArg (· + (y 0).val) (at3 t).1).trans (Nat.zero_add _)))
    ((win0_3.rect_emb_val t y 1).trans ((congrArg (· + (y 1).val) (at3 t).2).trans (Nat.zero_add _)))).trans (eq_ix2 y).symm
theorem emb4 (t : Fin cfg0.N) (y : S512x1024.Idx) : (win0_4.rect t).emb y = ix2 (rowOf t.val (lt8 t) (y 0)) (y 1) :=
  ix2_ext _ _ _ ((win0_4.rect_emb_val t y 0).trans (congrArg (· + (y 0).val) (at4 t).1))
    ((win0_4.rect_emb_val t y 1).trans ((congrArg (· + (y 1).val) (at4 t).2).trans (Nat.zero_add _)))
theorem emb5 (t : Fin cfg0.N) (y : S512x1024.Idx) : (win0_5.rect t).emb y = ix2 (rowOf t.val (lt8 t) (y 0)) (y 1) :=
  ix2_ext _ _ _ ((win0_5.rect_emb_val t y 0).trans (congrArg (· + (y 0).val) (at5 t).1))
    ((win0_5.rect_emb_val t y 1).trans ((congrArg (· + (y 1).val) (at5 t).2).trans (Nat.zero_add _)))

theorem iblk0_eq (c : Dev nD) (t : Fin cfg0.N) : iblk m c 0 t = fun y : S512x1024.Idx => argA m c (ix2 (rowOf t.val (lt8 t) (y 0)) (y 1)) := by
  funext y
  show V m c main_arg0 ((win0_0.rect t).emb y) = _
  rw [V_main_arg0, emb0]
  rfl
theorem iblk1_eq (c : Dev nD) (t : Fin cfg0.N) : iblk m c 1 t = argB m c := by
  funext y
  show V m c main_arg1 ((win0_1.rect t).emb y) = _
  rw [V_main_arg1, emb1]
theorem iblk2_eq (c : Dev nD) (t : Fin cfg0.N) : iblk m c 2 t = fun y : S512x1024.Idx => argX m c (ix2 (rowOf t.val (lt8 t) (y 0)) (y 1)) := by
  funext y
  show V m c main_arg2 ((win0_2.rect t).emb y) = _
  rw [V_main_arg2, emb2]
  rfl
theorem iblk3_eq (c : Dev nD) (t : Fin cfg0.N) : iblk m c 3 t = argG m c := by
  funext y
  show V m c main_arg3 ((win0_3.rect t).emb y) = _
  rw [V_main_arg3, emb3]

/-- The result. -/
def res (L : Fin 4096 → Fin 1024 → EReal) : FVec Ideal S4096x1024 .f32 := fun i => L (i 0) (i 1)

theorem array4 (c : Dev nD) : (dats m 0 c).arrAt 4 cfg0.N = res (rows m c) := by
  refine (dats m 0 c).arrAt_eq_of_cover 4 (res (rows m c)) (fun t hf => ?_) fun i => ?_
  · funext y
    refine (congrFun (Cert.SoIdeal.Value.flushed4 m c t) y).trans ((out4_apply _ _ _ _ y).trans ?_)
    show _ = res (rows m c) ((win0_4.rect t).emb y)
    rw [emb4, iblk0_eq, iblk1_eq, iblk2_eq]
    rfl
  · have h8 : (i 0).val / 512 < 8 := by have : (i 0).val < 4096 := (i 0).isLt; omega
    have ht : (i 0).val / 512 < cfg0.N := Nat.lt_of_lt_of_eq h8 N_0.symm
    refine ⟨⟨_, ht⟩, flush0_4 _, ?_⟩
    exact mem_of_emb ((cfg0.win 4).blk ⟨_, ht⟩).view (ix2 ⟨(i 0).val % 512, Nat.mod_lt _ (by decide)⟩ (i 1)) i ((emb4 ⟨_, ht⟩ _).trans (row_back i h8))

theorem array5 (c : Dev nD) : (dats m 0 c).arrAt 5 cfg0.N = normed (rows m c) (argG m c) := by
  refine (dats m 0 c).arrAt_eq_of_cover 5 (normed (rows m c) (argG m c)) (fun t hf => ?_) fun i => ?_
  · funext y
    refine (congrFun (Cert.SoIdeal.Value.flushed5 m c t) y).trans ((out5_apply _ _ _ _ y).trans ?_)
    show _ = normed (rows m c) (argG m c) ((win0_5.rect t).emb y)
    rw [emb5, iblk0_eq, iblk1_eq, iblk2_eq, iblk3_eq]
    rfl
  · have h8 : (i 0).val / 512 < 8 := by have : (i 0).val < 4096 := (i 0).isLt; omega
    have ht : (i 0).val / 512 < cfg0.N := Nat.lt_of_lt_of_eq h8 N_0.symm
    refine ⟨⟨_, ht⟩, flush0_5 _, ?_⟩
    exact mem_of_emb ((cfg0.win 5).blk ⟨_, ht⟩).view (ix2 ⟨(i 0).val % 512, Nat.mod_lt _ (by decide)⟩ (i 1)) i ((emb5 ⟨_, ht⟩ _).trans (row_back i h8))

section Ref
open Cert.SoRefIdeal.Read

variable (A : FVec Ideal S4096x1024 .bf16) (B : FVec Ideal S1024x1024 .bf16) (X : FVec Ideal S4096x1024 .f32) (G : FVec Ideal S1x1024 .f32)

theorem ref3_apply (r : Fin 4096) (j : Fin 1024) : val_main_v3 (F := Ideal) A B X (ix2 r j) = layer A B X r j := by
  refine Eq.trans (congrArg (X (ix2 r j) + ·) (val_main_v2_apply A B (ix2 r j))) ?_
  refine Eq.trans (add_comm (G := EReal) _ _) (congrArg (· + X (ix2 r j)) ?_)
  exact Finset.sum_congr rfl fun d _ => congrArg₂ (fun x y : EReal => x * y) (congrArg A (eq_ix2 _)) (congrArg B (eq_ix2 _))

theorem ref11_apply (r : Fin 4096) : val_main_v11 (F := Ideal) A B X (ix2 r 0) = scaleOf (layer A B X r) := by
  unfold scaleOf
  refine congrArg Ideal.rsqrt (congrArg₂ (· + ·) (congrArg₂ Ideal.div ?_ (val_main_v7_apply (F := Ideal) _)) (val_main_v9_apply (F := Ideal) _))
  refine Eq.trans (val_main_v6_apply (F := Ideal) A B X (ix2 r 0)) (Eq.trans (val_main_v5_apply A B X _) ?_)
  refine Eq.trans (congrArg (· + _) Ideal.ofBits_zero_f32) (Eq.trans (zero_add _) ?_)
  refine Finset.sum_congr rfl fun d _ => ?_
  have e : val_main_v3 (F := Ideal) A B X (idx_main_v5 (idx_main_v6 (ix2 r 0)) d) = layer A B X r d :=
    Eq.trans (congrArg (val_main_v3 (F := Ideal) A B X) (eq_ix2 _)) (ref3_apply A B X r d)
  exact congrArg₂ (· * ·) e e

theorem ref3 : val_main_v3 (F := Ideal) A B X = res (layer A B X) := by
  funext i
  exact Eq.trans (congrArg (val_main_v3 (F := Ideal) A B X) (eq_ix2 i)) (ref3_apply A B X (i 0) (i 1))

theorem ref16 : val_main_v16 (F := Ideal) A B X G = normed (layer A B X) G := by
  funext i
  refine congrArg₂ (fun x y : EReal => x * y) (congrArg₂ (fun x y : EReal => x * y) ?_ ?_) ?_
  · exact congrFun (ref3 A B X) i
  · exact Eq.trans (val_main_v12_apply (F := Ideal) A B X i) (Eq.trans (congrArg (val_main_v11 (F := Ideal) A B X) (eq_ix2 _)) (ref11_apply A B X (i 0)))
  · exact Eq.trans (val_main_v14_apply (F := Ideal) G i) (congrArg G (eq_ix2 _))

end Ref

/-- The call runs, keeps its arguments and ends quiescent. -/
theorem frame_kernel : Cert.quiescent_So := fun m ρ _ => Cert.So.Gen.frame m ρ
/-- The same of its idealization. -/
theorem frame_ideal : Cert.quiescent_SoIdeal := fun m ρ _ => Cert.SoIdeal.Gen.frame m ρ
/-- The reference runs, keeps its arguments and has no semaphores. -/
theorem frame_ref : Cert.quiescent_SoRefIdeal := fun m ρ _ =>
  (θ_run Cert.SoRefIdeal.defs _ _).mono (fun r h => ⟨fun c => (h c).2.2, sem_eq_zero_of_no_sems (by decide) r.2⟩)
    (Cert.SoRefIdeal.Value.run (F := Ideal) m ρ)

/-- The kernel and the reference compute the same result and the same normed rows. -/
theorem value : Cert.algebraic_SoIdeal_SoRefIdeal := by
  intro m ρ m' ρ' _ hag
  refine ⟨fun c => res (rows m c), fun c => normed (rows m c) (argG m c), ?_, ?_⟩
  · exact (θ_run Cert.SoIdeal.defs _ _).mono (fun r h c => ⟨(h c).1.trans (array4 m c), (h c).2.1.trans (array5 m c), (h c).2.2⟩)
      (Cert.SoIdeal.Value.run_blocks m ρ)
  · refine (θ_run Cert.SoRefIdeal.defs _ _).mono (fun r h c => ?_) (Cert.SoRefIdeal.Value.run (F := Ideal) m' ρ')
    obtain ⟨e0, e1, e2, e3⟩ := hag c
    refine ⟨(h c).1.trans ?_, (h c).2.1.trans ?_, (h c).2.2⟩
    · refine (Cert.SoRefIdeal.Read.val_main_v3_eq _ _ _).trans ?_
      rw [e0, e1, e2]
      exact ref3 (argA m c) (argB m c) (argX m c)
    · refine (Cert.SoRefIdeal.Read.val_main_v16_eq _ _ _ _).trans ?_
      rw [e0, e1, e2, e3]
      exact ref16 (argA m c) (argB m c) (argX m c) (argG m c)

end Cert.XSo

namespace Cert.XTo

open Cert.ToIdeal Cert.ToIdeal.Gen Cert.XPlaces Cert.XProducts Cert.XNorm Cert.XDown Idealize.ShloMosaic Idealize.ShloMosaic.ValueIdx Idealize.SL.Sem

/-- The result at row `r` and column `j`: rows against columns, and the residual. -/
def layer (A : FVec Ideal S4096x1536 .bf16) (B : FVec Ideal S1536x1024 .bf16) (X : FVec Ideal S4096x1024 .f32) (r : Fin 4096) (j : Fin 1024) : EReal :=
  (∑ d : Fin 1536, A (ix2 r d) * B (ix2 d j)) + X (ix2 r j)
/-- The same of a block's rows. -/
def blockRow (a : FVec Ideal S512x1536 .bf16) (b : FVec Ideal S1536x1024 .bf16) (x : FVec Ideal S512x1024 .f32) (r : Fin 512) (j : Fin 1024) : EReal :=
  (∑ d : Fin 1536, a (ix2 r d) * b (ix2 d j)) + x (ix2 r j)

theorem lt8 (t : Fin cfg0.N) : t.val < 8 := t.isLt.trans_eq N_0

theorem sum_apply (a : FVec Ideal S512x1536 .bf16) (b : FVec Ideal S1536x1024 .bf16) (x : FVec Ideal S512x1024 .f32) (r : Fin 512) (j : Fin 1024) :
    k0_pay1 (F := Ideal) a b x (ix2 r j) = blockRow a b x r j :=
  congrArg (· + x (ix2 r j)) (sum_of dot_S512x1536_S1536x1024_S512x1024_1_0_0_1_n_n 1536 rfl rfl a b (ix2 r j) _ _ (fun d => ix2_ext _ r d rfl rfl) (fun d => ix2_ext _ d j rfl rfl))

theorem out4_apply (a : FVec Ideal S512x1536 .bf16) (b : FVec Ideal S1536x1024 .bf16) (x : FVec Ideal S512x1024 .f32) (g : FVec Ideal S1x1024 .f32) (y : S512x1024.Idx) :
    out0_4 (F := Ideal) a b x g y = blockRow a b x (y 0) (y 1) := by
  unfold out0_4
  rw [View.canon_unit_zero zero2]
  simp only [View.ld_unit_zero (S := S512x1536) zero2, View.ld_unit_zero (S := S1536x1024) zero2, View.ld_unit_zero (S := S512x1024) zero2, View.ld_unit_zero (S := S1x1024) zero2]
  exact (congrArg (k0_pay1 (F := Ideal) a b x) (eq_ix2 y)).trans (sum_apply a b x (y 0) (y 1))

theorem out5_apply (a : FVec Ideal S512x1536 .bf16) (b : FVec Ideal S1536x1024 .bf16) (x : FVec Ideal S512x1024 .f32) (g : FVec Ideal S1x1024 .f32) (y : S512x1024.Idx) :
    out0_5 (F := Ideal) a b x g y = blockRow a b x (y 0) (y 1) * scaleOf (blockRow a b x (y 0)) * g (ix2 0 (y 1)) := by
  unfold out0_5
  rw [View.canon_unit_zero zero2]
  simp only [View.ld_unit_zero (S := S512x1536) zero2, View.ld_unit_zero (S := S1536x1024) zero2, View.ld_unit_zero (S := S512x1024) zero2, View.ld_unit_zero (S := S1x1024) zero2]
  refine (congrArg (k0_pay2 (F := Ideal) a b x g) (eq_ix2 y)).trans ?_
  exact norm_block (k0_pay1 (F := Ideal) a b x) g (blockRow a b x) (sum_apply a b x) (y 0) (y 1)

variable (m : (ℓ : Loc nD τ sig) → Buf (Elt Ideal) ℓ)

abbrev argA (c : Dev nD) : FVec Ideal S4096x1536 .bf16 := m ((c.tc : Thread nD τ).loc main_arg0)
abbrev argB (c : Dev nD) : FVec Ideal S1536x1024 .bf16 := m ((c.tc : Thread nD τ).loc main_arg1)
abbrev argX (c : Dev nD) : FVec Ideal S4096x1024 .f32 := m ((c.tc : Thread nD τ).loc main_arg2)
abbrev argG (c : Dev nD) : FVec Ideal S1x1024 .f32 := m ((c.tc : Thread nD τ).loc main_arg3)
/-- The result's rows. -/
abbrev rows (c : Dev nD) : Fin 4096 → Fin 1024 → EReal := layer (argA m c) (argB m c) (argX m c)

theorem at0 : ∀ t : Fin grid0.N, win0_0.index t 0 * win0_0.size 0 = 512 * t.val ∧ win0_0.index t 1 * win0_0.size 1 = 0 := by decide +kernel
theorem at1 : ∀ t : Fin grid0.N, win0_1.index t 0 * win0_1.size 0 = 0 ∧ win0_1.index t 1 * win0_1.size 1 = 0 := by decide +kernel
theorem at2 : ∀ t : Fin grid0.N, win0_2.index t 0 * win0_2.size 0 = 512 * t.val ∧ win0_2.index t 1 * win0_2.size 1 = 0 := by decide +kernel
theorem at3 : ∀ t : Fin grid0.N, win0_3.index t 0 * win0_3.size 0 = 0 ∧ win0_3.index t 1 * win0_3.size 1 = 0 := by decide +kernel
theorem at4 : ∀ t : Fin grid0.N, win0_4.index t 0 * win0_4.size 0 = 512 * t.val ∧ win0_4.index t 1 * win0_4.size 1 = 0 := by decide +kernel
theorem at5 : ∀ t : Fin grid0.N, win0_5.index t 0 * win0_5.size 0 = 512 * t.val ∧ win0_5.index t 1 * win0_5.size 1 = 0 := by decide +kernel

theorem emb0 (t : Fin cfg0.N) (y : S512x1536.Idx) : (win0_0.rect t).emb y = ix2 (rowOf t.val (lt8 t) (y 0)) (y 1) :=
  ix2_ext _ _ _ ((win0_0.rect_emb_val t y 0).trans (congrArg (· + (y 0).val) (at0 t).1))
    ((win0_0.rect_emb_val t y 1).trans ((congrArg (· + (y 1).val) (at0 t).2).trans (Nat.zero_add _)))
theorem emb1 (t : Fin cfg0.N) (y : S1536x1024.Idx) : (win0_1.rect t).emb y = y :=
  (ix2_ext _ (y 0) (y 1) ((win0_1.rect_emb_val t y 0).trans ((congrArg (· + (y 0).val) (at1 t).1).trans (Nat.zero_add _)))
    ((win0_1.rect_emb_val t y 1).trans ((congrArg (· + (y 1).val) (at1 t).2).trans (Nat.zero_add _)))).trans (eq_ix2 y).symm
theorem emb2 (t : Fin cfg0.N) (y : S512x1024.Idx) : (win0_2.rect t).emb y = ix2 (rowOf t.val (lt8 t) (y 0)) (y 1) :=
  ix2_ext _ _ _ ((win0_2.rect_emb_val t y 0).trans (congrArg (· + (y 0).val) (at2 t).1))
    ((win0_2.rect_emb_val t y 1).trans ((congrArg (· + (y 1).val) (at2 t).2).trans (Nat.zero_add _)))
theorem emb3 (t : Fin cfg0.N) (y : S1x1024.Idx) : (win0_3.rect t).emb y = y :=
  (ix2_ext _ (y 0) (y 1) ((win0_3.rect_emb_val t y 0).trans ((congrArg (· + (y 0).val) (at3 t).1).trans (Nat.zero_add _)))
    ((win0_3.rect_emb_val t y 1).trans ((congrArg (· + (y 1).val) (at3 t).2).trans (Nat.zero_add _)))).trans (eq_ix2 y).symm
theorem emb4 (t : Fin cfg0.N) (y : S512x1024.Idx) : (win0_4.rect t).emb y = ix2 (rowOf t.val (lt8 t) (y 0)) (y 1) :=
  ix2_ext _ _ _ ((win0_4.rect_emb_val t y 0).trans (congrArg (· + (y 0).val) (at4 t).1))
    ((win0_4.rect_emb_val t y 1).trans ((congrArg (· + (y 1).val) (at4 t).2).trans (Nat.zero_add _)))
theorem emb5 (t : Fin cfg0.N) (y : S512x1024.Idx) : (win0_5.rect t).emb y = ix2 (rowOf t.val (lt8 t) (y 0)) (y 1) :=
  ix2_ext _ _ _ ((win0_5.rect_emb_val t y 0).trans (congrArg (· + (y 0).val) (at5 t).1))
    ((win0_5.rect_emb_val t y 1).trans ((congrArg (· + (y 1).val) (at5 t).2).trans (Nat.zero_add _)))

theorem iblk0_eq (c : Dev nD) (t : Fin cfg0.N) : iblk m c 0 t = fun y : S512x1536.Idx => argA m c (ix2 (rowOf t.val (lt8 t) (y 0)) (y 1)) := by
  funext y
  show V m c main_arg0 ((win0_0.rect t).emb y) = _
  rw [V_main_arg0, emb0]
  rfl
theorem iblk1_eq (c : Dev nD) (t : Fin cfg0.N) : iblk m c 1 t = argB m c := by
  funext y
  show V m c main_arg1 ((win0_1.rect t).emb y) = _
  rw [V_main_arg1, emb1]
theorem iblk2_eq (c : Dev nD) (t : Fin cfg0.N) : iblk m c 2 t = fun y : S512x1024.Idx => argX m c (ix2 (rowOf t.val (lt8 t) (y 0)) (y 1)) := by
  funext y
  show V m c main_arg2 ((win0_2.rect t).emb y) = _
  rw [V_main_arg2, emb2]
  rfl
theorem iblk3_eq (c : Dev nD) (t : Fin cfg0.N) : iblk m c 3 t = argG m c := by
  funext y
  show V m c main_arg3 ((win0_3.rect t).emb y) = _
  rw [V_main_arg3, emb3]

/-- The result. -/
def res (L : Fin 4096 → Fin 1024 → EReal) : FVec Ideal S4096x1024 .f32 := fun i => L (i 0) (i 1)

theorem array4 (c : Dev nD) : (dats m 0 c).arrAt 4 cfg0.N = res (rows m c) := by
  refine (dats m 0 c).arrAt_eq_of_cover 4 (res (rows m c)) (fun t hf => ?_) fun i => ?_
  · funext y
    refine (congrFun (Cert.ToIdeal.Value.flushed4 m c t) y).trans ((out4_apply _ _ _ _ y).trans ?_)
    show _ = res (rows m c) ((win0_4.rect t).emb y)
    rw [emb4, iblk0_eq, iblk1_eq, iblk2_eq]
    rfl
  · have h8 : (i 0).val / 512 < 8 := by have : (i 0).val < 4096 := (i 0).isLt; omega
    have ht : (i 0).val / 512 < cfg0.N := Nat.lt_of_lt_of_eq h8 N_0.symm
    refine ⟨⟨_, ht⟩, flush0_4 _, ?_⟩
    exact mem_of_emb ((cfg0.win 4).blk ⟨_, ht⟩).view (ix2 ⟨(i 0).val % 512, Nat.mod_lt _ (by decide)⟩ (i 1)) i ((emb4 ⟨_, ht⟩ _).trans (row_back i h8))

theorem array5 (c : Dev nD) : (dats m 0 c).arrAt 5 cfg0.N = normed (rows m c) (argG m c) := by
  refine (dats m 0 c).arrAt_eq_of_cover 5 (normed (rows m c) (argG m c)) (fun t hf => ?_) fun i => ?_
  · funext y
    refine (congrFun (Cert.ToIdeal.Value.flushed5 m c t) y).trans ((out5_apply _ _ _ _ y).trans ?_)
    show _ = normed (rows m c) (argG m c) ((win0_5.rect t).emb y)
    rw [emb5, iblk0_eq, iblk1_eq, iblk2_eq, iblk3_eq]
    rfl
  · have h8 : (i 0).val / 512 < 8 := by have : (i 0).val < 4096 := (i 0).isLt; omega
    have ht : (i 0).val / 512 < cfg0.N := Nat.lt_of_lt_of_eq h8 N_0.symm
    refine ⟨⟨_, ht⟩, flush0_5 _, ?_⟩
    exact mem_of_emb ((cfg0.win 5).blk ⟨_, ht⟩).view (ix2 ⟨(i 0).val % 512, Nat.mod_lt _ (by decide)⟩ (i 1)) i ((emb5 ⟨_, ht⟩ _).trans (row_back i h8))

section Ref
open Cert.ToRefIdeal.Read

variable (A : FVec Ideal S4096x1536 .bf16) (B : FVec Ideal S1536x1024 .bf16) (X : FVec Ideal S4096x1024 .f32) (G : FVec Ideal S1x1024 .f32)

theorem ref3_apply (r : Fin 4096) (j : Fin 1024) : val_main_v3 (F := Ideal) A B X (ix2 r j) = layer A B X r j := by
  refine Eq.trans (congrArg (X (ix2 r j) + ·) (val_main_v2_apply A B (ix2 r j))) ?_
  refine Eq.trans (add_comm (G := EReal) _ _) (congrArg (· + X (ix2 r j)) ?_)
  exact Finset.sum_congr rfl fun d _ => congrArg₂ (fun x y : EReal => x * y) (congrArg A (eq_ix2 _)) (congrArg B (eq_ix2 _))

theorem ref11_apply (r : Fin 4096) : val_main_v11 (F := Ideal) A B X (ix2 r 0) = scaleOf (layer A B X r) := by
  unfold scaleOf
  refine congrArg Ideal.rsqrt (congrArg₂ (· + ·) (congrArg₂ Ideal.div ?_ (val_main_v7_apply (F := Ideal) _)) (val_main_v9_apply (F := Ideal) _))
  refine Eq.trans (val_main_v6_apply (F := Ideal) A B X (ix2 r 0)) (Eq.trans (val_main_v5_apply A B X _) ?_)
  refine Eq.trans (congrArg (· + _) Ideal.ofBits_zero_f32) (Eq.trans (zero_add _) ?_)
  refine Finset.sum_congr rfl fun d _ => ?_
  have e : val_main_v3 (F := Ideal) A B X (idx_main_v5 (idx_main_v6 (ix2 r 0)) d) = layer A B X r d :=
    Eq.trans (congrArg (val_main_v3 (F := Ideal) A B X) (eq_ix2 _)) (ref3_apply A B X r d)
  exact congrArg₂ (· * ·) e e

theorem ref3 : val_main_v3 (F := Ideal) A B X = res (layer A B X) := by
  funext i
  exact Eq.trans (congrArg (val_main_v3 (F := Ideal) A B X) (eq_ix2 i)) (ref3_apply A B X (i 0) (i 1))

theorem ref16 : val_main_v16 (F := Ideal) A B X G = normed (layer A B X) G := by
  funext i
  refine congrArg₂ (fun x y : EReal => x * y) (congrArg₂ (fun x y : EReal => x * y) ?_ ?_) ?_
  · exact congrFun (ref3 A B X) i
  · exact Eq.trans (val_main_v12_apply (F := Ideal) A B X i) (Eq.trans (congrArg (val_main_v11 (F := Ideal) A B X) (eq_ix2 _)) (ref11_apply A B X (i 0)))
  · exact Eq.trans (val_main_v14_apply (F := Ideal) G i) (congrArg G (eq_ix2 _))

end Ref

/-- The call runs, keeps its arguments and ends quiescent. -/
theorem frame_kernel : Cert.quiescent_To := fun m ρ _ => Cert.To.Gen.frame m ρ
/-- The same of its idealization. -/
theorem frame_ideal : Cert.quiescent_ToIdeal := fun m ρ _ => Cert.ToIdeal.Gen.frame m ρ
/-- The reference runs, keeps its arguments and has no semaphores. -/
theorem frame_ref : Cert.quiescent_ToRefIdeal := fun m ρ _ =>
  (θ_run Cert.ToRefIdeal.defs _ _).mono (fun r h => ⟨fun c => (h c).2.2, sem_eq_zero_of_no_sems (by decide) r.2⟩)
    (Cert.ToRefIdeal.Value.run (F := Ideal) m ρ)

/-- The kernel and the reference compute the same result and the same normed rows. -/
theorem value : Cert.algebraic_ToIdeal_ToRefIdeal := by
  intro m ρ m' ρ' _ hag
  refine ⟨fun c => res (rows m c), fun c => normed (rows m c) (argG m c), ?_, ?_⟩
  · exact (θ_run Cert.ToIdeal.defs _ _).mono (fun r h c => ⟨(h c).1.trans (array4 m c), (h c).2.1.trans (array5 m c), (h c).2.2⟩)
      (Cert.ToIdeal.Value.run_blocks m ρ)
  · refine (θ_run Cert.ToRefIdeal.defs _ _).mono (fun r h c => ?_) (Cert.ToRefIdeal.Value.run (F := Ideal) m' ρ')
    obtain ⟨e0, e1, e2, e3⟩ := hag c
    refine ⟨(h c).1.trans ?_, (h c).2.1.trans ?_, (h c).2.2⟩
    · refine (Cert.ToRefIdeal.Read.val_main_v3_eq _ _ _).trans ?_
      rw [e0, e1, e2]
      exact ref3 (argA m c) (argB m c) (argX m c)
    · refine (Cert.ToRefIdeal.Read.val_main_v16_eq _ _ _ _).trans ?_
      rw [e0, e1, e2, e3]
      exact ref16 (argA m c) (argB m c) (argX m c) (argG m c)

end Cert.XTo

end
-- ==== Proof.MixerGrad.lean ====
/- The gradient of the mixer's last weights: the kernel's running sums over blocks of rows and the derivative of the product. -/
module

public import proofs.«01_k».proof.Defs
public import proofs.«01_k».proof.Proof.Gen.Tdw.Frame
public import proofs.«01_k».proof.Proof.Gen.TdwIdeal.Value
public import proofs.«01_k».proof.Proof.Gen.TdwRefIdeal.Read
public import proofs.«01_k».proof.Proof.DownGrad
public import proofs.«01_k».proof.Proof.Places
public import proofs.«01_k».proof.Proof.Products
public import Idealize.ShloMosaic.Lib.Quiescent

@[expose] public section

noncomputable section

namespace Cert.XTdw

open Cert.TdwIdeal Cert.TdwIdeal.Gen Cert.XPlaces Cert.XProducts Idealize.ShloMosaic Idealize.ShloMosaic.ValueIdx Idealize.SL.Sem

/-- The weights' gradient at row `r` and column `j`: columns against columns. -/
def grad (A : FVec Ideal S4096x1536 .bf16) (B : FVec Ideal S4096x1024 .bf16) (r : Fin 1536) (j : Fin 1024) : EReal :=
  ∑ d : Fin 4096, A (ix2 d r) * B (ix2 d j)

theorem lt4 (t : Fin cfg0.N) : t.val < 4 := t.isLt.trans_eq N_0
/-- The row of the product's block at the point. -/
def rowAt (t : Fin cfg0.N) (r : Fin 768) : Fin 1536 := ⟨768 * (t.val / 2) + r.val, by have := lt4 t; omega⟩
/-- What one block of rows gives to the product. -/
def half (a : FVec Ideal S2048x768 .bf16) (b : FVec Ideal S2048x1024 .bf16) (y : S768x1024.Idx) : EReal := ∑ d : Fin 2048, a (ix2 d (y 0)) * b (ix2 d (y 1))

theorem zero_apply (y : S768x1024.Idx) : k0_pay1 (F := Ideal) y = 0 := by
  unfold k0_pay1
  rw [shapeCast_self]
  exact Ideal.ofBits_zero_f32
theorem add_apply (x : FVec Ideal S768x1024 .f32) (a : FVec Ideal S2048x768 .bf16) (b : FVec Ideal S2048x1024 .bf16) (y : S768x1024.Idx) :
    k0_pay2 (F := Ideal) x a b y = x y + half a b y := by
  unfold k0_pay2
  rw [shapeCast_self]
  exact congrArg (x y + ·) (sum_of dot_S2048x768_S2048x1024_S768x1024_0_0_1_1_n_n 2048 rfl rfl a b y _ _
    (fun d => ix2_ext _ d (y 0) rfl rfl) (fun d => ix2_ext _ d (y 1) rfl rfl))

variable (m : (ℓ : Loc nD τ sig) → Buf (Elt Ideal) ℓ)

/-- The first point of a block of the product leaves the first half's sum. -/
theorem first (c : Dev nD) (t : Fin cfg0.N) (h0 : t.val % 2 = 0) (h1 : ¬t.val % 2 = 1) (y : S768x1024.Idx) :
    (outsAt0 m c t.val t.isLt).2 y = half (iblk m c 0 t) (iblk m c 1 t) y := by
  rw [outsAt0_A m c t h0 h1]
  dsimp only
  unfold sout0_A_0
  rw [View.read_writes_eq_canon _ _ _ (by intro y; apply scover0_A_0)]
  unfold kernelRun0_A
  dsimp only
  sl_unfold_words
  rw [View.canon_cons_unit_zero (S := S768x1024) zero2, View.readCov_unit_zero (S := S768x1024) _ zero2]
  simp only [View.readAt_eq_ld, (hs0_0 t).read_unread, (hs0_1 t).read_unread, View.ld_unit_zero (S := S2048x768) zero2, View.ld_unit_zero (S := S2048x1024) zero2, View.ld_unit_zero (S := S768x1024) zero2]
  rw [add_apply, zero_apply, zero_add]

/-- The second point writes the sum of both halves. -/
theorem second (c : Dev nD) (t : Fin cfg0.N) (h0 : ¬t.val % 2 = 0) (h1 : t.val % 2 = 1) (y : S768x1024.Idx) :
    (outsAt0 m c t.val t.isLt).1 y = (outsAt0 m c (t.val - 1) (Nat.lt_of_le_of_lt (Nat.sub_le _ _) t.isLt)).2 y
      + half (iblk m c 0 t) (iblk m c 1 t) y := by
  rw [outsAt0_B m c t h0 h1]
  dsimp only
  unfold out0_B_2
  rw [View.read_writes_eq_canon _ _ _ (by intro y; apply cover0_B_2)]
  unfold kernelRun0_B
  dsimp only
  sl_unfold_words
  rw [View.canon_cons_unit_zero (S := S768x1024) zero2, View.readCov_unit_zero (S := S768x1024) _ zero2]
  simp only [View.readAt_eq_ld, (hs0_0 t).read_unread, (hs0_1 t).read_unread, (Memref.isWhole_whole _).read_unread, View.ld_unit_zero (S := S2048x768) zero2, View.ld_unit_zero (S := S2048x1024) zero2, View.ld_unit_zero (S := S768x1024) zero2]
  exact add_apply _ _ _ y

abbrev argA (c : Dev nD) : FVec Ideal S4096x1536 .bf16 := m ((c.tc : Thread nD τ).loc main_arg0)
abbrev argB (c : Dev nD) : FVec Ideal S4096x1024 .bf16 := m ((c.tc : Thread nD τ).loc main_arg1)

theorem at0 : ∀ t : Fin grid0.N, win0_0.index t 0 * win0_0.size 0 = 2048 * (t.val % 2) ∧ win0_0.index t 1 * win0_0.size 1 = 768 * (t.val / 2) := by decide +kernel
theorem at1 : ∀ t : Fin grid0.N, win0_1.index t 0 * win0_1.size 0 = 2048 * (t.val % 2) ∧ win0_1.index t 1 * win0_1.size 1 = 0 := by decide +kernel
theorem at2 : ∀ t : Fin grid0.N, win0_2.index t 0 * win0_2.size 0 = 768 * (t.val / 2) ∧ win0_2.index t 1 * win0_2.size 1 = 0 := by decide +kernel

theorem emb0 (t : Fin cfg0.N) (k : Fin 2) (hk : t.val % 2 = k.val) (y : S2048x768.Idx) : (win0_0.rect t).emb y = ix2 (XWdown.sumAt k (y 0)) (rowAt t (y 1)) := by
  funext a
  refine Fin.ext ((win0_0.rect_emb_val t y a).trans ?_)
  match a with
  | ⟨0, _⟩ => exact congrArg (· + (y 0).val) ((at0 t).1.trans (congrArg (2048 * ·) hk))
  | ⟨1, _⟩ => exact congrArg (· + (y 1).val) (at0 t).2
theorem emb1 (t : Fin cfg0.N) (k : Fin 2) (hk : t.val % 2 = k.val) (y : S2048x1024.Idx) : (win0_1.rect t).emb y = ix2 (XWdown.sumAt k (y 0)) (y 1) := by
  funext a
  refine Fin.ext ((win0_1.rect_emb_val t y a).trans ?_)
  match a with
  | ⟨0, _⟩ => exact congrArg (· + (y 0).val) ((at1 t).1.trans (congrArg (2048 * ·) hk))
  | ⟨1, _⟩ => exact (congrArg (· + (y 1).val) (at1 t).2).trans (Nat.zero_add _)
theorem emb2 (t : Fin cfg0.N) (y : S768x1024.Idx) : (win0_2.rect t).emb y = ix2 (rowAt t (y 0)) (y 1) := by
  funext a
  refine Fin.ext ((win0_2.rect_emb_val t y a).trans ?_)
  match a with
  | ⟨0, _⟩ => exact congrArg (· + (y 0).val) (at2 t).1
  | ⟨1, _⟩ => exact (congrArg (· + (y 1).val) (at2 t).2).trans (Nat.zero_add _)

theorem iblk0_eq (c : Dev nD) (t : Fin cfg0.N) (k : Fin 2) (hk : t.val % 2 = k.val) :
    iblk m c 0 t = fun y : S2048x768.Idx => argA m c (ix2 (XWdown.sumAt k (y 0)) (rowAt t (y 1))) := by
  funext y
  show V m c main_arg0 ((win0_0.rect t).emb y) = _
  rw [V_main_arg0, emb0 t k hk]
theorem iblk1_eq (c : Dev nD) (t : Fin cfg0.N) (k : Fin 2) (hk : t.val % 2 = k.val) :
    iblk m c 1 t = fun y : S2048x1024.Idx => argB m c (ix2 (XWdown.sumAt k (y 0)) (y 1)) := by
  funext y
  show V m c main_arg1 ((win0_1.rect t).emb y) = _
  rw [V_main_arg1, emb1 t k hk]
  rfl

theorem first_arg (c : Dev nD) (t : Fin cfg0.N) (h0 : t.val % 2 = 0) (y : S768x1024.Idx) :
    (outsAt0 m c t.val t.isLt).2 y = ∑ d : Fin 2048, argA m c (ix2 (XWdown.sumAt 0 d) (rowAt t (y 0))) * argB m c (ix2 (XWdown.sumAt 0 d) (y 1)) := by
  refine (first m c t h0 (by omega) y).trans ?_
  rw [iblk0_eq m c t 0 h0, iblk1_eq m c t 0 h0]
  unfold half
  rfl

theorem second_arg (c : Dev nD) (t : Fin cfg0.N) (h1 : t.val % 2 = 1) (y : S768x1024.Idx) :
    (outsAt0 m c t.val t.isLt).1 y = grad (argA m c) (argB m c) (rowAt t (y 0)) (y 1) := by
  refine (second m c t (by omega) h1 y).trans ((congrArg₂ (· + ·) ?_ ?_).trans (XWdown.sum_halves _).symm)
  · have hp : t.val - 1 < cfg0.N := Nat.lt_of_le_of_lt (Nat.sub_le _ _) t.isLt
    refine (first_arg m c ⟨t.val - 1, hp⟩ (by show (t.val - 1) % 2 = 0; omega) y).trans ?_
    have hr : rowAt ⟨t.val - 1, hp⟩ (y 0) = rowAt t (y 0) := Fin.ext (by show 768 * ((t.val - 1) / 2) + _ = 768 * (t.val / 2) + _; have : (t.val - 1) / 2 = t.val / 2 := (by omega); rw [this])
    rw [hr]
  · rw [iblk0_eq m c t 1 h1, iblk1_eq m c t 1 h1]
    rfl

/-- The weights' gradient. -/
def res (A : FVec Ideal S4096x1536 .bf16) (B : FVec Ideal S4096x1024 .bf16) : FVec Ideal S1536x1024 .bf16 := fun i => grad A B (i 0) (i 1)

theorem array (c : Dev nD) : (dats m 0 c).arrAt 2 cfg0.N = res (argA m c) (argB m c) := by
  refine (dats m 0 c).arrAt_eq_of_cover 2 (res (argA m c) (argB m c)) (fun t hf => ?_) fun i => ?_
  · funext y
    refine (congrFun (Cert.TdwIdeal.Value.flushed2 m c t) y).trans ((second_arg m c t ((flush0_2 t).mp hf) y).trans ?_)
    show _ = res (argA m c) (argB m c) ((win0_2.rect t).emb y)
    rw [emb2]
    rfl
  · have h0 : (i 0).val < 1536 := (i 0).isLt
    have ht : ((i 0).val / 768) * 2 + 1 < cfg0.N := Nat.lt_of_lt_of_eq (by omega) N_0.symm
    refine ⟨⟨_, ht⟩, (flush0_2 _).mpr (by show (((i 0).val / 768) * 2 + 1) % 2 = 1; omega), ?_⟩
    refine mem_of_emb ((cfg0.win 2).blk ⟨_, ht⟩).view (ix2 ⟨(i 0).val % 768, Nat.mod_lt _ (by decide)⟩ (i 1)) i ?_
    refine (emb2 ⟨_, ht⟩ (ix2 ⟨(i 0).val % 768, Nat.mod_lt _ (by decide)⟩ (i 1))).trans ?_
    funext a
    match a with
    | ⟨0, _⟩ => exact Fin.ext (by show 768 * ((((i 0).val / 768) * 2 + 1) / 2) + (i 0).val % 768 = (i 0).val; omega)
    | ⟨1, _⟩ => rfl

open Cert.TdwRefIdeal.Read in
/-- The reference's product. -/
theorem ref (A : FVec Ideal S4096x1536 .bf16) (B : FVec Ideal S4096x1024 .bf16) : val_main_v6 (F := Ideal) A B = res A B := by
  funext i
  refine Eq.trans (val_main_v6_apply (F := Ideal) A B i) ?_
  show val_main_v5 (F := Ideal) A B i = _
  rw [val_main_v5_apply, val_main_v4_apply]
  show _ = ∑ d : Fin 4096, A (ix2 d (i 0)) * B (ix2 d (i 1))
  refine Finset.sum_congr rfl fun r _ => ?_
  refine (mul_comm (G := EReal) _ _).trans ?_
  refine congrArg₂ (· * ·) (congrArg A (eq_ix2 _)) (congrArg B (eq_ix2 _))

/-- The call runs, keeps its arguments and ends quiescent. -/
theorem frame_kernel : Cert.quiescent_Tdw := fun m ρ _ => Cert.Tdw.Gen.frame m ρ
/-- The same of its idealization. -/
theorem frame_ideal : Cert.quiescent_TdwIdeal := fun m ρ _ => Cert.TdwIdeal.Gen.frame m ρ
/-- The reference runs, keeps its arguments and has no semaphores. -/
theorem frame_ref : Cert.quiescent_TdwRefIdeal := fun m ρ _ =>
  (θ_run Cert.TdwRefIdeal.defs _ _).mono (fun r h => ⟨fun c => (h c).2, sem_eq_zero_of_no_sems (by decide) r.2⟩)
    (Cert.TdwRefIdeal.Value.run (F := Ideal) m ρ)

/-- The kernel and the derivative of the product compute the same gradient. -/
theorem value : Cert.algebraic_TdwIdeal_TdwRefIdeal := by
  intro m ρ m' ρ' _ hag
  refine ⟨fun c => res (argA m c) (argB m c), ?_, ?_⟩
  · exact (θ_run Cert.TdwIdeal.defs _ _).mono (fun r h c => ⟨(h c).1.trans (array m c), (h c).2⟩) (Cert.TdwIdeal.Value.run_blocks m ρ)
  · refine (θ_run Cert.TdwRefIdeal.defs _ _).mono (fun r h c => ?_) (Cert.TdwRefIdeal.Value.run (F := Ideal) m' ρ')
    obtain ⟨e0, e1⟩ := hag c
    refine ⟨(h c).1.trans ?_, (h c).2⟩
    refine (Cert.TdwRefIdeal.Read.val_main_v6_eq _ _).trans ?_
    rw [e0, e1]
    exact ref (argA m c) (argB m c)

end Cert.XTdw

end
-- ==== Proof.ConvProducts.lean ====
/- The convolution's first product with its bias, and the gradient of its weights: blocks of columns kept in slots, and the reference. -/
module

public import proofs.«01_k».proof.Defs
public import proofs.«01_k».proof.Proof.Gen.Cup.Frame
public import proofs.«01_k».proof.Proof.Gen.CupIdeal.Value
public import proofs.«01_k».proof.Proof.Gen.CupRefIdeal.Read
public import proofs.«01_k».proof.Proof.Gen.Cdw.Frame
public import proofs.«01_k».proof.Proof.Gen.CdwIdeal.Value
public import proofs.«01_k».proof.Proof.Gen.CdwRefIdeal.Read
public import proofs.«01_k».proof.Proof.Places
public import proofs.«01_k».proof.Proof.Products
public import Idealize.ShloMosaic.Lib.Quiescent

@[expose] public section

noncomputable section

namespace Cert.XConv

open Idealize.ShloMosaic

/-- The column at place `j` of the block the slot `b` holds: the slots go through the even blocks of columns, then the odd ones. -/
def colOf (b : Fin 8) (j : Fin 256) : Fin 2048 := ⟨256 * ((b.val % 4) * 2 + b.val / 4) + j.val, by omega⟩
/-- The slot of the column's block. -/
def slotOf (j : Fin 2048) : Fin 8 := ⟨(j.val / 256 % 2) * 4 + j.val / 256 / 2, by omega⟩
/-- The column's place in its block. -/
def placeOf (j : Fin 2048) : Fin 256 := ⟨j.val % 256, Nat.mod_lt _ (by decide)⟩

/-- A place of the whole array, split into row, pair of blocks, block of the pair and column. -/
theorem split_blocks (k j : ℕ) (hk : k < 1024) (hj : j < 2048) :
    (k * 2048 + j) / 2048 = k ∧ (k * 2048 + j) / 512 % 4 = j / 256 / 2 ∧ (k * 2048 + j) / 256 % 2 = j / 256 % 2 ∧ (k * 2048 + j) % 256 = j % 256 := by
  refine ⟨?_, ?_, ?_, ?_⟩ <;> omega

/-- A place among the slots from the block of the pair, the pair, the row and the column. -/
theorem join_slots (q p k j : ℕ) (hq : q < 2) (hp : p < 4) (hk : k < 1024) (hj : j < 256) :
    (((q * 4 + p) * 1024 + k) * 256 + j) / 262144 = q * 4 + p ∧ (((q * 4 + p) * 1024 + k) * 256 + j) / 256 % 1024 = k
      ∧ (((q * 4 + p) * 1024 + k) * 256 + j) % 256 = j := by
  refine ⟨?_, ?_, ?_⟩ <;> omega

/-- A place among the slots, split. -/
theorem split_slots (b c j : ℕ) (hb : b < 8) (hc : c < 1024) (hj : j < 256) :
    ((b * 1024 + c) * 256 + j) / 1048576 = b / 4 ∧ ((b * 1024 + c) * 256 + j) / 262144 % 4 = b % 4
      ∧ ((b * 1024 + c) * 256 + j) / 256 % 1024 = c ∧ ((b * 1024 + c) * 256 + j) % 256 = j := by
  refine ⟨?_, ?_, ?_, ?_⟩ <;> omega

/-- A place of the whole array from the row, the pair of blocks, the block of the pair and the column. -/
theorem join_blocks (c p q j : ℕ) (hp : p < 4) (hq : q < 2) (hj : j < 256) :
    (((c * 4 + p) * 2 + q) * 256 + j) / 2048 = c ∧ (((c * 4 + p) * 2 + q) * 256 + j) % 2048 = 256 * (p * 2 + q) + j := by
  refine ⟨?_, ?_⟩ <;> omega

end Cert.XConv

namespace Cert.XCup

open Cert.CupIdeal Cert.CupIdeal.Gen Cert.XPlaces Cert.XConv Cert.XProducts Idealize.ShloMosaic Idealize.ShloMosaic.ValueIdx Idealize.SL.Sem

/-- The product at row `r` and column `j`: the columns lie in slots, and the bias is added. -/
def value_at (A : FVec Ideal S4096x1024 .bf16) (B : FVec Ideal S8x1024x256 .bf16) (C : FVec Ideal S1x2048 .f32) (r : Fin 4096) (j : Fin 2048) : EReal :=
  (∑ d : Fin 1024, A (ix2 r d) * B (ix3 (XConv.slotOf j) d (XConv.placeOf j))) + C (ix2 0 j)

theorem lt16 (t : Fin cfg0.N) : t.val < 16 := t.isLt.trans_eq N_0
/-- The row of the point's block. -/
def rowAt (t : Fin cfg0.N) (r : Fin 2048) : Fin 4096 := ⟨2048 * (t.val / 8) + r.val, by have := lt16 t; omega⟩
/-- The column of the point's block. -/
def colAt (t : Fin cfg0.N) (j : Fin 256) : Fin 2048 := ⟨256 * (t.val % 8) + j.val, by omega⟩

theorem slotOf_colAt (t : Fin cfg0.N) (j : Fin 256) : (XConv.slotOf (colAt t j)).val = (t.val % 8 % 2) * 4 + t.val % 8 / 2 := by
  simp only [XConv.slotOf, colAt]; omega
theorem placeOf_colAt (t : Fin cfg0.N) (j : Fin 256) : XConv.placeOf (colAt t j) = j := Fin.ext (by simp only [XConv.placeOf, colAt]; omega)

/-- What a point stores. -/
theorem out_apply (a : FVec Ideal S2048x1024 .bf16) (b : FVec Ideal S1x1024x256 .bf16) (v : FVec Ideal S1x256 .f32) (y : S2048x256.Idx) :
    out0_3 (F := Ideal) a b v y = (∑ d : Fin 1024, a (ix2 (y 0) d) * b (ix3 0 d (y 1))) + v (ix2 0 (y 1)) := by
  unfold out0_3
  rw [View.canon_unit_zero zero2, View.ld_unit_zero zero2, View.ld_unit_zero zero3, View.ld_unit_zero zero2]
  refine congrArg₂ (fun p q : EReal => p + q) ((sum_of dot_S2048x1024_S1024x256_S2048x256_1_0_0_1_n_n 1024 rfl rfl a _ y _ _
    (fun d => ix2_ext _ (y 0) d rfl rfl) (fun d => ix2_ext _ d (y 1) rfl rfl)).trans ?_) ?_
  · refine Finset.sum_congr rfl fun d _ => congrArg (fun z : EReal => a (ix2 (y 0) d) * z) ?_
    refine shapeCast_apply b shapeCasts_S1x1024x256_S1024x256 (ix2 d (y 1)) (ix3 0 d (y 1)) ?_
    rw [Shape.rowMajor_val_two, Shape.rowMajor_val_three]
    show (0 * 1024 + d.val) * 256 + (y 1).val = d.val * 256 + (y 1).val
    rw [Nat.zero_mul, Nat.zero_add]
  · exact broadcastTo_apply _ _ y (ix2 0 (y 1)) (fun a => match a with
      | ⟨0, _⟩ => rfl
      | ⟨1, _⟩ => rfl)

variable (m : (ℓ : Loc nD τ sig) → Buf (Elt Ideal) ℓ)

abbrev argA (c : Dev nD) : FVec Ideal S4096x1024 .bf16 := m ((c.tc : Thread nD τ).loc main_arg0)
abbrev argB (c : Dev nD) : FVec Ideal S8x1024x256 .bf16 := m ((c.tc : Thread nD τ).loc main_arg1)
abbrev argC (c : Dev nD) : FVec Ideal S1x2048 .f32 := m ((c.tc : Thread nD τ).loc main_arg2)

theorem at0 : ∀ t : Fin grid0.N, win0_0.index t 0 * win0_0.size 0 = 2048 * (t.val / 8) ∧ win0_0.index t 1 * win0_0.size 1 = 0 := by decide +kernel
theorem at1 : ∀ t : Fin grid0.N, win0_1.index t 0 * win0_1.size 0 = (t.val % 8 % 2) * 4 + t.val % 8 / 2 ∧ win0_1.index t 1 * win0_1.size 1 = 0
    ∧ win0_1.index t 2 * win0_1.size 2 = 0 := by decide +kernel
theorem at2 : ∀ t : Fin grid0.N, win0_2.index t 0 * win0_2.size 0 = 0 ∧ win0_2.index t 1 * win0_2.size 1 = 256 * (t.val % 8) := by decide +kernel
theorem at3 : ∀ t : Fin grid0.N, win0_3.index t 0 * win0_3.size 0 = 2048 * (t.val / 8) ∧ win0_3.index t 1 * win0_3.size 1 = 256 * (t.val % 8) := by decide +kernel

theorem emb0 (t : Fin cfg0.N) (y : S2048x1024.Idx) : (win0_0.rect t).emb y = ix2 (rowAt t (y 0)) (y 1) := by
  funext a
  refine Fin.ext ((win0_0.rect_emb_val t y a).trans ?_)
  match a with
  | ⟨0, _⟩ => exact congrArg (· + (y 0).val) (at0 t).1
  | ⟨1, _⟩ => exact (congrArg (· + (y 1).val) (at0 t).2).trans (Nat.zero_add _)
theorem emb1 (t : Fin cfg0.N) (y : S1x1024x256.Idx) (j : Fin 256) : (win0_1.rect t).emb y = ix3 (XConv.slotOf (colAt t j)) (y 1) (y 2) := by
  have h0 : (y 0).val = 0 := Nat.lt_one_iff.mp (y 0).isLt
  funext a
  refine Fin.ext ((win0_1.rect_emb_val t y a).trans ?_)
  match a with
  | ⟨0, _⟩ => exact (congrArg₂ (· + ·) (at1 t).1 h0).trans ((Nat.add_zero _).trans (slotOf_colAt t j).symm)
  | ⟨1, _⟩ => exact (congrArg (· + (y 1).val) (at1 t).2.1).trans (Nat.zero_add _)
  | ⟨2, _⟩ => exact (congrArg (· + (y 2).val) (at1 t).2.2).trans (Nat.zero_add _)
theorem emb2 (t : Fin cfg0.N) (y : S1x256.Idx) : (win0_2.rect t).emb y = ix2 (y 0) (colAt t (y 1)) :=
  ix2_ext _ _ _ ((win0_2.rect_emb_val t y 0).trans ((congrArg (· + (y 0).val) (at2 t).1).trans (Nat.zero_add _)))
    ((win0_2.rect_emb_val t y 1).trans (congrArg (· + (y 1).val) (at2 t).2))
theorem emb3 (t : Fin cfg0.N) (y : S2048x256.Idx) : (win0_3.rect t).emb y = ix2 (rowAt t (y 0)) (colAt t (y 1)) := by
  funext a
  refine Fin.ext ((win0_3.rect_emb_val t y a).trans ?_)
  match a with
  | ⟨0, _⟩ => exact congrArg (· + (y 0).val) (at3 t).1
  | ⟨1, _⟩ => exact congrArg (· + (y 1).val) (at3 t).2

theorem iblk0_eq (c : Dev nD) (t : Fin cfg0.N) : iblk m c 0 t = fun y : S2048x1024.Idx => argA m c (ix2 (rowAt t (y 0)) (y 1)) := by
  funext y
  show V m c main_arg0 ((win0_0.rect t).emb y) = _
  rw [V_main_arg0, emb0]
  rfl
theorem iblk1_eq (c : Dev nD) (t : Fin cfg0.N) (j : Fin 256) :
    iblk m c 1 t = fun y : S1x1024x256.Idx => argB m c (ix3 (XConv.slotOf (colAt t j)) (y 1) (y 2)) := by
  funext y
  show V m c main_arg1 ((win0_1.rect t).emb y) = _
  rw [V_main_arg1, emb1 t y j]
  rfl

theorem iblk2_eq (c : Dev nD) (t : Fin cfg0.N) : iblk m c 2 t = fun y : S1x256.Idx => argC m c (ix2 (y 0) (colAt t (y 1))) := by
  funext y
  show V m c main_arg2 ((win0_2.rect t).emb y) = _
  rw [V_main_arg2, emb2]
  rfl

/-- The product. -/
def res (A : FVec Ideal S4096x1024 .bf16) (B : FVec Ideal S8x1024x256 .bf16) (C : FVec Ideal S1x2048 .f32) : FVec Ideal S4096x2048 .bf16 := fun i => value_at A B C (i 0) (i 1)

theorem res_block (A : FVec Ideal S4096x1024 .bf16) (B : FVec Ideal S8x1024x256 .bf16) (C : FVec Ideal S1x2048 .f32) (t : Fin cfg0.N) (r : Fin 2048) (j : Fin 256) :
    (∑ d : Fin 1024, A (ix2 (rowAt t r) d) * B (ix3 (XConv.slotOf (colAt t j)) d j)) + C (ix2 0 (colAt t j)) = res A B C (ix2 (rowAt t r) (colAt t j)) := by
  show _ = (∑ d : Fin 1024, A (ix2 (rowAt t r) d) * B (ix3 (XConv.slotOf (colAt t j)) d (XConv.placeOf (colAt t j)))) + C (ix2 0 (colAt t j))
  rw [placeOf_colAt]

theorem array (c : Dev nD) : (dats m 0 c).arrAt 3 cfg0.N = res (argA m c) (argB m c) (argC m c) := by
  refine (dats m 0 c).arrAt_eq_of_cover 3 (res (argA m c) (argB m c) (argC m c)) (fun t hf => ?_) fun i => ?_
  · funext y
    refine (congrFun (Cert.CupIdeal.Value.flushed3 m c t) y).trans ((out_apply _ _ _ y).trans ?_)
    show _ = res (argA m c) (argB m c) (argC m c) ((win0_3.rect t).emb y)
    rw [emb3, iblk0_eq, iblk1_eq m c t (y 1), iblk2_eq]
    exact res_block (argA m c) (argB m c) (argC m c) t (y 0) (y 1)
  · have h0 : (i 0).val < 4096 := (i 0).isLt
    have h1 : (i 1).val < 2048 := (i 1).isLt
    have ht : ((i 0).val / 2048) * 8 + (i 1).val / 256 < cfg0.N := Nat.lt_of_lt_of_eq (by omega) N_0.symm
    refine ⟨⟨_, ht⟩, flush0_3 _, ?_⟩
    refine mem_of_emb ((cfg0.win 3).blk ⟨_, ht⟩).view (ix2 ⟨(i 0).val % 2048, Nat.mod_lt _ (by decide)⟩ ⟨(i 1).val % 256, Nat.mod_lt _ (by decide)⟩) i ?_
    refine (emb3 ⟨_, ht⟩ (ix2 ⟨(i 0).val % 2048, Nat.mod_lt _ (by decide)⟩ ⟨(i 1).val % 256, Nat.mod_lt _ (by decide)⟩)).trans ?_
    funext a
    match a with
    | ⟨0, _⟩ => exact Fin.ext (by show 2048 * ((((i 0).val / 2048) * 8 + (i 1).val / 256) / 8) + (i 0).val % 2048 = (i 0).val; omega)
    | ⟨1, _⟩ => exact Fin.ext (by show 256 * ((((i 0).val / 2048) * 8 + (i 1).val / 256) % 8) + (i 1).val % 256 = (i 1).val; omega)

open Cert.CupRefIdeal.Read in
theorem idx4 (i : Cert.CupRefIdeal.S1024x2048.Idx) : idx_main_v4 i = ix4 (i 0) ⟨(i 1).val / 256 / 2, by have : (i 1).val < 2048 := (i 1).isLt; omega⟩
    ⟨(i 1).val / 256 % 2, Nat.mod_lt _ (by decide)⟩ (XConv.placeOf (i 1)) := by
  obtain ⟨e0, e1, e2, e3⟩ := split_blocks (i 0).val (i 1).val (i 0).isLt (i 1).isLt
  funext a
  match a with
  | ⟨0, _⟩ => exact Fin.ext e0
  | ⟨1, _⟩ => exact Fin.ext e1
  | ⟨2, _⟩ => exact Fin.ext e2
  | ⟨3, _⟩ => exact Fin.ext e3

open Cert.CupRefIdeal.Read in
theorem idx32 (k : Fin 1024) (p : Fin 4) (q : Fin 2) (j : Fin 256) :
    idx_main_v2 (idx_main_v3 (ix4 k p q j)) = ix3 ⟨q.val * 4 + p.val, by omega⟩ k j := by
  obtain ⟨e0, e1, e2⟩ := join_slots q.val p.val k.val j.val q.isLt p.isLt k.isLt j.isLt
  funext a
  match a with
  | ⟨0, _⟩ => exact Fin.ext e0
  | ⟨1, _⟩ => exact Fin.ext e1
  | ⟨2, _⟩ => exact Fin.ext e2

open Cert.CupRefIdeal.Read in
theorem idx432 (i : Cert.CupRefIdeal.S1024x2048.Idx) : idx_main_v2 (idx_main_v3 (idx_main_v4 i)) = ix3 (n0 := 8) (n1 := 1024) (n2 := 256) (XConv.slotOf (i 1)) (i 0) (XConv.placeOf (i 1)) :=
  (congrArg (fun z => idx_main_v2 (idx_main_v3 z)) (idx4 i)).trans (idx32 _ _ _ _)

open Cert.CupRefIdeal.Read in
/-- The reference's product and bias. -/
theorem ref (A : FVec Ideal S4096x1024 .bf16) (B : FVec Ideal S8x1024x256 .bf16) (C : FVec Ideal S1x2048 .f32) : val_main_v8 (F := Ideal) A B C = res A B C := by
  funext i
  refine congrArg₂ (fun p q : EReal => p + q) ((val_main_v5_apply A B i).trans ?_) ((val_main_v6_apply (F := Ideal) C i).trans (congrArg C (eq_ix2 _)))
  show _ = ∑ d : Fin 1024, A (ix2 (i 0) d) * B (ix3 (XConv.slotOf (i 1)) d (XConv.placeOf (i 1)))
  refine Finset.sum_congr rfl fun r _ => ?_
  refine congrArg₂ (· * ·) (congrArg A (eq_ix2 _)) ?_
  rw [val_main_v4_apply, val_main_v3_apply, val_main_v2_apply]
  exact congrArg B (idx432 _)

/-- The call runs, keeps its arguments and ends quiescent. -/
theorem frame_kernel : Cert.quiescent_Cup := fun m ρ _ => Cert.Cup.Gen.frame m ρ
/-- The same of its idealization. -/
theorem frame_ideal : Cert.quiescent_CupIdeal := fun m ρ _ => Cert.CupIdeal.Gen.frame m ρ
/-- The reference runs, keeps its arguments and has no semaphores. -/
theorem frame_ref : Cert.quiescent_CupRefIdeal := fun m ρ _ =>
  (θ_run Cert.CupRefIdeal.defs _ _).mono (fun r h => ⟨fun c => (h c).2, sem_eq_zero_of_no_sems (by decide) r.2⟩)
    (Cert.CupRefIdeal.Value.run (F := Ideal) m ρ)

/-- The kernel and the reference compute the same product. -/
theorem value : Cert.algebraic_CupIdeal_CupRefIdeal := by
  intro m ρ m' ρ' _ hag
  refine ⟨fun c => res (argA m c) (argB m c) (argC m c), ?_, ?_⟩
  · exact (θ_run Cert.CupIdeal.defs _ _).mono (fun r h c => ⟨(h c).1.trans (array m c), (h c).2⟩) (Cert.CupIdeal.Value.run_blocks m ρ)
  · refine (θ_run Cert.CupRefIdeal.defs _ _).mono (fun r h c => ?_) (Cert.CupRefIdeal.Value.run (F := Ideal) m' ρ')
    obtain ⟨e0, e1, e2⟩ := hag c
    refine ⟨(h c).1.trans ?_, (h c).2⟩
    refine (Cert.CupRefIdeal.Read.val_main_v8_eq _ _ _).trans ?_
    rw [e0, e1, e2]
    exact ref (argA m c) (argB m c) (argC m c)

end Cert.XCup

namespace Cert.XCdw

open Cert.CdwIdeal Cert.CdwIdeal.Gen Cert.XPlaces Cert.XConv Cert.XProducts Idealize.ShloMosaic Idealize.ShloMosaic.ValueIdx Idealize.SL.Sem

/-- The weights' gradient at row `c` and column `j`. -/
def grad (N : FVec Ideal S4096x1024 .bf16) (D : FVec Ideal S4096x2048 .bf16) (c : Fin 1024) (j : Fin 2048) : EReal :=
  ∑ r : Fin 4096, N (ix2 r c) * D (ix2 r j)

/-- The slot of the grid's point. -/
def slotAt (t : Fin cfg0.N) : Fin 8 := ⟨(t.val % 2) * 4 + t.val / 2, by have : t.val < 8 := t.isLt.trans_eq N_0; omega⟩

/-- The column of the point's block. -/
def colAt (t : Fin cfg0.N) (j : Fin 256) : Fin 2048 := ⟨256 * t.val + j.val, by have : t.val < 8 := t.isLt.trans_eq N_0; omega⟩

theorem colOf_slotAt (t : Fin cfg0.N) (j : Fin 256) : XConv.colOf (slotAt t) j = colAt t j :=
  Fin.ext (by have : t.val < 8 := t.isLt.trans_eq N_0; simp only [XConv.colOf, slotAt, colAt]; omega)

/-- What a point stores. -/
theorem out_apply (a : FVec Ideal S4096x1024 .bf16) (b : FVec Ideal S4096x256 .bf16) (y : S1x1024x256.Idx) :
    out0_2 (F := Ideal) a b y = ∑ r : Fin 4096, a (ix2 r (y 1)) * b (ix2 r (y 2)) := by
  unfold out0_2
  rw [View.canon_unit_zero zero3, View.ld_unit_zero zero2, View.ld_unit_zero zero2]
  unfold k0_pay1
  refine Eq.trans (shapeCast_apply _ shapeCasts_S1024x256_S1x1024x256 y (ix2 (y 1) (y 2)) ?_) (sum_of dot_S4096x1024_S4096x256_S1024x256_0_0_1_1_n_n 4096 rfl rfl a b _ _ _
    (fun d => ix2_ext _ d (y 1) rfl rfl) (fun d => ix2_ext _ d (y 2) rfl rfl))
  have h0 : (y 0).val = 0 := Nat.lt_one_iff.mp (y 0).isLt
  rw [Shape.rowMajor_val_two, Shape.rowMajor_val_three]
  show (y 1).val * 256 + (y 2).val = ((y 0).val * 1024 + (y 1).val) * 256 + (y 2).val
  rw [h0, Nat.zero_mul, Nat.zero_add]

variable (m : (ℓ : Loc nD τ sig) → Buf (Elt Ideal) ℓ)

abbrev argN (c : Dev nD) : FVec Ideal S4096x1024 .bf16 := m ((c.tc : Thread nD τ).loc main_arg0)
abbrev argD (c : Dev nD) : FVec Ideal S4096x2048 .bf16 := m ((c.tc : Thread nD τ).loc main_arg1)

theorem at0 : ∀ t : Fin grid0.N, win0_0.index t 0 * win0_0.size 0 = 0 ∧ win0_0.index t 1 * win0_0.size 1 = 0 := by decide +kernel
theorem at1 : ∀ t : Fin grid0.N, win0_1.index t 0 * win0_1.size 0 = 0 ∧ win0_1.index t 1 * win0_1.size 1 = 256 * t.val := by decide +kernel
theorem at2 : ∀ t : Fin grid0.N, win0_2.index t 0 * win0_2.size 0 = (t.val % 2) * 4 + t.val / 2 ∧ win0_2.index t 1 * win0_2.size 1 = 0
    ∧ win0_2.index t 2 * win0_2.size 2 = 0 := by decide +kernel

theorem emb0 (t : Fin cfg0.N) (y : S4096x1024.Idx) : (win0_0.rect t).emb y = y := by
  funext a
  refine Fin.ext ((win0_0.rect_emb_val t y a).trans ?_)
  match a with
  | ⟨0, _⟩ => exact (congrArg (· + (y 0).val) (at0 t).1).trans (Nat.zero_add _)
  | ⟨1, _⟩ => exact (congrArg (· + (y 1).val) (at0 t).2).trans (Nat.zero_add _)
theorem emb1 (t : Fin cfg0.N) (y : S4096x256.Idx) : (win0_1.rect t).emb y = ix2 (y 0) (colAt t (y 1)) := by
  funext a
  refine Fin.ext ((win0_1.rect_emb_val t y a).trans ?_)
  match a with
  | ⟨0, _⟩ => exact (congrArg (· + (y 0).val) (at1 t).1).trans (Nat.zero_add _)
  | ⟨1, _⟩ => exact congrArg (· + (y 1).val) (at1 t).2
theorem emb2 (t : Fin cfg0.N) (y : S1x1024x256.Idx) : (win0_2.rect t).emb y = ix3 (slotAt t) (y 1) (y 2) := by
  have h0 : (y 0).val = 0 := Nat.lt_one_iff.mp (y 0).isLt
  funext a
  refine Fin.ext ((win0_2.rect_emb_val t y a).trans ?_)
  match a with
  | ⟨0, _⟩ => exact (congrArg₂ (· + ·) (at2 t).1 h0).trans (Nat.add_zero _)
  | ⟨1, _⟩ => exact (congrArg (· + (y 1).val) (at2 t).2.1).trans (Nat.zero_add _)
  | ⟨2, _⟩ => exact (congrArg (· + (y 2).val) (at2 t).2.2).trans (Nat.zero_add _)

theorem iblk0_eq (c : Dev nD) (t : Fin cfg0.N) : iblk m c 0 t = argN m c := by
  funext y
  show V m c main_arg0 ((win0_0.rect t).emb y) = _
  rw [V_main_arg0, emb0]
theorem iblk1_eq (c : Dev nD) (t : Fin cfg0.N) : iblk m c 1 t = fun y : S4096x256.Idx => argD m c (ix2 (y 0) (colAt t (y 1))) := by
  funext y
  show V m c main_arg1 ((win0_1.rect t).emb y) = _
  rw [V_main_arg1, emb1]
  rfl

/-- The weights' gradient, by slots. -/
def res (N : FVec Ideal S4096x1024 .bf16) (D : FVec Ideal S4096x2048 .bf16) : FVec Ideal S8x1024x256 .bf16 :=
  fun i => grad N D (i 1) (XConv.colOf (i 0) (i 2))

theorem res_slot (N : FVec Ideal S4096x1024 .bf16) (D : FVec Ideal S4096x2048 .bf16) (t : Fin cfg0.N) (r : Fin 1024) (j : Fin 256) :
    grad N D r (colAt t j) = res N D (ix3 (slotAt t) r j) := by
  rw [← colOf_slotAt]
  rfl

theorem array (c : Dev nD) : (dats m 0 c).arrAt 2 cfg0.N = res (argN m c) (argD m c) := by
  refine (dats m 0 c).arrAt_eq_of_cover 2 (res (argN m c) (argD m c)) (fun t hf => ?_) fun i => ?_
  · funext y
    refine (congrFun (Cert.CdwIdeal.Value.flushed2 m c t) y).trans ((out_apply _ _ y).trans ?_)
    show _ = res (argN m c) (argD m c) ((win0_2.rect t).emb y)
    rw [emb2, iblk0_eq, iblk1_eq]
    exact res_slot (argN m c) (argD m c) t (y 1) (y 2)
  · have h0 : (i 0).val < 8 := (i 0).isLt
    have ht : ((i 0).val % 4) * 2 + (i 0).val / 4 < cfg0.N := Nat.lt_of_lt_of_eq (by omega) N_0.symm
    refine ⟨⟨_, ht⟩, flush0_2 _, ?_⟩
    refine mem_of_emb ((cfg0.win 2).blk ⟨_, ht⟩).view (ix3 0 (i 1) (i 2)) i ?_
    refine (emb2 ⟨_, ht⟩ (ix3 0 (i 1) (i 2))).trans ?_
    funext a
    match a with
    | ⟨0, _⟩ => exact Fin.ext (by show (((i 0).val % 4) * 2 + (i 0).val / 4) % 2 * 4 + (((i 0).val % 4) * 2 + (i 0).val / 4) / 2 = (i 0).val; omega)
    | ⟨1, _⟩ => rfl
    | ⟨2, _⟩ => rfl

open Cert.CdwRefIdeal.Read in
theorem idx8 (i : S8x1024x256.Idx) : idx_main_v8 i = ix4 ⟨(i 0).val / 4, by have : (i 0).val < 8 := (i 0).isLt; omega⟩
    ⟨(i 0).val % 4, Nat.mod_lt _ (by decide)⟩ (i 1) (i 2) := by
  obtain ⟨e0, e1, e2, e3⟩ := split_slots (i 0).val (i 1).val (i 2).val (i 0).isLt (i 1).isLt (i 2).isLt
  funext a
  match a with
  | ⟨0, _⟩ => exact Fin.ext e0
  | ⟨1, _⟩ => exact Fin.ext e1
  | ⟨2, _⟩ => exact Fin.ext e2
  | ⟨3, _⟩ => exact Fin.ext e3

open Cert.CdwRefIdeal.Read in
theorem idx67 (q : Fin 2) (p : Fin 4) (c : Fin 1024) (j : Fin 256) :
    idx_main_v6 (idx_main_v7 (ix4 q p c j)) = ix2 c ⟨256 * (p.val * 2 + q.val) + j.val, by omega⟩ := by
  obtain ⟨e0, e1⟩ := join_blocks c.val p.val q.val j.val p.isLt q.isLt j.isLt
  funext a
  match a with
  | ⟨0, _⟩ => exact Fin.ext e0
  | ⟨1, _⟩ => exact Fin.ext e1

open Cert.CdwRefIdeal.Read in
theorem idx678 (i : S8x1024x256.Idx) : idx_main_v6 (idx_main_v7 (idx_main_v8 i)) = ix2 (n0 := 1024) (n1 := 2048) (i 1) (XConv.colOf (i 0) (i 2)) :=
  (congrArg (fun z => idx_main_v6 (idx_main_v7 z)) (idx8 i)).trans (idx67 _ _ _ _)

open Cert.CdwRefIdeal.Read in
/-- The reference's product, laid out by slots. -/
theorem ref (N : FVec Ideal S4096x1024 .bf16) (D : FVec Ideal S4096x2048 .bf16) : val_main_v9 (F := Ideal) N D = res N D := by
  funext i
  refine Eq.trans (val_main_v9_apply (F := Ideal) N D i) ?_
  show val_main_v8 (F := Ideal) N D i = _
  rw [val_main_v8_apply, val_main_v7_apply, val_main_v6_apply, idx678, val_main_v5_apply, val_main_v4_apply]
  show _ = ∑ r : Fin 4096, N (ix2 r (i 1)) * D (ix2 r (XConv.colOf (i 0) (i 2)))
  refine Finset.sum_congr rfl fun r _ => ?_
  refine (mul_comm (G := EReal) _ _).trans ?_
  refine congrArg₂ (· * ·) (congrArg N (eq_ix2 _)) (congrArg D (eq_ix2 _))

/-- The call runs, keeps its arguments and ends quiescent. -/
theorem frame_kernel : Cert.quiescent_Cdw := fun m ρ _ => Cert.Cdw.Gen.frame m ρ
/-- The same of its idealization. -/
theorem frame_ideal : Cert.quiescent_CdwIdeal := fun m ρ _ => Cert.CdwIdeal.Gen.frame m ρ
/-- The reference runs, keeps its arguments and has no semaphores. -/
theorem frame_ref : Cert.quiescent_CdwRefIdeal := fun m ρ _ =>
  (θ_run Cert.CdwRefIdeal.defs _ _).mono (fun r h => ⟨fun c => (h c).2, sem_eq_zero_of_no_sems (by decide) r.2⟩)
    (Cert.CdwRefIdeal.Value.run (F := Ideal) m ρ)

/-- The kernel and the derivative of the product compute the same gradient. -/
theorem value : Cert.algebraic_CdwIdeal_CdwRefIdeal := by
  intro m ρ m' ρ' _ hag
  refine ⟨fun c => res (argN m c) (argD m c), ?_, ?_⟩
  · exact (θ_run Cert.CdwIdeal.defs _ _).mono (fun r h c => ⟨(h c).1.trans (array m c), (h c).2⟩) (Cert.CdwIdeal.Value.run_blocks m ρ)
  · refine (θ_run Cert.CdwRefIdeal.defs _ _).mono (fun r h c => ?_) (Cert.CdwRefIdeal.Value.run (F := Ideal) m' ρ')
    obtain ⟨e0, e1⟩ := hag c
    refine ⟨(h c).1.trans ?_, (h c).2⟩
    refine (Cert.CdwRefIdeal.Read.val_main_v9_eq _ _).trans ?_
    rw [e0, e1]
    exact ref (argN m c) (argD m c)

end Cert.XCdw

end
-- ==== Proof.ConvOut.lean ====
/- The convolution's last product with its bias, its residual and the next norm: the kernel's blocks and the reference. -/
module

public import proofs.«01_k».proof.Defs
public import proofs.«01_k».proof.Proof.Gen.Cout.Frame
public import proofs.«01_k».proof.Proof.Gen.CoutIdeal.Value
public import proofs.«01_k».proof.Proof.Gen.CoutRefIdeal.Read
public import proofs.«01_k».proof.Proof.Places
public import proofs.«01_k».proof.Proof.Products
public import proofs.«01_k».proof.Proof.RowNorm
public import Idealize.ShloMosaic.Lib.Quiescent

@[expose] public section

noncomputable section

namespace Cert.XCout

open Cert.CoutIdeal Cert.CoutIdeal.Gen Cert.XPlaces Cert.XProducts Cert.XNorm Cert.XDown Idealize.ShloMosaic Idealize.ShloMosaic.ValueIdx Idealize.SL.Sem

/-- The result at row `r` and column `j`: rows against columns, the bias and the residual. -/
def layer (A : FVec Ideal S4096x1024 .bf16) (B : FVec Ideal S1024x1024 .bf16) (C : FVec Ideal S1x1024 .f32) (X : FVec Ideal S4096x1024 .f32) (r : Fin 4096) (j : Fin 1024) : EReal :=
  (∑ d : Fin 1024, A (ix2 r d) * B (ix2 d j)) + C (ix2 0 j) + X (ix2 r j)
/-- The same of a block's rows. -/
def blockRow (a : FVec Ideal S512x1024 .bf16) (b : FVec Ideal S1024x1024 .bf16) (b' : FVec Ideal S1x1024 .f32) (x : FVec Ideal S512x1024 .f32) (r : Fin 512) (j : Fin 1024) : EReal :=
  (∑ d : Fin 1024, a (ix2 r d) * b (ix2 d j)) + b' (ix2 0 j) + x (ix2 r j)

theorem lt8 (t : Fin cfg0.N) : t.val < 8 := t.isLt.trans_eq N_0

theorem sum_apply (a : FVec Ideal S512x1024 .bf16) (b : FVec Ideal S1024x1024 .bf16) (b' : FVec Ideal S1x1024 .f32) (x : FVec Ideal S512x1024 .f32) (r : Fin 512) (j : Fin 1024) :
    k0_pay1 (F := Ideal) a b b' x (ix2 r j) = blockRow a b b' x r j :=
  congrArg (· + x (ix2 r j)) (congrArg₂ (fun p q : EReal => p + q) (sum_of dot_S512x1024_S1024x1024_S512x1024_1_0_0_1_n_n 1024 rfl rfl a b (ix2 r j) _ _ (fun d => ix2_ext _ r d rfl rfl) (fun d => ix2_ext _ d j rfl rfl)) (weights_apply b' r j))

theorem out4_apply (a : FVec Ideal S512x1024 .bf16) (b : FVec Ideal S1024x1024 .bf16) (b' : FVec Ideal S1x1024 .f32) (x : FVec Ideal S512x1024 .f32) (g : FVec Ideal S1x1024 .f32) (y : S512x1024.Idx) :
    out0_5 (F := Ideal) a b b' x g y = blockRow a b b' x (y 0) (y 1) := by
  unfold out0_5
  rw [View.canon_unit_zero zero2]
  simp only [View.ld_unit_zero (S := S512x1024) zero2, View.ld_unit_zero (S := S1024x1024) zero2, View.ld_unit_zero (S := S512x1024) zero2, View.ld_unit_zero (S := S1x1024) zero2]
  exact (congrArg (k0_pay1 (F := Ideal) a b b' x) (eq_ix2 y)).trans (sum_apply a b b' x (y 0) (y 1))

theorem out5_apply (a : FVec Ideal S512x1024 .bf16) (b : FVec Ideal S1024x1024 .bf16) (b' : FVec Ideal S1x1024 .f32) (x : FVec Ideal S512x1024 .f32) (g : FVec Ideal S1x1024 .f32) (y : S512x1024.Idx) :
    out0_6 (F := Ideal) a b b' x g y = blockRow a b b' x (y 0) (y 1) * scaleOf (blockRow a b b' x (y 0)) * g (ix2 0 (y 1)) := by
  unfold out0_6
  rw [View.canon_unit_zero zero2]
  simp only [View.ld_unit_zero (S := S512x1024) zero2, View.ld_unit_zero (S := S1024x1024) zero2, View.ld_unit_zero (S := S512x1024) zero2, View.ld_unit_zero (S := S1x1024) zero2]
  refine (congrArg (k0_pay2 (F := Ideal) a b b' x g) (eq_ix2 y)).trans ?_
  exact norm_block (k0_pay1 (F := Ideal) a b b' x) g (blockRow a b b' x) (sum_apply a b b' x) (y 0) (y 1)

variable (m : (ℓ : Loc nD τ sig) → Buf (Elt Ideal) ℓ)

abbrev argA (c : Dev nD) : FVec Ideal S4096x1024 .bf16 := m ((c.tc : Thread nD τ).loc main_arg0)
abbrev argB (c : Dev nD) : FVec Ideal S1024x1024 .bf16 := m ((c.tc : Thread nD τ).loc main_arg1)
abbrev argBias (c : Dev nD) : FVec Ideal S1x1024 .f32 := m ((c.tc : Thread nD τ).loc main_arg2)
abbrev argX (c : Dev nD) : FVec Ideal S4096x1024 .f32 := m ((c.tc : Thread nD τ).loc main_arg3)
abbrev argG (c : Dev nD) : FVec Ideal S1x1024 .f32 := m ((c.tc : Thread nD τ).loc main_arg4)
/-- The result's rows. -/
abbrev rows (c : Dev nD) : Fin 4096 → Fin 1024 → EReal := layer (argA m c) (argB m c) (argBias m c) (argX m c)

theorem at0 : ∀ t : Fin grid0.N, win0_0.index t 0 * win0_0.size 0 = 512 * t.val ∧ win0_0.index t 1 * win0_0.size 1 = 0 := by decide +kernel
theorem at1 : ∀ t : Fin grid0.N, win0_1.index t 0 * win0_1.size 0 = 0 ∧ win0_1.index t 1 * win0_1.size 1 = 0 := by decide +kernel
theorem at2 : ∀ t : Fin grid0.N, win0_2.index t 0 * win0_2.size 0 = 0 ∧ win0_2.index t 1 * win0_2.size 1 = 0 := by decide +kernel
theorem at3 : ∀ t : Fin grid0.N, win0_3.index t 0 * win0_3.size 0 = 512 * t.val ∧ win0_3.index t 1 * win0_3.size 1 = 0 := by decide +kernel
theorem at4 : ∀ t : Fin grid0.N, win0_4.index t 0 * win0_4.size 0 = 0 ∧ win0_4.index t 1 * win0_4.size 1 = 0 := by decide +kernel
theorem at5 : ∀ t : Fin grid0.N, win0_5.index t 0 * win0_5.size 0 = 512 * t.val ∧ win0_5.index t 1 * win0_5.size 1 = 0 := by decide +kernel
theorem at6 : ∀ t : Fin grid0.N, win0_6.index t 0 * win0_6.size 0 = 512 * t.val ∧ win0_6.index t 1 * win0_6.size 1 = 0 := by decide +kernel

theorem emb0 (t : Fin cfg0.N) (y : S512x1024.Idx) : (win0_0.rect t).emb y = ix2 (rowOf t.val (lt8 t) (y 0)) (y 1) :=
  ix2_ext _ _ _ ((win0_0.rect_emb_val t y 0).trans (congrArg (· + (y 0).val) (at0 t).1))
    ((win0_0.rect_emb_val t y 1).trans ((congrArg (· + (y 1).val) (at0 t).2).trans (Nat.zero_add _)))
theorem emb1 (t : Fin cfg0.N) (y : S1024x1024.Idx) : (win0_1.rect t).emb y = y :=
  (ix2_ext _ (y 0) (y 1) ((win0_1.rect_emb_val t y 0).trans ((congrArg (· + (y 0).val) (at1 t).1).trans (Nat.zero_add _)))
    ((win0_1.rect_emb_val t y 1).trans ((congrArg (· + (y 1).val) (at1 t).2).trans (Nat.zero_add _)))).trans (eq_ix2 y).symm
theorem emb2 (t : Fin cfg0.N) (y : S1x1024.Idx) : (win0_2.rect t).emb y = y :=
  (ix2_ext _ (y 0) (y 1) ((win0_2.rect_emb_val t y 0).trans ((congrArg (· + (y 0).val) (at2 t).1).trans (Nat.zero_add _)))
    ((win0_2.rect_emb_val t y 1).trans ((congrArg (· + (y 1).val) (at2 t).2).trans (Nat.zero_add _)))).trans (eq_ix2 y).symm
theorem emb3 (t : Fin cfg0.N) (y : S512x1024.Idx) : (win0_3.rect t).emb y = ix2 (rowOf t.val (lt8 t) (y 0)) (y 1) :=
  ix2_ext _ _ _ ((win0_3.rect_emb_val t y 0).trans (congrArg (· + (y 0).val) (at3 t).1))
    ((win0_3.rect_emb_val t y 1).trans ((congrArg (· + (y 1).val) (at3 t).2).trans (Nat.zero_add _)))
theorem emb4 (t : Fin cfg0.N) (y : S1x1024.Idx) : (win0_4.rect t).emb y = y :=
  (ix2_ext _ (y 0) (y 1) ((win0_4.rect_emb_val t y 0).trans ((congrArg (· + (y 0).val) (at4 t).1).trans (Nat.zero_add _)))
    ((win0_4.rect_emb_val t y 1).trans ((congrArg (· + (y 1).val) (at4 t).2).trans (Nat.zero_add _)))).trans (eq_ix2 y).symm
theorem emb5 (t : Fin cfg0.N) (y : S512x1024.Idx) : (win0_5.rect t).emb y = ix2 (rowOf t.val (lt8 t) (y 0)) (y 1) :=
  ix2_ext _ _ _ ((win0_5.rect_emb_val t y 0).trans (congrArg (· + (y 0).val) (at5 t).1))
    ((win0_5.rect_emb_val t y 1).trans ((congrArg (· + (y 1).val) (at5 t).2).trans (Nat.zero_add _)))
theorem emb6 (t : Fin cfg0.N) (y : S512x1024.Idx) : (win0_6.rect t).emb y = ix2 (rowOf t.val (lt8 t) (y 0)) (y 1) :=
  ix2_ext _ _ _ ((win0_6.rect_emb_val t y 0).trans (congrArg (· + (y 0).val) (at6 t).1))
    ((win0_6.rect_emb_val t y 1).trans ((congrArg (· + (y 1).val) (at6 t).2).trans (Nat.zero_add _)))

theorem iblk0_eq (c : Dev nD) (t : Fin cfg0.N) : iblk m c 0 t = fun y : S512x1024.Idx => argA m c (ix2 (rowOf t.val (lt8 t) (y 0)) (y 1)) := by
  funext y
  show V m c main_arg0 ((win0_0.rect t).emb y) = _
  rw [V_main_arg0, emb0]
  rfl
theorem iblk1_eq (c : Dev nD) (t : Fin cfg0.N) : iblk m c 1 t = argB m c := by
  funext y
  show V m c main_arg1 ((win0_1.rect t).emb y) = _
  rw [V_main_arg1, emb1]
theorem iblk2_eq (c : Dev nD) (t : Fin cfg0.N) : iblk m c 2 t = argBias m c := by
  funext y
  show V m c main_arg2 ((win0_2.rect t).emb y) = _
  rw [V_main_arg2, emb2]
theorem iblk3_eq (c : Dev nD) (t : Fin cfg0.N) : iblk m c 3 t = fun y : S512x1024.Idx => argX m c (ix2 (rowOf t.val (lt8 t) (y 0)) (y 1)) := by
  funext y
  show V m c main_arg3 ((win0_3.rect t).emb y) = _
  rw [V_main_arg3, emb3]
  rfl
theorem iblk4_eq (c : Dev nD) (t : Fin cfg0.N) : iblk m c 4 t = argG m c := by
  funext y
  show V m c main_arg4 ((win0_4.rect t).emb y) = _
  rw [V_main_arg4, emb4]

/-- The result. -/
def res (L : Fin 4096 → Fin 1024 → EReal) : FVec Ideal S4096x1024 .f32 := fun i => L (i 0) (i 1)

theorem array4 (c : Dev nD) : (dats m 0 c).arrAt 5 cfg0.N = res (rows m c) := by
  refine (dats m 0 c).arrAt_eq_of_cover 5 (res (rows m c)) (fun t hf => ?_) fun i => ?_
  · funext y
    refine (congrFun (Cert.CoutIdeal.Value.flushed5 m c t) y).trans ((out4_apply _ _ _ _ _ y).trans ?_)
    show _ = res (rows m c) ((win0_5.rect t).emb y)
    rw [emb5, iblk0_eq, iblk1_eq, iblk2_eq, iblk3_eq]
    rfl
  · have h8 : (i 0).val / 512 < 8 := by have : (i 0).val < 4096 := (i 0).isLt; omega
    have ht : (i 0).val / 512 < cfg0.N := Nat.lt_of_lt_of_eq h8 N_0.symm
    refine ⟨⟨_, ht⟩, flush0_5 _, ?_⟩
    exact mem_of_emb ((cfg0.win 5).blk ⟨_, ht⟩).view (ix2 ⟨(i 0).val % 512, Nat.mod_lt _ (by decide)⟩ (i 1)) i ((emb5 ⟨_, ht⟩ _).trans (row_back i h8))

theorem array5 (c : Dev nD) : (dats m 0 c).arrAt 6 cfg0.N = normed (rows m c) (argG m c) := by
  refine (dats m 0 c).arrAt_eq_of_cover 6 (normed (rows m c) (argG m c)) (fun t hf => ?_) fun i => ?_
  · funext y
    refine (congrFun (Cert.CoutIdeal.Value.flushed6 m c t) y).trans ((out5_apply _ _ _ _ _ y).trans ?_)
    show _ = normed (rows m c) (argG m c) ((win0_6.rect t).emb y)
    rw [emb6, iblk0_eq, iblk1_eq, iblk2_eq, iblk3_eq, iblk4_eq]
    rfl
  · have h8 : (i 0).val / 512 < 8 := by have : (i 0).val < 4096 := (i 0).isLt; omega
    have ht : (i 0).val / 512 < cfg0.N := Nat.lt_of_lt_of_eq h8 N_0.symm
    refine ⟨⟨_, ht⟩, flush0_6 _, ?_⟩
    exact mem_of_emb ((cfg0.win 6).blk ⟨_, ht⟩).view (ix2 ⟨(i 0).val % 512, Nat.mod_lt _ (by decide)⟩ (i 1)) i ((emb6 ⟨_, ht⟩ _).trans (row_back i h8))

section Ref
open Cert.CoutRefIdeal.Read

variable (A : FVec Ideal S4096x1024 .bf16) (B : FVec Ideal S1024x1024 .bf16) (C : FVec Ideal S1x1024 .f32) (X : FVec Ideal S4096x1024 .f32) (G : FVec Ideal S1x1024 .f32)

theorem ref3_apply (r : Fin 4096) (j : Fin 1024) : val_main_v5 (F := Ideal) A B C X (ix2 r j) = layer A B C X r j := by
  refine Eq.trans (congrArg (X (ix2 r j) + ·) (congrArg₂ (fun p q : EReal => p + q) (val_main_v2_apply A B (ix2 r j))
    ((val_main_v3_apply (F := Ideal) C (ix2 r j)).trans (congrArg C (eq_ix2 _))))) ?_
  refine Eq.trans (add_comm (G := EReal) _ _) (congrArg (· + X (ix2 r j)) (congrArg (· + C (ix2 0 j)) ?_))
  exact Finset.sum_congr rfl fun d _ => congrArg₂ (fun x y : EReal => x * y) (congrArg A (eq_ix2 _)) (congrArg B (eq_ix2 _))

theorem ref11_apply (r : Fin 4096) : val_main_v13 (F := Ideal) A B C X (ix2 r 0) = scaleOf (layer A B C X r) := by
  unfold scaleOf
  refine congrArg Ideal.rsqrt (congrArg₂ (· + ·) (congrArg₂ Ideal.div ?_ (val_main_v9_apply (F := Ideal) _)) (val_main_v11_apply (F := Ideal) _))
  refine Eq.trans (val_main_v8_apply (F := Ideal) A B C X (ix2 r 0)) (Eq.trans (val_main_v7_apply A B C X _) ?_)
  refine Eq.trans (congrArg (· + _) Ideal.ofBits_zero_f32) (Eq.trans (zero_add _) ?_)
  refine Finset.sum_congr rfl fun d _ => ?_
  have e : val_main_v5 (F := Ideal) A B C X (idx_main_v7 (idx_main_v8 (ix2 r 0)) d) = layer A B C X r d :=
    Eq.trans (congrArg (val_main_v5 (F := Ideal) A B C X) (eq_ix2 _)) (ref3_apply A B C X r d)
  exact congrArg₂ (· * ·) e e

theorem ref3 : val_main_v5 (F := Ideal) A B C X = res (layer A B C X) := by
  funext i
  exact Eq.trans (congrArg (val_main_v5 (F := Ideal) A B C X) (eq_ix2 i)) (ref3_apply A B C X (i 0) (i 1))

theorem ref16 : val_main_v18 (F := Ideal) A B C X G = normed (layer A B C X) G := by
  funext i
  refine congrArg₂ (fun x y : EReal => x * y) (congrArg₂ (fun x y : EReal => x * y) ?_ ?_) ?_
  · exact congrFun (ref3 A B C X) i
  · exact Eq.trans (val_main_v14_apply (F := Ideal) A B C X i) (Eq.trans (congrArg (val_main_v13 (F := Ideal) A B C X) (eq_ix2 _)) (ref11_apply A B C X (i 0)))
  · exact Eq.trans (val_main_v16_apply (F := Ideal) G i) (congrArg G (eq_ix2 _))

end Ref

/-- The call runs, keeps its arguments and ends quiescent. -/
theorem frame_kernel : Cert.quiescent_Cout := fun m ρ _ => Cert.Cout.Gen.frame m ρ
/-- The same of its idealization. -/
theorem frame_ideal : Cert.quiescent_CoutIdeal := fun m ρ _ => Cert.CoutIdeal.Gen.frame m ρ
/-- The reference runs, keeps its arguments and has no semaphores. -/
theorem frame_ref : Cert.quiescent_CoutRefIdeal := fun m ρ _ =>
  (θ_run Cert.CoutRefIdeal.defs _ _).mono (fun r h => ⟨fun c => (h c).2.2, sem_eq_zero_of_no_sems (by decide) r.2⟩)
    (Cert.CoutRefIdeal.Value.run (F := Ideal) m ρ)

/-- The kernel and the reference compute the same result and the same normed rows. -/
theorem value : Cert.algebraic_CoutIdeal_CoutRefIdeal := by
  intro m ρ m' ρ' _ hag
  refine ⟨fun c => res (rows m c), fun c => normed (rows m c) (argG m c), ?_, ?_⟩
  · exact (θ_run Cert.CoutIdeal.defs _ _).mono (fun r h c => ⟨(h c).1.trans (array4 m c), (h c).2.1.trans (array5 m c), (h c).2.2⟩)
      (Cert.CoutIdeal.Value.run_blocks m ρ)
  · refine (θ_run Cert.CoutRefIdeal.defs _ _).mono (fun r h c => ?_) (Cert.CoutRefIdeal.Value.run (F := Ideal) m' ρ')
    obtain ⟨e0, e1, e2, e3, e4⟩ := hag c
    refine ⟨(h c).1.trans ?_, (h c).2.1.trans ?_, (h c).2.2⟩
    · refine (Cert.CoutRefIdeal.Read.val_main_v5_eq _ _ _ _).trans ?_
      rw [e0, e1, e2, e3]
      exact ref3 (argA m c) (argB m c) (argBias m c) (argX m c)
    · refine (Cert.CoutRefIdeal.Read.val_main_v18_eq _ _ _ _ _).trans ?_
      rw [e0, e1, e2, e3, e4]
      exact ref16 (argA m c) (argB m c) (argBias m c) (argX m c) (argG m c)

end Cert.XCout

end
-- ==== Proof.NormRows.lean ====
/- The backward of the norm over blocks of rows of any height: what a trip of the row loop stores and carries, and how the blocks' sums make up the whole array's. -/
module

public import proofs.«01_k».proof.Proof.InputLoop

@[expose] public section

noncomputable section

namespace Cert.XRows

open Cert.XDn (inRow weightRow slopeOf slopePart)
open Cert.XPlaces Idealize.ShloMosaic Idealize.ShloMosaic.ValueIdx Idealize.SL.Sem

/-- `T` rows of 1024. -/
abbrev Rows (T : ℕ) : Shape := ⟨2, ![T, 1024]⟩

variable {T : ℕ}

/-- Sixteen rows of an array, from row `o`. -/
def win (V : FVec Ideal (Rows T) .f32) (o : ℕ) (h : o + 16 ≤ T) : FVec Ideal (Rows 16) .f32 :=
  fun y => V (ix2 ⟨o + (y 0).val, by have h0 : (y 0).val < 16 := (y 0).isLt; omega⟩ (y 1))

/-- A unit rectangle of sixteen whole rows from row `o` places its rows there. -/
theorem emb_rows (off : Fin 2 → ℕ) (inb) (o : ℕ) (h : o + 16 ≤ T) (h0 : off 0 = o) (h1 : off 1 = 0) (y : (Rows 16).Idx) :
    (Rect.unit (s := Rows T) off (Rows 16).size inb).emb y = ix2 ⟨o + (y 0).val, by have h0 : (y 0).val < 16 := (y 0).isLt; omega⟩ (y 1) := by
  funext b
  refine Fin.ext ((Rect.idx_unit_val _ _ inb y b).trans ?_)
  match b with
  | ⟨0, _⟩ => exact congrArg (· + (y 0).val) h0
  | ⟨1, _⟩ => exact (congrArg (· + (y 1).val) h1).trans (Nat.zero_add _)

theorem load_rows {sig : RefSig} (w : Memref sig .tc .vmem (Rows T) .f32) (C : BufTy.Contents (Elt Ideal) w.view.ty) (off : Fin 2 → ℕ) (inb) (o : ℕ) (h : o + 16 ≤ T)
    (h0 : off 0 = o) (h1 : off 1 = 0) :
    View.readAt (Elt Ideal) w.view (Rect.unit (s := Rows T) off (Rows 16).size inb).toLoadRect C = win (w.view.read (Elt Ideal) C) o h := by
  funext y
  exact congrArg (w.view.read (Elt Ideal) C) (emb_rows off inb o h h0 h1 y)

/-- An array stored whole reads back. -/
theorem read_one {sig : RefSig} (w : Memref sig .tc .vmem (Rows T) .f32) (f : BufTy.Contents (Elt Ideal) w.view.ty) (inb) (p : FVec Ideal (Rows T) .f32) :
    w.view.read (Elt Ideal) (w.view.writes (Elt Ideal) f [⟨Rect.unit (s := Rows T) ![0, 0] (Rows T).size inb, p⟩]) = p := by
  have e : ∀ z : (Rows T).Idx, (Rect.unit (s := Rows T) ![0, 0] (Rows T).size inb).emb z = z := fun z => by
    funext b
    refine Fin.ext ((Rect.idx_unit_val _ _ inb z b).trans ?_)
    match b with
    | ⟨0, _⟩ => exact Nat.zero_add _
    | ⟨1, _⟩ => exact Nat.zero_add _
  funext y
  have h := View.read_writes_cons_emb (Val := Elt Ideal) w.view f (Rect.unit (s := Rows T) ![0, 0] (Rows T).size inb) p [] y
  exact (congrArg (w.view.read (Elt Ideal) (w.view.writes (Elt Ideal) f [⟨Rect.unit (s := Rows T) ![0, 0] (Rows T).size inb, p⟩])) (e y)).symm.trans h

/-- The block's row `r` of the input's gradient. -/
def gradRow (R X D : FVec Ideal (Rows T) .f32) (g : FVec Ideal (Rows 1) .f32) (r : Fin T) (j : Fin 1024) : EReal :=
  inRow (fun i => R (ix2 r i)) (fun i => g (ix2 0 i)) (fun i => X (ix2 r i)) (fun i => D (ix2 r i)) j
/-- What the block's row `r` adds to the weights' gradient. -/
def addRow (R X : FVec Ideal (Rows T) .f32) (r : ℕ) (j : Fin 1024) : EReal :=
  if h : r < T then weightRow (fun i => R (ix2 ⟨r, h⟩ i)) (fun i => X (ix2 ⟨r, h⟩ i)) j else 0

/-- Sixteen rows stored from the loads of the same rows: the first sixteen of a trip. -/
theorem low_rows (R X D : FVec Ideal (Rows T) .f32) (g : FVec Ideal (Rows 1) .f32) (off : Fin 2 → ℕ) (inb) (o : ℕ) (h : o + 16 ≤ T) (h0 : off 0 = o) (h1 : off 1 = 0) (z : (Rows 16).Idx) :
    Cert.FdnIdeal.Gen.k0_pay14 (F := Ideal) g (Cert.FdnIdeal.Gen.k0_pay8 (F := Ideal) g (win R o h) (win X o h)) (win R o h) (win X o h)
        (Cert.FdnIdeal.Gen.k0_pay11 (F := Ideal) (win X o h)) (win D o h) z
      = gradRow R X D g ((Rect.unit (s := Rows T) off (Rows 16).size inb).emb z 0) ((Rect.unit (s := Rows T) off (Rows 16).size inb).emb z 1) := by
  rw [emb_rows off inb o h h0 h1 z]
  exact (congrArg _ (eq_ix2 z)).trans (Cert.XDn.pay14_apply g (win R o h) (win X o h) (win D o h) (z 0) (z 1))

/-- The second sixteen of a trip. -/
theorem high_rows (R X D : FVec Ideal (Rows T) .f32) (g : FVec Ideal (Rows 1) .f32) (off : Fin 2 → ℕ) (inb) (o : ℕ) (h : o + 16 ≤ T) (h0 : off 0 = o) (h1 : off 1 = 0) (z : (Rows 16).Idx) :
    Cert.FdnIdeal.Gen.k0_pay5 (F := Ideal) (win X o h) (Cert.FdnIdeal.Gen.k0_pay18 (F := Ideal) g (Cert.FdnIdeal.Gen.k0_pay9 (F := Ideal) (win X o h)) (win R o h))
        (Cert.FdnIdeal.Gen.k0_pay19 (F := Ideal) (Cert.FdnIdeal.Gen.k0_pay9 (F := Ideal) (win X o h)) (Cert.FdnIdeal.Gen.k0_pay10 (F := Ideal) g (win R o h) (win X o h))) (win D o h) z
      = gradRow R X D g ((Rect.unit (s := Rows T) off (Rows 16).size inb).emb z 0) ((Rect.unit (s := Rows T) off (Rows 16).size inb).emb z 1) := by
  rw [emb_rows off inb o h h0 h1 z]
  exact (congrArg _ (eq_ix2 z)).trans (Cert.XDn.pay5_apply g (win R o h) (win X o h) (win D o h) (z 0) (z 1))

/-- The carried sum after trip `k`: four rows more at each of its eight places. -/
theorem carry_rows (R X : FVec Ideal (Rows T) .f32) (k : ℕ) (h : 32 * k + 32 ≤ T) (acc : FVec Ideal (Rows 8) .f32) (a : Fin 8) (j : Fin 1024) :
    Cert.FdnIdeal.Gen.k0_pay17 (F := Ideal) acc (Cert.FdnIdeal.Gen.k0_pay9 (F := Ideal) (win X (32 * k + 16) (by omega)))
        (Cert.FdnIdeal.Gen.k0_pay12 (F := Ideal) (win X (32 * k) (by omega)) (win R (32 * k) (by omega)) (win X (32 * k) (by omega)))
        (Cert.FdnIdeal.Gen.k0_pay13 (F := Ideal) (win X (32 * k) (by omega)) (win R (32 * k) (by omega)) (win X (32 * k) (by omega)))
        (win R (32 * k + 16) (by omega)) (win X (32 * k + 16) (by omega)) (ix2 a j)
      = (acc (ix2 a j) + (addRow R X (8 * (4 * k) + a.val) j + addRow R X (8 * (4 * k + 1) + a.val) j))
        + (addRow R X (8 * (4 * k + 2) + a.val) j + addRow R X (8 * (4 * k + 3) + a.val) j) := by
  refine (Cert.XDn.pay17_apply (win R (32 * k) (by omega)) (win X (32 * k) (by omega)) acc (win R (32 * k + 16) (by omega)) (win X (32 * k + 16) (by omega)) a j).trans ?_
  have row : ∀ (o : ℕ) (h : o + 16 ≤ T) (b : Fin 16) (r : ℕ) (_ : r = o + b.val),
      weightRow (fun i : Fin 1024 => win R o h (ix2 b i)) (fun i : Fin 1024 => win X o h (ix2 b i)) j = addRow R X r j := by
    intro o h b r e
    subst e
    unfold addRow
    rw [dif_pos (by omega)]
    rfl
  refine congrArg₂ (fun x y : EReal => x + y) (congrArg (fun y : EReal => acc (ix2 a j) + y) (congrArg₂ (fun x y : EReal => x + y) ?_ ?_)) (congrArg₂ (fun x y : EReal => x + y) ?_ ?_)
  · exact row (32 * k) (by omega) ⟨a.val, by omega⟩ _ (by show _ = 32 * k + a.val; omega)
  · exact row (32 * k) (by omega) ⟨8 + a.val, by omega⟩ _ (by show _ = 32 * k + (8 + a.val); omega)
  · exact row (32 * k + 16) (by omega) ⟨a.val, by omega⟩ _ (by show _ = 32 * k + 16 + a.val; omega)
  · exact row (32 * k + 16) (by omega) ⟨8 + a.val, by omega⟩ _ (by show _ = 32 * k + 16 + (8 + a.val); omega)

/-- A sum carried so, from zero, is every eighth row so far at each of its eight places. -/
theorem carried (R X : FVec Ideal (Rows T) .f32) (j : Fin 1024) (a : Fin 8) (N : ℕ) (s : ℕ → EReal) (h0 : s 0 = 0)
    (hs : ∀ k < N, s (k + 1) = (s k + (addRow R X (8 * (4 * k) + a.val) j + addRow R X (8 * (4 * k + 1) + a.val) j))
      + (addRow R X (8 * (4 * k + 2) + a.val) j + addRow R X (8 * (4 * k + 3) + a.val) j)) :
    ∀ n ≤ N, s n = ∑ q ∈ Finset.range (4 * n), addRow R X (8 * q + a.val) j
  | 0, _ => h0
  | n + 1, hn => by
    rw [hs n hn, carried R X j a N s h0 hs n (Nat.le_of_succ_le hn)]
    rw [show 4 * (n + 1) = 4 * n + 1 + 1 + 1 + 1 from by omega, Finset.sum_range_succ, Finset.sum_range_succ, Finset.sum_range_succ, Finset.sum_range_succ]
    simp only [add_assoc]

/-- The eight places of the carried sum together: all the block's rows. -/
theorem rows_all (n : ℕ) (hn : T = n * 8) (R X : FVec Ideal (Rows T) .f32) (j : Fin 1024) :
    (∑ a : Fin 8, ∑ q ∈ Finset.range n, addRow R X (8 * q + a.val) j)
      = ∑ r : Fin T, weightRow (fun i => R (ix2 r i)) (fun i => X (ix2 r i)) j := by
  have e : ∀ r : Fin T, weightRow (fun i => R (ix2 r i)) (fun i => X (ix2 r i)) j = addRow R X r.val j := fun r => by
    unfold addRow; rw [dif_pos r.isLt]
  refine Eq.trans ?_ (Finset.sum_congr rfl fun r _ => (e r).symm)
  subst hn
  rw [← Equiv.sum_comp (finProdFinEquiv (m := n) (n := 8)), Fintype.sum_prod_type_right]
  refine Finset.sum_congr rfl fun a _ => ?_
  rw [Finset.sum_range]
  refine Finset.sum_congr rfl fun q _ => ?_
  refine congrArg (fun r => addRow R X r j) ?_
  show 8 * q.val + a.val = a.val + 8 * q.val
  omega

/-! ## The whole arrays, `P` the product's rows -/

variable (P : Fin 4096 → Fin 1024 → EReal) (X : FVec Ideal (Rows 4096) .f32) (G : FVec Ideal (Rows 1) .f32) (D : FVec Ideal (Rows 4096) .f32)

/-- The input's gradient. -/
def gradIn (r : Fin 4096) (j : Fin 1024) : EReal :=
  inRow (P r) (fun i => G (ix2 0 i)) (fun i => X (ix2 r i)) (fun i => D (ix2 r i)) j
/-- What a row adds to the weights' gradient. -/
def gradAdd (r : Fin 4096) (j : Fin 1024) : EReal := weightRow (P r) (fun i => X (ix2 r i)) j

theorem col_idx (i : (Rows 1).Idx) : (i 0).val * 1024 + (i 1).val = (i 1).val := by
  have h0 : (i 0).val < 1 := (i 0).isLt
  omega

/-- The row `r` of the block `q` of `T` rows. -/
def rowAt (T : ℕ) (q : ℕ) (hq : (q + 1) * T ≤ 4096) (r : Fin T) : Fin 4096 := ⟨T * q + r.val, by rw [Nat.succ_mul, Nat.mul_comm] at hq; omega⟩

/-- What a block of rows adds to the weights' gradient. -/
def blockAdd (T : ℕ) (j : Fin 1024) (q : ℕ) : EReal :=
  if hq : (q + 1) * T ≤ 4096 then ∑ r : Fin T, gradAdd P X (rowAt T q hq r) j else 0

theorem blocks_all (n T : ℕ) (hn : 4096 = n * T) (j : Fin 1024) :
    ∑ q ∈ Finset.range n, blockAdd P X T j q = ∑ r : Fin 4096, gradAdd P X r j := by
  have e : ∑ r : Fin 4096, gradAdd P X r j = ∑ r : Fin (n * T), gradAdd P X (Fin.cast hn.symm r) j :=
    (Equiv.sum_comp (finCongr hn.symm) (fun r : Fin 4096 => gradAdd P X r j)).symm
  rw [e, ← Equiv.sum_comp (finProdFinEquiv (m := n) (n := T)), Fintype.sum_prod_type, Finset.sum_range]
  refine Finset.sum_congr rfl fun q _ => ?_
  unfold blockAdd
  rw [dif_pos (hn ▸ Nat.mul_le_mul_right T q.isLt)]
  refine Finset.sum_congr rfl fun r _ => congrArg (fun r => gradAdd P X r j) ?_
  refine Fin.ext ?_
  show T * q.val + r.val = r.val + T * q.val
  omega

def resX : FVec Ideal (Rows 4096) .f32 := fun i => gradIn P X G D (i 0) (i 1)
def resXb : FVec Ideal (Rows 4096) .bf16 := fun i => gradIn P X G D (i 0) (i 1)
def resG : FVec Ideal (Rows 1) .f32 := fun i => ∑ r : Fin 4096, gradAdd P X r (i 1)

end Cert.XRows

end
-- ==== Proof.SquareLoop.lean ====
/- A square product's input gradient: the loop over the rows of a block, and what a point leaves. -/
module

public import proofs.«01_k».proof.Proof.Gen.SdnIdeal.Value
public import proofs.«01_k».proof.Proof.NormRows

@[expose] public section

noncomputable section

namespace Cert.XSdn

open Cert.SdnIdeal Cert.SdnIdeal.Gen Cert.XPlaces Cert.XRows Idealize.ShloMosaic Idealize.ShloMosaic.ValueIdx Idealize.SL.Sem
open Cert.XDn (weightRow)

theorem off0 : ∀ k : Fin k0_t1_loop.trips, k0_off1 k 0#32 0 = 32 * k.val ∧ k0_off1 k 0#32 1 = 0 := by decide +kernel
theorem off1 : ∀ k : Fin k0_t1_loop.trips, k0_off1 k 16#32 0 = 32 * k.val + 16 ∧ k0_off1 k 16#32 1 = 0 := by decide +kernel
theorem lt16 (k : Fin k0_t1_loop.trips) : k.val < 16 := k.isLt.trans_eq (by decide +kernel)

section Loop
variable (𝒱 : Variants) (c : Dev nD) (bd : Option 𝒱.V) (i : grid0.Coords)
  (arg3 : Memref sig .tc .vmem S512x1024 .bf16) (harg3 : arg3.IsWhole) (arg4 : Memref sig .tc .vmem S1024x1024 .bf16) (harg4 : arg4.IsWhole)
  (arg5 : Memref sig .tc .vmem S512x1024 .f32) (harg5 : arg5.IsWhole) (arg6 : Memref sig .tc .vmem S1x1024 .f32) (harg6 : arg6.IsWhole)
  (arg7 : Memref sig .tc .vmem S512x1024 .f32) (harg7 : arg7.IsWhole) (arg8 : Memref sig .tc .vmem S512x1024 .f32) (harg8 : arg8.IsWhole)
  (arg9 : Memref sig .tc .vmem S512x1024 .bf16) (harg9 : arg9.IsWhole) (arg10 : Memref sig .tc .vmem S1x1024 .f32) (harg10 : arg10.IsWhole)
  (arg11 : Memref sig .tc .vmem S512x1024 .f32) (harg11 : arg11.IsWhole) (v9 : FVec Ideal S1x1024 .f32)
  (X5 : BufTy.Contents (Elt Ideal) arg5.view.ty) (X7 : BufTy.Contents (Elt Ideal) arg7.view.ty) (X11 : BufTy.Contents (Elt Ideal) arg11.view.ty)

/-- What a buffer of 512 rows holds. -/
abbrev valR (w : Memref sig .tc .vmem S512x1024 .f32) (C : BufTy.Contents (Elt Ideal) w.view.ty) : FVec Ideal S512x1024 .f32 := w.view.read (Elt Ideal) C

/-- Every piece a trip stores holds rows of the block's gradient. -/
theorem trip_first (k : Fin k0_t1_loop.trips) (acc : FVec Ideal S8x1024 .f32) :
    (∀ p ∈ (tripL_k0_t1 (F := Ideal) 𝒱 c bd i arg3 harg3 arg4 harg4 arg5 harg5 arg6 harg6 arg7 harg7 arg8 harg8 arg9 harg9 arg10 harg10 arg11 harg11 v9 X5 X7 X11 k acc).1, ∀ z : p.1.shape.Idx,
      p.2 z = gradRow (valR arg11 X11) (valR arg5 X5) (valR arg7 X7) v9 (p.1.emb z 0) (p.1.emb z 1))
    ∧ (∀ p ∈ (tripL_k0_t1 (F := Ideal) 𝒱 c bd i arg3 harg3 arg4 harg4 arg5 harg5 arg6 harg6 arg7 harg7 arg8 harg8 arg9 harg9 arg10 harg10 arg11 harg11 v9 X5 X7 X11 k acc).2, ∀ z : p.1.shape.Idx,
      p.2 z = gradRow (valR arg11 X11) (valR arg5 X5) (valR arg7 X7) v9 (p.1.emb z 0) (p.1.emb z 1)) := by
  have hk := lt16 k
  have low := low_rows (valR arg11 X11) (valR arg5 X5) (valR arg7 X7) v9 _ (k0_off1_inb k 0) _ (by omega) (off0 k).1 (off0 k).2
  have high := high_rows (valR arg11 X11) (valR arg5 X5) (valR arg7 X7) v9 _ (k0_off1_inb k 1) _ (by omega) (off1 k).1 (off1 k).2
  rw [← load_rows arg5 X5 _ (k0_off1_inb k 0) _ (by omega) (off0 k).1 (off0 k).2,
    ← load_rows arg7 X7 _ (k0_off1_inb k 0) _ (by omega) (off0 k).1 (off0 k).2,
    ← load_rows arg11 X11 _ (k0_off1_inb k 0) _ (by omega) (off0 k).1 (off0 k).2] at low
  rw [← load_rows arg5 X5 _ (k0_off1_inb k 1) _ (by omega) (off1 k).1 (off1 k).2,
    ← load_rows arg7 X7 _ (k0_off1_inb k 1) _ (by omega) (off1 k).1 (off1 k).2,
    ← load_rows arg11 X11 _ (k0_off1_inb k 1) _ (by omega) (off1 k).1 (off1 k).2] at high
  unfold tripL_k0_t1 trip_k0_t1
  dsimp only
  sl_unfold_words
  constructor
  · intro p hp z
    rcases List.mem_cons.mp hp with rfl | hp
    · exact high z
    · rcases List.mem_cons.mp hp with rfl | hp
      · exact low z
      · exact absurd hp List.not_mem_nil
  · intro p hp z
    rcases List.mem_cons.mp hp with rfl | hp
    · exact high z
    · rcases List.mem_cons.mp hp with rfl | hp
      · exact low z
      · exact absurd hp List.not_mem_nil

theorem trip_carry (k : Fin k0_t1_loop.trips) (acc : FVec Ideal S8x1024 .f32) (a : Fin 8) (j : Fin 1024) :
    tripR_k0_t1 (F := Ideal) 𝒱 c bd i arg3 harg3 arg4 harg4 arg5 harg5 arg6 harg6 arg7 harg7 arg8 harg8 arg9 harg9 arg10 harg10 arg11 harg11 v9 X5 X7 X11 k acc (ix2 a j)
      = (acc (ix2 a j) + (addRow (valR arg11 X11) (valR arg5 X5) (8 * (4 * k.val) + a.val) j + addRow (valR arg11 X11) (valR arg5 X5) (8 * (4 * k.val + 1) + a.val) j))
        + (addRow (valR arg11 X11) (valR arg5 X5) (8 * (4 * k.val + 2) + a.val) j + addRow (valR arg11 X11) (valR arg5 X5) (8 * (4 * k.val + 3) + a.val) j) := by
  have hk := lt16 k
  have h := carry_rows (valR arg11 X11) (valR arg5 X5) k.val (by omega) acc a j
  rw [← load_rows arg5 X5 _ (k0_off1_inb k 0) _ (by omega) (off0 k).1 (off0 k).2,
    ← load_rows arg11 X11 _ (k0_off1_inb k 0) _ (by omega) (off0 k).1 (off0 k).2,
    ← load_rows arg5 X5 _ (k0_off1_inb k 1) _ (by omega) (off1 k).1 (off1 k).2,
    ← load_rows arg11 X11 _ (k0_off1_inb k 1) _ (by omega) (off1 k).1 (off1 k).2] at h
  refine Eq.trans ?_ h
  unfold tripR_k0_t1 trip_k0_t1
  dsimp only
  sl_unfold_words
  rfl

/-- Every row stored so far is a row of the gradient. -/
theorem state_first (init : FVec Ideal S8x1024 .f32) : ∀ n : ℕ, n ≤ k0_t1_loop.trips →
    (∀ p ∈ (st_k0_t1 (F := Ideal) 𝒱 c bd i arg3 harg3 arg4 harg4 arg5 harg5 arg6 harg6 arg7 harg7 arg8 harg8 arg9 harg9 arg10 harg10 arg11 harg11 v9 X5 X7 X11 init n).2.1, ∀ z : p.1.shape.Idx, p.2 z = gradRow (valR arg11 X11) (valR arg5 X5) (valR arg7 X7) v9 (p.1.emb z 0) (p.1.emb z 1))
    ∧ (∀ p ∈ (st_k0_t1 (F := Ideal) 𝒱 c bd i arg3 harg3 arg4 harg4 arg5 harg5 arg6 harg6 arg7 harg7 arg8 harg8 arg9 harg9 arg10 harg10 arg11 harg11 v9 X5 X7 X11 init n).2.2, ∀ z : p.1.shape.Idx, p.2 z = gradRow (valR arg11 X11) (valR arg5 X5) (valR arg7 X7) v9 (p.1.emb z 0) (p.1.emb z 1))
  | 0, _ => ⟨fun p hp => absurd hp List.not_mem_nil, fun p hp => absurd hp List.not_mem_nil⟩
  | n + 1, hn => by
    have ih := state_first init n (Nat.le_of_succ_le hn)
    have tr := trip_first 𝒱 c bd i arg3 harg3 arg4 harg4 arg5 harg5 arg6 harg6 arg7 harg7 arg8 harg8 arg9 harg9 arg10 harg10 arg11 harg11 v9 X5 X7 X11 ⟨n, hn⟩ (st_k0_t1 (F := Ideal) 𝒱 c bd i arg3 harg3 arg4 harg4 arg5 harg5 arg6 harg6 arg7 harg7 arg8 harg8 arg9 harg9 arg10 harg10 arg11 harg11 v9 X5 X7 X11 init n).1
    rw [st_k0_t1_succ (F := Ideal) 𝒱 c bd i arg3 harg3 arg4 harg4 arg5 harg5 arg6 harg6 arg7 harg7 arg8 harg8 arg9 harg9 arg10 harg10 arg11 harg11 v9 X5 X7 X11 init ⟨n, hn⟩]
    exact ⟨fun p hp => (List.mem_append.mp hp).elim (tr.1 p) (ih.1 p), fun p hp => (List.mem_append.mp hp).elim (tr.2 p) (ih.2 p)⟩

/-- The weights' gradient after the loop: what it held, and the block's rows. -/
theorem pay6_apply (w : FVec Ideal S1x1024 .f32) (j : Fin 1024) :
    k0_pay6 (F := Ideal) (st_k0_t1 (F := Ideal) 𝒱 c bd i arg3 harg3 arg4 harg4 arg5 harg5 arg6 harg6 arg7 harg7 arg8 harg8 arg9 harg9 arg10 harg10 arg11 harg11 v9 X5 X7 X11 (k0_pay3 (F := Ideal)) k0_t1_loop.trips).1 w (ix2 0 j)
      = w (ix2 0 j) + ∑ r : Fin 512, weightRow (fun i => valR arg11 X11 (ix2 r i)) (fun i => valR arg5 X5 (ix2 r i)) j := by
  have ht : 4 * k0_t1_loop.trips = 64 := by decide +kernel
  unfold k0_pay6
  refine congrArg₂ (fun x y : EReal => x + y) (congrFun (shapeCast_self w _) (ix2 0 j)) ?_
  refine (Cert.XDn.rowsSum_apply _ j).trans ?_
  refine Eq.trans ?_ (rows_all 64 (by decide) _ _ j)
  refine Finset.sum_congr rfl fun a _ => ?_
  rw [← ht]
  refine carried (valR arg11 X11) (valR arg5 X5) j a k0_t1_loop.trips (fun n => (st_k0_t1 (F := Ideal) 𝒱 c bd i arg3 harg3 arg4 harg4 arg5 harg5 arg6 harg6 arg7 harg7 arg8 harg8 arg9 harg9 arg10 harg10 arg11 harg11 v9 X5 X7 X11 (k0_pay3 (F := Ideal)) n).1 (ix2 a j)) Ideal.ofBits_zero_f32 (fun k hk => ?_) _ le_rfl
  rw [st_k0_t1_succ (F := Ideal) 𝒱 c bd i arg3 harg3 arg4 harg4 arg5 harg5 arg6 harg6 arg7 harg7 arg8 harg8 arg9 harg9 arg10 harg10 arg11 harg11 v9 X5 X7 X11 (k0_pay3 (F := Ideal)) ⟨k, hk⟩]
  exact trip_carry 𝒱 c bd i arg3 harg3 arg4 harg4 arg5 harg5 arg6 harg6 arg7 harg7 arg8 harg8 arg9 harg9 arg10 harg10 arg11 harg11 v9 X5 X7 X11 ⟨k, hk⟩ _ a j

end Loop

end Cert.XSdn

end
-- ==== Proof.SquareInput.lean ====
/- A square product's input gradient: what the points leave, the arrays, the reference, and the claims. -/
module

public import proofs.«01_k».proof.Defs
public import proofs.«01_k».proof.Proof.Gen.Sdn.Frame
public import proofs.«01_k».proof.Proof.Gen.SdnRefIdeal.Read
public import proofs.«01_k».proof.Proof.Products
public import proofs.«01_k».proof.Proof.SquareLoop
public import Idealize.ShloMosaic.Lib.Quiescent

@[expose] public section

noncomputable section

namespace Cert.XSdn

open Cert.SdnIdeal Cert.SdnIdeal.Gen Cert.XPlaces Cert.XProducts Cert.XRows Idealize.ShloMosaic Idealize.ShloMosaic.ValueIdx Idealize.SL.Sem
open Cert.XDn (weightRow slopeOf slopePart cInv cEps cHalf div_len inRow_eq)

/-! ## What a point leaves -/

section Points
variable (c : Dev nD) (i : grid0.Coords)
  (arg3 : Memref sig .tc .vmem S512x1024 .bf16) (harg3 : arg3.IsWhole) (arg4 : Memref sig .tc .vmem S1024x1024 .bf16) (harg4 : arg4.IsWhole)
  (arg5 : Memref sig .tc .vmem S512x1024 .f32) (harg5 : arg5.IsWhole) (arg6 : Memref sig .tc .vmem S1x1024 .f32) (harg6 : arg6.IsWhole)
  (arg7 : Memref sig .tc .vmem S512x1024 .f32) (harg7 : arg7.IsWhole) (arg8 : Memref sig .tc .vmem S512x1024 .f32) (harg8 : arg8.IsWhole)
  (arg9 : Memref sig .tc .vmem S512x1024 .bf16) (harg9 : arg9.IsWhole) (arg10 : Memref sig .tc .vmem S1x1024 .f32) (harg10 : arg10.IsWhole)
  (arg11 : Memref sig .tc .vmem S512x1024 .f32) (harg11 : arg11.IsWhole)
  (x0 : FVec Ideal S512x1024 .bf16) (x1 : FVec Ideal S1024x1024 .bf16) (x2 : FVec Ideal S512x1024 .f32) (x3 : FVec Ideal S1x1024 .f32) (x4 : FVec Ideal S512x1024 .f32) (xo7 : FVec Ideal S1x1024 .f32)

theorem out5_A (hc0 : cond0_0 i) (y : S512x1024.Idx) :
    out0_A_5 (F := Ideal) c i arg3 harg3 arg4 harg4 arg5 harg5 arg6 harg6 arg7 harg7 arg8 harg8 arg9 harg9 arg10 harg10 arg11 harg11 hc0 x0 x1 x2 x3 x4 y = gradRow (k0_pay1 (F := Ideal) x0 x1) x2 x4 x3 (y 0) (y 1) := by
  unfold out0_A_5
  refine View.read_writes_apply_of_pieces VO0_5 VO0_5.junk (fun y => gradRow (k0_pay1 (F := Ideal) x0 x1) x2 x4 x3 (y 0) (y 1)) _ ?_ y (cover0_A_5 (F := Ideal) c i arg3 harg3 arg4 harg4 arg5 harg5 arg6 harg6 arg7 harg7 arg8 harg8 arg9 harg9 arg10 harg10 arg11 harg11 hc0 x0 x1 x2 x3 x4 y)
  unfold kernelRun0_A
  dsimp only
  sl_unfold_words
  simp only [View.readAt_eq_ld, harg3.read_unread, harg4.read_unread, harg6.read_unread, harg10.read_unread, harg11.read_unread,
    View.ld_unit_zero (S := S512x1024) zero2, View.ld_unit_zero (S := S1024x1024) zero2, View.ld_unit_zero (S := S1x1024) zero2]
  intro p hp z
  refine ((state_first Variants.none c none i arg3 harg3 arg4 harg4 arg5 harg5 arg6 harg6 arg7 harg7 arg8 harg8 arg9 harg9 arg10 harg10 arg11 harg11 _ _ _ _ _ _ le_rfl).1 p hp z).trans ?_
  rw [valR, valR, valR, harg5.read_unread, harg7.read_unread, read_one]

theorem out6_A (hc0 : cond0_0 i) (y : S512x1024.Idx) :
    out0_A_6 (F := Ideal) c i arg3 harg3 arg4 harg4 arg5 harg5 arg6 harg6 arg7 harg7 arg8 harg8 arg9 harg9 arg10 harg10 arg11 harg11 hc0 x0 x1 x2 x3 x4 y = gradRow (k0_pay1 (F := Ideal) x0 x1) x2 x4 x3 (y 0) (y 1) := by
  unfold out0_A_6
  refine View.read_writes_apply_of_pieces VO0_6 VO0_6.junk (fun y => gradRow (k0_pay1 (F := Ideal) x0 x1) x2 x4 x3 (y 0) (y 1)) _ ?_ y (cover0_A_6 (F := Ideal) c i arg3 harg3 arg4 harg4 arg5 harg5 arg6 harg6 arg7 harg7 arg8 harg8 arg9 harg9 arg10 harg10 arg11 harg11 hc0 x0 x1 x2 x3 x4 y)
  unfold kernelRun0_A
  dsimp only
  sl_unfold_words
  simp only [View.readAt_eq_ld, harg3.read_unread, harg4.read_unread, harg6.read_unread, harg10.read_unread, harg11.read_unread,
    View.ld_unit_zero (S := S512x1024) zero2, View.ld_unit_zero (S := S1024x1024) zero2, View.ld_unit_zero (S := S1x1024) zero2]
  intro p hp z
  refine ((state_first Variants.none c none i arg3 harg3 arg4 harg4 arg5 harg5 arg6 harg6 arg7 harg7 arg8 harg8 arg9 harg9 arg10 harg10 arg11 harg11 _ _ _ _ _ _ le_rfl).2 p hp z).trans ?_
  rw [valR, valR, valR, harg5.read_unread, harg7.read_unread, read_one]

theorem out7_A (hc0 : cond0_0 i) (j : Fin 1024) :
    out0_A_7 (F := Ideal) c i arg3 harg3 arg4 harg4 arg5 harg5 arg6 harg6 arg7 harg7 arg8 harg8 arg9 harg9 arg10 harg10 arg11 harg11 hc0 x0 x1 x2 x3 x4 (ix2 0 j)
      = 0 + ∑ r : Fin 512, weightRow (fun i => k0_pay1 (F := Ideal) x0 x1 (ix2 r i)) (fun i => x2 (ix2 r i)) j := by
  unfold out0_A_7
  rw [View.read_writes_eq_canon _ _ _ (by intro y; apply cover0_A_7)]
  unfold kernelRun0_A
  dsimp only
  sl_unfold_words
  rw [View.canon_cons_unit_zero (S := S1x1024) zero2, View.readCov_unit_zero (S := S1x1024) _ zero2]
  simp only [View.readAt_eq_ld, harg3.read_unread, harg4.read_unread, harg6.read_unread, harg10.read_unread, harg11.read_unread,
    View.ld_unit_zero (S := S512x1024) zero2, View.ld_unit_zero (S := S1024x1024) zero2, View.ld_unit_zero (S := S1x1024) zero2]
  refine (pay6_apply Variants.none c none i arg3 harg3 arg4 harg4 arg5 harg5 arg6 harg6 arg7 harg7 arg8 harg8 arg9 harg9 arg10 harg10 arg11 harg11 _ _ _ _ _ j).trans ?_
  rw [valR, valR, harg5.read_unread, read_one]
  exact congrArg (fun y : EReal => y + _) Ideal.ofBits_zero_f32

theorem out5_B (hc0 : ¬cond0_0 i) (y : S512x1024.Idx) :
    out0_B_5 (F := Ideal) c i arg3 harg3 arg4 harg4 arg5 harg5 arg6 harg6 arg7 harg7 arg8 harg8 arg9 harg9 arg10 harg10 arg11 harg11 hc0 x0 x1 x2 x3 x4 xo7 y = gradRow (k0_pay1 (F := Ideal) x0 x1) x2 x4 x3 (y 0) (y 1) := by
  unfold out0_B_5
  refine View.read_writes_apply_of_pieces VO0_5 VO0_5.junk (fun y => gradRow (k0_pay1 (F := Ideal) x0 x1) x2 x4 x3 (y 0) (y 1)) _ ?_ y (cover0_B_5 (F := Ideal) c i arg3 harg3 arg4 harg4 arg5 harg5 arg6 harg6 arg7 harg7 arg8 harg8 arg9 harg9 arg10 harg10 arg11 harg11 hc0 x0 x1 x2 x3 x4 xo7 y)
  unfold kernelRun0_B
  dsimp only
  sl_unfold_words
  simp only [View.readAt_eq_ld, harg3.read_unread, harg4.read_unread, harg6.read_unread, harg10.read_unread, harg11.read_unread,
    View.ld_unit_zero (S := S512x1024) zero2, View.ld_unit_zero (S := S1024x1024) zero2, View.ld_unit_zero (S := S1x1024) zero2]
  intro p hp z
  refine ((state_first Variants.none c none i arg3 harg3 arg4 harg4 arg5 harg5 arg6 harg6 arg7 harg7 arg8 harg8 arg9 harg9 arg10 harg10 arg11 harg11 _ _ _ _ _ _ le_rfl).1 p hp z).trans ?_
  rw [valR, valR, valR, harg5.read_unread, harg7.read_unread, read_one]

theorem out6_B (hc0 : ¬cond0_0 i) (y : S512x1024.Idx) :
    out0_B_6 (F := Ideal) c i arg3 harg3 arg4 harg4 arg5 harg5 arg6 harg6 arg7 harg7 arg8 harg8 arg9 harg9 arg10 harg10 arg11 harg11 hc0 x0 x1 x2 x3 x4 xo7 y = gradRow (k0_pay1 (F := Ideal) x0 x1) x2 x4 x3 (y 0) (y 1) := by
  unfold out0_B_6
  refine View.read_writes_apply_of_pieces VO0_6 VO0_6.junk (fun y => gradRow (k0_pay1 (F := Ideal) x0 x1) x2 x4 x3 (y 0) (y 1)) _ ?_ y (cover0_B_6 (F := Ideal) c i arg3 harg3 arg4 harg4 arg5 harg5 arg6 harg6 arg7 harg7 arg8 harg8 arg9 harg9 arg10 harg10 arg11 harg11 hc0 x0 x1 x2 x3 x4 xo7 y)
  unfold kernelRun0_B
  dsimp only
  sl_unfold_words
  simp only [View.readAt_eq_ld, harg3.read_unread, harg4.read_unread, harg6.read_unread, harg10.read_unread, harg11.read_unread,
    View.ld_unit_zero (S := S512x1024) zero2, View.ld_unit_zero (S := S1024x1024) zero2, View.ld_unit_zero (S := S1x1024) zero2]
  intro p hp z
  refine ((state_first Variants.none c none i arg3 harg3 arg4 harg4 arg5 harg5 arg6 harg6 arg7 harg7 arg8 harg8 arg9 harg9 arg10 harg10 arg11 harg11 _ _ _ _ _ _ le_rfl).2 p hp z).trans ?_
  rw [valR, valR, valR, harg5.read_unread, harg7.read_unread, read_one]

theorem out7_B (hc0 : ¬cond0_0 i) (j : Fin 1024) :
    out0_B_7 (F := Ideal) c i arg3 harg3 arg4 harg4 arg5 harg5 arg6 harg6 arg7 harg7 arg8 harg8 arg9 harg9 arg10 harg10 arg11 harg11 hc0 x0 x1 x2 x3 x4 xo7 (ix2 0 j)
      = xo7 (ix2 0 j) + ∑ r : Fin 512, weightRow (fun i => k0_pay1 (F := Ideal) x0 x1 (ix2 r i)) (fun i => x2 (ix2 r i)) j := by
  unfold out0_B_7
  rw [View.read_writes_eq_canon _ _ _ (by intro y; apply cover0_B_7)]
  unfold kernelRun0_B
  dsimp only
  sl_unfold_words
  rw [View.canon_unit_zero (S := S1x1024) zero2]
  simp only [View.readAt_eq_ld, harg3.read_unread, harg4.read_unread, harg6.read_unread, harg10.read_unread, harg11.read_unread,
    View.ld_unit_zero (S := S512x1024) zero2, View.ld_unit_zero (S := S1024x1024) zero2, View.ld_unit_zero (S := S1x1024) zero2]
  refine (pay6_apply Variants.none c none i arg3 harg3 arg4 harg4 arg5 harg5 arg6 harg6 arg7 harg7 arg8 harg8 arg9 harg9 arg10 harg10 arg11 harg11 _ _ _ _ _ j).trans ?_
  rw [valR, valR, harg5.read_unread, read_one]

end Points

/-! ## The blocks -/

/-- A row of the gradient against a row of the weights. -/
def prodRow (A : FVec Ideal S4096x1024 .bf16) (B : FVec Ideal S1024x1024 .bf16) (r : Fin 4096) (i : Fin 1024) : EReal :=
  ∑ d : Fin 1024, A (ix2 r d) * B (ix2 i d)

theorem pay1_apply (a : FVec Ideal S512x1024 .bf16) (b : FVec Ideal S1024x1024 .bf16) (r : Fin 512) (i : Fin 1024) :
    k0_pay1 (F := Ideal) a b (ix2 r i) = ∑ d : Fin 1024, a (ix2 r d) * b (ix2 i d) := by
  unfold k0_pay1
  rw [shapeCast_self]
  exact sum_of dot_S512x1024_S1024x1024_S512x1024_1_1_0_0_n_n 1024 rfl rfl a b (ix2 r i) (fun d => ix2 r d) (fun d => ix2 i d)
    (fun d => ix2_ext _ _ _ rfl rfl) (fun d => ix2_ext _ _ _ rfl rfl)

variable (m : (ℓ : Loc nD τ sig) → Buf (Elt Ideal) ℓ)

abbrev argA (c : Dev nD) : FVec Ideal S4096x1024 .bf16 := m ((c.tc : Thread nD τ).loc main_arg0)
abbrev argB (c : Dev nD) : FVec Ideal S1024x1024 .bf16 := m ((c.tc : Thread nD τ).loc main_arg1)
abbrev argX (c : Dev nD) : FVec Ideal S4096x1024 .f32 := m ((c.tc : Thread nD τ).loc main_arg2)
abbrev argG (c : Dev nD) : FVec Ideal S1x1024 .f32 := m ((c.tc : Thread nD τ).loc main_arg3)
abbrev argD (c : Dev nD) : FVec Ideal S4096x1024 .f32 := m ((c.tc : Thread nD τ).loc main_arg4)

theorem lt8 (t : Fin cfg0.N) : t.val < 8 := t.isLt.trans_eq N_0
theorem le_t (t : Fin cfg0.N) : (t.val + 1) * 512 ≤ 4096 := by have := lt8 t; omega

theorem at0 : ∀ t : Fin grid0.N, win0_0.index t 0 * win0_0.size 0 = 512 * t.val ∧ win0_0.index t 1 * win0_0.size 1 = 0 := by decide +kernel
theorem at1 : ∀ t : Fin grid0.N, win0_1.index t 0 * win0_1.size 0 = 0 ∧ win0_1.index t 1 * win0_1.size 1 = 0 := by decide +kernel
theorem at2 : ∀ t : Fin grid0.N, win0_2.index t 0 * win0_2.size 0 = 512 * t.val ∧ win0_2.index t 1 * win0_2.size 1 = 0 := by decide +kernel
theorem at3 : ∀ t : Fin grid0.N, win0_3.index t 0 * win0_3.size 0 = 0 ∧ win0_3.index t 1 * win0_3.size 1 = 0 := by decide +kernel
theorem at4 : ∀ t : Fin grid0.N, win0_4.index t 0 * win0_4.size 0 = 512 * t.val ∧ win0_4.index t 1 * win0_4.size 1 = 0 := by decide +kernel
theorem at5 : ∀ t : Fin grid0.N, win0_5.index t 0 * win0_5.size 0 = 512 * t.val ∧ win0_5.index t 1 * win0_5.size 1 = 0 := by decide +kernel
theorem at6 : ∀ t : Fin grid0.N, win0_6.index t 0 * win0_6.size 0 = 512 * t.val ∧ win0_6.index t 1 * win0_6.size 1 = 0 := by decide +kernel
theorem at7 : ∀ t : Fin grid0.N, win0_7.index t 0 * win0_7.size 0 = 0 ∧ win0_7.index t 1 * win0_7.size 1 = 0 := by decide +kernel

theorem emb0 (t : Fin cfg0.N) (y : S512x1024.Idx) : (win0_0.rect t).emb y = ix2 (rowAt 512 t.val (le_t t) (y 0)) (y 1) :=
  ix2_ext _ _ _ ((win0_0.rect_emb_val t y 0).trans (congrArg (· + (y 0).val) (at0 t).1))
    ((win0_0.rect_emb_val t y 1).trans ((congrArg (· + (y 1).val) (at0 t).2).trans (Nat.zero_add _)))
theorem emb1 (t : Fin cfg0.N) (y : S1024x1024.Idx) : (win0_1.rect t).emb y = ix2 (y 0) (y 1) :=
  ix2_ext _ _ _ ((win0_1.rect_emb_val t y 0).trans ((congrArg (· + (y 0).val) (at1 t).1).trans (Nat.zero_add _)))
    ((win0_1.rect_emb_val t y 1).trans ((congrArg (· + (y 1).val) (at1 t).2).trans (Nat.zero_add _)))
theorem emb2 (t : Fin cfg0.N) (y : S512x1024.Idx) : (win0_2.rect t).emb y = ix2 (rowAt 512 t.val (le_t t) (y 0)) (y 1) :=
  ix2_ext _ _ _ ((win0_2.rect_emb_val t y 0).trans (congrArg (· + (y 0).val) (at2 t).1))
    ((win0_2.rect_emb_val t y 1).trans ((congrArg (· + (y 1).val) (at2 t).2).trans (Nat.zero_add _)))
theorem emb3 (t : Fin cfg0.N) (y : S1x1024.Idx) : (win0_3.rect t).emb y = ix2 (y 0) (y 1) :=
  ix2_ext _ _ _ ((win0_3.rect_emb_val t y 0).trans ((congrArg (· + (y 0).val) (at3 t).1).trans (Nat.zero_add _)))
    ((win0_3.rect_emb_val t y 1).trans ((congrArg (· + (y 1).val) (at3 t).2).trans (Nat.zero_add _)))
theorem emb4 (t : Fin cfg0.N) (y : S512x1024.Idx) : (win0_4.rect t).emb y = ix2 (rowAt 512 t.val (le_t t) (y 0)) (y 1) :=
  ix2_ext _ _ _ ((win0_4.rect_emb_val t y 0).trans (congrArg (· + (y 0).val) (at4 t).1))
    ((win0_4.rect_emb_val t y 1).trans ((congrArg (· + (y 1).val) (at4 t).2).trans (Nat.zero_add _)))
theorem emb5 (t : Fin cfg0.N) (y : S512x1024.Idx) : (win0_5.rect t).emb y = ix2 (rowAt 512 t.val (le_t t) (y 0)) (y 1) :=
  ix2_ext _ _ _ ((win0_5.rect_emb_val t y 0).trans (congrArg (· + (y 0).val) (at5 t).1))
    ((win0_5.rect_emb_val t y 1).trans ((congrArg (· + (y 1).val) (at5 t).2).trans (Nat.zero_add _)))
theorem emb6 (t : Fin cfg0.N) (y : S512x1024.Idx) : (win0_6.rect t).emb y = ix2 (rowAt 512 t.val (le_t t) (y 0)) (y 1) :=
  ix2_ext _ _ _ ((win0_6.rect_emb_val t y 0).trans (congrArg (· + (y 0).val) (at6 t).1))
    ((win0_6.rect_emb_val t y 1).trans ((congrArg (· + (y 1).val) (at6 t).2).trans (Nat.zero_add _)))
theorem emb7 (t : Fin cfg0.N) (y : S1x1024.Idx) : (win0_7.rect t).emb y = ix2 (y 0) (y 1) :=
  ix2_ext _ _ _ ((win0_7.rect_emb_val t y 0).trans ((congrArg (· + (y 0).val) (at7 t).1).trans (Nat.zero_add _)))
    ((win0_7.rect_emb_val t y 1).trans ((congrArg (· + (y 1).val) (at7 t).2).trans (Nat.zero_add _)))

abbrev blkA (c : Dev nD) (t : Fin cfg0.N) : FVec Ideal S512x1024 .bf16 := iblk m c 0 t
abbrev blkB (c : Dev nD) (t : Fin cfg0.N) : FVec Ideal S1024x1024 .bf16 := iblk m c 1 t
abbrev blkX (c : Dev nD) (t : Fin cfg0.N) : FVec Ideal S512x1024 .f32 := iblk m c 2 t
abbrev blkG (c : Dev nD) (t : Fin cfg0.N) : FVec Ideal S1x1024 .f32 := iblk m c 3 t
abbrev blkD (c : Dev nD) (t : Fin cfg0.N) : FVec Ideal S512x1024 .f32 := iblk m c 4 t

theorem blkA_apply (c : Dev nD) (t : Fin cfg0.N) (r : Fin 512) (d : Fin 1024) : blkA m c t (ix2 r d) = argA m c (ix2 (rowAt 512 t.val (le_t t) r) d) := by
  show V m c main_arg0 ((win0_0.rect t).emb (ix2 r d)) = _
  rw [V_main_arg0, emb0 t]
  rfl
theorem blkB_apply (c : Dev nD) (t : Fin cfg0.N) (i d : Fin 1024) : blkB m c t (ix2 i d) = argB m c (ix2 i d) := by
  show V m c main_arg1 ((win0_1.rect t).emb (ix2 i d)) = _
  rw [V_main_arg1, emb1 t]
  rfl
theorem blkX_apply (c : Dev nD) (t : Fin cfg0.N) (r : Fin 512) (d : Fin 1024) : blkX m c t (ix2 r d) = argX m c (ix2 (rowAt 512 t.val (le_t t) r) d) := by
  show V m c main_arg2 ((win0_2.rect t).emb (ix2 r d)) = _
  rw [V_main_arg2, emb2 t]
  rfl
theorem blkG_apply (c : Dev nD) (t : Fin cfg0.N) (d : Fin 1024) : blkG m c t (ix2 0 d) = argG m c (ix2 0 d) := by
  show V m c main_arg3 ((win0_3.rect t).emb (ix2 0 d)) = _
  rw [V_main_arg3, emb3 t]
  rfl
theorem blkD_apply (c : Dev nD) (t : Fin cfg0.N) (r : Fin 512) (d : Fin 1024) : blkD m c t (ix2 r d) = argD m c (ix2 (rowAt 512 t.val (le_t t) r) d) := by
  show V m c main_arg4 ((win0_4.rect t).emb (ix2 r d)) = _
  rw [V_main_arg4, emb4 t]
  rfl

theorem prod_point (c : Dev nD) (t : Fin cfg0.N) (r : Fin 512) (i : Fin 1024) :
    k0_pay1 (F := Ideal) (blkA m c t) (blkB m c t) (ix2 r i) = prodRow (argA m c) (argB m c) (rowAt 512 t.val (le_t t) r) i := by
  refine (pay1_apply (blkA m c t) (blkB m c t) r i).trans ?_
  exact Finset.sum_congr rfl fun d _ => congrArg₂ (fun x y : EReal => x * y) (blkA_apply m c t r d) (blkB_apply m c t i d)

theorem gradRow_point (c : Dev nD) (t : Fin cfg0.N) (r : Fin 512) (j : Fin 1024) :
    gradRow (k0_pay1 (F := Ideal) (blkA m c t) (blkB m c t)) (blkX m c t) (blkD m c t) (blkG m c t) r j
      = gradIn (prodRow (argA m c) (argB m c)) (argX m c) (argG m c) (argD m c) (rowAt 512 t.val (le_t t) r) j := by
  unfold gradRow gradIn
  have e1 := funext fun i => prod_point m c t r i
  have e2 := funext fun i => blkG_apply m c t i
  have e3 := funext fun i => blkX_apply m c t r i
  have e4 := funext fun i => blkD_apply m c t r i
  rw [e1, e2, e3, e4]

theorem block_point (c : Dev nD) (t : Fin cfg0.N) (j : Fin 1024) :
    ∑ r : Fin 512, weightRow (fun i => k0_pay1 (F := Ideal) (blkA m c t) (blkB m c t) (ix2 r i)) (fun i => blkX m c t (ix2 r i)) j
      = blockAdd (prodRow (argA m c) (argB m c)) (argX m c) 512 j t.val := by
  unfold blockAdd
  rw [dif_pos (le_t t)]
  refine Finset.sum_congr rfl fun r _ => ?_
  unfold gradAdd
  have e1 := funext fun i => prod_point m c t r i
  have e3 := funext fun i => blkX_apply m c t r i
  rw [e1, e3]

theorem left5 (c : Dev nD) (t : Fin cfg0.N) (y : S512x1024.Idx) :
    (outsAt0 m c t.val t.isLt).1 y = gradIn (prodRow (argA m c) (argB m c)) (argX m c) (argG m c) (argD m c) (rowAt 512 t.val (le_t t) (y 0)) (y 1) := by
  refine Eq.trans ?_ (gradRow_point m c t (y 0) (y 1))
  by_cases h0 : t.val % 8 = 0
  · rw [outsAt0_A m c t h0]
    exact out5_A c _ _ _ _ _ _ _ _ _ _ _ _ _ _ _ _ _ _ _ _ _ _ _ _ _ y
  · rw [outsAt0_B m c t h0]
    exact out5_B c _ _ _ _ _ _ _ _ _ _ _ _ _ _ _ _ _ _ _ _ _ _ _ _ _ _ y
theorem left6 (c : Dev nD) (t : Fin cfg0.N) (y : S512x1024.Idx) :
    (outsAt0 m c t.val t.isLt).2.1 y = gradIn (prodRow (argA m c) (argB m c)) (argX m c) (argG m c) (argD m c) (rowAt 512 t.val (le_t t) (y 0)) (y 1) := by
  refine Eq.trans ?_ (gradRow_point m c t (y 0) (y 1))
  by_cases h0 : t.val % 8 = 0
  · rw [outsAt0_A m c t h0]
    exact out6_A c _ _ _ _ _ _ _ _ _ _ _ _ _ _ _ _ _ _ _ _ _ _ _ _ _ y
  · rw [outsAt0_B m c t h0]
    exact out6_B c _ _ _ _ _ _ _ _ _ _ _ _ _ _ _ _ _ _ _ _ _ _ _ _ _ _ y

/-- The weights' gradient after a point: the blocks of rows so far. -/
theorem left7 (c : Dev nD) (j : Fin 1024) (k : ℕ) : ∀ t : Fin cfg0.N, t.val = k →
    (outsAt0 m c t.val t.isLt).2.2 (ix2 0 j) = ∑ q ∈ Finset.range (k + 1), blockAdd (prodRow (argA m c) (argB m c)) (argX m c) 512 j q := by
  induction k with
  | zero =>
    intro t ht
    rw [outsAt0_A m c t (by omega)]
    dsimp only
    refine (out7_A c _ _ _ _ _ _ _ _ _ _ _ _ _ _ _ _ _ _ _ _ _ _ _ _ _ j).trans ?_
    rw [zero_add, Finset.sum_range_one]
    exact (block_point m c t j).trans (congrArg _ ht)
  | succ k IH =>
    intro t ht
    have hp : t.val - 1 < cfg0.N := Nat.lt_of_le_of_lt (Nat.sub_le _ _) t.isLt
    have h8 := lt8 t
    have ih := IH ⟨t.val - 1, hp⟩ (by show t.val - 1 = k; omega)
    rw [outsAt0_B m c t (by omega)]
    dsimp only
    refine (out7_B c _ _ _ _ _ _ _ _ _ _ _ _ _ _ _ _ _ _ _ _ _ _ _ _ _ _ j).trans ?_
    rw [Finset.sum_range_succ _ (k + 1)]
    exact congrArg₂ (fun x y : EReal => x + y) ih ((block_point m c t j).trans (congrArg _ ht))

/-! ## The arrays -/

theorem array5 (c : Dev nD) : (dats m 0 c).arrAt 5 cfg0.N = resX (prodRow (argA m c) (argB m c)) (argX m c) (argG m c) (argD m c) := by
  refine (dats m 0 c).arrAt_eq_of_cover 5 (resX (prodRow (argA m c) (argB m c)) (argX m c) (argG m c) (argD m c)) (fun t _ => ?_) fun i => ?_
  · funext y
    refine (congrFun (Cert.SdnIdeal.Value.flushed5 m c t) y).trans ((left5 m c t y).trans ?_)
    show _ = resX (prodRow (argA m c) (argB m c)) (argX m c) (argG m c) (argD m c) ((win0_5.rect t).emb y)
    rw [emb5]
    rfl
  · have h0 : (i 0).val < 4096 := (i 0).isLt
    have ht : (i 0).val / 512 < cfg0.N := Nat.lt_of_lt_of_eq (by omega) N_0.symm
    refine ⟨⟨_, ht⟩, flush0_5 _, ?_⟩
    refine mem_of_emb ((cfg0.win 5).blk ⟨_, ht⟩).view (ix2 ⟨(i 0).val % 512, Nat.mod_lt _ (by decide)⟩ (i 1)) i ?_
    refine (emb5 ⟨_, ht⟩ (ix2 ⟨(i 0).val % 512, Nat.mod_lt _ (by decide)⟩ (i 1))).trans ?_
    exact (ix2_ext _ _ _ (div_back 512 (i 0).val).symm rfl).symm

theorem array6 (c : Dev nD) : (dats m 0 c).arrAt 6 cfg0.N = resXb (prodRow (argA m c) (argB m c)) (argX m c) (argG m c) (argD m c) := by
  refine (dats m 0 c).arrAt_eq_of_cover 6 (resXb (prodRow (argA m c) (argB m c)) (argX m c) (argG m c) (argD m c)) (fun t _ => ?_) fun i => ?_
  · funext y
    refine (congrFun (Cert.SdnIdeal.Value.flushed6 m c t) y).trans ((left6 m c t y).trans ?_)
    show _ = resXb (prodRow (argA m c) (argB m c)) (argX m c) (argG m c) (argD m c) ((win0_6.rect t).emb y)
    rw [emb6]
    rfl
  · have h0 : (i 0).val < 4096 := (i 0).isLt
    have ht : (i 0).val / 512 < cfg0.N := Nat.lt_of_lt_of_eq (by omega) N_0.symm
    refine ⟨⟨_, ht⟩, flush0_6 _, ?_⟩
    refine mem_of_emb ((cfg0.win 6).blk ⟨_, ht⟩).view (ix2 ⟨(i 0).val % 512, Nat.mod_lt _ (by decide)⟩ (i 1)) i ?_
    refine (emb6 ⟨_, ht⟩ (ix2 ⟨(i 0).val % 512, Nat.mod_lt _ (by decide)⟩ (i 1))).trans ?_
    exact (ix2_ext _ _ _ (div_back 512 (i 0).val).symm rfl).symm

theorem array7 (c : Dev nD) : (dats m 0 c).arrAt 7 cfg0.N = resG (prodRow (argA m c) (argB m c)) (argX m c) := by
  refine (dats m 0 c).arrAt_eq_of_cover 7 (resG (prodRow (argA m c) (argB m c)) (argX m c)) (fun t hf => ?_) fun i => ?_
  · funext y
    have h7 := (flush0_7 t).mp hf
    have h8 := lt8 t
    have hy : y = ix2 0 (y 1) := ix2_ext _ _ _ (by have : (y 0).val < 1 := (y 0).isLt; show (y 0).val = 0; omega) rfl
    refine (congrFun (Cert.SdnIdeal.Value.flushed7 m c t) y).trans ?_
    show (outsAt0 m c t.val t.isLt).2.2 y = resG (prodRow (argA m c) (argB m c)) (argX m c) ((win0_7.rect t).emb y)
    rw [emb7]
    refine (congrArg (outsAt0 m c t.val t.isLt).2.2 hy).trans ((left7 m c (y 1) 7 t (by omega)).trans ?_)
    exact blocks_all _ _ 8 512 (by decide) _
  · have ht : 7 < cfg0.N := Nat.lt_of_lt_of_eq (by decide) N_0.symm
    refine ⟨⟨7, ht⟩, (flush0_7 _).mpr (by show 7 % 8 = 7; decide), ?_⟩
    exact mem_of_emb ((cfg0.win 7).blk ⟨7, ht⟩).view i i ((emb7 ⟨7, ht⟩ i).trans (eq_ix2 i).symm)

/-! ## The reference -/

section Ref
open Cert.SdnRefIdeal.Read

variable (A : FVec Ideal S4096x1024 .bf16) (B : FVec Ideal S1024x1024 .bf16) (X : FVec Ideal S4096x1024 .f32) (G : FVec Ideal S1x1024 .f32) (D : FVec Ideal S4096x1024 .f32)

theorem ref18_apply (r : Fin 4096) (j : Fin 1024) : val_main_v18 (F := Ideal) A B (ix2 r j) = prodRow A B r j := by
  refine Eq.trans (val_main_v18_apply A B (ix2 r j)) ?_
  refine Finset.sum_congr rfl fun k _ => ?_
  exact congrArg₂ (fun x y : EReal => x * y) (congrArg A (eq_ix2 _)) (congrArg B (eq_ix2 _))

theorem ref7_apply (r : Fin 4096) : val_main_v7 (F := Ideal) X (ix2 r 0) = (∑ i : Fin 1024, X (ix2 r i) * X (ix2 r i)) * cInv + cEps := by
  refine congrArg₂ (fun x y : EReal => x + y) ?_ (val_main_v6_apply (F := Ideal) _)
  refine Eq.trans (congrArg₂ Ideal.div ?_ (val_main_v4_apply (F := Ideal) _)) (div_len _)
  refine Eq.trans (val_main_v3_apply (F := Ideal) X (ix2 r 0)) (Eq.trans (val_main_v2_apply X _) ?_)
  refine Eq.trans (congrArg (· + _) Ideal.ofBits_zero_f32) (Eq.trans (zero_add _) ?_)
  refine Finset.sum_congr rfl fun d _ => ?_
  have e : X (idx_main_v2 (idx_main_v3 (ix2 r 0)) d) = X (ix2 r d) := congrArg X (eq_ix2 _)
  exact congrArg₂ (fun x y : EReal => x * y) e e

theorem ref8_apply (r : Fin 4096) : val_main_v8 (F := Ideal) X (ix2 r 0) = slopeOf (fun i => X (ix2 r i)) :=
  congrArg Ideal.rsqrt (ref7_apply X r)

theorem ref11_apply (r : Fin 4096) : val_main_v11 (F := Ideal) X (ix2 r 0)
    = cHalf * Ideal.div (slopeOf (fun i => X (ix2 r i))) ((∑ i : Fin 1024, X (ix2 r i) * X (ix2 r i)) * cInv + cEps) :=
  congrArg₂ (fun x y : EReal => x * y) (val_main_v10_apply (F := Ideal) _) (congrArg₂ Ideal.div (ref8_apply X r) (ref7_apply X r))

theorem ref23_apply (r : Fin 4096) (j : Fin 1024) : val_main_v23 (F := Ideal) A B G (ix2 r j) = prodRow A B r j * G (ix2 0 j) :=
  congrArg₂ (fun x y : EReal => x * y) (ref18_apply A B r j) (Eq.trans (val_main_v22_apply (F := Ideal) G (ix2 r j)) (congrArg G (eq_ix2 _)))

theorem ref26_apply (r : Fin 4096) : val_main_v26 (F := Ideal) A B X G (ix2 r 0) = ∑ i : Fin 1024, X (ix2 r i) * (prodRow A B r i * G (ix2 0 i)) := by
  refine Eq.trans (val_main_v26_apply (F := Ideal) A B X G (ix2 r 0)) (Eq.trans (val_main_v25_apply A B X G _) ?_)
  refine Eq.trans (congrArg (· + _) Ideal.ofBits_zero_f32) (Eq.trans (zero_add _) ?_)
  refine Finset.sum_congr rfl fun d _ => ?_
  have e : idx_main_v25 (idx_main_v26 (ix2 r 0)) d = ix2 (n0 := 4096) (n1 := 1024) r d := funext fun a => match a with
    | ⟨0, _⟩ => Fin.ext (by show r.val * 1 + 0 = r.val; omega)
    | ⟨1, _⟩ => rfl
  refine Eq.trans (congrArg (val_main_v24 (F := Ideal) A B X G) e) ?_
  exact congrArg (fun y : EReal => X (ix2 r d) * y) (ref23_apply A B G r d)

theorem ref32_apply (r : Fin 4096) : val_main_v32 (F := Ideal) A B X G (ix2 r 0) = slopePart (prodRow A B r) (fun i => G (ix2 0 i)) (fun i => X (ix2 r i)) :=
  congrArg₂ Ideal.div (congrArg₂ (fun x y : EReal => x * y) (ref26_apply A B X G r) (ref11_apply X r)) (val_main_v31_apply (F := Ideal) _)

theorem ref34_apply (r : Fin 4096) (j : Fin 1024) : val_main_v34 (F := Ideal) A B X G (ix2 r j) = slopePart (prodRow A B r) (fun i => G (ix2 0 i)) (fun i => X (ix2 r i)) := by
  refine Eq.trans (val_main_v34_apply (F := Ideal) A B X G (ix2 r j)) (Eq.trans (val_main_v33_apply A B X G _) ?_)
  refine Eq.trans (congrArg (· + _) Ideal.ofBits_zero_f32) (Eq.trans (zero_add _) ?_)
  refine Eq.trans (Fin.sum_univ_one _) ?_
  exact Eq.trans (congrArg (val_main_v32 (F := Ideal) A B X G) (eq_ix2 _)) (ref32_apply A B X G r)

theorem ref38_apply (r : Fin 4096) (j : Fin 1024) : val_main_v38 (F := Ideal) A B X G D (ix2 r j) = gradIn (prodRow A B) X G D r j := by
  refine Eq.trans ?_ (inRow_eq (prodRow A B r) (fun i => G (ix2 0 i)) (fun i => X (ix2 r i)) (fun i => D (ix2 r i)) j).symm
  have e30 : val_main_v27 (F := Ideal) X (ix2 r j) = slopeOf (fun i => X (ix2 r i)) :=
    Eq.trans (val_main_v27_apply (F := Ideal) X (ix2 r j)) (Eq.trans (congrArg (val_main_v8 (F := Ideal) X) (eq_ix2 _)) (ref8_apply X r))
  refine congrArg₂ (fun x y : EReal => x + y) (congrArg₂ (fun x y : EReal => x + y) (congrArg (fun y : EReal => D (ix2 r j) + y) ?_) ?_) ?_
  · exact congrArg₂ (fun x y : EReal => x * y) (ref23_apply A B G r j) e30
  · exact congrArg (fun y : EReal => X (ix2 r j) * y) (ref34_apply A B X G r j)
  · exact congrArg (fun y : EReal => y * X (ix2 r j)) (ref34_apply A B X G r j)

theorem ref38 : val_main_v38 (F := Ideal) A B X G D = resX (prodRow A B) X G D := by
  funext i
  exact Eq.trans (congrArg (val_main_v38 (F := Ideal) A B X G D) (eq_ix2 i)) (ref38_apply A B X G D (i 0) (i 1))

theorem ref39 : val_main_v39 (F := Ideal) A B X G D = resXb (prodRow A B) X G D := by
  funext i
  exact congrFun (ref38 A B X G D) i

theorem ref21 : val_main_v21 (F := Ideal) A B X = resG (prodRow A B) X := by
  funext i
  refine Eq.trans (val_main_v21_apply (F := Ideal) A B X i) (Eq.trans (val_main_v20_apply A B X _) ?_)
  refine Eq.trans (congrArg (· + _) Ideal.ofBits_zero_f32) (Eq.trans (zero_add _) ?_)
  show _ = ∑ r : Fin 4096, gradAdd (prodRow A B) X r (i 1)
  refine Finset.sum_congr rfl fun r _ => ?_
  have e : val_main_v19 (F := Ideal) A B X (idx_main_v20 (idx_main_v21 i) r) = val_main_v19 (F := Ideal) A B X (ix2 r (i 1)) :=
    congrArg (val_main_v19 (F := Ideal) A B X) (funext fun a => match a with
      | ⟨0, _⟩ => rfl
      | ⟨1, _⟩ => Fin.ext (col_idx i))
  refine Eq.trans e ?_
  refine Eq.trans ?_ (mul_comm (G := EReal) _ _)
  refine congrArg₂ (fun x y : EReal => x * y) (congrArg (fun y : EReal => X (ix2 r (i 1)) * y) ?_) (ref18_apply A B r (i 1))
  exact Eq.trans (val_main_v12_apply (F := Ideal) X (ix2 r (i 1))) (Eq.trans (congrArg (val_main_v8 (F := Ideal) X) (eq_ix2 _)) (ref8_apply X r))

end Ref

/-! ## The claims -/

/-- `Sdn` runs, keeps its arguments and ends quiescent. -/
theorem frame_kernel : Cert.quiescent_Sdn := fun m ρ _ => Cert.Sdn.Gen.frame m ρ
/-- The same of its idealization. -/
theorem frame_ideal : Cert.quiescent_SdnIdeal := fun m ρ _ => Cert.SdnIdeal.Gen.frame m ρ
/-- The reference runs, keeps its arguments and has no semaphores. -/
theorem frame_ref : Cert.quiescent_SdnRefIdeal := fun m ρ _ =>
  (θ_run Cert.SdnRefIdeal.defs _ _).mono (fun r h => ⟨fun c => (h c).2.2.2, sem_eq_zero_of_no_sems (by decide) r.2⟩)
    (Cert.SdnRefIdeal.Value.run (F := Ideal) m ρ)

/-- The kernel and the reference compute the same gradients of the input and of the norm's weights. -/
theorem value : Cert.algebraic_SdnIdeal_SdnRefIdeal := by
  intro m ρ m' ρ' _ hag
  refine ⟨fun c => resX (prodRow (argA m c) (argB m c)) (argX m c) (argG m c) (argD m c), fun c => resXb (prodRow (argA m c) (argB m c)) (argX m c) (argG m c) (argD m c),
    fun c => resG (prodRow (argA m c) (argB m c)) (argX m c), ?_, ?_⟩
  · exact (θ_run Cert.SdnIdeal.defs _ _).mono
      (fun r h c => ⟨(h c).1.trans (array5 m c), (h c).2.1.trans (array6 m c), (h c).2.2.1.trans (array7 m c), (h c).2.2.2⟩)
      (Cert.SdnIdeal.Value.run_blocks m ρ)
  · refine (θ_run Cert.SdnRefIdeal.defs _ _).mono (fun r h c => ?_) (Cert.SdnRefIdeal.Value.run (F := Ideal) m' ρ')
    obtain ⟨e0, e1, e2, e3, e4⟩ := hag c
    refine ⟨(h c).1.trans ?_, (h c).2.1.trans ?_, (h c).2.2.1.trans ?_, (h c).2.2.2⟩
    · refine (Cert.SdnRefIdeal.Read.val_main_v38_eq _ _).trans ?_
      rw [e0, e1, e2, e3, e4]
      exact ref38 (argA m c) (argB m c) (argX m c) (argG m c) (argD m c)
    · refine (Cert.SdnRefIdeal.Read.val_main_v39_eq _ _).trans ?_
      rw [e0, e1, e2, e3, e4]
      exact ref39 (argA m c) (argB m c) (argX m c) (argG m c) (argD m c)
    · refine (Cert.SdnRefIdeal.Read.val_main_v21_eq _ _ _).trans ?_
      rw [e0, e1, e2]
      exact ref21 (argA m c) (argB m c) (argX m c)

end Cert.XSdn

end
-- ==== Proof.MixerLoop.lean ====
/- The two mixers' input gradient: the loop over the rows of a block, and what a point leaves. -/
module

public import proofs.«01_k».proof.Proof.Gen.TdnIdeal.Value
public import proofs.«01_k».proof.Proof.NormRows

@[expose] public section

noncomputable section

namespace Cert.XTdn

open Cert.TdnIdeal Cert.TdnIdeal.Gen Cert.XPlaces Cert.XRows Idealize.ShloMosaic Idealize.ShloMosaic.ValueIdx Idealize.SL.Sem
open Cert.XDn (weightRow)

theorem off0 : ∀ k : Fin k0_t1_loop.trips, k0_off1 k 0#32 0 = 32 * k.val ∧ k0_off1 k 0#32 1 = 0 := by decide +kernel
theorem off1 : ∀ k : Fin k0_t1_loop.trips, k0_off1 k 16#32 0 = 32 * k.val + 16 ∧ k0_off1 k 16#32 1 = 0 := by decide +kernel
theorem lt16 (k : Fin k0_t1_loop.trips) : k.val < 16 := k.isLt.trans_eq (by decide +kernel)

section Loop
variable (𝒱 : Variants) (c : Dev nD) (bd : Option 𝒱.V) (i : grid0.Coords)
  (arg3 : Memref sig .tc .vmem S512x1024 .bf16) (harg3 : arg3.IsWhole) (arg4 : Memref sig .tc .vmem S1024x1024 .bf16) (harg4 : arg4.IsWhole)
  (arg5 : Memref sig .tc .vmem S512x1024 .bf16) (harg5 : arg5.IsWhole) (arg6 : Memref sig .tc .vmem S1024x1024 .bf16) (harg6 : arg6.IsWhole)
  (arg7 : Memref sig .tc .vmem S512x512 .bf16) (harg7 : arg7.IsWhole) (arg8 : Memref sig .tc .vmem S1024x512 .bf16) (harg8 : arg8.IsWhole)
  (arg9 : Memref sig .tc .vmem S512x1024 .f32) (harg9 : arg9.IsWhole) (arg10 : Memref sig .tc .vmem S1x1024 .f32) (harg10 : arg10.IsWhole)
  (arg11 : Memref sig .tc .vmem S512x1024 .f32) (harg11 : arg11.IsWhole) (arg12 : Memref sig .tc .vmem S512x1024 .f32) (harg12 : arg12.IsWhole)
  (arg13 : Memref sig .tc .vmem S512x1024 .bf16) (harg13 : arg13.IsWhole) (arg14 : Memref sig .tc .vmem S1x1024 .f32) (harg14 : arg14.IsWhole)
  (arg15 : Memref sig .tc .vmem S512x1024 .f32) (harg15 : arg15.IsWhole) (v9 : FVec Ideal S1x1024 .f32)
  (X9 : BufTy.Contents (Elt Ideal) arg9.view.ty) (X11 : BufTy.Contents (Elt Ideal) arg11.view.ty) (X15 : BufTy.Contents (Elt Ideal) arg15.view.ty)

/-- What a buffer of 512 rows holds. -/
abbrev valR (w : Memref sig .tc .vmem S512x1024 .f32) (C : BufTy.Contents (Elt Ideal) w.view.ty) : FVec Ideal S512x1024 .f32 := w.view.read (Elt Ideal) C

/-- Every piece a trip stores holds rows of the block's gradient. -/
theorem trip_first (k : Fin k0_t1_loop.trips) (acc : FVec Ideal S8x1024 .f32) :
    (∀ p ∈ (tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 v9 X9 X11 X15 k acc).1, ∀ z : p.1.shape.Idx,
      p.2 z = gradRow (valR arg15 X15) (valR arg9 X9) (valR arg11 X11) v9 (p.1.emb z 0) (p.1.emb z 1))
    ∧ (∀ p ∈ (tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 v9 X9 X11 X15 k acc).2, ∀ z : p.1.shape.Idx,
      p.2 z = gradRow (valR arg15 X15) (valR arg9 X9) (valR arg11 X11) v9 (p.1.emb z 0) (p.1.emb z 1)) := by
  have hk := lt16 k
  have low := low_rows (valR arg15 X15) (valR arg9 X9) (valR arg11 X11) v9 _ (k0_off1_inb k 0) _ (by omega) (off0 k).1 (off0 k).2
  have high := high_rows (valR arg15 X15) (valR arg9 X9) (valR arg11 X11) v9 _ (k0_off1_inb k 1) _ (by omega) (off1 k).1 (off1 k).2
  rw [← load_rows arg9 X9 _ (k0_off1_inb k 0) _ (by omega) (off0 k).1 (off0 k).2,
    ← load_rows arg11 X11 _ (k0_off1_inb k 0) _ (by omega) (off0 k).1 (off0 k).2,
    ← load_rows arg15 X15 _ (k0_off1_inb k 0) _ (by omega) (off0 k).1 (off0 k).2] at low
  rw [← load_rows arg9 X9 _ (k0_off1_inb k 1) _ (by omega) (off1 k).1 (off1 k).2,
    ← load_rows arg11 X11 _ (k0_off1_inb k 1) _ (by omega) (off1 k).1 (off1 k).2,
    ← load_rows arg15 X15 _ (k0_off1_inb k 1) _ (by omega) (off1 k).1 (off1 k).2] at high
  unfold tripL_k0_t1 trip_k0_t1
  dsimp only
  sl_unfold_words
  constructor
  · intro p hp z
    rcases List.mem_cons.mp hp with rfl | hp
    · exact high z
    · rcases List.mem_cons.mp hp with rfl | hp
      · exact low z
      · exact absurd hp List.not_mem_nil
  · intro p hp z
    rcases List.mem_cons.mp hp with rfl | hp
    · exact high z
    · rcases List.mem_cons.mp hp with rfl | hp
      · exact low z
      · exact absurd hp List.not_mem_nil

theorem trip_carry (k : Fin k0_t1_loop.trips) (acc : FVec Ideal S8x1024 .f32) (a : Fin 8) (j : Fin 1024) :
    tripR_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 v9 X9 X11 X15 k acc (ix2 a j)
      = (acc (ix2 a j) + (addRow (valR arg15 X15) (valR arg9 X9) (8 * (4 * k.val) + a.val) j + addRow (valR arg15 X15) (valR arg9 X9) (8 * (4 * k.val + 1) + a.val) j))
        + (addRow (valR arg15 X15) (valR arg9 X9) (8 * (4 * k.val + 2) + a.val) j + addRow (valR arg15 X15) (valR arg9 X9) (8 * (4 * k.val + 3) + a.val) j) := by
  have hk := lt16 k
  have h := carry_rows (valR arg15 X15) (valR arg9 X9) k.val (by omega) acc a j
  rw [← load_rows arg9 X9 _ (k0_off1_inb k 0) _ (by omega) (off0 k).1 (off0 k).2,
    ← load_rows arg15 X15 _ (k0_off1_inb k 0) _ (by omega) (off0 k).1 (off0 k).2,
    ← load_rows arg9 X9 _ (k0_off1_inb k 1) _ (by omega) (off1 k).1 (off1 k).2,
    ← load_rows arg15 X15 _ (k0_off1_inb k 1) _ (by omega) (off1 k).1 (off1 k).2] at h
  refine Eq.trans ?_ h
  unfold tripR_k0_t1 trip_k0_t1
  dsimp only
  sl_unfold_words
  rfl

/-- Every row stored so far is a row of the gradient. -/
theorem state_first (init : FVec Ideal S8x1024 .f32) : ∀ n : ℕ, n ≤ k0_t1_loop.trips →
    (∀ p ∈ (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 v9 X9 X11 X15 init n).2.1, ∀ z : p.1.shape.Idx, p.2 z = gradRow (valR arg15 X15) (valR arg9 X9) (valR arg11 X11) v9 (p.1.emb z 0) (p.1.emb z 1))
    ∧ (∀ p ∈ (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 v9 X9 X11 X15 init n).2.2, ∀ z : p.1.shape.Idx, p.2 z = gradRow (valR arg15 X15) (valR arg9 X9) (valR arg11 X11) v9 (p.1.emb z 0) (p.1.emb z 1))
  | 0, _ => ⟨fun p hp => absurd hp List.not_mem_nil, fun p hp => absurd hp List.not_mem_nil⟩
  | n + 1, hn => by
    have ih := state_first init n (Nat.le_of_succ_le hn)
    have tr := trip_first 𝒱 c bd i arg3 harg3 arg4 harg4 arg5 harg5 arg6 harg6 arg7 harg7 arg8 harg8 arg9 harg9 arg10 harg10 arg11 harg11 arg12 harg12 arg13 harg13 arg14 harg14 arg15 harg15 v9 X9 X11 X15 ⟨n, hn⟩ (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 v9 X9 X11 X15 init n).1
    rw [st_k0_t1_succ (F := Ideal) 𝒱 c bd i arg3 harg3 arg4 harg4 arg5 harg5 arg6 harg6 arg7 harg7 arg8 harg8 arg9 harg9 arg10 harg10 arg11 harg11 arg12 harg12 arg13 harg13 arg14 harg14 arg15 harg15 v9 X9 X11 X15 init ⟨n, hn⟩]
    exact ⟨fun p hp => (List.mem_append.mp hp).elim (tr.1 p) (ih.1 p), fun p hp => (List.mem_append.mp hp).elim (tr.2 p) (ih.2 p)⟩

/-- The weights' gradient after the loop: what it held, and the block's rows. -/
theorem pay6_apply (w : FVec Ideal S1x1024 .f32) (j : Fin 1024) :
    k0_pay18 (F := Ideal) (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 v9 X9 X11 X15 (k0_pay15 (F := Ideal)) k0_t1_loop.trips).1 w (ix2 0 j)
      = w (ix2 0 j) + ∑ r : Fin 512, weightRow (fun i => valR arg15 X15 (ix2 r i)) (fun i => valR arg9 X9 (ix2 r i)) j := by
  have ht : 4 * k0_t1_loop.trips = 64 := by decide +kernel
  unfold k0_pay18
  refine congrArg₂ (fun x y : EReal => x + y) (congrFun (shapeCast_self w _) (ix2 0 j)) ?_
  refine (Cert.XDn.rowsSum_apply _ j).trans ?_
  refine Eq.trans ?_ (rows_all 64 (by decide) _ _ j)
  refine Finset.sum_congr rfl fun a _ => ?_
  rw [← ht]
  refine carried (valR arg15 X15) (valR arg9 X9) j a k0_t1_loop.trips (fun n => (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 v9 X9 X11 X15 (k0_pay15 (F := Ideal)) n).1 (ix2 a j)) Ideal.ofBits_zero_f32 (fun k hk => ?_) _ le_rfl
  rw [st_k0_t1_succ (F := Ideal) 𝒱 c bd i arg3 harg3 arg4 harg4 arg5 harg5 arg6 harg6 arg7 harg7 arg8 harg8 arg9 harg9 arg10 harg10 arg11 harg11 arg12 harg12 arg13 harg13 arg14 harg14 arg15 harg15 v9 X9 X11 X15 (k0_pay15 (F := Ideal)) ⟨k, hk⟩]
  exact trip_carry 𝒱 c bd i arg3 harg3 arg4 harg4 arg5 harg5 arg6 harg6 arg7 harg7 arg8 harg8 arg9 harg9 arg10 harg10 arg11 harg11 arg12 harg12 arg13 harg13 arg14 harg14 arg15 harg15 v9 X9 X11 X15 ⟨k, hk⟩ _ a j

end Loop

end Cert.XTdn

end
-- ==== Proof.MixerInput.lean ====
/- The two mixers' input gradient: what the points leave, the arrays, the reference, and the claims. -/
module

public import proofs.«01_k».proof.Defs
public import proofs.«01_k».proof.Proof.Gen.Tdn.Frame
public import proofs.«01_k».proof.Proof.Gen.TdnRefIdeal.Read
public import proofs.«01_k».proof.Proof.Products
public import proofs.«01_k».proof.Proof.MixerLoop
public import Idealize.ShloMosaic.Lib.Quiescent

@[expose] public section

noncomputable section

namespace Cert.XTdn

open Cert.TdnIdeal Cert.TdnIdeal.Gen Cert.XPlaces Cert.XProducts Cert.XRows Idealize.ShloMosaic Idealize.ShloMosaic.ValueIdx Idealize.SL.Sem
open Cert.XDn (weightRow slopeOf slopePart cInv cEps cHalf div_len inRow_eq)

/-! ## What a point leaves -/

section Points
variable (c : Dev nD) (i : grid0.Coords)
  (arg3 : Memref sig .tc .vmem S512x1024 .bf16) (harg3 : arg3.IsWhole) (arg4 : Memref sig .tc .vmem S1024x1024 .bf16) (harg4 : arg4.IsWhole)
  (arg5 : Memref sig .tc .vmem S512x1024 .bf16) (harg5 : arg5.IsWhole) (arg6 : Memref sig .tc .vmem S1024x1024 .bf16) (harg6 : arg6.IsWhole)
  (arg7 : Memref sig .tc .vmem S512x512 .bf16) (harg7 : arg7.IsWhole) (arg8 : Memref sig .tc .vmem S1024x512 .bf16) (harg8 : arg8.IsWhole)
  (arg9 : Memref sig .tc .vmem S512x1024 .f32) (harg9 : arg9.IsWhole) (arg10 : Memref sig .tc .vmem S1x1024 .f32) (harg10 : arg10.IsWhole)
  (arg11 : Memref sig .tc .vmem S512x1024 .f32) (harg11 : arg11.IsWhole) (arg12 : Memref sig .tc .vmem S512x1024 .f32) (harg12 : arg12.IsWhole)
  (arg13 : Memref sig .tc .vmem S512x1024 .bf16) (harg13 : arg13.IsWhole) (arg14 : Memref sig .tc .vmem S1x1024 .f32) (harg14 : arg14.IsWhole)
  (arg15 : Memref sig .tc .vmem S512x1024 .f32) (harg15 : arg15.IsWhole)
  (x0 : FVec Ideal S512x1024 .bf16) (x1 : FVec Ideal S1024x1024 .bf16) (x2 : FVec Ideal S512x1024 .bf16) (x3 : FVec Ideal S1024x1024 .bf16) (x4 : FVec Ideal S512x512 .bf16) (x5 : FVec Ideal S1024x512 .bf16)
  (x6 : FVec Ideal S512x1024 .f32) (x7 : FVec Ideal S1x1024 .f32) (x8 : FVec Ideal S512x1024 .f32) (xo11 : FVec Ideal S1x1024 .f32)

theorem out9_A (hc0 : cond0_0 i) (y : S512x1024.Idx) :
    out0_A_9 (F := Ideal) c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 y = gradRow (k0_pay13 (F := Ideal) x0 x1 x2 x3 x4 x5) x6 x8 x7 (y 0) (y 1) := by
  unfold out0_A_9
  refine View.read_writes_apply_of_pieces VO0_9 VO0_9.junk (fun y => gradRow (k0_pay13 (F := Ideal) x0 x1 x2 x3 x4 x5) x6 x8 x7 (y 0) (y 1)) _ ?_ y (cover0_A_9 (F := Ideal) c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 y)
  unfold kernelRun0_A
  dsimp only
  sl_unfold_words
  simp only [View.readAt_eq_ld, harg3.read_unread, harg4.read_unread, harg5.read_unread, harg6.read_unread, harg7.read_unread, harg8.read_unread, harg10.read_unread, harg14.read_unread, harg15.read_unread,
    View.ld_unit_zero (S := S512x1024) zero2, View.ld_unit_zero (S := S1024x1024) zero2, View.ld_unit_zero (S := S1x1024) zero2,
    View.ld_unit_zero (S := S512x512) zero2, View.ld_unit_zero (S := S1024x512) zero2]
  intro p hp z
  refine ((state_first Variants.none c none i arg3 harg3 arg4 harg4 arg5 harg5 arg6 harg6 arg7 harg7 arg8 harg8 arg9 harg9 arg10 harg10 arg11 harg11 arg12 harg12 arg13 harg13 arg14 harg14 arg15 harg15 _ _ _ _ _ _ le_rfl).1 p hp z).trans ?_
  rw [valR, valR, valR, harg9.read_unread, harg11.read_unread, read_one]

theorem out10_A (hc0 : cond0_0 i) (y : S512x1024.Idx) :
    out0_A_10 (F := Ideal) c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 y = gradRow (k0_pay13 (F := Ideal) x0 x1 x2 x3 x4 x5) x6 x8 x7 (y 0) (y 1) := by
  unfold out0_A_10
  refine View.read_writes_apply_of_pieces VO0_10 VO0_10.junk (fun y => gradRow (k0_pay13 (F := Ideal) x0 x1 x2 x3 x4 x5) x6 x8 x7 (y 0) (y 1)) _ ?_ y (cover0_A_10 (F := Ideal) c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 y)
  unfold kernelRun0_A
  dsimp only
  sl_unfold_words
  simp only [View.readAt_eq_ld, harg3.read_unread, harg4.read_unread, harg5.read_unread, harg6.read_unread, harg7.read_unread, harg8.read_unread, harg10.read_unread, harg14.read_unread, harg15.read_unread,
    View.ld_unit_zero (S := S512x1024) zero2, View.ld_unit_zero (S := S1024x1024) zero2, View.ld_unit_zero (S := S1x1024) zero2,
    View.ld_unit_zero (S := S512x512) zero2, View.ld_unit_zero (S := S1024x512) zero2]
  intro p hp z
  refine ((state_first Variants.none c none i arg3 harg3 arg4 harg4 arg5 harg5 arg6 harg6 arg7 harg7 arg8 harg8 arg9 harg9 arg10 harg10 arg11 harg11 arg12 harg12 arg13 harg13 arg14 harg14 arg15 harg15 _ _ _ _ _ _ le_rfl).2 p hp z).trans ?_
  rw [valR, valR, valR, harg9.read_unread, harg11.read_unread, read_one]

theorem out11_A (hc0 : cond0_0 i) (j : Fin 1024) :
    out0_A_11 (F := Ideal) c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 (ix2 0 j)
      = 0 + ∑ r : Fin 512, weightRow (fun i => k0_pay13 (F := Ideal) x0 x1 x2 x3 x4 x5 (ix2 r i)) (fun i => x6 (ix2 r i)) j := by
  unfold out0_A_11
  rw [View.read_writes_eq_canon _ _ _ (by intro y; apply cover0_A_11)]
  unfold kernelRun0_A
  dsimp only
  sl_unfold_words
  rw [View.canon_cons_unit_zero (S := S1x1024) zero2, View.readCov_unit_zero (S := S1x1024) _ zero2]
  simp only [View.readAt_eq_ld, harg3.read_unread, harg4.read_unread, harg5.read_unread, harg6.read_unread, harg7.read_unread, harg8.read_unread, harg10.read_unread, harg14.read_unread, harg15.read_unread,
    View.ld_unit_zero (S := S512x1024) zero2, View.ld_unit_zero (S := S1024x1024) zero2, View.ld_unit_zero (S := S1x1024) zero2,
    View.ld_unit_zero (S := S512x512) zero2, View.ld_unit_zero (S := S1024x512) zero2]
  refine (pay6_apply Variants.none c none i arg3 harg3 arg4 harg4 arg5 harg5 arg6 harg6 arg7 harg7 arg8 harg8 arg9 harg9 arg10 harg10 arg11 harg11 arg12 harg12 arg13 harg13 arg14 harg14 arg15 harg15 _ _ _ _ _ j).trans ?_
  rw [valR, valR, harg9.read_unread, read_one]
  exact congrArg (fun y : EReal => y + _) Ideal.ofBits_zero_f32

theorem out9_B (hc0 : ¬cond0_0 i) (y : S512x1024.Idx) :
    out0_B_9 (F := Ideal) c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo11 y = gradRow (k0_pay13 (F := Ideal) x0 x1 x2 x3 x4 x5) x6 x8 x7 (y 0) (y 1) := by
  unfold out0_B_9
  refine View.read_writes_apply_of_pieces VO0_9 VO0_9.junk (fun y => gradRow (k0_pay13 (F := Ideal) x0 x1 x2 x3 x4 x5) x6 x8 x7 (y 0) (y 1)) _ ?_ y (cover0_B_9 (F := Ideal) c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo11 y)
  unfold kernelRun0_B
  dsimp only
  sl_unfold_words
  simp only [View.readAt_eq_ld, harg3.read_unread, harg4.read_unread, harg5.read_unread, harg6.read_unread, harg7.read_unread, harg8.read_unread, harg10.read_unread, harg14.read_unread, harg15.read_unread,
    View.ld_unit_zero (S := S512x1024) zero2, View.ld_unit_zero (S := S1024x1024) zero2, View.ld_unit_zero (S := S1x1024) zero2,
    View.ld_unit_zero (S := S512x512) zero2, View.ld_unit_zero (S := S1024x512) zero2]
  intro p hp z
  refine ((state_first Variants.none c none i arg3 harg3 arg4 harg4 arg5 harg5 arg6 harg6 arg7 harg7 arg8 harg8 arg9 harg9 arg10 harg10 arg11 harg11 arg12 harg12 arg13 harg13 arg14 harg14 arg15 harg15 _ _ _ _ _ _ le_rfl).1 p hp z).trans ?_
  rw [valR, valR, valR, harg9.read_unread, harg11.read_unread, read_one]

theorem out10_B (hc0 : ¬cond0_0 i) (y : S512x1024.Idx) :
    out0_B_10 (F := Ideal) c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo11 y = gradRow (k0_pay13 (F := Ideal) x0 x1 x2 x3 x4 x5) x6 x8 x7 (y 0) (y 1) := by
  unfold out0_B_10
  refine View.read_writes_apply_of_pieces VO0_10 VO0_10.junk (fun y => gradRow (k0_pay13 (F := Ideal) x0 x1 x2 x3 x4 x5) x6 x8 x7 (y 0) (y 1)) _ ?_ y (cover0_B_10 (F := Ideal) c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo11 y)
  unfold kernelRun0_B
  dsimp only
  sl_unfold_words
  simp only [View.readAt_eq_ld, harg3.read_unread, harg4.read_unread, harg5.read_unread, harg6.read_unread, harg7.read_unread, harg8.read_unread, harg10.read_unread, harg14.read_unread, harg15.read_unread,
    View.ld_unit_zero (S := S512x1024) zero2, View.ld_unit_zero (S := S1024x1024) zero2, View.ld_unit_zero (S := S1x1024) zero2,
    View.ld_unit_zero (S := S512x512) zero2, View.ld_unit_zero (S := S1024x512) zero2]
  intro p hp z
  refine ((state_first Variants.none c none i arg3 harg3 arg4 harg4 arg5 harg5 arg6 harg6 arg7 harg7 arg8 harg8 arg9 harg9 arg10 harg10 arg11 harg11 arg12 harg12 arg13 harg13 arg14 harg14 arg15 harg15 _ _ _ _ _ _ le_rfl).2 p hp z).trans ?_
  rw [valR, valR, valR, harg9.read_unread, harg11.read_unread, read_one]

theorem out11_B (hc0 : ¬cond0_0 i) (j : Fin 1024) :
    out0_B_11 (F := Ideal) c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo11 (ix2 0 j)
      = xo11 (ix2 0 j) + ∑ r : Fin 512, weightRow (fun i => k0_pay13 (F := Ideal) x0 x1 x2 x3 x4 x5 (ix2 r i)) (fun i => x6 (ix2 r i)) j := by
  unfold out0_B_11
  rw [View.read_writes_eq_canon _ _ _ (by intro y; apply cover0_B_11)]
  unfold kernelRun0_B
  dsimp only
  sl_unfold_words
  rw [View.canon_unit_zero (S := S1x1024) zero2]
  simp only [View.readAt_eq_ld, harg3.read_unread, harg4.read_unread, harg5.read_unread, harg6.read_unread, harg7.read_unread, harg8.read_unread, harg10.read_unread, harg14.read_unread, harg15.read_unread,
    View.ld_unit_zero (S := S512x1024) zero2, View.ld_unit_zero (S := S1024x1024) zero2, View.ld_unit_zero (S := S1x1024) zero2,
    View.ld_unit_zero (S := S512x512) zero2, View.ld_unit_zero (S := S1024x512) zero2]
  refine (pay6_apply Variants.none c none i arg3 harg3 arg4 harg4 arg5 harg5 arg6 harg6 arg7 harg7 arg8 harg8 arg9 harg9 arg10 harg10 arg11 harg11 arg12 harg12 arg13 harg13 arg14 harg14 arg15 harg15 _ _ _ _ _ j).trans ?_
  rw [valR, valR, harg9.read_unread, read_one]

end Points

/-! ## The blocks -/

/-- The column `d` of the piece of `n` columns from column `o`. -/
def colAt (o n : ℕ) (h : o + n ≤ 2560) (d : Fin n) : Fin 2560 := ⟨o + d.val, by have := d.isLt; omega⟩

/-- A row of the three gradients, side by side, against a row of the weights. -/
def prodRow (A A1 : FVec Ideal S4096x1024 .bf16) (A2 : FVec Ideal S4096x512 .bf16) (B : FVec Ideal S1024x2560 .bf16) (r : Fin 4096) (i : Fin 1024) : EReal :=
  ((∑ d : Fin 1024, A (ix2 r d) * B (ix2 i (colAt 0 1024 (by decide) d))) + ∑ d : Fin 1024, A1 (ix2 r d) * B (ix2 i (colAt 1024 1024 (by decide) d)))
    + ∑ d : Fin 512, A2 (ix2 r d) * B (ix2 i (colAt 2048 512 (by decide) d))

theorem pay13_apply (a : FVec Ideal S512x1024 .bf16) (b : FVec Ideal S1024x1024 .bf16) (a1 : FVec Ideal S512x1024 .bf16) (b1 : FVec Ideal S1024x1024 .bf16)
    (a2 : FVec Ideal S512x512 .bf16) (b2 : FVec Ideal S1024x512 .bf16) (r : Fin 512) (i : Fin 1024) :
    k0_pay13 (F := Ideal) a b a1 b1 a2 b2 (ix2 r i)
      = ((∑ d : Fin 1024, a (ix2 r d) * b (ix2 i d)) + ∑ d : Fin 1024, a1 (ix2 r d) * b1 (ix2 i d)) + ∑ d : Fin 512, a2 (ix2 r d) * b2 (ix2 i d) := by
  unfold k0_pay13
  rw [shapeCast_self]
  have two := fun (a : FVec Ideal S512x1024 .bf16) (b : FVec Ideal S1024x1024 .bf16) =>
    sum_of dot_S512x1024_S1024x1024_S512x1024_1_1_0_0_n_n 1024 rfl rfl a b (ix2 r i) (fun d => ix2 r d) (fun d => ix2 i d)
      (fun d => ix2_ext _ _ _ rfl rfl) (fun d => ix2_ext _ _ _ rfl rfl)
  refine congrArg₂ (fun x y : EReal => x + y) (congrArg₂ (fun x y : EReal => x + y) (two a b) (two a1 b1)) ?_
  exact sum_of dot_S512x512_S1024x512_S512x1024_1_1_0_0_n_n 512 rfl rfl a2 b2 (ix2 r i) (fun d => ix2 r d) (fun d => ix2 i d)
    (fun d => ix2_ext _ _ _ rfl rfl) (fun d => ix2_ext _ _ _ rfl rfl)

variable (m : (ℓ : Loc nD τ sig) → Buf (Elt Ideal) ℓ)

abbrev argA (c : Dev nD) : FVec Ideal S4096x1024 .bf16 := m ((c.tc : Thread nD τ).loc main_arg0)
abbrev argA1 (c : Dev nD) : FVec Ideal S4096x1024 .bf16 := m ((c.tc : Thread nD τ).loc main_arg1)
abbrev argA2 (c : Dev nD) : FVec Ideal S4096x512 .bf16 := m ((c.tc : Thread nD τ).loc main_arg2)
abbrev argB (c : Dev nD) : FVec Ideal S1024x2560 .bf16 := m ((c.tc : Thread nD τ).loc main_arg3)
abbrev argX (c : Dev nD) : FVec Ideal S4096x1024 .f32 := m ((c.tc : Thread nD τ).loc main_arg4)
abbrev argG (c : Dev nD) : FVec Ideal S1x1024 .f32 := m ((c.tc : Thread nD τ).loc main_arg5)
abbrev argD (c : Dev nD) : FVec Ideal S4096x1024 .f32 := m ((c.tc : Thread nD τ).loc main_arg6)

theorem lt8 (t : Fin cfg0.N) : t.val < 8 := t.isLt.trans_eq N_0
theorem le_t (t : Fin cfg0.N) : (t.val + 1) * 512 ≤ 4096 := by have := lt8 t; omega

theorem at0 : ∀ t : Fin grid0.N, win0_0.index t 0 * win0_0.size 0 = 512 * t.val ∧ win0_0.index t 1 * win0_0.size 1 = 0 := by decide +kernel
theorem at1 : ∀ t : Fin grid0.N, win0_1.index t 0 * win0_1.size 0 = 0 ∧ win0_1.index t 1 * win0_1.size 1 = 0 := by decide +kernel
theorem at2 : ∀ t : Fin grid0.N, win0_2.index t 0 * win0_2.size 0 = 512 * t.val ∧ win0_2.index t 1 * win0_2.size 1 = 0 := by decide +kernel
theorem at3 : ∀ t : Fin grid0.N, win0_3.index t 0 * win0_3.size 0 = 0 ∧ win0_3.index t 1 * win0_3.size 1 = 1024 := by decide +kernel
theorem at4 : ∀ t : Fin grid0.N, win0_4.index t 0 * win0_4.size 0 = 512 * t.val ∧ win0_4.index t 1 * win0_4.size 1 = 0 := by decide +kernel
theorem at5 : ∀ t : Fin grid0.N, win0_5.index t 0 * win0_5.size 0 = 0 ∧ win0_5.index t 1 * win0_5.size 1 = 2048 := by decide +kernel
theorem at6 : ∀ t : Fin grid0.N, win0_6.index t 0 * win0_6.size 0 = 512 * t.val ∧ win0_6.index t 1 * win0_6.size 1 = 0 := by decide +kernel
theorem at7 : ∀ t : Fin grid0.N, win0_7.index t 0 * win0_7.size 0 = 0 ∧ win0_7.index t 1 * win0_7.size 1 = 0 := by decide +kernel
theorem at8 : ∀ t : Fin grid0.N, win0_8.index t 0 * win0_8.size 0 = 512 * t.val ∧ win0_8.index t 1 * win0_8.size 1 = 0 := by decide +kernel
theorem at9 : ∀ t : Fin grid0.N, win0_9.index t 0 * win0_9.size 0 = 512 * t.val ∧ win0_9.index t 1 * win0_9.size 1 = 0 := by decide +kernel
theorem at10 : ∀ t : Fin grid0.N, win0_10.index t 0 * win0_10.size 0 = 512 * t.val ∧ win0_10.index t 1 * win0_10.size 1 = 0 := by decide +kernel
theorem at11 : ∀ t : Fin grid0.N, win0_11.index t 0 * win0_11.size 0 = 0 ∧ win0_11.index t 1 * win0_11.size 1 = 0 := by decide +kernel

theorem emb0 (t : Fin cfg0.N) (y : S512x1024.Idx) : (win0_0.rect t).emb y = ix2 (rowAt 512 t.val (le_t t) (y 0)) (y 1) :=
  ix2_ext _ _ _ ((win0_0.rect_emb_val t y 0).trans (congrArg (· + (y 0).val) (at0 t).1))
    ((win0_0.rect_emb_val t y 1).trans ((congrArg (· + (y 1).val) (at0 t).2).trans (Nat.zero_add _)))
theorem emb1 (t : Fin cfg0.N) (y : (win0_1.xblock (grid0.coords t)).Idx) (i : Fin 1024) (d : Fin 1024) (h0 : (y 0).val = i.val) (h1 : (y 1).val = d.val) :
    (win0_1.rect t).emb y = ix2 i (colAt 0 1024 (by decide) d) :=
  ix2_ext _ _ _ ((win0_1.rect_emb_val t y 0).trans ((congrArg (· + (y 0).val) (at1 t).1).trans ((Nat.zero_add _).trans h0)))
    ((win0_1.rect_emb_val t y 1).trans ((congrArg (· + (y 1).val) (at1 t).2).trans (congrArg (0 + ·) h1)))
theorem emb2 (t : Fin cfg0.N) (y : S512x1024.Idx) : (win0_2.rect t).emb y = ix2 (rowAt 512 t.val (le_t t) (y 0)) (y 1) :=
  ix2_ext _ _ _ ((win0_2.rect_emb_val t y 0).trans (congrArg (· + (y 0).val) (at2 t).1))
    ((win0_2.rect_emb_val t y 1).trans ((congrArg (· + (y 1).val) (at2 t).2).trans (Nat.zero_add _)))
theorem emb3 (t : Fin cfg0.N) (y : (win0_3.xblock (grid0.coords t)).Idx) (i : Fin 1024) (d : Fin 1024) (h0 : (y 0).val = i.val) (h1 : (y 1).val = d.val) :
    (win0_3.rect t).emb y = ix2 i (colAt 1024 1024 (by decide) d) :=
  ix2_ext _ _ _ ((win0_3.rect_emb_val t y 0).trans ((congrArg (· + (y 0).val) (at3 t).1).trans ((Nat.zero_add _).trans h0)))
    ((win0_3.rect_emb_val t y 1).trans ((congrArg (· + (y 1).val) (at3 t).2).trans (congrArg (1024 + ·) h1)))
theorem emb4 (t : Fin cfg0.N) (y : S512x512.Idx) : (win0_4.rect t).emb y = ix2 (rowAt 512 t.val (le_t t) (y 0)) (y 1) :=
  ix2_ext _ _ _ ((win0_4.rect_emb_val t y 0).trans (congrArg (· + (y 0).val) (at4 t).1))
    ((win0_4.rect_emb_val t y 1).trans ((congrArg (· + (y 1).val) (at4 t).2).trans (Nat.zero_add _)))
theorem emb5 (t : Fin cfg0.N) (y : S1024x512.Idx) (i : Fin 1024) (d : Fin 512) (h0 : (y 0).val = i.val) (h1 : (y 1).val = d.val) :
    (win0_5.rect t).emb y = ix2 i (colAt 2048 512 (by decide) d) :=
  ix2_ext _ _ _ ((win0_5.rect_emb_val t y 0).trans ((congrArg (· + (y 0).val) (at5 t).1).trans ((Nat.zero_add _).trans h0)))
    ((win0_5.rect_emb_val t y 1).trans ((congrArg (· + (y 1).val) (at5 t).2).trans (congrArg (2048 + ·) h1)))
theorem emb6 (t : Fin cfg0.N) (y : S512x1024.Idx) : (win0_6.rect t).emb y = ix2 (rowAt 512 t.val (le_t t) (y 0)) (y 1) :=
  ix2_ext _ _ _ ((win0_6.rect_emb_val t y 0).trans (congrArg (· + (y 0).val) (at6 t).1))
    ((win0_6.rect_emb_val t y 1).trans ((congrArg (· + (y 1).val) (at6 t).2).trans (Nat.zero_add _)))
theorem emb7 (t : Fin cfg0.N) (y : S1x1024.Idx) : (win0_7.rect t).emb y = ix2 (y 0) (y 1) :=
  ix2_ext _ _ _ ((win0_7.rect_emb_val t y 0).trans ((congrArg (· + (y 0).val) (at7 t).1).trans (Nat.zero_add _)))
    ((win0_7.rect_emb_val t y 1).trans ((congrArg (· + (y 1).val) (at7 t).2).trans (Nat.zero_add _)))
theorem emb8 (t : Fin cfg0.N) (y : S512x1024.Idx) : (win0_8.rect t).emb y = ix2 (rowAt 512 t.val (le_t t) (y 0)) (y 1) :=
  ix2_ext _ _ _ ((win0_8.rect_emb_val t y 0).trans (congrArg (· + (y 0).val) (at8 t).1))
    ((win0_8.rect_emb_val t y 1).trans ((congrArg (· + (y 1).val) (at8 t).2).trans (Nat.zero_add _)))
theorem emb9 (t : Fin cfg0.N) (y : S512x1024.Idx) : (win0_9.rect t).emb y = ix2 (rowAt 512 t.val (le_t t) (y 0)) (y 1) :=
  ix2_ext _ _ _ ((win0_9.rect_emb_val t y 0).trans (congrArg (· + (y 0).val) (at9 t).1))
    ((win0_9.rect_emb_val t y 1).trans ((congrArg (· + (y 1).val) (at9 t).2).trans (Nat.zero_add _)))
theorem emb10 (t : Fin cfg0.N) (y : S512x1024.Idx) : (win0_10.rect t).emb y = ix2 (rowAt 512 t.val (le_t t) (y 0)) (y 1) :=
  ix2_ext _ _ _ ((win0_10.rect_emb_val t y 0).trans (congrArg (· + (y 0).val) (at10 t).1))
    ((win0_10.rect_emb_val t y 1).trans ((congrArg (· + (y 1).val) (at10 t).2).trans (Nat.zero_add _)))
theorem emb11 (t : Fin cfg0.N) (y : S1x1024.Idx) : (win0_11.rect t).emb y = ix2 (y 0) (y 1) :=
  ix2_ext _ _ _ ((win0_11.rect_emb_val t y 0).trans ((congrArg (· + (y 0).val) (at11 t).1).trans (Nat.zero_add _)))
    ((win0_11.rect_emb_val t y 1).trans ((congrArg (· + (y 1).val) (at11 t).2).trans (Nat.zero_add _)))

abbrev blkA (c : Dev nD) (t : Fin cfg0.N) : FVec Ideal S512x1024 .bf16 := iblk m c 0 t
abbrev blkB (c : Dev nD) (t : Fin cfg0.N) : FVec Ideal S1024x1024 .bf16 := X0_1 m c t
abbrev blkA1 (c : Dev nD) (t : Fin cfg0.N) : FVec Ideal S512x1024 .bf16 := iblk m c 2 t
abbrev blkB1 (c : Dev nD) (t : Fin cfg0.N) : FVec Ideal S1024x1024 .bf16 := X0_3 m c t
abbrev blkA2 (c : Dev nD) (t : Fin cfg0.N) : FVec Ideal S512x512 .bf16 := iblk m c 4 t
abbrev blkB2 (c : Dev nD) (t : Fin cfg0.N) : FVec Ideal S1024x512 .bf16 := iblk m c 5 t
abbrev blkX (c : Dev nD) (t : Fin cfg0.N) : FVec Ideal S512x1024 .f32 := iblk m c 6 t
abbrev blkG (c : Dev nD) (t : Fin cfg0.N) : FVec Ideal S1x1024 .f32 := iblk m c 7 t
abbrev blkD (c : Dev nD) (t : Fin cfg0.N) : FVec Ideal S512x1024 .f32 := iblk m c 8 t

theorem blkA_apply (c : Dev nD) (t : Fin cfg0.N) (r : Fin 512) (d : Fin 1024) : blkA m c t (ix2 r d) = argA m c (ix2 (rowAt 512 t.val (le_t t) r) d) := by
  show V m c main_arg0 ((win0_0.rect t).emb (ix2 r d)) = _
  rw [V_main_arg0, emb0 t]
  rfl
theorem blkB_apply (c : Dev nD) (t : Fin cfg0.N) (i d : Fin 1024) : blkB m c t (ix2 i d) = argB m c (ix2 i (colAt 0 1024 (by decide) d)) := by
  show X0_1 m c t (ix2 i d) = _
  unfold X0_1 Pipeline.Window.fill
  rw [dif_pos (moved0_1 t (ix2 i d))]
  exact congrArg (argB m c) (emb1 t _ i d rfl rfl)
theorem blkA1_apply (c : Dev nD) (t : Fin cfg0.N) (r : Fin 512) (d : Fin 1024) : blkA1 m c t (ix2 r d) = argA1 m c (ix2 (rowAt 512 t.val (le_t t) r) d) := by
  show V m c main_arg1 ((win0_2.rect t).emb (ix2 r d)) = _
  rw [V_main_arg1, emb2 t]
  rfl
theorem blkB1_apply (c : Dev nD) (t : Fin cfg0.N) (i d : Fin 1024) : blkB1 m c t (ix2 i d) = argB m c (ix2 i (colAt 1024 1024 (by decide) d)) := by
  show X0_3 m c t (ix2 i d) = _
  unfold X0_3 Pipeline.Window.fill
  rw [dif_pos (moved0_3 t (ix2 i d))]
  exact congrArg (argB m c) (emb3 t _ i d rfl rfl)
theorem blkA2_apply (c : Dev nD) (t : Fin cfg0.N) (r : Fin 512) (d : Fin 512) : blkA2 m c t (ix2 r d) = argA2 m c (ix2 (rowAt 512 t.val (le_t t) r) d) := by
  show V m c main_arg2 ((win0_4.rect t).emb (ix2 r d)) = _
  rw [V_main_arg2, emb4 t]
  rfl
theorem blkB2_apply (c : Dev nD) (t : Fin cfg0.N) (i : Fin 1024) (d : Fin 512) : blkB2 m c t (ix2 i d) = argB m c (ix2 i (colAt 2048 512 (by decide) d)) :=
  congrArg (argB m c) (emb5 t (ix2 i d) i d rfl rfl)
theorem blkX_apply (c : Dev nD) (t : Fin cfg0.N) (r : Fin 512) (d : Fin 1024) : blkX m c t (ix2 r d) = argX m c (ix2 (rowAt 512 t.val (le_t t) r) d) := by
  show V m c main_arg4 ((win0_6.rect t).emb (ix2 r d)) = _
  rw [V_main_arg4, emb6 t]
  rfl
theorem blkG_apply (c : Dev nD) (t : Fin cfg0.N) (d : Fin 1024) : blkG m c t (ix2 0 d) = argG m c (ix2 0 d) := by
  show V m c main_arg5 ((win0_7.rect t).emb (ix2 0 d)) = _
  rw [V_main_arg5, emb7 t]
  rfl
theorem blkD_apply (c : Dev nD) (t : Fin cfg0.N) (r : Fin 512) (d : Fin 1024) : blkD m c t (ix2 r d) = argD m c (ix2 (rowAt 512 t.val (le_t t) r) d) := by
  show V m c main_arg6 ((win0_8.rect t).emb (ix2 r d)) = _
  rw [V_main_arg6, emb8 t]
  rfl

theorem prod_point (c : Dev nD) (t : Fin cfg0.N) (r : Fin 512) (i : Fin 1024) :
    k0_pay13 (F := Ideal) (blkA m c t) (blkB m c t) (blkA1 m c t) (blkB1 m c t) (blkA2 m c t) (blkB2 m c t) (ix2 r i) = prodRow (argA m c) (argA1 m c) (argA2 m c) (argB m c) (rowAt 512 t.val (le_t t) r) i := by
  refine (pay13_apply (blkA m c t) (blkB m c t) (blkA1 m c t) (blkB1 m c t) (blkA2 m c t) (blkB2 m c t) r i).trans ?_
  refine congrArg₂ (fun x y : EReal => x + y) (congrArg₂ (fun x y : EReal => x + y) (Finset.sum_congr rfl fun d _ => ?_) (Finset.sum_congr rfl fun d _ => ?_)) (Finset.sum_congr rfl fun d _ => ?_)
  · exact congrArg₂ (fun x y : EReal => x * y) (blkA_apply m c t r d) (blkB_apply m c t i d)
  · exact congrArg₂ (fun x y : EReal => x * y) (blkA1_apply m c t r d) (blkB1_apply m c t i d)
  · exact congrArg₂ (fun x y : EReal => x * y) (blkA2_apply m c t r d) (blkB2_apply m c t i d)

theorem gradRow_point (c : Dev nD) (t : Fin cfg0.N) (r : Fin 512) (j : Fin 1024) :
    gradRow (k0_pay13 (F := Ideal) (blkA m c t) (blkB m c t) (blkA1 m c t) (blkB1 m c t) (blkA2 m c t) (blkB2 m c t)) (blkX m c t) (blkD m c t) (blkG m c t) r j
      = gradIn (prodRow (argA m c) (argA1 m c) (argA2 m c) (argB m c)) (argX m c) (argG m c) (argD m c) (rowAt 512 t.val (le_t t) r) j := by
  unfold gradRow gradIn
  have e1 := funext fun i => prod_point m c t r i
  have e2 := funext fun i => blkG_apply m c t i
  have e3 := funext fun i => blkX_apply m c t r i
  have e4 := funext fun i => blkD_apply m c t r i
  rw [e1, e2, e3, e4]

theorem block_point (c : Dev nD) (t : Fin cfg0.N) (j : Fin 1024) :
    ∑ r : Fin 512, weightRow (fun i => k0_pay13 (F := Ideal) (blkA m c t) (blkB m c t) (blkA1 m c t) (blkB1 m c t) (blkA2 m c t) (blkB2 m c t) (ix2 r i)) (fun i => blkX m c t (ix2 r i)) j
      = blockAdd (prodRow (argA m c) (argA1 m c) (argA2 m c) (argB m c)) (argX m c) 512 j t.val := by
  unfold blockAdd
  rw [dif_pos (le_t t)]
  refine Finset.sum_congr rfl fun r _ => ?_
  unfold gradAdd
  have e1 := funext fun i => prod_point m c t r i
  have e3 := funext fun i => blkX_apply m c t r i
  rw [e1, e3]

theorem left9 (c : Dev nD) (t : Fin cfg0.N) (y : S512x1024.Idx) :
    (outsAt0 m c t.val t.isLt).1 y = gradIn (prodRow (argA m c) (argA1 m c) (argA2 m c) (argB m c)) (argX m c) (argG m c) (argD m c) (rowAt 512 t.val (le_t t) (y 0)) (y 1) := by
  refine Eq.trans ?_ (gradRow_point m c t (y 0) (y 1))
  by_cases h0 : t.val % 8 = 0
  · rw [outsAt0_A m c t h0]
    exact out9_A c _ _ _ _ _ _ _ _ _ _ _ _ _ _ _ _ _ _ _ _ _ _ _ _ _ _ _ _ _ _ _ _ _ _ _ _ _ y
  · rw [outsAt0_B m c t h0]
    exact out9_B c _ _ _ _ _ _ _ _ _ _ _ _ _ _ _ _ _ _ _ _ _ _ _ _ _ _ _ _ _ _ _ _ _ _ _ _ _ _ y
theorem left10 (c : Dev nD) (t : Fin cfg0.N) (y : S512x1024.Idx) :
    (outsAt0 m c t.val t.isLt).2.1 y = gradIn (prodRow (argA m c) (argA1 m c) (argA2 m c) (argB m c)) (argX m c) (argG m c) (argD m c) (rowAt 512 t.val (le_t t) (y 0)) (y 1) := by
  refine Eq.trans ?_ (gradRow_point m c t (y 0) (y 1))
  by_cases h0 : t.val % 8 = 0
  · rw [outsAt0_A m c t h0]
    exact out10_A c _ _ _ _ _ _ _ _ _ _ _ _ _ _ _ _ _ _ _ _ _ _ _ _ _ _ _ _ _ _ _ _ _ _ _ _ _ y
  · rw [outsAt0_B m c t h0]
    exact out10_B c _ _ _ _ _ _ _ _ _ _ _ _ _ _ _ _ _ _ _ _ _ _ _ _ _ _ _ _ _ _ _ _ _ _ _ _ _ _ y

/-- The weights' gradient after a point: the blocks of rows so far. -/
theorem left11 (c : Dev nD) (j : Fin 1024) (k : ℕ) : ∀ t : Fin cfg0.N, t.val = k →
    (outsAt0 m c t.val t.isLt).2.2 (ix2 0 j) = ∑ q ∈ Finset.range (k + 1), blockAdd (prodRow (argA m c) (argA1 m c) (argA2 m c) (argB m c)) (argX m c) 512 j q := by
  induction k with
  | zero =>
    intro t ht
    rw [outsAt0_A m c t (by omega)]
    dsimp only
    refine (out11_A c _ _ _ _ _ _ _ _ _ _ _ _ _ _ _ _ _ _ _ _ _ _ _ _ _ _ _ _ _ _ _ _ _ _ _ _ _ j).trans ?_
    rw [zero_add, Finset.sum_range_one]
    exact (block_point m c t j).trans (congrArg _ ht)
  | succ k IH =>
    intro t ht
    have hp : t.val - 1 < cfg0.N := Nat.lt_of_le_of_lt (Nat.sub_le _ _) t.isLt
    have h8 := lt8 t
    have ih := IH ⟨t.val - 1, hp⟩ (by show t.val - 1 = k; omega)
    rw [outsAt0_B m c t (by omega)]
    dsimp only
    refine (out11_B c _ _ _ _ _ _ _ _ _ _ _ _ _ _ _ _ _ _ _ _ _ _ _ _ _ _ _ _ _ _ _ _ _ _ _ _ _ _ j).trans ?_
    rw [Finset.sum_range_succ _ (k + 1)]
    exact congrArg₂ (fun x y : EReal => x + y) ih ((block_point m c t j).trans (congrArg _ ht))

/-! ## The arrays -/

theorem array9 (c : Dev nD) : (dats m 0 c).arrAt 9 cfg0.N = resX (prodRow (argA m c) (argA1 m c) (argA2 m c) (argB m c)) (argX m c) (argG m c) (argD m c) := by
  refine (dats m 0 c).arrAt_eq_of_cover 9 (resX (prodRow (argA m c) (argA1 m c) (argA2 m c) (argB m c)) (argX m c) (argG m c) (argD m c)) (fun t _ => ?_) fun i => ?_
  · funext y
    refine (congrFun (Cert.TdnIdeal.Value.flushed9 m c t) y).trans ((left9 m c t y).trans ?_)
    show _ = resX (prodRow (argA m c) (argA1 m c) (argA2 m c) (argB m c)) (argX m c) (argG m c) (argD m c) ((win0_9.rect t).emb y)
    rw [emb9]
    rfl
  · have h0 : (i 0).val < 4096 := (i 0).isLt
    have ht : (i 0).val / 512 < cfg0.N := Nat.lt_of_lt_of_eq (by omega) N_0.symm
    refine ⟨⟨_, ht⟩, flush0_9 _, ?_⟩
    refine mem_of_emb ((cfg0.win 9).blk ⟨_, ht⟩).view (ix2 ⟨(i 0).val % 512, Nat.mod_lt _ (by decide)⟩ (i 1)) i ?_
    refine (emb9 ⟨_, ht⟩ (ix2 ⟨(i 0).val % 512, Nat.mod_lt _ (by decide)⟩ (i 1))).trans ?_
    exact (ix2_ext _ _ _ (div_back 512 (i 0).val).symm rfl).symm

theorem array10 (c : Dev nD) : (dats m 0 c).arrAt 10 cfg0.N = resXb (prodRow (argA m c) (argA1 m c) (argA2 m c) (argB m c)) (argX m c) (argG m c) (argD m c) := by
  refine (dats m 0 c).arrAt_eq_of_cover 10 (resXb (prodRow (argA m c) (argA1 m c) (argA2 m c) (argB m c)) (argX m c) (argG m c) (argD m c)) (fun t _ => ?_) fun i => ?_
  · funext y
    refine (congrFun (Cert.TdnIdeal.Value.flushed10 m c t) y).trans ((left10 m c t y).trans ?_)
    show _ = resXb (prodRow (argA m c) (argA1 m c) (argA2 m c) (argB m c)) (argX m c) (argG m c) (argD m c) ((win0_10.rect t).emb y)
    rw [emb10]
    rfl
  · have h0 : (i 0).val < 4096 := (i 0).isLt
    have ht : (i 0).val / 512 < cfg0.N := Nat.lt_of_lt_of_eq (by omega) N_0.symm
    refine ⟨⟨_, ht⟩, flush0_10 _, ?_⟩
    refine mem_of_emb ((cfg0.win 10).blk ⟨_, ht⟩).view (ix2 ⟨(i 0).val % 512, Nat.mod_lt _ (by decide)⟩ (i 1)) i ?_
    refine (emb10 ⟨_, ht⟩ (ix2 ⟨(i 0).val % 512, Nat.mod_lt _ (by decide)⟩ (i 1))).trans ?_
    exact (ix2_ext _ _ _ (div_back 512 (i 0).val).symm rfl).symm

theorem array11 (c : Dev nD) : (dats m 0 c).arrAt 11 cfg0.N = resG (prodRow (argA m c) (argA1 m c) (argA2 m c) (argB m c)) (argX m c) := by
  refine (dats m 0 c).arrAt_eq_of_cover 11 (resG (prodRow (argA m c) (argA1 m c) (argA2 m c) (argB m c)) (argX m c)) (fun t hf => ?_) fun i => ?_
  · funext y
    have h7 := (flush0_11 t).mp hf
    have h8 := lt8 t
    have hy : y = ix2 0 (y 1) := ix2_ext _ _ _ (by have : (y 0).val < 1 := (y 0).isLt; show (y 0).val = 0; omega) rfl
    refine (congrFun (Cert.TdnIdeal.Value.flushed11 m c t) y).trans ?_
    show (outsAt0 m c t.val t.isLt).2.2 y = resG (prodRow (argA m c) (argA1 m c) (argA2 m c) (argB m c)) (argX m c) ((win0_11.rect t).emb y)
    rw [emb11]
    refine (congrArg (outsAt0 m c t.val t.isLt).2.2 hy).trans ((left11 m c (y 1) 7 t (by omega)).trans ?_)
    exact blocks_all _ _ 8 512 (by decide) _
  · have ht : 7 < cfg0.N := Nat.lt_of_lt_of_eq (by decide) N_0.symm
    refine ⟨⟨7, ht⟩, (flush0_11 _).mpr (by show 7 % 8 = 7; decide), ?_⟩
    exact mem_of_emb ((cfg0.win 11).blk ⟨7, ht⟩).view i i ((emb11 ⟨7, ht⟩ i).trans (eq_ix2 i).symm)

/-! ## The reference -/

section Ref
open Cert.TdnRefIdeal.Read

variable (A A1 : FVec Ideal S4096x1024 .bf16) (A2 : FVec Ideal S4096x512 .bf16) (B : FVec Ideal S1024x2560 .bf16) (X : FVec Ideal S4096x1024 .f32) (G : FVec Ideal S1x1024 .f32) (D : FVec Ideal S4096x1024 .f32)

/-- A column among the first 1024, among the next 1024, among the last 512: the gradient it comes from. -/
theorem cat_first (r : Fin 4096) (d : Fin 1024) : val_main_v2 (F := Ideal) A A1 A2 (ix2 r (colAt 0 1024 (by decide) d)) = A (ix2 r d) := by
  have hd := d.isLt
  unfold val_main_v2
  refine Eq.trans (concatenate_pair_apply_left (t := TdnRefIdeal.S4096x2560) (s₁ := TdnRefIdeal.S4096x2048) (s₂ := TdnRefIdeal.S4096x512) 1 _ _ _ (ix2 r (colAt 0 1024 (by decide) d)) rfl (ix2 (n0 := 4096) (n1 := 2048) r ⟨0 + d.val, by omega⟩) (fun b => match b with | ⟨0, _⟩ => rfl | ⟨1, _⟩ => rfl)) ?_
  unfold val_main_v1
  exact concatenate_pair_apply_left (t := TdnRefIdeal.S4096x2048) (s₁ := TdnRefIdeal.S4096x1024) (s₂ := TdnRefIdeal.S4096x1024) 1 _ _ _ (ix2 (n0 := 4096) (n1 := 2048) r ⟨0 + d.val, by omega⟩) rfl (ix2 (n0 := 4096) (n1 := 1024) r d) (fun b => match b with | ⟨0, _⟩ => rfl | ⟨1, _⟩ => (Nat.zero_add d.val).symm)
theorem cat_next (r : Fin 4096) (d : Fin 1024) : val_main_v2 (F := Ideal) A A1 A2 (ix2 r (colAt 1024 1024 (by decide) d)) = A1 (ix2 r d) := by
  have hd := d.isLt
  unfold val_main_v2
  refine Eq.trans (concatenate_pair_apply_left (t := TdnRefIdeal.S4096x2560) (s₁ := TdnRefIdeal.S4096x2048) (s₂ := TdnRefIdeal.S4096x512) 1 _ _ _ (ix2 r (colAt 1024 1024 (by decide) d)) rfl (ix2 (n0 := 4096) (n1 := 2048) r ⟨1024 + d.val, by omega⟩) (fun b => match b with | ⟨0, _⟩ => rfl | ⟨1, _⟩ => rfl)) ?_
  unfold val_main_v1
  exact concatenate_pair_apply_right (t := TdnRefIdeal.S4096x2048) (s₁ := TdnRefIdeal.S4096x1024) (s₂ := TdnRefIdeal.S4096x1024) 1 _ _ _ (ix2 (n0 := 4096) (n1 := 2048) r ⟨1024 + d.val, by omega⟩) rfl rfl (ix2 (n0 := 4096) (n1 := 1024) r d) (fun b hb => match b, hb with | ⟨0, _⟩, _ => rfl | ⟨1, _⟩, hb => absurd rfl hb) (Nat.add_comm d.val 1024)
theorem cat_last (r : Fin 4096) (d : Fin 512) : val_main_v2 (F := Ideal) A A1 A2 (ix2 r (colAt 2048 512 (by decide) d)) = A2 (ix2 r d) := by
  unfold val_main_v2
  exact concatenate_pair_apply_right (t := TdnRefIdeal.S4096x2560) (s₁ := TdnRefIdeal.S4096x2048) (s₂ := TdnRefIdeal.S4096x512) 1 _ _ _ (ix2 r (colAt 2048 512 (by decide) d)) rfl rfl (ix2 (n0 := 4096) (n1 := 512) r d) (fun b hb => match b, hb with | ⟨0, _⟩, _ => rfl | ⟨1, _⟩, hb => absurd rfl hb) (Nat.add_comm d.val 2048)

/-- A sum over the 2560 columns, by the three pieces. -/
theorem sum_cols (f : Fin 2560 → EReal) :
    ∑ d : Fin 2560, f d = ((∑ d : Fin 1024, f (colAt 0 1024 (by decide) d)) + ∑ d : Fin 1024, f (colAt 1024 1024 (by decide) d)) + ∑ d : Fin 512, f (colAt 2048 512 (by decide) d) := by
  refine Eq.trans (Fin.sum_univ_add (a := 2048) (b := 512) f) (congrArg₂ (fun x y : EReal => x + y) ?_ rfl)
  refine Eq.trans (Fin.sum_univ_add (a := 1024) (b := 1024) (fun d => f (Fin.castAdd 512 d))) (congrArg₂ (fun x y : EReal => x + y) ?_ rfl)
  exact Finset.sum_congr rfl fun d _ => congrArg f (Fin.ext (Nat.zero_add d.val).symm)

theorem ref20_apply (r : Fin 4096) (j : Fin 1024) : val_main_v20 (F := Ideal) A A1 A2 B (ix2 r j) = prodRow A A1 A2 B r j := by
  refine Eq.trans (val_main_v20_apply A A1 A2 B (ix2 r j)) ?_
  refine Eq.trans (Finset.sum_congr rfl fun k _ => congrArg₂ (fun x y : EReal => x * y) (congrArg (val_main_v2 (F := Ideal) A A1 A2) (eq_ix2 _)) (congrArg B (eq_ix2 _)))
    (Eq.trans (sum_cols (fun k => val_main_v2 (F := Ideal) A A1 A2 (ix2 r k) * B (ix2 j k))) ?_)
  refine congrArg₂ (fun x y : EReal => x + y) (congrArg₂ (fun x y : EReal => x + y) (Finset.sum_congr rfl fun d _ => ?_) (Finset.sum_congr rfl fun d _ => ?_)) (Finset.sum_congr rfl fun d _ => ?_)
  · exact congrArg (· * _) (cat_first A A1 A2 r d)
  · exact congrArg (· * _) (cat_next A A1 A2 r d)
  · exact congrArg (· * _) (cat_last A A1 A2 r d)

theorem ref10_apply (r : Fin 4096) : val_main_v10 (F := Ideal) X (ix2 r 0) = (∑ i : Fin 1024, X (ix2 r i) * X (ix2 r i)) * cInv + cEps := by
  refine congrArg₂ (fun x y : EReal => x + y) ?_ (val_main_v9_apply (F := Ideal) _)
  refine Eq.trans (congrArg₂ Ideal.div ?_ (val_main_v7_apply (F := Ideal) _)) (div_len _)
  refine Eq.trans (val_main_v6_apply (F := Ideal) X (ix2 r 0)) (Eq.trans (val_main_v5_apply X _) ?_)
  refine Eq.trans (congrArg (· + _) Ideal.ofBits_zero_f32) (Eq.trans (zero_add _) ?_)
  refine Finset.sum_congr rfl fun d _ => ?_
  have e : X (idx_main_v5 (idx_main_v6 (ix2 r 0)) d) = X (ix2 r d) := congrArg X (eq_ix2 _)
  exact congrArg₂ (fun x y : EReal => x * y) e e

theorem ref11_apply (r : Fin 4096) : val_main_v11 (F := Ideal) X (ix2 r 0) = slopeOf (fun i => X (ix2 r i)) :=
  congrArg Ideal.rsqrt (ref10_apply X r)

theorem ref14_apply (r : Fin 4096) : val_main_v14 (F := Ideal) X (ix2 r 0)
    = cHalf * Ideal.div (slopeOf (fun i => X (ix2 r i))) ((∑ i : Fin 1024, X (ix2 r i) * X (ix2 r i)) * cInv + cEps) :=
  congrArg₂ (fun x y : EReal => x * y) (val_main_v13_apply (F := Ideal) _) (congrArg₂ Ideal.div (ref11_apply X r) (ref10_apply X r))

theorem ref25_apply (r : Fin 4096) (j : Fin 1024) : val_main_v25 (F := Ideal) A A1 A2 B G (ix2 r j) = prodRow A A1 A2 B r j * G (ix2 0 j) :=
  congrArg₂ (fun x y : EReal => x * y) (ref20_apply A A1 A2 B r j) (Eq.trans (val_main_v24_apply (F := Ideal) G (ix2 r j)) (congrArg G (eq_ix2 _)))

theorem ref28_apply (r : Fin 4096) : val_main_v28 (F := Ideal) A A1 A2 B X G (ix2 r 0) = ∑ i : Fin 1024, X (ix2 r i) * (prodRow A A1 A2 B r i * G (ix2 0 i)) := by
  refine Eq.trans (val_main_v28_apply (F := Ideal) A A1 A2 B X G (ix2 r 0)) (Eq.trans (val_main_v27_apply A A1 A2 B X G _) ?_)
  refine Eq.trans (congrArg (· + _) Ideal.ofBits_zero_f32) (Eq.trans (zero_add _) ?_)
  refine Finset.sum_congr rfl fun d _ => ?_
  have e : idx_main_v27 (idx_main_v28 (ix2 r 0)) d = ix2 (n0 := 4096) (n1 := 1024) r d := funext fun a => match a with
    | ⟨0, _⟩ => Fin.ext (by show r.val * 1 + 0 = r.val; omega)
    | ⟨1, _⟩ => rfl
  refine Eq.trans (congrArg (val_main_v26 (F := Ideal) A A1 A2 B X G) e) ?_
  exact congrArg (fun y : EReal => X (ix2 r d) * y) (ref25_apply A A1 A2 B G r d)

theorem ref34_apply (r : Fin 4096) : val_main_v34 (F := Ideal) A A1 A2 B X G (ix2 r 0) = slopePart (prodRow A A1 A2 B r) (fun i => G (ix2 0 i)) (fun i => X (ix2 r i)) :=
  congrArg₂ Ideal.div (congrArg₂ (fun x y : EReal => x * y) (ref28_apply A A1 A2 B X G r) (ref14_apply X r)) (val_main_v33_apply (F := Ideal) _)

theorem ref36_apply (r : Fin 4096) (j : Fin 1024) : val_main_v36 (F := Ideal) A A1 A2 B X G (ix2 r j) = slopePart (prodRow A A1 A2 B r) (fun i => G (ix2 0 i)) (fun i => X (ix2 r i)) := by
  refine Eq.trans (val_main_v36_apply (F := Ideal) A A1 A2 B X G (ix2 r j)) (Eq.trans (val_main_v35_apply A A1 A2 B X G _) ?_)
  refine Eq.trans (congrArg (· + _) Ideal.ofBits_zero_f32) (Eq.trans (zero_add _) ?_)
  refine Eq.trans (Fin.sum_univ_one _) ?_
  exact Eq.trans (congrArg (val_main_v34 (F := Ideal) A A1 A2 B X G) (eq_ix2 _)) (ref34_apply A A1 A2 B X G r)

theorem ref40_apply (r : Fin 4096) (j : Fin 1024) : val_main_v40 (F := Ideal) A A1 A2 B X G D (ix2 r j) = gradIn (prodRow A A1 A2 B) X G D r j := by
  refine Eq.trans ?_ (inRow_eq (prodRow A A1 A2 B r) (fun i => G (ix2 0 i)) (fun i => X (ix2 r i)) (fun i => D (ix2 r i)) j).symm
  have e30 : val_main_v29 (F := Ideal) X (ix2 r j) = slopeOf (fun i => X (ix2 r i)) :=
    Eq.trans (val_main_v29_apply (F := Ideal) X (ix2 r j)) (Eq.trans (congrArg (val_main_v11 (F := Ideal) X) (eq_ix2 _)) (ref11_apply X r))
  refine congrArg₂ (fun x y : EReal => x + y) (congrArg₂ (fun x y : EReal => x + y) (congrArg (fun y : EReal => D (ix2 r j) + y) ?_) ?_) ?_
  · exact congrArg₂ (fun x y : EReal => x * y) (ref25_apply A A1 A2 B G r j) e30
  · exact congrArg (fun y : EReal => X (ix2 r j) * y) (ref36_apply A A1 A2 B X G r j)
  · exact congrArg (fun y : EReal => y * X (ix2 r j)) (ref36_apply A A1 A2 B X G r j)

theorem ref40 : val_main_v40 (F := Ideal) A A1 A2 B X G D = resX (prodRow A A1 A2 B) X G D := by
  funext i
  exact Eq.trans (congrArg (val_main_v40 (F := Ideal) A A1 A2 B X G D) (eq_ix2 i)) (ref40_apply A A1 A2 B X G D (i 0) (i 1))

theorem ref41 : val_main_v41 (F := Ideal) A A1 A2 B X G D = resXb (prodRow A A1 A2 B) X G D := by
  funext i
  exact congrFun (ref40 A A1 A2 B X G D) i

theorem ref23 : val_main_v23 (F := Ideal) A A1 A2 B X = resG (prodRow A A1 A2 B) X := by
  funext i
  refine Eq.trans (val_main_v23_apply (F := Ideal) A A1 A2 B X i) (Eq.trans (val_main_v22_apply A A1 A2 B X _) ?_)
  refine Eq.trans (congrArg (· + _) Ideal.ofBits_zero_f32) (Eq.trans (zero_add _) ?_)
  show _ = ∑ r : Fin 4096, gradAdd (prodRow A A1 A2 B) X r (i 1)
  refine Finset.sum_congr rfl fun r _ => ?_
  have e : val_main_v21 (F := Ideal) A A1 A2 B X (idx_main_v22 (idx_main_v23 i) r) = val_main_v21 (F := Ideal) A A1 A2 B X (ix2 r (i 1)) :=
    congrArg (val_main_v21 (F := Ideal) A A1 A2 B X) (funext fun a => match a with
      | ⟨0, _⟩ => rfl
      | ⟨1, _⟩ => Fin.ext (col_idx i))
  refine Eq.trans e ?_
  refine Eq.trans ?_ (mul_comm (G := EReal) _ _)
  refine congrArg₂ (fun x y : EReal => x * y) (congrArg (fun y : EReal => X (ix2 r (i 1)) * y) ?_) (ref20_apply A A1 A2 B r (i 1))
  exact Eq.trans (val_main_v15_apply (F := Ideal) X (ix2 r (i 1))) (Eq.trans (congrArg (val_main_v11 (F := Ideal) X) (eq_ix2 _)) (ref11_apply X r))

end Ref

/-! ## The claims -/

/-- `Tdn` runs, keeps its arguments and ends quiescent. -/
theorem frame_kernel : Cert.quiescent_Tdn := fun m ρ _ => Cert.Tdn.Gen.frame m ρ
/-- The same of its idealization. -/
theorem frame_ideal : Cert.quiescent_TdnIdeal := fun m ρ _ => Cert.TdnIdeal.Gen.frame m ρ
/-- The reference runs, keeps its arguments and has no semaphores. -/
theorem frame_ref : Cert.quiescent_TdnRefIdeal := fun m ρ _ =>
  (θ_run Cert.TdnRefIdeal.defs _ _).mono (fun r h => ⟨fun c => (h c).2.2.2, sem_eq_zero_of_no_sems (by decide) r.2⟩)
    (Cert.TdnRefIdeal.Value.run (F := Ideal) m ρ)

/-- The kernel and the reference compute the same gradients of the input and of the norm's weights. -/
theorem value : Cert.algebraic_TdnIdeal_TdnRefIdeal := by
  intro m ρ m' ρ' _ hag
  refine ⟨fun c => resX (prodRow (argA m c) (argA1 m c) (argA2 m c) (argB m c)) (argX m c) (argG m c) (argD m c), fun c => resXb (prodRow (argA m c) (argA1 m c) (argA2 m c) (argB m c)) (argX m c) (argG m c) (argD m c),
    fun c => resG (prodRow (argA m c) (argA1 m c) (argA2 m c) (argB m c)) (argX m c), ?_, ?_⟩
  · exact (θ_run Cert.TdnIdeal.defs _ _).mono
      (fun r h c => ⟨(h c).1.trans (array9 m c), (h c).2.1.trans (array10 m c), (h c).2.2.1.trans (array11 m c), (h c).2.2.2⟩)
      (Cert.TdnIdeal.Value.run_blocks m ρ)
  · refine (θ_run Cert.TdnRefIdeal.defs _ _).mono (fun r h c => ?_) (Cert.TdnRefIdeal.Value.run (F := Ideal) m' ρ')
    obtain ⟨e0, e1, e2, e3, e4, e5, e6⟩ := hag c
    refine ⟨(h c).1.trans ?_, (h c).2.1.trans ?_, (h c).2.2.1.trans ?_, (h c).2.2.2⟩
    · refine (Cert.TdnRefIdeal.Read.val_main_v40_eq _ _).trans ?_
      rw [e0, e1, e2, e3, e4, e5, e6]
      exact ref40 (argA m c) (argA1 m c) (argA2 m c) (argB m c) (argX m c) (argG m c) (argD m c)
    · refine (Cert.TdnRefIdeal.Read.val_main_v41_eq _ _).trans ?_
      rw [e0, e1, e2, e3, e4, e5, e6]
      exact ref41 (argA m c) (argA1 m c) (argA2 m c) (argB m c) (argX m c) (argG m c) (argD m c)
    · refine (Cert.TdnRefIdeal.Read.val_main_v23_eq _ _ _ _ _).trans ?_
      rw [e0, e1, e2, e3, e4]
      exact ref23 (argA m c) (argA1 m c) (argA2 m c) (argB m c) (argX m c)

end Cert.XTdn

end
-- ==== Proof.AttnForward.lean ====
/- Cross-attention, forward: the kernel's four heads and the reference compute the same sums of values weighed by the softmax. -/
module

public import proofs.«01_k».proof.Defs
public import proofs.«01_k».proof.Proof.Gen.Afw.Frame
public import proofs.«01_k».proof.Proof.Gen.AfwIdeal.Value
public import proofs.«01_k».proof.Proof.Gen.AfwRefIdeal.Read
public import proofs.«01_k».proof.Proof.Arrays
public import proofs.«01_k».proof.Proof.RefValue
public import proofs.«01_k».proof.Proof.Places
public import proofs.«01_k».proof.Proof.Products
public import Idealize.ShloMosaic.Lib.Quiescent

@[expose] public section

noncomputable section

namespace Cert.XAfw

open Cert.AfwIdeal Cert.AfwIdeal.Gen Cert.XPlaces Cert.XProducts Idealize.ShloMosaic Idealize.ShloMosaic.ValueIdx Idealize.SL.Sem
open Cert.XAttn (headOf lane cols scores prob score row)

/-- The attention's output: a row's values weighed by its head's softmax. -/
def res {n : ℕ} (Q : FVec Ideal (⟨2, ![n, 1024]⟩ : Shape) .bf16) (K V : FVec Ideal S256x1024 .bf16) : FVec Ideal (⟨2, ![n, 1024]⟩ : Shape) .bf16 :=
  fun i => ∑ j : Fin 256, prob (scores Q K (headOf (i 1)) (i 0)) j * V (ix2 j (i 1))

/-! ## One head -/

section AnyFloat
variable {F : FTy → Type} [FloatOps F] (q : Vec F S1024x256 .bf16) (k v : Vec F S256x256 .bf16)

/-- The other heads store what the first stores, of their own columns. -/
theorem head1 : k0_pay4 (k0_pay3 q k) v = k0_pay2 q k v := rfl
theorem head2 : k0_pay5 q k v = k0_pay2 q k v := rfl
theorem head3 : k0_pay1 (k0_pay6 q k) (k0_pay7 q k) v = k0_pay2 q k v := rfl
end AnyFloat

/-- A head's stored block in terms of its probabilities. -/
theorem pay_eq (q : FVec Ideal S1024x256 .bf16) (k v : FVec Ideal S256x256 .bf16) :
    k0_pay2 (F := Ideal) q k v = truncf .bf16 (matmul dot_S1024x256_S256x256_S1024x256_1_0_0_1_n_n none
      (truncf .bf16 (Cert.AttnIdeal.Gen.k0_pay8 (F := Ideal) q k) bitsLt_bf16_f32) v (constant S1024x256 .f32 0x00000000#32)) bitsLt_bf16_f32 := rfl

/-- A head's stored block is its columns of the output. -/
theorem piece (Q : FVec Ideal S1024x1024 .bf16) (K V : FVec Ideal S256x1024 .bf16) (h : Fin 4) (x : S1024x256.Idx) :
    k0_pay2 (F := Ideal) (cols (n := 1024) (e := .bf16) Q h) (cols (n := 256) (e := .bf16) K h) (cols (n := 256) (e := .bf16) V h) x
      = res (n := 1024) Q K V (ix2 (x 0) (lane h (x 1))) := by
  obtain ⟨r, d, rfl⟩ : ∃ r d, x = ix2 r d := ⟨x 0, x 1, eq_ix2 x⟩
  rw [pay_eq]
  refine (Cert.XAttn.nn_apply _ _ r d).trans ?_
  show _ = ∑ j : Fin 256, prob (scores (n := 1024) Q K (headOf (lane h d)) r) j * V (ix2 j (lane h d))
  rw [Cert.XAttn.headOf_lane]
  exact Finset.sum_congr rfl fun j _ => congrArg₂ (fun x y : EReal => x * y) (Cert.XAttn.pay8_apply _ _ r j) rfl

theorem piece_of {Q : FVec Ideal S1024x1024 .bf16} {K V : FVec Ideal S256x1024 .bf16} (h : Fin 4) {q : FVec Ideal S1024x256 .bf16} {k v : FVec Ideal S256x256 .bf16}
    (hq : q = cols (n := 1024) (e := .bf16) Q h) (hk : k = cols (n := 256) (e := .bf16) K h) (hv : v = cols (n := 256) (e := .bf16) V h) (x : S1024x256.Idx) :
    k0_pay2 (F := Ideal) q k v x = res (n := 1024) Q K V (ix2 (x 0) (lane h (x 1))) := by
  subst hq hk hv
  exact piece Q K V h x

/-- What a point stores. -/
theorem out_apply (Q : FVec Ideal S1024x1024 .bf16) (K V : FVec Ideal S256x1024 .bf16) (y : S1024x1024.Idx) :
    out0_3 (F := Ideal) Q K V y = res (n := 1024) Q K V y := by
  unfold out0_3
  rw [head1, head2, head3]
  exact Cert.XAttn.canon_four (n := 1024) (e := .bf16) (res (n := 1024) Q K V) [] _ _ _ _ _ _ _ _
    (piece_of 0 (Cert.XAttn.ld_cols (n := 1024) (e := .bf16) Q 0 _ Cert.XAttn.off0 _) (Cert.XAttn.ld_cols (n := 256) (e := .bf16) K 0 _ Cert.XAttn.off0 _) (Cert.XAttn.ld_cols (n := 256) (e := .bf16) V 0 _ Cert.XAttn.off0 _))
    (piece_of 1 (Cert.XAttn.ld_cols (n := 1024) (e := .bf16) Q 1 _ Cert.XAttn.off1 _) (Cert.XAttn.ld_cols (n := 256) (e := .bf16) K 1 _ Cert.XAttn.off1 _) (Cert.XAttn.ld_cols (n := 256) (e := .bf16) V 1 _ Cert.XAttn.off1 _))
    (piece_of 2 (Cert.XAttn.ld_cols (n := 1024) (e := .bf16) Q 2 _ Cert.XAttn.off2 _) (Cert.XAttn.ld_cols (n := 256) (e := .bf16) K 2 _ Cert.XAttn.off2 _) (Cert.XAttn.ld_cols (n := 256) (e := .bf16) V 2 _ Cert.XAttn.off2 _))
    (piece_of 3 (Cert.XAttn.ld_cols (n := 1024) (e := .bf16) Q 3 _ Cert.XAttn.off3 _) (Cert.XAttn.ld_cols (n := 256) (e := .bf16) K 3 _ Cert.XAttn.off3 _) (Cert.XAttn.ld_cols (n := 256) (e := .bf16) V 3 _ Cert.XAttn.off3 _)) y

/-! ## The array -/

variable (m : (ℓ : Loc nD τ sig) → Buf (Elt Ideal) ℓ)

abbrev argQ (c : Dev nD) : FVec Ideal S4096x1024 .bf16 := m ((c.tc : Thread nD τ).loc main_arg0)
abbrev argK (c : Dev nD) : FVec Ideal S256x1024 .bf16 := m ((c.tc : Thread nD τ).loc main_arg1)
abbrev argV (c : Dev nD) : FVec Ideal S256x1024 .bf16 := m ((c.tc : Thread nD τ).loc main_arg2)

/-- The grid's point as a block number. -/
abbrev blockOf (t : Fin cfg0.N) : Fin 4 := ⟨t.val, t.isLt.trans_eq N_0⟩

theorem at0 : ∀ t : Fin grid0.N, win0_0.index t 0 * win0_0.size 0 = 1024 * t.val ∧ win0_0.index t 1 * win0_0.size 1 = 0 := by decide +kernel
theorem at1 : ∀ t : Fin grid0.N, win0_1.index t 0 * win0_1.size 0 = 0 ∧ win0_1.index t 1 * win0_1.size 1 = 0 := by decide +kernel
theorem at2 : ∀ t : Fin grid0.N, win0_2.index t 0 * win0_2.size 0 = 0 ∧ win0_2.index t 1 * win0_2.size 1 = 0 := by decide +kernel
theorem at3 : ∀ t : Fin grid0.N, win0_3.index t 0 * win0_3.size 0 = 1024 * t.val ∧ win0_3.index t 1 * win0_3.size 1 = 0 := by decide +kernel

theorem emb0 (t : Fin cfg0.N) (y : S1024x1024.Idx) : (win0_0.rect t).emb y = ix2 (row (blockOf t) (y 0)) (y 1) :=
  ix2_ext _ _ _ ((win0_0.rect_emb_val t y 0).trans (congrArg (· + (y 0).val) (at0 t).1))
    ((win0_0.rect_emb_val t y 1).trans ((congrArg (· + (y 1).val) (at0 t).2).trans (Nat.zero_add _)))
theorem emb1 (t : Fin cfg0.N) (y : S256x1024.Idx) : (win0_1.rect t).emb y = ix2 (y 0) (y 1) :=
  ix2_ext _ _ _ ((win0_1.rect_emb_val t y 0).trans ((congrArg (· + (y 0).val) (at1 t).1).trans (Nat.zero_add _)))
    ((win0_1.rect_emb_val t y 1).trans ((congrArg (· + (y 1).val) (at1 t).2).trans (Nat.zero_add _)))
theorem emb2 (t : Fin cfg0.N) (y : S256x1024.Idx) : (win0_2.rect t).emb y = ix2 (y 0) (y 1) :=
  ix2_ext _ _ _ ((win0_2.rect_emb_val t y 0).trans ((congrArg (· + (y 0).val) (at2 t).1).trans (Nat.zero_add _)))
    ((win0_2.rect_emb_val t y 1).trans ((congrArg (· + (y 1).val) (at2 t).2).trans (Nat.zero_add _)))
theorem emb3 (t : Fin cfg0.N) (y : S1024x1024.Idx) : (win0_3.rect t).emb y = ix2 (row (blockOf t) (y 0)) (y 1) :=
  ix2_ext _ _ _ ((win0_3.rect_emb_val t y 0).trans (congrArg (· + (y 0).val) (at3 t).1))
    ((win0_3.rect_emb_val t y 1).trans ((congrArg (· + (y 1).val) (at3 t).2).trans (Nat.zero_add _)))

theorem iblk0_eq (c : Dev nD) (t : Fin cfg0.N) : iblk m c 0 t = Cert.XAttn.rows (argQ m c) (blockOf t) := by
  funext y
  show V m c main_arg0 ((win0_0.rect t).emb y) = _
  rw [V_main_arg0, emb0]
  rfl
theorem iblk1_eq (c : Dev nD) (t : Fin cfg0.N) : iblk m c 1 t = argK m c := by
  funext y
  show V m c main_arg1 ((win0_1.rect t).emb y) = _
  rw [V_main_arg1, emb1]
  exact congrArg (argK m c) (eq_ix2 y).symm
theorem iblk2_eq (c : Dev nD) (t : Fin cfg0.N) : iblk m c 2 t = argV m c := by
  funext y
  show V m c main_arg2 ((win0_2.rect t).emb y) = _
  rw [V_main_arg2, emb2]
  exact congrArg (argV m c) (eq_ix2 y).symm

theorem array (c : Dev nD) : (dats m 0 c).arrAt 3 cfg0.N = res (n := 4096) (argQ m c) (argK m c) (argV m c) := by
  refine (dats m 0 c).arrAt_eq_of_cover 3 (res (n := 4096) (argQ m c) (argK m c) (argV m c)) (fun t hf => ?_) fun i => ?_
  · funext y
    refine (congrFun (Cert.AfwIdeal.Value.flushed3 m c t) y).trans ?_
    rw [iblk0_eq, iblk1_eq, iblk2_eq]
    refine (out_apply _ _ _ y).trans ?_
    show _ = res (n := 4096) (argQ m c) (argK m c) (argV m c) ((win0_3.rect t).emb y)
    rw [emb3]
    rfl
  · have h0 : (i 0).val < 4096 := (i 0).isLt
    have ht : (i 0).val / 1024 < cfg0.N := Nat.lt_of_lt_of_eq (by omega) N_0.symm
    refine ⟨⟨_, ht⟩, flush0_3 _, ?_⟩
    refine mem_of_emb ((cfg0.win 3).blk ⟨_, ht⟩).view (ix2 ⟨(i 0).val % 1024, Nat.mod_lt _ (by decide)⟩ (i 1)) i ?_
    refine (emb3 ⟨_, ht⟩ (ix2 ⟨(i 0).val % 1024, Nat.mod_lt _ (by decide)⟩ (i 1))).trans (ix2_ext i _ _ ?_ rfl).symm
    show (i 0).val = 1024 * ((i 0).val / 1024) + (i 0).val % 1024
    omega

/-! ## The reference -/

open Cert.AfwRefIdeal.Read in
/-- The reference's output. Its probabilities are those the gradient's reference forms. -/
theorem ref (Q : FVec Ideal S4096x1024 .bf16) (K V : FVec Ideal S256x1024 .bf16) : val_main_v23 (F := Ideal) Q K V = res (n := 4096) Q K V := by
  funext y
  refine (val_main_v23_apply (F := Ideal) Q K V y).trans ?_
  refine (val_main_v22_apply (F := Ideal) Q K V y).trans ((val_main_v21_apply (F := Ideal) Q K V _).trans ?_)
  have e : idx_main_v21 (idx_main_v22 y) = ix4 (0 : Fin 1) (headOf (y 1)) (Cert.XAttn.Ref.inHead (y 1)) (y 0) := by
    have h0 : (y 0).val < 4096 := (y 0).isLt
    have h1 : (y 1).val < 1024 := (y 1).isLt
    funext a
    match a with
    | ⟨0, _⟩ => rfl
    | ⟨1, _⟩ => exact Fin.ext (by show ((y 0).val * 1024 + (y 1).val) / 256 % 4 = (y 1).val / 256; omega)
    | ⟨2, _⟩ => exact Fin.ext (by show ((y 0).val * 1024 + (y 1).val) % 256 = (y 1).val % 256; omega)
    | ⟨3, _⟩ => exact Fin.ext (by show ((y 0).val * 1024 + (y 1).val) / 1024 % 4096 = (y 0).val; omega)
  refine (congrArg (val_main_v20 (F := Ideal) Q K V) e).trans ((val_main_v20_apply Q K V _).trans ?_)
  refine Finset.sum_congr rfl fun j _ => (mul_comm (G := EReal) _ _).trans (congrArg₂ (fun x y : EReal => x * y) ?_ ?_)
  · exact (congrArg (val_main_v19 (F := Ideal) Q K) (eq_ix4 _)).trans (Cert.XAttn.Ref.prob4 Q K _ (y 0) j)
  · refine (congrArg (val_main_v5 (F := Ideal) V) (eq_ix4 _)).trans ((Cert.XAttn.Ref.v4 V j _ _).trans ?_)
    exact congrArg (fun z => V (ix2 j z)) (Cert.XAttn.Ref.lane_headOf (y 1))

/-- The call runs, keeps its arguments and ends quiescent. -/
theorem frame_kernel : Cert.quiescent_Afw := fun m ρ _ => Cert.Afw.Gen.frame m ρ
/-- The same of its idealization. -/
theorem frame_ideal : Cert.quiescent_AfwIdeal := fun m ρ _ => Cert.AfwIdeal.Gen.frame m ρ
/-- The reference runs, keeps its arguments and has no semaphores. -/
theorem frame_ref : Cert.quiescent_AfwRefIdeal := fun m ρ _ =>
  (θ_run Cert.AfwRefIdeal.defs _ _).mono (fun r h => ⟨fun c => (h c).2, sem_eq_zero_of_no_sems (by decide) r.2⟩)
    (Cert.AfwRefIdeal.Value.run (F := Ideal) m ρ)

/-- The kernel and the reference compute the same output. -/
theorem value : Cert.algebraic_AfwIdeal_AfwRefIdeal := by
  intro m ρ m' ρ' _ hag
  refine ⟨fun c => res (n := 4096) (argQ m c) (argK m c) (argV m c), ?_, ?_⟩
  · exact (θ_run Cert.AfwIdeal.defs _ _).mono (fun r h c => ⟨(h c).1.trans (array m c), (h c).2⟩) (Cert.AfwIdeal.Value.run_blocks m ρ)
  · refine (θ_run Cert.AfwRefIdeal.defs _ _).mono (fun r h c => ?_) (Cert.AfwRefIdeal.Value.run (F := Ideal) m' ρ')
    obtain ⟨e0, e1, e2⟩ := hag c
    refine ⟨(h c).1.trans ?_, (h c).2⟩
    refine (Cert.AfwRefIdeal.Read.val_main_v23_eq _ _ _).trans ?_
    rw [e0, e1, e2]
    exact ref (argQ m c) (argK m c) (argV m c)

end Cert.XAfw

end
-- ==== Proof.PoolGrad.lean ====
/- The gradient of the third piece of the two mixers' input weights: a running sum over four blocks of rows, and the derivative of the product. -/
module

public import proofs.«01_k».proof.Defs
public import proofs.«01_k».proof.Proof.Gen.Tdp.Frame
public import proofs.«01_k».proof.Proof.Gen.TdpIdeal.Value
public import proofs.«01_k».proof.Proof.Gen.TdpRefIdeal.Read
public import proofs.«01_k».proof.Proof.Places
public import proofs.«01_k».proof.Proof.Products
public import Idealize.ShloMosaic.Lib.Quiescent

@[expose] public section

noncomputable section

namespace Cert.XTdp

open Cert.TdpIdeal Cert.TdpIdeal.Gen Cert.XPlaces Cert.XProducts Idealize.ShloMosaic Idealize.ShloMosaic.ValueIdx Idealize.SL.Sem

/-- The weights' gradient: columns against columns. -/
def res (A : FVec Ideal S4096x1024 .bf16) (B : FVec Ideal S4096x512 .bf16) : FVec Ideal S1024x512 .bf16 := fun i => ∑ d : Fin 4096, A (ix2 d (i 0)) * B (ix2 d (i 1))
/-- One row's part of the gradient. -/
def part (A : FVec Ideal S4096x1024 .bf16) (B : FVec Ideal S4096x512 .bf16) (y : S1024x512.Idx) (d : ℕ) : EReal :=
  A (ix2 (Fin.ofNat 4096 d) (y 0)) * B (ix2 (Fin.ofNat 4096 d) (y 1))

theorem res_parts (A : FVec Ideal S4096x1024 .bf16) (B : FVec Ideal S4096x512 .bf16) (y : S1024x512.Idx) :
    res A B y = ∑ k ∈ Finset.range 4, ∑ d : Fin 1024, part A B y (1024 * k + d.val) := by
  refine Eq.trans ?_ (sum_blocks 4 1024 (part A B y))
  show ∑ d : Fin 4096, A (ix2 d (y 0)) * B (ix2 d (y 1)) = ∑ d : Fin 4096, part A B y d.val
  refine Finset.sum_congr rfl fun d _ => ?_
  have e : Fin.ofNat 4096 d.val = d := Fin.ext (Nat.mod_eq_of_lt d.isLt)
  unfold part
  rw [e]

/-- What one block of rows gives to the product. -/
def block (a : FVec Ideal S1024x1024 .bf16) (b : FVec Ideal S1024x512 .bf16) (y : S1024x512.Idx) : EReal := ∑ d : Fin 1024, a (ix2 d (y 0)) * b (ix2 d (y 1))

theorem zero_apply (y : S1024x512.Idx) : k0_pay1 (F := Ideal) y = 0 := by
  unfold k0_pay1
  rw [shapeCast_self]
  exact Ideal.ofBits_zero_f32
theorem add_apply (x : FVec Ideal S1024x512 .f32) (a : FVec Ideal S1024x1024 .bf16) (b : FVec Ideal S1024x512 .bf16) (y : S1024x512.Idx) :
    k0_pay2 (F := Ideal) x a b y = x y + block a b y := by
  unfold k0_pay2
  rw [shapeCast_self]
  exact congrArg (x y + ·) (sum_of dot_S1024x1024_S1024x512_S1024x512_0_0_1_1_n_n 1024 rfl rfl a b y _ _
    (fun d => ix2_ext _ d (y 0) rfl rfl) (fun d => ix2_ext _ d (y 1) rfl rfl))

variable (m : (ℓ : Loc nD τ sig) → Buf (Elt Ideal) ℓ)

theorem first (c : Dev nD) (t : Fin cfg0.N) (h0 : t.val % 4 = 0) (h1 : ¬t.val % 4 = 3) (y : S1024x512.Idx) :
    (outsAt0 m c t.val t.isLt).2 y = block (iblk m c 0 t) (iblk m c 1 t) y := by
  rw [outsAt0_A m c t h0 h1]
  dsimp only
  unfold sout0_A_0
  rw [View.read_writes_eq_canon _ _ _ (by intro y; apply scover0_A_0)]
  unfold kernelRun0_A
  dsimp only
  sl_unfold_words
  rw [View.canon_cons_unit_zero (S := S1024x512) zero2, View.readCov_unit_zero (S := S1024x512) _ zero2]
  simp only [View.readAt_eq_ld, (hs0_0 t).read_unread, (hs0_1 t).read_unread, View.ld_unit_zero (S := S1024x1024) zero2, View.ld_unit_zero (S := S1024x512) zero2]
  rw [add_apply, zero_apply, zero_add]

theorem next (c : Dev nD) (t : Fin cfg0.N) (h0 : ¬t.val % 4 = 0) (h1 : ¬t.val % 4 = 3) (y : S1024x512.Idx) :
    (outsAt0 m c t.val t.isLt).2 y = (outsAt0 m c (t.val - 1) (Nat.lt_of_le_of_lt (Nat.sub_le _ _) t.isLt)).2 y
      + block (iblk m c 0 t) (iblk m c 1 t) y := by
  rw [outsAt0_B m c t h0 h1]
  dsimp only
  unfold sout0_B_0
  rw [View.read_writes_eq_canon _ _ _ (by intro y; apply scover0_B_0)]
  unfold kernelRun0_B
  dsimp only
  sl_unfold_words
  rw [View.canon_cons_unit_zero (S := S1024x512) zero2]
  simp only [View.readAt_eq_ld, (hs0_0 t).read_unread, (hs0_1 t).read_unread, (Memref.isWhole_whole _).read_unread, View.ld_unit_zero (S := S1024x1024) zero2, View.ld_unit_zero (S := S1024x512) zero2]
  exact add_apply _ _ _ y

theorem last (c : Dev nD) (t : Fin cfg0.N) (h0 : ¬t.val % 4 = 0) (h1 : t.val % 4 = 3) (y : S1024x512.Idx) :
    (outsAt0 m c t.val t.isLt).1 y = (outsAt0 m c (t.val - 1) (Nat.lt_of_le_of_lt (Nat.sub_le _ _) t.isLt)).2 y
      + block (iblk m c 0 t) (iblk m c 1 t) y := by
  rw [outsAt0_C m c t h0 h1]
  dsimp only
  unfold out0_C_2
  rw [View.read_writes_eq_canon _ _ _ (by intro y; apply cover0_C_2)]
  unfold kernelRun0_C
  dsimp only
  sl_unfold_words
  rw [View.canon_cons_unit_zero (S := S1024x512) zero2, View.readCov_unit_zero (S := S1024x512) _ zero2]
  simp only [View.readAt_eq_ld, (hs0_0 t).read_unread, (hs0_1 t).read_unread, (Memref.isWhole_whole _).read_unread, View.ld_unit_zero (S := S1024x1024) zero2, View.ld_unit_zero (S := S1024x512) zero2]
  exact add_apply _ _ _ y

abbrev argA (c : Dev nD) : FVec Ideal S4096x1024 .bf16 := m ((c.tc : Thread nD τ).loc main_arg0)
abbrev argB (c : Dev nD) : FVec Ideal S4096x512 .bf16 := m ((c.tc : Thread nD τ).loc main_arg1)

theorem lt4 (t : Fin cfg0.N) : t.val < 4 := t.isLt.trans_eq N_0
theorem at0 : ∀ t : Fin grid0.N, win0_0.index t 0 * win0_0.size 0 = 1024 * t.val ∧ win0_0.index t 1 * win0_0.size 1 = 0 := by decide +kernel
theorem at1 : ∀ t : Fin grid0.N, win0_1.index t 0 * win0_1.size 0 = 1024 * t.val ∧ win0_1.index t 1 * win0_1.size 1 = 0 := by decide +kernel
theorem at2 : ∀ t : Fin grid0.N, win0_2.index t 0 * win0_2.size 0 = 0 ∧ win0_2.index t 1 * win0_2.size 1 = 0 := by decide +kernel

theorem row_val (t : Fin cfg0.N) (d : Fin 1024) : 1024 * t.val + d.val = (Fin.ofNat 4096 (1024 * t.val + d.val)).val :=
  (Nat.mod_eq_of_lt (by have := lt4 t; omega)).symm
theorem emb0 (t : Fin cfg0.N) (y : S1024x1024.Idx) : (win0_0.rect t).emb y = ix2 (Fin.ofNat 4096 (1024 * t.val + (y 0).val)) (y 1) :=
  ix2_ext _ _ _ ((win0_0.rect_emb_val t y 0).trans ((congrArg (· + (y 0).val) (at0 t).1).trans (row_val t (y 0))))
    ((win0_0.rect_emb_val t y 1).trans ((congrArg (· + (y 1).val) (at0 t).2).trans (Nat.zero_add _)))
theorem emb1 (t : Fin cfg0.N) (y : S1024x512.Idx) : (win0_1.rect t).emb y = ix2 (Fin.ofNat 4096 (1024 * t.val + (y 0).val)) (y 1) :=
  ix2_ext _ _ _ ((win0_1.rect_emb_val t y 0).trans ((congrArg (· + (y 0).val) (at1 t).1).trans (row_val t (y 0))))
    ((win0_1.rect_emb_val t y 1).trans ((congrArg (· + (y 1).val) (at1 t).2).trans (Nat.zero_add _)))
theorem emb2 (t : Fin cfg0.N) (y : S1024x512.Idx) : (win0_2.rect t).emb y = ix2 (y 0) (y 1) :=
  ix2_ext _ _ _ ((win0_2.rect_emb_val t y 0).trans ((congrArg (· + (y 0).val) (at2 t).1).trans (Nat.zero_add _)))
    ((win0_2.rect_emb_val t y 1).trans ((congrArg (· + (y 1).val) (at2 t).2).trans (Nat.zero_add _)))

theorem block_eq (c : Dev nD) (t : Fin cfg0.N) (y : S1024x512.Idx) :
    block (iblk m c 0 t) (iblk m c 1 t) y = ∑ d : Fin 1024, part (argA m c) (argB m c) y (1024 * t.val + d.val) := by
  unfold block part
  refine Finset.sum_congr rfl fun d _ => congrArg₂ (fun x y : EReal => x * y) ?_ ?_
  · show V m c main_arg0 ((win0_0.rect t).emb (ix2 d (y 0))) = _
    rw [V_main_arg0, emb0]
    rfl
  · show V m c main_arg1 ((win0_1.rect t).emb (ix2 d (y 1))) = _
    rw [V_main_arg1, emb1]
    rfl

/-- Before the last point the running sum holds the blocks so far. -/
theorem upto (c : Dev nD) (y : S1024x512.Idx) (k : ℕ) : ∀ t : Fin cfg0.N, t.val = k → k < 3 →
    (outsAt0 m c t.val t.isLt).2 y = ∑ q ∈ Finset.range (k + 1), ∑ d : Fin 1024, part (argA m c) (argB m c) y (1024 * q + d.val) := by
  induction k with
  | zero =>
    intro t ht _
    refine (first m c t (by omega) (by omega) y).trans ((block_eq m c t y).trans ?_)
    rw [Finset.sum_range_one, ht]
  | succ k ih =>
    intro t ht hk
    refine (next m c t (by omega) (by omega) y).trans ?_
    refine Eq.trans (congrArg₂ (fun x z : EReal => x + z) ?_ ((block_eq m c t y).trans (by rw [ht]))) (Finset.sum_range_succ _ _).symm
    exact ih ⟨t.val - 1, Nat.lt_of_le_of_lt (Nat.sub_le _ _) t.isLt⟩ (by show t.val - 1 = k; omega) (by omega)

theorem whole (c : Dev nD) (t : Fin cfg0.N) (h : t.val % 4 = 3) (y : S1024x512.Idx) :
    (outsAt0 m c t.val t.isLt).1 y = res (argA m c) (argB m c) y := by
  have ht : t.val = 3 := by have := lt4 t; omega
  refine (last m c t (by omega) h y).trans ?_
  rw [res_parts]
  refine Eq.trans (congrArg₂ (fun x z : EReal => x + z) ?_ ((block_eq m c t y).trans (by rw [ht]))) (Finset.sum_range_succ _ _).symm
  exact upto m c y 2 ⟨t.val - 1, Nat.lt_of_le_of_lt (Nat.sub_le _ _) t.isLt⟩ (by show t.val - 1 = 2; omega) (by omega)

theorem array (c : Dev nD) : (dats m 0 c).arrAt 2 cfg0.N = res (argA m c) (argB m c) := by
  refine (dats m 0 c).arrAt_eq_of_cover 2 (res (argA m c) (argB m c)) (fun t hf => ?_) fun i => ?_
  · funext y
    refine (congrFun (Cert.TdpIdeal.Value.flushed2 m c t) y).trans ((whole m c t ((flush0_2 t).mp hf) y).trans ?_)
    show _ = res (argA m c) (argB m c) ((win0_2.rect t).emb y)
    rw [emb2]
    exact congrArg (res (argA m c) (argB m c)) (eq_ix2 y)
  · have ht : 3 < cfg0.N := Nat.lt_of_lt_of_eq (by omega) N_0.symm
    exact ⟨⟨3, ht⟩, (flush0_2 _).mpr rfl, mem_of_emb ((cfg0.win 2).blk ⟨3, ht⟩).view i i ((emb2 ⟨3, ht⟩ i).trans (eq_ix2 i).symm)⟩

open Cert.TdpRefIdeal.Read in
/-- The derivative of the product. -/
theorem ref (A : FVec Ideal S4096x1024 .bf16) (B : FVec Ideal S4096x512 .bf16) : val_main_v6 (F := Ideal) A B = res A B := by
  funext i
  refine Eq.trans (val_main_v6_apply (F := Ideal) A B i) ?_
  show val_main_v5 (F := Ideal) A B i = _
  rw [val_main_v5_apply, val_main_v4_apply]
  show _ = ∑ d : Fin 4096, A (ix2 d (i 0)) * B (ix2 d (i 1))
  refine Finset.sum_congr rfl fun r _ => ?_
  refine (mul_comm (G := EReal) _ _).trans ?_
  refine congrArg₂ (· * ·) (congrArg A (eq_ix2 _)) (congrArg B (eq_ix2 _))

/-- The call runs, keeps its arguments and ends quiescent. -/
theorem frame_kernel : Cert.quiescent_Tdp := fun m ρ _ => Cert.Tdp.Gen.frame m ρ
/-- The same of its idealization. -/
theorem frame_ideal : Cert.quiescent_TdpIdeal := fun m ρ _ => Cert.TdpIdeal.Gen.frame m ρ
/-- The reference runs, keeps its arguments and has no semaphores. -/
theorem frame_ref : Cert.quiescent_TdpRefIdeal := fun m ρ _ =>
  (θ_run Cert.TdpRefIdeal.defs _ _).mono (fun r h => ⟨fun c => (h c).2, sem_eq_zero_of_no_sems (by decide) r.2⟩)
    (Cert.TdpRefIdeal.Value.run (F := Ideal) m ρ)

/-- The kernel and the derivative of the product compute the same gradient. -/
theorem value : Cert.algebraic_TdpIdeal_TdpRefIdeal := by
  intro m ρ m' ρ' _ hag
  refine ⟨fun c => res (argA m c) (argB m c), ?_, ?_⟩
  · exact (θ_run Cert.TdpIdeal.defs _ _).mono (fun r h c => ⟨(h c).1.trans (array m c), (h c).2⟩) (Cert.TdpIdeal.Value.run_blocks m ρ)
  · refine (θ_run Cert.TdpRefIdeal.defs _ _).mono (fun r h c => ?_) (Cert.TdpRefIdeal.Value.run (F := Ideal) m' ρ')
    obtain ⟨e0, e1⟩ := hag c
    refine ⟨(h c).1.trans ?_, (h c).2⟩
    refine (Cert.TdpRefIdeal.Read.val_main_v6_eq _ _).trans ?_
    rw [e0, e1]
    exact ref (argA m c) (argB m c)

end Cert.XTdp

end
-- ==== Proof.MemoryProducts.lean ====
/- The products over the memory rows: the projections to keys and values, their weights' gradients and the memory's gradients.
   Each call has one block, so what it stores is the whole result. -/
module

public import proofs.«01_k».proof.Defs
public import proofs.«01_k».proof.Proof.Gen.Mk.Frame
public import proofs.«01_k».proof.Proof.Gen.MkIdeal.Value
public import proofs.«01_k».proof.Proof.Gen.MkRefIdeal.Read
public import proofs.«01_k».proof.Proof.Gen.Mdw.Frame
public import proofs.«01_k».proof.Proof.Gen.MdwIdeal.Value
public import proofs.«01_k».proof.Proof.Gen.MdwRefIdeal.Read
public import proofs.«01_k».proof.Proof.Gen.Mdk.Frame
public import proofs.«01_k».proof.Proof.Gen.MdkIdeal.Value
public import proofs.«01_k».proof.Proof.Gen.MdkRefIdeal.Read
public import proofs.«01_k».proof.Proof.Gen.Mdv.Frame
public import proofs.«01_k».proof.Proof.Gen.MdvIdeal.Value
public import proofs.«01_k».proof.Proof.Gen.MdvRefIdeal.Read
public import proofs.«01_k».proof.Proof.Places
public import proofs.«01_k».proof.Proof.Products
public import Idealize.ShloMosaic.Lib.Quiescent

@[expose] public section

noncomputable section

namespace Cert.XMk

open Cert.MkIdeal Cert.MkIdeal.Gen Cert.XPlaces Cert.XProducts Idealize.ShloMosaic Idealize.ShloMosaic.ValueIdx Idealize.SL.Sem

/-- Memory rows against weight columns. -/
def res (A : FVec Ideal S256x1024 .bf16) (B : FVec Ideal S1024x1024 .bf16) : FVec Ideal S256x1024 .bf16 :=
  fun i => ∑ d : Fin 1024, A (ix2 (i 0) d) * B (ix2 d (i 1))

/-- What the one block's store leaves. -/
theorem stored (A : FVec Ideal S256x1024 .bf16) (B : FVec Ideal S1024x1024 .bf16) : k0_pay1 (F := Ideal) A B = res A B :=
  funext fun i => sum_of dot_S256x1024_S1024x1024_S256x1024_1_0_0_1_n_n 1024 rfl rfl A B i _ _
    (fun d => ix2_ext _ (i 0) d rfl rfl) (fun d => ix2_ext _ d (i 1) rfl rfl)

open Cert.MkRefIdeal.Read in
/-- The reference's result. -/
theorem ref (A : FVec Ideal S256x1024 .bf16) (B : FVec Ideal S1024x1024 .bf16) : val_main_v3 (F := Ideal) A B = res A B := by
  funext i
  refine Eq.trans (val_main_v3_apply (F := Ideal) A B i) (Eq.trans (val_main_v2_apply A B i) ?_)
  show _ = ∑ d : Fin 1024, A (ix2 (i 0) d) * B (ix2 d (i 1))
  exact Finset.sum_congr rfl fun r _ => congrArg₂ (fun x y : EReal => x * y) (congrArg A (eq_ix2 _)) (congrArg B (eq_ix2 _))

variable (m : (ℓ : Loc nD τ sig) → Buf (Elt Ideal) ℓ)

abbrev argA (c : Dev nD) : FVec Ideal S256x1024 .bf16 := m ((c.tc : Thread nD τ).loc main_arg0)
abbrev argB (c : Dev nD) : FVec Ideal S1024x1024 .bf16 := m ((c.tc : Thread nD τ).loc main_arg1)

/-- The call runs, keeps its arguments and ends quiescent. -/
theorem frame_kernel : Cert.quiescent_Mk := fun m ρ _ => Cert.Mk.Gen.frame m ρ
/-- The same of its idealization. -/
theorem frame_ideal : Cert.quiescent_MkIdeal := fun m ρ _ => Cert.MkIdeal.Gen.frame m ρ
/-- The reference runs, keeps its arguments and has no semaphores. -/
theorem frame_ref : Cert.quiescent_MkRefIdeal := fun m ρ _ =>
  (θ_run Cert.MkRefIdeal.defs _ _).mono (fun r h => ⟨fun c => (h c).2, sem_eq_zero_of_no_sems (by decide) r.2⟩)
    (Cert.MkRefIdeal.Value.run (F := Ideal) m ρ)

/-- The kernel and the reference compute the same array. -/
theorem value : Cert.algebraic_MkIdeal_MkRefIdeal := by
  intro m ρ m' ρ' _ hag
  refine ⟨fun c => res (argA m c) (argB m c), ?_, ?_⟩
  · exact (θ_run Cert.MkIdeal.defs _ _).mono (fun r h c => ⟨(h c).1.trans (stored (argA m c) (argB m c)), (h c).2⟩) (Cert.MkIdeal.Value.run m ρ)
  · refine (θ_run Cert.MkRefIdeal.defs _ _).mono (fun r h c => ?_) (Cert.MkRefIdeal.Value.run (F := Ideal) m' ρ')
    obtain ⟨e0, e1⟩ := hag c
    refine ⟨(h c).1.trans ?_, (h c).2⟩
    refine (Cert.MkRefIdeal.Read.val_main_v3_eq _ _).trans ?_
    rw [e0, e1]
    exact ref (argA m c) (argB m c)

end Cert.XMk

namespace Cert.XMdw

open Cert.MdwIdeal Cert.MdwIdeal.Gen Cert.XPlaces Cert.XProducts Idealize.ShloMosaic Idealize.ShloMosaic.ValueIdx Idealize.SL.Sem

/-- Columns of the memory rows against columns of their gradient. -/
def res (A : FVec Ideal S256x1024 .bf16) (B : FVec Ideal S256x1024 .bf16) : FVec Ideal S1024x1024 .bf16 :=
  fun i => ∑ d : Fin 256, A (ix2 d (i 0)) * B (ix2 d (i 1))

/-- What the one block's store leaves. -/
theorem stored (A : FVec Ideal S256x1024 .bf16) (B : FVec Ideal S256x1024 .bf16) : k0_pay1 (F := Ideal) A B = res A B :=
  funext fun i => sum_of dot_S256x1024_S256x1024_S1024x1024_0_0_1_1_n_n 256 rfl rfl A B i _ _
    (fun d => ix2_ext _ d (i 0) rfl rfl) (fun d => ix2_ext _ d (i 1) rfl rfl)

open Cert.MdwRefIdeal.Read in
/-- The reference's result. -/
theorem ref (A : FVec Ideal S256x1024 .bf16) (B : FVec Ideal S256x1024 .bf16) : val_main_v6 (F := Ideal) A B = res A B := by
  funext i
  refine Eq.trans (val_main_v6_apply (F := Ideal) A B i) ?_
  show val_main_v5 (F := Ideal) A B i = _
  rw [val_main_v5_apply, val_main_v4_apply]
  show _ = ∑ d : Fin 256, A (ix2 d (i 0)) * B (ix2 d (i 1))
  refine Finset.sum_congr rfl fun r _ => ?_
  refine (mul_comm (G := EReal) _ _).trans ?_
  exact congrArg₂ (fun x y : EReal => x * y) (congrArg A (eq_ix2 _)) (congrArg B (eq_ix2 _))

variable (m : (ℓ : Loc nD τ sig) → Buf (Elt Ideal) ℓ)

abbrev argA (c : Dev nD) : FVec Ideal S256x1024 .bf16 := m ((c.tc : Thread nD τ).loc main_arg0)
abbrev argB (c : Dev nD) : FVec Ideal S256x1024 .bf16 := m ((c.tc : Thread nD τ).loc main_arg1)

/-- The call runs, keeps its arguments and ends quiescent. -/
theorem frame_kernel : Cert.quiescent_Mdw := fun m ρ _ => Cert.Mdw.Gen.frame m ρ
/-- The same of its idealization. -/
theorem frame_ideal : Cert.quiescent_MdwIdeal := fun m ρ _ => Cert.MdwIdeal.Gen.frame m ρ
/-- The reference runs, keeps its arguments and has no semaphores. -/
theorem frame_ref : Cert.quiescent_MdwRefIdeal := fun m ρ _ =>
  (θ_run Cert.MdwRefIdeal.defs _ _).mono (fun r h => ⟨fun c => (h c).2, sem_eq_zero_of_no_sems (by decide) r.2⟩)
    (Cert.MdwRefIdeal.Value.run (F := Ideal) m ρ)

/-- The kernel and the reference compute the same array. -/
theorem value : Cert.algebraic_MdwIdeal_MdwRefIdeal := by
  intro m ρ m' ρ' _ hag
  refine ⟨fun c => res (argA m c) (argB m c), ?_, ?_⟩
  · exact (θ_run Cert.MdwIdeal.defs _ _).mono (fun r h c => ⟨(h c).1.trans (stored (argA m c) (argB m c)), (h c).2⟩) (Cert.MdwIdeal.Value.run m ρ)
  · refine (θ_run Cert.MdwRefIdeal.defs _ _).mono (fun r h c => ?_) (Cert.MdwRefIdeal.Value.run (F := Ideal) m' ρ')
    obtain ⟨e0, e1⟩ := hag c
    refine ⟨(h c).1.trans ?_, (h c).2⟩
    refine (Cert.MdwRefIdeal.Read.val_main_v6_eq _ _).trans ?_
    rw [e0, e1]
    exact ref (argA m c) (argB m c)

end Cert.XMdw

namespace Cert.XMdk

open Cert.MdkIdeal Cert.MdkIdeal.Gen Cert.XPlaces Cert.XProducts Idealize.ShloMosaic Idealize.ShloMosaic.ValueIdx Idealize.SL.Sem

/-- Rows of a gradient against rows of the weights. -/
def res (A : FVec Ideal S256x1024 .bf16) (B : FVec Ideal S1024x1024 .bf16) : FVec Ideal S256x1024 .f32 :=
  fun i => ∑ d : Fin 1024, A (ix2 (i 0) d) * B (ix2 (i 1) d)

/-- What the one block's store leaves. -/
theorem stored (A : FVec Ideal S256x1024 .bf16) (B : FVec Ideal S1024x1024 .bf16) : k0_pay1 (F := Ideal) A B = res A B :=
  funext fun i => sum_of dot_S256x1024_S1024x1024_S256x1024_1_1_0_0_n_n 1024 rfl rfl A B i _ _
    (fun d => ix2_ext _ (i 0) d rfl rfl) (fun d => ix2_ext _ (i 1) d rfl rfl)

open Cert.MdkRefIdeal.Read in
/-- The reference's result. -/
theorem ref (A : FVec Ideal S256x1024 .bf16) (B : FVec Ideal S1024x1024 .bf16) : val_main_v4 (F := Ideal) A B = res A B := by
  funext i
  refine Eq.trans (val_main_v4_apply A B i) ?_
  show _ = ∑ d : Fin 1024, A (ix2 (i 0) d) * B (ix2 (i 1) d)
  exact Finset.sum_congr rfl fun r _ => congrArg₂ (fun x y : EReal => x * y) (congrArg A (eq_ix2 _)) (congrArg B (eq_ix2 _))

variable (m : (ℓ : Loc nD τ sig) → Buf (Elt Ideal) ℓ)

abbrev argA (c : Dev nD) : FVec Ideal S256x1024 .bf16 := m ((c.tc : Thread nD τ).loc main_arg0)
abbrev argB (c : Dev nD) : FVec Ideal S1024x1024 .bf16 := m ((c.tc : Thread nD τ).loc main_arg1)

/-- The call runs, keeps its arguments and ends quiescent. -/
theorem frame_kernel : Cert.quiescent_Mdk := fun m ρ _ => Cert.Mdk.Gen.frame m ρ
/-- The same of its idealization. -/
theorem frame_ideal : Cert.quiescent_MdkIdeal := fun m ρ _ => Cert.MdkIdeal.Gen.frame m ρ
/-- The reference runs, keeps its arguments and has no semaphores. -/
theorem frame_ref : Cert.quiescent_MdkRefIdeal := fun m ρ _ =>
  (θ_run Cert.MdkRefIdeal.defs _ _).mono (fun r h => ⟨fun c => (h c).2, sem_eq_zero_of_no_sems (by decide) r.2⟩)
    (Cert.MdkRefIdeal.Value.run (F := Ideal) m ρ)

/-- The kernel and the reference compute the same array. -/
theorem value : Cert.algebraic_MdkIdeal_MdkRefIdeal := by
  intro m ρ m' ρ' _ hag
  refine ⟨fun c => res (argA m c) (argB m c), ?_, ?_⟩
  · exact (θ_run Cert.MdkIdeal.defs _ _).mono (fun r h c => ⟨(h c).1.trans (stored (argA m c) (argB m c)), (h c).2⟩) (Cert.MdkIdeal.Value.run m ρ)
  · refine (θ_run Cert.MdkRefIdeal.defs _ _).mono (fun r h c => ?_) (Cert.MdkRefIdeal.Value.run (F := Ideal) m' ρ')
    obtain ⟨e0, e1⟩ := hag c
    refine ⟨(h c).1.trans ?_, (h c).2⟩
    refine (Cert.MdkRefIdeal.Read.val_main_v4_eq _ _).trans ?_
    rw [e0, e1]
    exact ref (argA m c) (argB m c)

end Cert.XMdk

namespace Cert.XMdv

open Cert.MdvIdeal Cert.MdvIdeal.Gen Cert.XPlaces Cert.XProducts Idealize.ShloMosaic Idealize.ShloMosaic.ValueIdx Idealize.SL.Sem

/-- Rows of a gradient against rows of the weights, and the gradient from the keys. -/
def res (A : FVec Ideal S256x1024 .bf16) (B : FVec Ideal S1024x1024 .bf16) (X : FVec Ideal S256x1024 .f32) : FVec Ideal S256x1024 .f32 :=
  fun i => (∑ d : Fin 1024, A (ix2 (i 0) d) * B (ix2 (i 1) d)) + X (ix2 (i 0) (i 1))

/-- What the one block's store leaves. -/
theorem stored (A : FVec Ideal S256x1024 .bf16) (B : FVec Ideal S1024x1024 .bf16) (X : FVec Ideal S256x1024 .f32) : k0_pay1 (F := Ideal) A B X = res A B X :=
  funext fun i => congrArg₂ (fun p q : EReal => p + q) (sum_of dot_S256x1024_S1024x1024_S256x1024_1_1_0_0_n_n 1024 rfl rfl A B i _ _
    (fun d => ix2_ext _ (i 0) d rfl rfl) (fun d => ix2_ext _ (i 1) d rfl rfl)) (congrArg X (eq_ix2 i))

open Cert.MdvRefIdeal.Read in
/-- The reference's result. -/
theorem ref (A : FVec Ideal S256x1024 .bf16) (B : FVec Ideal S1024x1024 .bf16) (X : FVec Ideal S256x1024 .f32) : val_main_v5 (F := Ideal) A B X = res A B X := by
  funext i
  refine Eq.trans (val_main_v5_apply (F := Ideal) A B X i) ?_
  refine (add_comm (G := EReal) _ _).trans ?_
  refine congrArg₂ (fun p q : EReal => p + q) (Eq.trans (val_main_v4_apply A B i) ?_) (congrArg X (eq_ix2 i))
  exact Finset.sum_congr rfl fun r _ => congrArg₂ (fun x y : EReal => x * y) (congrArg A (eq_ix2 _)) (congrArg B (eq_ix2 _))

variable (m : (ℓ : Loc nD τ sig) → Buf (Elt Ideal) ℓ)

abbrev argA (c : Dev nD) : FVec Ideal S256x1024 .bf16 := m ((c.tc : Thread nD τ).loc main_arg0)
abbrev argB (c : Dev nD) : FVec Ideal S1024x1024 .bf16 := m ((c.tc : Thread nD τ).loc main_arg1)
abbrev argX (c : Dev nD) : FVec Ideal S256x1024 .f32 := m ((c.tc : Thread nD τ).loc main_arg2)

/-- The call runs, keeps its arguments and ends quiescent. -/
theorem frame_kernel : Cert.quiescent_Mdv := fun m ρ _ => Cert.Mdv.Gen.frame m ρ
/-- The same of its idealization. -/
theorem frame_ideal : Cert.quiescent_MdvIdeal := fun m ρ _ => Cert.MdvIdeal.Gen.frame m ρ
/-- The reference runs, keeps its arguments and has no semaphores. -/
theorem frame_ref : Cert.quiescent_MdvRefIdeal := fun m ρ _ =>
  (θ_run Cert.MdvRefIdeal.defs _ _).mono (fun r h => ⟨fun c => (h c).2, sem_eq_zero_of_no_sems (by decide) r.2⟩)
    (Cert.MdvRefIdeal.Value.run (F := Ideal) m ρ)

/-- The kernel and the reference compute the same array. -/
theorem value : Cert.algebraic_MdvIdeal_MdvRefIdeal := by
  intro m ρ m' ρ' _ hag
  refine ⟨fun c => res (argA m c) (argB m c) (argX m c), ?_, ?_⟩
  · exact (θ_run Cert.MdvIdeal.defs _ _).mono (fun r h c => ⟨(h c).1.trans (stored (argA m c) (argB m c) (argX m c)), (h c).2⟩) (Cert.MdvIdeal.Value.run m ρ)
  · refine (θ_run Cert.MdvRefIdeal.defs _ _).mono (fun r h c => ?_) (Cert.MdvRefIdeal.Value.run (F := Ideal) m' ρ')
    obtain ⟨e0, e1, e2⟩ := hag c
    refine ⟨(h c).1.trans ?_, (h c).2⟩
    refine (Cert.MdvRefIdeal.Read.val_main_v5_eq _ _ _).trans ?_
    rw [e0, e1, e2]
    exact ref (argA m c) (argB m c) (argX m c)

end Cert.XMdv

end
-- ==== Proof.SoloNorms.lean ====
/- The norms that stand alone: the layer input's rows normed, the memory's rows normed, and the gradient of the memory norm's weights. -/
module

public import proofs.«01_k».proof.Proof.Gen.Nx.Frame
public import proofs.«01_k».proof.Proof.Gen.NxIdeal.Value
public import proofs.«01_k».proof.Proof.Gen.NxRefIdeal.Read
public import proofs.«01_k».proof.Proof.Gen.Nm.Frame
public import proofs.«01_k».proof.Proof.Gen.NmIdeal.Value
public import proofs.«01_k».proof.Proof.Gen.NmRefIdeal.Read
public import proofs.«01_k».proof.Proof.Gen.Nb.Frame
public import proofs.«01_k».proof.Proof.Gen.NbIdeal.Value
public import proofs.«01_k».proof.Proof.Gen.NbRefIdeal.Read
public import proofs.«01_k».proof.Proof.DownNorm
public import proofs.«01_k».proof.Proof.Products
public import proofs.«01_k».proof.Defs

@[expose] public section

noncomputable section

/-! ## Sums and spreads over blocks of any number of rows -/

namespace Cert.XSolo

open Idealize.ShloMosaic Idealize.ShloMosaic.ValueIdx

variable {n : ℕ}

/-- A row's sum kept as a column. -/
theorem rowSum_of (x : FVec Ideal ⟨2, ![n, 1024]⟩ .f32) (h : Shape.Reduces ⟨2, ![n, 1024]⟩ [1] ⟨1, ![n]⟩)
    (hs : Shape.ShapeCasts ⟨1, ![n]⟩ ⟨2, ![n, 1]⟩) (a : Fin n) :
    shapeCast ⟨2, ![n, 1]⟩ (multiReduction .add [1] ⟨1, ![n]⟩ x 0x00000000#32 h (.inl rfl) rfl) hs (ix2 a 0) = ∑ j : Fin 1024, x (ix2 a j) := by
  refine Eq.trans (shapeCast_apply _ hs (ix2 a 0) (ix1 a) (by
    rewrite [Shape.rowMajor_val_two, Shape.rowMajor_val_one]; show a.val = a.val * 1 + 0; omega)) ?_
  refine Eq.trans (Ideal.multiReduction_add_single _ _ _ _ _ _) ?_
  refine Finset.sum_congr rfl fun j _ => congrArg x ?_
  funext ax
  match ax with
  | ⟨0, _⟩ => rfl
  | ⟨1, _⟩ => rfl

/-- A column's sum kept as a row. -/
theorem colSum_of {k : ℕ} (x : FVec Ideal ⟨2, ![n, k]⟩ .f32) (h : Shape.Reduces ⟨2, ![n, k]⟩ [0] ⟨1, ![k]⟩)
    (hs : Shape.ShapeCasts ⟨1, ![k]⟩ ⟨2, ![1, k]⟩) (j : Fin k) :
    shapeCast ⟨2, ![1, k]⟩ (multiReduction .add [0] ⟨1, ![k]⟩ x 0x00000000#32 h (.inl rfl) rfl) hs (ix2 0 j) = ∑ a : Fin n, x (ix2 a j) := by
  refine Eq.trans (shapeCast_apply _ hs (ix2 0 j) (ix1 j) (by
    rewrite [Shape.rowMajor_val_two, Shape.rowMajor_val_one]; show j.val = 0 * k + j.val; omega)) ?_
  refine Eq.trans (Ideal.multiReduction_add_single _ _ _ _ _ _) ?_
  refine Finset.sum_congr rfl fun a _ => congrArg x ?_
  funext ax
  match ax with
  | ⟨0, _⟩ => rfl
  | ⟨1, _⟩ => rfl

/-- A column spread over its rows. -/
theorem spread_of (hn : n ≠ 1) (x : FVec Ideal ⟨2, ![n, 1]⟩ .f32) (h : Shape.Broadcasts ⟨2, ![n, 1]⟩ ⟨2, ![n, 1024]⟩) (a : Fin n) (j : Fin 1024) :
    broadcastTo ⟨2, ![n, 1024]⟩ x h (ix2 a j) = x (ix2 a 0) :=
  broadcastTo_apply _ _ (ix2 a j) (ix2 a 0) (fun b => match b with
    | ⟨0, _⟩ => by show a.val = if n = 1 then 0 else a.val; rw [if_neg hn]
    | ⟨1, _⟩ => rfl)

/-- A row of weights spread over the rows. -/
theorem weights_of (x : FVec Ideal ⟨2, ![1, 1024]⟩ .f32) (h : Shape.Broadcasts ⟨2, ![1, 1024]⟩ ⟨2, ![n, 1024]⟩) (a : Fin n) (j : Fin 1024) :
    broadcastTo ⟨2, ![n, 1024]⟩ x h (ix2 a j) = x (ix2 0 j) :=
  broadcastTo_apply _ _ (ix2 a j) (ix2 0 j) (fun b => match b with
    | ⟨0, _⟩ => rfl
    | ⟨1, _⟩ => rfl)

open Cert.XDown

/-- A row normed and weighted. -/
def normedRow (f g : Fin 1024 → EReal) (j : Fin 1024) : EReal := f j * scaleOf f * g j

/-- All the rows normed and weighted. -/
def normedRows (X : FVec Ideal ⟨2, ![n, 1024]⟩ .f32) (G : FVec Ideal ⟨2, ![1, 1024]⟩ .f32) : FVec Ideal ⟨2, ![n, 1024]⟩ .bf16 :=
  fun i => normedRow (fun j => X (ix2 (i 0) j)) (fun j => G (ix2 0 j)) (i 1)

end Cert.XSolo

/-! ## The layer input's rows -/

namespace Cert.XNx

open Cert.NxIdeal Cert.NxIdeal.Gen Cert.XSolo Cert.XDown Cert.XPlaces Cert.XProducts Idealize.ShloMosaic Idealize.ShloMosaic.ValueIdx Idealize.SL.Sem

/-- Row `r` of block `t`. -/
def row (t : Fin cfg0.N) (r : Fin 1024) : Fin 4096 := ⟨1024 * t.val + r.val, by have := t.isLt.trans_eq N_0; omega⟩

theorem at0 : ∀ t : Fin grid0.N, win0_0.index t 0 * win0_0.size 0 = 1024 * t.val ∧ win0_0.index t 1 * win0_0.size 1 = 0 := by decide +kernel
theorem at1 : ∀ t : Fin grid0.N, win0_1.index t 0 * win0_1.size 0 = 0 ∧ win0_1.index t 1 * win0_1.size 1 = 0 := by decide +kernel
theorem at2 : ∀ t : Fin grid0.N, win0_2.index t 0 * win0_2.size 0 = 1024 * t.val ∧ win0_2.index t 1 * win0_2.size 1 = 0 := by decide +kernel

theorem emb0 (t : Fin cfg0.N) (y : S1024x1024.Idx) : (win0_0.rect t).emb y = ix2 (row t (y 0)) (y 1) :=
  ix2_ext _ _ _ ((win0_0.rect_emb_val t y 0).trans (congrArg (· + (y 0).val) (at0 t).1))
    ((win0_0.rect_emb_val t y 1).trans ((congrArg (· + (y 1).val) (at0 t).2).trans (Nat.zero_add _)))
theorem emb2 (t : Fin cfg0.N) (y : S1024x1024.Idx) : (win0_2.rect t).emb y = ix2 (row t (y 0)) (y 1) :=
  ix2_ext _ _ _ ((win0_2.rect_emb_val t y 0).trans (congrArg (· + (y 0).val) (at2 t).1))
    ((win0_2.rect_emb_val t y 1).trans ((congrArg (· + (y 1).val) (at2 t).2).trans (Nat.zero_add _)))
theorem emb1 (t : Fin cfg0.N) (y : S1x1024.Idx) : (win0_1.rect t).emb y = y :=
  (ix2_ext _ (y 0) (y 1) ((win0_1.rect_emb_val t y 0).trans ((congrArg (· + (y 0).val) (at1 t).1).trans (Nat.zero_add _)))
    ((win0_1.rect_emb_val t y 1).trans ((congrArg (· + (y 1).val) (at1 t).2).trans (Nat.zero_add _)))).trans (eq_ix2 y).symm

/-- What a block's rows become. -/
theorem pay_apply (x : FVec Ideal S1024x1024 .f32) (g : FVec Ideal S1x1024 .f32) (r j : Fin 1024) :
    k0_pay1 (F := Ideal) x g (ix2 r j) = normedRow (fun d => x (ix2 r d)) (fun d => g (ix2 0 d)) j := by
  unfold k0_pay1 normedRow scaleOf
  refine congrArg₂ (fun a b : EReal => a * b) (congrArg (fun b : EReal => x (ix2 r j) * b) ((spread_of (by decide) _ _ r j).trans ?_)) (weights_of g _ r j)
  exact congrArg (fun b : EReal => Ideal.rsqrt (Ideal.div b (Ideal.ofBits .f32 0x44800000#32) + Ideal.ofBits .f32 0x358637BD#32)) (rowSum_of _ _ _ r)

theorem out_apply (x : FVec Ideal S1024x1024 .f32) (g : FVec Ideal S1x1024 .f32) (y : S1024x1024.Idx) :
    out0_2 (F := Ideal) x g y = normedRow (fun d => x (ix2 (y 0) d)) (fun d => g (ix2 0 d)) (y 1) := by
  unfold out0_2
  rw [View.canon_unit_zero (S := S1024x1024) zero2]
  simp only [View.ld_unit_zero (S := S1024x1024) zero2, View.ld_unit_zero (S := S1x1024) zero2]
  exact (congrArg (k0_pay1 (F := Ideal) x g) (eq_ix2 y)).trans (pay_apply x g (y 0) (y 1))

variable (m : (ℓ : Loc nD τ sig) → Buf (Elt Ideal) ℓ)

abbrev argX (c : Dev nD) : FVec Ideal S4096x1024 .f32 := m ((c.tc : Thread nD τ).loc main_arg0)
abbrev argG (c : Dev nD) : FVec Ideal S1x1024 .f32 := m ((c.tc : Thread nD τ).loc main_arg1)

theorem iblk0_at (c : Dev nD) (t : Fin cfg0.N) (y : S1024x1024.Idx) : iblk m c 0 t y = argX m c (ix2 (row t (y 0)) (y 1)) := by
  show V m c main_arg0 ((win0_0.rect t).emb y) = _
  rw [V_main_arg0, emb0]
  rfl
theorem iblk1_eq (c : Dev nD) (t : Fin cfg0.N) : iblk m c 1 t = argG m c := by
  funext y
  show V m c main_arg1 ((win0_1.rect t).emb y) = _
  rw [V_main_arg1, emb1]

theorem array (c : Dev nD) : (dats m 0 c).arrAt 2 cfg0.N = normedRows (argX m c) (argG m c) := by
  refine (dats m 0 c).arrAt_eq_of_cover 2 (normedRows (argX m c) (argG m c)) (fun t _ => ?_) fun i => ?_
  · funext y
    refine (congrFun (Cert.NxIdeal.Value.flushed2 m c t) y).trans ((out_apply _ _ y).trans ?_)
    show _ = normedRows (argX m c) (argG m c) ((win0_2.rect t).emb y)
    rw [emb2, iblk1_eq]
    exact congrArg (fun f => normedRow f (fun d => argG m c (ix2 0 d)) (y 1)) (funext fun d => iblk0_at m c t _)
  · have h0 : (i 0).val < 4096 := (i 0).isLt
    have ht : (i 0).val / 1024 < cfg0.N := Nat.lt_of_lt_of_eq (by omega) N_0.symm
    refine ⟨⟨(i 0).val / 1024, ht⟩, flush0_2 _, ?_⟩
    refine mem_of_emb ((cfg0.win 2).blk ⟨(i 0).val / 1024, ht⟩).view (ix2 ⟨(i 0).val % 1024, Nat.mod_lt _ (by decide)⟩ (i 1)) i ?_
    exact (emb2 ⟨(i 0).val / 1024, ht⟩ (ix2 ⟨(i 0).val % 1024, Nat.mod_lt _ (by decide)⟩ (i 1))).trans
      (ix2_ext i _ _ (div_back 1024 (i 0).val).symm rfl).symm

section Ref
open Cert.NxRefIdeal.Read

variable (X : FVec Ideal S4096x1024 .f32) (G : FVec Ideal S1x1024 .f32)

theorem ref7_apply (r : Fin 4096) : val_main_v7 (F := Ideal) X (ix2 r 0) = scaleOf fun j => X (ix2 r j) := by
  unfold scaleOf
  refine congrArg Ideal.rsqrt (congrArg₂ (· + ·) (congrArg₂ Ideal.div ?_ (val_main_v3_apply (F := Ideal) _)) (val_main_v5_apply (F := Ideal) _))
  refine Eq.trans (val_main_v2_apply (F := Ideal) X (ix2 r 0)) (Eq.trans (val_main_v1_apply X _) ?_)
  refine Eq.trans (congrArg (· + _) Ideal.ofBits_zero_f32) (Eq.trans (zero_add _) ?_)
  refine Finset.sum_congr rfl fun d _ => ?_
  exact congrArg₂ (· * ·) (congrArg X (eq_ix2 _)) (congrArg X (eq_ix2 _))

theorem ref : val_main_v12 (F := Ideal) X G = normedRows X G := by
  funext i
  refine congrArg₂ (fun x y : EReal => x * y) (congrArg₂ (fun x y : EReal => x * y) (congrArg X (eq_ix2 i)) ?_) ?_
  · exact Eq.trans (val_main_v8_apply (F := Ideal) X i) (Eq.trans (congrArg (val_main_v7 (F := Ideal) X) (eq_ix2 _)) (ref7_apply X (i 0)))
  · exact Eq.trans (val_main_v10_apply (F := Ideal) G i) (congrArg G (eq_ix2 _))

end Ref

/-- The call runs, keeps its arguments and ends quiescent. -/
theorem frame_kernel : Cert.quiescent_Nx := fun m ρ _ => Cert.Nx.Gen.frame m ρ
/-- The same of its idealization. -/
theorem frame_ideal : Cert.quiescent_NxIdeal := fun m ρ _ => Cert.NxIdeal.Gen.frame m ρ
/-- The reference runs, keeps its arguments and has no semaphores. -/
theorem frame_ref : Cert.quiescent_NxRefIdeal := fun m ρ _ =>
  (θ_run Cert.NxRefIdeal.defs _ _).mono (fun r h => ⟨fun c => (h c).2, sem_eq_zero_of_no_sems (by decide) r.2⟩)
    (Cert.NxRefIdeal.Value.run (F := Ideal) m ρ)

/-- The kernel and the reference compute the same array. -/
theorem value : Cert.algebraic_NxIdeal_NxRefIdeal := by
  intro m ρ m' ρ' _ hag
  refine ⟨fun c => normedRows (argX m c) (argG m c), ?_, ?_⟩
  · exact (θ_run Cert.NxIdeal.defs _ _).mono (fun r h c => ⟨(h c).1.trans (array m c), (h c).2⟩) (Cert.NxIdeal.Value.run_blocks m ρ)
  · refine (θ_run Cert.NxRefIdeal.defs _ _).mono (fun r h c => ?_) (Cert.NxRefIdeal.Value.run (F := Ideal) m' ρ')
    obtain ⟨e0, e1⟩ := hag c
    refine ⟨(h c).1.trans ?_, (h c).2⟩
    refine (Cert.NxRefIdeal.Read.val_main_v12_eq _ _).trans ?_
    rw [e0, e1]
    exact ref (argX m c) (argG m c)

end Cert.XNx

/-! ## The memory's rows -/

namespace Cert.XNm

open Cert.NmIdeal Cert.NmIdeal.Gen Cert.XSolo Cert.XDown Cert.XPlaces Cert.XProducts Idealize.ShloMosaic Idealize.ShloMosaic.ValueIdx Idealize.SL.Sem

theorem pay_apply (x : FVec Ideal S256x1024 .f32) (g : FVec Ideal S1x1024 .f32) (r : Fin 256) (j : Fin 1024) :
    k0_pay1 (F := Ideal) x g (ix2 r j) = normedRow (fun d => x (ix2 r d)) (fun d => g (ix2 0 d)) j := by
  unfold k0_pay1 normedRow scaleOf
  refine congrArg₂ (fun a b : EReal => a * b) (congrArg (fun b : EReal => x (ix2 r j) * b) ((spread_of (by decide) _ _ r j).trans ?_)) (weights_of g _ r j)
  exact congrArg (fun b : EReal => Ideal.rsqrt (Ideal.div b (Ideal.ofBits .f32 0x44800000#32) + Ideal.ofBits .f32 0x358637BD#32)) (rowSum_of _ _ _ r)

theorem stored (x : FVec Ideal S256x1024 .f32) (g : FVec Ideal S1x1024 .f32) : Cert.NmIdeal.Value.G2 (F := Ideal) x g = normedRows x g := by
  refine (Cert.NmIdeal.Value.out2_eq (F := Ideal) x g).symm.trans ?_
  unfold out0_2
  rw [View.canon_unit_zero (S := S256x1024) zero2]
  simp only [View.ld_unit_zero (S := S256x1024) zero2, View.ld_unit_zero (S := S1x1024) zero2]
  funext y
  exact (congrArg (k0_pay1 (F := Ideal) x g) (eq_ix2 y)).trans (pay_apply x g (y 0) (y 1))

section Ref
open Cert.NmRefIdeal.Read

variable (X : FVec Ideal S256x1024 .f32) (G : FVec Ideal S1x1024 .f32)

theorem ref7_apply (r : Fin 256) : val_main_v7 (F := Ideal) X (ix2 r 0) = scaleOf fun j => X (ix2 r j) := by
  unfold scaleOf
  refine congrArg Ideal.rsqrt (congrArg₂ (· + ·) (congrArg₂ Ideal.div ?_ (val_main_v3_apply (F := Ideal) _)) (val_main_v5_apply (F := Ideal) _))
  refine Eq.trans (val_main_v2_apply (F := Ideal) X (ix2 r 0)) (Eq.trans (val_main_v1_apply X _) ?_)
  refine Eq.trans (congrArg (· + _) Ideal.ofBits_zero_f32) (Eq.trans (zero_add _) ?_)
  refine Finset.sum_congr rfl fun d _ => ?_
  exact congrArg₂ (· * ·) (congrArg X (eq_ix2 _)) (congrArg X (eq_ix2 _))

theorem ref : val_main_v12 (F := Ideal) X G = normedRows X G := by
  funext i
  refine congrArg₂ (fun x y : EReal => x * y) (congrArg₂ (fun x y : EReal => x * y) (congrArg X (eq_ix2 i)) ?_) ?_
  · exact Eq.trans (val_main_v8_apply (F := Ideal) X i) (Eq.trans (congrArg (val_main_v7 (F := Ideal) X) (eq_ix2 _)) (ref7_apply X (i 0)))
  · exact Eq.trans (val_main_v10_apply (F := Ideal) G i) (congrArg G (eq_ix2 _))

end Ref

variable (m : (ℓ : Loc nD τ sig) → Buf (Elt Ideal) ℓ)

abbrev argX (c : Dev nD) : FVec Ideal S256x1024 .f32 := m ((c.tc : Thread nD τ).loc main_arg0)
abbrev argG (c : Dev nD) : FVec Ideal S1x1024 .f32 := m ((c.tc : Thread nD τ).loc main_arg1)

/-- The call runs, keeps its arguments and ends quiescent. -/
theorem frame_kernel : Cert.quiescent_Nm := fun m ρ _ => Cert.Nm.Gen.frame m ρ
/-- The same of its idealization. -/
theorem frame_ideal : Cert.quiescent_NmIdeal := fun m ρ _ => Cert.NmIdeal.Gen.frame m ρ
/-- The reference runs, keeps its arguments and has no semaphores. -/
theorem frame_ref : Cert.quiescent_NmRefIdeal := fun m ρ _ =>
  (θ_run Cert.NmRefIdeal.defs _ _).mono (fun r h => ⟨fun c => (h c).2, sem_eq_zero_of_no_sems (by decide) r.2⟩)
    (Cert.NmRefIdeal.Value.run (F := Ideal) m ρ)

/-- The kernel and the reference compute the same array. -/
theorem value : Cert.algebraic_NmIdeal_NmRefIdeal := by
  intro m ρ m' ρ' _ hag
  refine ⟨fun c => normedRows (argX m c) (argG m c), ?_, ?_⟩
  · exact (θ_run Cert.NmIdeal.defs _ _).mono (fun r h c => ⟨(h c).1.trans (stored (argX m c) (argG m c)), (h c).2⟩) (Cert.NmIdeal.Value.run m ρ)
  · refine (θ_run Cert.NmRefIdeal.defs _ _).mono (fun r h c => ?_) (Cert.NmRefIdeal.Value.run (F := Ideal) m' ρ')
    obtain ⟨e0, e1⟩ := hag c
    refine ⟨(h c).1.trans ?_, (h c).2⟩
    refine (Cert.NmRefIdeal.Read.val_main_v12_eq _ _).trans ?_
    rw [e0, e1]
    exact ref (argX m c) (argG m c)

end Cert.XNm

/-! ## The gradient of the memory norm's weights -/

namespace Cert.XNb

open Cert.NbIdeal Cert.NbIdeal.Gen Cert.XSolo Cert.XDown Cert.XPlaces Cert.XProducts Idealize.ShloMosaic Idealize.ShloMosaic.ValueIdx Idealize.SL.Sem

/-- The weights' gradient: over the rows, the gradient against the row normed. -/
def slopes (X D : FVec Ideal S256x1024 .f32) : FVec Ideal S1x1024 .f32 :=
  fun i => ∑ r : Fin 256, D (ix2 r (i 1)) * (X (ix2 r (i 1)) * scaleOf fun j => X (ix2 r j))

theorem pay_apply (x d : FVec Ideal S256x1024 .f32) (w : FVec Ideal S1x1024 .f32) (j : Fin 1024) :
    k0_pay2 (F := Ideal) x d w (ix2 0 j) = w (ix2 0 j) + slopes x d (ix2 0 j) := by
  unfold k0_pay2
  refine congrArg₂ (fun a b : EReal => a + b) (congrFun (shapeCast_self w _) (ix2 0 j)) ((colSum_of _ _ _ j).trans ?_)
  refine Finset.sum_congr rfl fun r _ => ?_
  refine congrArg (fun b : EReal => d (ix2 r j) * (x (ix2 r j) * b)) ((spread_of (by decide) _ _ r j).trans ?_)
  exact congrArg (fun b : EReal => Ideal.rsqrt (Ideal.div b (Ideal.ofBits .f32 0x44800000#32) + Ideal.ofBits .f32 0x358637BD#32)) (rowSum_of _ _ _ r)

/-- A place of one row. -/
theorem eq_row (y : S1x1024.Idx) : y = ix2 0 (y 1) := ix2_ext y 0 (y 1) (Nat.lt_one_iff.mp (y 0).isLt) rfl

theorem fill_apply (y : S1x1024.Idx) : k0_pay1 (F := Ideal) y = (0 : EReal) := Ideal.ofBits_zero_f32

variable (m : (ℓ : Loc nD τ sig) → Buf (Elt Ideal) ℓ)

abbrev argX (c : Dev nD) : FVec Ideal S256x1024 .f32 := m ((c.tc : Thread nD τ).loc main_arg0)
abbrev argD (c : Dev nD) : FVec Ideal S256x1024 .f32 := m ((c.tc : Thread nD τ).loc main_arg2)

theorem outs_eq (c : Dev nD) (t : Fin cfg0.N) (y : S1x1024.Idx) : outsAt0 m c t y = slopes (iblk m c 0 t) (iblk m c 2 t) y := by
  unfold outsAt0 out0_A_3
  rw [View.read_writes_eq_canon _ _ _ (by intro y; apply cover0_A_3)]
  unfold kernelRun0_A
  dsimp only
  sl_unfold_words
  simp only [View.readAt_eq_ld, (hs0_0 t).read_unread, (hs0_1 t).read_unread, (hs0_2 t).read_unread, (hs0_3 t).read_unread]
  generalize iblk m c 0 t = X
  generalize iblk m c 2 t = D
  rw [View.canon_cons_unit_zero (S := S1x1024) zero2, View.readCov_unit_zero (S := S1x1024) _ zero2]
  simp only [View.ld_unit_zero (S := S256x1024) zero2, View.ld_unit_zero (S := S1x1024) zero2]
  refine (congrArg (k0_pay2 (F := Ideal) X D (k0_pay1 (F := Ideal))) (eq_row y)).trans ((pay_apply X D (k0_pay1 (F := Ideal)) (y 1)).trans ?_)
  refine (congrArg (fun b : EReal => b + slopes X D (ix2 0 (y 1))) (fill_apply (ix2 0 (y 1)))).trans ?_
  exact (zero_add (M := EReal) _).trans (congrArg (slopes X D) (eq_row y).symm)

/-! The windows are whole arrays. -/

theorem at0 : ∀ t : Fin grid0.N, win0_0.index t 0 * win0_0.size 0 = 0 ∧ win0_0.index t 1 * win0_0.size 1 = 0 := by decide +kernel
theorem at2 : ∀ t : Fin grid0.N, win0_2.index t 0 * win0_2.size 0 = 0 ∧ win0_2.index t 1 * win0_2.size 1 = 0 := by decide +kernel
theorem at3 : ∀ t : Fin grid0.N, win0_3.index t 0 * win0_3.size 0 = 0 ∧ win0_3.index t 1 * win0_3.size 1 = 0 := by decide +kernel

theorem emb0 (t : Fin cfg0.N) (y : S256x1024.Idx) : (win0_0.rect t).emb y = y :=
  (ix2_ext _ (y 0) (y 1) ((win0_0.rect_emb_val t y 0).trans ((congrArg (· + (y 0).val) (at0 t).1).trans (Nat.zero_add _)))
    ((win0_0.rect_emb_val t y 1).trans ((congrArg (· + (y 1).val) (at0 t).2).trans (Nat.zero_add _)))).trans (eq_ix2 y).symm
theorem emb2 (t : Fin cfg0.N) (y : S256x1024.Idx) : (win0_2.rect t).emb y = y :=
  (ix2_ext _ (y 0) (y 1) ((win0_2.rect_emb_val t y 0).trans ((congrArg (· + (y 0).val) (at2 t).1).trans (Nat.zero_add _)))
    ((win0_2.rect_emb_val t y 1).trans ((congrArg (· + (y 1).val) (at2 t).2).trans (Nat.zero_add _)))).trans (eq_ix2 y).symm
theorem emb3 (t : Fin cfg0.N) (y : S1x1024.Idx) : (win0_3.rect t).emb y = y :=
  (ix2_ext _ (y 0) (y 1) ((win0_3.rect_emb_val t y 0).trans ((congrArg (· + (y 0).val) (at3 t).1).trans (Nat.zero_add _)))
    ((win0_3.rect_emb_val t y 1).trans ((congrArg (· + (y 1).val) (at3 t).2).trans (Nat.zero_add _)))).trans (eq_ix2 y).symm

theorem iblk0_eq (c : Dev nD) (t : Fin cfg0.N) : iblk m c 0 t = argX m c := by
  funext y
  show V m c main_arg0 ((win0_0.rect t).emb y) = _
  rw [V_main_arg0, emb0]
theorem iblk2_eq (c : Dev nD) (t : Fin cfg0.N) : iblk m c 2 t = argD m c := by
  funext y
  show V m c main_arg2 ((win0_2.rect t).emb y) = _
  rw [V_main_arg2, emb2]

theorem array (c : Dev nD) : (dats m 0 c).arrAt 3 cfg0.N = slopes (argX m c) (argD m c) := by
  refine (dats m 0 c).arrAt_eq_of_cover 3 (slopes (argX m c) (argD m c)) (fun t _ => ?_) fun i => ?_
  · funext y
    refine (congrFun (Cert.NbIdeal.Value.flushed3 m c t) y).trans ((outs_eq m c t y).trans ?_)
    show _ = slopes (argX m c) (argD m c) ((win0_3.rect t).emb y)
    rw [emb3, iblk0_eq, iblk2_eq]
  · have ht : 0 < cfg0.N := Nat.lt_of_lt_of_eq (by decide) N_0.symm
    refine ⟨⟨0, ht⟩, flush0_3 _, ?_⟩
    exact mem_of_emb ((cfg0.win 3).blk ⟨0, ht⟩).view i i (emb3 _ i)

section Ref
open Cert.NbRefIdeal.Read

variable (X D : FVec Ideal S256x1024 .f32)

theorem ref7_apply (r : Fin 256) : val_main_v7 (F := Ideal) X (ix2 r 0) = scaleOf fun j => X (ix2 r j) := Cert.XNm.ref7_apply X r

theorem ref : val_main_v14 (F := Ideal) X D = slopes X D := by
  funext i
  refine Eq.trans (val_main_v14_apply (F := Ideal) X D i) (Eq.trans (val_main_v13_apply X D _) ?_)
  refine Eq.trans (congrArg (· + _) Ideal.ofBits_zero_f32) (Eq.trans (zero_add _) ?_)
  refine Finset.sum_congr rfl fun r _ => ?_
  refine Eq.trans (mul_comm (G := EReal) _ _) ?_
  have e : (idx_main_v13 (idx_main_v14 i) r : S256x1024.Idx) = ix2 r (i 1) := ix2_ext _ _ _ rfl (by
    show (idx_main_v14 i 0).val = _
    have h0 : (i 0).val < 1 := (i 0).isLt
    have h1 : (i 1).val < 1024 := (i 1).isLt
    show (i 0).val * 1024 + (i 1).val = (i 1).val
    omega)
  rw [e]
  refine congrArg (fun b : EReal => D (ix2 r (i 1)) * (X (ix2 r (i 1)) * b)) ?_
  exact Eq.trans (val_main_v8_apply (F := Ideal) X _) (Eq.trans (congrArg (val_main_v7 (F := Ideal) X) (eq_ix2 _)) (ref7_apply X r))

end Ref

/-- The call runs, keeps its arguments and ends quiescent. -/
theorem frame_kernel : Cert.quiescent_Nb := fun m ρ _ => Cert.Nb.Gen.frame m ρ
/-- The same of its idealization. -/
theorem frame_ideal : Cert.quiescent_NbIdeal := fun m ρ _ => Cert.NbIdeal.Gen.frame m ρ
/-- The reference runs, keeps its arguments and has no semaphores. -/
theorem frame_ref : Cert.quiescent_NbRefIdeal := fun m ρ _ =>
  (θ_run Cert.NbRefIdeal.defs _ _).mono (fun r h => ⟨fun c => (h c).2, sem_eq_zero_of_no_sems (by decide) r.2⟩)
    (Cert.NbRefIdeal.Value.run (F := Ideal) m ρ)

/-- The kernel and the reference compute the same gradient. -/
theorem value : Cert.algebraic_NbIdeal_NbRefIdeal := by
  intro m ρ m' ρ' _ hag
  refine ⟨fun c => slopes (argX m c) (argD m c), ?_, ?_⟩
  · exact (θ_run Cert.NbIdeal.defs _ _).mono (fun r h c => ⟨(h c).1.trans (array m c), (h c).2⟩) (Cert.NbIdeal.Value.run_blocks m ρ)
  · refine (θ_run Cert.NbRefIdeal.defs _ _).mono (fun r h c => ?_) (Cert.NbRefIdeal.Value.run (F := Ideal) m' ρ')
    obtain ⟨e0, -, e2⟩ := hag c
    refine ⟨(h c).1.trans ?_, (h c).2⟩
    refine (Cert.NbRefIdeal.Read.val_main_v14_eq _ _).trans ?_
    rw [e0, e2]
    exact ref (argX m c) (argD m c)

end Cert.XNb

end
-- ==== Proof.LayerNorm.lean ====
/- The layer norm followed by the sigmoid linear unit, by rows. -/
module

public import proofs.«01_k».proof.Proof.Gen.Ls.Frame
public import proofs.«01_k».proof.Proof.Gen.LsIdeal.Value
public import proofs.«01_k».proof.Proof.Gen.LsRefIdeal.Read
public import proofs.«01_k».proof.Proof.SoloNorms

@[expose] public section

noncomputable section

namespace Cert.XLs

open Cert.LsIdeal Cert.LsIdeal.Gen Cert.XSolo Cert.XDown Cert.XPlaces Cert.XProducts Idealize.ShloMosaic Idealize.ShloMosaic.ValueIdx Idealize.SL.Sem

/-- The mean of a row. -/
def meanOf (f : Fin 1024 → EReal) : EReal := Ideal.div (∑ j : Fin 1024, f j) (Ideal.ofBits .f32 0x44800000#32)

/-- A row less its mean. -/
def centred (f : Fin 1024 → EReal) (j : Fin 1024) : EReal := f j - meanOf f

/-- A value times its logistic. -/
def unitOf (z : EReal) : EReal := z * Ideal.div (Ideal.ofBits .f32 0x3F800000#32) (Ideal.ofBits .f32 0x3F800000#32 + Ideal.exp (-z))

/-- A row centred, normed, weighted and shifted. -/
def shifted (f g b : Fin 1024 → EReal) (j : Fin 1024) : EReal := centred f j * scaleOf (centred f) * g j + b j

/-- The layer's rows. -/
def res (X : FVec Ideal S4096x1024 .f32) (G B : FVec Ideal S1x1024 .f32) : FVec Ideal S4096x1024 .bf16 :=
  fun i => unitOf (shifted (fun j => X (ix2 (i 0) j)) (fun j => G (ix2 0 j)) (fun j => B (ix2 0 j)) (i 1))

/-- Row `r` of block `t`. -/
def row (t : Fin cfg0.N) (r : Fin 1024) : Fin 4096 := ⟨1024 * t.val + r.val, by have := t.isLt.trans_eq N_0; omega⟩

theorem at0 : ∀ t : Fin grid0.N, win0_0.index t 0 * win0_0.size 0 = 1024 * t.val ∧ win0_0.index t 1 * win0_0.size 1 = 0 := by decide +kernel
theorem at1 : ∀ t : Fin grid0.N, win0_1.index t 0 * win0_1.size 0 = 0 ∧ win0_1.index t 1 * win0_1.size 1 = 0 := by decide +kernel
theorem at2 : ∀ t : Fin grid0.N, win0_2.index t 0 * win0_2.size 0 = 0 ∧ win0_2.index t 1 * win0_2.size 1 = 0 := by decide +kernel
theorem at3 : ∀ t : Fin grid0.N, win0_3.index t 0 * win0_3.size 0 = 1024 * t.val ∧ win0_3.index t 1 * win0_3.size 1 = 0 := by decide +kernel

theorem emb0 (t : Fin cfg0.N) (y : S1024x1024.Idx) : (win0_0.rect t).emb y = ix2 (row t (y 0)) (y 1) :=
  ix2_ext _ _ _ ((win0_0.rect_emb_val t y 0).trans (congrArg (· + (y 0).val) (at0 t).1))
    ((win0_0.rect_emb_val t y 1).trans ((congrArg (· + (y 1).val) (at0 t).2).trans (Nat.zero_add _)))
theorem emb3 (t : Fin cfg0.N) (y : S1024x1024.Idx) : (win0_3.rect t).emb y = ix2 (row t (y 0)) (y 1) :=
  ix2_ext _ _ _ ((win0_3.rect_emb_val t y 0).trans (congrArg (· + (y 0).val) (at3 t).1))
    ((win0_3.rect_emb_val t y 1).trans ((congrArg (· + (y 1).val) (at3 t).2).trans (Nat.zero_add _)))
theorem emb1 (t : Fin cfg0.N) (y : S1x1024.Idx) : (win0_1.rect t).emb y = y :=
  (ix2_ext _ (y 0) (y 1) ((win0_1.rect_emb_val t y 0).trans ((congrArg (· + (y 0).val) (at1 t).1).trans (Nat.zero_add _)))
    ((win0_1.rect_emb_val t y 1).trans ((congrArg (· + (y 1).val) (at1 t).2).trans (Nat.zero_add _)))).trans (eq_ix2 y).symm
theorem emb2 (t : Fin cfg0.N) (y : S1x1024.Idx) : (win0_2.rect t).emb y = y :=
  (ix2_ext _ (y 0) (y 1) ((win0_2.rect_emb_val t y 0).trans ((congrArg (· + (y 0).val) (at2 t).1).trans (Nat.zero_add _)))
    ((win0_2.rect_emb_val t y 1).trans ((congrArg (· + (y 1).val) (at2 t).2).trans (Nat.zero_add _)))).trans (eq_ix2 y).symm

/-! ## What a block's rows become -/

section Pay
variable (x : FVec Ideal S1024x1024 .f32) (g b : FVec Ideal S1x1024 .f32)

/-- The block's rows less their means. -/
def payCentred : FVec Ideal S1024x1024 .f32 :=
  subf x (broadcastTo S1024x1024 (divf (shapeCast S1024x1 (multiReduction .add [1] S1024 x 0x00000000#32 reduces_S1024x1024_S1024 (.inl rfl) rfl) shapeCasts_S1024_S1024x1)
    (broadcast S1024x1 (Scalar.ofBits (F := Ideal) .f32 0x44800000#32))) broadcasts_S1024x1_S1024x1024)

theorem centred_apply (r j : Fin 1024) : payCentred x (ix2 r j) = centred (fun d => x (ix2 r d)) j := by
  unfold payCentred centred meanOf
  refine congrArg (fun b : EReal => x (ix2 r j) - b) ((spread_of (by decide) _ _ r j).trans ?_)
  exact congrArg (fun b : EReal => Ideal.div b (Ideal.ofBits .f32 0x44800000#32)) (rowSum_of _ _ _ r)

/-- The block's rows centred, normed, weighted and shifted. -/
def payShifted : FVec Ideal S1024x1024 .f32 :=
  addf (mulf (mulf (payCentred x) (broadcastTo S1024x1024 (rsqrt (addf (divf
    (shapeCast S1024x1 (multiReduction .add [1] S1024 (mulf (payCentred x) (payCentred x)) 0x00000000#32 reduces_S1024x1024_S1024 (.inl rfl) rfl) shapeCasts_S1024_S1024x1)
    (broadcast S1024x1 (Scalar.ofBits (F := Ideal) .f32 0x44800000#32))) (broadcast S1024x1 (Scalar.ofBits (F := Ideal) .f32 0x358637BD#32)))) broadcasts_S1024x1_S1024x1024))
    (broadcastTo S1024x1024 g broadcasts_S1x1024_S1024x1024)) (broadcastTo S1024x1024 b broadcasts_S1x1024_S1024x1024)

theorem shifted_apply (r j : Fin 1024) :
    payShifted x g b (ix2 r j) = shifted (fun d => x (ix2 r d)) (fun d => g (ix2 0 d)) (fun d => b (ix2 0 d)) j := by
  unfold payShifted shifted scaleOf
  refine congrArg₂ (fun a b : EReal => a + b) (congrArg₂ (fun a b : EReal => a * b) (congrArg₂ (fun a b : EReal => a * b) (centred_apply x r j)
    ((spread_of (by decide) _ _ r j).trans ?_)) (weights_of g _ r j)) (weights_of b _ r j)
  refine congrArg (fun b : EReal => Ideal.rsqrt (Ideal.div b (Ideal.ofBits .f32 0x44800000#32) + Ideal.ofBits .f32 0x358637BD#32)) ((rowSum_of _ _ _ r).trans ?_)
  exact Finset.sum_congr rfl fun d _ => congrArg₂ (fun a b : EReal => a * b) (centred_apply x r d) (centred_apply x r d)

theorem pay_apply (r j : Fin 1024) :
    k0_pay1 (F := Ideal) x g b (ix2 r j) = unitOf (shifted (fun d => x (ix2 r d)) (fun d => g (ix2 0 d)) (fun d => b (ix2 0 d)) j) := by
  rw [← shifted_apply]
  show payShifted x g b (ix2 r j) * Ideal.div (Ideal.ofBits .f32 0x3F800000#32)
    (Ideal.ofBits .f32 0x3F800000#32 + Ideal.exp (Ideal.ofBits .f32 0x00000000#32 - payShifted x g b (ix2 r j))) = _
  unfold unitOf
  rw [Ideal.ofBits_zero_f32, sub_eq_add_neg, zero_add]

end Pay

theorem out_apply (x : FVec Ideal S1024x1024 .f32) (g b : FVec Ideal S1x1024 .f32) (y : S1024x1024.Idx) :
    out0_3 (F := Ideal) x g b y = unitOf (shifted (fun d => x (ix2 (y 0) d)) (fun d => g (ix2 0 d)) (fun d => b (ix2 0 d)) (y 1)) := by
  unfold out0_3
  rw [View.canon_unit_zero (S := S1024x1024) zero2]
  simp only [View.ld_unit_zero (S := S1024x1024) zero2, View.ld_unit_zero (S := S1x1024) zero2]
  exact (congrArg (k0_pay1 (F := Ideal) x g b) (eq_ix2 y)).trans (pay_apply x g b (y 0) (y 1))

variable (m : (ℓ : Loc nD τ sig) → Buf (Elt Ideal) ℓ)

abbrev argX (c : Dev nD) : FVec Ideal S4096x1024 .f32 := m ((c.tc : Thread nD τ).loc main_arg0)
abbrev argG (c : Dev nD) : FVec Ideal S1x1024 .f32 := m ((c.tc : Thread nD τ).loc main_arg1)
abbrev argB (c : Dev nD) : FVec Ideal S1x1024 .f32 := m ((c.tc : Thread nD τ).loc main_arg2)

theorem iblk0_at (c : Dev nD) (t : Fin cfg0.N) (y : S1024x1024.Idx) : iblk m c 0 t y = argX m c (ix2 (row t (y 0)) (y 1)) := by
  show V m c main_arg0 ((win0_0.rect t).emb y) = _
  rw [V_main_arg0, emb0]
  rfl
theorem iblk1_eq (c : Dev nD) (t : Fin cfg0.N) : iblk m c 1 t = argG m c := by
  funext y
  show V m c main_arg1 ((win0_1.rect t).emb y) = _
  rw [V_main_arg1, emb1]
theorem iblk2_eq (c : Dev nD) (t : Fin cfg0.N) : iblk m c 2 t = argB m c := by
  funext y
  show V m c main_arg2 ((win0_2.rect t).emb y) = _
  rw [V_main_arg2, emb2]

theorem array (c : Dev nD) : (dats m 0 c).arrAt 3 cfg0.N = res (argX m c) (argG m c) (argB m c) := by
  refine (dats m 0 c).arrAt_eq_of_cover 3 (res (argX m c) (argG m c) (argB m c)) (fun t _ => ?_) fun i => ?_
  · funext y
    refine (congrFun (Cert.LsIdeal.Value.flushed3 m c t) y).trans ((out_apply _ _ _ y).trans ?_)
    show _ = res (argX m c) (argG m c) (argB m c) ((win0_3.rect t).emb y)
    rw [emb3, iblk1_eq, iblk2_eq]
    exact congrArg (fun f => unitOf (shifted f (fun d => argG m c (ix2 0 d)) (fun d => argB m c (ix2 0 d)) (y 1))) (funext fun d => iblk0_at m c t _)
  · have h0 : (i 0).val < 4096 := (i 0).isLt
    have ht : (i 0).val / 1024 < cfg0.N := Nat.lt_of_lt_of_eq (by omega) N_0.symm
    refine ⟨⟨(i 0).val / 1024, ht⟩, flush0_3 _, ?_⟩
    refine mem_of_emb ((cfg0.win 3).blk ⟨(i 0).val / 1024, ht⟩).view (ix2 ⟨(i 0).val % 1024, Nat.mod_lt _ (by decide)⟩ (i 1)) i ?_
    exact (emb3 ⟨(i 0).val / 1024, ht⟩ (ix2 ⟨(i 0).val % 1024, Nat.mod_lt _ (by decide)⟩ (i 1))).trans
      (ix2_ext i _ _ (div_back 1024 (i 0).val).symm rfl).symm

/-! ## The reference -/

section Ref
open Cert.LsRefIdeal.Read

variable (X : FVec Ideal S4096x1024 .f32) (G B : FVec Ideal S1x1024 .f32)

theorem ref3_apply (r : Fin 4096) : val_main_v3 (F := Ideal) X (ix2 r 0) = meanOf fun j => X (ix2 r j) := by
  unfold meanOf
  refine congrArg₂ Ideal.div ?_ (val_main_v2_apply (F := Ideal) _)
  refine Eq.trans (val_main_v1_apply (F := Ideal) X (ix2 r 0)) (Eq.trans (val_main_v0_apply X _) ?_)
  refine Eq.trans (congrArg (· + _) Ideal.ofBits_zero_f32) (Eq.trans (zero_add _) ?_)
  exact Finset.sum_congr rfl fun d _ => congrArg X (eq_ix2 _)

theorem ref5_apply (r : Fin 4096) (j : Fin 1024) : val_main_v5 (F := Ideal) X (ix2 r j) = centred (fun d => X (ix2 r d)) j :=
  congrArg (fun b : EReal => X (ix2 r j) - b) (Eq.trans (val_main_v4_apply (F := Ideal) X (ix2 r j))
    (Eq.trans (congrArg (val_main_v3 (F := Ideal) X) (eq_ix2 _)) (ref3_apply X r)))
theorem ref12_apply (r : Fin 4096) (j : Fin 1024) : val_main_v12 (F := Ideal) X (ix2 r j) = centred (fun d => X (ix2 r d)) j :=
  congrArg (fun b : EReal => X (ix2 r j) - b) (Eq.trans (val_main_v11_apply (F := Ideal) X (ix2 r j))
    (Eq.trans (congrArg (val_main_v3 (F := Ideal) X) (eq_ix2 _)) (ref3_apply X r)))

theorem ref15_apply (r : Fin 4096) : val_main_v15 (F := Ideal) X (ix2 r 0) = scaleOf (centred fun j => X (ix2 r j)) := by
  unfold scaleOf
  refine congrArg Ideal.rsqrt (congrArg₂ (· + ·) (congrArg₂ Ideal.div ?_ (val_main_v9_apply (F := Ideal) _)) (val_main_v13_apply (F := Ideal) _))
  refine Eq.trans (val_main_v8_apply (F := Ideal) X (ix2 r 0)) (Eq.trans (val_main_v7_apply X _) ?_)
  refine Eq.trans (congrArg (· + _) Ideal.ofBits_zero_f32) (Eq.trans (zero_add _) ?_)
  refine Finset.sum_congr rfl fun d _ => ?_
  have e : val_main_v5 (F := Ideal) X (idx_main_v7 (idx_main_v8 (ix2 r 0)) d) = centred (fun j => X (ix2 r j)) d :=
    Eq.trans (congrArg (val_main_v5 (F := Ideal) X) (eq_ix2 _)) (ref5_apply X r d)
  exact congrArg₂ (· * ·) e e

theorem ref21_apply (r : Fin 4096) (j : Fin 1024) :
    val_main_v21 (F := Ideal) X G B (ix2 r j) = shifted (fun d => X (ix2 r d)) (fun d => G (ix2 0 d)) (fun d => B (ix2 0 d)) j := by
  refine congrArg₂ (fun a b : EReal => a + b) (congrArg₂ (fun a b : EReal => a * b) (congrArg₂ (fun a b : EReal => a * b) (ref12_apply X r j) ?_) ?_) ?_
  · exact Eq.trans (val_main_v16_apply (F := Ideal) X _) (Eq.trans (congrArg (val_main_v15 (F := Ideal) X) (eq_ix2 _)) (ref15_apply X r))
  · exact Eq.trans (val_main_v18_apply (F := Ideal) G _) (congrArg G (eq_ix2 _))
  · exact Eq.trans (val_main_v20_apply (F := Ideal) B _) (congrArg B (eq_ix2 _))

theorem ref : val_main_v23 (F := Ideal) X G B = res X G B := by
  funext i
  refine Eq.trans (b := unitOf (val_main_v21 (F := Ideal) X G B i)) ?_
    (congrArg unitOf ((congrArg (val_main_v21 (F := Ideal) X G B) (eq_ix2 i)).trans (ref21_apply X G B (i 0) (i 1))))
  refine congrArg (fun b : EReal => val_main_v21 (F := Ideal) X G B i * b) ?_
  exact congrArg₂ Ideal.div (val_main_call0_v4_apply (F := Ideal) i)
    (congrArg (fun b : EReal => b + Ideal.exp (-val_main_v21 (F := Ideal) X G B i)) (val_main_call0_v2_apply (F := Ideal) i))

end Ref

/-- The call runs, keeps its arguments and ends quiescent. -/
theorem frame_kernel : Cert.quiescent_Ls := fun m ρ _ => Cert.Ls.Gen.frame m ρ
/-- The same of its idealization. -/
theorem frame_ideal : Cert.quiescent_LsIdeal := fun m ρ _ => Cert.LsIdeal.Gen.frame m ρ
/-- The reference runs, keeps its arguments and has no semaphores. -/
theorem frame_ref : Cert.quiescent_LsRefIdeal := fun m ρ _ =>
  (θ_run Cert.LsRefIdeal.defs _ _).mono (fun r h => ⟨fun c => (h c).2, sem_eq_zero_of_no_sems (by decide) r.2⟩)
    (Cert.LsRefIdeal.Value.run (F := Ideal) m ρ)

/-- The kernel and the reference compute the same array. -/
theorem value : Cert.algebraic_LsIdeal_LsRefIdeal := by
  intro m ρ m' ρ' _ hag
  refine ⟨fun c => res (argX m c) (argG m c) (argB m c), ?_, ?_⟩
  · exact (θ_run Cert.LsIdeal.defs _ _).mono (fun r h c => ⟨(h c).1.trans (array m c), (h c).2⟩) (Cert.LsIdeal.Value.run_blocks m ρ)
  · refine (θ_run Cert.LsRefIdeal.defs _ _).mono (fun r h c => ?_) (Cert.LsRefIdeal.Value.run (F := Ideal) m' ρ')
    obtain ⟨e0, e1, e2⟩ := hag c
    refine ⟨(h c).1.trans ?_, (h c).2⟩
    refine (Cert.LsRefIdeal.Read.val_main_v23_eq _ _ _).trans ?_
    rw [e0, e1, e2]
    exact ref (argX m c) (argG m c) (argB m c)

end Cert.XLs

end
-- ==== Proof.LossHead.lean ====
/- The loss head: the last norm, the squared error's mean, and its gradients, by rows and blocks of 1024 rows. -/
module

public import proofs.«01_k».proof.Proof.Gen.Lh.Frame
public import proofs.«01_k».proof.Proof.Gen.LhIdeal.Value
public import proofs.«01_k».proof.Proof.Gen.LhRefIdeal.Read
public import proofs.«01_k».proof.Proof.SoloNorms
public import proofs.«01_k».proof.Proof.NormGrad
public import proofs.«01_k».proof.Proof.Arrays

@[expose] public section

noncomputable section

namespace Cert.XLh

open Cert.XAttn (row sum_rows sum_mul_coe ofBits_one)
open Cert.XDn (cInv cLen cEps cHalf cInv_eq div_len slopeOf slopePart inRow inRow_eq meanSq_pos)
open Cert.LhIdeal Cert.LhIdeal.Gen Cert.XSolo Cert.XDown Cert.XPlaces Cert.XProducts Idealize.ShloMosaic Idealize.ShloMosaic.ValueIdx Idealize.SL.Sem

/-! ## One row -/

/-- One half. -/
abbrev cPos : EReal := Ideal.ofBits .f32 0x3F000000#32
theorem cPos_eq : cPos = ((1 / 2 : ℝ) : EReal) := by
  simp [cPos, Ideal.ofBits, Ideal.ieee, -EReal.coe_mul]; norm_num
theorem two_eq : Ideal.ofBits .f32 0x40000000#32 = ((2 : ℝ) : EReal) := by
  simp [Ideal.ofBits, Ideal.ieee, -EReal.coe_mul]; norm_num

section Row
variable (x g t : Fin 1024 → EReal)

/-- A row normed. -/
def normed (j : Fin 1024) : EReal := x j * scaleOf x
/-- How far the row normed and weighted is from its target. -/
def miss (j : Fin 1024) : EReal := normed x j * g j - t j
/-- The gradient of the loss by the row normed and weighted. -/
def up (j : Fin 1024) : EReal := miss x g t j * cInv
/-- The mean square of the row's distance. -/
def rowLoss : EReal := Ideal.div (∑ j : Fin 1024, miss x g t j * miss x g t j) cLen
/-- The kernel's row of the gradient by the row itself. -/
def kernelRow (j : Fin 1024) : EReal :=
  scaleOf x * (up x g t j * g j - normed x j * Ideal.div (∑ i : Fin 1024, up x g t i * g i * normed x i) cLen)
/-- The row's gradient. -/
def gradRow (j : Fin 1024) : EReal := inRow (up x g t) g x (fun _ => 0) j

theorem scale_eq : scaleOf x = slopeOf x := by
  unfold scaleOf slopeOf
  exact congrArg (fun b : EReal => Ideal.rsqrt (b + cEps)) (div_len _)

/-- The reciprocal root mean square is a real number, not negative. -/
theorem slope_real : ∃ a : ℝ, 0 ≤ a ∧ slopeOf x = (a : EReal) := by
  unfold slopeOf
  rcases meanSq_pos x with h | ⟨a, ha, h⟩
  · rw [h, Ideal.rsqrt_top]
    exact ⟨0, le_rfl, EReal.coe_zero.symm⟩
  · rw [h, Ideal.rsqrt_coe, if_neg (not_lt.mpr ha.le), if_neg ha.ne']
    exact ⟨(Real.sqrt a)⁻¹, by positivity, rfl⟩

theorem kernelRow_eq (j : Fin 1024) : kernelRow x g t j = gradRow x g t j := by
  unfold kernelRow gradRow inRow normed
  rw [scale_eq, div_len, add_zero]
  obtain ⟨a, ha, h⟩ := slope_real x
  rw [h]
  have e : (∑ i : Fin 1024, up x g t i * g i * (x i * (a : EReal))) = (∑ i : Fin 1024, up x g t i * g i * x i) * (a : EReal) := by
    rw [sum_mul_coe _ _ ha]
    exact Finset.sum_congr rfl fun i _ => (mul_assoc _ _ _).symm
  rw [e, sub_eq_add_neg, EReal.left_distrib_of_nonneg_of_ne_top (by exact_mod_cast ha) (EReal.coe_ne_top a), mul_neg, ← sub_eq_add_neg]
  refine congrArg (fun b : EReal => (a : EReal) * (up x g t j * g j) - b) ?_
  ac_rfl

/-- The derivative of half the square times the derivative of the mean. -/
theorem half_twice (e : EReal) :
    Ideal.div (cPos * Ideal.ofBits .f32 0x3F800000#32) cLen * (Ideal.ofBits .f32 0x40000000#32 * e) = e * cInv := by
  rw [div_len, cPos_eq, ofBits_one, two_eq, cInv_eq, mul_one, ← mul_assoc, mul_comm e]
  refine congrArg (· * e) ?_
  norm_cast
  norm_num

end Row

/-! ## One block -/

section Pay
variable (x t : FVec Ideal S1024x1024 .f32) (g : FVec Ideal S1x1024 .f32)

theorem pay6_apply (r : Fin 1024) : k0_pay6 (F := Ideal) x (ix2 r 0) = scaleOf fun d => x (ix2 r d) := by
  unfold k0_pay6 scaleOf
  exact congrArg (fun b : EReal => Ideal.rsqrt (Ideal.div b cLen + cEps)) (rowSum_of _ _ _ r)

theorem pay7_apply (r j : Fin 1024) : k0_pay7 (F := Ideal) x (ix2 r j) = normed (fun d => x (ix2 r d)) j := by
  unfold k0_pay7
  exact congrArg (fun b : EReal => x (ix2 r j) * b) ((spread_of (by decide) _ _ r j).trans (pay6_apply x r))

theorem pay8_apply (r j : Fin 1024) :
    k0_pay8 (F := Ideal) x g t (ix2 r j) = miss (fun d => x (ix2 r d)) (fun d => g (ix2 0 d)) (fun d => t (ix2 r d)) j := by
  unfold k0_pay8
  exact congrArg (fun b : EReal => b - t (ix2 r j)) (congrArg₂ (fun a b : EReal => a * b) (pay7_apply x r j) (weights_of g _ r j))

theorem pay10_apply (r j : Fin 1024) :
    k0_pay10 (F := Ideal) x g t (ix2 r j) = up (fun d => x (ix2 r d)) (fun d => g (ix2 0 d)) (fun d => t (ix2 r d)) j :=
  congrArg (fun b : EReal => b * cInv) (pay8_apply x t g r j)

/-- What a block adds to the loss. -/
def lossOf : EReal := cPos * ∑ r : Fin 1024, rowLoss (fun d => x (ix2 r d)) (fun d => g (ix2 0 d)) (fun d => t (ix2 r d))
/-- What a block adds to the weights' gradient. -/
def slopesOf (j : Fin 1024) : EReal :=
  ∑ r : Fin 1024, up (fun d => x (ix2 r d)) (fun d => g (ix2 0 d)) (fun d => t (ix2 r d)) j * normed (fun d => x (ix2 r d)) j

theorem pay9_apply (v : FVec Ideal S1x1 .f32) : k0_pay9 (F := Ideal) x g t v (ix2 0 0) = v (ix2 0 0) + lossOf x t g := by
  unfold k0_pay9 lossOf
  refine congrArg₂ (fun a b : EReal => a + b) (congrFun (shapeCast_self v shapeCasts_S1x1_S1x1) _) (congrArg (fun b : EReal => cPos * b) ?_)
  refine (colSum_of _ _ _ 0).trans (Finset.sum_congr rfl fun r _ => ?_)
  unfold rowLoss
  refine congrArg (fun b : EReal => Ideal.div b cLen) ((rowSum_of _ _ _ r).trans (Finset.sum_congr rfl fun j _ => ?_))
  exact congrArg₂ (fun a b : EReal => a * b) (pay8_apply x t g r j) (pay8_apply x t g r j)

theorem pay1_apply (v : FVec Ideal S1x1024 .f32) (j : Fin 1024) :
    k0_pay1 (F := Ideal) (k0_pay7 (F := Ideal) x) (k0_pay10 (F := Ideal) x g t) v (ix2 0 j) = v (ix2 0 j) + slopesOf x t g j := by
  unfold k0_pay1 slopesOf
  refine congrArg₂ (fun a b : EReal => a + b) (congrFun (shapeCast_self v shapeCasts_S1x1024_S1x1024) _) ?_
  refine (colSum_of _ _ _ j).trans (Finset.sum_congr rfl fun r _ => ?_)
  exact congrArg₂ (fun a b : EReal => a * b) (pay10_apply x t g r j) (pay7_apply x r j)

/-- The rows of a block's gradient. -/
def gradOf (y : S1024x1024.Idx) : EReal := gradRow (fun d => x (ix2 (y 0) d)) (fun d => g (ix2 0 d)) (fun d => t (ix2 (y 0) d)) (y 1)

theorem pay2_apply (y : S1024x1024.Idx) :
    k0_pay2 (F := Ideal) (k0_pay6 (F := Ideal) x) (k0_pay7 (F := Ideal) x) g (k0_pay10 (F := Ideal) x g t) y = gradOf x t g y := by
  refine Eq.trans ?_ (kernelRow_eq _ _ _ _)
  obtain ⟨r, j, rfl⟩ : ∃ r j : Fin 1024, y = ix2 r j := ⟨y 0, y 1, eq_ix2 y⟩
  have e (i : Fin 1024) : mulf (k0_pay10 (F := Ideal) x g t) (broadcastTo S1024x1024 g broadcasts_S1x1024_S1024x1024) (ix2 r i)
      = up (fun d => x (ix2 r d)) (fun d => g (ix2 0 d)) (fun d => t (ix2 r d)) i * g (ix2 0 i) :=
    congrArg₂ (fun a b : EReal => a * b) (pay10_apply x t g r i) (weights_of g _ r i)
  unfold k0_pay2 kernelRow
  refine congrArg₂ (fun a b : EReal => a * b) ((spread_of (by decide) _ _ r j).trans (pay6_apply x r))
    (congrArg₂ (fun a b : EReal => a - b) (e j) (congrArg₂ (fun a b : EReal => a * b) (pay7_apply x r j)
      ((spread_of (by decide) _ _ r j).trans (congrArg (fun b : EReal => Ideal.div b cLen) ((rowSum_of _ _ _ r).trans (Finset.sum_congr rfl fun i _ => ?_))))))
  exact congrArg₂ (fun a b : EReal => a * b) (e i) (pay7_apply x r i)

theorem fill_loss (y : S1x1.Idx) : k0_pay4 (F := Ideal) y = (0 : EReal) := Ideal.ofBits_zero_f32
theorem fill_slopes (y : S1x1024.Idx) : k0_pay5 (F := Ideal) y = (0 : EReal) := Ideal.ofBits_zero_f32

end Pay

theorem eq_row (y : S1x1024.Idx) : y = ix2 0 (y 1) := ix2_ext y 0 (y 1) (Nat.lt_one_iff.mp (y 0).isLt) rfl
theorem eq_one (y : S1x1.Idx) : y = ix2 0 0 := ix2_ext y 0 0 (Nat.lt_one_iff.mp (y 0).isLt) (Nat.lt_one_iff.mp (y 1).isLt)

/-! ## What a point leaves in its blocks -/

variable (m : (ℓ : Loc nD τ sig) → Buf (Elt Ideal) ℓ)

theorem first_loss (c : Dev nD) (t : Fin cfg0.N) (h0 : t.val % 4 = 0) (y : S1x1.Idx) :
    (outsAt0 m c t.val t.isLt).1 y = lossOf (iblk m c 0 t) (iblk m c 2 t) (iblk m c 1 t) := by
  rw [outsAt0_A m c t h0]
  dsimp only
  unfold out0_A_3
  rw [View.read_writes_eq_canon _ _ _ (by intro y; apply cover0_A_3)]
  unfold kernelRun0_A
  dsimp only
  sl_unfold_words
  simp only [View.readAt_eq_ld, (hs0_0 t).read_unread, (hs0_1 t).read_unread, (hs0_2 t).read_unread, (hs0_3 t).read_unread]
  generalize iblk m c 0 t = X
  generalize iblk m c 1 t = G
  generalize iblk m c 2 t = T
  rw [View.canon_cons_unit_zero (S := S1x1) zero2, View.readCov_unit_zero (S := S1x1) _ zero2]
  simp only [View.ld_unit_zero (S := S1024x1024) zero2, View.ld_unit_zero (S := S1x1024) zero2, View.ld_unit_zero (S := S1x1) zero2]
  refine (congrArg (k0_pay9 (F := Ideal) X G T (k0_pay4 (F := Ideal))) (eq_one y)).trans ((pay9_apply X T G _).trans ?_)
  exact (congrArg (fun b : EReal => b + lossOf X T G) (fill_loss _)).trans (zero_add (M := EReal) _)

theorem later_loss (c : Dev nD) (t : Fin cfg0.N) (h0 : ¬t.val % 4 = 0) (y : S1x1.Idx) :
    (outsAt0 m c t.val t.isLt).1 y = (outsAt0 m c (t.val - 1) (Nat.lt_of_le_of_lt (Nat.sub_le _ _) t.isLt)).1 y
      + lossOf (iblk m c 0 t) (iblk m c 2 t) (iblk m c 1 t) := by
  rw [outsAt0_B m c t h0]
  dsimp only
  unfold out0_B_3
  rw [View.read_writes_eq_canon _ _ _ (by intro y; apply cover0_B_3)]
  unfold kernelRun0_B
  dsimp only
  sl_unfold_words
  simp only [View.readAt_eq_ld, (hs0_0 t).read_unread, (hs0_1 t).read_unread, (hs0_2 t).read_unread, (hs0_3 t).read_unread]
  generalize (outsAt0 m c (t.val - 1) (Nat.lt_of_le_of_lt (Nat.sub_le _ _) t.isLt)).1 = W
  generalize iblk m c 0 t = X
  generalize iblk m c 1 t = G
  generalize iblk m c 2 t = T
  rw [View.canon_unit_zero (S := S1x1) zero2]
  simp only [View.ld_unit_zero (S := S1024x1024) zero2, View.ld_unit_zero (S := S1x1024) zero2, View.ld_unit_zero (S := S1x1) zero2]
  rw [eq_one y]
  exact pay9_apply X T G W

theorem first_slopes (c : Dev nD) (t : Fin cfg0.N) (h0 : t.val % 4 = 0) (y : S1x1024.Idx) :
    (outsAt0 m c t.val t.isLt).2.2.2 y = slopesOf (iblk m c 0 t) (iblk m c 2 t) (iblk m c 1 t) (y 1) := by
  rw [outsAt0_A m c t h0]
  dsimp only
  unfold out0_A_6
  rw [View.read_writes_eq_canon _ _ _ (by intro y; apply cover0_A_6)]
  unfold kernelRun0_A
  dsimp only
  sl_unfold_words
  simp only [View.readAt_eq_ld, (hs0_0 t).read_unread, (hs0_1 t).read_unread, (hs0_2 t).read_unread, (hs0_6 t).read_unread]
  generalize iblk m c 0 t = X
  generalize iblk m c 1 t = G
  generalize iblk m c 2 t = T
  rw [View.canon_cons_unit_zero (S := S1x1024) zero2, View.readCov_unit_zero (S := S1x1024) _ zero2]
  simp only [View.ld_unit_zero (S := S1024x1024) zero2, View.ld_unit_zero (S := S1x1024) zero2]
  refine (congrArg (k0_pay1 (F := Ideal) (k0_pay7 (F := Ideal) X) (k0_pay10 (F := Ideal) X G T) (k0_pay5 (F := Ideal))) (eq_row y)).trans ((pay1_apply X T G _ (y 1)).trans ?_)
  exact (congrArg (fun b : EReal => b + slopesOf X T G (y 1)) (fill_slopes _)).trans (zero_add (M := EReal) _)

theorem later_slopes (c : Dev nD) (t : Fin cfg0.N) (h0 : ¬t.val % 4 = 0) (y : S1x1024.Idx) :
    (outsAt0 m c t.val t.isLt).2.2.2 y = (outsAt0 m c (t.val - 1) (Nat.lt_of_le_of_lt (Nat.sub_le _ _) t.isLt)).2.2.2 y
      + slopesOf (iblk m c 0 t) (iblk m c 2 t) (iblk m c 1 t) (y 1) := by
  rw [outsAt0_B m c t h0]
  dsimp only
  unfold out0_B_6
  rw [View.read_writes_eq_canon _ _ _ (by intro y; apply cover0_B_6)]
  unfold kernelRun0_B
  dsimp only
  sl_unfold_words
  simp only [View.readAt_eq_ld, (hs0_0 t).read_unread, (hs0_1 t).read_unread, (hs0_2 t).read_unread, (hs0_6 t).read_unread]
  generalize (outsAt0 m c (t.val - 1) (Nat.lt_of_le_of_lt (Nat.sub_le _ _) t.isLt)).2.2.2 = W
  generalize iblk m c 0 t = X
  generalize iblk m c 1 t = G
  generalize iblk m c 2 t = T
  rw [View.canon_unit_zero (S := S1x1024) zero2]
  simp only [View.ld_unit_zero (S := S1024x1024) zero2, View.ld_unit_zero (S := S1x1024) zero2]
  refine (congrArg (k0_pay1 (F := Ideal) (k0_pay7 (F := Ideal) X) (k0_pay10 (F := Ideal) X G T) W) (eq_row y)).trans ((pay1_apply X T G W (y 1)).trans ?_)
  exact congrArg (fun b : EReal => b + slopesOf X T G (y 1)) (congrArg W (eq_row y).symm)

/-- The rows' gradient, in both formats. -/
theorem left_rows (c : Dev nD) (t : Fin cfg0.N) (y : S1024x1024.Idx) :
    (outsAt0 m c t.val t.isLt).2.1 y = gradOf (iblk m c 0 t) (iblk m c 2 t) (iblk m c 1 t) y
    ∧ (outsAt0 m c t.val t.isLt).2.2.1 y = gradOf (iblk m c 0 t) (iblk m c 2 t) (iblk m c 1 t) y := by
  by_cases h0 : t.val % 4 = 0
  · rw [outsAt0_A m c t h0]
    dsimp only
    unfold out0_A_4 out0_A_5
    rw [View.read_writes_eq_canon _ _ _ (by intro y; apply cover0_A_4), View.read_writes_eq_canon _ _ _ (by intro y; apply cover0_A_5)]
    unfold kernelRun0_A
    dsimp only
    sl_unfold_words
    simp only [View.readAt_eq_ld, (hs0_0 t).read_unread, (hs0_1 t).read_unread, (hs0_2 t).read_unread]
    rw [View.canon_unit_zero (S := S1024x1024) zero2, View.canon_unit_zero (S := S1024x1024) zero2]
    simp only [View.ld_unit_zero (S := S1024x1024) zero2, View.ld_unit_zero (S := S1x1024) zero2]
    exact ⟨pay2_apply _ _ _ y, pay2_apply _ _ _ y⟩
  · rw [outsAt0_B m c t h0]
    dsimp only
    unfold out0_B_4 out0_B_5
    rw [View.read_writes_eq_canon _ _ _ (by intro y; apply cover0_B_4), View.read_writes_eq_canon _ _ _ (by intro y; apply cover0_B_5)]
    unfold kernelRun0_B
    dsimp only
    sl_unfold_words
    simp only [View.readAt_eq_ld, (hs0_0 t).read_unread, (hs0_1 t).read_unread, (hs0_2 t).read_unread]
    rw [View.canon_unit_zero (S := S1024x1024) zero2, View.canon_unit_zero (S := S1024x1024) zero2]
    simp only [View.ld_unit_zero (S := S1024x1024) zero2, View.ld_unit_zero (S := S1x1024) zero2]
    exact ⟨pay2_apply _ _ _ y, pay2_apply _ _ _ y⟩

/-! ## The blocks of the arrays -/

abbrev argX (c : Dev nD) : FVec Ideal S4096x1024 .f32 := m ((c.tc : Thread nD τ).loc main_arg0)
abbrev argG (c : Dev nD) : FVec Ideal S1x1024 .f32 := m ((c.tc : Thread nD τ).loc main_arg1)
abbrev argT (c : Dev nD) : FVec Ideal S4096x1024 .f32 := m ((c.tc : Thread nD τ).loc main_arg2)

/-- The point's number among the four. -/
abbrev blockOf (t : Fin cfg0.N) : Fin 4 := ⟨t.val, t.isLt.trans_eq N_0⟩
/-- The rows of block `t`. -/
def tall (X : FVec Ideal S4096x1024 .f32) (t : Fin 4) : FVec Ideal S1024x1024 .f32 := fun y => X (ix2 (row t (y 0)) (y 1))

theorem at0 : ∀ t : Fin grid0.N, win0_0.index t 0 * win0_0.size 0 = 1024 * t.val ∧ win0_0.index t 1 * win0_0.size 1 = 0 := by decide +kernel
theorem at1 : ∀ t : Fin grid0.N, win0_1.index t 0 * win0_1.size 0 = 0 ∧ win0_1.index t 1 * win0_1.size 1 = 0 := by decide +kernel
theorem at2 : ∀ t : Fin grid0.N, win0_2.index t 0 * win0_2.size 0 = 1024 * t.val ∧ win0_2.index t 1 * win0_2.size 1 = 0 := by decide +kernel
theorem at3 : ∀ t : Fin grid0.N, win0_3.index t 0 * win0_3.size 0 = 0 ∧ win0_3.index t 1 * win0_3.size 1 = 0 := by decide +kernel
theorem at4 : ∀ t : Fin grid0.N, win0_4.index t 0 * win0_4.size 0 = 1024 * t.val ∧ win0_4.index t 1 * win0_4.size 1 = 0 := by decide +kernel
theorem at5 : ∀ t : Fin grid0.N, win0_5.index t 0 * win0_5.size 0 = 1024 * t.val ∧ win0_5.index t 1 * win0_5.size 1 = 0 := by decide +kernel
theorem at6 : ∀ t : Fin grid0.N, win0_6.index t 0 * win0_6.size 0 = 0 ∧ win0_6.index t 1 * win0_6.size 1 = 0 := by decide +kernel

theorem emb0 (t : Fin cfg0.N) (y : S1024x1024.Idx) : (win0_0.rect t).emb y = ix2 (row (blockOf t) (y 0)) (y 1) :=
  ix2_ext _ _ _ ((win0_0.rect_emb_val t y 0).trans (congrArg (· + (y 0).val) (at0 t).1))
    ((win0_0.rect_emb_val t y 1).trans ((congrArg (· + (y 1).val) (at0 t).2).trans (Nat.zero_add _)))
theorem emb2 (t : Fin cfg0.N) (y : S1024x1024.Idx) : (win0_2.rect t).emb y = ix2 (row (blockOf t) (y 0)) (y 1) :=
  ix2_ext _ _ _ ((win0_2.rect_emb_val t y 0).trans (congrArg (· + (y 0).val) (at2 t).1))
    ((win0_2.rect_emb_val t y 1).trans ((congrArg (· + (y 1).val) (at2 t).2).trans (Nat.zero_add _)))
theorem emb4 (t : Fin cfg0.N) (y : S1024x1024.Idx) : (win0_4.rect t).emb y = ix2 (row (blockOf t) (y 0)) (y 1) :=
  ix2_ext _ _ _ ((win0_4.rect_emb_val t y 0).trans (congrArg (· + (y 0).val) (at4 t).1))
    ((win0_4.rect_emb_val t y 1).trans ((congrArg (· + (y 1).val) (at4 t).2).trans (Nat.zero_add _)))
theorem emb5 (t : Fin cfg0.N) (y : S1024x1024.Idx) : (win0_5.rect t).emb y = ix2 (row (blockOf t) (y 0)) (y 1) :=
  ix2_ext _ _ _ ((win0_5.rect_emb_val t y 0).trans (congrArg (· + (y 0).val) (at5 t).1))
    ((win0_5.rect_emb_val t y 1).trans ((congrArg (· + (y 1).val) (at5 t).2).trans (Nat.zero_add _)))
theorem emb1 (t : Fin cfg0.N) (y : S1x1024.Idx) : (win0_1.rect t).emb y = y :=
  (ix2_ext _ (y 0) (y 1) ((win0_1.rect_emb_val t y 0).trans ((congrArg (· + (y 0).val) (at1 t).1).trans (Nat.zero_add _)))
    ((win0_1.rect_emb_val t y 1).trans ((congrArg (· + (y 1).val) (at1 t).2).trans (Nat.zero_add _)))).trans (eq_ix2 y).symm
theorem emb3 (t : Fin cfg0.N) (y : S1x1.Idx) : (win0_3.rect t).emb y = y :=
  (ix2_ext _ (y 0) (y 1) ((win0_3.rect_emb_val t y 0).trans ((congrArg (· + (y 0).val) (at3 t).1).trans (Nat.zero_add _)))
    ((win0_3.rect_emb_val t y 1).trans ((congrArg (· + (y 1).val) (at3 t).2).trans (Nat.zero_add _)))).trans (eq_ix2 y).symm
theorem emb6 (t : Fin cfg0.N) (y : S1x1024.Idx) : (win0_6.rect t).emb y = y :=
  (ix2_ext _ (y 0) (y 1) ((win0_6.rect_emb_val t y 0).trans ((congrArg (· + (y 0).val) (at6 t).1).trans (Nat.zero_add _)))
    ((win0_6.rect_emb_val t y 1).trans ((congrArg (· + (y 1).val) (at6 t).2).trans (Nat.zero_add _)))).trans (eq_ix2 y).symm

theorem iblk0_eq (c : Dev nD) (t : Fin cfg0.N) : iblk m c 0 t = tall (argX m c) (blockOf t) := by
  funext y
  show V m c main_arg0 ((win0_0.rect t).emb y) = _
  rw [V_main_arg0, emb0]
  rfl
theorem iblk1_eq (c : Dev nD) (t : Fin cfg0.N) : iblk m c 1 t = argG m c := by
  funext y
  show V m c main_arg1 ((win0_1.rect t).emb y) = _
  rw [V_main_arg1, emb1]
theorem iblk2_eq (c : Dev nD) (t : Fin cfg0.N) : iblk m c 2 t = tall (argT m c) (blockOf t) := by
  funext y
  show V m c main_arg2 ((win0_2.rect t).emb y) = _
  rw [V_main_arg2, emb2]
  rfl

/-! ## The results -/

section Results
variable (X T : FVec Ideal S4096x1024 .f32) (G : FVec Ideal S1x1024 .f32)

/-- The loss. -/
def resLoss : FVec Ideal S1x1 .f32 := fun _ =>
  cPos * ∑ r : Fin 4096, rowLoss (fun d => X (ix2 r d)) (fun d => G (ix2 0 d)) (fun d => T (ix2 r d))
/-- The rows' gradient, in either format. -/
def resRows (e : FTy) : FVec Ideal S4096x1024 e := fun i =>
  gradRow (fun d => X (ix2 (i 0) d)) (fun d => G (ix2 0 d)) (fun d => T (ix2 (i 0) d)) (i 1)
/-- The weights' gradient. -/
def resSlopes : FVec Ideal S1x1024 .f32 := fun i =>
  ∑ r : Fin 4096, up (fun d => X (ix2 r d)) (fun d => G (ix2 0 d)) (fun d => T (ix2 r d)) (i 1) * normed (fun d => X (ix2 r d)) (i 1)

theorem half_sum {ι : Type} [Fintype ι] (f : ι → EReal) : cPos * ∑ i, f i = ∑ i, cPos * f i := by
  rw [cPos_eq, mul_comm, sum_mul_coe _ _ (by norm_num)]
  exact Finset.sum_congr rfl fun i _ => mul_comm _ _

theorem loss_blocks (y : S1x1.Idx) : resLoss X T G y = ∑ t : Fin 4, lossOf (tall X t) (tall T t) G :=
  (congrArg (fun b : EReal => cPos * b) (sum_rows _)).trans (half_sum _)
theorem slopes_blocks (y : S1x1024.Idx) : resSlopes X T G y = ∑ t : Fin 4, slopesOf (tall X t) (tall T t) G (y 1) := sum_rows _

end Results

theorem lt_N (n : ℕ) (h : n < 4) : n < cfg0.N := h.trans_eq N_0.symm
theorem lt3 : 3 < cfg0.N := lt_N 3 (by decide)

theorem stepA_loss (c : Dev nD) (t : Fin cfg0.N) (h0 : t.val % 4 = 0) (y : S1x1.Idx) :
    (outsAt0 m c t.val t.isLt).1 y = lossOf (tall (argX m c) (blockOf t)) (tall (argT m c) (blockOf t)) (argG m c) := by
  refine (first_loss m c t h0 y).trans ?_
  rw [iblk0_eq, iblk1_eq, iblk2_eq]
theorem stepB_loss (c : Dev nD) (t : Fin cfg0.N) (h0 : ¬t.val % 4 = 0) (y : S1x1.Idx) :
    (outsAt0 m c t.val t.isLt).1 y = (outsAt0 m c (t.val - 1) (Nat.lt_of_le_of_lt (Nat.sub_le _ _) t.isLt)).1 y
      + lossOf (tall (argX m c) (blockOf t)) (tall (argT m c) (blockOf t)) (argG m c) := by
  refine (later_loss m c t h0 y).trans ?_
  rw [iblk0_eq, iblk1_eq, iblk2_eq]
theorem stepA_slopes (c : Dev nD) (t : Fin cfg0.N) (h0 : t.val % 4 = 0) (y : S1x1024.Idx) :
    (outsAt0 m c t.val t.isLt).2.2.2 y = slopesOf (tall (argX m c) (blockOf t)) (tall (argT m c) (blockOf t)) (argG m c) (y 1) := by
  refine (first_slopes m c t h0 y).trans ?_
  rw [iblk0_eq, iblk1_eq, iblk2_eq]
theorem stepB_slopes (c : Dev nD) (t : Fin cfg0.N) (h0 : ¬t.val % 4 = 0) (y : S1x1024.Idx) :
    (outsAt0 m c t.val t.isLt).2.2.2 y = (outsAt0 m c (t.val - 1) (Nat.lt_of_le_of_lt (Nat.sub_le _ _) t.isLt)).2.2.2 y
      + slopesOf (tall (argX m c) (blockOf t)) (tall (argT m c) (blockOf t)) (argG m c) (y 1) := by
  refine (later_slopes m c t h0 y).trans ?_
  rw [iblk0_eq, iblk1_eq, iblk2_eq]

/-- After the last point the loss's block holds the sum over all rows. -/
theorem last_loss (c : Dev nD) (y : S1x1.Idx) : (outsAt0 m c 3 lt3).1 y = resLoss (argX m c) (argT m c) (argG m c) y := by
  refine Eq.trans ?_ ((loss_blocks _ _ _ y).trans (Fin.sum_univ_four _)).symm
  refine (stepB_loss m c ⟨3, lt3⟩ (by decide) y).trans (congrArg₂ (· + ·) ?_ rfl)
  refine (stepB_loss m c ⟨2, lt_N 2 (by decide)⟩ (by decide) y).trans (congrArg₂ (· + ·) ?_ rfl)
  refine (stepB_loss m c ⟨1, lt_N 1 (by decide)⟩ (by decide) y).trans (congrArg₂ (· + ·) ?_ rfl)
  exact stepA_loss m c ⟨0, lt_N 0 (by decide)⟩ rfl y
/-- After the last point the weights' block holds the sum over all rows. -/
theorem last_slopes (c : Dev nD) (y : S1x1024.Idx) : (outsAt0 m c 3 lt3).2.2.2 y = resSlopes (argX m c) (argT m c) (argG m c) y := by
  refine Eq.trans ?_ ((slopes_blocks _ _ _ y).trans (Fin.sum_univ_four _)).symm
  refine (stepB_slopes m c ⟨3, lt3⟩ (by decide) y).trans (congrArg₂ (· + ·) ?_ rfl)
  refine (stepB_slopes m c ⟨2, lt_N 2 (by decide)⟩ (by decide) y).trans (congrArg₂ (· + ·) ?_ rfl)
  refine (stepB_slopes m c ⟨1, lt_N 1 (by decide)⟩ (by decide) y).trans (congrArg₂ (· + ·) ?_ rfl)
  exact stepA_slopes m c ⟨0, lt_N 0 (by decide)⟩ rfl y

/-! ## The arrays -/

theorem array_loss (c : Dev nD) : (dats m 0 c).arrAt 3 cfg0.N = resLoss (argX m c) (argT m c) (argG m c) := by
  refine (dats m 0 c).arrAt_eq_of_cover 3 (resLoss (argX m c) (argT m c) (argG m c)) (fun t hf => ?_) fun i => ?_
  · have h3 : t.val = 3 := by
      have hN : cfg0.N = 4 := N_0
      have := (flush0_3 t).mp hf; have := t.isLt; omega
    obtain rfl : t = ⟨3, lt3⟩ := Fin.ext h3
    funext y
    exact (congrFun (Cert.LhIdeal.Value.flushed3 m c _) y).trans (last_loss m c y)
  · refine ⟨⟨3, lt3⟩, (flush0_3 _).mpr rfl, ?_⟩
    exact mem_of_emb ((cfg0.win 3).blk ⟨3, lt3⟩).view i i (emb3 _ i)

theorem array_slopes (c : Dev nD) : (dats m 0 c).arrAt 6 cfg0.N = resSlopes (argX m c) (argT m c) (argG m c) := by
  refine (dats m 0 c).arrAt_eq_of_cover 6 (resSlopes (argX m c) (argT m c) (argG m c)) (fun t hf => ?_) fun i => ?_
  · have h3 : t.val = 3 := by
      have hN : cfg0.N = 4 := N_0
      have := (flush0_6 t).mp hf; have := t.isLt; omega
    obtain rfl : t = ⟨3, lt3⟩ := Fin.ext h3
    funext y
    refine (congrFun (Cert.LhIdeal.Value.flushed6 m c _) y).trans ((last_slopes m c y).trans ?_)
    show _ = resSlopes (argX m c) (argT m c) (argG m c) ((win0_6.rect _).emb y)
    rw [emb6]
  · refine ⟨⟨3, lt3⟩, (flush0_6 _).mpr rfl, ?_⟩
    exact mem_of_emb ((cfg0.win 6).blk ⟨3, lt3⟩).view i i (emb6 _ i)

/-- A block's rows of the gradient are rows of the whole. -/
theorem rows_block (c : Dev nD) (t : Fin cfg0.N) (y : S1024x1024.Idx) (e : FTy) :
    gradOf (iblk m c 0 t) (iblk m c 2 t) (iblk m c 1 t) y = resRows (argX m c) (argT m c) (argG m c) e (ix2 (row (blockOf t) (y 0)) (y 1)) := by
  rw [iblk0_eq, iblk1_eq, iblk2_eq]
  rfl

theorem at_row (i : S4096x1024.Idx) : ∃ (t : Fin cfg0.N) (y : S1024x1024.Idx), ix2 (row (blockOf t) (y 0)) (y 1) = i := by
  have h0 : (i 0).val < 4096 := (i 0).isLt
  exact ⟨⟨(i 0).val / 1024, lt_N _ (by omega)⟩, ix2 ⟨(i 0).val % 1024, Nat.mod_lt _ (by decide)⟩ (i 1),
    (ix2_ext i _ _ (div_back 1024 (i 0).val).symm rfl).symm⟩

theorem array_rows (c : Dev nD) : (dats m 0 c).arrAt 4 cfg0.N = resRows (argX m c) (argT m c) (argG m c) .f32 := by
  refine (dats m 0 c).arrAt_eq_of_cover 4 (resRows (argX m c) (argT m c) (argG m c) .f32) (fun t _ => ?_) fun i => ?_
  · funext y
    refine (congrFun (Cert.LhIdeal.Value.flushed4 m c t) y).trans ((left_rows m c t y).1.trans ((rows_block m c t y .f32).trans ?_))
    exact congrArg (resRows (argX m c) (argT m c) (argG m c) .f32) (emb4 t y).symm
  · obtain ⟨t, y, h⟩ := at_row i
    exact ⟨t, flush0_4 t, mem_of_emb ((cfg0.win 4).blk t).view y i ((emb4 t y).trans h)⟩

theorem array_rows_short (c : Dev nD) : (dats m 0 c).arrAt 5 cfg0.N = resRows (argX m c) (argT m c) (argG m c) .bf16 := by
  refine (dats m 0 c).arrAt_eq_of_cover 5 (resRows (argX m c) (argT m c) (argG m c) .bf16) (fun t _ => ?_) fun i => ?_
  · funext y
    refine (congrFun (Cert.LhIdeal.Value.flushed5 m c t) y).trans ((left_rows m c t y).2.trans ((rows_block m c t y .bf16).trans ?_))
    exact congrArg (resRows (argX m c) (argT m c) (argG m c) .bf16) (emb5 t y).symm
  · obtain ⟨t, y, h⟩ := at_row i
    exact ⟨t, flush0_5 t, mem_of_emb ((cfg0.win 5).blk t).view y i ((emb5 t y).trans h)⟩

/-! ## The reference -/

section Ref
open Cert.LhRefIdeal.Read

variable (X T : FVec Ideal S4096x1024 .f32) (G : FVec Ideal S1x1024 .f32)

theorem ref6_apply (r : Fin 4096) : val_main_v6 (F := Ideal) X (ix2 r 0) = Ideal.div (∑ j : Fin 1024, X (ix2 r j) * X (ix2 r j)) cLen + cEps := by
  refine congrArg₂ (· + ·) (congrArg₂ Ideal.div ?_ (val_main_v3_apply (F := Ideal) _)) (val_main_v5_apply (F := Ideal) _)
  refine Eq.trans (val_main_v2_apply (F := Ideal) X (ix2 r 0)) (Eq.trans (val_main_v1_apply X _) ?_)
  refine Eq.trans (congrArg (· + _) Ideal.ofBits_zero_f32) (Eq.trans (zero_add _) ?_)
  exact Finset.sum_congr rfl fun d _ => congrArg (fun i : S4096x1024.Idx => X i * X i) (eq_ix2 _)

theorem ref7_apply (r : Fin 4096) : val_main_v7 (F := Ideal) X (ix2 r 0) = scaleOf fun j => X (ix2 r j) :=
  congrArg Ideal.rsqrt (ref6_apply X r)

theorem ref12_apply (r : Fin 4096) (j : Fin 1024) : val_main_v12 (F := Ideal) X (ix2 r j) = normed (fun d => X (ix2 r d)) j :=
  congrArg (fun b : EReal => X (ix2 r j) * b) (Eq.trans (val_main_v11_apply (F := Ideal) X (ix2 r j))
    (Eq.trans (congrArg (val_main_v7 (F := Ideal) X) (eq_ix2 _)) (ref7_apply X r)))

theorem ref15_apply (r : Fin 4096) (j : Fin 1024) :
    val_main_v15 (F := Ideal) X G T (ix2 r j) = miss (fun d => X (ix2 r d)) (fun d => G (ix2 0 d)) (fun d => T (ix2 r d)) j :=
  congrArg (fun b : EReal => b - T (ix2 r j)) (congrArg₂ (fun a b : EReal => a * b) (ref12_apply X r j)
    (Eq.trans (val_main_v13_apply (F := Ideal) G _) (congrArg G (eq_ix2 _))))

theorem ref21_apply (r : Fin 4096) :
    val_main_v21 (F := Ideal) X G T (ix1 r) = rowLoss (fun d => X (ix2 r d)) (fun d => G (ix2 0 d)) (fun d => T (ix2 r d)) := by
  unfold rowLoss
  refine congrArg₂ Ideal.div ?_ (val_main_v20_apply (F := Ideal) _)
  refine Eq.trans (val_main_v19_apply X G T _) (Eq.trans (congrArg (· + _) Ideal.ofBits_zero_f32) (Eq.trans (zero_add _) ?_))
  refine Finset.sum_congr rfl fun d _ => ?_
  have e : val_main_v15 (F := Ideal) X G T (idx_main_v19 (ix1 r) d) = miss (fun d => X (ix2 r d)) (fun d => G (ix2 0 d)) (fun d => T (ix2 r d)) d :=
    Eq.trans (congrArg (val_main_v15 (F := Ideal) X G T) (eq_ix2 _)) (ref15_apply X T G r d)
  exact congrArg₂ (· * ·) e e

theorem ref23_apply (i : Cert.LhRefIdeal.S_.Idx) : val_main_v23 (F := Ideal) X G T i = resLoss X T G (ix2 0 0) := by
  refine congrArg (fun b : EReal => cPos * b) (Eq.trans (val_main_v22_apply X G T i) ?_)
  refine Eq.trans (congrArg (· + _) Ideal.ofBits_zero_f32) (Eq.trans (zero_add _) ?_)
  exact Fintype.sum_equiv ⟨fun j : Cert.LhRefIdeal.S4096.Idx => j 0, ix1, fun j => (eq_ix1 j).symm, fun _ => rfl⟩ _ _ fun j =>
    (congrArg (val_main_v21 (F := Ideal) X G T) (eq_ix1 j)).trans (ref21_apply X T G (j 0))

theorem ref_loss : val_main_v49 (F := Ideal) X G T = resLoss X T G := by
  funext i
  show val_main_v23 (F := Ideal) X G T _ = _
  exact ref23_apply X T G _

theorem ref29_apply (r : Fin 4096) (j : Fin 1024) :
    val_main_v29 (F := Ideal) X G T (ix2 r j) = up (fun d => X (ix2 r d)) (fun d => G (ix2 0 d)) (fun d => T (ix2 r d)) j := by
  refine Eq.trans (congrArg₂ (fun a b : EReal => a * b) (Eq.trans (val_main_v28_apply (F := Ideal) _)
    (congrArg₂ Ideal.div (val_main_v25_apply (F := Ideal) _) (val_main_v26_apply (F := Ideal) _)))
    (congrArg₂ (fun a b : EReal => a * b) (val_main_v17_apply (F := Ideal) _) (ref15_apply X T G r j))) ?_
  exact half_twice _

theorem ref_slopes : val_main_v32 (F := Ideal) X G T = resSlopes X T G := by
  funext i
  obtain ⟨j, rfl⟩ : ∃ j : Fin 1024, i = ix2 0 j := ⟨i 1, eq_row i⟩
  refine Eq.trans (val_main_v32_apply (F := Ideal) X G T _) (Eq.trans (val_main_v31_apply X G T _) ?_)
  refine Eq.trans (congrArg (· + _) Ideal.ofBits_zero_f32) (Eq.trans (zero_add _) ?_)
  refine Finset.sum_congr rfl fun r _ => ?_
  have e : idx_main_v31 (idx_main_v32 (ix2 0 j)) r = ix2 r j := ix2_ext _ r j rfl (by
    show 0 * 1024 + j.val = j.val; omega)
  refine Eq.trans (congrArg (val_main_v30 (F := Ideal) X G T) e) ?_
  exact (congrArg₂ (fun a b : EReal => a * b) (ref12_apply X r j) (ref29_apply X T G r j)).trans (mul_comm _ _)

theorem ref34_apply (r : Fin 4096) (j : Fin 1024) :
    val_main_v34 (F := Ideal) X G T (ix2 r j)
      = up (fun d => X (ix2 r d)) (fun d => G (ix2 0 d)) (fun d => T (ix2 r d)) j * G (ix2 0 j) :=
  congrArg₂ (fun a b : EReal => a * b) (ref29_apply X T G r j) (Eq.trans (val_main_v33_apply (F := Ideal) G _) (congrArg G (eq_ix2 _)))

theorem ref42_apply (r : Fin 4096) :
    val_main_v42 (F := Ideal) X G T (ix2 r 0)
      = slopePart (up (fun d => X (ix2 r d)) (fun d => G (ix2 0 d)) (fun d => T (ix2 r d))) (fun d => G (ix2 0 d)) (fun d => X (ix2 r d)) := by
  unfold slopePart
  rw [← scale_eq, ← div_len]
  refine congrArg₂ Ideal.div (congrArg₂ (fun a b : EReal => a * b) ?_ (congrArg₂ (fun a b : EReal => a * b) (val_main_v9_apply (F := Ideal) _)
    (congrArg₂ Ideal.div (ref7_apply X r) (ref6_apply X r)))) (val_main_v41_apply (F := Ideal) _)
  refine Eq.trans (val_main_v37_apply (F := Ideal) X G T (ix2 r 0)) (Eq.trans (val_main_v36_apply X G T _) ?_)
  refine Eq.trans (congrArg (· + _) Ideal.ofBits_zero_f32) (Eq.trans (zero_add _) ?_)
  refine Finset.sum_congr rfl fun d _ => ?_
  refine Eq.trans (congrArg (val_main_v35 (F := Ideal) X G T) (ix2_ext _ r d (by show r.val * 1 + 0 = r.val; omega) rfl)) ?_
  exact congrArg (fun b : EReal => X (ix2 r d) * b) (ref34_apply X T G r d)

theorem ref44_apply (r : Fin 4096) (j : Fin 1024) :
    val_main_v44 (F := Ideal) X G T (ix2 r j)
      = slopePart (up (fun d => X (ix2 r d)) (fun d => G (ix2 0 d)) (fun d => T (ix2 r d))) (fun d => G (ix2 0 d)) (fun d => X (ix2 r d)) := by
  refine Eq.trans (val_main_v44_apply (F := Ideal) X G T _) (Eq.trans (val_main_v43_apply X G T _) ?_)
  refine Eq.trans (congrArg (· + _) Ideal.ofBits_zero_f32) (Eq.trans (zero_add _) ?_)
  refine (Fin.sum_univ_one _).trans ?_
  exact Eq.trans (congrArg (val_main_v42 (F := Ideal) X G T) (eq_ix2 _)) (ref42_apply X T G r)

theorem ref48_apply (r : Fin 4096) (j : Fin 1024) :
    val_main_v48 (F := Ideal) X G T (ix2 r j) = gradRow (fun d => X (ix2 r d)) (fun d => G (ix2 0 d)) (fun d => T (ix2 r d)) j := by
  unfold gradRow
  rw [inRow_eq, zero_add, ← scale_eq]
  have e44 := ref44_apply X T G r j
  refine congrArg₂ (fun a b : EReal => a + b) (congrArg₂ (fun a b : EReal => a + b) (congrArg₂ (fun a b : EReal => a * b) (ref34_apply X T G r j) ?_)
    (congrArg (fun b : EReal => X (ix2 r j) * b) e44)) (congrArg (fun b : EReal => b * X (ix2 r j)) e44)
  exact Eq.trans (val_main_v38_apply (F := Ideal) X (ix2 r j)) (Eq.trans (congrArg (val_main_v7 (F := Ideal) X) (eq_ix2 _)) (ref7_apply X r))

theorem ref_rows : val_main_v48 (F := Ideal) X G T = resRows X T G .f32 := by
  funext i
  exact (congrArg (val_main_v48 (F := Ideal) X G T) (eq_ix2 i)).trans (ref48_apply X T G (i 0) (i 1))
theorem ref_rows_short : val_main_v50 (F := Ideal) X G T = resRows X T G .bf16 := ref_rows X T G

end Ref

/-- The call runs, keeps its arguments and ends quiescent. -/
theorem frame_kernel : Cert.quiescent_Lh := fun m ρ _ => Cert.Lh.Gen.frame m ρ
/-- The same of its idealization. -/
theorem frame_ideal : Cert.quiescent_LhIdeal := fun m ρ _ => Cert.LhIdeal.Gen.frame m ρ
/-- The reference runs, keeps its arguments and has no semaphores. -/
theorem frame_ref : Cert.quiescent_LhRefIdeal := fun m ρ _ =>
  (θ_run Cert.LhRefIdeal.defs _ _).mono (fun r h => ⟨fun c => (h c).2.2.2.2, sem_eq_zero_of_no_sems (by decide) r.2⟩)
    (Cert.LhRefIdeal.Value.run (F := Ideal) m ρ)

/-- The kernel and the reference compute the same loss and the same gradients. -/
theorem value : Cert.algebraic_LhIdeal_LhRefIdeal := by
  intro m ρ m' ρ' _ hag
  refine ⟨fun c => resLoss (argX m c) (argT m c) (argG m c), fun c => resRows (argX m c) (argT m c) (argG m c) .f32,
    fun c => resRows (argX m c) (argT m c) (argG m c) .bf16, fun c => resSlopes (argX m c) (argT m c) (argG m c), ?_, ?_⟩
  · exact (θ_run Cert.LhIdeal.defs _ _).mono (fun r h c => ⟨(h c).1.trans (array_loss m c), (h c).2.1.trans (array_rows m c),
      (h c).2.2.1.trans (array_rows_short m c), (h c).2.2.2.1.trans (array_slopes m c), (h c).2.2.2.2⟩) (Cert.LhIdeal.Value.run_blocks m ρ)
  · refine (θ_run Cert.LhRefIdeal.defs _ _).mono (fun r h c => ?_) (Cert.LhRefIdeal.Value.run (F := Ideal) m' ρ')
    obtain ⟨e0, e1, e2⟩ := hag c
    refine ⟨(h c).1.trans ?_, (h c).2.1.trans ?_, (h c).2.2.1.trans ?_, (h c).2.2.2.1.trans ?_, (h c).2.2.2.2⟩
    · refine (Cert.LhRefIdeal.Read.val_main_v49_eq _ _ _).trans ?_
      rw [e0, e1, e2]
      exact ref_loss (argX m c) (argT m c) (argG m c)
    · refine (Cert.LhRefIdeal.Read.val_main_v48_eq m' c).trans ?_
      rw [e0, e1, e2]
      exact ref_rows (argX m c) (argT m c) (argG m c)
    · refine (Cert.LhRefIdeal.Read.val_main_v50_eq m' c).trans ?_
      rw [e0, e1, e2]
      exact ref_rows_short (argX m c) (argT m c) (argG m c)
    · refine (Cert.LhRefIdeal.Read.val_main_v32_eq _ _ _).trans ?_
      rw [e0, e1, e2]
      exact ref_slopes (argX m c) (argT m c) (argG m c)

end Cert.XLh

end
-- ==== Proof.NormSiluGrad.lean ====
/- The gradient of the layer norm followed by the sigmoid linear unit, by rows and blocks of 1024 rows. -/
module

public import proofs.«01_k».proof.Proof.Gen.Lb.Frame
public import proofs.«01_k».proof.Proof.Gen.LbIdeal.Value
public import proofs.«01_k».proof.Proof.Gen.LbRefIdeal.Read
public import proofs.«01_k».proof.Proof.AttnClaims
public import proofs.«01_k».proof.Proof.LossHead
public import proofs.«01_k».proof.Proof.LayerNorm

@[expose] public section

noncomputable section

namespace Cert.XLb

open Cert.XAttn (row sum_rows ofBits_one coe_sum real_of_cmp)
open Cert.XDn (cInv cLen cEps cHalf cInv_eq cHalf_eq div_len div_real slopeOf meanSq_pos)
open Cert.XLh (two_eq scale_eq eq_row)
open Cert.XLs (meanOf centred shifted)
open Cert.LbIdeal Cert.LbIdeal.Gen Cert.XSolo Cert.XDown Cert.XPlaces Cert.XProducts Idealize.ShloMosaic Idealize.ShloMosaic.ValueIdx Idealize.SL.Sem

/-! ## One row -/

/-- The logistic. -/
def gate (z : EReal) : EReal := Ideal.div (Ideal.ofBits .f32 0x3F800000#32) (Ideal.ofBits .f32 0x3F800000#32 + Ideal.exp (-z))

/-- The gradient `s` through the sigmoid linear unit at `z`, as the kernel has it. -/
def through (z s : EReal) : EReal := s * (gate z + z * gate z * (Ideal.ofBits .f32 0x3F800000#32 - gate z))

/-- It is a number, and differentiation gives the same one. -/
theorem through_real (z : EReal) (s : ℝ) : ∃ d : ℝ, through z s = d
    ∧ s * gate z + z * s * (gate z * (Ideal.ofBits .f32 0x3F800000#32 - gate z)) = d := by
  unfold through gate
  rw [ofBits_one]
  induction z using EReal.rec with
  | top =>
    have e : Ideal.div 1 (1 + Ideal.exp (-⊤)) = ((1 : ℝ) : EReal) := by
      rw [EReal.neg_top, Ideal.exp_bot, add_zero, ← EReal.coe_one, div_real _ 1 one_ne_zero, inv_one, EReal.coe_one, mul_one]
    have f : (1 : EReal) - ((1 : ℝ) : EReal) = 0 := by rw [← EReal.coe_one, ← EReal.coe_sub, sub_self, EReal.coe_zero]
    rw [e, f]
    exact ⟨s, by rw [mul_zero, add_zero, EReal.coe_one, mul_one], by rw [mul_zero, mul_zero, add_zero, EReal.coe_one, mul_one]⟩
  | bot =>
    have e : Ideal.div 1 (1 + Ideal.exp (-⊥)) = 0 := by
      rw [EReal.neg_bot, Ideal.exp_top, EReal.add_top_of_ne_bot (by decide)]
      unfold Ideal.div
      rw [if_neg (by decide), EReal.inv_top, mul_zero]
    rw [e]
    exact ⟨0, by rw [mul_zero, zero_mul, add_zero, mul_zero, EReal.coe_zero], by rw [zero_mul, mul_zero, mul_zero, add_zero, EReal.coe_zero]⟩
  | coe z =>
    have p : 0 < 1 + Real.exp (-z) := by positivity
    have e : Ideal.div 1 (1 + Ideal.exp (-(z : EReal))) = (((1 + Real.exp (-z))⁻¹ : ℝ) : EReal) := by
      rw [← EReal.coe_neg, Ideal.exp_coe, ← EReal.coe_one, ← EReal.coe_add, div_real _ _ p.ne', EReal.coe_one, one_mul]
    rw [e]
    generalize (1 + Real.exp (-z))⁻¹ = w
    refine ⟨s * (w + z * w * (1 - w)), by push_cast; rfl, ?_⟩
    norm_cast
    ring

section Row
variable (x h : Fin 1024 → EReal)

/-- A row centred and normed. -/
def hat (j : Fin 1024) : EReal := centred x j * scaleOf (centred x)
/-- The kernel's row: `h` the gradient by the row normed. -/
def kernelRow (j : Fin 1024) : EReal :=
  scaleOf (centred x) * (h j - meanOf h - hat x j * meanOf fun i => h i * hat x i)

/-- The slope through the variance, as differentiation gives it. -/
def slopePart : EReal :=
  Ideal.div ((∑ i : Fin 1024, centred x i * h i)
    * (cHalf * Ideal.div (scaleOf (centred x)) (Ideal.div (∑ i : Fin 1024, centred x i * centred x i) cLen + cEps))) cLen
/-- The row as differentiation gives it. -/
def derivedRow (j : Fin 1024) : EReal :=
  (h j * scaleOf (centred x) + slopePart x h * (Ideal.ofBits .f32 0x40000000#32 * centred x j))
    + Ideal.div ((∑ i : Fin 1024, -(h i * scaleOf (centred x)))
      + ∑ i : Fin 1024, -(slopePart x h * (Ideal.ofBits .f32 0x40000000#32 * centred x i))) cLen

theorem real_left (a b : EReal) (r : ℝ) (e : a + b = r) : ∃ q : ℝ, a = q := by
  induction a using EReal.rec with
  | coe q => exact ⟨q, rfl⟩
  | bot => rw [EReal.bot_add] at e; exact absurd e.symm (EReal.coe_ne_bot r)
  | top =>
    induction b using EReal.rec with
    | coe q => rw [EReal.top_add_coe] at e; exact absurd e.symm (EReal.coe_ne_top r)
    | bot => rw [EReal.add_bot] at e; exact absurd e.symm (EReal.coe_ne_bot r)
    | top => rw [EReal.top_add_top] at e; exact absurd e.symm (EReal.coe_ne_top r)

/-- Either a row centred is of numbers summing to zero, or each of its elements is infinite. -/
theorem centred_cases : (∃ C : Fin 1024 → ℝ, ∑ j, C j = 0 ∧ ∀ j, centred x j = C j) ∨ ∀ j, centred x j * centred x j = ⊤ := by
  unfold centred
  by_cases hx : ∀ j, ∃ r : ℝ, x j = r
  · choose X hX using hx
    refine .inl ⟨fun j => X j - (∑ i, X i) * (1 / 1024), ?_, fun j => ?_⟩
    · rw [Finset.sum_sub_distrib, Finset.sum_const, Finset.card_univ, Fintype.card_fin, nsmul_eq_mul]
      ring
    · have e : meanOf x = (((∑ i, X i) * (1 / 1024) : ℝ) : EReal) := by
        unfold meanOf
        rw [div_len, cInv_eq, Finset.sum_congr rfl fun i _ => hX i, coe_sum, ← EReal.coe_mul]
      rw [e, hX j, ← EReal.coe_sub]
  · refine .inr fun j => ?_
    have hm : meanOf x = ⊤ ∨ meanOf x = ⊥ := by
      obtain ⟨k, hk⟩ := not_forall.mp hx
      unfold meanOf
      rw [div_len, cInv_eq]
      have p : (0 : ℝ) < 1 / 1024 := by norm_num
      cases hs : ∑ j, x j using EReal.rec with
      | coe r => exact absurd (real_left _ _ r ((Finset.add_sum_erase Finset.univ x (Finset.mem_univ k)).trans hs)) hk
      | bot => exact .inr (EReal.bot_mul_coe_of_pos p)
      | top => exact .inl (EReal.top_mul_coe_of_pos p)
    rcases hm with e | e <;> rw [e]
    · rw [EReal.sub_top, EReal.bot_mul_bot]
    · cases x j using EReal.rec with
      | coe r => rfl
      | bot => rfl
      | top => rfl

theorem row_eq (hh : ∀ j, ∃ r : ℝ, h j = r) (j : Fin 1024) : kernelRow x h j = derivedRow x h j := by
  choose H hH using hh
  unfold kernelRow derivedRow slopePart hat meanOf
  simp only [div_len, hH]
  rcases centred_cases x with ⟨C, hC, hc⟩ | hc
  · rcases meanSq_pos (centred x) with ht | ⟨v, hv, he⟩
    · exfalso
      simp only [hc, ← EReal.coe_mul, coe_sum] at ht
      rw [cInv_eq, Cert.XDn.cEps_eq, ← EReal.coe_mul, ← EReal.coe_add] at ht
      exact EReal.coe_ne_top _ ht
    · obtain ⟨a, ha, hs⟩ : ∃ a : ℝ, v⁻¹ = a * a ∧ scaleOf (centred x) = a := by
        refine ⟨(Real.sqrt v)⁻¹, ?_, ?_⟩
        · rw [← mul_inv, Real.mul_self_sqrt hv.le]
        · rw [scale_eq]; unfold slopeOf
          rw [he, Ideal.rsqrt_coe, if_neg (not_lt.mpr hv.le), if_neg hv.ne']
      rw [he, hs, div_real _ v hv.ne', ha, cHalf_eq, cInv_eq, two_eq]
      simp only [hc]
      simp only [← EReal.coe_mul, ← EReal.coe_neg, coe_sum, ← EReal.coe_add, ← EReal.coe_sub]
      refine congrArg _ ?_
      simp only [Finset.sum_neg_distrib, ← Finset.mul_sum, hC, mul_zero, neg_zero, add_zero]
      rw [← Finset.sum_mul, show (∑ i, H i * (C i * a)) = (∑ i, C i * H i) * a by
        rw [Finset.sum_mul]; exact Finset.sum_congr rfl fun i _ => by ring]
      ring
  · have ht : ∑ i : Fin 1024, centred x i * centred x i = ⊤ :=
      top_le_iff.mp ((hc j).symm.le.trans (Finset.single_le_sum (f := fun i => centred x i * centred x i) (fun i _ => (hc i).symm ▸ le_top) (Finset.mem_univ j)))
    have he : (∑ i : Fin 1024, centred x i * centred x i) * cInv + cEps = ⊤ := by
      rw [ht, cInv_eq, EReal.top_mul_coe_of_pos (by norm_num), Cert.XDn.cEps_eq, EReal.top_add_coe]
    have hs : scaleOf (centred x) = 0 := by
      rw [scale_eq]; unfold slopeOf
      rw [he, Ideal.rsqrt_top]
    rw [he, hs]
    have hd : Ideal.div 0 ⊤ = 0 := by
      unfold Ideal.div
      rw [if_neg (by decide), zero_mul]
    simp only [hd, mul_zero, zero_mul, add_zero, neg_zero, Finset.sum_const_zero]

end Row

/-- The gradient by the row shifted: `d` the gradient by the layer's row. -/
def pulled (x g b d : Fin 1024 → EReal) (j : Fin 1024) : EReal := through (shifted x g b j) (d j)
/-- The row's gradient. -/
def gradRow (x g b d : Fin 1024 → EReal) (j : Fin 1024) : EReal := kernelRow x (fun i => pulled x g b d i * g i) j

/-! ## One block -/

section Pay
variable (d : FVec Ideal S1024x1024 .bf16) (x e : FVec Ideal S1024x1024 .f32) (g b : FVec Ideal S1x1024 .f32)

theorem pay6_apply (r : Fin 1024) : k0_pay6 (F := Ideal) x (ix2 r 0) = scaleOf (centred fun i => x (ix2 r i)) := by
  unfold k0_pay6 scaleOf
  refine congrArg (fun b : EReal => Ideal.rsqrt (Ideal.div b cLen + cEps)) ((rowSum_of _ _ _ r).trans (Finset.sum_congr rfl fun j _ => ?_))
  exact congrArg₂ (fun a b : EReal => a * b) (Cert.XLs.centred_apply x r j) (Cert.XLs.centred_apply x r j)

theorem pay7_apply (r j : Fin 1024) : k0_pay7 (F := Ideal) x (ix2 r j) = hat (fun i => x (ix2 r i)) j := by
  unfold k0_pay7
  exact congrArg₂ (fun a b : EReal => a * b) (Cert.XLs.centred_apply x r j) ((spread_of (by decide) _ _ r j).trans (pay6_apply x r))

theorem pay9_at (y : S1024x1024.Idx) : k0_pay9 (F := Ideal) x g b y = gate (Cert.XLs.payShifted x g b y) := by
  show Ideal.div (Ideal.ofBits .f32 0x3F800000#32)
    (Ideal.ofBits .f32 0x3F800000#32 + Ideal.exp (Ideal.ofBits .f32 0x00000000#32 - Cert.XLs.payShifted x g b y)) = _
  unfold gate
  rw [Ideal.ofBits_zero_f32, sub_eq_add_neg, zero_add]

/-- The block's gradient by the rows shifted. -/
abbrev pay12 : FVec Ideal S1024x1024 .f32 := k0_pay12 (F := Ideal) (k0_pay9 (F := Ideal) x g b) (k0_pay10 (F := Ideal) d) (k0_pay11 (F := Ideal) x g b)

theorem pay12_apply (r j : Fin 1024) :
    pay12 d x g b (ix2 r j) = pulled (fun i => x (ix2 r i)) (fun i => g (ix2 0 i)) (fun i => b (ix2 0 i)) (fun i => d (ix2 r i)) j := by
  unfold pulled
  rw [← Cert.XLs.shifted_apply]
  unfold through
  exact congrArg (fun w : EReal => d (ix2 r j) * (w + Cert.XLs.payShifted x g b (ix2 r j) * w * (Ideal.ofBits .f32 0x3F800000#32 - w)))
    (pay9_at x g b (ix2 r j))

/-- What a block adds to the gain's gradient. -/
def gainOf (j : Fin 1024) : EReal :=
  ∑ r : Fin 1024, pulled (fun i => x (ix2 r i)) (fun i => g (ix2 0 i)) (fun i => b (ix2 0 i)) (fun i => d (ix2 r i)) j * hat (fun i => x (ix2 r i)) j
/-- What a block adds to the shift's gradient. -/
def shiftOf (j : Fin 1024) : EReal :=
  ∑ r : Fin 1024, pulled (fun i => x (ix2 r i)) (fun i => g (ix2 0 i)) (fun i => b (ix2 0 i)) (fun i => d (ix2 r i)) j
/-- What a block adds to the last bias's gradient. -/
def biasOf (j : Fin 1024) : EReal := ∑ r : Fin 1024, e (ix2 r j)
/-- The rows of a block's gradient. -/
def gradOf (y : S1024x1024.Idx) : EReal :=
  gradRow (fun i => x (ix2 (y 0) i)) (fun i => g (ix2 0 i)) (fun i => b (ix2 0 i)) (fun i => d (ix2 (y 0) i)) (y 1)

variable (v : FVec Ideal S1x1024 .f32) (y : S1x1024.Idx)

theorem pay13_apply : k0_pay13 (F := Ideal) (k0_pay7 (F := Ideal) x) (k0_pay9 (F := Ideal) x g b) (k0_pay10 (F := Ideal) d) (k0_pay11 (F := Ideal) x g b) v y
    = v y + gainOf d x g b (y 1) := by
  refine (congrArg (k0_pay13 (F := Ideal) _ _ _ _ v) (eq_row y)).trans ?_
  unfold k0_pay13 gainOf
  refine congrArg₂ (fun a b : EReal => a + b) ((congrFun (shapeCast_self v shapeCasts_S1x1024_S1x1024) _).trans (congrArg v (eq_row y).symm)) ?_
  refine (colSum_of _ _ _ (y 1)).trans (Finset.sum_congr rfl fun r _ => ?_)
  exact congrArg₂ (fun a b : EReal => a * b) (pay12_apply d x g b r (y 1)) (pay7_apply x r (y 1))
theorem pay14_apply : k0_pay14 (F := Ideal) (k0_pay9 (F := Ideal) x g b) (k0_pay10 (F := Ideal) d) (k0_pay11 (F := Ideal) x g b) v y
    = v y + shiftOf d x g b (y 1) := by
  refine (congrArg (k0_pay14 (F := Ideal) _ _ _ v) (eq_row y)).trans ?_
  unfold k0_pay14 shiftOf
  refine congrArg₂ (fun a b : EReal => a + b) ((congrFun (shapeCast_self v shapeCasts_S1x1024_S1x1024) _).trans (congrArg v (eq_row y).symm)) ?_
  exact (colSum_of _ _ _ (y 1)).trans (Finset.sum_congr rfl fun r _ => pay12_apply d x g b r (y 1))
theorem pay15_apply : k0_pay15 (F := Ideal) v e y = v y + biasOf e (y 1) := by
  refine (congrArg (k0_pay15 (F := Ideal) v e) (eq_row y)).trans ?_
  unfold k0_pay15 biasOf
  refine congrArg₂ (fun a b : EReal => a + b) ((congrFun (shapeCast_self v shapeCasts_S1x1024_S1x1024) _).trans (congrArg v (eq_row y).symm)) ?_
  exact colSum_of _ _ _ (y 1)

theorem pay1_apply (y : S1024x1024.Idx) :
    k0_pay1 (F := Ideal) (k0_pay6 (F := Ideal) x) (k0_pay7 (F := Ideal) x)
      (k0_pay17 (F := Ideal) g (k0_pay9 (F := Ideal) x g b) (k0_pay10 (F := Ideal) d) (k0_pay11 (F := Ideal) x g b))
      (k0_pay18 (F := Ideal) (k0_pay7 (F := Ideal) x) g (k0_pay9 (F := Ideal) x g b) (k0_pay10 (F := Ideal) d) (k0_pay11 (F := Ideal) x g b)) y
      = gradOf d x g b y := by
  obtain ⟨r, j, rfl⟩ : ∃ r j : Fin 1024, y = ix2 r j := ⟨y 0, y 1, eq_ix2 y⟩
  have q (i : Fin 1024) : k0_pay16 (F := Ideal) g (k0_pay9 (F := Ideal) x g b) (k0_pay10 (F := Ideal) d) (k0_pay11 (F := Ideal) x g b) (ix2 r i)
      = pulled (fun i => x (ix2 r i)) (fun i => g (ix2 0 i)) (fun i => b (ix2 0 i)) (fun i => d (ix2 r i)) i * g (ix2 0 i) :=
    congrArg₂ (fun a b : EReal => a * b) (pay12_apply d x g b r i) (weights_of g _ r i)
  unfold k0_pay1 k0_pay17 k0_pay18 gradOf gradRow kernelRow meanOf
  refine congrArg₂ (fun a b : EReal => a * b) ((spread_of (by decide) _ _ r j).trans (pay6_apply x r))
    (congrArg₂ (fun a b : EReal => a - b) (congrArg₂ (fun a b : EReal => a - b) (q j)
        ((spread_of (by decide) _ _ r j).trans (congrArg (fun b : EReal => Ideal.div b cLen) ((rowSum_of _ _ _ r).trans (Finset.sum_congr rfl fun i _ => q i)))))
      (congrArg₂ (fun a b : EReal => a * b) (pay7_apply x r j)
        ((spread_of (by decide) _ _ r j).trans (congrArg (fun b : EReal => Ideal.div b cLen) ((rowSum_of _ _ _ r).trans (Finset.sum_congr rfl fun i _ => ?_))))))
  exact congrArg₂ (fun a b : EReal => a * b) (q i) (pay7_apply x r i)

theorem from_zero (s : EReal) : Ideal.ofBits .f32 0x00000000#32 + s = s := by rw [Ideal.ofBits_zero_f32, zero_add]

end Pay

/-! ## What a point leaves in its blocks -/

variable (m : (ℓ : Loc nD τ sig) → Buf (Elt Ideal) ℓ)

set_option maxHeartbeats 2000000 in
theorem left_first (c : Dev nD) (t : Fin cfg0.N) (h0 : t.val % 4 = 0) (y : S1024x1024.Idx) (z : S1x1024.Idx) :
    (outsAt0 m c t.val t.isLt).1 y = gradOf (iblk m c 0 t) (iblk m c 1 t) (iblk m c 2 t) (iblk m c 3 t) y
    ∧ (outsAt0 m c t.val t.isLt).2.1 z = gainOf (iblk m c 0 t) (iblk m c 1 t) (iblk m c 2 t) (iblk m c 3 t) (z 1)
    ∧ (outsAt0 m c t.val t.isLt).2.2.1 z = shiftOf (iblk m c 0 t) (iblk m c 1 t) (iblk m c 2 t) (iblk m c 3 t) (z 1)
    ∧ (outsAt0 m c t.val t.isLt).2.2.2 z = biasOf (iblk m c 4 t) (z 1) := by
  rw [outsAt0_A m c t h0]
  dsimp only
  unfold out0_A_5 out0_A_6 out0_A_7 out0_A_8
  rw [View.read_writes_eq_canon _ _ _ (by intro y; apply cover0_A_5), View.read_writes_eq_canon _ _ _ (by intro y; apply cover0_A_6),
    View.read_writes_eq_canon _ _ _ (by intro y; apply cover0_A_7), View.read_writes_eq_canon _ _ _ (by intro y; apply cover0_A_8)]
  unfold kernelRun0_A
  dsimp only
  sl_unfold_words
  simp only [View.readAt_eq_ld, (hs0_0 t).read_unread, (hs0_1 t).read_unread, (hs0_2 t).read_unread, (hs0_3 t).read_unread, (hs0_4 t).read_unread,
    (hs0_6 t).read_unread, (hs0_7 t).read_unread, (hs0_8 t).read_unread]
  generalize iblk m c 0 t = d
  generalize iblk m c 1 t = x
  generalize iblk m c 2 t = g
  generalize iblk m c 3 t = b
  generalize iblk m c 4 t = e
  refine ⟨?_, ?_, ?_, ?_⟩
  · rw [View.canon_unit_zero (S := S1024x1024) zero2]
    simp only [View.ld_unit_zero (S := S1024x1024) zero2, View.ld_unit_zero (S := S1x1024) zero2]
    exact pay1_apply d x g b y
  · rw [View.canon_cons_unit_zero (S := S1x1024) zero2, View.readCov_unit_zero (S := S1x1024) _ zero2]
    simp only [View.ld_unit_zero (S := S1024x1024) zero2, View.ld_unit_zero (S := S1x1024) zero2]
    exact (pay13_apply d x g b _ z).trans (from_zero _)
  · rw [View.canon_cons_unit_zero (S := S1x1024) zero2, View.readCov_unit_zero (S := S1x1024) _ zero2]
    simp only [View.ld_unit_zero (S := S1024x1024) zero2, View.ld_unit_zero (S := S1x1024) zero2]
    exact (pay14_apply d x g b _ z).trans (from_zero _)
  · rw [View.canon_cons_unit_zero (S := S1x1024) zero2, View.readCov_unit_zero (S := S1x1024) _ zero2]
    simp only [View.ld_unit_zero (S := S1024x1024) zero2]
    exact (pay15_apply e _ z).trans (from_zero _)

set_option maxHeartbeats 2000000 in
theorem left_later (c : Dev nD) (t : Fin cfg0.N) (h0 : ¬t.val % 4 = 0) (y : S1024x1024.Idx) (z : S1x1024.Idx) :
    (outsAt0 m c t.val t.isLt).1 y = gradOf (iblk m c 0 t) (iblk m c 1 t) (iblk m c 2 t) (iblk m c 3 t) y
    ∧ (outsAt0 m c t.val t.isLt).2.1 z = (outsAt0 m c (t.val - 1) (Nat.lt_of_le_of_lt (Nat.sub_le _ _) t.isLt)).2.1 z
      + gainOf (iblk m c 0 t) (iblk m c 1 t) (iblk m c 2 t) (iblk m c 3 t) (z 1)
    ∧ (outsAt0 m c t.val t.isLt).2.2.1 z = (outsAt0 m c (t.val - 1) (Nat.lt_of_le_of_lt (Nat.sub_le _ _) t.isLt)).2.2.1 z
      + shiftOf (iblk m c 0 t) (iblk m c 1 t) (iblk m c 2 t) (iblk m c 3 t) (z 1)
    ∧ (outsAt0 m c t.val t.isLt).2.2.2 z = (outsAt0 m c (t.val - 1) (Nat.lt_of_le_of_lt (Nat.sub_le _ _) t.isLt)).2.2.2 z
      + biasOf (iblk m c 4 t) (z 1) := by
  rw [outsAt0_B m c t h0]
  dsimp only
  unfold out0_B_5 out0_B_6 out0_B_7 out0_B_8
  rw [View.read_writes_eq_canon _ _ _ (by intro y; apply cover0_B_5), View.read_writes_eq_canon _ _ _ (by intro y; apply cover0_B_6),
    View.read_writes_eq_canon _ _ _ (by intro y; apply cover0_B_7), View.read_writes_eq_canon _ _ _ (by intro y; apply cover0_B_8)]
  unfold kernelRun0_B
  dsimp only
  sl_unfold_words
  simp only [View.readAt_eq_ld, (hs0_0 t).read_unread, (hs0_1 t).read_unread, (hs0_2 t).read_unread, (hs0_3 t).read_unread, (hs0_4 t).read_unread,
    (hs0_6 t).read_unread, (hs0_7 t).read_unread, (hs0_8 t).read_unread]
  generalize outsAt0 m c (t.val - 1) (Nat.lt_of_le_of_lt (Nat.sub_le _ _) t.isLt) = W
  generalize iblk m c 0 t = d
  generalize iblk m c 1 t = x
  generalize iblk m c 2 t = g
  generalize iblk m c 3 t = b
  generalize iblk m c 4 t = e
  simp only [View.canon_unit_zero (S := S1024x1024) zero2, View.canon_unit_zero (S := S1x1024) zero2,
    View.ld_unit_zero (S := S1024x1024) zero2, View.ld_unit_zero (S := S1x1024) zero2]
  exact ⟨pay1_apply d x g b y, pay13_apply d x g b _ z, pay14_apply d x g b _ z, pay15_apply e _ z⟩

/-! ## The blocks of the arrays -/

abbrev argD (c : Dev nD) : FVec Ideal S4096x1024 .bf16 := m ((c.tc : Thread nD τ).loc main_arg0)
abbrev argX (c : Dev nD) : FVec Ideal S4096x1024 .f32 := m ((c.tc : Thread nD τ).loc main_arg1)
abbrev argG (c : Dev nD) : FVec Ideal S1x1024 .f32 := m ((c.tc : Thread nD τ).loc main_arg2)
abbrev argB (c : Dev nD) : FVec Ideal S1x1024 .f32 := m ((c.tc : Thread nD τ).loc main_arg3)
abbrev argE (c : Dev nD) : FVec Ideal S4096x1024 .f32 := m ((c.tc : Thread nD τ).loc main_arg4)

/-- The point's number among the four. -/
abbrev blockOf (t : Fin cfg0.N) : Fin 4 := ⟨t.val, t.isLt.trans_eq N_0⟩
/-- The rows of block `t`. -/
def tall {φ : FTy} (X : FVec Ideal S4096x1024 φ) (t : Fin 4) : FVec Ideal S1024x1024 φ := fun y => X (ix2 (row t (y 0)) (y 1))

theorem at0 : ∀ t : Fin grid0.N, win0_0.index t 0 * win0_0.size 0 = 1024 * t.val ∧ win0_0.index t 1 * win0_0.size 1 = 0 := by decide +kernel
theorem at1 : ∀ t : Fin grid0.N, win0_1.index t 0 * win0_1.size 0 = 1024 * t.val ∧ win0_1.index t 1 * win0_1.size 1 = 0 := by decide +kernel
theorem at2 : ∀ t : Fin grid0.N, win0_2.index t 0 * win0_2.size 0 = 0 ∧ win0_2.index t 1 * win0_2.size 1 = 0 := by decide +kernel
theorem at3 : ∀ t : Fin grid0.N, win0_3.index t 0 * win0_3.size 0 = 0 ∧ win0_3.index t 1 * win0_3.size 1 = 0 := by decide +kernel
theorem at4 : ∀ t : Fin grid0.N, win0_4.index t 0 * win0_4.size 0 = 1024 * t.val ∧ win0_4.index t 1 * win0_4.size 1 = 0 := by decide +kernel
theorem at5 : ∀ t : Fin grid0.N, win0_5.index t 0 * win0_5.size 0 = 1024 * t.val ∧ win0_5.index t 1 * win0_5.size 1 = 0 := by decide +kernel
theorem at6 : ∀ t : Fin grid0.N, win0_6.index t 0 * win0_6.size 0 = 0 ∧ win0_6.index t 1 * win0_6.size 1 = 0 := by decide +kernel
theorem at7 : ∀ t : Fin grid0.N, win0_7.index t 0 * win0_7.size 0 = 0 ∧ win0_7.index t 1 * win0_7.size 1 = 0 := by decide +kernel
theorem at8 : ∀ t : Fin grid0.N, win0_8.index t 0 * win0_8.size 0 = 0 ∧ win0_8.index t 1 * win0_8.size 1 = 0 := by decide +kernel

/-- An element of a block of rows, in its array. -/
theorem emb_tall (t : Fin cfg0.N) (y : S1024x1024.Idx) (i : S4096x1024.Idx) {p q : ℕ} (h0 : (i 0).val = p + (y 0).val) (h1 : (i 1).val = q + (y 1).val)
    (h : p = 1024 * t.val ∧ q = 0) : i = ix2 (row (blockOf t) (y 0)) (y 1) :=
  ix2_ext _ _ _ (h0.trans (congrArg (· + (y 0).val) h.1)) (h1.trans ((congrArg (· + (y 1).val) h.2).trans (Nat.zero_add _)))
/-- An element of a row that is its whole array. -/
theorem emb_whole (y i : S1x1024.Idx) {p q : ℕ} (h0 : (i 0).val = p + (y 0).val) (h1 : (i 1).val = q + (y 1).val) (h : p = 0 ∧ q = 0) : i = y :=
  (ix2_ext i (y 0) (y 1) (h0.trans ((congrArg (· + (y 0).val) h.1).trans (Nat.zero_add _)))
    (h1.trans ((congrArg (· + (y 1).val) h.2).trans (Nat.zero_add _)))).trans (eq_ix2 y).symm

theorem emb5 (t : Fin cfg0.N) (y : S1024x1024.Idx) : (win0_5.rect t).emb y = ix2 (row (blockOf t) (y 0)) (y 1) :=
  emb_tall t y _ (win0_5.rect_emb_val t y 0) (win0_5.rect_emb_val t y 1) (at5 t)
theorem emb6 (t : Fin cfg0.N) (y : S1x1024.Idx) : (win0_6.rect t).emb y = y :=
  emb_whole y _ (win0_6.rect_emb_val t y 0) (win0_6.rect_emb_val t y 1) (at6 t)
theorem emb7 (t : Fin cfg0.N) (y : S1x1024.Idx) : (win0_7.rect t).emb y = y :=
  emb_whole y _ (win0_7.rect_emb_val t y 0) (win0_7.rect_emb_val t y 1) (at7 t)
theorem emb8 (t : Fin cfg0.N) (y : S1x1024.Idx) : (win0_8.rect t).emb y = y :=
  emb_whole y _ (win0_8.rect_emb_val t y 0) (win0_8.rect_emb_val t y 1) (at8 t)

theorem iblk0_eq (c : Dev nD) (t : Fin cfg0.N) : iblk m c 0 t = tall (argD m c) (blockOf t) := by
  funext y
  show V m c main_arg0 ((win0_0.rect t).emb y) = _
  rw [V_main_arg0, emb_tall t y _ (win0_0.rect_emb_val t y 0) (win0_0.rect_emb_val t y 1) (at0 t)]
  rfl
theorem iblk1_eq (c : Dev nD) (t : Fin cfg0.N) : iblk m c 1 t = tall (argX m c) (blockOf t) := by
  funext y
  show V m c main_arg1 ((win0_1.rect t).emb y) = _
  rw [V_main_arg1, emb_tall t y _ (win0_1.rect_emb_val t y 0) (win0_1.rect_emb_val t y 1) (at1 t)]
  rfl
theorem iblk2_eq (c : Dev nD) (t : Fin cfg0.N) : iblk m c 2 t = argG m c := by
  funext y
  show V m c main_arg2 ((win0_2.rect t).emb y) = _
  rw [V_main_arg2, emb_whole y _ (win0_2.rect_emb_val t y 0) (win0_2.rect_emb_val t y 1) (at2 t)]
theorem iblk3_eq (c : Dev nD) (t : Fin cfg0.N) : iblk m c 3 t = argB m c := by
  funext y
  show V m c main_arg3 ((win0_3.rect t).emb y) = _
  rw [V_main_arg3, emb_whole y _ (win0_3.rect_emb_val t y 0) (win0_3.rect_emb_val t y 1) (at3 t)]
theorem iblk4_eq (c : Dev nD) (t : Fin cfg0.N) : iblk m c 4 t = tall (argE m c) (blockOf t) := by
  funext y
  show V m c main_arg4 ((win0_4.rect t).emb y) = _
  rw [V_main_arg4, emb_tall t y _ (win0_4.rect_emb_val t y 0) (win0_4.rect_emb_val t y 1) (at4 t)]
  rfl

/-! ## The results -/

section Results
variable (D : FVec Ideal S4096x1024 .bf16) (X E : FVec Ideal S4096x1024 .f32) (G B : FVec Ideal S1x1024 .f32)

/-- The rows' gradient. -/
def resRows : FVec Ideal S4096x1024 .f32 := fun i =>
  gradRow (fun j => X (ix2 (i 0) j)) (fun j => G (ix2 0 j)) (fun j => B (ix2 0 j)) (fun j => D (ix2 (i 0) j)) (i 1)
/-- The gain's gradient. -/
def resGain : FVec Ideal S1x1024 .f32 := fun i =>
  ∑ r : Fin 4096, pulled (fun j => X (ix2 r j)) (fun j => G (ix2 0 j)) (fun j => B (ix2 0 j)) (fun j => D (ix2 r j)) (i 1) * hat (fun j => X (ix2 r j)) (i 1)
/-- The shift's gradient. -/
def resShift : FVec Ideal S1x1024 .f32 := fun i =>
  ∑ r : Fin 4096, pulled (fun j => X (ix2 r j)) (fun j => G (ix2 0 j)) (fun j => B (ix2 0 j)) (fun j => D (ix2 r j)) (i 1)
/-- The last bias's gradient. -/
def resBias : FVec Ideal S1x1024 .f32 := fun i => ∑ r : Fin 4096, E (ix2 r (i 1))

theorem gain_blocks (z : S1x1024.Idx) : resGain D X G B z = ∑ t : Fin 4, gainOf (tall D t) (tall X t) G B (z 1) := sum_rows _
theorem shift_blocks (z : S1x1024.Idx) : resShift D X G B z = ∑ t : Fin 4, shiftOf (tall D t) (tall X t) G B (z 1) := sum_rows _
theorem bias_blocks (z : S1x1024.Idx) : resBias E z = ∑ t : Fin 4, biasOf (tall E t) (z 1) := sum_rows _

end Results

theorem lt_N (n : ℕ) (h : n < 4) : n < cfg0.N := h.trans_eq N_0.symm
theorem lt3 : 3 < cfg0.N := lt_N 3 (by decide)

/-- What starts with its first part and gains one at each later point ends as the sum of the four. -/
theorem four (acc : (n : ℕ) → n < cfg0.N → EReal) (part : Fin 4 → EReal)
    (hA : ∀ t : Fin cfg0.N, t.val % 4 = 0 → acc t.val t.isLt = part (blockOf t))
    (hB : ∀ t : Fin cfg0.N, ¬t.val % 4 = 0 → acc t.val t.isLt = acc (t.val - 1) (Nat.lt_of_le_of_lt (Nat.sub_le _ _) t.isLt) + part (blockOf t)) :
    acc 3 lt3 = ∑ t, part t := by
  rw [Fin.sum_univ_four]
  refine (hB ⟨3, lt3⟩ (by decide)).trans (congrArg₂ (· + ·) ?_ rfl)
  refine (hB ⟨2, lt_N 2 (by decide)⟩ (by decide)).trans (congrArg₂ (· + ·) ?_ rfl)
  refine (hB ⟨1, lt_N 1 (by decide)⟩ (by decide)).trans (congrArg₂ (· + ·) ?_ rfl)
  exact hA ⟨0, lt_N 0 (by decide)⟩ rfl

/-- Some element of a block of rows: the rows' own share of a point needs one. -/
abbrev corner : S1024x1024.Idx := ix2 0 0

/-- After the last point the three rows hold the sums over all rows. -/
theorem last (c : Dev nD) (z : S1x1024.Idx) :
    (outsAt0 m c 3 lt3).2.1 z = resGain (argD m c) (argX m c) (argG m c) (argB m c) z
    ∧ (outsAt0 m c 3 lt3).2.2.1 z = resShift (argD m c) (argX m c) (argG m c) (argB m c) z
    ∧ (outsAt0 m c 3 lt3).2.2.2 z = resBias (argE m c) z := by
  rw [gain_blocks, shift_blocks, bias_blocks]
  refine ⟨four (fun n h => (outsAt0 m c n h).2.1 z) _ (fun t h => ?_) (fun t h => ?_), four (fun n h => (outsAt0 m c n h).2.2.1 z) _ (fun t h => ?_) (fun t h => ?_),
    four (fun n h => (outsAt0 m c n h).2.2.2 z) _ (fun t h => ?_) (fun t h => ?_)⟩
  · refine (left_first m c t h corner z).2.1.trans ?_
    rw [iblk0_eq, iblk1_eq, iblk2_eq, iblk3_eq]
  · refine (left_later m c t h corner z).2.1.trans ?_
    rw [iblk0_eq, iblk1_eq, iblk2_eq, iblk3_eq]
  · refine (left_first m c t h corner z).2.2.1.trans ?_
    rw [iblk0_eq, iblk1_eq, iblk2_eq, iblk3_eq]
  · refine (left_later m c t h corner z).2.2.1.trans ?_
    rw [iblk0_eq, iblk1_eq, iblk2_eq, iblk3_eq]
  · refine (left_first m c t h corner z).2.2.2.trans ?_
    rw [iblk4_eq]
  · refine (left_later m c t h corner z).2.2.2.trans ?_
    rw [iblk4_eq]

theorem left_rows (c : Dev nD) (t : Fin cfg0.N) (y : S1024x1024.Idx) :
    (outsAt0 m c t.val t.isLt).1 y = resRows (argD m c) (argX m c) (argG m c) (argB m c) (ix2 (row (blockOf t) (y 0)) (y 1)) := by
  have e : (outsAt0 m c t.val t.isLt).1 y = gradOf (iblk m c 0 t) (iblk m c 1 t) (iblk m c 2 t) (iblk m c 3 t) y := by
    by_cases h0 : t.val % 4 = 0
    · exact (left_first m c t h0 y (ix2 0 0)).1
    · exact (left_later m c t h0 y (ix2 0 0)).1
  rw [e, iblk0_eq, iblk1_eq, iblk2_eq, iblk3_eq]
  rfl

theorem at_last (t : Fin cfg0.N) (h : t.val % 4 = 3) : t = ⟨3, lt3⟩ := Fin.ext (by
  have hN : cfg0.N = 4 := N_0
  have := t.isLt; show t.val = 3; omega)

theorem array_rows (c : Dev nD) : (dats m 0 c).arrAt 5 cfg0.N = resRows (argD m c) (argX m c) (argG m c) (argB m c) := by
  refine (dats m 0 c).arrAt_eq_of_cover 5 (resRows (argD m c) (argX m c) (argG m c) (argB m c)) (fun t _ => ?_) fun i => ?_
  · funext y
    refine (congrFun (Cert.LbIdeal.Value.flushed5 m c t) y).trans ((left_rows m c t y).trans ?_)
    exact congrArg (resRows (argD m c) (argX m c) (argG m c) (argB m c)) (emb5 t y).symm
  · have h0 : (i 0).val < 4096 := (i 0).isLt
    have ht : (i 0).val / 1024 < cfg0.N := lt_N _ (by omega)
    refine ⟨⟨(i 0).val / 1024, ht⟩, flush0_5 _, ?_⟩
    refine mem_of_emb ((cfg0.win 5).blk ⟨(i 0).val / 1024, ht⟩).view (ix2 ⟨(i 0).val % 1024, Nat.mod_lt _ (by decide)⟩ (i 1)) i ?_
    exact (emb5 ⟨(i 0).val / 1024, ht⟩ (ix2 ⟨(i 0).val % 1024, Nat.mod_lt _ (by decide)⟩ (i 1))).trans
      (ix2_ext i _ _ (div_back 1024 (i 0).val).symm rfl).symm

theorem array_gain (c : Dev nD) : (dats m 0 c).arrAt 6 cfg0.N = resGain (argD m c) (argX m c) (argG m c) (argB m c) := by
  refine (dats m 0 c).arrAt_eq_of_cover 6 (resGain (argD m c) (argX m c) (argG m c) (argB m c)) (fun t hf => ?_) fun i => ?_
  · obtain rfl := at_last t ((flush0_6 t).mp hf)
    funext y
    refine (congrFun (Cert.LbIdeal.Value.flushed6 m c _) y).trans ((last m c y).1.trans ?_)
    exact congrArg (resGain (argD m c) (argX m c) (argG m c) (argB m c)) (emb6 _ y).symm
  · exact ⟨⟨3, lt3⟩, (flush0_6 _).mpr rfl, mem_of_emb ((cfg0.win 6).blk ⟨3, lt3⟩).view i i (emb6 _ i)⟩
theorem array_shift (c : Dev nD) : (dats m 0 c).arrAt 7 cfg0.N = resShift (argD m c) (argX m c) (argG m c) (argB m c) := by
  refine (dats m 0 c).arrAt_eq_of_cover 7 (resShift (argD m c) (argX m c) (argG m c) (argB m c)) (fun t hf => ?_) fun i => ?_
  · obtain rfl := at_last t ((flush0_7 t).mp hf)
    funext y
    refine (congrFun (Cert.LbIdeal.Value.flushed7 m c _) y).trans ((last m c y).2.1.trans ?_)
    exact congrArg (resShift (argD m c) (argX m c) (argG m c) (argB m c)) (emb7 _ y).symm
  · exact ⟨⟨3, lt3⟩, (flush0_7 _).mpr rfl, mem_of_emb ((cfg0.win 7).blk ⟨3, lt3⟩).view i i (emb7 _ i)⟩
theorem array_bias (c : Dev nD) : (dats m 0 c).arrAt 8 cfg0.N = resBias (argE m c) := by
  refine (dats m 0 c).arrAt_eq_of_cover 8 (resBias (argE m c)) (fun t hf => ?_) fun i => ?_
  · obtain rfl := at_last t ((flush0_8 t).mp hf)
    funext y
    refine (congrFun (Cert.LbIdeal.Value.flushed8 m c _) y).trans ((last m c y).2.2.trans ?_)
    exact congrArg (resBias (argE m c)) (emb8 _ y).symm
  · exact ⟨⟨3, lt3⟩, (flush0_8 _).mpr rfl, mem_of_emb ((cfg0.win 8).blk ⟨3, lt3⟩).view i i (emb8 _ i)⟩

/-! ## The reference -/

section Ref
open Cert.LbRefIdeal.Read

variable (D : FVec Ideal S4096x1024 .bf16) (X E : FVec Ideal S4096x1024 .f32) (G B : FVec Ideal S1x1024 .f32)

theorem ref6_apply (r : Fin 4096) (j : Fin 1024) : val_main_v6 (F := Ideal) X (ix2 r j) = centred (fun i => X (ix2 r i)) j :=
  Cert.XLs.ref5_apply X r j
theorem ref15_apply (r : Fin 4096) (j : Fin 1024) : val_main_v15 (F := Ideal) X (ix2 r j) = centred (fun i => X (ix2 r i)) j :=
  Cert.XLs.ref12_apply X r j
theorem ref18_apply (r : Fin 4096) : val_main_v18 (F := Ideal) X (ix2 r 0) = scaleOf (centred fun i => X (ix2 r i)) :=
  Cert.XLs.ref15_apply X r
theorem ref27_apply (r : Fin 4096) (j : Fin 1024) :
    val_main_v27 (F := Ideal) X G B (ix2 r j) = shifted (fun i => X (ix2 r i)) (fun i => G (ix2 0 i)) (fun i => B (ix2 0 i)) j :=
  Cert.XLs.ref21_apply X G B r j

theorem ref17_apply (r : Fin 4096) : val_main_v17 (F := Ideal) X (ix2 r 0)
    = Ideal.div (∑ i : Fin 1024, centred (fun j => X (ix2 r j)) i * centred (fun j => X (ix2 r j)) i) cLen + cEps := by
  refine congrArg₂ (· + ·) (congrArg₂ Ideal.div ?_ (val_main_v12_apply (F := Ideal) _)) (val_main_v16_apply (F := Ideal) _)
  refine Eq.trans (val_main_v11_apply (F := Ideal) X (ix2 r 0)) (Eq.trans (val_main_v10_apply X _) (Eq.trans (from_zero _) ?_))
  refine Finset.sum_congr rfl fun d _ => ?_
  have e : val_main_v6 (F := Ideal) X (idx_main_v10 (idx_main_v11 (ix2 r 0)) d) = centred (fun j => X (ix2 r j)) d :=
    Eq.trans (congrArg (val_main_v6 (F := Ideal) X) (eq_ix2 _)) (ref6_apply X r d)
  exact congrArg₂ (· * ·) e e

theorem ref21_apply (r : Fin 4096) : val_main_v21 (F := Ideal) X (ix2 r 0) = cHalf * Ideal.div (scaleOf (centred fun i => X (ix2 r i)))
    (Ideal.div (∑ i : Fin 1024, centred (fun j => X (ix2 r j)) i * centred (fun j => X (ix2 r j)) i) cLen + cEps) :=
  congrArg₂ (fun a b : EReal => a * b) (val_main_v20_apply (F := Ideal) _) (congrArg₂ Ideal.div (ref18_apply X r) (ref17_apply X r))

theorem ref23_apply (r : Fin 4096) (j : Fin 1024) : val_main_v23 (F := Ideal) X (ix2 r j) = hat (fun i => X (ix2 r i)) j :=
  congrArg₂ (fun a b : EReal => a * b) (ref15_apply X r j) (Eq.trans (val_main_v22_apply (F := Ideal) X _)
    (Eq.trans (congrArg (val_main_v18 (F := Ideal) X) (eq_ix2 _)) (ref18_apply X r)))

theorem gate_at (i : S4096x1024.Idx) : val_main_v28_2 (F := Ideal) X G B i = gate (val_main_v27 (F := Ideal) X G B i) :=
  congrArg₂ Ideal.div (val_main_call0_v4_apply (F := Ideal) i)
    (congrArg (fun b : EReal => b + Ideal.exp (-val_main_v27 (F := Ideal) X G B i)) (val_main_call0_v2_apply (F := Ideal) i))

variable (hD : ∀ i, ∃ s : ℝ, D i = (s : EReal)) (hG : ∀ i, ∃ s : ℝ, G i = (s : EReal))

include hD in
theorem ref33_apply (r : Fin 4096) (j : Fin 1024) : val_main_v33 (F := Ideal) D X G B (ix2 r j)
    = pulled (fun i => X (ix2 r i)) (fun i => G (ix2 0 i)) (fun i => B (ix2 0 i)) (fun i => D (ix2 r i)) j := by
  unfold pulled
  rw [← ref27_apply]
  obtain ⟨s, hs⟩ := hD (ix2 r j)
  obtain ⟨d, e1, e2⟩ := through_real (val_main_v27 (F := Ideal) X G B (ix2 r j)) s
  show _ = through _ (D (ix2 r j))
  rw [hs, e1, ← e2, ← hs, ← gate_at]
  refine congrArg (fun b : EReal => D (ix2 r j) * val_main_v28_2 (F := Ideal) X G B (ix2 r j)
    + val_main_v27 (F := Ideal) X G B (ix2 r j) * D (ix2 r j) * (val_main_v28_2 (F := Ideal) X G B (ix2 r j) * (b - val_main_v28_2 (F := Ideal) X G B (ix2 r j)))) ?_
  exact val_main_call0_v6_apply (F := Ideal) _

/-- The reference's gradient by row `r` normed. -/
abbrev normedGrad (r : Fin 4096) (j : Fin 1024) : EReal :=
  pulled (fun i => X (ix2 r i)) (fun i => G (ix2 0 i)) (fun i => B (ix2 0 i)) (fun i => D (ix2 r i)) j * G (ix2 0 j)

include hD in
theorem ref40_apply (r : Fin 4096) (j : Fin 1024) : val_main_v40 (F := Ideal) D X G B (ix2 r j) = normedGrad D X G B r j :=
  congrArg₂ (fun a b : EReal => a * b) (ref33_apply D X G B hD r j) (Eq.trans (val_main_v39_apply (F := Ideal) G _) (congrArg G (eq_ix2 _)))

include hD in
theorem ref45_apply (r : Fin 4096) (j : Fin 1024) :
    val_main_v45 (F := Ideal) D X G B (ix2 r j) = normedGrad D X G B r j * scaleOf (centred fun i => X (ix2 r i)) :=
  congrArg₂ (fun a b : EReal => a * b) (ref40_apply D X G B hD r j) (Eq.trans (val_main_v44_apply (F := Ideal) X _)
    (Eq.trans (congrArg (val_main_v18 (F := Ideal) X) (eq_ix2 _)) (ref18_apply X r)))

include hD in
theorem ref51_apply (r : Fin 4096) : val_main_v51 (F := Ideal) D X G B (ix2 r 0) = slopePart (fun i => X (ix2 r i)) (normedGrad D X G B r) := by
  refine congrArg₂ Ideal.div (congrArg₂ (fun a b : EReal => a * b) ?_ (ref21_apply X r)) (val_main_v50_apply (F := Ideal) _)
  refine Eq.trans (val_main_v43_apply (F := Ideal) D X G B _) (Eq.trans (val_main_v42_apply D X G B _) (Eq.trans (from_zero _) ?_))
  refine Finset.sum_congr rfl fun d _ => ?_
  refine (congrArg (val_main_v41 (F := Ideal) D X G B) (ix2_ext _ r d (by show r.val * 1 + 0 = r.val; omega) rfl)).trans ?_
  exact congrArg₂ (fun a b : EReal => a * b) (ref15_apply X r d) (ref40_apply D X G B hD r d)

include hD in
theorem ref54_apply (r : Fin 4096) (j : Fin 1024) : val_main_v54 (F := Ideal) D X G B (ix2 r j)
    = slopePart (fun i => X (ix2 r i)) (normedGrad D X G B r) * (Ideal.ofBits .f32 0x40000000#32 * centred (fun i => X (ix2 r i)) j) := by
  refine congrArg₂ (fun a b : EReal => a * b) ?_ (congrArg₂ (fun a b : EReal => a * b) (val_main_v8_apply (F := Ideal) _) (ref6_apply X r j))
  refine Eq.trans (val_main_v53_apply (F := Ideal) D X G B _) (Eq.trans (val_main_v52_apply D X G B _) (Eq.trans (from_zero _) (Eq.trans (Fin.sum_univ_one _) ?_)))
  exact (congrArg (val_main_v51 (F := Ideal) D X G B) (eq_ix2 _)).trans (ref51_apply D X G B hD r)

include hD in
theorem ref61_apply (r : Fin 4096) : val_main_v61 (F := Ideal) D X G B (ix2 r 0)
    = Ideal.div ((∑ i : Fin 1024, -(normedGrad D X G B r i * scaleOf (centred fun i => X (ix2 r i))))
      + ∑ i : Fin 1024, -(slopePart (fun i => X (ix2 r i)) (normedGrad D X G B r) * (Ideal.ofBits .f32 0x40000000#32 * centred (fun i => X (ix2 r i)) i))) cLen := by
  refine congrArg₂ Ideal.div (congrArg₂ (fun a b : EReal => a + b) ?_ ?_) (val_main_v60_apply (F := Ideal) _)
  · refine Eq.trans (val_main_v49_apply (F := Ideal) D X G B _) (Eq.trans (val_main_v48_apply D X G B _) (Eq.trans (from_zero _) ?_))
    refine Finset.sum_congr rfl fun d _ => ?_
    refine (congrArg (val_main_v47 (F := Ideal) D X G B) (ix2_ext _ r d (by show r.val * 1 + 0 = r.val; omega) rfl)).trans ?_
    exact congrArg (fun b : EReal => -b) (ref45_apply D X G B hD r d)
  · refine Eq.trans (val_main_v57_apply (F := Ideal) D X G B _) (Eq.trans (val_main_v56_apply D X G B _) (Eq.trans (from_zero _) ?_))
    refine Finset.sum_congr rfl fun d _ => ?_
    refine (congrArg (val_main_v55 (F := Ideal) D X G B) (ix2_ext _ r d (by show r.val * 1 + 0 = r.val; omega) rfl)).trans ?_
    exact congrArg (fun b : EReal => -b) (ref54_apply D X G B hD r d)

include hD hG in
theorem ref_rows : val_main_v64 (F := Ideal) D X G B = resRows D X G B := by
  funext i
  obtain ⟨r, j, rfl⟩ : ∃ (r : Fin 4096) (j : Fin 1024), i = ix2 r j := ⟨i 0, i 1, eq_ix2 i⟩
  refine Eq.trans ?_ (row_eq (fun i => X (ix2 r i)) (normedGrad D X G B r) (fun k => ?_) j).symm
  · refine congrArg₂ (fun a b : EReal => a + b) (congrArg₂ (fun a b : EReal => a + b) (ref45_apply D X G B hD r j) (ref54_apply D X G B hD r j)) ?_
    refine Eq.trans (val_main_v63_apply (F := Ideal) D X G B _) (Eq.trans (val_main_v62_apply D X G B _) (Eq.trans (from_zero _) (Eq.trans (Fin.sum_univ_one _) ?_)))
    exact (congrArg (val_main_v61 (F := Ideal) D X G B) (eq_ix2 _)).trans (ref61_apply D X G B hD r)
  · obtain ⟨s, hs⟩ := hD (ix2 r k)
    obtain ⟨d, e1, -⟩ := through_real (shifted (fun i => X (ix2 r i)) (fun i => G (ix2 0 i)) (fun i => B (ix2 0 i)) k) s
    obtain ⟨g, hg⟩ := hG (ix2 0 k)
    refine ⟨d * g, ?_⟩
    show through _ (D (ix2 r k)) * G (ix2 0 k) = _
    rw [hs, e1, hg, EReal.coe_mul]

include hD in
theorem ref_gain : val_main_v38 (F := Ideal) D X G B = resGain D X G B := by
  funext i
  refine Eq.trans (val_main_v38_apply (F := Ideal) D X G B i) (Eq.trans (val_main_v37_apply D X G B _) (Eq.trans (from_zero _) (Finset.sum_congr rfl fun r _ => ?_)))
  refine (congrArg (val_main_v36 (F := Ideal) D X G B) (ix2_ext _ r (i 1) rfl (by
    show (i 0).val * 1024 + (i 1).val = (i 1).val; have h : (i 0).val < 1 := (i 0).isLt; omega))).trans ?_
  exact (congrArg₂ (fun a b : EReal => a * b) (ref23_apply X r (i 1)) (ref33_apply D X G B hD r (i 1))).trans (mul_comm _ _)

include hD in
theorem ref_shift : val_main_v35 (F := Ideal) D X G B = resShift D X G B := by
  funext i
  refine Eq.trans (val_main_v35_apply (F := Ideal) D X G B i) (Eq.trans (val_main_v34_apply D X G B _) (Eq.trans (from_zero _) (Finset.sum_congr rfl fun r _ => ?_)))
  refine (congrArg (val_main_v33 (F := Ideal) D X G B) (ix2_ext _ r (i 1) rfl (by
    show (i 0).val * 1024 + (i 1).val = (i 1).val; have h : (i 0).val < 1 := (i 0).isLt; omega))).trans ?_
  exact ref33_apply D X G B hD r (i 1)

theorem ref_bias : val_main_v32 (F := Ideal) E = resBias E := by
  funext i
  refine Eq.trans (val_main_v32_apply (F := Ideal) E i) (Eq.trans (val_main_v31_apply E _) (Eq.trans (from_zero _) (Finset.sum_congr rfl fun r _ => ?_)))
  exact congrArg E (eq_ix2 _)

end Ref

/-! ## The claims -/

/-- The side conditions the precondition's operations state. -/
theorem preFacts : Cert.Pre_gradient_and_gain_finite.Facts where
  bitsLt_bf16_f32 := by decide
  bcast_S_S4096x1024 := by decide
  bcast_S_S1x1024 := by decide

attribute [local instance] preFacts

/-- The call runs, keeps its arguments and ends quiescent. -/
theorem frame_kernel : Cert.quiescent_Lb := fun m ρ _ => Cert.Lb.Gen.frame m ρ
/-- The same of its idealization. -/
theorem frame_ideal : Cert.quiescent_LbIdeal := fun m ρ _ => Cert.LbIdeal.Gen.frame m ρ
/-- The same under the precondition. -/
theorem frame_ideal_pre : Cert.quiescent_LbIdeal_pre_gradient_and_gain_finite := fun m ρ _ => Cert.LbIdeal.Gen.frame m ρ
/-- The reference runs, keeps its arguments and has no semaphores. -/
theorem frame_ref : Cert.quiescent_LbRefIdeal := fun m ρ _ =>
  (θ_run Cert.LbRefIdeal.defs _ _).mono (fun r h => ⟨fun c => (h c).2.2.2.2, sem_eq_zero_of_no_sems (by decide) r.2⟩)
    (Cert.LbRefIdeal.Value.run (F := Ideal) m ρ)
/-- The same under the precondition. -/
theorem frame_ref_pre : Cert.quiescent_LbRefIdeal_pre_gradient_and_gain_finite := fun m ρ _ => frame_ref m ρ trivial

/-- The kernel and the derivative of the layer compute the same four gradients. -/
theorem value : Cert.algebraic_LbIdeal_LbRefIdeal_pre_gradient_and_gain_finite := by
  intro m ρ m' ρ' hpre hag
  refine ⟨fun c => resRows (argD m c) (argX m c) (argG m c) (argB m c), fun c => resGain (argD m c) (argX m c) (argG m c) (argB m c),
    fun c => resShift (argD m c) (argX m c) (argG m c) (argB m c), fun c => resBias (argE m c), ?_, ?_⟩
  · exact (θ_run Cert.LbIdeal.defs _ _).mono (fun r h c =>
      ⟨(h c).1.trans (array_rows m c), (h c).2.1.trans (array_gain m c), (h c).2.2.1.trans (array_shift m c), (h c).2.2.2.1.trans (array_bias m c), (h c).2.2.2.2⟩)
      (Cert.LbIdeal.Value.run_blocks m ρ)
  · refine (θ_run Cert.LbRefIdeal.defs _ _).mono (fun r h c => ?_) (Cert.LbRefIdeal.Value.run (F := Ideal) m' ρ')
    obtain ⟨e0, e1, e2, e3, e4⟩ := hag c
    have hD : ∀ i, ∃ x : ℝ, argD m c i = (x : EReal) := fun i => real_of_cmp _ (congrFun (hpre c).1 i)
    have hG : ∀ i, ∃ x : ℝ, argG m c i = (x : EReal) := fun i => real_of_cmp _ (congrFun (hpre c).2 i)
    refine ⟨(h c).1.trans ?_, (h c).2.1.trans ?_, (h c).2.2.1.trans ?_, (h c).2.2.2.1.trans ?_, (h c).2.2.2.2⟩
    · refine (Cert.LbRefIdeal.Read.val_main_v64_eq m' c).trans ?_
      rw [e0, e1, e2, e3]
      exact ref_rows (argD m c) (argX m c) (argG m c) (argB m c) hD hG
    · refine (Cert.LbRefIdeal.Read.val_main_v38_eq m' c).trans ?_
      rw [e0, e1, e2, e3]
      exact ref_gain (argD m c) (argX m c) (argG m c) (argB m c) hD
    · refine (Cert.LbRefIdeal.Read.val_main_v35_eq m' c).trans ?_
      rw [e0, e1, e2, e3]
      exact ref_shift (argD m c) (argX m c) (argG m c) (argB m c) hD
    · refine (Cert.LbRefIdeal.Read.val_main_v32_eq _).trans ?_
      rw [e4]
      exact ref_bias (argE m c)

end Cert.XLb

end
-- ==== Proof.ConvLoop.lean ====
/- The convolution's input gradient: the loop over the rows of a block. -/
module

public import proofs.«01_k».proof.Proof.Gen.CdnIdeal.Value
public import proofs.«01_k».proof.Proof.NormRows

@[expose] public section

noncomputable section

namespace Cert.XCdn

open Cert.CdnIdeal Cert.CdnIdeal.Gen Cert.XPlaces Cert.XRows Idealize.ShloMosaic Idealize.ShloMosaic.ValueIdx Idealize.SL.Sem
open Cert.XDn (weightRow)

theorem off0 : ∀ k : Fin k0_t1_loop.trips, k0_off1 k 0#32 0 = 32 * k.val ∧ k0_off1 k 0#32 1 = 0 := by decide +kernel
theorem off1 : ∀ k : Fin k0_t1_loop.trips, k0_off1 k 16#32 0 = 32 * k.val + 16 ∧ k0_off1 k 16#32 1 = 0 := by decide +kernel
theorem lt32 (k : Fin k0_t1_loop.trips) : k.val < 32 := k.isLt.trans_eq (by decide +kernel)

section Loop
variable (𝒱 : Variants) (c : Dev nD) (bd : Option 𝒱.V) (i : grid0.Coords)
  (arg3 : Memref sig .tc .vmem S1024x256 .bf16) (harg3 : arg3.IsWhole) (arg4 : Memref sig .tc .vmem S1x1024x256 .bf16) (harg4 : arg4.IsWhole)
  (arg5 : Memref sig .tc .vmem S1024x1024 .f32) (harg5 : arg5.IsWhole) (arg6 : Memref sig .tc .vmem S1x1024 .f32) (harg6 : arg6.IsWhole)
  (arg7 : Memref sig .tc .vmem S1024x1024 .f32) (harg7 : arg7.IsWhole) (arg8 : Memref sig .tc .vmem S1024x1024 .f32) (harg8 : arg8.IsWhole)
  (arg9 : Memref sig .tc .vmem S1024x1024 .bf16) (harg9 : arg9.IsWhole) (arg10 : Memref sig .tc .vmem S1x1024 .f32) (harg10 : arg10.IsWhole)
  (arg11 : Memref sig .tc .vmem S1024x1024 .f32) (harg11 : arg11.IsWhole) (k0_h2 : k0_cond2 i = 1#1) (v18 : FVec Ideal S1x1024 .f32)
  (X5 : BufTy.Contents (Elt Ideal) arg5.view.ty) (X7 : BufTy.Contents (Elt Ideal) arg7.view.ty) (X11 : BufTy.Contents (Elt Ideal) arg11.view.ty)

/-- What a buffer of 1024 rows holds. -/
abbrev valR (w : Memref sig .tc .vmem S1024x1024 .f32) (C : BufTy.Contents (Elt Ideal) w.view.ty) : FVec Ideal S1024x1024 .f32 := w.view.read (Elt Ideal) C

/-- Every piece a trip stores holds rows of the block's gradient. -/
theorem trip_first (k : Fin k0_t1_loop.trips) (acc : FVec Ideal S8x1024 .f32) :
    (∀ p ∈ (tripL_k0_t1 (F := Ideal) 𝒱 c bd i arg3 harg3 arg4 harg4 arg5 harg5 arg6 harg6 arg7 harg7 arg8 harg8 arg9 harg9 arg10 harg10 arg11 harg11 k0_h2 v18 X5 X7 X11 k acc).1, ∀ z : p.1.shape.Idx,
      p.2 z = gradRow (valR arg11 X11) (valR arg5 X5) (valR arg7 X7) v18 (p.1.emb z 0) (p.1.emb z 1))
    ∧ (∀ p ∈ (tripL_k0_t1 (F := Ideal) 𝒱 c bd i arg3 harg3 arg4 harg4 arg5 harg5 arg6 harg6 arg7 harg7 arg8 harg8 arg9 harg9 arg10 harg10 arg11 harg11 k0_h2 v18 X5 X7 X11 k acc).2, ∀ z : p.1.shape.Idx,
      p.2 z = gradRow (valR arg11 X11) (valR arg5 X5) (valR arg7 X7) v18 (p.1.emb z 0) (p.1.emb z 1)) := by
  have hk := lt32 k
  have low := low_rows (valR arg11 X11) (valR arg5 X5) (valR arg7 X7) v18 _ (k0_off1_inb i k k0_h2 0) _ (by omega) (off0 k).1 (off0 k).2
  have high := high_rows (valR arg11 X11) (valR arg5 X5) (valR arg7 X7) v18 _ (k0_off1_inb i k k0_h2 1) _ (by omega) (off1 k).1 (off1 k).2
  rw [← load_rows arg5 X5 _ (k0_off1_inb i k k0_h2 0) _ (by omega) (off0 k).1 (off0 k).2,
    ← load_rows arg7 X7 _ (k0_off1_inb i k k0_h2 0) _ (by omega) (off0 k).1 (off0 k).2,
    ← load_rows arg11 X11 _ (k0_off1_inb i k k0_h2 0) _ (by omega) (off0 k).1 (off0 k).2] at low
  rw [← load_rows arg5 X5 _ (k0_off1_inb i k k0_h2 1) _ (by omega) (off1 k).1 (off1 k).2,
    ← load_rows arg7 X7 _ (k0_off1_inb i k k0_h2 1) _ (by omega) (off1 k).1 (off1 k).2,
    ← load_rows arg11 X11 _ (k0_off1_inb i k k0_h2 1) _ (by omega) (off1 k).1 (off1 k).2] at high
  unfold tripL_k0_t1 trip_k0_t1
  dsimp only
  sl_unfold_words
  constructor
  · intro p hp z
    rcases List.mem_cons.mp hp with rfl | hp
    · exact high z
    · rcases List.mem_cons.mp hp with rfl | hp
      · exact low z
      · exact absurd hp List.not_mem_nil
  · intro p hp z
    rcases List.mem_cons.mp hp with rfl | hp
    · exact high z
    · rcases List.mem_cons.mp hp with rfl | hp
      · exact low z
      · exact absurd hp List.not_mem_nil

theorem trip_carry (k : Fin k0_t1_loop.trips) (acc : FVec Ideal S8x1024 .f32) (a : Fin 8) (j : Fin 1024) :
    tripR_k0_t1 (F := Ideal) 𝒱 c bd i arg3 harg3 arg4 harg4 arg5 harg5 arg6 harg6 arg7 harg7 arg8 harg8 arg9 harg9 arg10 harg10 arg11 harg11 k0_h2 v18 X5 X7 X11 k acc (ix2 a j)
      = (acc (ix2 a j) + (addRow (valR arg11 X11) (valR arg5 X5) (8 * (4 * k.val) + a.val) j + addRow (valR arg11 X11) (valR arg5 X5) (8 * (4 * k.val + 1) + a.val) j))
        + (addRow (valR arg11 X11) (valR arg5 X5) (8 * (4 * k.val + 2) + a.val) j + addRow (valR arg11 X11) (valR arg5 X5) (8 * (4 * k.val + 3) + a.val) j) := by
  have hk := lt32 k
  have h := carry_rows (valR arg11 X11) (valR arg5 X5) k.val (by omega) acc a j
  rw [← load_rows arg5 X5 _ (k0_off1_inb i k k0_h2 0) _ (by omega) (off0 k).1 (off0 k).2,
    ← load_rows arg11 X11 _ (k0_off1_inb i k k0_h2 0) _ (by omega) (off0 k).1 (off0 k).2,
    ← load_rows arg5 X5 _ (k0_off1_inb i k k0_h2 1) _ (by omega) (off1 k).1 (off1 k).2,
    ← load_rows arg11 X11 _ (k0_off1_inb i k k0_h2 1) _ (by omega) (off1 k).1 (off1 k).2] at h
  refine Eq.trans ?_ h
  unfold tripR_k0_t1 trip_k0_t1
  dsimp only
  sl_unfold_words
  rfl

/-- Every row stored so far is a row of the gradient. -/
theorem state_first (init : FVec Ideal S8x1024 .f32) : ∀ n : ℕ, n ≤ k0_t1_loop.trips →
    (∀ p ∈ (st_k0_t1 (F := Ideal) 𝒱 c bd i arg3 harg3 arg4 harg4 arg5 harg5 arg6 harg6 arg7 harg7 arg8 harg8 arg9 harg9 arg10 harg10 arg11 harg11 k0_h2 v18 X5 X7 X11 init n).2.1, ∀ z : p.1.shape.Idx, p.2 z = gradRow (valR arg11 X11) (valR arg5 X5) (valR arg7 X7) v18 (p.1.emb z 0) (p.1.emb z 1))
    ∧ (∀ p ∈ (st_k0_t1 (F := Ideal) 𝒱 c bd i arg3 harg3 arg4 harg4 arg5 harg5 arg6 harg6 arg7 harg7 arg8 harg8 arg9 harg9 arg10 harg10 arg11 harg11 k0_h2 v18 X5 X7 X11 init n).2.2, ∀ z : p.1.shape.Idx, p.2 z = gradRow (valR arg11 X11) (valR arg5 X5) (valR arg7 X7) v18 (p.1.emb z 0) (p.1.emb z 1))
  | 0, _ => ⟨fun p hp => absurd hp List.not_mem_nil, fun p hp => absurd hp List.not_mem_nil⟩
  | n + 1, hn => by
    have ih := state_first init n (Nat.le_of_succ_le hn)
    have tr := trip_first 𝒱 c bd i arg3 harg3 arg4 harg4 arg5 harg5 arg6 harg6 arg7 harg7 arg8 harg8 arg9 harg9 arg10 harg10 arg11 harg11 k0_h2 v18 X5 X7 X11 ⟨n, hn⟩ (st_k0_t1 (F := Ideal) 𝒱 c bd i arg3 harg3 arg4 harg4 arg5 harg5 arg6 harg6 arg7 harg7 arg8 harg8 arg9 harg9 arg10 harg10 arg11 harg11 k0_h2 v18 X5 X7 X11 init n).1
    rw [st_k0_t1_succ (F := Ideal) 𝒱 c bd i arg3 harg3 arg4 harg4 arg5 harg5 arg6 harg6 arg7 harg7 arg8 harg8 arg9 harg9 arg10 harg10 arg11 harg11 k0_h2 v18 X5 X7 X11 init ⟨n, hn⟩]
    exact ⟨fun p hp => (List.mem_append.mp hp).elim (tr.1 p) (ih.1 p), fun p hp => (List.mem_append.mp hp).elim (tr.2 p) (ih.2 p)⟩

/-- The weights' gradient after the loop: what it held, and the block's rows. -/
theorem pay7_apply (w : FVec Ideal S1x1024 .f32) (j : Fin 1024) :
    k0_pay7 (F := Ideal) (st_k0_t1 (F := Ideal) 𝒱 c bd i arg3 harg3 arg4 harg4 arg5 harg5 arg6 harg6 arg7 harg7 arg8 harg8 arg9 harg9 arg10 harg10 arg11 harg11 k0_h2 v18 X5 X7 X11 (k0_pay4 (F := Ideal)) k0_t1_loop.trips).1 w (ix2 0 j)
      = w (ix2 0 j) + ∑ r : Fin 1024, weightRow (fun i => valR arg11 X11 (ix2 r i)) (fun i => valR arg5 X5 (ix2 r i)) j := by
  have ht : 4 * k0_t1_loop.trips = 128 := by decide +kernel
  unfold k0_pay7
  refine congrArg₂ (fun x y : EReal => x + y) (congrFun (shapeCast_self w _) (ix2 0 j)) ?_
  refine (Cert.XDn.rowsSum_apply _ j).trans ?_
  refine Eq.trans ?_ (rows_all 128 (by decide) _ _ j)
  refine Finset.sum_congr rfl fun a _ => ?_
  rw [← ht]
  refine carried (valR arg11 X11) (valR arg5 X5) j a k0_t1_loop.trips (fun n => (st_k0_t1 (F := Ideal) 𝒱 c bd i arg3 harg3 arg4 harg4 arg5 harg5 arg6 harg6 arg7 harg7 arg8 harg8 arg9 harg9 arg10 harg10 arg11 harg11 k0_h2 v18 X5 X7 X11 (k0_pay4 (F := Ideal)) n).1 (ix2 a j)) Ideal.ofBits_zero_f32 (fun k hk => ?_) _ le_rfl
  rw [st_k0_t1_succ (F := Ideal) 𝒱 c bd i arg3 harg3 arg4 harg4 arg5 harg5 arg6 harg6 arg7 harg7 arg8 harg8 arg9 harg9 arg10 harg10 arg11 harg11 k0_h2 v18 X5 X7 X11 (k0_pay4 (F := Ideal)) ⟨k, hk⟩]
  exact trip_carry 𝒱 c bd i arg3 harg3 arg4 harg4 arg5 harg5 arg6 harg6 arg7 harg7 arg8 harg8 arg9 harg9 arg10 harg10 arg11 harg11 k0_h2 v18 X5 X7 X11 ⟨k, hk⟩ _ a j

end Loop

end Cert.XCdn

end
-- ==== Proof.ConvInput.lean ====
/- The convolution's input gradient: what a point leaves, the arrays, the reference, and the claims. -/
module

public import proofs.«01_k».proof.Defs
public import proofs.«01_k».proof.Proof.Gen.Cdn.Frame
public import proofs.«01_k».proof.Proof.Gen.CdnRefIdeal.Read
public import proofs.«01_k».proof.Proof.ConvProducts
public import proofs.«01_k».proof.Proof.ConvLoop
public import Idealize.ShloMosaic.Lib.Quiescent

@[expose] public section

noncomputable section

namespace Cert.XCdn

open Cert.CdnIdeal Cert.CdnIdeal.Gen Cert.XProducts Cert.XRows Cert.XConv Idealize.ShloMosaic Idealize.ShloMosaic.ValueIdx Idealize.SL.Sem
open Cert.XPlaces (zero2 zero3 mem_of_emb)
open Cert.XDn (weightRow slopeOf slopePart cInv cEps cHalf div_len inRow_eq)

/-! ## What a point leaves -/

section Points
variable (c : Dev nD) (i : grid0.Coords)
  (arg3 : Memref sig .tc .vmem S1024x256 .bf16) (harg3 : arg3.IsWhole) (arg4 : Memref sig .tc .vmem S1x1024x256 .bf16) (harg4 : arg4.IsWhole)
  (arg5 : Memref sig .tc .vmem S1024x1024 .f32) (harg5 : arg5.IsWhole) (arg6 : Memref sig .tc .vmem S1x1024 .f32) (harg6 : arg6.IsWhole)
  (arg7 : Memref sig .tc .vmem S1024x1024 .f32) (harg7 : arg7.IsWhole) (arg8 : Memref sig .tc .vmem S1024x1024 .f32) (harg8 : arg8.IsWhole)
  (arg9 : Memref sig .tc .vmem S1024x1024 .bf16) (harg9 : arg9.IsWhole) (arg10 : Memref sig .tc .vmem S1x1024 .f32) (harg10 : arg10.IsWhole)
  (arg11 : Memref sig .tc .vmem S1024x1024 .f32) (harg11 : arg11.IsWhole)
  (x0 : FVec Ideal S1024x256 .bf16) (x1 : FVec Ideal S1x1024x256 .bf16) (x2 : FVec Ideal S1024x1024 .f32) (x3 : FVec Ideal S1x1024 .f32) (x4 : FVec Ideal S1024x1024 .f32) (xo7 : FVec Ideal S1x1024 .f32) (xs0 : FVec Ideal S1024x1024 .f32)

theorem out5_C (hc0 : ¬cond0_0 i) (hc1 : cond0_1 i) (hc2 : cond0_2 i) (y : S1024x1024.Idx) :
    out0_C_5 (F := Ideal) c i arg3 harg3 arg4 harg4 arg5 harg5 arg6 harg6 arg7 harg7 arg8 harg8 arg9 harg9 arg10 harg10 arg11 harg11 hc0 hc1 hc2 x0 x1 x2 x3 x4 xs0 y = gradRow (k0_pay2 (F := Ideal) xs0 x0 x1) x2 x4 x3 (y 0) (y 1) := by
  unfold out0_C_5
  refine View.read_writes_apply_of_pieces VO0_5 VO0_5.junk (fun y => gradRow (k0_pay2 (F := Ideal) xs0 x0 x1) x2 x4 x3 (y 0) (y 1)) _ ?_ y (cover0_C_5 (F := Ideal) c i arg3 harg3 arg4 harg4 arg5 harg5 arg6 harg6 arg7 harg7 arg8 harg8 arg9 harg9 arg10 harg10 arg11 harg11 hc0 hc1 hc2 x0 x1 x2 x3 x4 xs0 y)
  unfold kernelRun0_C
  dsimp only
  sl_unfold_words
  simp only [View.readAt_eq_ld, harg3.read_unread, harg4.read_unread, harg6.read_unread, harg10.read_unread, harg11.read_unread,
    View.ld_unit_zero (S := S1024x256) zero2, View.ld_unit_zero (S := S1x1024x256) zero3, View.ld_unit_zero (S := S1024x1024) zero2, View.ld_unit_zero (S := S1x1024) zero2]
  intro p hp z
  refine ((state_first Variants.none c none i arg3 harg3 arg4 harg4 arg5 harg5 arg6 harg6 arg7 harg7 arg8 harg8 arg9 harg9 arg10 harg10 arg11 harg11 hc1 _ _ _ _ _ _ le_rfl).1 p hp z).trans ?_
  rw [valR, valR, valR, harg5.read_unread, harg7.read_unread, read_one]

theorem out6_C (hc0 : ¬cond0_0 i) (hc1 : cond0_1 i) (hc2 : cond0_2 i) (y : S1024x1024.Idx) :
    out0_C_6 (F := Ideal) c i arg3 harg3 arg4 harg4 arg5 harg5 arg6 harg6 arg7 harg7 arg8 harg8 arg9 harg9 arg10 harg10 arg11 harg11 hc0 hc1 hc2 x0 x1 x2 x3 x4 xs0 y = gradRow (k0_pay2 (F := Ideal) xs0 x0 x1) x2 x4 x3 (y 0) (y 1) := by
  unfold out0_C_6
  refine View.read_writes_apply_of_pieces VO0_6 VO0_6.junk (fun y => gradRow (k0_pay2 (F := Ideal) xs0 x0 x1) x2 x4 x3 (y 0) (y 1)) _ ?_ y (cover0_C_6 (F := Ideal) c i arg3 harg3 arg4 harg4 arg5 harg5 arg6 harg6 arg7 harg7 arg8 harg8 arg9 harg9 arg10 harg10 arg11 harg11 hc0 hc1 hc2 x0 x1 x2 x3 x4 xs0 y)
  unfold kernelRun0_C
  dsimp only
  sl_unfold_words
  simp only [View.readAt_eq_ld, harg3.read_unread, harg4.read_unread, harg6.read_unread, harg10.read_unread, harg11.read_unread,
    View.ld_unit_zero (S := S1024x256) zero2, View.ld_unit_zero (S := S1x1024x256) zero3, View.ld_unit_zero (S := S1024x1024) zero2, View.ld_unit_zero (S := S1x1024) zero2]
  intro p hp z
  refine ((state_first Variants.none c none i arg3 harg3 arg4 harg4 arg5 harg5 arg6 harg6 arg7 harg7 arg8 harg8 arg9 harg9 arg10 harg10 arg11 harg11 hc1 _ _ _ _ _ _ le_rfl).2 p hp z).trans ?_
  rw [valR, valR, valR, harg5.read_unread, harg7.read_unread, read_one]

theorem out7_C (hc0 : ¬cond0_0 i) (hc1 : cond0_1 i) (hc2 : cond0_2 i) (j : Fin 1024) :
    out0_C_7 (F := Ideal) c i arg3 harg3 arg4 harg4 arg5 harg5 arg6 harg6 arg7 harg7 arg8 harg8 arg9 harg9 arg10 harg10 arg11 harg11 hc0 hc1 hc2 x0 x1 x2 x3 x4 xs0 (ix2 0 j)
      = 0 + ∑ r : Fin 1024, weightRow (fun i => (k0_pay2 (F := Ideal) xs0 x0 x1) (ix2 r i)) (fun i => x2 (ix2 r i)) j := by
  unfold out0_C_7
  rw [View.read_writes_eq_canon _ _ _ (by intro y; apply cover0_C_7)]
  unfold kernelRun0_C
  dsimp only
  sl_unfold_words
  rw [View.canon_cons_unit_zero (S := S1x1024) zero2, View.readCov_unit_zero (S := S1x1024) _ zero2]
  simp only [View.readAt_eq_ld, harg3.read_unread, harg4.read_unread, harg6.read_unread, harg10.read_unread, harg11.read_unread,
    View.ld_unit_zero (S := S1024x256) zero2, View.ld_unit_zero (S := S1x1024x256) zero3, View.ld_unit_zero (S := S1024x1024) zero2, View.ld_unit_zero (S := S1x1024) zero2]
  refine (pay7_apply Variants.none c none i arg3 harg3 arg4 harg4 arg5 harg5 arg6 harg6 arg7 harg7 arg8 harg8 arg9 harg9 arg10 harg10 arg11 harg11 hc1 _ _ _ _ _ j).trans ?_
  rw [valR, valR, harg5.read_unread, read_one]
  exact congrArg (fun y : EReal => y + _) Ideal.ofBits_zero_f32

theorem out5_D (hc0 : ¬cond0_0 i) (hc1 : cond0_1 i) (hc2 : ¬cond0_2 i) (y : S1024x1024.Idx) :
    out0_D_5 (F := Ideal) c i arg3 harg3 arg4 harg4 arg5 harg5 arg6 harg6 arg7 harg7 arg8 harg8 arg9 harg9 arg10 harg10 arg11 harg11 hc0 hc1 hc2 x0 x1 x2 x3 x4 xo7 xs0 y = gradRow (k0_pay2 (F := Ideal) xs0 x0 x1) x2 x4 x3 (y 0) (y 1) := by
  unfold out0_D_5
  refine View.read_writes_apply_of_pieces VO0_5 VO0_5.junk (fun y => gradRow (k0_pay2 (F := Ideal) xs0 x0 x1) x2 x4 x3 (y 0) (y 1)) _ ?_ y (cover0_D_5 (F := Ideal) c i arg3 harg3 arg4 harg4 arg5 harg5 arg6 harg6 arg7 harg7 arg8 harg8 arg9 harg9 arg10 harg10 arg11 harg11 hc0 hc1 hc2 x0 x1 x2 x3 x4 xo7 xs0 y)
  unfold kernelRun0_D
  dsimp only
  sl_unfold_words
  simp only [View.readAt_eq_ld, harg3.read_unread, harg4.read_unread, harg6.read_unread, harg10.read_unread, harg11.read_unread,
    View.ld_unit_zero (S := S1024x256) zero2, View.ld_unit_zero (S := S1x1024x256) zero3, View.ld_unit_zero (S := S1024x1024) zero2, View.ld_unit_zero (S := S1x1024) zero2]
  intro p hp z
  refine ((state_first Variants.none c none i arg3 harg3 arg4 harg4 arg5 harg5 arg6 harg6 arg7 harg7 arg8 harg8 arg9 harg9 arg10 harg10 arg11 harg11 hc1 _ _ _ _ _ _ le_rfl).1 p hp z).trans ?_
  rw [valR, valR, valR, harg5.read_unread, harg7.read_unread, read_one]

theorem out6_D (hc0 : ¬cond0_0 i) (hc1 : cond0_1 i) (hc2 : ¬cond0_2 i) (y : S1024x1024.Idx) :
    out0_D_6 (F := Ideal) c i arg3 harg3 arg4 harg4 arg5 harg5 arg6 harg6 arg7 harg7 arg8 harg8 arg9 harg9 arg10 harg10 arg11 harg11 hc0 hc1 hc2 x0 x1 x2 x3 x4 xo7 xs0 y = gradRow (k0_pay2 (F := Ideal) xs0 x0 x1) x2 x4 x3 (y 0) (y 1) := by
  unfold out0_D_6
  refine View.read_writes_apply_of_pieces VO0_6 VO0_6.junk (fun y => gradRow (k0_pay2 (F := Ideal) xs0 x0 x1) x2 x4 x3 (y 0) (y 1)) _ ?_ y (cover0_D_6 (F := Ideal) c i arg3 harg3 arg4 harg4 arg5 harg5 arg6 harg6 arg7 harg7 arg8 harg8 arg9 harg9 arg10 harg10 arg11 harg11 hc0 hc1 hc2 x0 x1 x2 x3 x4 xo7 xs0 y)
  unfold kernelRun0_D
  dsimp only
  sl_unfold_words
  simp only [View.readAt_eq_ld, harg3.read_unread, harg4.read_unread, harg6.read_unread, harg10.read_unread, harg11.read_unread,
    View.ld_unit_zero (S := S1024x256) zero2, View.ld_unit_zero (S := S1x1024x256) zero3, View.ld_unit_zero (S := S1024x1024) zero2, View.ld_unit_zero (S := S1x1024) zero2]
  intro p hp z
  refine ((state_first Variants.none c none i arg3 harg3 arg4 harg4 arg5 harg5 arg6 harg6 arg7 harg7 arg8 harg8 arg9 harg9 arg10 harg10 arg11 harg11 hc1 _ _ _ _ _ _ le_rfl).2 p hp z).trans ?_
  rw [valR, valR, valR, harg5.read_unread, harg7.read_unread, read_one]

theorem out7_D (hc0 : ¬cond0_0 i) (hc1 : cond0_1 i) (hc2 : ¬cond0_2 i) (j : Fin 1024) :
    out0_D_7 (F := Ideal) c i arg3 harg3 arg4 harg4 arg5 harg5 arg6 harg6 arg7 harg7 arg8 harg8 arg9 harg9 arg10 harg10 arg11 harg11 hc0 hc1 hc2 x0 x1 x2 x3 x4 xo7 xs0 (ix2 0 j)
      = xo7 (ix2 0 j) + ∑ r : Fin 1024, weightRow (fun i => (k0_pay2 (F := Ideal) xs0 x0 x1) (ix2 r i)) (fun i => x2 (ix2 r i)) j := by
  unfold out0_D_7
  rw [View.read_writes_eq_canon _ _ _ (by intro y; apply cover0_D_7)]
  unfold kernelRun0_D
  dsimp only
  sl_unfold_words
  rw [View.canon_unit_zero (S := S1x1024) zero2]
  simp only [View.readAt_eq_ld, harg3.read_unread, harg4.read_unread, harg6.read_unread, harg10.read_unread, harg11.read_unread,
    View.ld_unit_zero (S := S1024x256) zero2, View.ld_unit_zero (S := S1x1024x256) zero3, View.ld_unit_zero (S := S1024x1024) zero2, View.ld_unit_zero (S := S1x1024) zero2]
  refine (pay7_apply Variants.none c none i arg3 harg3 arg4 harg4 arg5 harg5 arg6 harg6 arg7 harg7 arg8 harg8 arg9 harg9 arg10 harg10 arg11 harg11 hc1 _ _ _ _ _ j).trans ?_
  rw [valR, valR, harg5.read_unread, read_one]

theorem sum_A (hc0 : cond0_0 i) (hc1 : ¬cond0_1 i) :
    sout0_A_0 (F := Ideal) c i arg3 harg3 arg4 harg4 arg5 harg5 arg6 harg6 arg7 harg7 arg8 harg8 arg9 harg9 arg10 harg10 arg11 harg11 hc0 hc1 x0 x1 x2 x3 x4 = (k0_pay2 (F := Ideal) (k0_pay1 (F := Ideal)) x0 x1) := by
  unfold sout0_A_0
  rw [View.read_writes_eq_canon _ _ _ (by intro y; apply scover0_A_0)]
  unfold kernelRun0_A
  dsimp only
  sl_unfold_words
  rw [View.canon_cons_unit_zero (S := S1024x1024) zero2, View.readCov_unit_zero (S := S1024x1024) _ zero2]
  simp only [View.readAt_eq_ld, harg3.read_unread, harg4.read_unread, harg6.read_unread, harg10.read_unread, harg11.read_unread,
    View.ld_unit_zero (S := S1024x256) zero2, View.ld_unit_zero (S := S1x1024x256) zero3, View.ld_unit_zero (S := S1024x1024) zero2, View.ld_unit_zero (S := S1x1024) zero2]

theorem sum_B (hc0 : ¬cond0_0 i) (hc1 : ¬cond0_1 i) :
    sout0_B_0 (F := Ideal) c i arg3 harg3 arg4 harg4 arg5 harg5 arg6 harg6 arg7 harg7 arg8 harg8 arg9 harg9 arg10 harg10 arg11 harg11 hc0 hc1 x0 x1 x2 x3 x4 xs0 = (k0_pay2 (F := Ideal) xs0 x0 x1) := by
  unfold sout0_B_0
  rw [View.read_writes_eq_canon _ _ _ (by intro y; apply scover0_B_0)]
  unfold kernelRun0_B
  dsimp only
  sl_unfold_words
  rw [View.canon_unit_zero (S := S1024x1024) zero2]
  simp only [View.readAt_eq_ld, harg3.read_unread, harg4.read_unread, harg6.read_unread, harg10.read_unread, harg11.read_unread,
    View.ld_unit_zero (S := S1024x256) zero2, View.ld_unit_zero (S := S1x1024x256) zero3, View.ld_unit_zero (S := S1024x1024) zero2, View.ld_unit_zero (S := S1x1024) zero2]

end Points

/-! ## The product a block of columns at a time -/

theorem col_lt (n : ℕ) (hn : n < 8) (d : Fin 256) : 256 * n + d.val < 2048 := by omega
theorem slot_lt (n : ℕ) (hn : n < 8) : (n % 2) * 4 + n / 2 < 8 := by omega

/-- A row of the gradient against a row of the weights, over the `n`th block of columns. -/
def partOf (A : FVec Ideal S4096x2048 .bf16) (B : FVec Ideal S8x1024x256 .bf16) (r : Fin 4096) (i : Fin 1024) (n : ℕ) : EReal :=
  if hn : n < 8 then ∑ d : Fin 256, A (ix2 r ⟨256 * n + d.val, col_lt n hn d⟩) * B (ix3 ⟨(n % 2) * 4 + n / 2, slot_lt n hn⟩ i d) else 0

/-- A row of the gradient against a row of the weights. -/
def prodRow (A : FVec Ideal S4096x2048 .bf16) (B : FVec Ideal S8x1024x256 .bf16) (r : Fin 4096) (i : Fin 1024) : EReal :=
  ∑ j : Fin 2048, A (ix2 r j) * B (ix3 (slotOf j) i (placeOf j))

theorem parts_all (A : FVec Ideal S4096x2048 .bf16) (B : FVec Ideal S8x1024x256 .bf16) (r : Fin 4096) (i : Fin 1024) :
    ∑ n ∈ Finset.range 8, partOf A B r i n = prodRow A B r i := by
  show _ = ∑ j : Fin (8 * 256), A (ix2 r j) * B (ix3 (slotOf j) i (placeOf j))
  rw [← Equiv.sum_comp (finProdFinEquiv (m := 8) (n := 256)), Fintype.sum_prod_type, Finset.sum_range]
  refine Finset.sum_congr rfl fun n _ => ?_
  unfold partOf
  rw [dif_pos n.isLt]
  refine Finset.sum_congr rfl fun d _ => ?_
  have hn := n.isLt
  have hd := d.isLt
  have hc : (finProdFinEquiv (n, d)).val = d.val + 256 * n.val := rfl
  have e1 : (⟨256 * n.val + d.val, col_lt n.val n.isLt d⟩ : Fin 2048) = (finProdFinEquiv (n, d) : Fin (8 * 256)) := Fin.ext (by rw [hc]; exact Nat.add_comm _ _)
  have e2 : (⟨(n.val % 2) * 4 + n.val / 2, slot_lt n.val n.isLt⟩ : Fin 8) = slotOf (finProdFinEquiv (n, d) : Fin (8 * 256)) :=
    Fin.ext (by
      show _ = ((finProdFinEquiv (n, d)).val / 256 % 2) * 4 + (finProdFinEquiv (n, d)).val / 256 / 2
      rw [hc, show (d.val + 256 * n.val) / 256 = n.val by omega])
  have e3 : d = placeOf (finProdFinEquiv (n, d) : Fin (8 * 256)) :=
    Fin.ext (by show d.val = (finProdFinEquiv (n, d)).val % 256; rw [hc]; omega)
  exact congrArg₂ (fun x y : EReal => x * y) (congrArg A (congrArg (ix2 r) e1)) (congrArg B (congrArg₂ (fun s p => ix3 s i p) e2 e3))

theorem pay2_apply (v : FVec Ideal S1024x1024 .f32) (a : FVec Ideal S1024x256 .bf16) (b : FVec Ideal S1x1024x256 .bf16) (r i : Fin 1024) :
    k0_pay2 (F := Ideal) v a b (ix2 r i) = v (ix2 r i) + ∑ d : Fin 256, a (ix2 r d) * b (ix3 0 i d) := by
  unfold k0_pay2
  rw [shapeCast_self]
  refine congrArg (fun y : EReal => v (ix2 r i) + y) ?_
  refine (sum_of dot_S1024x256_S1024x256_S1024x1024_1_1_0_0_n_n 256 rfl rfl _ _ (ix2 r i) (fun d => ix2 r d) (fun d => ix2 i d)
    (fun d => ix2_ext _ _ _ rfl rfl) (fun d => ix2_ext _ _ _ rfl rfl)).trans ?_
  refine Finset.sum_congr rfl fun d _ => congrArg (fun y : EReal => a (ix2 r d) * y) ?_
  exact shapeCast_apply _ shapeCasts_S1x1024x256_S1024x256 (ix2 i d) (ix3 0 i d) (by
    rw [Shape.rowMajor_val_two, Shape.rowMajor_val_three]; show (0 * 1024 + i.val) * 256 + d.val = i.val * 256 + d.val; omega)

theorem pay1_apply (y : S1024x1024.Idx) : k0_pay1 (F := Ideal) y = 0 := by
  unfold k0_pay1
  rw [shapeCast_self]
  exact Ideal.ofBits_zero_f32

/-! ## The blocks -/

variable (m : (ℓ : Loc nD τ sig) → Buf (Elt Ideal) ℓ)

abbrev argA (c : Dev nD) : FVec Ideal S4096x2048 .bf16 := m ((c.tc : Thread nD τ).loc main_arg0)
abbrev argB (c : Dev nD) : FVec Ideal S8x1024x256 .bf16 := m ((c.tc : Thread nD τ).loc main_arg1)
abbrev argX (c : Dev nD) : FVec Ideal S4096x1024 .f32 := m ((c.tc : Thread nD τ).loc main_arg2)
abbrev argG (c : Dev nD) : FVec Ideal S1x1024 .f32 := m ((c.tc : Thread nD τ).loc main_arg3)
abbrev argD (c : Dev nD) : FVec Ideal S4096x1024 .f32 := m ((c.tc : Thread nD τ).loc main_arg4)

theorem lt32N (t : Fin cfg0.N) : t.val < 32 := t.isLt.trans_eq N_0
theorem q_le (t : Fin cfg0.N) : (t.val / 8 + 1) * 1024 ≤ 4096 := by have := lt32N t; omega

theorem at0 : ∀ t : Fin grid0.N, win0_0.index t 0 * win0_0.size 0 = 1024 * (t.val / 8) ∧ win0_0.index t 1 * win0_0.size 1 = 256 * (t.val % 8) := by decide +kernel
theorem at1 : ∀ t : Fin grid0.N, win0_1.index t 0 * win0_1.size 0 = (t.val % 8 % 2) * 4 + t.val % 8 / 2 ∧ win0_1.index t 1 * win0_1.size 1 = 0 ∧ win0_1.index t 2 * win0_1.size 2 = 0 := by decide +kernel
theorem at2 : ∀ t : Fin grid0.N, win0_2.index t 0 * win0_2.size 0 = 1024 * (t.val / 8) ∧ win0_2.index t 1 * win0_2.size 1 = 0 := by decide +kernel
theorem at3 : ∀ t : Fin grid0.N, win0_3.index t 0 * win0_3.size 0 = 0 ∧ win0_3.index t 1 * win0_3.size 1 = 0 := by decide +kernel
theorem at4 : ∀ t : Fin grid0.N, win0_4.index t 0 * win0_4.size 0 = 1024 * (t.val / 8) ∧ win0_4.index t 1 * win0_4.size 1 = 0 := by decide +kernel
theorem at5 : ∀ t : Fin grid0.N, win0_5.index t 0 * win0_5.size 0 = 1024 * (t.val / 8) ∧ win0_5.index t 1 * win0_5.size 1 = 0 := by decide +kernel
theorem at6 : ∀ t : Fin grid0.N, win0_6.index t 0 * win0_6.size 0 = 1024 * (t.val / 8) ∧ win0_6.index t 1 * win0_6.size 1 = 0 := by decide +kernel
theorem at7 : ∀ t : Fin grid0.N, win0_7.index t 0 * win0_7.size 0 = 0 ∧ win0_7.index t 1 * win0_7.size 1 = 0 := by decide +kernel

theorem emb0 (t : Fin cfg0.N) (y : S1024x256.Idx) :
    (win0_0.rect t).emb y = ix2 (rowAt 1024 (t.val / 8) (q_le t) (y 0)) ⟨256 * (t.val % 8) + (y 1).val, col_lt _ (Nat.mod_lt _ (by decide)) (y 1)⟩ :=
  ix2_ext _ _ _ ((win0_0.rect_emb_val t y 0).trans (congrArg (· + (y 0).val) (at0 t).1))
    ((win0_0.rect_emb_val t y 1).trans (congrArg (· + (y 1).val) (at0 t).2))
theorem emb1 (t : Fin cfg0.N) (y : S1x1024x256.Idx) :
    (win0_1.rect t).emb y = ix3 ⟨(t.val % 8 % 2) * 4 + t.val % 8 / 2, slot_lt _ (Nat.mod_lt _ (by decide))⟩ (y 1) (y 2) :=
  ix3_ext _ _ _ _ ((win0_1.rect_emb_val t y 0).trans ((congrArg₂ (· + ·) (at1 t).1 (by have : (y 0).val < 1 := (y 0).isLt; show (y 0).val = 0; omega)).trans (Nat.add_zero _)))
    ((win0_1.rect_emb_val t y 1).trans ((congrArg (· + (y 1).val) (at1 t).2.1).trans (Nat.zero_add _)))
    ((win0_1.rect_emb_val t y 2).trans ((congrArg (· + (y 2).val) (at1 t).2.2).trans (Nat.zero_add _)))
theorem emb2 (t : Fin cfg0.N) (y : S1024x1024.Idx) : (win0_2.rect t).emb y = ix2 (rowAt 1024 (t.val / 8) (q_le t) (y 0)) (y 1) :=
  ix2_ext _ _ _ ((win0_2.rect_emb_val t y 0).trans (congrArg (· + (y 0).val) (at2 t).1))
    ((win0_2.rect_emb_val t y 1).trans ((congrArg (· + (y 1).val) (at2 t).2).trans (Nat.zero_add _)))
theorem emb3 (t : Fin cfg0.N) (y : S1x1024.Idx) : (win0_3.rect t).emb y = ix2 (y 0) (y 1) :=
  ix2_ext _ _ _ ((win0_3.rect_emb_val t y 0).trans ((congrArg (· + (y 0).val) (at3 t).1).trans (Nat.zero_add _)))
    ((win0_3.rect_emb_val t y 1).trans ((congrArg (· + (y 1).val) (at3 t).2).trans (Nat.zero_add _)))
theorem emb4 (t : Fin cfg0.N) (y : S1024x1024.Idx) : (win0_4.rect t).emb y = ix2 (rowAt 1024 (t.val / 8) (q_le t) (y 0)) (y 1) :=
  ix2_ext _ _ _ ((win0_4.rect_emb_val t y 0).trans (congrArg (· + (y 0).val) (at4 t).1))
    ((win0_4.rect_emb_val t y 1).trans ((congrArg (· + (y 1).val) (at4 t).2).trans (Nat.zero_add _)))
theorem emb5 (t : Fin cfg0.N) (y : S1024x1024.Idx) : (win0_5.rect t).emb y = ix2 (rowAt 1024 (t.val / 8) (q_le t) (y 0)) (y 1) :=
  ix2_ext _ _ _ ((win0_5.rect_emb_val t y 0).trans (congrArg (· + (y 0).val) (at5 t).1))
    ((win0_5.rect_emb_val t y 1).trans ((congrArg (· + (y 1).val) (at5 t).2).trans (Nat.zero_add _)))
theorem emb6 (t : Fin cfg0.N) (y : S1024x1024.Idx) : (win0_6.rect t).emb y = ix2 (rowAt 1024 (t.val / 8) (q_le t) (y 0)) (y 1) :=
  ix2_ext _ _ _ ((win0_6.rect_emb_val t y 0).trans (congrArg (· + (y 0).val) (at6 t).1))
    ((win0_6.rect_emb_val t y 1).trans ((congrArg (· + (y 1).val) (at6 t).2).trans (Nat.zero_add _)))
theorem emb7 (t : Fin cfg0.N) (y : S1x1024.Idx) : (win0_7.rect t).emb y = ix2 (y 0) (y 1) :=
  ix2_ext _ _ _ ((win0_7.rect_emb_val t y 0).trans ((congrArg (· + (y 0).val) (at7 t).1).trans (Nat.zero_add _)))
    ((win0_7.rect_emb_val t y 1).trans ((congrArg (· + (y 1).val) (at7 t).2).trans (Nat.zero_add _)))

abbrev blkA (c : Dev nD) (t : Fin cfg0.N) : FVec Ideal S1024x256 .bf16 := iblk m c 0 t
abbrev blkB (c : Dev nD) (t : Fin cfg0.N) : FVec Ideal S1x1024x256 .bf16 := iblk m c 1 t
abbrev blkX (c : Dev nD) (t : Fin cfg0.N) : FVec Ideal S1024x1024 .f32 := iblk m c 2 t
abbrev blkG (c : Dev nD) (t : Fin cfg0.N) : FVec Ideal S1x1024 .f32 := iblk m c 3 t
abbrev blkD (c : Dev nD) (t : Fin cfg0.N) : FVec Ideal S1024x1024 .f32 := iblk m c 4 t

theorem blkA_apply (c : Dev nD) (t : Fin cfg0.N) (y : S1024x256.Idx) :
    blkA m c t y = argA m c (ix2 (rowAt 1024 (t.val / 8) (q_le t) (y 0)) ⟨256 * (t.val % 8) + (y 1).val, col_lt _ (Nat.mod_lt _ (by decide)) (y 1)⟩) := by
  show V m c main_arg0 ((win0_0.rect t).emb y) = _
  rw [V_main_arg0, emb0 t]
theorem blkB_apply (c : Dev nD) (t : Fin cfg0.N) (y : S1x1024x256.Idx) :
    blkB m c t y = argB m c (ix3 ⟨(t.val % 8 % 2) * 4 + t.val % 8 / 2, slot_lt _ (Nat.mod_lt _ (by decide))⟩ (y 1) (y 2)) := by
  show V m c main_arg1 ((win0_1.rect t).emb y) = _
  rw [V_main_arg1, emb1 t]
  rfl
theorem blkX_apply (c : Dev nD) (t : Fin cfg0.N) (y : S1024x1024.Idx) : blkX m c t y = argX m c (ix2 (rowAt 1024 (t.val / 8) (q_le t) (y 0)) (y 1)) := by
  show V m c main_arg2 ((win0_2.rect t).emb y) = _
  rw [V_main_arg2, emb2 t]
  rfl
theorem blkG_apply (c : Dev nD) (t : Fin cfg0.N) (y : S1x1024.Idx) : blkG m c t y = argG m c y := by
  show V m c main_arg3 ((win0_3.rect t).emb y) = _
  rw [V_main_arg3, emb3 t]
  exact congrArg (argG m c) (eq_ix2 y).symm
theorem blkD_apply (c : Dev nD) (t : Fin cfg0.N) (y : S1024x1024.Idx) : blkD m c t y = argD m c (ix2 (rowAt 1024 (t.val / 8) (q_le t) (y 0)) (y 1)) := by
  show V m c main_arg4 ((win0_4.rect t).emb y) = _
  rw [V_main_arg4, emb4 t]
  rfl

/-- The point's part of the product. -/
theorem part_point (c : Dev nD) (t : Fin cfg0.N) (r i : Fin 1024) :
    ∑ d : Fin 256, blkA m c t (ix2 r d) * blkB m c t (ix3 0 i d) = partOf (argA m c) (argB m c) (rowAt 1024 (t.val / 8) (q_le t) r) i (t.val % 8) := by
  unfold partOf
  rw [dif_pos (Nat.mod_lt _ (by decide))]
  refine Finset.sum_congr rfl fun d _ => ?_
  exact congrArg₂ (fun x y : EReal => x * y) (blkA_apply m c t (ix2 r d)) (blkB_apply m c t (ix3 0 i d))

theorem scratch_A (c : Dev nD) (t : Fin cfg0.N) (h0 : t.val % 8 = 0) (h1 : ¬t.val % 8 = 7) :
    (outsAt0 m c t.val t.isLt).2.2.2 = k0_pay2 (F := Ideal) (k0_pay1 (F := Ideal)) (blkA m c t) (blkB m c t) := by
  rw [outsAt0_A m c t h0 h1]
  dsimp only
  exact sum_A c _ _ _ _ _ _ _ _ _ _ _ _ _ _ _ _ _ _ _ _ _ _ _ _ _ _
theorem scratch_B (c : Dev nD) (t : Fin cfg0.N) (h0 : ¬t.val % 8 = 0) (h1 : ¬t.val % 8 = 7) :
    (outsAt0 m c t.val t.isLt).2.2.2
      = k0_pay2 (F := Ideal) (outsAt0 m c (t.val - 1) (Nat.lt_of_le_of_lt (Nat.sub_le _ _) t.isLt)).2.2.2 (blkA m c t) (blkB m c t) := by
  rw [outsAt0_B m c t h0 h1]
  dsimp only
  exact sum_B c _ _ _ _ _ _ _ _ _ _ _ _ _ _ _ _ _ _ _ _ _ _ _ _ _ _ _

/-- A point's step of the product. -/
theorem step_point (c : Dev nD) (t : Fin cfg0.N) (v : FVec Ideal S1024x1024 .f32) (r i : Fin 1024) (k : ℕ) (hk : t.val % 8 = k)
    (hv : v (ix2 r i) = ∑ n ∈ Finset.range k, partOf (argA m c) (argB m c) (rowAt 1024 (t.val / 8) (q_le t) r) i n) :
    k0_pay2 (F := Ideal) v (blkA m c t) (blkB m c t) (ix2 r i)
      = ∑ n ∈ Finset.range (k + 1), partOf (argA m c) (argB m c) (rowAt 1024 (t.val / 8) (q_le t) r) i n := by
  subst hk
  rw [Finset.sum_range_succ]
  exact (pay2_apply _ _ _ r i).trans (congrArg₂ (fun x y : EReal => x + y) hv (part_point m c t r i))

theorem row_before (t : Fin cfg0.N) (h0 : ¬t.val % 8 = 0) (hp : t.val - 1 < cfg0.N) (r : Fin 1024) :
    rowAt 1024 ((⟨t.val - 1, hp⟩ : Fin cfg0.N).val / 8) (q_le ⟨t.val - 1, hp⟩) r = rowAt 1024 (t.val / 8) (q_le t) r :=
  Fin.ext (by show 1024 * ((t.val - 1) / 8) + r.val = 1024 * (t.val / 8) + r.val; rw [show (t.val - 1) / 8 = t.val / 8 by omega])

/-- The scratch after a point before the last column block: the parts so far. -/
theorem scratch_sum (c : Dev nD) (r i : Fin 1024) (k : ℕ) : k < 7 → ∀ t : Fin cfg0.N, t.val % 8 = k →
    (outsAt0 m c t.val t.isLt).2.2.2 (ix2 r i)
      = ∑ n ∈ Finset.range (k + 1), partOf (argA m c) (argB m c) (rowAt 1024 (t.val / 8) (q_le t) r) i n := by
  induction k with
  | zero =>
    intro _ t ht
    refine (congrFun (scratch_A m c t ht (by omega)) (ix2 r i)).trans ?_
    exact step_point m c t _ r i 0 ht ((pay1_apply (ix2 r i)).trans (Finset.sum_range_zero _).symm)
  | succ k IH =>
    intro hk t ht
    have hp : t.val - 1 < cfg0.N := Nat.lt_of_le_of_lt (Nat.sub_le _ _) t.isLt
    have ih := IH (by omega) ⟨t.val - 1, hp⟩ (by show (t.val - 1) % 8 = k; omega)
    rw [row_before t (by omega) hp r] at ih
    refine (congrFun (scratch_B m c t (by omega) (by omega)) (ix2 r i)).trans ?_
    exact step_point m c t _ r i (k + 1) ht ih

/-- The product at the last column block. -/
theorem last_prod (c : Dev nD) (t : Fin cfg0.N) (ht : t.val % 8 = 7) (r i : Fin 1024) :
    k0_pay2 (F := Ideal) (outsAt0 m c (t.val - 1) (Nat.lt_of_le_of_lt (Nat.sub_le _ _) t.isLt)).2.2.2 (blkA m c t) (blkB m c t) (ix2 r i)
      = prodRow (argA m c) (argB m c) (rowAt 1024 (t.val / 8) (q_le t) r) i := by
  have hp : t.val - 1 < cfg0.N := Nat.lt_of_le_of_lt (Nat.sub_le _ _) t.isLt
  have ih := scratch_sum m c r i 6 (by omega) ⟨t.val - 1, hp⟩ (by show (t.val - 1) % 8 = 6; omega)
  rw [row_before t (by omega) hp r] at ih
  exact (step_point m c t _ r i 7 ht ih).trans (parts_all _ _ _ i)

/-! ## The results -/

theorem gradRow_point (c : Dev nD) (t : Fin cfg0.N) (ht : t.val % 8 = 7) (r j : Fin 1024) :
    gradRow (k0_pay2 (F := Ideal) (outsAt0 m c (t.val - 1) (Nat.lt_of_le_of_lt (Nat.sub_le _ _) t.isLt)).2.2.2 (blkA m c t) (blkB m c t)) (blkX m c t) (blkD m c t) (blkG m c t) r j
      = gradIn (prodRow (argA m c) (argB m c)) (argX m c) (argG m c) (argD m c) (rowAt 1024 (t.val / 8) (q_le t) r) j := by
  unfold gradRow gradIn
  have e1 := funext fun i => last_prod m c t ht r i
  have e2 := funext fun i => blkG_apply m c t (ix2 0 i)
  have e3 := funext fun i => blkX_apply m c t (ix2 r i)
  have e4 := funext fun i => blkD_apply m c t (ix2 r i)
  rw [e1, e2, e3, e4]
theorem add_point (c : Dev nD) (t : Fin cfg0.N) (ht : t.val % 8 = 7) (r j : Fin 1024) :
    weightRow (fun i => k0_pay2 (F := Ideal) (outsAt0 m c (t.val - 1) (Nat.lt_of_le_of_lt (Nat.sub_le _ _) t.isLt)).2.2.2 (blkA m c t) (blkB m c t) (ix2 r i))
        (fun i => blkX m c t (ix2 r i)) j
      = gradAdd (prodRow (argA m c) (argB m c)) (argX m c) (rowAt 1024 (t.val / 8) (q_le t) r) j := by
  unfold gradAdd
  have e1 := funext fun i => last_prod m c t ht r i
  have e3 := funext fun i => blkX_apply m c t (ix2 r i)
  rw [e1, e3]

/-- What a point of the last column block leaves of the input's gradient. -/
theorem left5 (c : Dev nD) (t : Fin cfg0.N) (ht : t.val % 8 = 7) (y : S1024x1024.Idx) :
    (outsAt0 m c t.val t.isLt).1 y = gradIn (prodRow (argA m c) (argB m c)) (argX m c) (argG m c) (argD m c) (rowAt 1024 (t.val / 8) (q_le t) (y 0)) (y 1) := by
  refine Eq.trans ?_ (gradRow_point m c t ht (y 0) (y 1))
  by_cases h2 : t.val < 8
  · rw [outsAt0_C m c t (by omega) ht h2]
    exact out5_C c _ _ _ _ _ _ _ _ _ _ _ _ _ _ _ _ _ _ _ _ _ _ _ _ _ _ _ _ y
  · rw [outsAt0_D m c t (by omega) ht h2]
    exact out5_D c _ _ _ _ _ _ _ _ _ _ _ _ _ _ _ _ _ _ _ _ _ _ _ _ _ _ _ _ _ y
theorem left6 (c : Dev nD) (t : Fin cfg0.N) (ht : t.val % 8 = 7) (y : S1024x1024.Idx) :
    (outsAt0 m c t.val t.isLt).2.1 y = gradIn (prodRow (argA m c) (argB m c)) (argX m c) (argG m c) (argD m c) (rowAt 1024 (t.val / 8) (q_le t) (y 0)) (y 1) := by
  refine Eq.trans ?_ (gradRow_point m c t ht (y 0) (y 1))
  by_cases h2 : t.val < 8
  · rw [outsAt0_C m c t (by omega) ht h2]
    exact out6_C c _ _ _ _ _ _ _ _ _ _ _ _ _ _ _ _ _ _ _ _ _ _ _ _ _ _ _ _ y
  · rw [outsAt0_D m c t (by omega) ht h2]
    exact out6_D c _ _ _ _ _ _ _ _ _ _ _ _ _ _ _ _ _ _ _ _ _ _ _ _ _ _ _ _ _ y

theorem block_point (c : Dev nD) (t : Fin cfg0.N) (ht : t.val % 8 = 7) (j : Fin 1024) :
    ∑ r : Fin 1024, weightRow (fun i => k0_pay2 (F := Ideal) (outsAt0 m c (t.val - 1) (Nat.lt_of_le_of_lt (Nat.sub_le _ _) t.isLt)).2.2.2 (blkA m c t) (blkB m c t) (ix2 r i))
        (fun i => blkX m c t (ix2 r i)) j
      = blockAdd (prodRow (argA m c) (argB m c)) (argX m c) 1024 j (t.val / 8) := by
  unfold blockAdd
  rw [dif_pos (q_le t)]
  exact Finset.sum_congr rfl fun r _ => add_point m c t ht r j

theorem left7_C (c : Dev nD) (j : Fin 1024) (t : Fin cfg0.N) (ht : t.val % 8 = 7) (h2 : t.val < 8) :
    (outsAt0 m c t.val t.isLt).2.2.1 (ix2 0 j) = 0 + blockAdd (prodRow (argA m c) (argB m c)) (argX m c) 1024 j (t.val / 8) := by
  rw [outsAt0_C m c t (by omega) ht h2]
  dsimp only
  refine Eq.trans ?_ (congrArg (fun x : EReal => 0 + x) (block_point m c t ht j))
  exact out7_C c _ _ _ _ _ _ _ _ _ _ _ _ _ _ _ _ _ _ _ _ _ _ _ _ _ _ _ _ j
theorem left7_D (c : Dev nD) (j : Fin 1024) (t : Fin cfg0.N) (ht : t.val % 8 = 7) (h2 : ¬t.val < 8) :
    (outsAt0 m c t.val t.isLt).2.2.1 (ix2 0 j)
      = (outsAt0 m c (t.val - 1) (Nat.lt_of_le_of_lt (Nat.sub_le _ _) t.isLt)).2.2.1 (ix2 0 j) + blockAdd (prodRow (argA m c) (argB m c)) (argX m c) 1024 j (t.val / 8) := by
  rw [outsAt0_D m c t (by omega) ht h2]
  dsimp only
  refine Eq.trans ?_ (congrArg (fun x : EReal => (outsAt0 m c (t.val - 1) (Nat.lt_of_le_of_lt (Nat.sub_le _ _) t.isLt)).2.2.1 (ix2 0 j) + x) (block_point m c t ht j))
  exact out7_D c _ _ _ _ _ _ _ _ _ _ _ _ _ _ _ _ _ _ _ _ _ _ _ _ _ _ _ _ _ j
theorem left7_keep (c : Dev nD) (j : Fin 1024) (t : Fin cfg0.N) (h0 : 0 < t.val) (ht : ¬t.val % 8 = 7) :
    (outsAt0 m c t.val t.isLt).2.2.1 (ix2 0 j) = (outsAt0 m c (t.val - 1) (Nat.lt_of_le_of_lt (Nat.sub_le _ _) t.isLt)).2.2.1 (ix2 0 j) := by
  by_cases h8 : t.val % 8 = 0
  · rw [outsAt0_A m c t h8 ht]
    unfold out0_A_7
    rfl
  · rw [outsAt0_B m c t h8 ht]
    unfold out0_B_7
    rfl

/-- The weights' gradient after a point: the blocks of rows finished so far. -/
theorem left7 (c : Dev nD) (j : Fin 1024) (k : ℕ) : ∀ t : Fin cfg0.N, t.val = 7 + k →
    (outsAt0 m c t.val t.isLt).2.2.1 (ix2 0 j) = ∑ q ∈ Finset.range ((t.val + 1) / 8), blockAdd (prodRow (argA m c) (argB m c)) (argX m c) 1024 j q := by
  induction k with
  | zero =>
    intro t ht
    rw [left7_C m c j t (by omega) (by omega), show (t.val + 1) / 8 = 1 by omega, show t.val / 8 = 0 by omega, Finset.sum_range_one, zero_add]
  | succ k IH =>
    intro t ht
    have hp : t.val - 1 < cfg0.N := Nat.lt_of_le_of_lt (Nat.sub_le _ _) t.isLt
    have ih := IH ⟨t.val - 1, hp⟩ (by show t.val - 1 = 7 + k; omega)
    have hs : ((⟨t.val - 1, hp⟩ : Fin cfg0.N).val + 1) / 8 = t.val / 8 := by show (t.val - 1 + 1) / 8 = t.val / 8; omega
    rw [hs] at ih
    by_cases h1 : t.val % 8 = 7
    · rw [left7_D m c j t h1 (by omega), show (t.val + 1) / 8 = t.val / 8 + 1 by omega, Finset.sum_range_succ]
      exact congrArg (fun x : EReal => x + blockAdd (prodRow (argA m c) (argB m c)) (argX m c) 1024 j (t.val / 8)) ih
    · rw [left7_keep m c j t (by omega) h1, show (t.val + 1) / 8 = t.val / 8 by omega]
      exact ih

/-! ## The arrays -/

theorem array5 (c : Dev nD) : (dats m 0 c).arrAt 5 cfg0.N = resX (prodRow (argA m c) (argB m c)) (argX m c) (argG m c) (argD m c) := by
  refine (dats m 0 c).arrAt_eq_of_cover 5 (resX (prodRow (argA m c) (argB m c)) (argX m c) (argG m c) (argD m c)) (fun t hf => ?_) fun i => ?_
  · funext y
    refine (congrFun (Cert.CdnIdeal.Value.flushed5 m c t) y).trans ((left5 m c t ((flush0_5 t).mp hf) y).trans ?_)
    show _ = resX (prodRow (argA m c) (argB m c)) (argX m c) (argG m c) (argD m c) ((win0_5.rect t).emb y)
    rw [emb5]
    rfl
  · have h0 : (i 0).val < 4096 := (i 0).isLt
    have ht : ((i 0).val / 1024) * 8 + 7 < cfg0.N := Nat.lt_of_lt_of_eq (by omega) N_0.symm
    refine ⟨⟨_, ht⟩, (flush0_5 _).mpr (by show (((i 0).val / 1024) * 8 + 7) % 8 = 7; omega), ?_⟩
    refine mem_of_emb ((cfg0.win 5).blk ⟨_, ht⟩).view (ix2 ⟨(i 0).val % 1024, Nat.mod_lt _ (by decide)⟩ (i 1)) i ?_
    refine (emb5 ⟨_, ht⟩ (ix2 ⟨(i 0).val % 1024, Nat.mod_lt _ (by decide)⟩ (i 1))).trans ?_
    funext a
    match a with
    | ⟨0, _⟩ => exact Fin.ext (by show 1024 * ((((i 0).val / 1024) * 8 + 7) / 8) + (i 0).val % 1024 = (i 0).val; omega)
    | ⟨1, _⟩ => rfl

theorem array6 (c : Dev nD) : (dats m 0 c).arrAt 6 cfg0.N = resXb (prodRow (argA m c) (argB m c)) (argX m c) (argG m c) (argD m c) := by
  refine (dats m 0 c).arrAt_eq_of_cover 6 (resXb (prodRow (argA m c) (argB m c)) (argX m c) (argG m c) (argD m c)) (fun t hf => ?_) fun i => ?_
  · funext y
    refine (congrFun (Cert.CdnIdeal.Value.flushed6 m c t) y).trans ((left6 m c t ((flush0_6 t).mp hf) y).trans ?_)
    show _ = resXb (prodRow (argA m c) (argB m c)) (argX m c) (argG m c) (argD m c) ((win0_6.rect t).emb y)
    rw [emb6]
    rfl
  · have h0 : (i 0).val < 4096 := (i 0).isLt
    have ht : ((i 0).val / 1024) * 8 + 7 < cfg0.N := Nat.lt_of_lt_of_eq (by omega) N_0.symm
    refine ⟨⟨_, ht⟩, (flush0_6 _).mpr (by show (((i 0).val / 1024) * 8 + 7) % 8 = 7; omega), ?_⟩
    refine mem_of_emb ((cfg0.win 6).blk ⟨_, ht⟩).view (ix2 ⟨(i 0).val % 1024, Nat.mod_lt _ (by decide)⟩ (i 1)) i ?_
    refine (emb6 ⟨_, ht⟩ (ix2 ⟨(i 0).val % 1024, Nat.mod_lt _ (by decide)⟩ (i 1))).trans ?_
    funext a
    match a with
    | ⟨0, _⟩ => exact Fin.ext (by show 1024 * ((((i 0).val / 1024) * 8 + 7) / 8) + (i 0).val % 1024 = (i 0).val; omega)
    | ⟨1, _⟩ => rfl

theorem array7 (c : Dev nD) : (dats m 0 c).arrAt 7 cfg0.N = resG (prodRow (argA m c) (argB m c)) (argX m c) := by
  refine (dats m 0 c).arrAt_eq_of_cover 7 (resG (prodRow (argA m c) (argB m c)) (argX m c)) (fun t hf => ?_) fun i => ?_
  · funext y
    have h31 := (flush0_7 t).mp hf
    have h32 := lt32N t
    have hy : y = ix2 0 (y 1) := by
      funext a
      match a with
      | ⟨0, _⟩ => exact Fin.ext (by have : (y 0).val < 1 := (y 0).isLt; show (y 0).val = 0; omega)
      | ⟨1, _⟩ => rfl
    refine (congrFun (Cert.CdnIdeal.Value.flushed7 m c t) y).trans ?_
    show (outsAt0 m c t.val t.isLt).2.2.1 y = resG (prodRow (argA m c) (argB m c)) (argX m c) ((win0_7.rect t).emb y)
    rw [emb7]
    refine (congrArg (outsAt0 m c t.val t.isLt).2.2.1 hy).trans ((left7 m c (y 1) 24 t (by omega)).trans ?_)
    rw [show (t.val + 1) / 8 = 4 by omega]
    exact blocks_all _ _ 4 1024 (by decide) _
  · have ht : 31 < cfg0.N := Nat.lt_of_lt_of_eq (by decide) N_0.symm
    refine ⟨⟨31, ht⟩, (flush0_7 _).mpr (by show 31 % 32 = 31; decide), ?_⟩
    exact mem_of_emb ((cfg0.win 7).blk ⟨31, ht⟩).view i i ((emb7 ⟨31, ht⟩ i).trans (eq_ix2 i).symm)

/-! ## The reference -/

section Ref
open Cert.CdnRefIdeal.Read

theorem idx3 (i : Cert.CdnRefIdeal.S1024x2048.Idx) : idx_main_v3 i = ix4 (i 0) ⟨(i 1).val / 256 / 2, by have : (i 1).val < 2048 := (i 1).isLt; omega⟩
    ⟨(i 1).val / 256 % 2, Nat.mod_lt _ (by decide)⟩ (placeOf (i 1)) := by
  obtain ⟨e0, e1, e2, e3⟩ := split_blocks (i 0).val (i 1).val (i 0).isLt (i 1).isLt
  funext a
  match a with
  | ⟨0, _⟩ => exact Fin.ext e0
  | ⟨1, _⟩ => exact Fin.ext e1
  | ⟨2, _⟩ => exact Fin.ext e2
  | ⟨3, _⟩ => exact Fin.ext e3

theorem idx21 (k : Fin 1024) (p : Fin 4) (q : Fin 2) (j : Fin 256) :
    idx_main_v1 (idx_main_v2 (ix4 k p q j)) = ix3 ⟨q.val * 4 + p.val, by omega⟩ k j := by
  obtain ⟨e0, e1, e2⟩ := join_slots q.val p.val k.val j.val q.isLt p.isLt k.isLt j.isLt
  funext a
  match a with
  | ⟨0, _⟩ => exact Fin.ext e0
  | ⟨1, _⟩ => exact Fin.ext e1
  | ⟨2, _⟩ => exact Fin.ext e2

theorem idx321 (i : Cert.CdnRefIdeal.S1024x2048.Idx) : idx_main_v1 (idx_main_v2 (idx_main_v3 i)) = ix3 (n0 := 8) (n1 := 1024) (n2 := 256) (slotOf (i 1)) (i 0) (placeOf (i 1)) :=
  (congrArg (fun z => idx_main_v1 (idx_main_v2 z)) (idx3 i)).trans (idx21 _ _ _ _)

variable (A : FVec Ideal S4096x2048 .bf16) (B : FVec Ideal S8x1024x256 .bf16) (X : FVec Ideal S4096x1024 .f32) (G : FVec Ideal S1x1024 .f32) (D : FVec Ideal S4096x1024 .f32)

theorem ref3_apply (i : Cert.CdnRefIdeal.S1024x2048.Idx) : val_main_v3 (F := Ideal) B i = B (ix3 (slotOf (i 1)) (i 0) (placeOf (i 1))) := by
  rw [val_main_v3_apply, val_main_v2_apply, val_main_v1_apply]
  exact congrArg B (idx321 i)

theorem ref21_apply (r : Fin 4096) (j : Fin 1024) : val_main_v21 (F := Ideal) A B (ix2 r j) = prodRow A B r j := by
  refine Eq.trans (val_main_v21_apply A B (ix2 r j)) ?_
  show _ = ∑ k : Fin 2048, A (ix2 r k) * B (ix3 (slotOf k) j (placeOf k))
  refine Finset.sum_congr rfl fun k _ => ?_
  exact congrArg₂ (fun x y : EReal => x * y) (congrArg A (eq_ix2 _)) (ref3_apply B (ridx_main_v21 (ix2 r j) k))

theorem ref10_apply (r : Fin 4096) : val_main_v10 (F := Ideal) X (ix2 r 0) = (∑ i : Fin 1024, X (ix2 r i) * X (ix2 r i)) * cInv + cEps := by
  refine congrArg₂ (fun x y : EReal => x + y) ?_ (val_main_v9_apply (F := Ideal) _)
  refine Eq.trans (congrArg₂ Ideal.div ?_ (val_main_v7_apply (F := Ideal) _)) (div_len _)
  refine Eq.trans (val_main_v6_apply (F := Ideal) X (ix2 r 0)) (Eq.trans (val_main_v5_apply X _) ?_)
  refine Eq.trans (congrArg (· + _) Ideal.ofBits_zero_f32) (Eq.trans (zero_add _) ?_)
  refine Finset.sum_congr rfl fun d _ => ?_
  have e : X (idx_main_v5 (idx_main_v6 (ix2 r 0)) d) = X (ix2 r d) := congrArg X (eq_ix2 _)
  exact congrArg₂ (fun x y : EReal => x * y) e e

theorem ref11_apply (r : Fin 4096) : val_main_v11 (F := Ideal) X (ix2 r 0) = slopeOf (fun i => X (ix2 r i)) :=
  congrArg Ideal.rsqrt (ref10_apply X r)

theorem ref14_apply (r : Fin 4096) : val_main_v14 (F := Ideal) X (ix2 r 0)
    = cHalf * Ideal.div (slopeOf (fun i => X (ix2 r i))) ((∑ i : Fin 1024, X (ix2 r i) * X (ix2 r i)) * cInv + cEps) :=
  congrArg₂ (fun x y : EReal => x * y) (val_main_v13_apply (F := Ideal) _) (congrArg₂ Ideal.div (ref11_apply X r) (ref10_apply X r))

theorem ref26_apply (r : Fin 4096) (j : Fin 1024) : val_main_v26 (F := Ideal) A B G (ix2 r j) = prodRow A B r j * G (ix2 0 j) :=
  congrArg₂ (fun x y : EReal => x * y) (ref21_apply A B r j) (Eq.trans (val_main_v25_apply (F := Ideal) G (ix2 r j)) (congrArg G (eq_ix2 _)))

theorem ref29_apply (r : Fin 4096) : val_main_v29 (F := Ideal) A B X G (ix2 r 0) = ∑ i : Fin 1024, X (ix2 r i) * (prodRow A B r i * G (ix2 0 i)) := by
  refine Eq.trans (val_main_v29_apply (F := Ideal) A B X G (ix2 r 0)) (Eq.trans (val_main_v28_apply A B X G _) ?_)
  refine Eq.trans (congrArg (· + _) Ideal.ofBits_zero_f32) (Eq.trans (zero_add _) ?_)
  refine Finset.sum_congr rfl fun d _ => ?_
  have e : idx_main_v28 (idx_main_v29 (ix2 r 0)) d = ix2 (n0 := 4096) (n1 := 1024) r d := funext fun a => match a with
    | ⟨0, _⟩ => Fin.ext (by show r.val * 1 + 0 = r.val; omega)
    | ⟨1, _⟩ => rfl
  refine Eq.trans (congrArg (val_main_v27 (F := Ideal) A B X G) e) ?_
  exact congrArg (fun y : EReal => X (ix2 r d) * y) (ref26_apply A B G r d)

theorem ref35_apply (r : Fin 4096) : val_main_v35 (F := Ideal) A B X G (ix2 r 0) = slopePart (prodRow A B r) (fun i => G (ix2 0 i)) (fun i => X (ix2 r i)) :=
  congrArg₂ Ideal.div (congrArg₂ (fun x y : EReal => x * y) (ref29_apply A B X G r) (ref14_apply X r)) (val_main_v34_apply (F := Ideal) _)

theorem ref37_apply (r : Fin 4096) (j : Fin 1024) : val_main_v37 (F := Ideal) A B X G (ix2 r j) = slopePart (prodRow A B r) (fun i => G (ix2 0 i)) (fun i => X (ix2 r i)) := by
  refine Eq.trans (val_main_v37_apply (F := Ideal) A B X G (ix2 r j)) (Eq.trans (val_main_v36_apply A B X G _) ?_)
  refine Eq.trans (congrArg (· + _) Ideal.ofBits_zero_f32) (Eq.trans (zero_add _) ?_)
  refine Eq.trans (Fin.sum_univ_one _) ?_
  exact Eq.trans (congrArg (val_main_v35 (F := Ideal) A B X G) (eq_ix2 _)) (ref35_apply A B X G r)

theorem ref41_apply (r : Fin 4096) (j : Fin 1024) : val_main_v41 (F := Ideal) A B X G D (ix2 r j) = gradIn (prodRow A B) X G D r j := by
  refine Eq.trans ?_ (inRow_eq (prodRow A B r) (fun i => G (ix2 0 i)) (fun i => X (ix2 r i)) (fun i => D (ix2 r i)) j).symm
  have e30 : val_main_v30 (F := Ideal) X (ix2 r j) = slopeOf (fun i => X (ix2 r i)) :=
    Eq.trans (val_main_v30_apply (F := Ideal) X (ix2 r j)) (Eq.trans (congrArg (val_main_v11 (F := Ideal) X) (eq_ix2 _)) (ref11_apply X r))
  refine congrArg₂ (fun x y : EReal => x + y) (congrArg₂ (fun x y : EReal => x + y) (congrArg (fun y : EReal => D (ix2 r j) + y) ?_) ?_) ?_
  · exact congrArg₂ (fun x y : EReal => x * y) (ref26_apply A B G r j) e30
  · exact congrArg (fun y : EReal => X (ix2 r j) * y) (ref37_apply A B X G r j)
  · exact congrArg (fun y : EReal => y * X (ix2 r j)) (ref37_apply A B X G r j)

theorem ref41 : val_main_v41 (F := Ideal) A B X G D = resX (prodRow A B) X G D := by
  funext i
  exact Eq.trans (congrArg (val_main_v41 (F := Ideal) A B X G D) (eq_ix2 i)) (ref41_apply A B X G D (i 0) (i 1))

theorem ref42 : val_main_v42 (F := Ideal) A B X G D = resXb (prodRow A B) X G D := by
  funext i
  exact congrFun (ref41 A B X G D) i

theorem ref24 : val_main_v24 (F := Ideal) A B X = resG (prodRow A B) X := by
  funext i
  refine Eq.trans (val_main_v24_apply (F := Ideal) A B X i) (Eq.trans (val_main_v23_apply A B X _) ?_)
  refine Eq.trans (congrArg (· + _) Ideal.ofBits_zero_f32) (Eq.trans (zero_add _) ?_)
  show _ = ∑ r : Fin 4096, gradAdd (prodRow A B) X r (i 1)
  refine Finset.sum_congr rfl fun r _ => ?_
  have e : val_main_v22 (F := Ideal) A B X (idx_main_v23 (idx_main_v24 i) r) = val_main_v22 (F := Ideal) A B X (ix2 r (i 1)) :=
    congrArg (val_main_v22 (F := Ideal) A B X) (funext fun a => match a with
      | ⟨0, _⟩ => rfl
      | ⟨1, _⟩ => Fin.ext (col_idx i))
  refine Eq.trans e ?_
  refine Eq.trans ?_ (mul_comm (G := EReal) _ _)
  refine congrArg₂ (fun x y : EReal => x * y) (congrArg (fun y : EReal => X (ix2 r (i 1)) * y) ?_) (ref21_apply A B r (i 1))
  exact Eq.trans (val_main_v15_apply (F := Ideal) X (ix2 r (i 1))) (Eq.trans (congrArg (val_main_v11 (F := Ideal) X) (eq_ix2 _)) (ref11_apply X r))

end Ref

/-! ## The claims -/

/-- `Cdn` runs, keeps its arguments and ends quiescent. -/
theorem frame_kernel : Cert.quiescent_Cdn := fun m ρ _ => Cert.Cdn.Gen.frame m ρ
/-- The same of its idealization. -/
theorem frame_ideal : Cert.quiescent_CdnIdeal := fun m ρ _ => Cert.CdnIdeal.Gen.frame m ρ
/-- The reference runs, keeps its arguments and has no semaphores. -/
theorem frame_ref : Cert.quiescent_CdnRefIdeal := fun m ρ _ =>
  (θ_run Cert.CdnRefIdeal.defs _ _).mono (fun r h => ⟨fun c => (h c).2.2.2, sem_eq_zero_of_no_sems (by decide) r.2⟩)
    (Cert.CdnRefIdeal.Value.run (F := Ideal) m ρ)

/-- The kernel and the reference compute the same gradients of the input and of the norm's weights. -/
theorem value : Cert.algebraic_CdnIdeal_CdnRefIdeal := by
  intro m ρ m' ρ' _ hag
  refine ⟨fun c => resX (prodRow (argA m c) (argB m c)) (argX m c) (argG m c) (argD m c), fun c => resXb (prodRow (argA m c) (argB m c)) (argX m c) (argG m c) (argD m c),
    fun c => resG (prodRow (argA m c) (argB m c)) (argX m c), ?_, ?_⟩
  · exact (θ_run Cert.CdnIdeal.defs _ _).mono
      (fun r h c => ⟨(h c).1.trans (array5 m c), (h c).2.1.trans (array6 m c), (h c).2.2.1.trans (array7 m c), (h c).2.2.2⟩)
      (Cert.CdnIdeal.Value.run_blocks m ρ)
  · refine (θ_run Cert.CdnRefIdeal.defs _ _).mono (fun r h c => ?_) (Cert.CdnRefIdeal.Value.run (F := Ideal) m' ρ')
    obtain ⟨e0, e1, e2, e3, e4⟩ := hag c
    refine ⟨(h c).1.trans ?_, (h c).2.1.trans ?_, (h c).2.2.1.trans ?_, (h c).2.2.2⟩
    · refine (Cert.CdnRefIdeal.Read.val_main_v41_eq _ _).trans ?_
      rw [e0, e1, e2, e3, e4]
      exact ref41 (argA m c) (argB m c) (argX m c) (argG m c) (argD m c)
    · refine (Cert.CdnRefIdeal.Read.val_main_v42_eq _ _).trans ?_
      rw [e0, e1, e2, e3, e4]
      exact ref42 (argA m c) (argB m c) (argX m c) (argG m c) (argD m c)
    · refine (Cert.CdnRefIdeal.Read.val_main_v24_eq _ _ _).trans ?_
      rw [e0, e1, e2]
      exact ref24 (argA m c) (argB m c) (argX m c)

end Cert.XCdn

end
-- ==== Proof.lean ====
module

public import proofs.«01_k».proof.Proof.Gen.Fdn.Frame
public import proofs.«01_k».proof.Proof.Gen.FdnIdeal.Value
public import proofs.«01_k».proof.Proof.Gen.FdnRefIdeal.Read
public import proofs.«01_k».proof.Proof.Gen.Fdwup.Frame
public import proofs.«01_k».proof.Proof.Gen.FdwupIdeal.Value
public import proofs.«01_k».proof.Proof.Gen.FdwupRefIdeal.Read
public import proofs.«01_k».proof.Proof.Gen.Fdact.Frame
public import proofs.«01_k».proof.Proof.Gen.FdactIdeal.Value
public import proofs.«01_k».proof.Proof.Gen.FdactRefIdeal.Read
public import proofs.«01_k».proof.Proof.Gen.Fdwdown.Frame
public import proofs.«01_k».proof.Proof.Gen.FdwdownIdeal.Value
public import proofs.«01_k».proof.Proof.Gen.FdwdownRefIdeal.Read
public import proofs.«01_k».proof.Proof.Gen.Fup.Frame
public import proofs.«01_k».proof.Proof.Gen.FupIdeal.Value
public import proofs.«01_k».proof.Proof.Gen.FupRefIdeal.Read
public import proofs.«01_k».proof.Proof.Gen.Fdown.Frame
public import proofs.«01_k».proof.Proof.Gen.FdownIdeal.Value
public import proofs.«01_k».proof.Proof.Gen.FdownRefIdeal.Read
public import proofs.«01_k».proof.Proof.Gen.Flast.Frame
public import proofs.«01_k».proof.Proof.Gen.FlastIdeal.Value
public import proofs.«01_k».proof.Proof.Gen.FlastRefIdeal.Read
public import proofs.«01_k».proof.Proof.Gen.Sdy.Frame
public import proofs.«01_k».proof.Proof.Gen.SdyIdeal.Value
public import proofs.«01_k».proof.Proof.Gen.SdyRefIdeal.Read
public import proofs.«01_k».proof.Proof.Gen.Sdw.Frame
public import proofs.«01_k».proof.Proof.Gen.SdwIdeal.Value
public import proofs.«01_k».proof.Proof.Gen.SdwRefIdeal.Read
public import proofs.«01_k».proof.Proof.Gen.Sq.Frame
public import proofs.«01_k».proof.Proof.Gen.SqIdeal.Value
public import proofs.«01_k».proof.Proof.Gen.SqRefIdeal.Read
public import proofs.«01_k».proof.Proof.Gen.So.Frame
public import proofs.«01_k».proof.Proof.Gen.SoIdeal.Value
public import proofs.«01_k».proof.Proof.Gen.SoRefIdeal.Read
public import proofs.«01_k».proof.Proof.Gen.Tdy.Frame
public import proofs.«01_k».proof.Proof.Gen.TdyIdeal.Value
public import proofs.«01_k».proof.Proof.Gen.TdyRefIdeal.Read
public import proofs.«01_k».proof.Proof.Gen.Tdw.Frame
public import proofs.«01_k».proof.Proof.Gen.TdwIdeal.Value
public import proofs.«01_k».proof.Proof.Gen.TdwRefIdeal.Read
public import proofs.«01_k».proof.Proof.Gen.To.Frame
public import proofs.«01_k».proof.Proof.Gen.ToIdeal.Value
public import proofs.«01_k».proof.Proof.Gen.ToRefIdeal.Read
public import proofs.«01_k».proof.Proof.Gen.Tin.Frame
public import proofs.«01_k».proof.Proof.Gen.TinIdeal.Value
public import proofs.«01_k».proof.Proof.Gen.TinRefIdeal.Read
public import proofs.«01_k».proof.Proof.Gen.Cup.Frame
public import proofs.«01_k».proof.Proof.Gen.CupIdeal.Value
public import proofs.«01_k».proof.Proof.Gen.CupRefIdeal.Read
public import proofs.«01_k».proof.Proof.Gen.Cdw.Frame
public import proofs.«01_k».proof.Proof.Gen.CdwIdeal.Value
public import proofs.«01_k».proof.Proof.Gen.CdwRefIdeal.Read
public import proofs.«01_k».proof.Proof.Gen.Cout.Frame
public import proofs.«01_k».proof.Proof.Gen.CoutIdeal.Value
public import proofs.«01_k».proof.Proof.Gen.CoutRefIdeal.Read
public import proofs.«01_k».proof.Proof.Gen.Sdn.Frame
public import proofs.«01_k».proof.Proof.Gen.SdnIdeal.Value
public import proofs.«01_k».proof.Proof.Gen.SdnRefIdeal.Read
public import proofs.«01_k».proof.Proof.Gen.Cdn.Frame
public import proofs.«01_k».proof.Proof.Gen.CdnIdeal.Value
public import proofs.«01_k».proof.Proof.Gen.CdnRefIdeal.Read
public import proofs.«01_k».proof.Proof.Gen.Tdn.Frame
public import proofs.«01_k».proof.Proof.Gen.TdnIdeal.Value
public import proofs.«01_k».proof.Proof.Gen.TdnRefIdeal.Read
public import proofs.«01_k».proof.Proof.Gen.Afw.Frame
public import proofs.«01_k».proof.Proof.Gen.AfwIdeal.Value
public import proofs.«01_k».proof.Proof.Gen.AfwRefIdeal.Read
public import proofs.«01_k».proof.Proof.Gen.Tdp.Frame
public import proofs.«01_k».proof.Proof.Gen.TdpIdeal.Value
public import proofs.«01_k».proof.Proof.Gen.TdpRefIdeal.Read
public import proofs.«01_k».proof.Proof.Gen.Mk.Frame
public import proofs.«01_k».proof.Proof.Gen.MkIdeal.Value
public import proofs.«01_k».proof.Proof.Gen.MkRefIdeal.Read
public import proofs.«01_k».proof.Proof.Gen.Mdw.Frame
public import proofs.«01_k».proof.Proof.Gen.MdwIdeal.Value
public import proofs.«01_k».proof.Proof.Gen.MdwRefIdeal.Read
public import proofs.«01_k».proof.Proof.Gen.Mdk.Frame
public import proofs.«01_k».proof.Proof.Gen.MdkIdeal.Value
public import proofs.«01_k».proof.Proof.Gen.MdkRefIdeal.Read
public import proofs.«01_k».proof.Proof.Gen.Mdv.Frame
public import proofs.«01_k».proof.Proof.Gen.MdvIdeal.Value
public import proofs.«01_k».proof.Proof.Gen.MdvRefIdeal.Read
public import proofs.«01_k».proof.Proof.Gen.Nx.Frame
public import proofs.«01_k».proof.Proof.Gen.NxIdeal.Value
public import proofs.«01_k».proof.Proof.Gen.NxRefIdeal.Read
public import proofs.«01_k».proof.Proof.Gen.Nm.Frame
public import proofs.«01_k».proof.Proof.Gen.NmIdeal.Value
public import proofs.«01_k».proof.Proof.Gen.NmRefIdeal.Read
public import proofs.«01_k».proof.Proof.Gen.Nb.Frame
public import proofs.«01_k».proof.Proof.Gen.NbIdeal.Value
public import proofs.«01_k».proof.Proof.Gen.NbRefIdeal.Read
public import proofs.«01_k».proof.Proof.Gen.Ls.Frame
public import proofs.«01_k».proof.Proof.Gen.LsIdeal.Value
public import proofs.«01_k».proof.Proof.Gen.LsRefIdeal.Read
public import proofs.«01_k».proof.Proof.Gen.Lh.Frame
public import proofs.«01_k».proof.Proof.Gen.LhIdeal.Value
public import proofs.«01_k».proof.Proof.Gen.LhRefIdeal.Read
public import proofs.«01_k».proof.Proof.Gen.Lb.Frame
public import proofs.«01_k».proof.Proof.Gen.LbIdeal.Value
public import proofs.«01_k».proof.Proof.Gen.LbRefIdeal.Read
public import proofs.«01_k».proof.Defs
public import proofs.«01_k».proof.Proof.AttnClaims
public import proofs.«01_k».proof.Proof.InputGrad
public import proofs.«01_k».proof.Proof.WeightUp
public import proofs.«01_k».proof.Proof.HiddenGrad
public import proofs.«01_k».proof.Proof.DownGrad
public import proofs.«01_k».proof.Proof.UpProduct
public import proofs.«01_k».proof.Proof.DownNorm
public import proofs.«01_k».proof.Proof.ForwardProducts
public import proofs.«01_k».proof.Proof.RowGrads
public import proofs.«01_k».proof.Proof.SquareGrad
public import proofs.«01_k».proof.Proof.OutNorms
public import proofs.«01_k».proof.Proof.MixerGrad
public import proofs.«01_k».proof.Proof.ConvProducts
public import proofs.«01_k».proof.Proof.ConvOut
public import proofs.«01_k».proof.Proof.SquareInput
public import proofs.«01_k».proof.Proof.MixerInput
public import proofs.«01_k».proof.Proof.AttnForward
public import proofs.«01_k».proof.Proof.PoolGrad
public import proofs.«01_k».proof.Proof.MemoryProducts
public import proofs.«01_k».proof.Proof.SoloNorms
public import proofs.«01_k».proof.Proof.LayerNorm
public import proofs.«01_k».proof.Proof.LossHead
public import proofs.«01_k».proof.Proof.NormSiluGrad
public import proofs.«01_k».proof.Proof.ConvInput
public import proofs.«01_k».proof.Proof.Gen.AttnIdeal.Value
public import proofs.«01_k».proof.Proof.Gen.AttnRefIdeal.Read
public import Idealize.ShloMosaic.Adequacy
public import Idealize.ShloMosaic.Init

@[expose] public section

noncomputable section

namespace Cert.Proof

/-- Every claim of the certificate. -/
theorem claim : Cert.Claim :=
  ⟨Cert.Attn.Gen.facts, Cert.AttnIdeal.Gen.facts, Cert.AttnRefIdeal.Gen.facts,
    Cert.Fdn.Gen.facts, Cert.FdnIdeal.Gen.facts, Cert.FdnRefIdeal.Gen.facts,
    Cert.Fdwup.Gen.facts, Cert.FdwupIdeal.Gen.facts, Cert.FdwupRefIdeal.Gen.facts,
    Cert.Fdact.Gen.facts, Cert.FdactIdeal.Gen.facts, Cert.FdactRefIdeal.Gen.facts,
    Cert.Fdwdown.Gen.facts, Cert.FdwdownIdeal.Gen.facts, Cert.FdwdownRefIdeal.Gen.facts,
    Cert.Fup.Gen.facts, Cert.FupIdeal.Gen.facts, Cert.FupRefIdeal.Gen.facts,
    Cert.Fdown.Gen.facts, Cert.FdownIdeal.Gen.facts, Cert.FdownRefIdeal.Gen.facts,
    Cert.Flast.Gen.facts, Cert.FlastIdeal.Gen.facts, Cert.FlastRefIdeal.Gen.facts,
    Cert.Sdy.Gen.facts, Cert.SdyIdeal.Gen.facts, Cert.SdyRefIdeal.Gen.facts,
    Cert.Sdw.Gen.facts, Cert.SdwIdeal.Gen.facts, Cert.SdwRefIdeal.Gen.facts,
    Cert.Sq.Gen.facts, Cert.SqIdeal.Gen.facts, Cert.SqRefIdeal.Gen.facts,
    Cert.So.Gen.facts, Cert.SoIdeal.Gen.facts, Cert.SoRefIdeal.Gen.facts,
    Cert.Tdy.Gen.facts, Cert.TdyIdeal.Gen.facts, Cert.TdyRefIdeal.Gen.facts,
    Cert.Tdw.Gen.facts, Cert.TdwIdeal.Gen.facts, Cert.TdwRefIdeal.Gen.facts,
    Cert.To.Gen.facts, Cert.ToIdeal.Gen.facts, Cert.ToRefIdeal.Gen.facts,
    Cert.Tin.Gen.facts, Cert.TinIdeal.Gen.facts, Cert.TinRefIdeal.Gen.facts,
    Cert.Cup.Gen.facts, Cert.CupIdeal.Gen.facts, Cert.CupRefIdeal.Gen.facts,
    Cert.Cdw.Gen.facts, Cert.CdwIdeal.Gen.facts, Cert.CdwRefIdeal.Gen.facts,
    Cert.Cout.Gen.facts, Cert.CoutIdeal.Gen.facts, Cert.CoutRefIdeal.Gen.facts,
    Cert.Sdn.Gen.facts, Cert.SdnIdeal.Gen.facts, Cert.SdnRefIdeal.Gen.facts,
    Cert.Cdn.Gen.facts, Cert.CdnIdeal.Gen.facts, Cert.CdnRefIdeal.Gen.facts,
    Cert.Tdn.Gen.facts, Cert.TdnIdeal.Gen.facts, Cert.TdnRefIdeal.Gen.facts,
    Cert.Afw.Gen.facts, Cert.AfwIdeal.Gen.facts, Cert.AfwRefIdeal.Gen.facts,
    Cert.Tdp.Gen.facts, Cert.TdpIdeal.Gen.facts, Cert.TdpRefIdeal.Gen.facts,
    Cert.Mk.Gen.facts, Cert.MkIdeal.Gen.facts, Cert.MkRefIdeal.Gen.facts,
    Cert.Mdw.Gen.facts, Cert.MdwIdeal.Gen.facts, Cert.MdwRefIdeal.Gen.facts,
    Cert.Mdk.Gen.facts, Cert.MdkIdeal.Gen.facts, Cert.MdkRefIdeal.Gen.facts,
    Cert.Mdv.Gen.facts, Cert.MdvIdeal.Gen.facts, Cert.MdvRefIdeal.Gen.facts,
    Cert.Nx.Gen.facts, Cert.NxIdeal.Gen.facts, Cert.NxRefIdeal.Gen.facts,
    Cert.Nm.Gen.facts, Cert.NmIdeal.Gen.facts, Cert.NmRefIdeal.Gen.facts,
    Cert.Nb.Gen.facts, Cert.NbIdeal.Gen.facts, Cert.NbRefIdeal.Gen.facts,
    Cert.Ls.Gen.facts, Cert.LsIdeal.Gen.facts, Cert.LsRefIdeal.Gen.facts,
    Cert.Lh.Gen.facts, Cert.LhIdeal.Gen.facts, Cert.LhRefIdeal.Gen.facts,
    Cert.Lb.Gen.facts, Cert.LbIdeal.Gen.facts, Cert.LbRefIdeal.Gen.facts,
    Cert.XAttn.preFacts, Cert.XLb.preFacts,
    Cert.XAttn.frame_attn, Cert.XAttn.frame_attnIdeal, Cert.XAttn.frame_attnIdeal_pre, Cert.XAttn.frame_attnRef,
    Cert.XAttn.frame_attnRef_pre,
    Cert.XDn.frame_kernel, Cert.XDn.frame_ideal, Cert.XDn.frame_ref,
    Cert.XWup.frame_kernel, Cert.XWup.frame_ideal, Cert.XWup.frame_ref,
    Cert.XDact.frame_kernel, Cert.XDact.frame_ideal, Cert.XDact.frame_ref,
    Cert.XWdown.frame_kernel, Cert.XWdown.frame_ideal, Cert.XWdown.frame_ref,
    Cert.XUp.frame_kernel, Cert.XUp.frame_ideal, Cert.XUp.frame_ref,
    Cert.XDown.frame_kernel, Cert.XDown.frame_ideal, Cert.XDown.frame_ref,
    Cert.XFlast.frame_kernel, Cert.XFlast.frame_ideal, Cert.XFlast.frame_ref,
    Cert.XSdy.frame_kernel, Cert.XSdy.frame_ideal, Cert.XSdy.frame_ref,
    Cert.XSdw.frame_kernel, Cert.XSdw.frame_ideal, Cert.XSdw.frame_ref,
    Cert.XSq.frame_kernel, Cert.XSq.frame_ideal, Cert.XSq.frame_ref,
    Cert.XSo.frame_kernel, Cert.XSo.frame_ideal, Cert.XSo.frame_ref,
    Cert.XTdy.frame_kernel, Cert.XTdy.frame_ideal, Cert.XTdy.frame_ref,
    Cert.XTdw.frame_kernel, Cert.XTdw.frame_ideal, Cert.XTdw.frame_ref,
    Cert.XTo.frame_kernel, Cert.XTo.frame_ideal, Cert.XTo.frame_ref,
    Cert.XTin.frame_kernel, Cert.XTin.frame_ideal, Cert.XTin.frame_ref,
    Cert.XCup.frame_kernel, Cert.XCup.frame_ideal, Cert.XCup.frame_ref,
    Cert.XCdw.frame_kernel, Cert.XCdw.frame_ideal, Cert.XCdw.frame_ref,
    Cert.XCout.frame_kernel, Cert.XCout.frame_ideal, Cert.XCout.frame_ref,
    Cert.XSdn.frame_kernel, Cert.XSdn.frame_ideal, Cert.XSdn.frame_ref,
    Cert.XCdn.frame_kernel, Cert.XCdn.frame_ideal, Cert.XCdn.frame_ref,
    Cert.XTdn.frame_kernel, Cert.XTdn.frame_ideal, Cert.XTdn.frame_ref,
    Cert.XAfw.frame_kernel, Cert.XAfw.frame_ideal, Cert.XAfw.frame_ref,
    Cert.XTdp.frame_kernel, Cert.XTdp.frame_ideal, Cert.XTdp.frame_ref,
    Cert.XMk.frame_kernel, Cert.XMk.frame_ideal, Cert.XMk.frame_ref,
    Cert.XMdw.frame_kernel, Cert.XMdw.frame_ideal, Cert.XMdw.frame_ref,
    Cert.XMdk.frame_kernel, Cert.XMdk.frame_ideal, Cert.XMdk.frame_ref,
    Cert.XMdv.frame_kernel, Cert.XMdv.frame_ideal, Cert.XMdv.frame_ref,
    Cert.XNx.frame_kernel, Cert.XNx.frame_ideal, Cert.XNx.frame_ref,
    Cert.XNm.frame_kernel, Cert.XNm.frame_ideal, Cert.XNm.frame_ref,
    Cert.XNb.frame_kernel, Cert.XNb.frame_ideal, Cert.XNb.frame_ref,
    Cert.XLs.frame_kernel, Cert.XLs.frame_ideal, Cert.XLs.frame_ref,
    Cert.XLh.frame_kernel, Cert.XLh.frame_ideal, Cert.XLh.frame_ref,
    Cert.XLb.frame_kernel, Cert.XLb.frame_ideal, Cert.XLb.frame_ideal_pre, Cert.XLb.frame_ref, Cert.XLb.frame_ref_pre,
    trivial, Cert.XAttn.value_attn,
    trivial, Cert.XDn.value,
    trivial, Cert.XWup.value,
    trivial, Cert.XDact.value,
    trivial, Cert.XWdown.value,
    trivial, Cert.XUp.value,
    trivial, Cert.XDown.value,
    trivial, Cert.XFlast.value,
    trivial, Cert.XSdy.value,
    trivial, Cert.XSdw.value,
    trivial, Cert.XSq.value,
    trivial, Cert.XSo.value,
    trivial, Cert.XTdy.value,
    trivial, Cert.XTdw.value,
    trivial, Cert.XTo.value,
    trivial, Cert.XTin.value,
    trivial, Cert.XCup.value,
    trivial, Cert.XCdw.value,
    trivial, Cert.XCout.value,
    trivial, Cert.XSdn.value,
    trivial, Cert.XCdn.value,
    trivial, Cert.XTdn.value,
    trivial, Cert.XAfw.value,
    trivial, Cert.XTdp.value,
    trivial, Cert.XMk.value,
    trivial, Cert.XMdw.value,
    trivial, Cert.XMdk.value,
    trivial, Cert.XMdv.value,
    trivial, Cert.XNx.value,
    trivial, Cert.XNm.value,
    trivial, Cert.XNb.value,
    trivial, Cert.XLs.value,
    trivial, Cert.XLh.value,
    trivial, Cert.XLb.value⟩

end Cert.Proof

end
